-- ==== Defs.lean ====
def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemIdeal_norm_mem_finite [hPre_norm_mem_finite : Cert.Pre_norm_mem_finite.Facts] (m : (ℓ : Loc Cert.NormMemIdeal.nD Cert.NormMemIdeal.τ Cert.NormMemIdeal.sig) → Buf (Elt Ideal) ℓ) : Prop :=
  ∀ c : Dev Cert.NormMemIdeal.nD,
    (Cert.Pre_norm_mem_finite.fn (F := Ideal) (m ((c.tc : Thread Cert.NormMemIdeal.nD Cert.NormMemIdeal.τ).loc Cert.NormMemIdeal.main_arg0)) (m ((c.tc : Thread Cert.NormMemIdeal.nD Cert.NormMemIdeal.τ).loc Cert.NormMemIdeal.main_arg1)) (m ((c.tc : Thread Cert.NormMemIdeal.nD Cert.NormMemIdeal.τ).loc Cert.NormMemIdeal.main_arg2))) = (fun _ => 1#1)

def Pre_NormMemRefIdeal (m : (ℓ : Loc Cert.NormMemRefIdeal.nD Cert.NormMemRefIdeal.τ Cert.NormMemRefIdeal.sig) → Buf (Elt Ideal) ℓ) : Prop :=
  True

def Pre_NormMemRefIdeal_norm_mem_finite [hPre_norm_mem_finite : Cert.Pre_norm_mem_finite.Facts] (m : (ℓ : Loc Cert.NormMemRefIdeal.nD Cert.NormMemRefIdeal.τ Cert.NormMemRefIdeal.sig) → Buf (Elt Ideal) ℓ) : Prop :=
  ∀ c : Dev Cert.NormMemRefIdeal.nD,
    (Cert.Pre_norm_mem_finite.fn (F := Ideal) (m ((c.tc : Thread Cert.NormMemRefIdeal.nD Cert.NormMemRefIdeal.τ).loc Cert.NormMemRefIdeal.main_arg0)) (m ((c.tc : Thread Cert.NormMemRefIdeal.nD Cert.NormMemRefIdeal.τ).loc Cert.NormMemRefIdeal.main_arg1)) (m ((c.tc : Thread Cert.NormMemRefIdeal.nD Cert.NormMemRefIdeal.τ).loc Cert.NormMemRefIdeal.main_arg2))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_ffn_dx_finite [hPre_ffn_dx_finite : Cert.Pre_ffn_dx_finite.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_ffn_dx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_ffn_dx_finite [hPre_ffn_dx_finite : Cert.Pre_ffn_dx_finite.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_ffn_dx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))) = (fun _ => 1#1)

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxIdeal_q_dx_finite [hPre_q_dx_finite : Cert.Pre_q_dx_finite.Facts] (m : (ℓ : Loc Cert.QDxIdeal.nD Cert.QDxIdeal.τ Cert.QDxIdeal.sig) → Buf (Elt Ideal) ℓ) : Prop :=
  ∀ c : Dev Cert.QDxIdeal.nD,
    (Cert.Pre_q_dx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))) = (fun _ => 1#1)

def Pre_QDxRefIdeal (m : (ℓ : Loc Cert.QDxRefIdeal.nD Cert.QDxRefIdeal.τ Cert.QDxRefIdeal.sig) → Buf (Elt Ideal) ℓ) : Prop :=
  True

def Pre_QDxRefIdeal_q_dx_finite [hPre_q_dx_finite : Cert.Pre_q_dx_finite.Facts] (m : (ℓ : Loc Cert.QDxRefIdeal.nD Cert.QDxRefIdeal.τ Cert.QDxRefIdeal.sig) → Buf (Elt Ideal) ℓ) : Prop :=
  ∀ c : Dev Cert.QDxRefIdeal.nD,
    (Cert.Pre_q_dx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_dx_finite [hPre_in_dx_finite : Cert.Pre_in_dx_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_in_dx_finite [hPre_in_dx_finite : Cert.Pre_in_dx_finite.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6)) (m ((c.tc : Thread Cert.InDxRefIdeal.nD Cert.InDxRefIdeal.τ).loc Cert.InDxRefIdeal.main_arg7))) = (fun _ => 1#1)

def Pre_FfnHead (m : (ℓ : Loc Cert.FfnHead.nD Cert.FfnHead.τ Cert.FfnHead.sig) → Buf (Elt Bits) ℓ) : Prop :=
  True

def Pre_FfnHeadIdeal (m : (ℓ : Loc Cert.FfnHeadIdeal.nD Cert.FfnHeadIdeal.τ Cert.FfnHeadIdeal.sig) → Buf (Elt Ideal) ℓ) : Prop :=
  True

def Pre_FfnHeadIdeal_ffn_head_finite [hPre_ffn_head_finite : Cert.Pre_ffn_head_finite.Facts] (m : (ℓ : Loc Cert.FfnHeadIdeal.nD Cert.FfnHeadIdeal.τ Cert.FfnHeadIdeal.sig) → Buf (Elt Ideal) ℓ) : Prop :=
  ∀ c : Dev Cert.FfnHeadIdeal.nD,
    (Cert.Pre_ffn_head_finite.fn (F := Ideal) (m ((c.tc : Thread Cert.FfnHeadIdeal.nD Cert.FfnHeadIdeal.τ).loc Cert.FfnHeadIdeal.main_arg0)) (m ((c.tc : Thread Cert.FfnHeadIdeal.nD Cert.FfnHeadIdeal.τ).loc Cert.FfnHeadIdeal.main_arg1)) (m ((c.tc : Thread Cert.FfnHeadIdeal.nD Cert.FfnHeadIdeal.τ).loc Cert.FfnHeadIdeal.main_arg2)) (m ((c.tc : Thread Cert.FfnHeadIdeal.nD Cert.FfnHeadIdeal.τ).loc Cert.FfnHeadIdeal.main_arg3)) (m ((c.tc : Thread Cert.FfnHeadIdeal.nD Cert.FfnHeadIdeal.τ).loc Cert.FfnHeadIdeal.main_arg4))) = (fun _ => 1#1)

def Pre_FfnHeadRefIdeal (m : (ℓ : Loc Cert.FfnHeadRefIdeal.nD Cert.FfnHeadRefIdeal.τ Cert.FfnHeadRefIdeal.sig) → Buf (Elt Ideal) ℓ) : Prop :=
  True

def Pre_FfnHeadRefIdeal_ffn_head_finite [hPre_ffn_head_finite : Cert.Pre_ffn_head_finite.Facts] (m : (ℓ : Loc Cert.FfnHeadRefIdeal.nD Cert.FfnHeadRefIdeal.τ Cert.FfnHeadRefIdeal.sig) → Buf (Elt Ideal) ℓ) : Prop :=
  ∀ c : Dev Cert.FfnHeadRefIdeal.nD,
    (Cert.Pre_ffn_head_finite.fn (F := Ideal) (m ((c.tc : Thread Cert.FfnHeadRefIdeal.nD Cert.FfnHeadRefIdeal.τ).loc Cert.FfnHeadRefIdeal.main_arg0)) (m ((c.tc : Thread Cert.FfnHeadRefIdeal.nD Cert.FfnHeadRefIdeal.τ).loc Cert.FfnHeadRefIdeal.main_arg1)) (m ((c.tc : Thread Cert.FfnHeadRefIdeal.nD Cert.FfnHeadRefIdeal.τ).loc Cert.FfnHeadRefIdeal.main_arg2)) (m ((c.tc : Thread Cert.FfnHeadRefIdeal.nD Cert.FfnHeadRefIdeal.τ).loc Cert.FfnHeadRefIdeal.main_arg3)) (m ((c.tc : Thread Cert.FfnHeadRefIdeal.nD Cert.FfnHeadRefIdeal.τ).loc Cert.FfnHeadRefIdeal.main_arg4))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_BwdAct (m : (ℓ : Loc Cert.BwdAct.nD Cert.BwdAct.τ Cert.BwdAct.sig) → Buf (Elt Bits) ℓ) : Prop :=
  True

def Pre_BwdActIdeal (m : (ℓ : Loc Cert.BwdActIdeal.nD Cert.BwdActIdeal.τ Cert.BwdActIdeal.sig) → Buf (Elt Ideal) ℓ) : Prop :=
  True

def Pre_BwdActIdeal_bwd_act_finite [hPre_bwd_act_finite : Cert.Pre_bwd_act_finite.Facts] (m : (ℓ : Loc Cert.BwdActIdeal.nD Cert.BwdActIdeal.τ Cert.BwdActIdeal.sig) → Buf (Elt Ideal) ℓ) : Prop :=
  ∀ c : Dev Cert.BwdActIdeal.nD,
    (Cert.Pre_bwd_act_finite.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2)) (m ((c.tc : Thread Cert.BwdActIdeal.nD Cert.BwdActIdeal.τ).loc Cert.BwdActIdeal.main_arg3)) (m ((c.tc : Thread Cert.BwdActIdeal.nD Cert.BwdActIdeal.τ).loc Cert.BwdActIdeal.main_arg4))) = (fun _ => 1#1)

def Pre_BwdActRefIdeal (m : (ℓ : Loc Cert.BwdActRefIdeal.nD Cert.BwdActRefIdeal.τ Cert.BwdActRefIdeal.sig) → Buf (Elt Ideal) ℓ) : Prop :=
  True

def Pre_BwdActRefIdeal_bwd_act_finite [hPre_bwd_act_finite : Cert.Pre_bwd_act_finite.Facts] (m : (ℓ : Loc Cert.BwdActRefIdeal.nD Cert.BwdActRefIdeal.τ Cert.BwdActRefIdeal.sig) → Buf (Elt Ideal) ℓ) : Prop :=
  ∀ c : Dev Cert.BwdActRefIdeal.nD,
    (Cert.Pre_bwd_act_finite.fn (F := Ideal) (m ((c.tc : Thread Cert.BwdActRefIdeal.nD Cert.BwdActRefIdeal.τ).loc Cert.BwdActRefIdeal.main_arg0)) (m ((c.tc : Thread Cert.BwdActRefIdeal.nD Cert.BwdActRefIdeal.τ).loc Cert.BwdActRefIdeal.main_arg1)) (m ((c.tc : Thread Cert.BwdActRefIdeal.nD Cert.BwdActRefIdeal.τ).loc Cert.BwdActRefIdeal.main_arg2)) (m ((c.tc : Thread Cert.BwdActRefIdeal.nD Cert.BwdActRefIdeal.τ).loc Cert.BwdActRefIdeal.main_arg3)) (m ((c.tc : Thread Cert.BwdActRefIdeal.nD Cert.BwdActRefIdeal.τ).loc Cert.BwdActRefIdeal.main_arg4))) = (fun _ => 1#1)

def Pre_MixerDx (m : (ℓ : Loc Cert.MixerDx.nD Cert.MixerDx.τ Cert.MixerDx.sig) → Buf (Elt Bits) ℓ) : Prop :=
  True

def Pre_MixerDxIdeal (m : (ℓ : Loc Cert.MixerDxIdeal.nD Cert.MixerDxIdeal.τ Cert.MixerDxIdeal.sig) → Buf (Elt Ideal) ℓ) : Prop :=
  True

def Pre_MixerDxIdeal_mixer_dx_finite [hPre_mixer_dx_finite : Cert.Pre_mixer_dx_finite.Facts] (m : (ℓ : Loc Cert.MixerDxIdeal.nD Cert.MixerDxIdeal.τ Cert.MixerDxIdeal.sig) → Buf (Elt Ideal) ℓ) : Prop :=
  ∀ c : Dev Cert.MixerDxIdeal.nD,
    (Cert.Pre_mixer_dx_finite.fn (F := Ideal) (m ((c.tc : Thread Cert.MixerDxIdeal.nD Cert.MixerDxIdeal.τ).loc Cert.MixerDxIdeal.main_arg0)) (m ((c.tc : Thread Cert.MixerDxIdeal.nD Cert.MixerDxIdeal.τ).loc Cert.MixerDxIdeal.main_arg1)) (m ((c.tc : Thread Cert.MixerDxIdeal.nD Cert.MixerDxIdeal.τ).loc Cert.MixerDxIdeal.main_arg2)) (m ((c.tc : Thread Cert.MixerDxIdeal.nD Cert.MixerDxIdeal.τ).loc Cert.MixerDxIdeal.main_arg3)) (m ((c.tc : Thread Cert.MixerDxIdeal.nD Cert.MixerDxIdeal.τ).loc Cert.MixerDxIdeal.main_arg4)) (m ((c.tc : Thread Cert.MixerDxIdeal.nD Cert.MixerDxIdeal.τ).loc Cert.MixerDxIdeal.main_arg5)) (m ((c.tc : Thread Cert.MixerDxIdeal.nD Cert.MixerDxIdeal.τ).loc Cert.MixerDxIdeal.main_arg6))) = (fun _ => 1#1)

def Pre_MixerDxRefIdeal (m : (ℓ : Loc Cert.MixerDxRefIdeal.nD Cert.MixerDxRefIdeal.τ Cert.MixerDxRefIdeal.sig) → Buf (Elt Ideal) ℓ) : Prop :=
  True

def Pre_MixerDxRefIdeal_mixer_dx_finite [hPre_mixer_dx_finite : Cert.Pre_mixer_dx_finite.Facts] (m : (ℓ : Loc Cert.MixerDxRefIdeal.nD Cert.MixerDxRefIdeal.τ Cert.MixerDxRefIdeal.sig) → Buf (Elt Ideal) ℓ) : Prop :=
  ∀ c : Dev Cert.MixerDxRefIdeal.nD,
    (Cert.Pre_mixer_dx_finite.fn (F := Ideal) (m ((c.tc : Thread Cert.MixerDxRefIdeal.nD Cert.MixerDxRefIdeal.τ).loc Cert.MixerDxRefIdeal.main_arg0)) (m ((c.tc : Thread Cert.MixerDxRefIdeal.nD Cert.MixerDxRefIdeal.τ).loc Cert.MixerDxRefIdeal.main_arg1)) (m ((c.tc : Thread Cert.MixerDxRefIdeal.nD Cert.MixerDxRefIdeal.τ).loc Cert.MixerDxRefIdeal.main_arg2)) (m ((c.tc : Thread Cert.MixerDxRefIdeal.nD Cert.MixerDxRefIdeal.τ).loc Cert.MixerDxRefIdeal.main_arg3)) (m ((c.tc : Thread Cert.MixerDxRefIdeal.nD Cert.MixerDxRefIdeal.τ).loc Cert.MixerDxRefIdeal.main_arg4)) (m ((c.tc : Thread Cert.MixerDxRefIdeal.nD Cert.MixerDxRefIdeal.τ).loc Cert.MixerDxRefIdeal.main_arg5)) (m ((c.tc : Thread Cert.MixerDxRefIdeal.nD Cert.MixerDxRefIdeal.τ).loc Cert.MixerDxRefIdeal.main_arg6))) = (fun _ => 1#1)

def Pre_SsmDs (m : (ℓ : Loc Cert.SsmDs.nD Cert.SsmDs.τ Cert.SsmDs.sig) → Buf (Elt Bits) ℓ) : Prop :=
  True

def Pre_SsmDsIdeal (m : (ℓ : Loc Cert.SsmDsIdeal.nD Cert.SsmDsIdeal.τ Cert.SsmDsIdeal.sig) → Buf (Elt Ideal) ℓ) : Prop :=
  True

def Pre_SsmDsRefIdeal (m : (ℓ : Loc Cert.SsmDsRefIdeal.nD Cert.SsmDsRefIdeal.τ Cert.SsmDsRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdIdeal_prep_bwd_finite [hPre_prep_bwd_finite : Cert.Pre_prep_bwd_finite.Facts] (m : (ℓ : Loc Cert.PrepBwdIdeal.nD Cert.PrepBwdIdeal.τ Cert.PrepBwdIdeal.sig) → Buf (Elt Ideal) ℓ) : Prop :=
  ∀ c : Dev Cert.PrepBwdIdeal.nD,
    (Cert.Pre_prep_bwd_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4)) (m ((c.tc : Thread Cert.PrepBwdIdeal.nD Cert.PrepBwdIdeal.τ).loc Cert.PrepBwdIdeal.main_arg5)) (m ((c.tc : Thread Cert.PrepBwdIdeal.nD Cert.PrepBwdIdeal.τ).loc Cert.PrepBwdIdeal.main_arg6)) (m ((c.tc : Thread Cert.PrepBwdIdeal.nD Cert.PrepBwdIdeal.τ).loc Cert.PrepBwdIdeal.main_arg7)) (m ((c.tc : Thread Cert.PrepBwdIdeal.nD Cert.PrepBwdIdeal.τ).loc Cert.PrepBwdIdeal.main_arg8)) (m ((c.tc : Thread Cert.PrepBwdIdeal.nD Cert.PrepBwdIdeal.τ).loc Cert.PrepBwdIdeal.main_arg9)) (m ((c.tc : Thread Cert.PrepBwdIdeal.nD Cert.PrepBwdIdeal.τ).loc Cert.PrepBwdIdeal.main_arg10)) (m ((c.tc : Thread Cert.PrepBwdIdeal.nD Cert.PrepBwdIdeal.τ).loc Cert.PrepBwdIdeal.main_arg11)) (m ((c.tc : Thread Cert.PrepBwdIdeal.nD Cert.PrepBwdIdeal.τ).loc Cert.PrepBwdIdeal.main_arg12))) = (fun _ => 1#1)

def Pre_PrepBwdRefIdeal (m : (ℓ : Loc Cert.PrepBwdRefIdeal.nD Cert.PrepBwdRefIdeal.τ Cert.PrepBwdRefIdeal.sig) → Buf (Elt Ideal) ℓ) : Prop :=
  True

def Pre_PrepBwdRefIdeal_prep_bwd_finite [hPre_prep_bwd_finite : Cert.Pre_prep_bwd_finite.Facts] (m : (ℓ : Loc Cert.PrepBwdRefIdeal.nD Cert.PrepBwdRefIdeal.τ Cert.PrepBwdRefIdeal.sig) → Buf (Elt Ideal) ℓ) : Prop :=
  ∀ c : Dev Cert.PrepBwdRefIdeal.nD,
    (Cert.Pre_prep_bwd_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4)) (m ((c.tc : Thread Cert.PrepBwdRefIdeal.nD Cert.PrepBwdRefIdeal.τ).loc Cert.PrepBwdRefIdeal.main_arg5)) (m ((c.tc : Thread Cert.PrepBwdRefIdeal.nD Cert.PrepBwdRefIdeal.τ).loc Cert.PrepBwdRefIdeal.main_arg6)) (m ((c.tc : Thread Cert.PrepBwdRefIdeal.nD Cert.PrepBwdRefIdeal.τ).loc Cert.PrepBwdRefIdeal.main_arg7)) (m ((c.tc : Thread Cert.PrepBwdRefIdeal.nD Cert.PrepBwdRefIdeal.τ).loc Cert.PrepBwdRefIdeal.main_arg8)) (m ((c.tc : Thread Cert.PrepBwdRefIdeal.nD Cert.PrepBwdRefIdeal.τ).loc Cert.PrepBwdRefIdeal.main_arg9)) (m ((c.tc : Thread Cert.PrepBwdRefIdeal.nD Cert.PrepBwdRefIdeal.τ).loc Cert.PrepBwdRefIdeal.main_arg10)) (m ((c.tc : Thread Cert.PrepBwdRefIdeal.nD Cert.PrepBwdRefIdeal.τ).loc Cert.PrepBwdRefIdeal.main_arg11)) (m ((c.tc : Thread Cert.PrepBwdRefIdeal.nD Cert.PrepBwdRefIdeal.τ).loc Cert.PrepBwdRefIdeal.main_arg12))) = (fun _ => 1#1)

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormRefIdeal (m : (ℓ : Loc Cert.RmsNormRefIdeal.nD Cert.RmsNormRefIdeal.τ Cert.RmsNormRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_ffn_up_finite [hPre_ffn_up_finite : Cert.Pre_ffn_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffn_up_finite [hPre_ffn_up_finite : Cert.Pre_ffn_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))) = (fun _ => 1#1)

def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormRefIdeal (m : (ℓ : Loc Cert.ResidNormRefIdeal.nD Cert.ResidNormRefIdeal.τ Cert.ResidNormRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_SsmPrep (m : (ℓ : Loc Cert.SsmPrep.nD Cert.SsmPrep.τ Cert.SsmPrep.sig) → Buf (Elt Bits) ℓ) : Prop :=
  True

def Pre_SsmPrepIdeal (m : (ℓ : Loc Cert.SsmPrepIdeal.nD Cert.SsmPrepIdeal.τ Cert.SsmPrepIdeal.sig) → Buf (Elt Ideal) ℓ) : Prop :=
  True

def Pre_SsmPrepRefIdeal (m : (ℓ : Loc Cert.SsmPrepRefIdeal.nD Cert.SsmPrepRefIdeal.τ Cert.SsmPrepRefIdeal.sig) → Buf (Elt Ideal) ℓ) : Prop :=
  True

def Pre_PlainMm (m : (ℓ : Loc Cert.PlainMm.nD Cert.PlainMm.τ Cert.PlainMm.sig) → Buf (Elt Bits) ℓ) : Prop :=
  True

def Pre_PlainMmIdeal (m : (ℓ : Loc Cert.PlainMmIdeal.nD Cert.PlainMmIdeal.τ Cert.PlainMmIdeal.sig) → Buf (Elt Ideal) ℓ) : Prop :=
  True

def Pre_PlainMmRefIdeal (m : (ℓ : Loc Cert.PlainMmRefIdeal.nD Cert.PlainMmRefIdeal.τ Cert.PlainMmRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_DwMm (m : (ℓ : Loc Cert.DwMm.nD Cert.DwMm.τ Cert.DwMm.sig) → Buf (Elt Bits) ℓ) : Prop :=
  True

def Pre_DwMmIdeal (m : (ℓ : Loc Cert.DwMmIdeal.nD Cert.DwMmIdeal.τ Cert.DwMmIdeal.sig) → Buf (Elt Ideal) ℓ) : Prop :=
  True

def Pre_DwMmRefIdeal (m : (ℓ : Loc Cert.DwMmRefIdeal.nD Cert.DwMmRefIdeal.τ Cert.DwMmRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_DevSum (m : (ℓ : Loc Cert.DevSum.nD Cert.DevSum.τ Cert.DevSum.sig) → Buf (Elt Bits) ℓ) : Prop :=
  True

def Pre_DevSumIdeal (m : (ℓ : Loc Cert.DevSumIdeal.nD Cert.DevSumIdeal.τ Cert.DevSumIdeal.sig) → Buf (Elt Ideal) ℓ) : Prop :=
  True

def Pre_DevSumRefIdeal (m : (ℓ : Loc Cert.DevSumRefIdeal.nD Cert.DevSumRefIdeal.τ Cert.DevSumRefIdeal.sig) → Buf (Elt Ideal) ℓ) : Prop :=
  True

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemIdeal_pre_norm_mem_finite [hNormMemIdeal : Cert.NormMemIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal_norm_mem_finite m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_NormMemRefIdeal_pre_norm_mem_finite [hNormMemRefIdeal : Cert.NormMemRefIdeal.Facts] [hPre_norm_mem_finite : Cert.Pre_norm_mem_finite.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal_norm_mem_finite m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxIdeal_pre_ffn_dx_finite [hFfnDxIdeal : Cert.FfnDxIdeal.Facts] [hPre_ffn_dx_finite : Cert.Pre_ffn_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_ffn_dx_finite m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_FfnDxRefIdeal_pre_ffn_dx_finite [hFfnDxRefIdeal : Cert.FfnDxRefIdeal.Facts] [hPre_ffn_dx_finite : Cert.Pre_ffn_dx_finite.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_ffn_dx_finite m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1)
      ∧ r.2.mem ((c.tc : Thread Cert.QDx.nD Cert.QDx.τ).loc Cert.QDx.main_arg2) = m ((c.tc : Thread Cert.QDx.nD Cert.QDx.τ).loc Cert.QDx.main_arg2)
      ∧ r.2.mem ((c.tc : Thread Cert.QDx.nD Cert.QDx.τ).loc Cert.QDx.main_arg3) = m ((c.tc : Thread Cert.QDx.nD Cert.QDx.τ).loc Cert.QDx.main_arg3)
      ∧ r.2.mem ((c.tc : Thread Cert.QDx.nD Cert.QDx.τ).loc Cert.QDx.main_arg4) = m ((c.tc : Thread Cert.QDx.nD Cert.QDx.τ).loc Cert.QDx.main_arg4))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxIdeal_pre_q_dx_finite [hQDxIdeal : Cert.QDxIdeal.Facts] [hPre_q_dx_finite : Cert.Pre_q_dx_finite.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal_q_dx_finite m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_QDxRefIdeal_pre_q_dx_finite [hQDxRefIdeal : Cert.QDxRefIdeal.Facts] [hPre_q_dx_finite : Cert.Pre_q_dx_finite.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal_q_dx_finite m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxIdeal_pre_in_dx_finite [hInDxIdeal : Cert.InDxIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_dx_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7))
      ∧ r.2.sem = fun _ => 0)

def quiescent_InDxRefIdeal_pre_in_dx_finite [hInDxRefIdeal : Cert.InDxRefIdeal.Facts] [hPre_in_dx_finite : Cert.Pre_in_dx_finite.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_in_dx_finite m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7))
      ∧ r.2.sem = fun _ => 0)

def quiescent_FfnHead [hFfnHead : Cert.FfnHead.Facts] : Prop :=
  ∀ (m : (ℓ : Loc Cert.FfnHead.nD Cert.FfnHead.τ Cert.FfnHead.sig) → Buf (Elt Bits) ℓ) (g : Dev Cert.FfnHead.nD → PrngReg), Pre_FfnHead m →
    θ_run (Cert.FfnHead.defs (F := Bits)) (onTc (τ := Cert.FfnHead.τ) (Cert.FfnHead.main (F := Bits))) ⟨m, fun _ => 0, g⟩ (fun r => (∀ c : Dev Cert.FfnHead.nD,
      r.2.mem ((c.tc : Thread Cert.FfnHead.nD Cert.FfnHead.τ).loc Cert.FfnHead.main_arg0) = m ((c.tc : Thread Cert.FfnHead.nD Cert.FfnHead.τ).loc Cert.FfnHead.main_arg0)
      ∧ r.2.mem ((c.tc : Thread Cert.FfnHead.nD Cert.FfnHead.τ).loc Cert.FfnHead.main_arg1) = m ((c.tc : Thread Cert.FfnHead.nD Cert.FfnHead.τ).loc Cert.FfnHead.main_arg1)
      ∧ r.2.mem ((c.tc : Thread Cert.FfnHead.nD Cert.FfnHead.τ).loc Cert.FfnHead.main_arg2) = m ((c.tc : Thread Cert.FfnHead.nD Cert.FfnHead.τ).loc Cert.FfnHead.main_arg2)
      ∧ r.2.mem ((c.tc : Thread Cert.FfnHead.nD Cert.FfnHead.τ).loc Cert.FfnHead.main_arg3) = m ((c.tc : Thread Cert.FfnHead.nD Cert.FfnHead.τ).loc Cert.FfnHead.main_arg3)
      ∧ r.2.mem ((c.tc : Thread Cert.FfnHead.nD Cert.FfnHead.τ).loc Cert.FfnHead.main_arg4) = m ((c.tc : Thread Cert.FfnHead.nD Cert.FfnHead.τ).loc Cert.FfnHead.main_arg4))
      ∧ r.2.sem = fun _ => 0)

def quiescent_FfnHeadIdeal [hFfnHeadIdeal : Cert.FfnHeadIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4))
      ∧ r.2.sem = fun _ => 0)

def quiescent_FfnHeadIdeal_pre_ffn_head_finite [hFfnHeadIdeal : Cert.FfnHeadIdeal.Facts] [hPre_ffn_head_finite : Cert.Pre_ffn_head_finite.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal_ffn_head_finite m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4))
      ∧ r.2.sem = fun _ => 0)

def quiescent_FfnHeadRefIdeal [hFfnHeadRefIdeal : Cert.FfnHeadRefIdeal.Facts] : Prop :=
  ∀ (m : (ℓ : Loc Cert.FfnHeadRefIdeal.nD Cert.FfnHeadRefIdeal.τ Cert.FfnHeadRefIdeal.sig) → Buf (Elt Ideal) ℓ) (g : Dev Cert.FfnHeadRefIdeal.nD → PrngReg), Pre_FfnHeadRefIdeal m →
    θ_run (Cert.FfnHeadRefIdeal.defs (F := Ideal)) (onTc (τ := Cert.FfnHeadRefIdeal.τ) (Cert.FfnHeadRefIdeal.main (F := Ideal))) ⟨m, fun _ => 0, g⟩ (fun r => (∀ c : Dev Cert.FfnHeadRefIdeal.nD,
      r.2.mem ((c.tc : Thread Cert.FfnHeadRefIdeal.nD Cert.FfnHeadRefIdeal.τ).loc Cert.FfnHeadRefIdeal.main_arg0) = m ((c.tc : Thread Cert.FfnHeadRefIdeal.nD Cert.FfnHeadRefIdeal.τ).loc Cert.FfnHeadRefIdeal.main_arg0)
      ∧ r.2.mem ((c.tc : Thread Cert.FfnHeadRefIdeal.nD Cert.FfnHeadRefIdeal.τ).loc Cert.FfnHeadRefIdeal.main_arg1) = m ((c.tc : Thread Cert.FfnHeadRefIdeal.nD Cert.FfnHeadRefIdeal.τ).loc Cert.FfnHeadRefIdeal.main_arg1)
      ∧ r.2.mem ((c.tc : Thread Cert.FfnHeadRefIdeal.nD Cert.FfnHeadRefIdeal.τ).loc Cert.FfnHeadRefIdeal.main_arg2) = m ((c.tc : Thread Cert.FfnHeadRefIdeal.nD Cert.FfnHeadRefIdeal.τ).loc Cert.FfnHeadRefIdeal.main_arg2)
      ∧ r.2.mem ((c.tc : Thread Cert.FfnHeadRefIdeal.nD Cert.FfnHeadRefIdeal.τ).loc Cert.FfnHeadRefIdeal.main_arg3) = m ((c.tc : Thread Cert.FfnHeadRefIdeal.nD Cert.FfnHeadRefIdeal.τ).loc Cert.FfnHeadRefIdeal.main_arg3)
      ∧ r.2.mem ((c.tc : Thread Cert.FfnHeadRefIdeal.nD Cert.FfnHeadRefIdeal.τ).loc Cert.FfnHeadRefIdeal.main_arg4) = m ((c.tc : Thread Cert.FfnHeadRefIdeal.nD Cert.FfnHeadRefIdeal.τ).loc Cert.FfnHeadRefIdeal.main_arg4))
      ∧ r.2.sem = fun _ => 0)

def quiescent_FfnHeadRefIdeal_pre_ffn_head_finite [hFfnHeadRefIdeal : Cert.FfnHeadRefIdeal.Facts] [hPre_ffn_head_finite : Cert.Pre_ffn_head_finite.Facts] : Prop :=
  ∀ (m : (ℓ : Loc Cert.FfnHeadRefIdeal.nD Cert.FfnHeadRefIdeal.τ Cert.FfnHeadRefIdeal.sig) → Buf (Elt Ideal) ℓ) (g : Dev Cert.FfnHeadRefIdeal.nD → PrngReg), Pre_FfnHeadRefIdeal_ffn_head_finite m →
    θ_run (Cert.FfnHeadRefIdeal.defs (F := Ideal)) (onTc (τ := Cert.FfnHeadRefIdeal.τ) (Cert.FfnHeadRefIdeal.main (F := Ideal))) ⟨m, fun _ => 0, g⟩ (fun r => (∀ c : Dev Cert.FfnHeadRefIdeal.nD,
      r.2.mem ((c.tc : Thread Cert.FfnHeadRefIdeal.nD Cert.FfnHeadRefIdeal.τ).loc Cert.FfnHeadRefIdeal.main_arg0) = m ((c.tc : Thread Cert.FfnHeadRefIdeal.nD Cert.FfnHeadRefIdeal.τ).loc Cert.FfnHeadRefIdeal.main_arg0)
      ∧ r.2.mem ((c.tc : Thread Cert.FfnHeadRefIdeal.nD Cert.FfnHeadRefIdeal.τ).loc Cert.FfnHeadRefIdeal.main_arg1) = m ((c.tc : Thread Cert.FfnHeadRefIdeal.nD Cert.FfnHeadRefIdeal.τ).loc Cert.FfnHeadRefIdeal.main_arg1)
      ∧ r.2.mem ((c.tc : Thread Cert.FfnHeadRefIdeal.nD Cert.FfnHeadRefIdeal.τ).loc Cert.FfnHeadRefIdeal.main_arg2) = m ((c.tc : Thread Cert.FfnHeadRefIdeal.nD Cert.FfnHeadRefIdeal.τ).loc Cert.FfnHeadRefIdeal.main_arg2)
      ∧ r.2.mem ((c.tc : Thread Cert.FfnHeadRefIdeal.nD Cert.FfnHeadRefIdeal.τ).loc Cert.FfnHeadRefIdeal.main_arg3) = m ((c.tc : Thread Cert.FfnHeadRefIdeal.nD Cert.FfnHeadRefIdeal.τ).loc Cert.FfnHeadRefIdeal.main_arg3)
      ∧ r.2.mem ((c.tc : Thread Cert.FfnHeadRefIdeal.nD Cert.FfnHeadRefIdeal.τ).loc Cert.FfnHeadRefIdeal.main_arg4) = m ((c.tc : Thread Cert.FfnHeadRefIdeal.nD Cert.FfnHeadRefIdeal.τ).loc Cert.FfnHeadRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_BwdAct [hBwdAct : Cert.BwdAct.Facts] : Prop :=
  ∀ (m : (ℓ : Loc Cert.BwdAct.nD Cert.BwdAct.τ Cert.BwdAct.sig) → Buf (Elt Bits) ℓ) (g : Dev Cert.BwdAct.nD → PrngReg), Pre_BwdAct m →
    θ_run (Cert.BwdAct.defs (F := Bits)) (onTc (τ := Cert.BwdAct.τ) (Cert.BwdAct.main (F := Bits))) ⟨m, fun _ => 0, g⟩ (fun r => (∀ c : Dev Cert.BwdAct.nD,
      r.2.mem ((c.tc : Thread Cert.BwdAct.nD Cert.BwdAct.τ).loc Cert.BwdAct.main_arg0) = m ((c.tc : Thread Cert.BwdAct.nD Cert.BwdAct.τ).loc Cert.BwdAct.main_arg0)
      ∧ r.2.mem ((c.tc : Thread Cert.BwdAct.nD Cert.BwdAct.τ).loc Cert.BwdAct.main_arg1) = m ((c.tc : Thread Cert.BwdAct.nD Cert.BwdAct.τ).loc Cert.BwdAct.main_arg1)
      ∧ r.2.mem ((c.tc : Thread Cert.BwdAct.nD Cert.BwdAct.τ).loc Cert.BwdAct.main_arg2) = m ((c.tc : Thread Cert.BwdAct.nD Cert.BwdAct.τ).loc Cert.BwdAct.main_arg2)
      ∧ r.2.mem ((c.tc : Thread Cert.BwdAct.nD Cert.BwdAct.τ).loc Cert.BwdAct.main_arg3) = m ((c.tc : Thread Cert.BwdAct.nD Cert.BwdAct.τ).loc Cert.BwdAct.main_arg3)
      ∧ r.2.mem ((c.tc : Thread Cert.BwdAct.nD Cert.BwdAct.τ).loc Cert.BwdAct.main_arg4) = m ((c.tc : Thread Cert.BwdAct.nD Cert.BwdAct.τ).loc Cert.BwdAct.main_arg4))
      ∧ r.2.sem = fun _ => 0)

def quiescent_BwdActIdeal [hBwdActIdeal : Cert.BwdActIdeal.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
      ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3)
      ∧ r.2.mem ((c.tc : Thread Cert.BwdActIdeal.nD Cert.BwdActIdeal.τ).loc Cert.BwdActIdeal.main_arg4) = m ((c.tc : Thread Cert.BwdActIdeal.nD Cert.BwdActIdeal.τ).loc Cert.BwdActIdeal.main_arg4))
      ∧ r.2.sem = fun _ => 0)

def quiescent_BwdActIdeal_pre_bwd_act_finite [hBwdActIdeal : Cert.BwdActIdeal.Facts] [hPre_bwd_act_finite : Cert.Pre_bwd_act_finite.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal_bwd_act_finite m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
      ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3)
      ∧ r.2.mem ((c.tc : Thread Cert.BwdActIdeal.nD Cert.BwdActIdeal.τ).loc Cert.BwdActIdeal.main_arg4) = m ((c.tc : Thread Cert.BwdActIdeal.nD Cert.BwdActIdeal.τ).loc Cert.BwdActIdeal.main_arg4))
      ∧ r.2.sem = fun _ => 0)

def quiescent_BwdActRefIdeal [hBwdActRefIdeal : Cert.BwdActRefIdeal.Facts] : Prop :=
  ∀ (m : (ℓ : Loc Cert.BwdActRefIdeal.nD Cert.BwdActRefIdeal.τ Cert.BwdActRefIdeal.sig) → Buf (Elt Ideal) ℓ) (g : Dev Cert.BwdActRefIdeal.nD → PrngReg), Pre_BwdActRefIdeal m →
    θ_run (Cert.BwdActRefIdeal.defs (F := Ideal)) (onTc (τ := Cert.BwdActRefIdeal.τ) (Cert.BwdActRefIdeal.main (F := Ideal))) ⟨m, fun _ => 0, g⟩ (fun r => (∀ c : Dev Cert.BwdActRefIdeal.nD,
      r.2.mem ((c.tc : Thread Cert.BwdActRefIdeal.nD Cert.BwdActRefIdeal.τ).loc Cert.BwdActRefIdeal.main_arg0) = m ((c.tc : Thread Cert.BwdActRefIdeal.nD Cert.BwdActRefIdeal.τ).loc Cert.BwdActRefIdeal.main_arg0)
      ∧ r.2.mem ((c.tc : Thread Cert.BwdActRefIdeal.nD Cert.BwdActRefIdeal.τ).loc Cert.BwdActRefIdeal.main_arg1) = m ((c.tc : Thread Cert.BwdActRefIdeal.nD Cert.BwdActRefIdeal.τ).loc Cert.BwdActRefIdeal.main_arg1)
      ∧ r.2.mem ((c.tc : Thread Cert.BwdActRefIdeal.nD Cert.BwdActRefIdeal.τ).loc Cert.BwdActRefIdeal.main_arg2) = m ((c.tc : Thread Cert.BwdActRefIdeal.nD Cert.BwdActRefIdeal.τ).loc Cert.BwdActRefIdeal.main_arg2)
      ∧ r.2.mem ((c.tc : Thread Cert.BwdActRefIdeal.nD Cert.BwdActRefIdeal.τ).loc Cert.BwdActRefIdeal.main_arg3) = m ((c.tc : Thread Cert.BwdActRefIdeal.nD Cert.BwdActRefIdeal.τ).loc Cert.BwdActRefIdeal.main_arg3)
      ∧ r.2.mem ((c.tc : Thread Cert.BwdActRefIdeal.nD Cert.BwdActRefIdeal.τ).loc Cert.BwdActRefIdeal.main_arg4) = m ((c.tc : Thread Cert.BwdActRefIdeal.nD Cert.BwdActRefIdeal.τ).loc Cert.BwdActRefIdeal.main_arg4))
      ∧ r.2.sem = fun _ => 0)

def quiescent_BwdActRefIdeal_pre_bwd_act_finite [hBwdActRefIdeal : Cert.BwdActRefIdeal.Facts] [hPre_bwd_act_finite : Cert.Pre_bwd_act_finite.Facts] : Prop :=
  ∀ (m : (ℓ : Loc Cert.BwdActRefIdeal.nD Cert.BwdActRefIdeal.τ Cert.BwdActRefIdeal.sig) → Buf (Elt Ideal) ℓ) (g : Dev Cert.BwdActRefIdeal.nD → PrngReg), Pre_BwdActRefIdeal_bwd_act_finite m →
    θ_run (Cert.BwdActRefIdeal.defs (F := Ideal)) (onTc (τ := Cert.BwdActRefIdeal.τ) (Cert.BwdActRefIdeal.main (F := Ideal))) ⟨m, fun _ => 0, g⟩ (fun r => (∀ c : Dev Cert.BwdActRefIdeal.nD,
      r.2.mem ((c.tc : Thread Cert.BwdActRefIdeal.nD Cert.BwdActRefIdeal.τ).loc Cert.BwdActRefIdeal.main_arg0) = m ((c.tc : Thread Cert.BwdActRefIdeal.nD Cert.BwdActRefIdeal.τ).loc Cert.BwdActRefIdeal.main_arg0)
      ∧ r.2.mem ((c.tc : Thread Cert.BwdActRefIdeal.nD Cert.BwdActRefIdeal.τ).loc Cert.BwdActRefIdeal.main_arg1) = m ((c.tc : Thread Cert.BwdActRefIdeal.nD Cert.BwdActRefIdeal.τ).loc Cert.BwdActRefIdeal.main_arg1)
      ∧ r.2.mem ((c.tc : Thread Cert.BwdActRefIdeal.nD Cert.BwdActRefIdeal.τ).loc Cert.BwdActRefIdeal.main_arg2) = m ((c.tc : Thread Cert.BwdActRefIdeal.nD Cert.BwdActRefIdeal.τ).loc Cert.BwdActRefIdeal.main_arg2)
      ∧ r.2.mem ((c.tc : Thread Cert.BwdActRefIdeal.nD Cert.BwdActRefIdeal.τ).loc Cert.BwdActRefIdeal.main_arg3) = m ((c.tc : Thread Cert.BwdActRefIdeal.nD Cert.BwdActRefIdeal.τ).loc Cert.BwdActRefIdeal.main_arg3)
      ∧ r.2.mem ((c.tc : Thread Cert.BwdActRefIdeal.nD Cert.BwdActRefIdeal.τ).loc Cert.BwdActRefIdeal.main_arg4) = m ((c.tc : Thread Cert.BwdActRefIdeal.nD Cert.BwdActRefIdeal.τ).loc Cert.BwdActRefIdeal.main_arg4))
      ∧ r.2.sem = fun _ => 0)

def quiescent_MixerDx [hMixerDx : Cert.MixerDx.Facts] : Prop :=
  ∀ (m : (ℓ : Loc Cert.MixerDx.nD Cert.MixerDx.τ Cert.MixerDx.sig) → Buf (Elt Bits) ℓ) (g : Dev Cert.MixerDx.nD → PrngReg), Pre_MixerDx m →
    θ_run (Cert.MixerDx.defs (F := Bits)) (onTc (τ := Cert.MixerDx.τ) (Cert.MixerDx.main (F := Bits))) ⟨m, fun _ => 0, g⟩ (fun r => (∀ c : Dev Cert.MixerDx.nD,
      r.2.mem ((c.tc : Thread Cert.MixerDx.nD Cert.MixerDx.τ).loc Cert.MixerDx.main_arg0) = m ((c.tc : Thread Cert.MixerDx.nD Cert.MixerDx.τ).loc Cert.MixerDx.main_arg0)
      ∧ r.2.mem ((c.tc : Thread Cert.MixerDx.nD Cert.MixerDx.τ).loc Cert.MixerDx.main_arg1) = m ((c.tc : Thread Cert.MixerDx.nD Cert.MixerDx.τ).loc Cert.MixerDx.main_arg1)
      ∧ r.2.mem ((c.tc : Thread Cert.MixerDx.nD Cert.MixerDx.τ).loc Cert.MixerDx.main_arg2) = m ((c.tc : Thread Cert.MixerDx.nD Cert.MixerDx.τ).loc Cert.MixerDx.main_arg2)
      ∧ r.2.mem ((c.tc : Thread Cert.MixerDx.nD Cert.MixerDx.τ).loc Cert.MixerDx.main_arg3) = m ((c.tc : Thread Cert.MixerDx.nD Cert.MixerDx.τ).loc Cert.MixerDx.main_arg3)
      ∧ r.2.mem ((c.tc : Thread Cert.MixerDx.nD Cert.MixerDx.τ).loc Cert.MixerDx.main_arg4) = m ((c.tc : Thread Cert.MixerDx.nD Cert.MixerDx.τ).loc Cert.MixerDx.main_arg4)
      ∧ r.2.mem ((c.tc : Thread Cert.MixerDx.nD Cert.MixerDx.τ).loc Cert.MixerDx.main_arg5) = m ((c.tc : Thread Cert.MixerDx.nD Cert.MixerDx.τ).loc Cert.MixerDx.main_arg5)
      ∧ r.2.mem ((c.tc : Thread Cert.MixerDx.nD Cert.MixerDx.τ).loc Cert.MixerDx.main_arg6) = m ((c.tc : Thread Cert.MixerDx.nD Cert.MixerDx.τ).loc Cert.MixerDx.main_arg6))
      ∧ r.2.sem = fun _ => 0)

def quiescent_MixerDxIdeal [hMixerDxIdeal : Cert.MixerDxIdeal.Facts] : Prop :=
  ∀ (m : (ℓ : Loc Cert.MixerDxIdeal.nD Cert.MixerDxIdeal.τ Cert.MixerDxIdeal.sig) → Buf (Elt Ideal) ℓ) (g : Dev Cert.MixerDxIdeal.nD → PrngReg), Pre_MixerDxIdeal m →
    θ_run (Cert.MixerDxIdeal.defs (F := Ideal)) (onTc (τ := Cert.MixerDxIdeal.τ) (Cert.MixerDxIdeal.main (F := Ideal))) ⟨m, fun _ => 0, g⟩ (fun r => (∀ c : Dev Cert.MixerDxIdeal.nD,
      r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
      ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
      ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
      ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
      ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4)
      ∧ r.2.mem ((c.tc : Thread Cert.MixerDxIdeal.nD Cert.MixerDxIdeal.τ).loc Cert.MixerDxIdeal.main_arg5) = m ((c.tc : Thread Cert.MixerDxIdeal.nD Cert.MixerDxIdeal.τ).loc Cert.MixerDxIdeal.main_arg5)
      ∧ r.2.mem ((c.tc : Thread Cert.MixerDxIdeal.nD Cert.MixerDxIdeal.τ).loc Cert.MixerDxIdeal.main_arg6) = m ((c.tc : Thread Cert.MixerDxIdeal.nD Cert.MixerDxIdeal.τ).loc Cert.MixerDxIdeal.main_arg6))
      ∧ r.2.sem = fun _ => 0)

def quiescent_MixerDxIdeal_pre_mixer_dx_finite [hMixerDxIdeal : Cert.MixerDxIdeal.Facts] [hPre_mixer_dx_finite : Cert.Pre_mixer_dx_finite.Facts] : Prop :=
  ∀ (m : (ℓ : Loc Cert.MixerDxIdeal.nD Cert.MixerDxIdeal.τ Cert.MixerDxIdeal.sig) → Buf (Elt Ideal) ℓ) (g : Dev Cert.MixerDxIdeal.nD → PrngReg), Pre_MixerDxIdeal_mixer_dx_finite m →
    θ_run (Cert.MixerDxIdeal.defs (F := Ideal)) (onTc (τ := Cert.MixerDxIdeal.τ) (Cert.MixerDxIdeal.main (F := Ideal))) ⟨m, fun _ => 0, g⟩ (fun r => (∀ c : Dev Cert.MixerDxIdeal.nD,
      r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
      ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
      ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
      ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
      ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4)
      ∧ r.2.mem ((c.tc : Thread Cert.MixerDxIdeal.nD Cert.MixerDxIdeal.τ).loc Cert.MixerDxIdeal.main_arg5) = m ((c.tc : Thread Cert.MixerDxIdeal.nD Cert.MixerDxIdeal.τ).loc Cert.MixerDxIdeal.main_arg5)
      ∧ r.2.mem ((c.tc : Thread Cert.MixerDxIdeal.nD Cert.MixerDxIdeal.τ).loc Cert.MixerDxIdeal.main_arg6) = m ((c.tc : Thread Cert.MixerDxIdeal.nD Cert.MixerDxIdeal.τ).loc Cert.MixerDxIdeal.main_arg6))
      ∧ r.2.sem = fun _ => 0)

def quiescent_MixerDxRefIdeal [hMixerDxRefIdeal : Cert.MixerDxRefIdeal.Facts] : Prop :=
  ∀ (m : (ℓ : Loc Cert.MixerDxRefIdeal.nD Cert.MixerDxRefIdeal.τ Cert.MixerDxRefIdeal.sig) → Buf (Elt Ideal) ℓ) (g : Dev Cert.MixerDxRefIdeal.nD → PrngReg), Pre_MixerDxRefIdeal m →
    θ_run (Cert.MixerDxRefIdeal.defs (F := Ideal)) (onTc (τ := Cert.MixerDxRefIdeal.τ) (Cert.MixerDxRefIdeal.main (F := Ideal))) ⟨m, fun _ => 0, g⟩ (fun r => (∀ c : Dev Cert.MixerDxRefIdeal.nD,
      r.2.mem ((c.tc : Thread Cert.MixerDxRefIdeal.nD Cert.MixerDxRefIdeal.τ).loc Cert.MixerDxRefIdeal.main_arg0) = m ((c.tc : Thread Cert.MixerDxRefIdeal.nD Cert.MixerDxRefIdeal.τ).loc Cert.MixerDxRefIdeal.main_arg0)
      ∧ r.2.mem ((c.tc : Thread Cert.MixerDxRefIdeal.nD Cert.MixerDxRefIdeal.τ).loc Cert.MixerDxRefIdeal.main_arg1) = m ((c.tc : Thread Cert.MixerDxRefIdeal.nD Cert.MixerDxRefIdeal.τ).loc Cert.MixerDxRefIdeal.main_arg1)
      ∧ r.2.mem ((c.tc : Thread Cert.MixerDxRefIdeal.nD Cert.MixerDxRefIdeal.τ).loc Cert.MixerDxRefIdeal.main_arg2) = m ((c.tc : Thread Cert.MixerDxRefIdeal.nD Cert.MixerDxRefIdeal.τ).loc Cert.MixerDxRefIdeal.main_arg2)
      ∧ r.2.mem ((c.tc : Thread Cert.MixerDxRefIdeal.nD Cert.MixerDxRefIdeal.τ).loc Cert.MixerDxRefIdeal.main_arg3) = m ((c.tc : Thread Cert.MixerDxRefIdeal.nD Cert.MixerDxRefIdeal.τ).loc Cert.MixerDxRefIdeal.main_arg3)
      ∧ r.2.mem ((c.tc : Thread Cert.MixerDxRefIdeal.nD Cert.MixerDxRefIdeal.τ).loc Cert.MixerDxRefIdeal.main_arg4) = m ((c.tc : Thread Cert.MixerDxRefIdeal.nD Cert.MixerDxRefIdeal.τ).loc Cert.MixerDxRefIdeal.main_arg4)
      ∧ r.2.mem ((c.tc : Thread Cert.MixerDxRefIdeal.nD Cert.MixerDxRefIdeal.τ).loc Cert.MixerDxRefIdeal.main_arg5) = m ((c.tc : Thread Cert.MixerDxRefIdeal.nD Cert.MixerDxRefIdeal.τ).loc Cert.MixerDxRefIdeal.main_arg5)
      ∧ r.2.mem ((c.tc : Thread Cert.MixerDxRefIdeal.nD Cert.MixerDxRefIdeal.τ).loc Cert.MixerDxRefIdeal.main_arg6) = m ((c.tc : Thread Cert.MixerDxRefIdeal.nD Cert.MixerDxRefIdeal.τ).loc Cert.MixerDxRefIdeal.main_arg6))
      ∧ r.2.sem = fun _ => 0)

def quiescent_MixerDxRefIdeal_pre_mixer_dx_finite [hMixerDxRefIdeal : Cert.MixerDxRefIdeal.Facts] [hPre_mixer_dx_finite : Cert.Pre_mixer_dx_finite.Facts] : Prop :=
  ∀ (m : (ℓ : Loc Cert.MixerDxRefIdeal.nD Cert.MixerDxRefIdeal.τ Cert.MixerDxRefIdeal.sig) → Buf (Elt Ideal) ℓ) (g : Dev Cert.MixerDxRefIdeal.nD → PrngReg), Pre_MixerDxRefIdeal_mixer_dx_finite m →
    θ_run (Cert.MixerDxRefIdeal.defs (F := Ideal)) (onTc (τ := Cert.MixerDxRefIdeal.τ) (Cert.MixerDxRefIdeal.main (F := Ideal))) ⟨m, fun _ => 0, g⟩ (fun r => (∀ c : Dev Cert.MixerDxRefIdeal.nD,
      r.2.mem ((c.tc : Thread Cert.MixerDxRefIdeal.nD Cert.MixerDxRefIdeal.τ).loc Cert.MixerDxRefIdeal.main_arg0) = m ((c.tc : Thread Cert.MixerDxRefIdeal.nD Cert.MixerDxRefIdeal.τ).loc Cert.MixerDxRefIdeal.main_arg0)
      ∧ r.2.mem ((c.tc : Thread Cert.MixerDxRefIdeal.nD Cert.MixerDxRefIdeal.τ).loc Cert.MixerDxRefIdeal.main_arg1) = m ((c.tc : Thread Cert.MixerDxRefIdeal.nD Cert.MixerDxRefIdeal.τ).loc Cert.MixerDxRefIdeal.main_arg1)
      ∧ r.2.mem ((c.tc : Thread Cert.MixerDxRefIdeal.nD Cert.MixerDxRefIdeal.τ).loc Cert.MixerDxRefIdeal.main_arg2) = m ((c.tc : Thread Cert.MixerDxRefIdeal.nD Cert.MixerDxRefIdeal.τ).loc Cert.MixerDxRefIdeal.main_arg2)
      ∧ r.2.mem ((c.tc : Thread Cert.MixerDxRefIdeal.nD Cert.MixerDxRefIdeal.τ).loc Cert.MixerDxRefIdeal.main_arg3) = m ((c.tc : Thread Cert.MixerDxRefIdeal.nD Cert.MixerDxRefIdeal.τ).loc Cert.MixerDxRefIdeal.main_arg3)
      ∧ r.2.mem ((c.tc : Thread Cert.MixerDxRefIdeal.nD Cert.MixerDxRefIdeal.τ).loc Cert.MixerDxRefIdeal.main_arg4) = m ((c.tc : Thread Cert.MixerDxRefIdeal.nD Cert.MixerDxRefIdeal.τ).loc Cert.MixerDxRefIdeal.main_arg4)
      ∧ r.2.mem ((c.tc : Thread Cert.MixerDxRefIdeal.nD Cert.MixerDxRefIdeal.τ).loc Cert.MixerDxRefIdeal.main_arg5) = m ((c.tc : Thread Cert.MixerDxRefIdeal.nD Cert.MixerDxRefIdeal.τ).loc Cert.MixerDxRefIdeal.main_arg5)
      ∧ r.2.mem ((c.tc : Thread Cert.MixerDxRefIdeal.nD Cert.MixerDxRefIdeal.τ).loc Cert.MixerDxRefIdeal.main_arg6) = m ((c.tc : Thread Cert.MixerDxRefIdeal.nD Cert.MixerDxRefIdeal.τ).loc Cert.MixerDxRefIdeal.main_arg6))
      ∧ r.2.sem = fun _ => 0)

def quiescent_SsmDs [hSsmDs : Cert.SsmDs.Facts] : Prop :=
  ∀ (m : (ℓ : Loc Cert.SsmDs.nD Cert.SsmDs.τ Cert.SsmDs.sig) → Buf (Elt Bits) ℓ) (g : Dev Cert.SsmDs.nD → PrngReg), Pre_SsmDs m →
    θ_run (Cert.SsmDs.defs (F := Bits)) (onTc (τ := Cert.SsmDs.τ) (Cert.SsmDs.main (F := Bits))) ⟨m, fun _ => 0, g⟩ (fun r => (∀ c : Dev Cert.SsmDs.nD,
      r.2.mem ((c.tc : Thread Cert.SsmDs.nD Cert.SsmDs.τ).loc Cert.SsmDs.main_arg0) = m ((c.tc : Thread Cert.SsmDs.nD Cert.SsmDs.τ).loc Cert.SsmDs.main_arg0)
      ∧ r.2.mem ((c.tc : Thread Cert.SsmDs.nD Cert.SsmDs.τ).loc Cert.SsmDs.main_arg1) = m ((c.tc : Thread Cert.SsmDs.nD Cert.SsmDs.τ).loc Cert.SsmDs.main_arg1)
      ∧ r.2.mem ((c.tc : Thread Cert.SsmDs.nD Cert.SsmDs.τ).loc Cert.SsmDs.main_arg2) = m ((c.tc : Thread Cert.SsmDs.nD Cert.SsmDs.τ).loc Cert.SsmDs.main_arg2)
      ∧ r.2.mem ((c.tc : Thread Cert.SsmDs.nD Cert.SsmDs.τ).loc Cert.SsmDs.main_arg3) = m ((c.tc : Thread Cert.SsmDs.nD Cert.SsmDs.τ).loc Cert.SsmDs.main_arg3)
      ∧ r.2.mem ((c.tc : Thread Cert.SsmDs.nD Cert.SsmDs.τ).loc Cert.SsmDs.main_arg4) = m ((c.tc : Thread Cert.SsmDs.nD Cert.SsmDs.τ).loc Cert.SsmDs.main_arg4))
      ∧ r.2.sem = fun _ => 0)

def quiescent_SsmDsIdeal [hSsmDsIdeal : Cert.SsmDsIdeal.Facts] : Prop :=
  ∀ (m : (ℓ : Loc Cert.SsmDsIdeal.nD Cert.SsmDsIdeal.τ Cert.SsmDsIdeal.sig) → Buf (Elt Ideal) ℓ) (g : Dev Cert.SsmDsIdeal.nD → PrngReg), Pre_SsmDsIdeal m →
    θ_run (Cert.SsmDsIdeal.defs (F := Ideal)) (onTc (τ := Cert.SsmDsIdeal.τ) (Cert.SsmDsIdeal.main (F := Ideal))) ⟨m, fun _ => 0, g⟩ (fun r => (∀ c : Dev Cert.SsmDsIdeal.nD,
      r.2.mem ((c.tc : Thread Cert.SsmDsIdeal.nD Cert.SsmDsIdeal.τ).loc Cert.SsmDsIdeal.main_arg0) = m ((c.tc : Thread Cert.SsmDsIdeal.nD Cert.SsmDsIdeal.τ).loc Cert.SsmDsIdeal.main_arg0)
      ∧ r.2.mem ((c.tc : Thread Cert.SsmDsIdeal.nD Cert.SsmDsIdeal.τ).loc Cert.SsmDsIdeal.main_arg1) = m ((c.tc : Thread Cert.SsmDsIdeal.nD Cert.SsmDsIdeal.τ).loc Cert.SsmDsIdeal.main_arg1)
      ∧ r.2.mem ((c.tc : Thread Cert.SsmDsIdeal.nD Cert.SsmDsIdeal.τ).loc Cert.SsmDsIdeal.main_arg2) = m ((c.tc : Thread Cert.SsmDsIdeal.nD Cert.SsmDsIdeal.τ).loc Cert.SsmDsIdeal.main_arg2)
      ∧ r.2.mem ((c.tc : Thread Cert.SsmDsIdeal.nD Cert.SsmDsIdeal.τ).loc Cert.SsmDsIdeal.main_arg3) = m ((c.tc : Thread Cert.SsmDsIdeal.nD Cert.SsmDsIdeal.τ).loc Cert.SsmDsIdeal.main_arg3)
      ∧ r.2.mem ((c.tc : Thread Cert.SsmDsIdeal.nD Cert.SsmDsIdeal.τ).loc Cert.SsmDsIdeal.main_arg4) = m ((c.tc : Thread Cert.SsmDsIdeal.nD Cert.SsmDsIdeal.τ).loc Cert.SsmDsIdeal.main_arg4))
      ∧ r.2.sem = fun _ => 0)

def quiescent_SsmDsRefIdeal [hSsmDsRefIdeal : Cert.SsmDsRefIdeal.Facts] : Prop :=
  ∀ (m : (ℓ : Loc Cert.SsmDsRefIdeal.nD Cert.SsmDsRefIdeal.τ Cert.SsmDsRefIdeal.sig) → Buf (Elt Ideal) ℓ) (g : Dev Cert.SsmDsRefIdeal.nD → PrngReg), Pre_SsmDsRefIdeal m →
    θ_run (Cert.SsmDsRefIdeal.defs (F := Ideal)) (onTc (τ := Cert.SsmDsRefIdeal.τ) (Cert.SsmDsRefIdeal.main (F := Ideal))) ⟨m, fun _ => 0, g⟩ (fun r => (∀ c : Dev Cert.SsmDsRefIdeal.nD,
      r.2.mem ((c.tc : Thread Cert.SsmDsRefIdeal.nD Cert.SsmDsRefIdeal.τ).loc Cert.SsmDsRefIdeal.main_arg0) = m ((c.tc : Thread Cert.SsmDsRefIdeal.nD Cert.SsmDsRefIdeal.τ).loc Cert.SsmDsRefIdeal.main_arg0)
      ∧ r.2.mem ((c.tc : Thread Cert.SsmDsRefIdeal.nD Cert.SsmDsRefIdeal.τ).loc Cert.SsmDsRefIdeal.main_arg1) = m ((c.tc : Thread Cert.SsmDsRefIdeal.nD Cert.SsmDsRefIdeal.τ).loc Cert.SsmDsRefIdeal.main_arg1)
      ∧ r.2.mem ((c.tc : Thread Cert.SsmDsRefIdeal.nD Cert.SsmDsRefIdeal.τ).loc Cert.SsmDsRefIdeal.main_arg2) = m ((c.tc : Thread Cert.SsmDsRefIdeal.nD Cert.SsmDsRefIdeal.τ).loc Cert.SsmDsRefIdeal.main_arg2)
      ∧ r.2.mem ((c.tc : Thread Cert.SsmDsRefIdeal.nD Cert.SsmDsRefIdeal.τ).loc Cert.SsmDsRefIdeal.main_arg3) = m ((c.tc : Thread Cert.SsmDsRefIdeal.nD Cert.SsmDsRefIdeal.τ).loc Cert.SsmDsRefIdeal.main_arg3)
      ∧ r.2.mem ((c.tc : Thread Cert.SsmDsRefIdeal.nD Cert.SsmDsRefIdeal.τ).loc Cert.SsmDsRefIdeal.main_arg4) = m ((c.tc : Thread Cert.SsmDsRefIdeal.nD Cert.SsmDsRefIdeal.τ).loc Cert.SsmDsRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7)
      ∧ r.2.mem ((c.tc : Thread Cert.PrepBwd.nD Cert.PrepBwd.τ).loc Cert.PrepBwd.main_arg8) = m ((c.tc : Thread Cert.PrepBwd.nD Cert.PrepBwd.τ).loc Cert.PrepBwd.main_arg8)
      ∧ r.2.mem ((c.tc : Thread Cert.PrepBwd.nD Cert.PrepBwd.τ).loc Cert.PrepBwd.main_arg9) = m ((c.tc : Thread Cert.PrepBwd.nD Cert.PrepBwd.τ).loc Cert.PrepBwd.main_arg9)
      ∧ r.2.mem ((c.tc : Thread Cert.PrepBwd.nD Cert.PrepBwd.τ).loc Cert.PrepBwd.main_arg10) = m ((c.tc : Thread Cert.PrepBwd.nD Cert.PrepBwd.τ).loc Cert.PrepBwd.main_arg10)
      ∧ r.2.mem ((c.tc : Thread Cert.PrepBwd.nD Cert.PrepBwd.τ).loc Cert.PrepBwd.main_arg11) = m ((c.tc : Thread Cert.PrepBwd.nD Cert.PrepBwd.τ).loc Cert.PrepBwd.main_arg11)
      ∧ r.2.mem ((c.tc : Thread Cert.PrepBwd.nD Cert.PrepBwd.τ).loc Cert.PrepBwd.main_arg12) = m ((c.tc : Thread Cert.PrepBwd.nD Cert.PrepBwd.τ).loc Cert.PrepBwd.main_arg12))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
      ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
      ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
      ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
      ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ r.2.sem = fun _ => 0)

def quiescent_PrepBwdIdeal_pre_prep_bwd_finite [hPrepBwdIdeal : Cert.PrepBwdIdeal.Facts] [hPre_prep_bwd_finite : Cert.Pre_prep_bwd_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal_prep_bwd_finite m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
      ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
      ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
      ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
      ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ r.2.sem = fun _ => 0)

def quiescent_PrepBwdRefIdeal [hPrepBwdRefIdeal : Cert.PrepBwdRefIdeal.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2)
      ∧ r.2.mem ((c.tc : Thread Cert.PrepBwdRefIdeal.nD Cert.PrepBwdRefIdeal.τ).loc Cert.PrepBwdRefIdeal.main_arg3) = m ((c.tc : Thread Cert.PrepBwdRefIdeal.nD Cert.PrepBwdRefIdeal.τ).loc Cert.PrepBwdRefIdeal.main_arg3)
      ∧ r.2.mem ((c.tc : Thread Cert.PrepBwdRefIdeal.nD Cert.PrepBwdRefIdeal.τ).loc Cert.PrepBwdRefIdeal.main_arg4) = m ((c.tc : Thread Cert.PrepBwdRefIdeal.nD Cert.PrepBwdRefIdeal.τ).loc Cert.PrepBwdRefIdeal.main_arg4)
      ∧ r.2.mem ((c.tc : Thread Cert.PrepBwdRefIdeal.nD Cert.PrepBwdRefIdeal.τ).loc Cert.PrepBwdRefIdeal.main_arg5) = m ((c.tc : Thread Cert.PrepBwdRefIdeal.nD Cert.PrepBwdRefIdeal.τ).loc Cert.PrepBwdRefIdeal.main_arg5)
      ∧ r.2.mem ((c.tc : Thread Cert.PrepBwdRefIdeal.nD Cert.PrepBwdRefIdeal.τ).loc Cert.PrepBwdRefIdeal.main_arg6) = m ((c.tc : Thread Cert.PrepBwdRefIdeal.nD Cert.PrepBwdRefIdeal.τ).loc Cert.PrepBwdRefIdeal.main_arg6)
      ∧ r.2.mem ((c.tc : Thread Cert.PrepBwdRefIdeal.nD Cert.PrepBwdRefIdeal.τ).loc Cert.PrepBwdRefIdeal.main_arg7) = m ((c.tc : Thread Cert.PrepBwdRefIdeal.nD Cert.PrepBwdRefIdeal.τ).loc Cert.PrepBwdRefIdeal.main_arg7)
      ∧ r.2.mem ((c.tc : Thread Cert.PrepBwdRefIdeal.nD Cert.PrepBwdRefIdeal.τ).loc Cert.PrepBwdRefIdeal.main_arg8) = m ((c.tc : Thread Cert.PrepBwdRefIdeal.nD Cert.PrepBwdRefIdeal.τ).loc Cert.PrepBwdRefIdeal.main_arg8)
      ∧ r.2.mem ((c.tc : Thread Cert.PrepBwdRefIdeal.nD Cert.PrepBwdRefIdeal.τ).loc Cert.PrepBwdRefIdeal.main_arg9) = m ((c.tc : Thread Cert.PrepBwdRefIdeal.nD Cert.PrepBwdRefIdeal.τ).loc Cert.PrepBwdRefIdeal.main_arg9)
      ∧ r.2.mem ((c.tc : Thread Cert.PrepBwdRefIdeal.nD Cert.PrepBwdRefIdeal.τ).loc Cert.PrepBwdRefIdeal.main_arg10) = m ((c.tc : Thread Cert.PrepBwdRefIdeal.nD Cert.PrepBwdRefIdeal.τ).loc Cert.PrepBwdRefIdeal.main_arg10)
      ∧ r.2.mem ((c.tc : Thread Cert.PrepBwdRefIdeal.nD Cert.PrepBwdRefIdeal.τ).loc Cert.PrepBwdRefIdeal.main_arg11) = m ((c.tc : Thread Cert.PrepBwdRefIdeal.nD Cert.PrepBwdRefIdeal.τ).loc Cert.PrepBwdRefIdeal.main_arg11)
      ∧ r.2.mem ((c.tc : Thread Cert.PrepBwdRefIdeal.nD Cert.PrepBwdRefIdeal.τ).loc Cert.PrepBwdRefIdeal.main_arg12) = m ((c.tc : Thread Cert.PrepBwdRefIdeal.nD Cert.PrepBwdRefIdeal.τ).loc Cert.PrepBwdRefIdeal.main_arg12))
      ∧ r.2.sem = fun _ => 0)

def quiescent_PrepBwdRefIdeal_pre_prep_bwd_finite [hPrepBwdRefIdeal : Cert.PrepBwdRefIdeal.Facts] [hPre_prep_bwd_finite : Cert.Pre_prep_bwd_finite.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal_prep_bwd_finite m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2)
      ∧ r.2.mem ((c.tc : Thread Cert.PrepBwdRefIdeal.nD Cert.PrepBwdRefIdeal.τ).loc Cert.PrepBwdRefIdeal.main_arg3) = m ((c.tc : Thread Cert.PrepBwdRefIdeal.nD Cert.PrepBwdRefIdeal.τ).loc Cert.PrepBwdRefIdeal.main_arg3)
      ∧ r.2.mem ((c.tc : Thread Cert.PrepBwdRefIdeal.nD Cert.PrepBwdRefIdeal.τ).loc Cert.PrepBwdRefIdeal.main_arg4) = m ((c.tc : Thread Cert.PrepBwdRefIdeal.nD Cert.PrepBwdRefIdeal.τ).loc Cert.PrepBwdRefIdeal.main_arg4)
      ∧ r.2.mem ((c.tc : Thread Cert.PrepBwdRefIdeal.nD Cert.PrepBwdRefIdeal.τ).loc Cert.PrepBwdRefIdeal.main_arg5) = m ((c.tc : Thread Cert.PrepBwdRefIdeal.nD Cert.PrepBwdRefIdeal.τ).loc Cert.PrepBwdRefIdeal.main_arg5)
      ∧ r.2.mem ((c.tc : Thread Cert.PrepBwdRefIdeal.nD Cert.PrepBwdRefIdeal.τ).loc Cert.PrepBwdRefIdeal.main_arg6) = m ((c.tc : Thread Cert.PrepBwdRefIdeal.nD Cert.PrepBwdRefIdeal.τ).loc Cert.PrepBwdRefIdeal.main_arg6)
      ∧ r.2.mem ((c.tc : Thread Cert.PrepBwdRefIdeal.nD Cert.PrepBwdRefIdeal.τ).loc Cert.PrepBwdRefIdeal.main_arg7) = m ((c.tc : Thread Cert.PrepBwdRefIdeal.nD Cert.PrepBwdRefIdeal.τ).loc Cert.PrepBwdRefIdeal.main_arg7)
      ∧ r.2.mem ((c.tc : Thread Cert.PrepBwdRefIdeal.nD Cert.PrepBwdRefIdeal.τ).loc Cert.PrepBwdRefIdeal.main_arg8) = m ((c.tc : Thread Cert.PrepBwdRefIdeal.nD Cert.PrepBwdRefIdeal.τ).loc Cert.PrepBwdRefIdeal.main_arg8)
      ∧ r.2.mem ((c.tc : Thread Cert.PrepBwdRefIdeal.nD Cert.PrepBwdRefIdeal.τ).loc Cert.PrepBwdRefIdeal.main_arg9) = m ((c.tc : Thread Cert.PrepBwdRefIdeal.nD Cert.PrepBwdRefIdeal.τ).loc Cert.PrepBwdRefIdeal.main_arg9)
      ∧ r.2.mem ((c.tc : Thread Cert.PrepBwdRefIdeal.nD Cert.PrepBwdRefIdeal.τ).loc Cert.PrepBwdRefIdeal.main_arg10) = m ((c.tc : Thread Cert.PrepBwdRefIdeal.nD Cert.PrepBwdRefIdeal.τ).loc Cert.PrepBwdRefIdeal.main_arg10)
      ∧ r.2.mem ((c.tc : Thread Cert.PrepBwdRefIdeal.nD Cert.PrepBwdRefIdeal.τ).loc Cert.PrepBwdRefIdeal.main_arg11) = m ((c.tc : Thread Cert.PrepBwdRefIdeal.nD Cert.PrepBwdRefIdeal.τ).loc Cert.PrepBwdRefIdeal.main_arg11)
      ∧ r.2.mem ((c.tc : Thread Cert.PrepBwdRefIdeal.nD Cert.PrepBwdRefIdeal.τ).loc Cert.PrepBwdRefIdeal.main_arg12) = m ((c.tc : Thread Cert.PrepBwdRefIdeal.nD Cert.PrepBwdRefIdeal.τ).loc Cert.PrepBwdRefIdeal.main_arg12))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormRefIdeal [hRmsNormRefIdeal : Cert.RmsNormRefIdeal.Facts] : Prop :=
  ∀ (m : (ℓ : Loc Cert.RmsNormRefIdeal.nD Cert.RmsNormRefIdeal.τ Cert.RmsNormRefIdeal.sig) → Buf (Elt Ideal) ℓ) (g : Dev Cert.RmsNormRefIdeal.nD → PrngReg), Pre_RmsNormRefIdeal m →
    θ_run (Cert.RmsNormRefIdeal.defs (F := Ideal)) (onTc (τ := Cert.RmsNormRefIdeal.τ) (Cert.RmsNormRefIdeal.main (F := Ideal))) ⟨m, fun _ => 0, g⟩ (fun r => (∀ c : Dev Cert.RmsNormRefIdeal.nD,
      r.2.mem ((c.tc : Thread Cert.RmsNormRefIdeal.nD Cert.RmsNormRefIdeal.τ).loc Cert.RmsNormRefIdeal.main_arg0) = m ((c.tc : Thread Cert.RmsNormRefIdeal.nD Cert.RmsNormRefIdeal.τ).loc Cert.RmsNormRefIdeal.main_arg0)
      ∧ r.2.mem ((c.tc : Thread Cert.RmsNormRefIdeal.nD Cert.RmsNormRefIdeal.τ).loc Cert.RmsNormRefIdeal.main_arg1) = m ((c.tc : Thread Cert.RmsNormRefIdeal.nD Cert.RmsNormRefIdeal.τ).loc Cert.RmsNormRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_ffn_up_finite [hFfnUpIdeal : Cert.FfnUpIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_ffn_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_ffn_up_finite [hFfnUpRefIdeal : Cert.FfnUpRefIdeal.Facts] [hPre_ffn_up_finite : Cert.Pre_ffn_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffn_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2)
      ∧ r.2.mem ((c.tc : Thread Cert.ScanBwd.nD Cert.ScanBwd.τ).loc Cert.ScanBwd.main_arg3) = m ((c.tc : Thread Cert.ScanBwd.nD Cert.ScanBwd.τ).loc Cert.ScanBwd.main_arg3)
      ∧ r.2.mem ((c.tc : Thread Cert.ScanBwd.nD Cert.ScanBwd.τ).loc Cert.ScanBwd.main_arg4) = m ((c.tc : Thread Cert.ScanBwd.nD Cert.ScanBwd.τ).loc Cert.ScanBwd.main_arg4))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
      ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
      ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ r.2.sem = fun _ => 0)

def quiescent_ResidNormRefIdeal [hResidNormRefIdeal : Cert.ResidNormRefIdeal.Facts] : Prop :=
  ∀ (m : (ℓ : Loc Cert.ResidNormRefIdeal.nD Cert.ResidNormRefIdeal.τ Cert.ResidNormRefIdeal.sig) → Buf (Elt Ideal) ℓ) (g : Dev Cert.ResidNormRefIdeal.nD → PrngReg), Pre_ResidNormRefIdeal m →
    θ_run (Cert.ResidNormRefIdeal.defs (F := Ideal)) (onTc (τ := Cert.ResidNormRefIdeal.τ) (Cert.ResidNormRefIdeal.main (F := Ideal))) ⟨m, fun _ => 0, g⟩ (fun r => (∀ c : Dev Cert.ResidNormRefIdeal.nD,
      r.2.mem ((c.tc : Thread Cert.ResidNormRefIdeal.nD Cert.ResidNormRefIdeal.τ).loc Cert.ResidNormRefIdeal.main_arg0) = m ((c.tc : Thread Cert.ResidNormRefIdeal.nD Cert.ResidNormRefIdeal.τ).loc Cert.ResidNormRefIdeal.main_arg0)
      ∧ r.2.mem ((c.tc : Thread Cert.ResidNormRefIdeal.nD Cert.ResidNormRefIdeal.τ).loc Cert.ResidNormRefIdeal.main_arg1) = m ((c.tc : Thread Cert.ResidNormRefIdeal.nD Cert.ResidNormRefIdeal.τ).loc Cert.ResidNormRefIdeal.main_arg1)
      ∧ r.2.mem ((c.tc : Thread Cert.ResidNormRefIdeal.nD Cert.ResidNormRefIdeal.τ).loc Cert.ResidNormRefIdeal.main_arg2) = m ((c.tc : Thread Cert.ResidNormRefIdeal.nD Cert.ResidNormRefIdeal.τ).loc Cert.ResidNormRefIdeal.main_arg2)
      ∧ r.2.mem ((c.tc : Thread Cert.ResidNormRefIdeal.nD Cert.ResidNormRefIdeal.τ).loc Cert.ResidNormRefIdeal.main_arg3) = m ((c.tc : Thread Cert.ResidNormRefIdeal.nD Cert.ResidNormRefIdeal.τ).loc Cert.ResidNormRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_SsmPrep [hSsmPrep : Cert.SsmPrep.Facts] : Prop :=
  ∀ (m : (ℓ : Loc Cert.SsmPrep.nD Cert.SsmPrep.τ Cert.SsmPrep.sig) → Buf (Elt Bits) ℓ) (g : Dev Cert.SsmPrep.nD → PrngReg), Pre_SsmPrep m →
    θ_run (Cert.SsmPrep.defs (F := Bits)) (onTc (τ := Cert.SsmPrep.τ) (Cert.SsmPrep.main (F := Bits))) ⟨m, fun _ => 0, g⟩ (fun r => (∀ c : Dev Cert.SsmPrep.nD,
      r.2.mem ((c.tc : Thread Cert.SsmPrep.nD Cert.SsmPrep.τ).loc Cert.SsmPrep.main_arg0) = m ((c.tc : Thread Cert.SsmPrep.nD Cert.SsmPrep.τ).loc Cert.SsmPrep.main_arg0)
      ∧ r.2.mem ((c.tc : Thread Cert.SsmPrep.nD Cert.SsmPrep.τ).loc Cert.SsmPrep.main_arg1) = m ((c.tc : Thread Cert.SsmPrep.nD Cert.SsmPrep.τ).loc Cert.SsmPrep.main_arg1)
      ∧ r.2.mem ((c.tc : Thread Cert.SsmPrep.nD Cert.SsmPrep.τ).loc Cert.SsmPrep.main_arg2) = m ((c.tc : Thread Cert.SsmPrep.nD Cert.SsmPrep.τ).loc Cert.SsmPrep.main_arg2)
      ∧ r.2.mem ((c.tc : Thread Cert.SsmPrep.nD Cert.SsmPrep.τ).loc Cert.SsmPrep.main_arg3) = m ((c.tc : Thread Cert.SsmPrep.nD Cert.SsmPrep.τ).loc Cert.SsmPrep.main_arg3)
      ∧ r.2.mem ((c.tc : Thread Cert.SsmPrep.nD Cert.SsmPrep.τ).loc Cert.SsmPrep.main_arg4) = m ((c.tc : Thread Cert.SsmPrep.nD Cert.SsmPrep.τ).loc Cert.SsmPrep.main_arg4)
      ∧ r.2.mem ((c.tc : Thread Cert.SsmPrep.nD Cert.SsmPrep.τ).loc Cert.SsmPrep.main_arg5) = m ((c.tc : Thread Cert.SsmPrep.nD Cert.SsmPrep.τ).loc Cert.SsmPrep.main_arg5)
      ∧ r.2.mem ((c.tc : Thread Cert.SsmPrep.nD Cert.SsmPrep.τ).loc Cert.SsmPrep.main_arg6) = m ((c.tc : Thread Cert.SsmPrep.nD Cert.SsmPrep.τ).loc Cert.SsmPrep.main_arg6))
      ∧ r.2.sem = fun _ => 0)

def quiescent_SsmPrepIdeal [hSsmPrepIdeal : Cert.SsmPrepIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg), Pre_SsmPrepIdeal m →
    θ_run (Cert.SsmPrepIdeal.defs (F := Ideal)) (onTc (τ := Cert.SsmPrepIdeal.τ) (Cert.SsmPrepIdeal.main (F := Ideal))) ⟨m, fun _ => 0, g⟩ (fun r => (∀ c : Dev Cert.SsmPrepIdeal.nD,
      r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
      ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
      ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
      ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
      ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4)
      ∧ r.2.mem ((c.tc : Thread Cert.SsmPrepIdeal.nD Cert.SsmPrepIdeal.τ).loc Cert.SsmPrepIdeal.main_arg5) = m ((c.tc : Thread Cert.SsmPrepIdeal.nD Cert.SsmPrepIdeal.τ).loc Cert.SsmPrepIdeal.main_arg5)
      ∧ r.2.mem ((c.tc : Thread Cert.SsmPrepIdeal.nD Cert.SsmPrepIdeal.τ).loc Cert.SsmPrepIdeal.main_arg6) = m ((c.tc : Thread Cert.SsmPrepIdeal.nD Cert.SsmPrepIdeal.τ).loc Cert.SsmPrepIdeal.main_arg6))
      ∧ r.2.sem = fun _ => 0)

def quiescent_SsmPrepRefIdeal [hSsmPrepRefIdeal : Cert.SsmPrepRefIdeal.Facts] : Prop :=
  ∀ (m : (ℓ : Loc Cert.SsmPrepRefIdeal.nD Cert.SsmPrepRefIdeal.τ Cert.SsmPrepRefIdeal.sig) → Buf (Elt Ideal) ℓ) (g : Dev Cert.SsmPrepRefIdeal.nD → PrngReg), Pre_SsmPrepRefIdeal m →
    θ_run (Cert.SsmPrepRefIdeal.defs (F := Ideal)) (onTc (τ := Cert.SsmPrepRefIdeal.τ) (Cert.SsmPrepRefIdeal.main (F := Ideal))) ⟨m, fun _ => 0, g⟩ (fun r => (∀ c : Dev Cert.SsmPrepRefIdeal.nD,
      r.2.mem ((c.tc : Thread Cert.SsmPrepRefIdeal.nD Cert.SsmPrepRefIdeal.τ).loc Cert.SsmPrepRefIdeal.main_arg0) = m ((c.tc : Thread Cert.SsmPrepRefIdeal.nD Cert.SsmPrepRefIdeal.τ).loc Cert.SsmPrepRefIdeal.main_arg0)
      ∧ r.2.mem ((c.tc : Thread Cert.SsmPrepRefIdeal.nD Cert.SsmPrepRefIdeal.τ).loc Cert.SsmPrepRefIdeal.main_arg1) = m ((c.tc : Thread Cert.SsmPrepRefIdeal.nD Cert.SsmPrepRefIdeal.τ).loc Cert.SsmPrepRefIdeal.main_arg1)
      ∧ r.2.mem ((c.tc : Thread Cert.SsmPrepRefIdeal.nD Cert.SsmPrepRefIdeal.τ).loc Cert.SsmPrepRefIdeal.main_arg2) = m ((c.tc : Thread Cert.SsmPrepRefIdeal.nD Cert.SsmPrepRefIdeal.τ).loc Cert.SsmPrepRefIdeal.main_arg2)
      ∧ r.2.mem ((c.tc : Thread Cert.SsmPrepRefIdeal.nD Cert.SsmPrepRefIdeal.τ).loc Cert.SsmPrepRefIdeal.main_arg3) = m ((c.tc : Thread Cert.SsmPrepRefIdeal.nD Cert.SsmPrepRefIdeal.τ).loc Cert.SsmPrepRefIdeal.main_arg3)
      ∧ r.2.mem ((c.tc : Thread Cert.SsmPrepRefIdeal.nD Cert.SsmPrepRefIdeal.τ).loc Cert.SsmPrepRefIdeal.main_arg4) = m ((c.tc : Thread Cert.SsmPrepRefIdeal.nD Cert.SsmPrepRefIdeal.τ).loc Cert.SsmPrepRefIdeal.main_arg4)
      ∧ r.2.mem ((c.tc : Thread Cert.SsmPrepRefIdeal.nD Cert.SsmPrepRefIdeal.τ).loc Cert.SsmPrepRefIdeal.main_arg5) = m ((c.tc : Thread Cert.SsmPrepRefIdeal.nD Cert.SsmPrepRefIdeal.τ).loc Cert.SsmPrepRefIdeal.main_arg5)
      ∧ r.2.mem ((c.tc : Thread Cert.SsmPrepRefIdeal.nD Cert.SsmPrepRefIdeal.τ).loc Cert.SsmPrepRefIdeal.main_arg6) = m ((c.tc : Thread Cert.SsmPrepRefIdeal.nD Cert.SsmPrepRefIdeal.τ).loc Cert.SsmPrepRefIdeal.main_arg6))
      ∧ r.2.sem = fun _ => 0)

def quiescent_PlainMm [hPlainMm : Cert.PlainMm.Facts] : Prop :=
  ∀ (m : (ℓ : Loc Cert.PlainMm.nD Cert.PlainMm.τ Cert.PlainMm.sig) → Buf (Elt Bits) ℓ) (g : Dev Cert.PlainMm.nD → PrngReg), Pre_PlainMm m →
    θ_run (Cert.PlainMm.defs (F := Bits)) (onTc (τ := Cert.PlainMm.τ) (Cert.PlainMm.main (F := Bits))) ⟨m, fun _ => 0, g⟩ (fun r => (∀ c : Dev Cert.PlainMm.nD,
      r.2.mem ((c.tc : Thread Cert.PlainMm.nD Cert.PlainMm.τ).loc Cert.PlainMm.main_arg0) = m ((c.tc : Thread Cert.PlainMm.nD Cert.PlainMm.τ).loc Cert.PlainMm.main_arg0)
      ∧ r.2.mem ((c.tc : Thread Cert.PlainMm.nD Cert.PlainMm.τ).loc Cert.PlainMm.main_arg1) = m ((c.tc : Thread Cert.PlainMm.nD Cert.PlainMm.τ).loc Cert.PlainMm.main_arg1))
      ∧ r.2.sem = fun _ => 0)

def quiescent_PlainMmIdeal [hPlainMmIdeal : Cert.PlainMmIdeal.Facts] : Prop :=
  ∀ (m : (ℓ : Loc Cert.PlainMmIdeal.nD Cert.PlainMmIdeal.τ Cert.PlainMmIdeal.sig) → Buf (Elt Ideal) ℓ) (g : Dev Cert.PlainMmIdeal.nD → PrngReg), Pre_PlainMmIdeal m →
    θ_run (Cert.PlainMmIdeal.defs (F := Ideal)) (onTc (τ := Cert.PlainMmIdeal.τ) (Cert.PlainMmIdeal.main (F := Ideal))) ⟨m, fun _ => 0, g⟩ (fun r => (∀ c : Dev Cert.PlainMmIdeal.nD,
      r.2.mem ((c.tc : Thread Cert.PlainMmIdeal.nD Cert.PlainMmIdeal.τ).loc Cert.PlainMmIdeal.main_arg0) = m ((c.tc : Thread Cert.PlainMmIdeal.nD Cert.PlainMmIdeal.τ).loc Cert.PlainMmIdeal.main_arg0)
      ∧ r.2.mem ((c.tc : Thread Cert.PlainMmIdeal.nD Cert.PlainMmIdeal.τ).loc Cert.PlainMmIdeal.main_arg1) = m ((c.tc : Thread Cert.PlainMmIdeal.nD Cert.PlainMmIdeal.τ).loc Cert.PlainMmIdeal.main_arg1))
      ∧ r.2.sem = fun _ => 0)

def quiescent_PlainMmRefIdeal [hPlainMmRefIdeal : Cert.PlainMmRefIdeal.Facts] : Prop :=
  ∀ (m : (ℓ : Loc Cert.PlainMmRefIdeal.nD Cert.PlainMmRefIdeal.τ Cert.PlainMmRefIdeal.sig) → Buf (Elt Ideal) ℓ) (g : Dev Cert.PlainMmRefIdeal.nD → PrngReg), Pre_PlainMmRefIdeal m →
    θ_run (Cert.PlainMmRefIdeal.defs (F := Ideal)) (onTc (τ := Cert.PlainMmRefIdeal.τ) (Cert.PlainMmRefIdeal.main (F := Ideal))) ⟨m, fun _ => 0, g⟩ (fun r => (∀ c : Dev Cert.PlainMmRefIdeal.nD,
      r.2.mem ((c.tc : Thread Cert.PlainMmRefIdeal.nD Cert.PlainMmRefIdeal.τ).loc Cert.PlainMmRefIdeal.main_arg0) = m ((c.tc : Thread Cert.PlainMmRefIdeal.nD Cert.PlainMmRefIdeal.τ).loc Cert.PlainMmRefIdeal.main_arg0)
      ∧ r.2.mem ((c.tc : Thread Cert.PlainMmRefIdeal.nD Cert.PlainMmRefIdeal.τ).loc Cert.PlainMmRefIdeal.main_arg1) = m ((c.tc : Thread Cert.PlainMmRefIdeal.nD Cert.PlainMmRefIdeal.τ).loc Cert.PlainMmRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_DwMm [hDwMm : Cert.DwMm.Facts] : Prop :=
  ∀ (m : (ℓ : Loc Cert.DwMm.nD Cert.DwMm.τ Cert.DwMm.sig) → Buf (Elt Bits) ℓ) (g : Dev Cert.DwMm.nD → PrngReg), Pre_DwMm m →
    θ_run (Cert.DwMm.defs (F := Bits)) (onTc (τ := Cert.DwMm.τ) (Cert.DwMm.main (F := Bits))) ⟨m, fun _ => 0, g⟩ (fun r => (∀ c : Dev Cert.DwMm.nD,
      r.2.mem ((c.tc : Thread Cert.DwMm.nD Cert.DwMm.τ).loc Cert.DwMm.main_arg0) = m ((c.tc : Thread Cert.DwMm.nD Cert.DwMm.τ).loc Cert.DwMm.main_arg0)
      ∧ r.2.mem ((c.tc : Thread Cert.DwMm.nD Cert.DwMm.τ).loc Cert.DwMm.main_arg1) = m ((c.tc : Thread Cert.DwMm.nD Cert.DwMm.τ).loc Cert.DwMm.main_arg1))
      ∧ r.2.sem = fun _ => 0)

def quiescent_DwMmIdeal [hDwMmIdeal : Cert.DwMmIdeal.Facts] : Prop :=
  ∀ (m : (ℓ : Loc Cert.DwMmIdeal.nD Cert.DwMmIdeal.τ Cert.DwMmIdeal.sig) → Buf (Elt Ideal) ℓ) (g : Dev Cert.DwMmIdeal.nD → PrngReg), Pre_DwMmIdeal m →
    θ_run (Cert.DwMmIdeal.defs (F := Ideal)) (onTc (τ := Cert.DwMmIdeal.τ) (Cert.DwMmIdeal.main (F := Ideal))) ⟨m, fun _ => 0, g⟩ (fun r => (∀ c : Dev Cert.DwMmIdeal.nD,
      r.2.mem ((c.tc : Thread Cert.DwMmIdeal.nD Cert.DwMmIdeal.τ).loc Cert.DwMmIdeal.main_arg0) = m ((c.tc : Thread Cert.DwMmIdeal.nD Cert.DwMmIdeal.τ).loc Cert.DwMmIdeal.main_arg0)
      ∧ r.2.mem ((c.tc : Thread Cert.DwMmIdeal.nD Cert.DwMmIdeal.τ).loc Cert.DwMmIdeal.main_arg1) = m ((c.tc : Thread Cert.DwMmIdeal.nD Cert.DwMmIdeal.τ).loc Cert.DwMmIdeal.main_arg1))
      ∧ r.2.sem = fun _ => 0)

def quiescent_DwMmRefIdeal [hDwMmRefIdeal : Cert.DwMmRefIdeal.Facts] : Prop :=
  ∀ (m : (ℓ : Loc Cert.DwMmRefIdeal.nD Cert.DwMmRefIdeal.τ Cert.DwMmRefIdeal.sig) → Buf (Elt Ideal) ℓ) (g : Dev Cert.DwMmRefIdeal.nD → PrngReg), Pre_DwMmRefIdeal m →
    θ_run (Cert.DwMmRefIdeal.defs (F := Ideal)) (onTc (τ := Cert.DwMmRefIdeal.τ) (Cert.DwMmRefIdeal.main (F := Ideal))) ⟨m, fun _ => 0, g⟩ (fun r => (∀ c : Dev Cert.DwMmRefIdeal.nD,
      r.2.mem ((c.tc : Thread Cert.DwMmRefIdeal.nD Cert.DwMmRefIdeal.τ).loc Cert.DwMmRefIdeal.main_arg0) = m ((c.tc : Thread Cert.DwMmRefIdeal.nD Cert.DwMmRefIdeal.τ).loc Cert.DwMmRefIdeal.main_arg0)
      ∧ r.2.mem ((c.tc : Thread Cert.DwMmRefIdeal.nD Cert.DwMmRefIdeal.τ).loc Cert.DwMmRefIdeal.main_arg1) = m ((c.tc : Thread Cert.DwMmRefIdeal.nD Cert.DwMmRefIdeal.τ).loc Cert.DwMmRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_DevSum [hDevSum : Cert.DevSum.Facts] : Prop :=
  ∀ (m : (ℓ : Loc Cert.DevSum.nD Cert.DevSum.τ Cert.DevSum.sig) → Buf (Elt Bits) ℓ) (g : Dev Cert.DevSum.nD → PrngReg), Pre_DevSum m →
    θ_run (Cert.DevSum.defs (F := Bits)) (onTc (τ := Cert.DevSum.τ) (Cert.DevSum.main (F := Bits))) ⟨m, fun _ => 0, g⟩ (fun r => (∀ c : Dev Cert.DevSum.nD,
      r.2.mem ((c.tc : Thread Cert.DevSum.nD Cert.DevSum.τ).loc Cert.DevSum.main_arg0) = m ((c.tc : Thread Cert.DevSum.nD Cert.DevSum.τ).loc Cert.DevSum.main_arg0))
      ∧ r.2.sem = fun _ => 0)

def quiescent_DevSumIdeal [hDevSumIdeal : Cert.DevSumIdeal.Facts] : Prop :=
  ∀ (m : (ℓ : Loc Cert.DevSumIdeal.nD Cert.DevSumIdeal.τ Cert.DevSumIdeal.sig) → Buf (Elt Ideal) ℓ) (g : Dev Cert.DevSumIdeal.nD → PrngReg), Pre_DevSumIdeal m →
    θ_run (Cert.DevSumIdeal.defs (F := Ideal)) (onTc (τ := Cert.DevSumIdeal.τ) (Cert.DevSumIdeal.main (F := Ideal))) ⟨m, fun _ => 0, g⟩ (fun r => (∀ c : Dev Cert.DevSumIdeal.nD,
      r.2.mem ((c.tc : Thread Cert.DevSumIdeal.nD Cert.DevSumIdeal.τ).loc Cert.DevSumIdeal.main_arg0) = m ((c.tc : Thread Cert.DevSumIdeal.nD Cert.DevSumIdeal.τ).loc Cert.DevSumIdeal.main_arg0))
      ∧ r.2.sem = fun _ => 0)

def quiescent_DevSumRefIdeal [hDevSumRefIdeal : Cert.DevSumRefIdeal.Facts] : Prop :=
  ∀ (m : (ℓ : Loc Cert.DevSumRefIdeal.nD Cert.DevSumRefIdeal.τ Cert.DevSumRefIdeal.sig) → Buf (Elt Ideal) ℓ) (g : Dev Cert.DevSumRefIdeal.nD → PrngReg), Pre_DevSumRefIdeal m →
    θ_run (Cert.DevSumRefIdeal.defs (F := Ideal)) (onTc (τ := Cert.DevSumRefIdeal.τ) (Cert.DevSumRefIdeal.main (F := Ideal))) ⟨m, fun _ => 0, g⟩ (fun r => (∀ c : Dev Cert.DevSumRefIdeal.nD,
      r.2.mem ((c.tc : Thread Cert.DevSumRefIdeal.nD Cert.DevSumRefIdeal.τ).loc Cert.DevSumRefIdeal.main_arg0) = m ((c.tc : Thread Cert.DevSumRefIdeal.nD Cert.DevSumRefIdeal.τ).loc Cert.DevSumRefIdeal.main_arg0))
      ∧ r.2.sem = fun _ => 0)

def preserves_NormMem_NormMemIdeal : Prop :=
  True

def algebraic_NormMemIdeal_NormMemRefIdeal_pre_norm_mem_finite [hNormMemIdeal : Cert.NormMemIdeal.Facts] [hNormMemRefIdeal : Cert.NormMemRefIdeal.Facts] [hPre_norm_mem_finite : Cert.Pre_norm_mem_finite.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal_norm_mem_finite m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v0_0)) (v1 : (c : Dev Cert.NormMemIdeal.nD) → Buf (Elt Ideal) ((c.tc : Thread Cert.NormMemIdeal.nD Cert.NormMemIdeal.τ).loc Cert.NormMemIdeal.main_v0_1)) (v2 : (c : Dev Cert.NormMemIdeal.nD) → Buf (Elt Ideal) ((c.tc : Thread Cert.NormMemIdeal.nD Cert.NormMemIdeal.τ).loc Cert.NormMemIdeal.main_v0_2)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0_0) = v0 c
          ∧ r.2.mem ((c.tc : Thread Cert.NormMemIdeal.nD Cert.NormMemIdeal.τ).loc Cert.NormMemIdeal.main_v0_1) = v1 c
          ∧ r.2.mem ((c.tc : Thread Cert.NormMemIdeal.nD Cert.NormMemIdeal.τ).loc Cert.NormMemIdeal.main_v0_2) = v2 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v33) = v0 c
          ∧ r.2.mem ((c.tc : Thread Cert.NormMemRefIdeal.nD Cert.NormMemRefIdeal.τ).loc Cert.NormMemRefIdeal.main_v34) = v1 c
          ∧ r.2.mem ((c.tc : Thread Cert.NormMemRefIdeal.nD Cert.NormMemRefIdeal.τ).loc Cert.NormMemRefIdeal.main_v17) = v2 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_AttnBwd_AttnBwdIdeal : Prop :=
  True

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v71) = v0 c
          ∧ r.2.mem ((c.tc : Thread Cert.AttnBwdRefIdeal.nD Cert.AttnBwdRefIdeal.τ).loc Cert.AttnBwdRefIdeal.main_v69) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_FfnDx_FfnDxIdeal : Prop :=
  True

def algebraic_FfnDxIdeal_FfnDxRefIdeal_pre_ffn_dx_finite [hFfnDxIdeal : Cert.FfnDxIdeal.Facts] [hFfnDxRefIdeal : Cert.FfnDxRefIdeal.Facts] [hPre_ffn_dx_finite : Cert.Pre_ffn_dx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_ffn_dx_finite m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)
      ∧ m' ((c.tc : Thread Cert.FfnDxRefIdeal.nD Cert.FfnDxRefIdeal.τ).loc Cert.FfnDxRefIdeal.main_arg5) = m ((c.tc : Thread Cert.FfnDxIdeal.nD Cert.FfnDxIdeal.τ).loc Cert.FfnDxIdeal.main_arg5)
      ∧ m' ((c.tc : Thread Cert.FfnDxRefIdeal.nD Cert.FfnDxRefIdeal.τ).loc Cert.FfnDxRefIdeal.main_arg6) = m ((c.tc : Thread Cert.FfnDxIdeal.nD Cert.FfnDxIdeal.τ).loc Cert.FfnDxIdeal.main_arg6)) →
    ∃ (v0 : (c : Dev Cert.FfnDxIdeal.nD) → Buf (Elt Ideal) ((c.tc : Thread Cert.FfnDxIdeal.nD Cert.FfnDxIdeal.τ).loc Cert.FfnDxIdeal.main_v4_0)) (v1 : (c : Dev Cert.FfnDxIdeal.nD) → Buf (Elt Ideal) ((c.tc : Thread Cert.FfnDxIdeal.nD Cert.FfnDxIdeal.τ).loc Cert.FfnDxIdeal.main_v4_1)) (v2 : (c : Dev Cert.FfnDxIdeal.nD) → Buf (Elt Ideal) ((c.tc : Thread Cert.FfnDxIdeal.nD Cert.FfnDxIdeal.τ).loc Cert.FfnDxIdeal.main_v4_2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v4_0) = v0 c
          ∧ r.2.mem ((c.tc : Thread Cert.FfnDxIdeal.nD Cert.FfnDxIdeal.τ).loc Cert.FfnDxIdeal.main_v4_1) = v1 c
          ∧ r.2.mem ((c.tc : Thread Cert.FfnDxIdeal.nD Cert.FfnDxIdeal.τ).loc Cert.FfnDxIdeal.main_v4_2) = v2 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v41) = v0 c
          ∧ r.2.mem ((c.tc : Thread Cert.FfnDxRefIdeal.nD Cert.FfnDxRefIdeal.τ).loc Cert.FfnDxRefIdeal.main_v42) = v1 c
          ∧ r.2.mem ((c.tc : Thread Cert.FfnDxRefIdeal.nD Cert.FfnDxRefIdeal.τ).loc Cert.FfnDxRefIdeal.main_v24) = v2 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4)
          ∧ r.2.mem ((c.tc : Thread Cert.FfnDxRefIdeal.nD Cert.FfnDxRefIdeal.τ).loc Cert.FfnDxRefIdeal.main_arg5) = m' ((c.tc : Thread Cert.FfnDxRefIdeal.nD Cert.FfnDxRefIdeal.τ).loc Cert.FfnDxRefIdeal.main_arg5)
          ∧ r.2.mem ((c.tc : Thread Cert.FfnDxRefIdeal.nD Cert.FfnDxRefIdeal.τ).loc Cert.FfnDxRefIdeal.main_arg6) = m' ((c.tc : Thread Cert.FfnDxRefIdeal.nD Cert.FfnDxRefIdeal.τ).loc Cert.FfnDxRefIdeal.main_arg6))

def preserves_QDx_QDxIdeal : Prop :=
  True

def algebraic_QDxIdeal_QDxRefIdeal_pre_q_dx_finite [hQDxIdeal : Cert.QDxIdeal.Facts] [hQDxRefIdeal : Cert.QDxRefIdeal.Facts] [hPre_q_dx_finite : Cert.Pre_q_dx_finite.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal_q_dx_finite m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)
      ∧ m' ((c.tc : Thread Cert.QDxRefIdeal.nD Cert.QDxRefIdeal.τ).loc Cert.QDxRefIdeal.main_arg2) = m ((c.tc : Thread Cert.QDxIdeal.nD Cert.QDxIdeal.τ).loc Cert.QDxIdeal.main_arg2)
      ∧ m' ((c.tc : Thread Cert.QDxRefIdeal.nD Cert.QDxRefIdeal.τ).loc Cert.QDxRefIdeal.main_arg3) = m ((c.tc : Thread Cert.QDxIdeal.nD Cert.QDxIdeal.τ).loc Cert.QDxIdeal.main_arg3)
      ∧ m' ((c.tc : Thread Cert.QDxRefIdeal.nD Cert.QDxRefIdeal.τ).loc Cert.QDxRefIdeal.main_arg4) = m ((c.tc : Thread Cert.QDxIdeal.nD Cert.QDxIdeal.τ).loc Cert.QDxIdeal.main_arg4)) →
    ∃ (v0 : (c : Dev Cert.QDxIdeal.nD) → Buf (Elt Ideal) ((c.tc : Thread Cert.QDxIdeal.nD Cert.QDxIdeal.τ).loc Cert.QDxIdeal.main_v1_0)) (v1 : (c : Dev Cert.QDxIdeal.nD) → Buf (Elt Ideal) ((c.tc : Thread Cert.QDxIdeal.nD Cert.QDxIdeal.τ).loc Cert.QDxIdeal.main_v1_1)) (v2 : (c : Dev Cert.QDxIdeal.nD) → Buf (Elt Ideal) ((c.tc : Thread Cert.QDxIdeal.nD Cert.QDxIdeal.τ).loc Cert.QDxIdeal.main_v1_2)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v1_0) = v0 c
          ∧ r.2.mem ((c.tc : Thread Cert.QDxIdeal.nD Cert.QDxIdeal.τ).loc Cert.QDxIdeal.main_v1_1) = v1 c
          ∧ r.2.mem ((c.tc : Thread Cert.QDxIdeal.nD Cert.QDxIdeal.τ).loc Cert.QDxIdeal.main_v1_2) = v2 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
          ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
          ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
          ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v37) = v0 c
          ∧ r.2.mem ((c.tc : Thread Cert.QDxRefIdeal.nD Cert.QDxRefIdeal.τ).loc Cert.QDxRefIdeal.main_v38) = v1 c
          ∧ r.2.mem ((c.tc : Thread Cert.QDxRefIdeal.nD Cert.QDxRefIdeal.τ).loc Cert.QDxRefIdeal.main_v20) = v2 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1)
          ∧ r.2.mem ((c.tc : Thread Cert.QDxRefIdeal.nD Cert.QDxRefIdeal.τ).loc Cert.QDxRefIdeal.main_arg2) = m' ((c.tc : Thread Cert.QDxRefIdeal.nD Cert.QDxRefIdeal.τ).loc Cert.QDxRefIdeal.main_arg2)
          ∧ r.2.mem ((c.tc : Thread Cert.QDxRefIdeal.nD Cert.QDxRefIdeal.τ).loc Cert.QDxRefIdeal.main_arg3) = m' ((c.tc : Thread Cert.QDxRefIdeal.nD Cert.QDxRefIdeal.τ).loc Cert.QDxRefIdeal.main_arg3)
          ∧ r.2.mem ((c.tc : Thread Cert.QDxRefIdeal.nD Cert.QDxRefIdeal.τ).loc Cert.QDxRefIdeal.main_arg4) = m' ((c.tc : Thread Cert.QDxRefIdeal.nD Cert.QDxRefIdeal.τ).loc Cert.QDxRefIdeal.main_arg4))

def preserves_InDx_InDxIdeal : Prop :=
  True

def algebraic_InDxIdeal_InDxRefIdeal_pre_in_dx_finite [hInDxIdeal : Cert.InDxIdeal.Facts] [hInDxRefIdeal : Cert.InDxRefIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_in_dx_finite m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)) (v2 : (c : Dev Cert.InDxIdeal.nD) → Buf (Elt Ideal) ((c.tc : Thread Cert.InDxIdeal.nD Cert.InDxIdeal.τ).loc Cert.InDxIdeal.main_v2_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_v2_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v51) = v0 c
          ∧ r.2.mem ((c.tc : Thread Cert.InDxRefIdeal.nD Cert.InDxRefIdeal.τ).loc Cert.InDxRefIdeal.main_v52) = v1 c
          ∧ r.2.mem ((c.tc : Thread Cert.InDxRefIdeal.nD Cert.InDxRefIdeal.τ).loc Cert.InDxRefIdeal.main_v34) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7))

def preserves_FfnHead_FfnHeadIdeal : Prop :=
  True

def algebraic_FfnHeadIdeal_FfnHeadRefIdeal_pre_ffn_head_finite [hFfnHeadIdeal : Cert.FfnHeadIdeal.Facts] [hFfnHeadRefIdeal : Cert.FfnHeadRefIdeal.Facts] [hPre_ffn_head_finite : Cert.Pre_ffn_head_finite.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg)
    (m' : (ℓ : Loc Cert.FfnHeadRefIdeal.nD Cert.FfnHeadRefIdeal.τ Cert.FfnHeadRefIdeal.sig) → Buf (Elt Ideal) ℓ) (g' : Dev Cert.FfnHeadRefIdeal.nD → PrngReg), Pre_FfnHeadIdeal_ffn_head_finite m →
    (∀ c : Dev Cert.FfnHeadIdeal.nD,
      m' ((c.tc : Thread Cert.FfnHeadRefIdeal.nD Cert.FfnHeadRefIdeal.τ).loc Cert.FfnHeadRefIdeal.main_arg0) = m ((c.tc : Thread Cert.FfnHeadIdeal.nD Cert.FfnHeadIdeal.τ).loc Cert.FfnHeadIdeal.main_arg0)
      ∧ m' ((c.tc : Thread Cert.FfnHeadRefIdeal.nD Cert.FfnHeadRefIdeal.τ).loc Cert.FfnHeadRefIdeal.main_arg1) = m ((c.tc : Thread Cert.FfnHeadIdeal.nD Cert.FfnHeadIdeal.τ).loc Cert.FfnHeadIdeal.main_arg1)
      ∧ m' ((c.tc : Thread Cert.FfnHeadRefIdeal.nD Cert.FfnHeadRefIdeal.τ).loc Cert.FfnHeadRefIdeal.main_arg2) = m ((c.tc : Thread Cert.FfnHeadIdeal.nD Cert.FfnHeadIdeal.τ).loc Cert.FfnHeadIdeal.main_arg2)
      ∧ m' ((c.tc : Thread Cert.FfnHeadRefIdeal.nD Cert.FfnHeadRefIdeal.τ).loc Cert.FfnHeadRefIdeal.main_arg3) = m ((c.tc : Thread Cert.FfnHeadIdeal.nD Cert.FfnHeadIdeal.τ).loc Cert.FfnHeadIdeal.main_arg3)
      ∧ m' ((c.tc : Thread Cert.FfnHeadRefIdeal.nD Cert.FfnHeadRefIdeal.τ).loc Cert.FfnHeadRefIdeal.main_arg4) = m ((c.tc : Thread Cert.FfnHeadIdeal.nD Cert.FfnHeadIdeal.τ).loc Cert.FfnHeadIdeal.main_arg4)) →
    ∃ (v0 : (c : Dev Cert.FfnHeadIdeal.nD) → Buf (Elt Ideal) ((c.tc : Thread Cert.FfnHeadIdeal.nD Cert.FfnHeadIdeal.τ).loc Cert.FfnHeadIdeal.main_v1_0)) (v1 : (c : Dev Cert.FfnHeadIdeal.nD) → Buf (Elt Ideal) ((c.tc : Thread Cert.FfnHeadIdeal.nD Cert.FfnHeadIdeal.τ).loc Cert.FfnHeadIdeal.main_v1_1)) (v2 : (c : Dev Cert.FfnHeadIdeal.nD) → Buf (Elt Ideal) ((c.tc : Thread Cert.FfnHeadIdeal.nD Cert.FfnHeadIdeal.τ).loc Cert.FfnHeadIdeal.main_v1_2)) (v3 : (c : Dev Cert.FfnHeadIdeal.nD) → Buf (Elt Ideal) ((c.tc : Thread Cert.FfnHeadIdeal.nD Cert.FfnHeadIdeal.τ).loc Cert.FfnHeadIdeal.main_v1_3)),
      θ_run (Cert.FfnHeadIdeal.defs (F := Ideal)) (onTc (τ := Cert.FfnHeadIdeal.τ) (Cert.FfnHeadIdeal.main (F := Ideal))) ⟨m, fun _ => 0, g⟩ (fun r => ∀ c : Dev Cert.FfnHeadIdeal.nD,
          r.2.mem ((c.tc : Thread Cert.FfnHeadIdeal.nD Cert.FfnHeadIdeal.τ).loc Cert.FfnHeadIdeal.main_v1_0) = v0 c
          ∧ r.2.mem ((c.tc : Thread Cert.FfnHeadIdeal.nD Cert.FfnHeadIdeal.τ).loc Cert.FfnHeadIdeal.main_v1_1) = v1 c
          ∧ r.2.mem ((c.tc : Thread Cert.FfnHeadIdeal.nD Cert.FfnHeadIdeal.τ).loc Cert.FfnHeadIdeal.main_v1_2) = v2 c
          ∧ r.2.mem ((c.tc : Thread Cert.FfnHeadIdeal.nD Cert.FfnHeadIdeal.τ).loc Cert.FfnHeadIdeal.main_v1_3) = v3 c
          ∧ r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
          ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
          ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
          ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
          ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4))
      ∧ θ_run (Cert.FfnHeadRefIdeal.defs (F := Ideal)) (onTc (τ := Cert.FfnHeadRefIdeal.τ) (Cert.FfnHeadRefIdeal.main (F := Ideal))) ⟨m', fun _ => 0, g'⟩ (fun r => ∀ c : Dev Cert.FfnHeadRefIdeal.nD,
          r.2.mem ((c.tc : Thread Cert.FfnHeadRefIdeal.nD Cert.FfnHeadRefIdeal.τ).loc Cert.FfnHeadRefIdeal.main_v54) = v0 c
          ∧ r.2.mem ((c.tc : Thread Cert.FfnHeadRefIdeal.nD Cert.FfnHeadRefIdeal.τ).loc Cert.FfnHeadRefIdeal.main_v53) = v1 c
          ∧ r.2.mem ((c.tc : Thread Cert.FfnHeadRefIdeal.nD Cert.FfnHeadRefIdeal.τ).loc Cert.FfnHeadRefIdeal.main_v55) = v2 c
          ∧ r.2.mem ((c.tc : Thread Cert.FfnHeadRefIdeal.nD Cert.FfnHeadRefIdeal.τ).loc Cert.FfnHeadRefIdeal.main_v37) = v3 c
          ∧ r.2.mem ((c.tc : Thread Cert.FfnHeadRefIdeal.nD Cert.FfnHeadRefIdeal.τ).loc Cert.FfnHeadRefIdeal.main_arg0) = m' ((c.tc : Thread Cert.FfnHeadRefIdeal.nD Cert.FfnHeadRefIdeal.τ).loc Cert.FfnHeadRefIdeal.main_arg0)
          ∧ r.2.mem ((c.tc : Thread Cert.FfnHeadRefIdeal.nD Cert.FfnHeadRefIdeal.τ).loc Cert.FfnHeadRefIdeal.main_arg1) = m' ((c.tc : Thread Cert.FfnHeadRefIdeal.nD Cert.FfnHeadRefIdeal.τ).loc Cert.FfnHeadRefIdeal.main_arg1)
          ∧ r.2.mem ((c.tc : Thread Cert.FfnHeadRefIdeal.nD Cert.FfnHeadRefIdeal.τ).loc Cert.FfnHeadRefIdeal.main_arg2) = m' ((c.tc : Thread Cert.FfnHeadRefIdeal.nD Cert.FfnHeadRefIdeal.τ).loc Cert.FfnHeadRefIdeal.main_arg2)
          ∧ r.2.mem ((c.tc : Thread Cert.FfnHeadRefIdeal.nD Cert.FfnHeadRefIdeal.τ).loc Cert.FfnHeadRefIdeal.main_arg3) = m' ((c.tc : Thread Cert.FfnHeadRefIdeal.nD Cert.FfnHeadRefIdeal.τ).loc Cert.FfnHeadRefIdeal.main_arg3)
          ∧ r.2.mem ((c.tc : Thread Cert.FfnHeadRefIdeal.nD Cert.FfnHeadRefIdeal.τ).loc Cert.FfnHeadRefIdeal.main_arg4) = m' ((c.tc : Thread Cert.FfnHeadRefIdeal.nD Cert.FfnHeadRefIdeal.τ).loc Cert.FfnHeadRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v8_0)) (v1 : (c : Dev Cert.MergeBwdIdeal.nD) → Buf (Elt Ideal) ((c.tc : Thread Cert.MergeBwdIdeal.nD Cert.MergeBwdIdeal.τ).loc Cert.MergeBwdIdeal.main_v8_1)) (v2 : (c : Dev Cert.MergeBwdIdeal.nD) → Buf (Elt Ideal) ((c.tc : Thread Cert.MergeBwdIdeal.nD Cert.MergeBwdIdeal.τ).loc Cert.MergeBwdIdeal.main_v8_2)) (v3 : (c : Dev Cert.MergeBwdIdeal.nD) → Buf (Elt Ideal) ((c.tc : Thread Cert.MergeBwdIdeal.nD Cert.MergeBwdIdeal.τ).loc Cert.MergeBwdIdeal.main_v8_3)) (v4 : (c : Dev Cert.MergeBwdIdeal.nD) → Buf (Elt Ideal) ((c.tc : Thread Cert.MergeBwdIdeal.nD Cert.MergeBwdIdeal.τ).loc Cert.MergeBwdIdeal.main_v8_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v8_0) = v0 c
          ∧ r.2.mem ((c.tc : Thread Cert.MergeBwdIdeal.nD Cert.MergeBwdIdeal.τ).loc Cert.MergeBwdIdeal.main_v8_1) = v1 c
          ∧ r.2.mem ((c.tc : Thread Cert.MergeBwdIdeal.nD Cert.MergeBwdIdeal.τ).loc Cert.MergeBwdIdeal.main_v8_2) = v2 c
          ∧ r.2.mem ((c.tc : Thread Cert.MergeBwdIdeal.nD Cert.MergeBwdIdeal.τ).loc Cert.MergeBwdIdeal.main_v8_3) = v3 c
          ∧ r.2.mem ((c.tc : Thread Cert.MergeBwdIdeal.nD Cert.MergeBwdIdeal.τ).loc Cert.MergeBwdIdeal.main_v8_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v48) = v0 c
          ∧ r.2.mem ((c.tc : Thread Cert.MergeBwdRefIdeal.nD Cert.MergeBwdRefIdeal.τ).loc Cert.MergeBwdRefIdeal.main_v49) = v1 c
          ∧ r.2.mem ((c.tc : Thread Cert.MergeBwdRefIdeal.nD Cert.MergeBwdRefIdeal.τ).loc Cert.MergeBwdRefIdeal.main_v50) = v2 c
          ∧ r.2.mem ((c.tc : Thread Cert.MergeBwdRefIdeal.nD Cert.MergeBwdRefIdeal.τ).loc Cert.MergeBwdRefIdeal.main_v51) = v3 c
          ∧ r.2.mem ((c.tc : Thread Cert.MergeBwdRefIdeal.nD Cert.MergeBwdRefIdeal.τ).loc Cert.MergeBwdRefIdeal.main_v52) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_BwdAct_BwdActIdeal : Prop :=
  True

def algebraic_BwdActIdeal_BwdActRefIdeal_pre_bwd_act_finite [hBwdActIdeal : Cert.BwdActIdeal.Facts] [hBwdActRefIdeal : Cert.BwdActRefIdeal.Facts] [hPre_bwd_act_finite : Cert.Pre_bwd_act_finite.Facts] : Prop :=
  ∀ (m : (ℓ : Loc Cert.BwdActIdeal.nD Cert.BwdActIdeal.τ Cert.BwdActIdeal.sig) → Buf (Elt Ideal) ℓ) (g : Dev Cert.BwdActIdeal.nD → PrngReg)
    (m' : (ℓ : Loc Cert.BwdActRefIdeal.nD Cert.BwdActRefIdeal.τ Cert.BwdActRefIdeal.sig) → Buf (Elt Ideal) ℓ) (g' : Dev Cert.BwdActRefIdeal.nD → PrngReg), Pre_BwdActIdeal_bwd_act_finite m →
    (∀ c : Dev Cert.BwdActIdeal.nD,
      m' ((c.tc : Thread Cert.BwdActRefIdeal.nD Cert.BwdActRefIdeal.τ).loc Cert.BwdActRefIdeal.main_arg0) = m ((c.tc : Thread Cert.BwdActIdeal.nD Cert.BwdActIdeal.τ).loc Cert.BwdActIdeal.main_arg0)
      ∧ m' ((c.tc : Thread Cert.BwdActRefIdeal.nD Cert.BwdActRefIdeal.τ).loc Cert.BwdActRefIdeal.main_arg1) = m ((c.tc : Thread Cert.BwdActIdeal.nD Cert.BwdActIdeal.τ).loc Cert.BwdActIdeal.main_arg1)
      ∧ m' ((c.tc : Thread Cert.BwdActRefIdeal.nD Cert.BwdActRefIdeal.τ).loc Cert.BwdActRefIdeal.main_arg2) = m ((c.tc : Thread Cert.BwdActIdeal.nD Cert.BwdActIdeal.τ).loc Cert.BwdActIdeal.main_arg2)
      ∧ m' ((c.tc : Thread Cert.BwdActRefIdeal.nD Cert.BwdActRefIdeal.τ).loc Cert.BwdActRefIdeal.main_arg3) = m ((c.tc : Thread Cert.BwdActIdeal.nD Cert.BwdActIdeal.τ).loc Cert.BwdActIdeal.main_arg3)
      ∧ m' ((c.tc : Thread Cert.BwdActRefIdeal.nD Cert.BwdActRefIdeal.τ).loc Cert.BwdActRefIdeal.main_arg4) = m ((c.tc : Thread Cert.BwdActIdeal.nD Cert.BwdActIdeal.τ).loc Cert.BwdActIdeal.main_arg4)) →
    ∃ (v0 : (c : Dev Cert.BwdActIdeal.nD) → Buf (Elt Ideal) ((c.tc : Thread Cert.BwdActIdeal.nD Cert.BwdActIdeal.τ).loc Cert.BwdActIdeal.main_v6_0)) (v1 : (c : Dev Cert.BwdActIdeal.nD) → Buf (Elt Ideal) ((c.tc : Thread Cert.BwdActIdeal.nD Cert.BwdActIdeal.τ).loc Cert.BwdActIdeal.main_v6_1)),
      θ_run (Cert.BwdActIdeal.defs (F := Ideal)) (onTc (τ := Cert.BwdActIdeal.τ) (Cert.BwdActIdeal.main (F := Ideal))) ⟨m, fun _ => 0, g⟩ (fun r => ∀ c : Dev Cert.BwdActIdeal.nD,
          r.2.mem ((c.tc : Thread Cert.BwdActIdeal.nD Cert.BwdActIdeal.τ).loc Cert.BwdActIdeal.main_v6_0) = v0 c
          ∧ r.2.mem ((c.tc : Thread Cert.BwdActIdeal.nD Cert.BwdActIdeal.τ).loc Cert.BwdActIdeal.main_v6_1) = v1 c
          ∧ r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
          ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
          ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
          ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3)
          ∧ r.2.mem ((c.tc : Thread Cert.BwdActIdeal.nD Cert.BwdActIdeal.τ).loc Cert.BwdActIdeal.main_arg4) = m ((c.tc : Thread Cert.BwdActIdeal.nD Cert.BwdActIdeal.τ).loc Cert.BwdActIdeal.main_arg4))
      ∧ θ_run (Cert.BwdActRefIdeal.defs (F := Ideal)) (onTc (τ := Cert.BwdActRefIdeal.τ) (Cert.BwdActRefIdeal.main (F := Ideal))) ⟨m', fun _ => 0, g'⟩ (fun r => ∀ c : Dev Cert.BwdActRefIdeal.nD,
          r.2.mem ((c.tc : Thread Cert.BwdActRefIdeal.nD Cert.BwdActRefIdeal.τ).loc Cert.BwdActRefIdeal.main_v15) = v0 c
          ∧ r.2.mem ((c.tc : Thread Cert.BwdActRefIdeal.nD Cert.BwdActRefIdeal.τ).loc Cert.BwdActRefIdeal.main_v16) = v1 c
          ∧ r.2.mem ((c.tc : Thread Cert.BwdActRefIdeal.nD Cert.BwdActRefIdeal.τ).loc Cert.BwdActRefIdeal.main_arg0) = m' ((c.tc : Thread Cert.BwdActRefIdeal.nD Cert.BwdActRefIdeal.τ).loc Cert.BwdActRefIdeal.main_arg0)
          ∧ r.2.mem ((c.tc : Thread Cert.BwdActRefIdeal.nD Cert.BwdActRefIdeal.τ).loc Cert.BwdActRefIdeal.main_arg1) = m' ((c.tc : Thread Cert.BwdActRefIdeal.nD Cert.BwdActRefIdeal.τ).loc Cert.BwdActRefIdeal.main_arg1)
          ∧ r.2.mem ((c.tc : Thread Cert.BwdActRefIdeal.nD Cert.BwdActRefIdeal.τ).loc Cert.BwdActRefIdeal.main_arg2) = m' ((c.tc : Thread Cert.BwdActRefIdeal.nD Cert.BwdActRefIdeal.τ).loc Cert.BwdActRefIdeal.main_arg2)
          ∧ r.2.mem ((c.tc : Thread Cert.BwdActRefIdeal.nD Cert.BwdActRefIdeal.τ).loc Cert.BwdActRefIdeal.main_arg3) = m' ((c.tc : Thread Cert.BwdActRefIdeal.nD Cert.BwdActRefIdeal.τ).loc Cert.BwdActRefIdeal.main_arg3)
          ∧ r.2.mem ((c.tc : Thread Cert.BwdActRefIdeal.nD Cert.BwdActRefIdeal.τ).loc Cert.BwdActRefIdeal.main_arg4) = m' ((c.tc : Thread Cert.BwdActRefIdeal.nD Cert.BwdActRefIdeal.τ).loc Cert.BwdActRefIdeal.main_arg4))

def preserves_MixerDx_MixerDxIdeal : Prop :=
  IdealRules.named_const.Statement Cert.MixerDxIdeal.κ "gelu_k" .f32 0x3D372713#32 ((8943 / 200000 : ℝ) : EReal)
  ∧ IdealRules.named_const.Statement Cert.MixerDxIdeal.κ "gelu_3k" .f32 0x3E095D4F#32 ((26829 / 200000 : ℝ) : EReal)

def algebraic_MixerDxIdeal_MixerDxRefIdeal_pre_mixer_dx_finite [hMixerDxIdeal : Cert.MixerDxIdeal.Facts] [hMixerDxRefIdeal : Cert.MixerDxRefIdeal.Facts] [hPre_mixer_dx_finite : Cert.Pre_mixer_dx_finite.Facts] : Prop :=
  ∀ (m : (ℓ : Loc Cert.MixerDxIdeal.nD Cert.MixerDxIdeal.τ Cert.MixerDxIdeal.sig) → Buf (Elt Ideal) ℓ) (g : Dev Cert.MixerDxIdeal.nD → PrngReg)
    (m' : (ℓ : Loc Cert.MixerDxRefIdeal.nD Cert.MixerDxRefIdeal.τ Cert.MixerDxRefIdeal.sig) → Buf (Elt Ideal) ℓ) (g' : Dev Cert.MixerDxRefIdeal.nD → PrngReg), Pre_MixerDxIdeal_mixer_dx_finite m →
    (∀ c : Dev Cert.MixerDxIdeal.nD,
      m' ((c.tc : Thread Cert.MixerDxRefIdeal.nD Cert.MixerDxRefIdeal.τ).loc Cert.MixerDxRefIdeal.main_arg0) = m ((c.tc : Thread Cert.MixerDxIdeal.nD Cert.MixerDxIdeal.τ).loc Cert.MixerDxIdeal.main_arg0)
      ∧ m' ((c.tc : Thread Cert.MixerDxRefIdeal.nD Cert.MixerDxRefIdeal.τ).loc Cert.MixerDxRefIdeal.main_arg1) = m ((c.tc : Thread Cert.MixerDxIdeal.nD Cert.MixerDxIdeal.τ).loc Cert.MixerDxIdeal.main_arg1)
      ∧ m' ((c.tc : Thread Cert.MixerDxRefIdeal.nD Cert.MixerDxRefIdeal.τ).loc Cert.MixerDxRefIdeal.main_arg2) = m ((c.tc : Thread Cert.MixerDxIdeal.nD Cert.MixerDxIdeal.τ).loc Cert.MixerDxIdeal.main_arg2)
      ∧ m' ((c.tc : Thread Cert.MixerDxRefIdeal.nD Cert.MixerDxRefIdeal.τ).loc Cert.MixerDxRefIdeal.main_arg3) = m ((c.tc : Thread Cert.MixerDxIdeal.nD Cert.MixerDxIdeal.τ).loc Cert.MixerDxIdeal.main_arg3)
      ∧ m' ((c.tc : Thread Cert.MixerDxRefIdeal.nD Cert.MixerDxRefIdeal.τ).loc Cert.MixerDxRefIdeal.main_arg4) = m ((c.tc : Thread Cert.MixerDxIdeal.nD Cert.MixerDxIdeal.τ).loc Cert.MixerDxIdeal.main_arg4)
      ∧ m' ((c.tc : Thread Cert.MixerDxRefIdeal.nD Cert.MixerDxRefIdeal.τ).loc Cert.MixerDxRefIdeal.main_arg5) = m ((c.tc : Thread Cert.MixerDxIdeal.nD Cert.MixerDxIdeal.τ).loc Cert.MixerDxIdeal.main_arg5)
      ∧ m' ((c.tc : Thread Cert.MixerDxRefIdeal.nD Cert.MixerDxRefIdeal.τ).loc Cert.MixerDxRefIdeal.main_arg6) = m ((c.tc : Thread Cert.MixerDxIdeal.nD Cert.MixerDxIdeal.τ).loc Cert.MixerDxIdeal.main_arg6)) →
    ∃ (v0 : (c : Dev Cert.MixerDxIdeal.nD) → Buf (Elt Ideal) ((c.tc : Thread Cert.MixerDxIdeal.nD Cert.MixerDxIdeal.τ).loc Cert.MixerDxIdeal.main_v8_0)) (v1 : (c : Dev Cert.MixerDxIdeal.nD) → Buf (Elt Ideal) ((c.tc : Thread Cert.MixerDxIdeal.nD Cert.MixerDxIdeal.τ).loc Cert.MixerDxIdeal.main_v8_1)) (v2 : (c : Dev Cert.MixerDxIdeal.nD) → Buf (Elt Ideal) ((c.tc : Thread Cert.MixerDxIdeal.nD Cert.MixerDxIdeal.τ).loc Cert.MixerDxIdeal.main_v8_2)),
      θ_run (Cert.MixerDxIdeal.defs (F := Ideal)) (onTc (τ := Cert.MixerDxIdeal.τ) (Cert.MixerDxIdeal.main (F := Ideal))) ⟨m, fun _ => 0, g⟩ (fun r => ∀ c : Dev Cert.MixerDxIdeal.nD,
          r.2.mem ((c.tc : Thread Cert.MixerDxIdeal.nD Cert.MixerDxIdeal.τ).loc Cert.MixerDxIdeal.main_v8_0) = v0 c
          ∧ r.2.mem ((c.tc : Thread Cert.MixerDxIdeal.nD Cert.MixerDxIdeal.τ).loc Cert.MixerDxIdeal.main_v8_1) = v1 c
          ∧ r.2.mem ((c.tc : Thread Cert.MixerDxIdeal.nD Cert.MixerDxIdeal.τ).loc Cert.MixerDxIdeal.main_v8_2) = v2 c
          ∧ r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
          ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
          ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
          ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
          ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4)
          ∧ r.2.mem ((c.tc : Thread Cert.MixerDxIdeal.nD Cert.MixerDxIdeal.τ).loc Cert.MixerDxIdeal.main_arg5) = m ((c.tc : Thread Cert.MixerDxIdeal.nD Cert.MixerDxIdeal.τ).loc Cert.MixerDxIdeal.main_arg5)
          ∧ r.2.mem ((c.tc : Thread Cert.MixerDxIdeal.nD Cert.MixerDxIdeal.τ).loc Cert.MixerDxIdeal.main_arg6) = m ((c.tc : Thread Cert.MixerDxIdeal.nD Cert.MixerDxIdeal.τ).loc Cert.MixerDxIdeal.main_arg6))
      ∧ θ_run (Cert.MixerDxRefIdeal.defs (F := Ideal)) (onTc (τ := Cert.MixerDxRefIdeal.τ) (Cert.MixerDxRefIdeal.main (F := Ideal))) ⟨m', fun _ => 0, g'⟩ (fun r => ∀ c : Dev Cert.MixerDxRefIdeal.nD,
          r.2.mem ((c.tc : Thread Cert.MixerDxRefIdeal.nD Cert.MixerDxRefIdeal.τ).loc Cert.MixerDxRefIdeal.main_v0_0) = v0 c
          ∧ r.2.mem ((c.tc : Thread Cert.MixerDxRefIdeal.nD Cert.MixerDxRefIdeal.τ).loc Cert.MixerDxRefIdeal.main_v0_1) = v1 c
          ∧ r.2.mem ((c.tc : Thread Cert.MixerDxRefIdeal.nD Cert.MixerDxRefIdeal.τ).loc Cert.MixerDxRefIdeal.main_v0_2) = v2 c
          ∧ r.2.mem ((c.tc : Thread Cert.MixerDxRefIdeal.nD Cert.MixerDxRefIdeal.τ).loc Cert.MixerDxRefIdeal.main_arg0) = m' ((c.tc : Thread Cert.MixerDxRefIdeal.nD Cert.MixerDxRefIdeal.τ).loc Cert.MixerDxRefIdeal.main_arg0)
          ∧ r.2.mem ((c.tc : Thread Cert.MixerDxRefIdeal.nD Cert.MixerDxRefIdeal.τ).loc Cert.MixerDxRefIdeal.main_arg1) = m' ((c.tc : Thread Cert.MixerDxRefIdeal.nD Cert.MixerDxRefIdeal.τ).loc Cert.MixerDxRefIdeal.main_arg1)
          ∧ r.2.mem ((c.tc : Thread Cert.MixerDxRefIdeal.nD Cert.MixerDxRefIdeal.τ).loc Cert.MixerDxRefIdeal.main_arg2) = m' ((c.tc : Thread Cert.MixerDxRefIdeal.nD Cert.MixerDxRefIdeal.τ).loc Cert.MixerDxRefIdeal.main_arg2)
          ∧ r.2.mem ((c.tc : Thread Cert.MixerDxRefIdeal.nD Cert.MixerDxRefIdeal.τ).loc Cert.MixerDxRefIdeal.main_arg3) = m' ((c.tc : Thread Cert.MixerDxRefIdeal.nD Cert.MixerDxRefIdeal.τ).loc Cert.MixerDxRefIdeal.main_arg3)
          ∧ r.2.mem ((c.tc : Thread Cert.MixerDxRefIdeal.nD Cert.MixerDxRefIdeal.τ).loc Cert.MixerDxRefIdeal.main_arg4) = m' ((c.tc : Thread Cert.MixerDxRefIdeal.nD Cert.MixerDxRefIdeal.τ).loc Cert.MixerDxRefIdeal.main_arg4)
          ∧ r.2.mem ((c.tc : Thread Cert.MixerDxRefIdeal.nD Cert.MixerDxRefIdeal.τ).loc Cert.MixerDxRefIdeal.main_arg5) = m' ((c.tc : Thread Cert.MixerDxRefIdeal.nD Cert.MixerDxRefIdeal.τ).loc Cert.MixerDxRefIdeal.main_arg5)
          ∧ r.2.mem ((c.tc : Thread Cert.MixerDxRefIdeal.nD Cert.MixerDxRefIdeal.τ).loc Cert.MixerDxRefIdeal.main_arg6) = m' ((c.tc : Thread Cert.MixerDxRefIdeal.nD Cert.MixerDxRefIdeal.τ).loc Cert.MixerDxRefIdeal.main_arg6))

def preserves_SsmDs_SsmDsIdeal : Prop :=
  True

def algebraic_SsmDsIdeal_SsmDsRefIdeal [hSsmDsIdeal : Cert.SsmDsIdeal.Facts] [hSsmDsRefIdeal : Cert.SsmDsRefIdeal.Facts] : Prop :=
  ∀ (m : (ℓ : Loc Cert.SsmDsIdeal.nD Cert.SsmDsIdeal.τ Cert.SsmDsIdeal.sig) → Buf (Elt Ideal) ℓ) (g : Dev Cert.SsmDsIdeal.nD → PrngReg)
    (m' : (ℓ : Loc Cert.SsmDsRefIdeal.nD Cert.SsmDsRefIdeal.τ Cert.SsmDsRefIdeal.sig) → Buf (Elt Ideal) ℓ) (g' : Dev Cert.SsmDsRefIdeal.nD → PrngReg), Pre_SsmDsIdeal m →
    (∀ c : Dev Cert.SsmDsIdeal.nD,
      m' ((c.tc : Thread Cert.SsmDsRefIdeal.nD Cert.SsmDsRefIdeal.τ).loc Cert.SsmDsRefIdeal.main_arg0) = m ((c.tc : Thread Cert.SsmDsIdeal.nD Cert.SsmDsIdeal.τ).loc Cert.SsmDsIdeal.main_arg0)
      ∧ m' ((c.tc : Thread Cert.SsmDsRefIdeal.nD Cert.SsmDsRefIdeal.τ).loc Cert.SsmDsRefIdeal.main_arg1) = m ((c.tc : Thread Cert.SsmDsIdeal.nD Cert.SsmDsIdeal.τ).loc Cert.SsmDsIdeal.main_arg1)
      ∧ m' ((c.tc : Thread Cert.SsmDsRefIdeal.nD Cert.SsmDsRefIdeal.τ).loc Cert.SsmDsRefIdeal.main_arg2) = m ((c.tc : Thread Cert.SsmDsIdeal.nD Cert.SsmDsIdeal.τ).loc Cert.SsmDsIdeal.main_arg2)
      ∧ m' ((c.tc : Thread Cert.SsmDsRefIdeal.nD Cert.SsmDsRefIdeal.τ).loc Cert.SsmDsRefIdeal.main_arg3) = m ((c.tc : Thread Cert.SsmDsIdeal.nD Cert.SsmDsIdeal.τ).loc Cert.SsmDsIdeal.main_arg3)
      ∧ m' ((c.tc : Thread Cert.SsmDsRefIdeal.nD Cert.SsmDsRefIdeal.τ).loc Cert.SsmDsRefIdeal.main_arg4) = m ((c.tc : Thread Cert.SsmDsIdeal.nD Cert.SsmDsIdeal.τ).loc Cert.SsmDsIdeal.main_arg4)) →
    ∃ (v0 : (c : Dev Cert.SsmDsIdeal.nD) → Buf (Elt Ideal) ((c.tc : Thread Cert.SsmDsIdeal.nD Cert.SsmDsIdeal.τ).loc Cert.SsmDsIdeal.main_v0_0)) (v1 : (c : Dev Cert.SsmDsIdeal.nD) → Buf (Elt Ideal) ((c.tc : Thread Cert.SsmDsIdeal.nD Cert.SsmDsIdeal.τ).loc Cert.SsmDsIdeal.main_v0_1)),
      θ_run (Cert.SsmDsIdeal.defs (F := Ideal)) (onTc (τ := Cert.SsmDsIdeal.τ) (Cert.SsmDsIdeal.main (F := Ideal))) ⟨m, fun _ => 0, g⟩ (fun r => ∀ c : Dev Cert.SsmDsIdeal.nD,
          r.2.mem ((c.tc : Thread Cert.SsmDsIdeal.nD Cert.SsmDsIdeal.τ).loc Cert.SsmDsIdeal.main_v0_0) = v0 c
          ∧ r.2.mem ((c.tc : Thread Cert.SsmDsIdeal.nD Cert.SsmDsIdeal.τ).loc Cert.SsmDsIdeal.main_v0_1) = v1 c
          ∧ r.2.mem ((c.tc : Thread Cert.SsmDsIdeal.nD Cert.SsmDsIdeal.τ).loc Cert.SsmDsIdeal.main_arg0) = m ((c.tc : Thread Cert.SsmDsIdeal.nD Cert.SsmDsIdeal.τ).loc Cert.SsmDsIdeal.main_arg0)
          ∧ r.2.mem ((c.tc : Thread Cert.SsmDsIdeal.nD Cert.SsmDsIdeal.τ).loc Cert.SsmDsIdeal.main_arg1) = m ((c.tc : Thread Cert.SsmDsIdeal.nD Cert.SsmDsIdeal.τ).loc Cert.SsmDsIdeal.main_arg1)
          ∧ r.2.mem ((c.tc : Thread Cert.SsmDsIdeal.nD Cert.SsmDsIdeal.τ).loc Cert.SsmDsIdeal.main_arg2) = m ((c.tc : Thread Cert.SsmDsIdeal.nD Cert.SsmDsIdeal.τ).loc Cert.SsmDsIdeal.main_arg2)
          ∧ r.2.mem ((c.tc : Thread Cert.SsmDsIdeal.nD Cert.SsmDsIdeal.τ).loc Cert.SsmDsIdeal.main_arg3) = m ((c.tc : Thread Cert.SsmDsIdeal.nD Cert.SsmDsIdeal.τ).loc Cert.SsmDsIdeal.main_arg3)
          ∧ r.2.mem ((c.tc : Thread Cert.SsmDsIdeal.nD Cert.SsmDsIdeal.τ).loc Cert.SsmDsIdeal.main_arg4) = m ((c.tc : Thread Cert.SsmDsIdeal.nD Cert.SsmDsIdeal.τ).loc Cert.SsmDsIdeal.main_arg4))
      ∧ θ_run (Cert.SsmDsRefIdeal.defs (F := Ideal)) (onTc (τ := Cert.SsmDsRefIdeal.τ) (Cert.SsmDsRefIdeal.main (F := Ideal))) ⟨m', fun _ => 0, g'⟩ (fun r => ∀ c : Dev Cert.SsmDsRefIdeal.nD,
          r.2.mem ((c.tc : Thread Cert.SsmDsRefIdeal.nD Cert.SsmDsRefIdeal.τ).loc Cert.SsmDsRefIdeal.main_v10) = v0 c
          ∧ r.2.mem ((c.tc : Thread Cert.SsmDsRefIdeal.nD Cert.SsmDsRefIdeal.τ).loc Cert.SsmDsRefIdeal.main_v6) = v1 c
          ∧ r.2.mem ((c.tc : Thread Cert.SsmDsRefIdeal.nD Cert.SsmDsRefIdeal.τ).loc Cert.SsmDsRefIdeal.main_arg0) = m' ((c.tc : Thread Cert.SsmDsRefIdeal.nD Cert.SsmDsRefIdeal.τ).loc Cert.SsmDsRefIdeal.main_arg0)
          ∧ r.2.mem ((c.tc : Thread Cert.SsmDsRefIdeal.nD Cert.SsmDsRefIdeal.τ).loc Cert.SsmDsRefIdeal.main_arg1) = m' ((c.tc : Thread Cert.SsmDsRefIdeal.nD Cert.SsmDsRefIdeal.τ).loc Cert.SsmDsRefIdeal.main_arg1)
          ∧ r.2.mem ((c.tc : Thread Cert.SsmDsRefIdeal.nD Cert.SsmDsRefIdeal.τ).loc Cert.SsmDsRefIdeal.main_arg2) = m' ((c.tc : Thread Cert.SsmDsRefIdeal.nD Cert.SsmDsRefIdeal.τ).loc Cert.SsmDsRefIdeal.main_arg2)
          ∧ r.2.mem ((c.tc : Thread Cert.SsmDsRefIdeal.nD Cert.SsmDsRefIdeal.τ).loc Cert.SsmDsRefIdeal.main_arg3) = m' ((c.tc : Thread Cert.SsmDsRefIdeal.nD Cert.SsmDsRefIdeal.τ).loc Cert.SsmDsRefIdeal.main_arg3)
          ∧ r.2.mem ((c.tc : Thread Cert.SsmDsRefIdeal.nD Cert.SsmDsRefIdeal.τ).loc Cert.SsmDsRefIdeal.main_arg4) = m' ((c.tc : Thread Cert.SsmDsRefIdeal.nD Cert.SsmDsRefIdeal.τ).loc Cert.SsmDsRefIdeal.main_arg4))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v67_0)) (v1 : (c : Dev Cert.PoolBwdIdeal.nD) → Buf (Elt Ideal) ((c.tc : Thread Cert.PoolBwdIdeal.nD Cert.PoolBwdIdeal.τ).loc Cert.PoolBwdIdeal.main_v67_1)) (v2 : (c : Dev Cert.PoolBwdIdeal.nD) → Buf (Elt Ideal) ((c.tc : Thread Cert.PoolBwdIdeal.nD Cert.PoolBwdIdeal.τ).loc Cert.PoolBwdIdeal.main_v67_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v67_0) = v0 c
          ∧ r.2.mem ((c.tc : Thread Cert.PoolBwdIdeal.nD Cert.PoolBwdIdeal.τ).loc Cert.PoolBwdIdeal.main_v67_1) = v1 c
          ∧ r.2.mem ((c.tc : Thread Cert.PoolBwdIdeal.nD Cert.PoolBwdIdeal.τ).loc Cert.PoolBwdIdeal.main_v67_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v93) = v0 c
          ∧ r.2.mem ((c.tc : Thread Cert.PoolBwdRefIdeal.nD Cert.PoolBwdRefIdeal.τ).loc Cert.PoolBwdRefIdeal.main_v70) = v1 c
          ∧ r.2.mem ((c.tc : Thread Cert.PoolBwdRefIdeal.nD Cert.PoolBwdRefIdeal.τ).loc Cert.PoolBwdRefIdeal.main_v78) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_PrepBwd_PrepBwdIdeal : Prop :=
  True

def algebraic_PrepBwdIdeal_PrepBwdRefIdeal_pre_prep_bwd_finite [hPrepBwdIdeal : Cert.PrepBwdIdeal.Facts] [hPrepBwdRefIdeal : Cert.PrepBwdRefIdeal.Facts] [hPre_prep_bwd_finite : Cert.Pre_prep_bwd_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepBwdRefIdeal.nD Cert.PrepBwdRefIdeal.τ Cert.PrepBwdRefIdeal.sig) → Buf (Elt Ideal) ℓ) (g' : Dev Cert.PrepBwdRefIdeal.nD → PrngReg), Pre_PrepBwdIdeal_prep_bwd_finite m →
    (∀ c : Dev Cert.PrepBwdIdeal.nD,
      m' ((c.tc : Thread Cert.PrepBwdRefIdeal.nD Cert.PrepBwdRefIdeal.τ).loc Cert.PrepBwdRefIdeal.main_arg0) = m ((c.tc : Thread Cert.PrepBwdIdeal.nD Cert.PrepBwdIdeal.τ).loc Cert.PrepBwdIdeal.main_arg0)
      ∧ m' ((c.tc : Thread Cert.PrepBwdRefIdeal.nD Cert.PrepBwdRefIdeal.τ).loc Cert.PrepBwdRefIdeal.main_arg1) = m ((c.tc : Thread Cert.PrepBwdIdeal.nD Cert.PrepBwdIdeal.τ).loc Cert.PrepBwdIdeal.main_arg1)
      ∧ m' ((c.tc : Thread Cert.PrepBwdRefIdeal.nD Cert.PrepBwdRefIdeal.τ).loc Cert.PrepBwdRefIdeal.main_arg2) = m ((c.tc : Thread Cert.PrepBwdIdeal.nD Cert.PrepBwdIdeal.τ).loc Cert.PrepBwdIdeal.main_arg2)
      ∧ m' ((c.tc : Thread Cert.PrepBwdRefIdeal.nD Cert.PrepBwdRefIdeal.τ).loc Cert.PrepBwdRefIdeal.main_arg3) = m ((c.tc : Thread Cert.PrepBwdIdeal.nD Cert.PrepBwdIdeal.τ).loc Cert.PrepBwdIdeal.main_arg3)
      ∧ m' ((c.tc : Thread Cert.PrepBwdRefIdeal.nD Cert.PrepBwdRefIdeal.τ).loc Cert.PrepBwdRefIdeal.main_arg4) = m ((c.tc : Thread Cert.PrepBwdIdeal.nD Cert.PrepBwdIdeal.τ).loc Cert.PrepBwdIdeal.main_arg4)
      ∧ m' ((c.tc : Thread Cert.PrepBwdRefIdeal.nD Cert.PrepBwdRefIdeal.τ).loc Cert.PrepBwdRefIdeal.main_arg5) = m ((c.tc : Thread Cert.PrepBwdIdeal.nD Cert.PrepBwdIdeal.τ).loc Cert.PrepBwdIdeal.main_arg5)
      ∧ m' ((c.tc : Thread Cert.PrepBwdRefIdeal.nD Cert.PrepBwdRefIdeal.τ).loc Cert.PrepBwdRefIdeal.main_arg6) = m ((c.tc : Thread Cert.PrepBwdIdeal.nD Cert.PrepBwdIdeal.τ).loc Cert.PrepBwdIdeal.main_arg6)
      ∧ m' ((c.tc : Thread Cert.PrepBwdRefIdeal.nD Cert.PrepBwdRefIdeal.τ).loc Cert.PrepBwdRefIdeal.main_arg7) = m ((c.tc : Thread Cert.PrepBwdIdeal.nD Cert.PrepBwdIdeal.τ).loc Cert.PrepBwdIdeal.main_arg7)
      ∧ m' ((c.tc : Thread Cert.PrepBwdRefIdeal.nD Cert.PrepBwdRefIdeal.τ).loc Cert.PrepBwdRefIdeal.main_arg8) = m ((c.tc : Thread Cert.PrepBwdIdeal.nD Cert.PrepBwdIdeal.τ).loc Cert.PrepBwdIdeal.main_arg8)
      ∧ m' ((c.tc : Thread Cert.PrepBwdRefIdeal.nD Cert.PrepBwdRefIdeal.τ).loc Cert.PrepBwdRefIdeal.main_arg9) = m ((c.tc : Thread Cert.PrepBwdIdeal.nD Cert.PrepBwdIdeal.τ).loc Cert.PrepBwdIdeal.main_arg9)
      ∧ m' ((c.tc : Thread Cert.PrepBwdRefIdeal.nD Cert.PrepBwdRefIdeal.τ).loc Cert.PrepBwdRefIdeal.main_arg10) = m ((c.tc : Thread Cert.PrepBwdIdeal.nD Cert.PrepBwdIdeal.τ).loc Cert.PrepBwdIdeal.main_arg10)
      ∧ m' ((c.tc : Thread Cert.PrepBwdRefIdeal.nD Cert.PrepBwdRefIdeal.τ).loc Cert.PrepBwdRefIdeal.main_arg11) = m ((c.tc : Thread Cert.PrepBwdIdeal.nD Cert.PrepBwdIdeal.τ).loc Cert.PrepBwdIdeal.main_arg11)
      ∧ m' ((c.tc : Thread Cert.PrepBwdRefIdeal.nD Cert.PrepBwdRefIdeal.τ).loc Cert.PrepBwdRefIdeal.main_arg12) = m ((c.tc : Thread Cert.PrepBwdIdeal.nD Cert.PrepBwdIdeal.τ).loc Cert.PrepBwdIdeal.main_arg12)) →
    ∃ (v0 : (c : Dev Cert.PrepBwdIdeal.nD) → Buf (Elt Ideal) ((c.tc : Thread Cert.PrepBwdIdeal.nD Cert.PrepBwdIdeal.τ).loc Cert.PrepBwdIdeal.main_v16)) (v1 : (c : Dev Cert.PrepBwdIdeal.nD) → Buf (Elt Ideal) ((c.tc : Thread Cert.PrepBwdIdeal.nD Cert.PrepBwdIdeal.τ).loc Cert.PrepBwdIdeal.main_v19)) (v2 : (c : Dev Cert.PrepBwdIdeal.nD) → Buf (Elt Ideal) ((c.tc : Thread Cert.PrepBwdIdeal.nD Cert.PrepBwdIdeal.τ).loc Cert.PrepBwdIdeal.main_v22)) (v3 : (c : Dev Cert.PrepBwdIdeal.nD) → Buf (Elt Ideal) ((c.tc : Thread Cert.PrepBwdIdeal.nD Cert.PrepBwdIdeal.τ).loc Cert.PrepBwdIdeal.main_v23)) (v4 : (c : Dev Cert.PrepBwdIdeal.nD) → Buf (Elt Ideal) ((c.tc : Thread Cert.PrepBwdIdeal.nD Cert.PrepBwdIdeal.τ).loc Cert.PrepBwdIdeal.main_v24)) (v5 : (c : Dev Cert.PrepBwdIdeal.nD) → Buf (Elt Ideal) ((c.tc : Thread Cert.PrepBwdIdeal.nD Cert.PrepBwdIdeal.τ).loc Cert.PrepBwdIdeal.main_v25)) (v6 : (c : Dev Cert.PrepBwdIdeal.nD) → Buf (Elt Ideal) ((c.tc : Thread Cert.PrepBwdIdeal.nD Cert.PrepBwdIdeal.τ).loc Cert.PrepBwdIdeal.main_v26)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v16) = v0 c
          ∧ r.2.mem ((c.tc : Thread Cert.PrepBwdIdeal.nD Cert.PrepBwdIdeal.τ).loc Cert.PrepBwdIdeal.main_v19) = v1 c
          ∧ r.2.mem ((c.tc : Thread Cert.PrepBwdIdeal.nD Cert.PrepBwdIdeal.τ).loc Cert.PrepBwdIdeal.main_v22) = v2 c
          ∧ r.2.mem ((c.tc : Thread Cert.PrepBwdIdeal.nD Cert.PrepBwdIdeal.τ).loc Cert.PrepBwdIdeal.main_v23) = v3 c
          ∧ r.2.mem ((c.tc : Thread Cert.PrepBwdIdeal.nD Cert.PrepBwdIdeal.τ).loc Cert.PrepBwdIdeal.main_v24) = v4 c
          ∧ r.2.mem ((c.tc : Thread Cert.PrepBwdIdeal.nD Cert.PrepBwdIdeal.τ).loc Cert.PrepBwdIdeal.main_v25) = v5 c
          ∧ r.2.mem ((c.tc : Thread Cert.PrepBwdIdeal.nD Cert.PrepBwdIdeal.τ).loc Cert.PrepBwdIdeal.main_v26) = v6 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
          ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8)
          ∧ r.2.mem ((c.tc : Thread Cert.PrepBwdIdeal.nD Cert.PrepBwdIdeal.τ).loc Cert.PrepBwdIdeal.main_arg9) = m ((c.tc : Thread Cert.PrepBwdIdeal.nD Cert.PrepBwdIdeal.τ).loc Cert.PrepBwdIdeal.main_arg9)
          ∧ r.2.mem ((c.tc : Thread Cert.PrepBwdIdeal.nD Cert.PrepBwdIdeal.τ).loc Cert.PrepBwdIdeal.main_arg10) = m ((c.tc : Thread Cert.PrepBwdIdeal.nD Cert.PrepBwdIdeal.τ).loc Cert.PrepBwdIdeal.main_arg10)
          ∧ r.2.mem ((c.tc : Thread Cert.PrepBwdIdeal.nD Cert.PrepBwdIdeal.τ).loc Cert.PrepBwdIdeal.main_arg11) = m ((c.tc : Thread Cert.PrepBwdIdeal.nD Cert.PrepBwdIdeal.τ).loc Cert.PrepBwdIdeal.main_arg11)
          ∧ r.2.mem ((c.tc : Thread Cert.PrepBwdIdeal.nD Cert.PrepBwdIdeal.τ).loc Cert.PrepBwdIdeal.main_arg12) = m ((c.tc : Thread Cert.PrepBwdIdeal.nD Cert.PrepBwdIdeal.τ).loc Cert.PrepBwdIdeal.main_arg12))
      ∧ θ_run (Cert.PrepBwdRefIdeal.defs (F := Ideal)) (onTc (τ := Cert.PrepBwdRefIdeal.τ) (Cert.PrepBwdRefIdeal.main (F := Ideal))) ⟨m', fun _ => 0, g'⟩ (fun r => ∀ c : Dev Cert.PrepBwdRefIdeal.nD,
          r.2.mem ((c.tc : Thread Cert.PrepBwdRefIdeal.nD Cert.PrepBwdRefIdeal.τ).loc Cert.PrepBwdRefIdeal.main_v218) = v0 c
          ∧ r.2.mem ((c.tc : Thread Cert.PrepBwdRefIdeal.nD Cert.PrepBwdRefIdeal.τ).loc Cert.PrepBwdRefIdeal.main_v211) = v1 c
          ∧ r.2.mem ((c.tc : Thread Cert.PrepBwdRefIdeal.nD Cert.PrepBwdRefIdeal.τ).loc Cert.PrepBwdRefIdeal.main_v224) = v2 c
          ∧ r.2.mem ((c.tc : Thread Cert.PrepBwdRefIdeal.nD Cert.PrepBwdRefIdeal.τ).loc Cert.PrepBwdRefIdeal.main_v225) = v3 c
          ∧ r.2.mem ((c.tc : Thread Cert.PrepBwdRefIdeal.nD Cert.PrepBwdRefIdeal.τ).loc Cert.PrepBwdRefIdeal.main_v226) = v4 c
          ∧ r.2.mem ((c.tc : Thread Cert.PrepBwdRefIdeal.nD Cert.PrepBwdRefIdeal.τ).loc Cert.PrepBwdRefIdeal.main_v119) = v5 c
          ∧ r.2.mem ((c.tc : Thread Cert.PrepBwdRefIdeal.nD Cert.PrepBwdRefIdeal.τ).loc Cert.PrepBwdRefIdeal.main_v120) = v6 c
          ∧ r.2.mem ((c.tc : Thread Cert.PrepBwdRefIdeal.nD Cert.PrepBwdRefIdeal.τ).loc Cert.PrepBwdRefIdeal.main_arg0) = m' ((c.tc : Thread Cert.PrepBwdRefIdeal.nD Cert.PrepBwdRefIdeal.τ).loc Cert.PrepBwdRefIdeal.main_arg0)
          ∧ r.2.mem ((c.tc : Thread Cert.PrepBwdRefIdeal.nD Cert.PrepBwdRefIdeal.τ).loc Cert.PrepBwdRefIdeal.main_arg1) = m' ((c.tc : Thread Cert.PrepBwdRefIdeal.nD Cert.PrepBwdRefIdeal.τ).loc Cert.PrepBwdRefIdeal.main_arg1)
          ∧ r.2.mem ((c.tc : Thread Cert.PrepBwdRefIdeal.nD Cert.PrepBwdRefIdeal.τ).loc Cert.PrepBwdRefIdeal.main_arg2) = m' ((c.tc : Thread Cert.PrepBwdRefIdeal.nD Cert.PrepBwdRefIdeal.τ).loc Cert.PrepBwdRefIdeal.main_arg2)
          ∧ r.2.mem ((c.tc : Thread Cert.PrepBwdRefIdeal.nD Cert.PrepBwdRefIdeal.τ).loc Cert.PrepBwdRefIdeal.main_arg3) = m' ((c.tc : Thread Cert.PrepBwdRefIdeal.nD Cert.PrepBwdRefIdeal.τ).loc Cert.PrepBwdRefIdeal.main_arg3)
          ∧ r.2.mem ((c.tc : Thread Cert.PrepBwdRefIdeal.nD Cert.PrepBwdRefIdeal.τ).loc Cert.PrepBwdRefIdeal.main_arg4) = m' ((c.tc : Thread Cert.PrepBwdRefIdeal.nD Cert.PrepBwdRefIdeal.τ).loc Cert.PrepBwdRefIdeal.main_arg4)
          ∧ r.2.mem ((c.tc : Thread Cert.PrepBwdRefIdeal.nD Cert.PrepBwdRefIdeal.τ).loc Cert.PrepBwdRefIdeal.main_arg5) = m' ((c.tc : Thread Cert.PrepBwdRefIdeal.nD Cert.PrepBwdRefIdeal.τ).loc Cert.PrepBwdRefIdeal.main_arg5)
          ∧ r.2.mem ((c.tc : Thread Cert.PrepBwdRefIdeal.nD Cert.PrepBwdRefIdeal.τ).loc Cert.PrepBwdRefIdeal.main_arg6) = m' ((c.tc : Thread Cert.PrepBwdRefIdeal.nD Cert.PrepBwdRefIdeal.τ).loc Cert.PrepBwdRefIdeal.main_arg6)
          ∧ r.2.mem ((c.tc : Thread Cert.PrepBwdRefIdeal.nD Cert.PrepBwdRefIdeal.τ).loc Cert.PrepBwdRefIdeal.main_arg7) = m' ((c.tc : Thread Cert.PrepBwdRefIdeal.nD Cert.PrepBwdRefIdeal.τ).loc Cert.PrepBwdRefIdeal.main_arg7)
          ∧ r.2.mem ((c.tc : Thread Cert.PrepBwdRefIdeal.nD Cert.PrepBwdRefIdeal.τ).loc Cert.PrepBwdRefIdeal.main_arg8) = m' ((c.tc : Thread Cert.PrepBwdRefIdeal.nD Cert.PrepBwdRefIdeal.τ).loc Cert.PrepBwdRefIdeal.main_arg8)
          ∧ r.2.mem ((c.tc : Thread Cert.PrepBwdRefIdeal.nD Cert.PrepBwdRefIdeal.τ).loc Cert.PrepBwdRefIdeal.main_arg9) = m' ((c.tc : Thread Cert.PrepBwdRefIdeal.nD Cert.PrepBwdRefIdeal.τ).loc Cert.PrepBwdRefIdeal.main_arg9)
          ∧ r.2.mem ((c.tc : Thread Cert.PrepBwdRefIdeal.nD Cert.PrepBwdRefIdeal.τ).loc Cert.PrepBwdRefIdeal.main_arg10) = m' ((c.tc : Thread Cert.PrepBwdRefIdeal.nD Cert.PrepBwdRefIdeal.τ).loc Cert.PrepBwdRefIdeal.main_arg10)
          ∧ r.2.mem ((c.tc : Thread Cert.PrepBwdRefIdeal.nD Cert.PrepBwdRefIdeal.τ).loc Cert.PrepBwdRefIdeal.main_arg11) = m' ((c.tc : Thread Cert.PrepBwdRefIdeal.nD Cert.PrepBwdRefIdeal.τ).loc Cert.PrepBwdRefIdeal.main_arg11)
          ∧ r.2.mem ((c.tc : Thread Cert.PrepBwdRefIdeal.nD Cert.PrepBwdRefIdeal.τ).loc Cert.PrepBwdRefIdeal.main_arg12) = m' ((c.tc : Thread Cert.PrepBwdRefIdeal.nD Cert.PrepBwdRefIdeal.τ).loc Cert.PrepBwdRefIdeal.main_arg12))

def preserves_RmsNorm_RmsNormIdeal : Prop :=
  True

def algebraic_RmsNormIdeal_RmsNormRefIdeal [hRmsNormIdeal : Cert.RmsNormIdeal.Facts] [hRmsNormRefIdeal : Cert.RmsNormRefIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormRefIdeal.nD Cert.RmsNormRefIdeal.τ Cert.RmsNormRefIdeal.sig) → Buf (Elt Ideal) ℓ) (g' : Dev Cert.RmsNormRefIdeal.nD → PrngReg), Pre_RmsNormIdeal m →
    (∀ c : Dev Cert.RmsNormIdeal.nD,
      m' ((c.tc : Thread Cert.RmsNormRefIdeal.nD Cert.RmsNormRefIdeal.τ).loc Cert.RmsNormRefIdeal.main_arg0) = m ((c.tc : Thread Cert.RmsNormIdeal.nD Cert.RmsNormIdeal.τ).loc Cert.RmsNormIdeal.main_arg0)
      ∧ m' ((c.tc : Thread Cert.RmsNormRefIdeal.nD Cert.RmsNormRefIdeal.τ).loc Cert.RmsNormRefIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v0)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v0) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormRefIdeal.defs (F := Ideal)) (onTc (τ := Cert.RmsNormRefIdeal.τ) (Cert.RmsNormRefIdeal.main (F := Ideal))) ⟨m', fun _ => 0, g'⟩ (fun r => ∀ c : Dev Cert.RmsNormRefIdeal.nD,
          r.2.mem ((c.tc : Thread Cert.RmsNormRefIdeal.nD Cert.RmsNormRefIdeal.τ).loc Cert.RmsNormRefIdeal.main_v12) = v0 c
          ∧ r.2.mem ((c.tc : Thread Cert.RmsNormRefIdeal.nD Cert.RmsNormRefIdeal.τ).loc Cert.RmsNormRefIdeal.main_arg0) = m' ((c.tc : Thread Cert.RmsNormRefIdeal.nD Cert.RmsNormRefIdeal.τ).loc Cert.RmsNormRefIdeal.main_arg0)
          ∧ r.2.mem ((c.tc : Thread Cert.RmsNormRefIdeal.nD Cert.RmsNormRefIdeal.τ).loc Cert.RmsNormRefIdeal.main_arg1) = m' ((c.tc : Thread Cert.RmsNormRefIdeal.nD Cert.RmsNormRefIdeal.τ).loc Cert.RmsNormRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v4) = v0 c
          ∧ r.2.mem ((c.tc : Thread Cert.CombineRefIdeal.nD Cert.CombineRefIdeal.τ).loc Cert.CombineRefIdeal.main_v18) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_FfnUp_FfnUpIdeal : Prop :=
  True

def algebraic_FfnUpIdeal_FfnUpRefIdeal_pre_ffn_up_finite [hFfnUpIdeal : Cert.FfnUpIdeal.Facts] [hFfnUpRefIdeal : Cert.FfnUpRefIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_ffn_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_v14) = v1 c
          ∧ r.2.mem ((c.tc : Thread Cert.FfnUpRefIdeal.nD Cert.FfnUpRefIdeal.τ).loc Cert.FfnUpRefIdeal.main_v17) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ScanBwd_ScanBwdIdeal : Prop :=
  True

def preserves_PoolFwd_PoolFwdIdeal : Prop :=
  True

def preserves_ResidNorm_ResidNormIdeal : Prop :=
  True

def algebraic_ResidNormIdeal_ResidNormRefIdeal [hResidNormIdeal : Cert.ResidNormIdeal.Facts] [hResidNormRefIdeal : Cert.ResidNormRefIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormRefIdeal.nD Cert.ResidNormRefIdeal.τ Cert.ResidNormRefIdeal.sig) → Buf (Elt Ideal) ℓ) (g' : Dev Cert.ResidNormRefIdeal.nD → PrngReg), Pre_ResidNormIdeal m →
    (∀ c : Dev Cert.ResidNormIdeal.nD,
      m' ((c.tc : Thread Cert.ResidNormRefIdeal.nD Cert.ResidNormRefIdeal.τ).loc Cert.ResidNormRefIdeal.main_arg0) = m ((c.tc : Thread Cert.ResidNormIdeal.nD Cert.ResidNormIdeal.τ).loc Cert.ResidNormIdeal.main_arg0)
      ∧ m' ((c.tc : Thread Cert.ResidNormRefIdeal.nD Cert.ResidNormRefIdeal.τ).loc Cert.ResidNormRefIdeal.main_arg1) = m ((c.tc : Thread Cert.ResidNormIdeal.nD Cert.ResidNormIdeal.τ).loc Cert.ResidNormIdeal.main_arg1)
      ∧ m' ((c.tc : Thread Cert.ResidNormRefIdeal.nD Cert.ResidNormRefIdeal.τ).loc Cert.ResidNormRefIdeal.main_arg2) = m ((c.tc : Thread Cert.ResidNormIdeal.nD Cert.ResidNormIdeal.τ).loc Cert.ResidNormIdeal.main_arg2)
      ∧ m' ((c.tc : Thread Cert.ResidNormRefIdeal.nD Cert.ResidNormRefIdeal.τ).loc Cert.ResidNormRefIdeal.main_arg3) = m ((c.tc : Thread Cert.ResidNormIdeal.nD Cert.ResidNormIdeal.τ).loc Cert.ResidNormIdeal.main_arg3)) →
    ∃ (v0 : (c : Dev Cert.ResidNormIdeal.nD) → Buf (Elt Ideal) ((c.tc : Thread Cert.ResidNormIdeal.nD Cert.ResidNormIdeal.τ).loc Cert.ResidNormIdeal.main_v1_0)) (v1 : (c : Dev Cert.ResidNormIdeal.nD) → Buf (Elt Ideal) ((c.tc : Thread Cert.ResidNormIdeal.nD Cert.ResidNormIdeal.τ).loc Cert.ResidNormIdeal.main_v1_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v1_0) = v0 c
          ∧ r.2.mem ((c.tc : Thread Cert.ResidNormIdeal.nD Cert.ResidNormIdeal.τ).loc Cert.ResidNormIdeal.main_v1_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ θ_run (Cert.ResidNormRefIdeal.defs (F := Ideal)) (onTc (τ := Cert.ResidNormRefIdeal.τ) (Cert.ResidNormRefIdeal.main (F := Ideal))) ⟨m', fun _ => 0, g'⟩ (fun r => ∀ c : Dev Cert.ResidNormRefIdeal.nD,
          r.2.mem ((c.tc : Thread Cert.ResidNormRefIdeal.nD Cert.ResidNormRefIdeal.τ).loc Cert.ResidNormRefIdeal.main_v2) = v0 c
          ∧ r.2.mem ((c.tc : Thread Cert.ResidNormRefIdeal.nD Cert.ResidNormRefIdeal.τ).loc Cert.ResidNormRefIdeal.main_v15) = v1 c
          ∧ r.2.mem ((c.tc : Thread Cert.ResidNormRefIdeal.nD Cert.ResidNormRefIdeal.τ).loc Cert.ResidNormRefIdeal.main_arg0) = m' ((c.tc : Thread Cert.ResidNormRefIdeal.nD Cert.ResidNormRefIdeal.τ).loc Cert.ResidNormRefIdeal.main_arg0)
          ∧ r.2.mem ((c.tc : Thread Cert.ResidNormRefIdeal.nD Cert.ResidNormRefIdeal.τ).loc Cert.ResidNormRefIdeal.main_arg1) = m' ((c.tc : Thread Cert.ResidNormRefIdeal.nD Cert.ResidNormRefIdeal.τ).loc Cert.ResidNormRefIdeal.main_arg1)
          ∧ r.2.mem ((c.tc : Thread Cert.ResidNormRefIdeal.nD Cert.ResidNormRefIdeal.τ).loc Cert.ResidNormRefIdeal.main_arg2) = m' ((c.tc : Thread Cert.ResidNormRefIdeal.nD Cert.ResidNormRefIdeal.τ).loc Cert.ResidNormRefIdeal.main_arg2)
          ∧ r.2.mem ((c.tc : Thread Cert.ResidNormRefIdeal.nD Cert.ResidNormRefIdeal.τ).loc Cert.ResidNormRefIdeal.main_arg3) = m' ((c.tc : Thread Cert.ResidNormRefIdeal.nD Cert.ResidNormRefIdeal.τ).loc Cert.ResidNormRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v17) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_SsmPrep_SsmPrepIdeal : Prop :=
  True

def algebraic_SsmPrepIdeal_SsmPrepRefIdeal [hSsmPrepIdeal : Cert.SsmPrepIdeal.Facts] [hSsmPrepRefIdeal : Cert.SsmPrepRefIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg)
    (m' : (ℓ : Loc Cert.SsmPrepRefIdeal.nD Cert.SsmPrepRefIdeal.τ Cert.SsmPrepRefIdeal.sig) → Buf (Elt Ideal) ℓ) (g' : Dev Cert.SsmPrepRefIdeal.nD → PrngReg), Pre_SsmPrepIdeal m →
    (∀ c : Dev Cert.SsmPrepIdeal.nD,
      m' ((c.tc : Thread Cert.SsmPrepRefIdeal.nD Cert.SsmPrepRefIdeal.τ).loc Cert.SsmPrepRefIdeal.main_arg0) = m ((c.tc : Thread Cert.SsmPrepIdeal.nD Cert.SsmPrepIdeal.τ).loc Cert.SsmPrepIdeal.main_arg0)
      ∧ m' ((c.tc : Thread Cert.SsmPrepRefIdeal.nD Cert.SsmPrepRefIdeal.τ).loc Cert.SsmPrepRefIdeal.main_arg1) = m ((c.tc : Thread Cert.SsmPrepIdeal.nD Cert.SsmPrepIdeal.τ).loc Cert.SsmPrepIdeal.main_arg1)
      ∧ m' ((c.tc : Thread Cert.SsmPrepRefIdeal.nD Cert.SsmPrepRefIdeal.τ).loc Cert.SsmPrepRefIdeal.main_arg2) = m ((c.tc : Thread Cert.SsmPrepIdeal.nD Cert.SsmPrepIdeal.τ).loc Cert.SsmPrepIdeal.main_arg2)
      ∧ m' ((c.tc : Thread Cert.SsmPrepRefIdeal.nD Cert.SsmPrepRefIdeal.τ).loc Cert.SsmPrepRefIdeal.main_arg3) = m ((c.tc : Thread Cert.SsmPrepIdeal.nD Cert.SsmPrepIdeal.τ).loc Cert.SsmPrepIdeal.main_arg3)
      ∧ m' ((c.tc : Thread Cert.SsmPrepRefIdeal.nD Cert.SsmPrepRefIdeal.τ).loc Cert.SsmPrepRefIdeal.main_arg4) = m ((c.tc : Thread Cert.SsmPrepIdeal.nD Cert.SsmPrepIdeal.τ).loc Cert.SsmPrepIdeal.main_arg4)
      ∧ m' ((c.tc : Thread Cert.SsmPrepRefIdeal.nD Cert.SsmPrepRefIdeal.τ).loc Cert.SsmPrepRefIdeal.main_arg5) = m ((c.tc : Thread Cert.SsmPrepIdeal.nD Cert.SsmPrepIdeal.τ).loc Cert.SsmPrepIdeal.main_arg5)
      ∧ m' ((c.tc : Thread Cert.SsmPrepRefIdeal.nD Cert.SsmPrepRefIdeal.τ).loc Cert.SsmPrepRefIdeal.main_arg6) = m ((c.tc : Thread Cert.SsmPrepIdeal.nD Cert.SsmPrepIdeal.τ).loc Cert.SsmPrepIdeal.main_arg6)) →
    ∃ (v0 : (c : Dev Cert.SsmPrepIdeal.nD) → Buf (Elt Ideal) ((c.tc : Thread Cert.SsmPrepIdeal.nD Cert.SsmPrepIdeal.τ).loc Cert.SsmPrepIdeal.main_v15_0)) (v1 : (c : Dev Cert.SsmPrepIdeal.nD) → Buf (Elt Ideal) ((c.tc : Thread Cert.SsmPrepIdeal.nD Cert.SsmPrepIdeal.τ).loc Cert.SsmPrepIdeal.main_v15_1)) (v2 : (c : Dev Cert.SsmPrepIdeal.nD) → Buf (Elt Ideal) ((c.tc : Thread Cert.SsmPrepIdeal.nD Cert.SsmPrepIdeal.τ).loc Cert.SsmPrepIdeal.main_v15_2)) (v3 : (c : Dev Cert.SsmPrepIdeal.nD) → Buf (Elt Ideal) ((c.tc : Thread Cert.SsmPrepIdeal.nD Cert.SsmPrepIdeal.τ).loc Cert.SsmPrepIdeal.main_v15_3)) (v4 : (c : Dev Cert.SsmPrepIdeal.nD) → Buf (Elt Ideal) ((c.tc : Thread Cert.SsmPrepIdeal.nD Cert.SsmPrepIdeal.τ).loc Cert.SsmPrepIdeal.main_v15_4)) (v5 : (c : Dev Cert.SsmPrepIdeal.nD) → Buf (Elt Ideal) ((c.tc : Thread Cert.SsmPrepIdeal.nD Cert.SsmPrepIdeal.τ).loc Cert.SsmPrepIdeal.main_v15_5)),
      θ_run (Cert.SsmPrepIdeal.defs (F := Ideal)) (onTc (τ := Cert.SsmPrepIdeal.τ) (Cert.SsmPrepIdeal.main (F := Ideal))) ⟨m, fun _ => 0, g⟩ (fun r => ∀ c : Dev Cert.SsmPrepIdeal.nD,
          r.2.mem ((c.tc : Thread Cert.SsmPrepIdeal.nD Cert.SsmPrepIdeal.τ).loc Cert.SsmPrepIdeal.main_v15_0) = v0 c
          ∧ r.2.mem ((c.tc : Thread Cert.SsmPrepIdeal.nD Cert.SsmPrepIdeal.τ).loc Cert.SsmPrepIdeal.main_v15_1) = v1 c
          ∧ r.2.mem ((c.tc : Thread Cert.SsmPrepIdeal.nD Cert.SsmPrepIdeal.τ).loc Cert.SsmPrepIdeal.main_v15_2) = v2 c
          ∧ r.2.mem ((c.tc : Thread Cert.SsmPrepIdeal.nD Cert.SsmPrepIdeal.τ).loc Cert.SsmPrepIdeal.main_v15_3) = v3 c
          ∧ r.2.mem ((c.tc : Thread Cert.SsmPrepIdeal.nD Cert.SsmPrepIdeal.τ).loc Cert.SsmPrepIdeal.main_v15_4) = v4 c
          ∧ r.2.mem ((c.tc : Thread Cert.SsmPrepIdeal.nD Cert.SsmPrepIdeal.τ).loc Cert.SsmPrepIdeal.main_v15_5) = v5 c
          ∧ r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
          ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
          ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
          ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
          ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4)
          ∧ r.2.mem ((c.tc : Thread Cert.SsmPrepIdeal.nD Cert.SsmPrepIdeal.τ).loc Cert.SsmPrepIdeal.main_arg5) = m ((c.tc : Thread Cert.SsmPrepIdeal.nD Cert.SsmPrepIdeal.τ).loc Cert.SsmPrepIdeal.main_arg5)
          ∧ r.2.mem ((c.tc : Thread Cert.SsmPrepIdeal.nD Cert.SsmPrepIdeal.τ).loc Cert.SsmPrepIdeal.main_arg6) = m ((c.tc : Thread Cert.SsmPrepIdeal.nD Cert.SsmPrepIdeal.τ).loc Cert.SsmPrepIdeal.main_arg6))
      ∧ θ_run (Cert.SsmPrepRefIdeal.defs (F := Ideal)) (onTc (τ := Cert.SsmPrepRefIdeal.τ) (Cert.SsmPrepRefIdeal.main (F := Ideal))) ⟨m', fun _ => 0, g'⟩ (fun r => ∀ c : Dev Cert.SsmPrepRefIdeal.nD,
          r.2.mem ((c.tc : Thread Cert.SsmPrepRefIdeal.nD Cert.SsmPrepRefIdeal.τ).loc Cert.SsmPrepRefIdeal.main_v87) = v0 c
          ∧ r.2.mem ((c.tc : Thread Cert.SsmPrepRefIdeal.nD Cert.SsmPrepRefIdeal.τ).loc Cert.SsmPrepRefIdeal.main_v90) = v1 c
          ∧ r.2.mem ((c.tc : Thread Cert.SsmPrepRefIdeal.nD Cert.SsmPrepRefIdeal.τ).loc Cert.SsmPrepRefIdeal.main_v61) = v2 c
          ∧ r.2.mem ((c.tc : Thread Cert.SsmPrepRefIdeal.nD Cert.SsmPrepRefIdeal.τ).loc Cert.SsmPrepRefIdeal.main_v91) = v3 c
          ∧ r.2.mem ((c.tc : Thread Cert.SsmPrepRefIdeal.nD Cert.SsmPrepRefIdeal.τ).loc Cert.SsmPrepRefIdeal.main_v84) = v4 c
          ∧ r.2.mem ((c.tc : Thread Cert.SsmPrepRefIdeal.nD Cert.SsmPrepRefIdeal.τ).loc Cert.SsmPrepRefIdeal.main_v92) = v5 c
          ∧ r.2.mem ((c.tc : Thread Cert.SsmPrepRefIdeal.nD Cert.SsmPrepRefIdeal.τ).loc Cert.SsmPrepRefIdeal.main_arg0) = m' ((c.tc : Thread Cert.SsmPrepRefIdeal.nD Cert.SsmPrepRefIdeal.τ).loc Cert.SsmPrepRefIdeal.main_arg0)
          ∧ r.2.mem ((c.tc : Thread Cert.SsmPrepRefIdeal.nD Cert.SsmPrepRefIdeal.τ).loc Cert.SsmPrepRefIdeal.main_arg1) = m' ((c.tc : Thread Cert.SsmPrepRefIdeal.nD Cert.SsmPrepRefIdeal.τ).loc Cert.SsmPrepRefIdeal.main_arg1)
          ∧ r.2.mem ((c.tc : Thread Cert.SsmPrepRefIdeal.nD Cert.SsmPrepRefIdeal.τ).loc Cert.SsmPrepRefIdeal.main_arg2) = m' ((c.tc : Thread Cert.SsmPrepRefIdeal.nD Cert.SsmPrepRefIdeal.τ).loc Cert.SsmPrepRefIdeal.main_arg2)
          ∧ r.2.mem ((c.tc : Thread Cert.SsmPrepRefIdeal.nD Cert.SsmPrepRefIdeal.τ).loc Cert.SsmPrepRefIdeal.main_arg3) = m' ((c.tc : Thread Cert.SsmPrepRefIdeal.nD Cert.SsmPrepRefIdeal.τ).loc Cert.SsmPrepRefIdeal.main_arg3)
          ∧ r.2.mem ((c.tc : Thread Cert.SsmPrepRefIdeal.nD Cert.SsmPrepRefIdeal.τ).loc Cert.SsmPrepRefIdeal.main_arg4) = m' ((c.tc : Thread Cert.SsmPrepRefIdeal.nD Cert.SsmPrepRefIdeal.τ).loc Cert.SsmPrepRefIdeal.main_arg4)
          ∧ r.2.mem ((c.tc : Thread Cert.SsmPrepRefIdeal.nD Cert.SsmPrepRefIdeal.τ).loc Cert.SsmPrepRefIdeal.main_arg5) = m' ((c.tc : Thread Cert.SsmPrepRefIdeal.nD Cert.SsmPrepRefIdeal.τ).loc Cert.SsmPrepRefIdeal.main_arg5)
          ∧ r.2.mem ((c.tc : Thread Cert.SsmPrepRefIdeal.nD Cert.SsmPrepRefIdeal.τ).loc Cert.SsmPrepRefIdeal.main_arg6) = m' ((c.tc : Thread Cert.SsmPrepRefIdeal.nD Cert.SsmPrepRefIdeal.τ).loc Cert.SsmPrepRefIdeal.main_arg6))

def preserves_PlainMm_PlainMmIdeal : Prop :=
  True

def algebraic_PlainMmIdeal_PlainMmRefIdeal [hPlainMmIdeal : Cert.PlainMmIdeal.Facts] [hPlainMmRefIdeal : Cert.PlainMmRefIdeal.Facts] : Prop :=
  ∀ (m : (ℓ : Loc Cert.PlainMmIdeal.nD Cert.PlainMmIdeal.τ Cert.PlainMmIdeal.sig) → Buf (Elt Ideal) ℓ) (g : Dev Cert.PlainMmIdeal.nD → PrngReg)
    (m' : (ℓ : Loc Cert.PlainMmRefIdeal.nD Cert.PlainMmRefIdeal.τ Cert.PlainMmRefIdeal.sig) → Buf (Elt Ideal) ℓ) (g' : Dev Cert.PlainMmRefIdeal.nD → PrngReg), Pre_PlainMmIdeal m →
    (∀ c : Dev Cert.PlainMmIdeal.nD,
      m' ((c.tc : Thread Cert.PlainMmRefIdeal.nD Cert.PlainMmRefIdeal.τ).loc Cert.PlainMmRefIdeal.main_arg0) = m ((c.tc : Thread Cert.PlainMmIdeal.nD Cert.PlainMmIdeal.τ).loc Cert.PlainMmIdeal.main_arg0)
      ∧ m' ((c.tc : Thread Cert.PlainMmRefIdeal.nD Cert.PlainMmRefIdeal.τ).loc Cert.PlainMmRefIdeal.main_arg1) = m ((c.tc : Thread Cert.PlainMmIdeal.nD Cert.PlainMmIdeal.τ).loc Cert.PlainMmIdeal.main_arg1)) →
    ∃ (v0 : (c : Dev Cert.PlainMmIdeal.nD) → Buf (Elt Ideal) ((c.tc : Thread Cert.PlainMmIdeal.nD Cert.PlainMmIdeal.τ).loc Cert.PlainMmIdeal.main_v1)),
      θ_run (Cert.PlainMmIdeal.defs (F := Ideal)) (onTc (τ := Cert.PlainMmIdeal.τ) (Cert.PlainMmIdeal.main (F := Ideal))) ⟨m, fun _ => 0, g⟩ (fun r => ∀ c : Dev Cert.PlainMmIdeal.nD,
          r.2.mem ((c.tc : Thread Cert.PlainMmIdeal.nD Cert.PlainMmIdeal.τ).loc Cert.PlainMmIdeal.main_v1) = v0 c
          ∧ r.2.mem ((c.tc : Thread Cert.PlainMmIdeal.nD Cert.PlainMmIdeal.τ).loc Cert.PlainMmIdeal.main_arg0) = m ((c.tc : Thread Cert.PlainMmIdeal.nD Cert.PlainMmIdeal.τ).loc Cert.PlainMmIdeal.main_arg0)
          ∧ r.2.mem ((c.tc : Thread Cert.PlainMmIdeal.nD Cert.PlainMmIdeal.τ).loc Cert.PlainMmIdeal.main_arg1) = m ((c.tc : Thread Cert.PlainMmIdeal.nD Cert.PlainMmIdeal.τ).loc Cert.PlainMmIdeal.main_arg1))
      ∧ θ_run (Cert.PlainMmRefIdeal.defs (F := Ideal)) (onTc (τ := Cert.PlainMmRefIdeal.τ) (Cert.PlainMmRefIdeal.main (F := Ideal))) ⟨m', fun _ => 0, g'⟩ (fun r => ∀ c : Dev Cert.PlainMmRefIdeal.nD,
          r.2.mem ((c.tc : Thread Cert.PlainMmRefIdeal.nD Cert.PlainMmRefIdeal.τ).loc Cert.PlainMmRefIdeal.main_v2) = v0 c
          ∧ r.2.mem ((c.tc : Thread Cert.PlainMmRefIdeal.nD Cert.PlainMmRefIdeal.τ).loc Cert.PlainMmRefIdeal.main_arg0) = m' ((c.tc : Thread Cert.PlainMmRefIdeal.nD Cert.PlainMmRefIdeal.τ).loc Cert.PlainMmRefIdeal.main_arg0)
          ∧ r.2.mem ((c.tc : Thread Cert.PlainMmRefIdeal.nD Cert.PlainMmRefIdeal.τ).loc Cert.PlainMmRefIdeal.main_arg1) = m' ((c.tc : Thread Cert.PlainMmRefIdeal.nD Cert.PlainMmRefIdeal.τ).loc Cert.PlainMmRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_v3) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_DwMm_DwMmIdeal : Prop :=
  True

def algebraic_DwMmIdeal_DwMmRefIdeal [hDwMmIdeal : Cert.DwMmIdeal.Facts] [hDwMmRefIdeal : Cert.DwMmRefIdeal.Facts] : Prop :=
  ∀ (m : (ℓ : Loc Cert.DwMmIdeal.nD Cert.DwMmIdeal.τ Cert.DwMmIdeal.sig) → Buf (Elt Ideal) ℓ) (g : Dev Cert.DwMmIdeal.nD → PrngReg)
    (m' : (ℓ : Loc Cert.DwMmRefIdeal.nD Cert.DwMmRefIdeal.τ Cert.DwMmRefIdeal.sig) → Buf (Elt Ideal) ℓ) (g' : Dev Cert.DwMmRefIdeal.nD → PrngReg), Pre_DwMmIdeal m →
    (∀ c : Dev Cert.DwMmIdeal.nD,
      m' ((c.tc : Thread Cert.DwMmRefIdeal.nD Cert.DwMmRefIdeal.τ).loc Cert.DwMmRefIdeal.main_arg0) = m ((c.tc : Thread Cert.DwMmIdeal.nD Cert.DwMmIdeal.τ).loc Cert.DwMmIdeal.main_arg0)
      ∧ m' ((c.tc : Thread Cert.DwMmRefIdeal.nD Cert.DwMmRefIdeal.τ).loc Cert.DwMmRefIdeal.main_arg1) = m ((c.tc : Thread Cert.DwMmIdeal.nD Cert.DwMmIdeal.τ).loc Cert.DwMmIdeal.main_arg1)) →
    ∃ (v0 : (c : Dev Cert.DwMmIdeal.nD) → Buf (Elt Ideal) ((c.tc : Thread Cert.DwMmIdeal.nD Cert.DwMmIdeal.τ).loc Cert.DwMmIdeal.main_v0)),
      θ_run (Cert.DwMmIdeal.defs (F := Ideal)) (onTc (τ := Cert.DwMmIdeal.τ) (Cert.DwMmIdeal.main (F := Ideal))) ⟨m, fun _ => 0, g⟩ (fun r => ∀ c : Dev Cert.DwMmIdeal.nD,
          r.2.mem ((c.tc : Thread Cert.DwMmIdeal.nD Cert.DwMmIdeal.τ).loc Cert.DwMmIdeal.main_v0) = v0 c
          ∧ r.2.mem ((c.tc : Thread Cert.DwMmIdeal.nD Cert.DwMmIdeal.τ).loc Cert.DwMmIdeal.main_arg0) = m ((c.tc : Thread Cert.DwMmIdeal.nD Cert.DwMmIdeal.τ).loc Cert.DwMmIdeal.main_arg0)
          ∧ r.2.mem ((c.tc : Thread Cert.DwMmIdeal.nD Cert.DwMmIdeal.τ).loc Cert.DwMmIdeal.main_arg1) = m ((c.tc : Thread Cert.DwMmIdeal.nD Cert.DwMmIdeal.τ).loc Cert.DwMmIdeal.main_arg1))
      ∧ θ_run (Cert.DwMmRefIdeal.defs (F := Ideal)) (onTc (τ := Cert.DwMmRefIdeal.τ) (Cert.DwMmRefIdeal.main (F := Ideal))) ⟨m', fun _ => 0, g'⟩ (fun r => ∀ c : Dev Cert.DwMmRefIdeal.nD,
          r.2.mem ((c.tc : Thread Cert.DwMmRefIdeal.nD Cert.DwMmRefIdeal.τ).loc Cert.DwMmRefIdeal.main_v6) = v0 c
          ∧ r.2.mem ((c.tc : Thread Cert.DwMmRefIdeal.nD Cert.DwMmRefIdeal.τ).loc Cert.DwMmRefIdeal.main_arg0) = m' ((c.tc : Thread Cert.DwMmRefIdeal.nD Cert.DwMmRefIdeal.τ).loc Cert.DwMmRefIdeal.main_arg0)
          ∧ r.2.mem ((c.tc : Thread Cert.DwMmRefIdeal.nD Cert.DwMmRefIdeal.τ).loc Cert.DwMmRefIdeal.main_arg1) = m' ((c.tc : Thread Cert.DwMmRefIdeal.nD Cert.DwMmRefIdeal.τ).loc Cert.DwMmRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg1) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_DevSum_DevSumIdeal : Prop :=
  True

def algebraic_DevSumIdeal_DevSumRefIdeal [hDevSumIdeal : Cert.DevSumIdeal.Facts] [hDevSumRefIdeal : Cert.DevSumRefIdeal.Facts] : Prop :=
  ∀ (m : (ℓ : Loc Cert.DevSumIdeal.nD Cert.DevSumIdeal.τ Cert.DevSumIdeal.sig) → Buf (Elt Ideal) ℓ) (g : Dev Cert.DevSumIdeal.nD → PrngReg)
    (m' : (ℓ : Loc Cert.DevSumRefIdeal.nD Cert.DevSumRefIdeal.τ Cert.DevSumRefIdeal.sig) → Buf (Elt Ideal) ℓ) (g' : Dev Cert.DevSumRefIdeal.nD → PrngReg), Pre_DevSumIdeal m →
    (∀ c : Dev Cert.DevSumIdeal.nD,
      m' ((c.tc : Thread Cert.DevSumRefIdeal.nD Cert.DevSumRefIdeal.τ).loc Cert.DevSumRefIdeal.main_arg0) = m ((c.tc : Thread Cert.DevSumIdeal.nD Cert.DevSumIdeal.τ).loc Cert.DevSumIdeal.main_arg0)) →
    ∃ (v0 : (c : Dev Cert.DevSumIdeal.nD) → Buf (Elt Ideal) ((c.tc : Thread Cert.DevSumIdeal.nD Cert.DevSumIdeal.τ).loc Cert.DevSumIdeal.main_v0)),
      θ_run (Cert.DevSumIdeal.defs (F := Ideal)) (onTc (τ := Cert.DevSumIdeal.τ) (Cert.DevSumIdeal.main (F := Ideal))) ⟨m, fun _ => 0, g⟩ (fun r => ∀ c : Dev Cert.DevSumIdeal.nD,
          r.2.mem ((c.tc : Thread Cert.DevSumIdeal.nD Cert.DevSumIdeal.τ).loc Cert.DevSumIdeal.main_v0) = v0 c
          ∧ r.2.mem ((c.tc : Thread Cert.DevSumIdeal.nD Cert.DevSumIdeal.τ).loc Cert.DevSumIdeal.main_arg0) = m ((c.tc : Thread Cert.DevSumIdeal.nD Cert.DevSumIdeal.τ).loc Cert.DevSumIdeal.main_arg0))
      ∧ θ_run (Cert.DevSumRefIdeal.defs (F := Ideal)) (onTc (τ := Cert.DevSumRefIdeal.τ) (Cert.DevSumRefIdeal.main (F := Ideal))) ⟨m', fun _ => 0, g'⟩ (fun r => ∀ c : Dev Cert.DevSumRefIdeal.nD,
          r.2.mem ((c.tc : Thread Cert.DevSumRefIdeal.nD Cert.DevSumRefIdeal.τ).loc Cert.DevSumRefIdeal.main_v0) = v0 c
          ∧ r.2.mem ((c.tc : Thread Cert.DevSumRefIdeal.nD Cert.DevSumRefIdeal.τ).loc Cert.DevSumRefIdeal.main_arg0) = m' ((c.tc : Thread Cert.DevSumRefIdeal.nD Cert.DevSumRefIdeal.τ).loc Cert.DevSumRefIdeal.main_arg0))

def Claim : Prop :=
  ∃ (hNormMem : Cert.NormMem.Facts) (hNormMemIdeal : Cert.NormMemIdeal.Facts) (hNormMemRefIdeal : Cert.NormMemRefIdeal.Facts) (hAttnBwd : Cert.AttnBwd.Facts) (hAttnBwdIdeal : Cert.AttnBwdIdeal.Facts) (hAttnBwdRefIdeal : Cert.AttnBwdRefIdeal.Facts) (hFfnDx : Cert.FfnDx.Facts) (hFfnDxIdeal : Cert.FfnDxIdeal.Facts) (hFfnDxRefIdeal : Cert.FfnDxRefIdeal.Facts) (hQDx : Cert.QDx.Facts) (hQDxIdeal : Cert.QDxIdeal.Facts) (hQDxRefIdeal : Cert.QDxRefIdeal.Facts) (hInDx : Cert.InDx.Facts) (hInDxIdeal : Cert.InDxIdeal.Facts) (hInDxRefIdeal : Cert.InDxRefIdeal.Facts) (hFfnHead : Cert.FfnHead.Facts) (hFfnHeadIdeal : Cert.FfnHeadIdeal.Facts) (hFfnHeadRefIdeal : Cert.FfnHeadRefIdeal.Facts) (hMergeBwd : Cert.MergeBwd.Facts) (hMergeBwdIdeal : Cert.MergeBwdIdeal.Facts) (hMergeBwdRefIdeal : Cert.MergeBwdRefIdeal.Facts) (hBwdAct : Cert.BwdAct.Facts) (hBwdActIdeal : Cert.BwdActIdeal.Facts) (hBwdActRefIdeal : Cert.BwdActRefIdeal.Facts) (hMixerDx : Cert.MixerDx.Facts) (hMixerDxIdeal : Cert.MixerDxIdeal.Facts) (hMixerDxRefIdeal : Cert.MixerDxRefIdeal.Facts) (hSsmDs : Cert.SsmDs.Facts) (hSsmDsIdeal : Cert.SsmDsIdeal.Facts) (hSsmDsRefIdeal : Cert.SsmDsRefIdeal.Facts) (hAttnFwd : Cert.AttnFwd.Facts) (hAttnFwdIdeal : Cert.AttnFwdIdeal.Facts) (hAttnFwdRefIdeal : Cert.AttnFwdRefIdeal.Facts) (hPoolBwd : Cert.PoolBwd.Facts) (hPoolBwdIdeal : Cert.PoolBwdIdeal.Facts) (hPoolBwdRefIdeal : Cert.PoolBwdRefIdeal.Facts) (hPrepBwd : Cert.PrepBwd.Facts) (hPrepBwdIdeal : Cert.PrepBwdIdeal.Facts) (hPrepBwdRefIdeal : Cert.PrepBwdRefIdeal.Facts) (hRmsNorm : Cert.RmsNorm.Facts) (hRmsNormIdeal : Cert.RmsNormIdeal.Facts) (hRmsNormRefIdeal : Cert.RmsNormRefIdeal.Facts) (hCombine : Cert.Combine.Facts) (hCombineIdeal : Cert.CombineIdeal.Facts) (hCombineRefIdeal : Cert.CombineRefIdeal.Facts) (hMerge : Cert.Merge.Facts) (hMergeIdeal : Cert.MergeIdeal.Facts) (hMergeRefIdeal : Cert.MergeRefIdeal.Facts) (hFfnUp : Cert.FfnUp.Facts) (hFfnUpIdeal : Cert.FfnUpIdeal.Facts) (hFfnUpRefIdeal : Cert.FfnUpRefIdeal.Facts) (hScanBwd : Cert.ScanBwd.Facts) (hScanBwdIdeal : Cert.ScanBwdIdeal.Facts) (hPoolFwd : Cert.PoolFwd.Facts) (hPoolFwdIdeal : Cert.PoolFwdIdeal.Facts) (hResidNorm : Cert.ResidNorm.Facts) (hResidNormIdeal : Cert.ResidNormIdeal.Facts) (hResidNormRefIdeal : Cert.ResidNormRefIdeal.Facts) (hFfnDown : Cert.FfnDown.Facts) (hFfnDownIdeal : Cert.FfnDownIdeal.Facts) (hFfnDownRefIdeal : Cert.FfnDownRefIdeal.Facts) (hSsmPrep : Cert.SsmPrep.Facts) (hSsmPrepIdeal : Cert.SsmPrepIdeal.Facts) (hSsmPrepRefIdeal : Cert.SsmPrepRefIdeal.Facts) (hPlainMm : Cert.PlainMm.Facts) (hPlainMmIdeal : Cert.PlainMmIdeal.Facts) (hPlainMmRefIdeal : Cert.PlainMmRefIdeal.Facts) (hMixIn : Cert.MixIn.Facts) (hMixInIdeal : Cert.MixInIdeal.Facts) (hMixInRefIdeal : Cert.MixInRefIdeal.Facts) (hDwMm : Cert.DwMm.Facts) (hDwMmIdeal : Cert.DwMmIdeal.Facts) (hDwMmRefIdeal : Cert.DwMmRefIdeal.Facts) (hAdamW : Cert.AdamW.Facts) (hAdamWIdeal : Cert.AdamWIdeal.Facts) (hAdamWRefIdeal : Cert.AdamWRefIdeal.Facts) (hDevSum : Cert.DevSum.Facts) (hDevSumIdeal : Cert.DevSumIdeal.Facts) (hDevSumRefIdeal : Cert.DevSumRefIdeal.Facts) (hPre_norm_mem_finite : Cert.Pre_norm_mem_finite.Facts) (hPre_attn_bwd_finite : Cert.Pre_attn_bwd_finite.Facts) (hPre_ffn_dx_finite : Cert.Pre_ffn_dx_finite.Facts) (hPre_q_dx_finite : Cert.Pre_q_dx_finite.Facts) (hPre_in_dx_finite : Cert.Pre_in_dx_finite.Facts) (hPre_ffn_head_finite : Cert.Pre_ffn_head_finite.Facts) (hPre_bwd_act_finite : Cert.Pre_bwd_act_finite.Facts) (hPre_mixer_dx_finite : Cert.Pre_mixer_dx_finite.Facts) (hPre_pool_bwd_finite : Cert.Pre_pool_bwd_finite.Facts) (hPre_prep_bwd_finite : Cert.Pre_prep_bwd_finite.Facts) (hPre_ffn_up_finite : Cert.Pre_ffn_up_finite.Facts),
    quiescent_NormMem (hNormMem := hNormMem)
    ∧ quiescent_NormMemIdeal (hNormMemIdeal := hNormMemIdeal)
    ∧ quiescent_NormMemIdeal_pre_norm_mem_finite (hNormMemIdeal := hNormMemIdeal) (hPre_norm_mem_finite := hPre_norm_mem_finite)
    ∧ quiescent_NormMemRefIdeal (hNormMemRefIdeal := hNormMemRefIdeal)
    ∧ quiescent_NormMemRefIdeal_pre_norm_mem_finite (hNormMemRefIdeal := hNormMemRefIdeal) (hPre_norm_mem_finite := hPre_norm_mem_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_FfnDx (hFfnDx := hFfnDx)
    ∧ quiescent_FfnDxIdeal (hFfnDxIdeal := hFfnDxIdeal)
    ∧ quiescent_FfnDxIdeal_pre_ffn_dx_finite (hFfnDxIdeal := hFfnDxIdeal) (hPre_ffn_dx_finite := hPre_ffn_dx_finite)
    ∧ quiescent_FfnDxRefIdeal (hFfnDxRefIdeal := hFfnDxRefIdeal)
    ∧ quiescent_FfnDxRefIdeal_pre_ffn_dx_finite (hFfnDxRefIdeal := hFfnDxRefIdeal) (hPre_ffn_dx_finite := hPre_ffn_dx_finite)
    ∧ quiescent_QDx (hQDx := hQDx)
    ∧ quiescent_QDxIdeal (hQDxIdeal := hQDxIdeal)
    ∧ quiescent_QDxIdeal_pre_q_dx_finite (hQDxIdeal := hQDxIdeal) (hPre_q_dx_finite := hPre_q_dx_finite)
    ∧ quiescent_QDxRefIdeal (hQDxRefIdeal := hQDxRefIdeal)
    ∧ quiescent_QDxRefIdeal_pre_q_dx_finite (hQDxRefIdeal := hQDxRefIdeal) (hPre_q_dx_finite := hPre_q_dx_finite)
    ∧ quiescent_InDx (hInDx := hInDx)
    ∧ quiescent_InDxIdeal (hInDxIdeal := hInDxIdeal)
    ∧ quiescent_InDxIdeal_pre_in_dx_finite (hInDxIdeal := hInDxIdeal) (hPre_in_dx_finite := hPre_in_dx_finite)
    ∧ quiescent_InDxRefIdeal (hInDxRefIdeal := hInDxRefIdeal)
    ∧ quiescent_InDxRefIdeal_pre_in_dx_finite (hInDxRefIdeal := hInDxRefIdeal) (hPre_in_dx_finite := hPre_in_dx_finite)
    ∧ quiescent_FfnHead (hFfnHead := hFfnHead)
    ∧ quiescent_FfnHeadIdeal (hFfnHeadIdeal := hFfnHeadIdeal)
    ∧ quiescent_FfnHeadIdeal_pre_ffn_head_finite (hFfnHeadIdeal := hFfnHeadIdeal) (hPre_ffn_head_finite := hPre_ffn_head_finite)
    ∧ quiescent_FfnHeadRefIdeal (hFfnHeadRefIdeal := hFfnHeadRefIdeal)
    ∧ quiescent_FfnHeadRefIdeal_pre_ffn_head_finite (hFfnHeadRefIdeal := hFfnHeadRefIdeal) (hPre_ffn_head_finite := hPre_ffn_head_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_BwdAct (hBwdAct := hBwdAct)
    ∧ quiescent_BwdActIdeal (hBwdActIdeal := hBwdActIdeal)
    ∧ quiescent_BwdActIdeal_pre_bwd_act_finite (hBwdActIdeal := hBwdActIdeal) (hPre_bwd_act_finite := hPre_bwd_act_finite)
    ∧ quiescent_BwdActRefIdeal (hBwdActRefIdeal := hBwdActRefIdeal)
    ∧ quiescent_BwdActRefIdeal_pre_bwd_act_finite (hBwdActRefIdeal := hBwdActRefIdeal) (hPre_bwd_act_finite := hPre_bwd_act_finite)
    ∧ quiescent_MixerDx (hMixerDx := hMixerDx)
    ∧ quiescent_MixerDxIdeal (hMixerDxIdeal := hMixerDxIdeal)
    ∧ quiescent_MixerDxIdeal_pre_mixer_dx_finite (hMixerDxIdeal := hMixerDxIdeal) (hPre_mixer_dx_finite := hPre_mixer_dx_finite)
    ∧ quiescent_MixerDxRefIdeal (hMixerDxRefIdeal := hMixerDxRefIdeal)
    ∧ quiescent_MixerDxRefIdeal_pre_mixer_dx_finite (hMixerDxRefIdeal := hMixerDxRefIdeal) (hPre_mixer_dx_finite := hPre_mixer_dx_finite)
    ∧ quiescent_SsmDs (hSsmDs := hSsmDs)
    ∧ quiescent_SsmDsIdeal (hSsmDsIdeal := hSsmDsIdeal)
    ∧ quiescent_SsmDsRefIdeal (hSsmDsRefIdeal := hSsmDsRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_PrepBwd (hPrepBwd := hPrepBwd)
    ∧ quiescent_PrepBwdIdeal (hPrepBwdIdeal := hPrepBwdIdeal)
    ∧ quiescent_PrepBwdIdeal_pre_prep_bwd_finite (hPrepBwdIdeal := hPrepBwdIdeal) (hPre_prep_bwd_finite := hPre_prep_bwd_finite)
    ∧ quiescent_PrepBwdRefIdeal (hPrepBwdRefIdeal := hPrepBwdRefIdeal)
    ∧ quiescent_PrepBwdRefIdeal_pre_prep_bwd_finite (hPrepBwdRefIdeal := hPrepBwdRefIdeal) (hPre_prep_bwd_finite := hPre_prep_bwd_finite)
    ∧ quiescent_RmsNorm (hRmsNorm := hRmsNorm)
    ∧ quiescent_RmsNormIdeal (hRmsNormIdeal := hRmsNormIdeal)
    ∧ quiescent_RmsNormRefIdeal (hRmsNormRefIdeal := hRmsNormRefIdeal)
    ∧ quiescent_Combine (hCombine := hCombine)
    ∧ quiescent_CombineIdeal (hCombineIdeal := hCombineIdeal)
    ∧ quiescent_CombineRefIdeal (hCombineRefIdeal := hCombineRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnUp (hFfnUp := hFfnUp)
    ∧ quiescent_FfnUpIdeal (hFfnUpIdeal := hFfnUpIdeal)
    ∧ quiescent_FfnUpIdeal_pre_ffn_up_finite (hFfnUpIdeal := hFfnUpIdeal) (hPre_ffn_up_finite := hPre_ffn_up_finite)
    ∧ quiescent_FfnUpRefIdeal (hFfnUpRefIdeal := hFfnUpRefIdeal)
    ∧ quiescent_FfnUpRefIdeal_pre_ffn_up_finite (hFfnUpRefIdeal := hFfnUpRefIdeal) (hPre_ffn_up_finite := hPre_ffn_up_finite)
    ∧ quiescent_ScanBwd (hScanBwd := hScanBwd)
    ∧ quiescent_ScanBwdIdeal (hScanBwdIdeal := hScanBwdIdeal)
    ∧ quiescent_PoolFwd (hPoolFwd := hPoolFwd)
    ∧ quiescent_PoolFwdIdeal (hPoolFwdIdeal := hPoolFwdIdeal)
    ∧ quiescent_ResidNorm (hResidNorm := hResidNorm)
    ∧ quiescent_ResidNormIdeal (hResidNormIdeal := hResidNormIdeal)
    ∧ quiescent_ResidNormRefIdeal (hResidNormRefIdeal := hResidNormRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_SsmPrep (hSsmPrep := hSsmPrep)
    ∧ quiescent_SsmPrepIdeal (hSsmPrepIdeal := hSsmPrepIdeal)
    ∧ quiescent_SsmPrepRefIdeal (hSsmPrepRefIdeal := hSsmPrepRefIdeal)
    ∧ quiescent_PlainMm (hPlainMm := hPlainMm)
    ∧ quiescent_PlainMmIdeal (hPlainMmIdeal := hPlainMmIdeal)
    ∧ quiescent_PlainMmRefIdeal (hPlainMmRefIdeal := hPlainMmRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_DwMm (hDwMm := hDwMm)
    ∧ quiescent_DwMmIdeal (hDwMmIdeal := hDwMmIdeal)
    ∧ quiescent_DwMmRefIdeal (hDwMmRefIdeal := hDwMmRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_DevSum (hDevSum := hDevSum)
    ∧ quiescent_DevSumIdeal (hDevSumIdeal := hDevSumIdeal)
    ∧ quiescent_DevSumRefIdeal (hDevSumRefIdeal := hDevSumRefIdeal)
    ∧ preserves_NormMem_NormMemIdeal
    ∧ algebraic_NormMemIdeal_NormMemRefIdeal_pre_norm_mem_finite (hNormMemIdeal := hNormMemIdeal) (hNormMemRefIdeal := hNormMemRefIdeal) (hPre_norm_mem_finite := hPre_norm_mem_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_FfnDx_FfnDxIdeal
    ∧ algebraic_FfnDxIdeal_FfnDxRefIdeal_pre_ffn_dx_finite (hFfnDxIdeal := hFfnDxIdeal) (hFfnDxRefIdeal := hFfnDxRefIdeal) (hPre_ffn_dx_finite := hPre_ffn_dx_finite)
    ∧ preserves_QDx_QDxIdeal
    ∧ algebraic_QDxIdeal_QDxRefIdeal_pre_q_dx_finite (hQDxIdeal := hQDxIdeal) (hQDxRefIdeal := hQDxRefIdeal) (hPre_q_dx_finite := hPre_q_dx_finite)
    ∧ preserves_InDx_InDxIdeal
    ∧ algebraic_InDxIdeal_InDxRefIdeal_pre_in_dx_finite (hInDxIdeal := hInDxIdeal) (hInDxRefIdeal := hInDxRefIdeal) (hPre_in_dx_finite := hPre_in_dx_finite)
    ∧ preserves_FfnHead_FfnHeadIdeal
    ∧ algebraic_FfnHeadIdeal_FfnHeadRefIdeal_pre_ffn_head_finite (hFfnHeadIdeal := hFfnHeadIdeal) (hFfnHeadRefIdeal := hFfnHeadRefIdeal) (hPre_ffn_head_finite := hPre_ffn_head_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_BwdAct_BwdActIdeal
    ∧ algebraic_BwdActIdeal_BwdActRefIdeal_pre_bwd_act_finite (hBwdActIdeal := hBwdActIdeal) (hBwdActRefIdeal := hBwdActRefIdeal) (hPre_bwd_act_finite := hPre_bwd_act_finite)
    ∧ preserves_MixerDx_MixerDxIdeal
    ∧ algebraic_MixerDxIdeal_MixerDxRefIdeal_pre_mixer_dx_finite (hMixerDxIdeal := hMixerDxIdeal) (hMixerDxRefIdeal := hMixerDxRefIdeal) (hPre_mixer_dx_finite := hPre_mixer_dx_finite)
    ∧ preserves_SsmDs_SsmDsIdeal
    ∧ algebraic_SsmDsIdeal_SsmDsRefIdeal (hSsmDsIdeal := hSsmDsIdeal) (hSsmDsRefIdeal := hSsmDsRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_PrepBwd_PrepBwdIdeal
    ∧ algebraic_PrepBwdIdeal_PrepBwdRefIdeal_pre_prep_bwd_finite (hPrepBwdIdeal := hPrepBwdIdeal) (hPrepBwdRefIdeal := hPrepBwdRefIdeal) (hPre_prep_bwd_finite := hPre_prep_bwd_finite)
    ∧ preserves_RmsNorm_RmsNormIdeal
    ∧ algebraic_RmsNormIdeal_RmsNormRefIdeal (hRmsNormIdeal := hRmsNormIdeal) (hRmsNormRefIdeal := hRmsNormRefIdeal)
    ∧ preserves_Combine_CombineIdeal
    ∧ algebraic_CombineIdeal_CombineRefIdeal (hCombineIdeal := hCombineIdeal) (hCombineRefIdeal := hCombineRefIdeal)
    ∧ preserves_Merge_MergeIdeal
    ∧ algebraic_MergeIdeal_MergeRefIdeal (hMergeIdeal := hMergeIdeal) (hMergeRefIdeal := hMergeRefIdeal)
    ∧ preserves_FfnUp_FfnUpIdeal
    ∧ algebraic_FfnUpIdeal_FfnUpRefIdeal_pre_ffn_up_finite (hFfnUpIdeal := hFfnUpIdeal) (hFfnUpRefIdeal := hFfnUpRefIdeal) (hPre_ffn_up_finite := hPre_ffn_up_finite)
    ∧ preserves_ScanBwd_ScanBwdIdeal
    ∧ preserves_PoolFwd_PoolFwdIdeal
    ∧ preserves_ResidNorm_ResidNormIdeal
    ∧ algebraic_ResidNormIdeal_ResidNormRefIdeal (hResidNormIdeal := hResidNormIdeal) (hResidNormRefIdeal := hResidNormRefIdeal)
    ∧ preserves_FfnDown_FfnDownIdeal
    ∧ algebraic_FfnDownIdeal_FfnDownRefIdeal (hFfnDownIdeal := hFfnDownIdeal) (hFfnDownRefIdeal := hFfnDownRefIdeal)
    ∧ preserves_SsmPrep_SsmPrepIdeal
    ∧ algebraic_SsmPrepIdeal_SsmPrepRefIdeal (hSsmPrepIdeal := hSsmPrepIdeal) (hSsmPrepRefIdeal := hSsmPrepRefIdeal)
    ∧ preserves_PlainMm_PlainMmIdeal
    ∧ algebraic_PlainMmIdeal_PlainMmRefIdeal (hPlainMmIdeal := hPlainMmIdeal) (hPlainMmRefIdeal := hPlainMmRefIdeal)
    ∧ preserves_MixIn_MixInIdeal
    ∧ algebraic_MixInIdeal_MixInRefIdeal (hMixInIdeal := hMixInIdeal) (hMixInRefIdeal := hMixInRefIdeal)
    ∧ preserves_DwMm_DwMmIdeal
    ∧ algebraic_DwMmIdeal_DwMmRefIdeal (hDwMmIdeal := hDwMmIdeal) (hDwMmRefIdeal := hDwMmRefIdeal)
    ∧ preserves_AdamW_AdamWIdeal
    ∧ algebraic_AdamWIdeal_AdamWRefIdeal (hAdamWIdeal := hAdamWIdeal) (hAdamWRefIdeal := hAdamWRefIdeal)
    ∧ preserves_DevSum_DevSumIdeal
    ∧ algebraic_DevSumIdeal_DevSumRefIdeal (hDevSumIdeal := hDevSumIdeal) (hDevSumRefIdeal := hDevSumRefIdeal)
-- ==== Pre_attn_bwd_finite.lean ====
abbrev S4096x1024 : Shape := ⟨2, ![4096, 1024]⟩
abbrev S256x2048 : Shape := ⟨2, ![256, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Pre_bwd_act_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  main_v20

def fn {F : FTy → Type} [FloatOps F] (main_arg0 : FVec F S4096x1024 .bf16) (main_arg1 : FVec F S1024x2816 .f32) (main_arg2 : FVec F S1024x2816 .f32) (main_arg3 : FVec F S2816x1024 .f32) (main_arg4 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x2816 .f32 := Host.absf main_arg2
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : IVec S_ 1 := andi main_v4 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S4096x1024 .f32 := (extf .f32 · bitsLt_bf16_f32) main_arg4
  let main_v16 : FVec F S4096x1024 .f32 := Host.absf main_v15
  let main_cst_4 : FVec F S_ .f32 := constant S_ .f32 0x7F800000#32
  fn_part1 (F := F) main_v14 main_v16 main_cst_4
-- ==== Pre_ffn_dx_finite.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_arg5 : FVec F S1x1024 .f32) (main_v15 : IVec S_ 1) (main_v16 : FVec F S1024x2816 .f32) (main_cst_4 : FVec F S_ .f32) : IVec S_ 1 :=
  let main_v17 : FVec F S1024x2816 .f32 := broadcastInDim S1024x2816 ![] bcast_S_S1024x2816 main_cst_4
  let main_v18 : IVec S1024x2816 1 := cmpf .olt main_v16 main_v17
  let main_c_5 : IVec S_ 1 := constantI S_ 1 1#1
  let main_v19 : IVec S_ 1 := (fun x v => Host.reduce IntOp.andi x v reducesTo_S1024x2816_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  main_v30

def fn {F : FTy → Type} [FloatOps F] (main_arg0 : FVec F S4096x2816 .bf16) (main_arg1 : FVec F S4096x2816 .bf16) (main_arg2 : FVec F S1024x2816 .f32) (main_arg3 : FVec F S1024x2816 .f32) (main_arg4 : FVec F S4096x1024 .f32) (main_arg5 : FVec F S1x1024 .f32) (main_arg6 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S1024x2816 .f32 := Host.absf main_arg2
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_c_3 : IVec S_ 1 := constantI S_ 1 1#1
  let main_v14 : IVec S_ 1 := (fun x v => Host.reduce IntOp.andi x v reducesTo_S1024x2816_S_d0_1 h_S_) main_v13 main_c_3
  let main_v15 : IVec S_ 1 := andi main_v10 main_v14
  let main_v16 : FVec F S1024x2816 .f32 := Host.absf main_arg3
  let main_cst_4 : FVec F S_ .f32 := constant S_ .f32 0x7F800000#32
  fn_part1 (F := F) main_arg4 main_arg5 main_v15 main_v16 main_cst_4
-- ==== Pre_ffn_head_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_ffn_up_finite.lean ====
abbrev S4096x1024 : Shape := ⟨2, ![4096, 1024]⟩
abbrev S1024x2816 : Shape := ⟨2, ![1024, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .bf16) (main_arg1 : FVec F S1024x2816 .f32) (main_arg2 : FVec F S1024x2816 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x2816 .f32 := Host.absf main_arg2
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : IVec S_ 1 := andi main_v4 main_v8
  main_v9
-- ==== Pre_in_dx_finite.lean ====
abbrev S4096x512 : Shape := ⟨2, ![4096, 512]⟩
abbrev S4096x256 : Shape := ⟨2, ![4096, 256]⟩
abbrev S4096x1024 : Shape := ⟨2, ![4096, 1024]⟩
abbrev S1024x2816 : Shape := ⟨2, ![1024, 2816]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg4 : FVec F S1024x2816 .f32) (main_arg5 : FVec F S4096x1024 .f32) (main_arg6 : FVec F S1x1024 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S1024x2816 .f32 := Host.absf main_arg4
  let main_cst_6 : FVec F S_ .f32 := constant S_ .f32 0x7F800000#32
  let main_v24 : FVec F S1024x2816 .f32 := broadcastInDim S1024x2816 ![] bcast_S_S1024x2816 main_cst_6
  let main_v25 : IVec S1024x2816 1 := cmpf .olt main_v23 main_v24
  let main_c_7 : IVec S_ 1 := constantI S_ 1 1#1
  let main_v26 : IVec S_ 1 := (fun x v => Host.reduce IntOp.andi x v reducesTo_S1024x2816_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x512 .bf16) (main_arg1 : FVec F S4096x256 .bf16) (main_arg2 : FVec F S4096x1024 .bf16) (main_arg3 : FVec F S4096x1024 .bf16) (main_arg4 : FVec F S1024x2816 .f32) (main_arg5 : FVec F S4096x1024 .f32) (main_arg6 : FVec F S1x1024 .f32) (main_arg7 : FVec F S4096x1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_arg4 main_arg5 main_arg6 main_v16 main_v17
-- ==== Pre_mixer_dx_finite.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg6 : FVec F S4096x256 .f32) (main_v15 : IVec S_ 1) (main_v16 : FVec F S256x1024 .f32) (main_cst_4 : FVec F S_ .f32) : IVec S_ 1 :=
  let main_v17 : FVec F S256x1024 .f32 := broadcastInDim S256x1024 ![] bcast_S_S256x1024 main_cst_4
  let main_v18 : IVec S256x1024 1 := cmpf .olt main_v16 main_v17
  let main_c_5 : IVec S_ 1 := constantI S_ 1 1#1
  let main_v19 : IVec S_ 1 := (fun x v => Host.reduce IntOp.andi x v reducesTo_S256x1024_S_d0_1 h_S_) main_v18 main_c_5
  let main_v20 : IVec S_ 1 := andi main_v15 main_v19
  let main_v21 : FVec F S4096x256 .f32 := Host.absf main_arg6
  let main_cst_6 : FVec F S_ .f32 := constant S_ .f32 0x7F800000#32
  let main_v22 : FVec F S4096x256 .f32 := broadcastInDim S4096x256 ![] bcast_S_S4096x256 main_cst_6
  let main_v23 : IVec S4096x256 1 := cmpf .olt main_v21 main_v22
  let main_c_7 : IVec S_ 1 := constantI S_ 1 1#1
  let main_v24 : IVec S_ 1 := (fun x v => Host.reduce IntOp.andi x v reducesTo_S4096x256_S_d0_1 h_S_) main_v23 main_c_7
  let main_v25 : IVec S_ 1 := andi main_v20 main_v24
  main_v25

def fn {F : FTy → Type} [FloatOps F] (main_arg0 : FVec F S4096x1024 .bf16) (main_arg1 : FVec F S4096x1024 .bf16) (main_arg2 : FVec F S4096x1024 .bf16) (main_arg3 : FVec F S512x1024 .f32) (main_arg4 : FVec F S256x1024 .f32) (main_arg5 : FVec F S256x1024 .f32) (main_arg6 : FVec F S4096x256 .f32) : IVec S_ 1 :=
  let main_v0 : FVec F S4096x1024 .f32 := (extf .f32 · bitsLt_bf16_f32) main_arg1
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg2
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S256x1024 .f32 := Host.absf main_arg4
  let main_cst_2 : FVec F S_ .f32 := constant S_ .f32 0x7F800000#32
  let main_v12 : FVec F S256x1024 .f32 := broadcastInDim S256x1024 ![] bcast_S_S256x1024 main_cst_2
  let main_v13 : IVec S256x1024 1 := cmpf .olt main_v11 main_v12
  let main_c_3 : IVec S_ 1 := constantI S_ 1 1#1
  let main_v14 : IVec S_ 1 := (fun x v => Host.reduce IntOp.andi x v reducesTo_S256x1024_S_d0_1 h_S_) main_v13 main_c_3
  let main_v15 : IVec S_ 1 := andi main_v10 main_v14
  let main_v16 : FVec F S256x1024 .f32 := Host.absf main_arg5
  let main_cst_4 : FVec F S_ .f32 := constant S_ .f32 0x7F800000#32
  fn_part1 (F := F) main_arg6 main_v15 main_v16 main_cst_4
-- ==== Pre_norm_mem_finite.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S256x1024 .f32) (main_arg1 : FVec F S1x1024 .f32) (main_arg2 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Pre_pool_bwd_finite.lean ====
abbrev S4096x512 : Shape := ⟨2, ![4096, 512]⟩
abbrev S4x128x128 : Shape := ⟨3, ![4, 128, 128]⟩
abbrev S1x512 : Shape := ⟨2, ![1, 512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x512 .f32) (main_arg1 : FVec F S4x128x128 .f32) (main_arg2 : FVec F S1x512 .f32) (main_arg3 : FVec F S4096x512 .bf16) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S4096x512 .f32 := (extf .f32 · bitsLt_bf16_f32) main_arg3
  let main_v10 : FVec F S4096x512 .f32 := Host.absf main_v9
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v8 main_v13
  main_v14
-- ==== Pre_prep_bwd_finite.lean ====
abbrev S2x16x64 : Shape := ⟨3, ![2, 16, 64]⟩
abbrev S2x16 : Shape := ⟨2, ![2, 16]⟩
abbrev S2x16x64x16 : Shape := ⟨4, ![2, 16, 64, 16]⟩
abbrev S1x1024 : Shape := ⟨2, ![1, 1024]⟩
abbrev S256x2048 : Shape := ⟨2, ![256, 2048]⟩
abbrev S_ : Shape := ⟨0, ![]⟩

class Facts : Prop where
  bcast_S_S2x16x64 : S_.BroadcastsInDim S2x16x64 (![] : Fin 0 → Fin S2x16x64.rank)
  reducesTo_S2x16x64_S_d0_1_2 : S2x16x64.ReducesTo [0, 1, 2] S_
  h_S_ : 0 < S_.numel
  bcast_S_S2x16 : S_.BroadcastsInDim S2x16 (![] : Fin 0 → Fin S2x16.rank)
  reducesTo_S2x16_S_d0_1 : S2x16.ReducesTo [0, 1] S_
  bcast_S_S2x16x64x16 : S_.BroadcastsInDim S2x16x64x16 (![] : Fin 0 → Fin S2x16x64x16.rank)
  reducesTo_S2x16x64x16_S_d0_1_2_3 : S2x16x64x16.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part3 {F : FTy → Type} [FloatOps F] (main_arg11 : FVec F S256x2048 .f32) (main_arg12 : FVec F S256x2048 .f32) (main_v48 : IVec S_ 1) (main_v49 : FVec F S256x2048 .f32) (main_v50 : FVec F S256x2048 .f32) : IVec S_ 1 :=
  let main_v51 : IVec S256x2048 1 := cmpf .olt main_v49 main_v50
  let main_c_19 : IVec S_ 1 := constantI S_ 1 1#1
  let main_v52 : IVec S_ 1 := (fun x v => Host.reduce IntOp.andi x v reducesTo_S256x2048_S_d0_1 h_S_) main_v51 main_c_19
  let main_v53 : IVec S_ 1 := andi main_v48 main_v52
  let main_v54 : FVec F S256x2048 .f32 := Host.absf main_arg11
  let main_cst_20 : FVec F S_ .f32 := constant S_ .f32 0x7F800000#32
  let main_v55 : FVec F S256x2048 .f32 := broadcastInDim S256x2048 ![] bcast_S_S256x2048 main_cst_20
  let main_v56 : IVec S256x2048 1 := cmpf .olt main_v54 main_v55
  let main_c_21 : IVec S_ 1 := constantI S_ 1 1#1
  let main_v57 : IVec S_ 1 := (fun x v => Host.reduce IntOp.andi x v reducesTo_S256x2048_S_d0_1 h_S_) main_v56 main_c_21
  let main_v58 : IVec S_ 1 := andi main_v53 main_v57
  let main_v59 : FVec F S256x2048 .f32 := Host.absf main_arg12
  let main_cst_22 : FVec F S_ .f32 := constant S_ .f32 0x7F800000#32
  let main_v60 : FVec F S256x2048 .f32 := broadcastInDim S256x2048 ![] bcast_S_S256x2048 main_cst_22
  let main_v61 : IVec S256x2048 1 := cmpf .olt main_v59 main_v60
  let main_c_23 : IVec S_ 1 := constantI S_ 1 1#1
  let main_v62 : IVec S_ 1 := (fun x v => Host.reduce IntOp.andi x v reducesTo_S256x2048_S_d0_1 h_S_) main_v61 main_c_23
  let main_v63 : IVec S_ 1 := andi main_v58 main_v62
  main_v63

def fn_part2 {F : FTy → Type} [FloatOps F] (main_arg7 : FVec F S1x1024 .f32) (main_arg8 : FVec F S1x1024 .f32) (main_arg9 : FVec F S256x2048 .f32) (main_arg10 : FVec F S256x2048 .f32) (main_arg11 : FVec F S256x2048 .f32) (main_arg12 : FVec F S256x2048 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S256x2048 .f32 := Host.absf main_arg9
  let main_cst_16 : FVec F S_ .f32 := constant S_ .f32 0x7F800000#32
  let main_v45 : FVec F S256x2048 .f32 := broadcastInDim S256x2048 ![] bcast_S_S256x2048 main_cst_16
  let main_v46 : IVec S256x2048 1 := cmpf .olt main_v44 main_v45
  let main_c_17 : IVec S_ 1 := constantI S_ 1 1#1
  let main_v47 : IVec S_ 1 := (fun x v => Host.reduce IntOp.andi x v reducesTo_S256x2048_S_d0_1 h_S_) main_v46 main_c_17
  let main_v48 : IVec S_ 1 := andi main_v43 main_v47
  let main_v49 : FVec F S256x2048 .f32 := Host.absf main_arg10
  let main_cst_18 : FVec F S_ .f32 := constant S_ .f32 0x7F800000#32
  let main_v50 : FVec F S256x2048 .f32 := broadcastInDim S256x2048 ![] bcast_S_S256x2048 main_cst_18
  fn_part3 (F := F) main_arg11 main_arg12 main_v48 main_v49 main_v50

def fn_part1 {F : FTy → Type} [FloatOps F] (main_arg4 : FVec F S2x16x64x16 .f32) (main_arg5 : FVec F S1x1024 .f32) (main_arg6 : FVec F S1x1024 .f32) (main_arg7 : FVec F S1x1024 .f32) (main_arg8 : FVec F S1x1024 .f32) (main_arg9 : FVec F S256x2048 .f32) (main_arg10 : FVec F S256x2048 .f32) (main_arg11 : FVec F S256x2048 .f32) (main_arg12 : FVec F S256x2048 .f32) (main_v13 : IVec S_ 1) (main_v16 : IVec S2x16x64x16 1) : IVec S_ 1 :=
  let main_c_5 : IVec S_ 1 := constantI S_ 1 1#1
  let main_v17 : IVec S_ 1 := (fun x v => Host.reduce IntOp.andi x v reducesTo_S2x16x64x16_S_d0_1_2_3 h_S_) main_v16 main_c_5
  let main_v18 : IVec S_ 1 := andi main_v13 main_v17
  let main_v19 : FVec F S2x16x64x16 .f32 := Host.absf main_arg4
  let main_cst_6 : FVec F S_ .f32 := constant S_ .f32 0x7F800000#32
  let main_v20 : FVec F S2x16x64x16 .f32 := broadcastInDim S2x16x64x16 ![] bcast_S_S2x16x64x16 main_cst_6
  let main_v21 : IVec S2x16x64x16 1 := cmpf .olt main_v19 main_v20
  let main_c_7 : IVec S_ 1 := constantI S_ 1 1#1
  let main_v22 : IVec S_ 1 := (fun x v => Host.reduce IntOp.andi x v reducesTo_S2x16x64x16_S_d0_1_2_3 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x16x64 .f32) (main_arg1 : FVec F S2x16x64 .f32) (main_arg2 : FVec F S2x16 .f32) (main_arg3 : FVec F S2x16x64x16 .f32) (main_arg4 : FVec F S2x16x64x16 .f32) (main_arg5 : FVec F S1x1024 .f32) (main_arg6 : FVec F S1x1024 .f32) (main_arg7 : FVec F S1x1024 .f32) (main_arg8 : FVec F S1x1024 .f32) (main_arg9 : FVec F S256x2048 .f32) (main_arg10 : FVec F S256x2048 .f32) (main_arg11 : FVec F S256x2048 .f32) (main_arg12 : FVec F S256x2048 .f32) : IVec S_ 1 :=
  let main_v0 : FVec F S2x16x64 .f32 := Host.absf main_arg0
  let main_cst : FVec F S_ .f32 := constant S_ .f32 0x7F800000#32
  let main_v1 : FVec F S2x16x64 .f32 := broadcastInDim S2x16x64 ![] bcast_S_S2x16x64 main_cst
  let main_v2 : IVec S2x16x64 1 := cmpf .olt main_v0 main_v1
  let main_c : IVec S_ 1 := constantI S_ 1 1#1
  let main_v3 : IVec S_ 1 := (fun x v => Host.reduce IntOp.andi x v reducesTo_S2x16x64_S_d0_1_2 h_S_) main_v2 main_c
  let main_v4 : FVec F S2x16x64 .f32 := Host.absf main_arg1
  let main_cst_0 : FVec F S_ .f32 := constant S_ .f32 0x7F800000#32
  let main_v5 : FVec F S2x16x64 .f32 := broadcastInDim S2x16x64 ![] bcast_S_S2x16x64 main_cst_0
  let main_v6 : IVec S2x16x64 1 := cmpf .olt main_v4 main_v5
  let main_c_1 : IVec S_ 1 := constantI S_ 1 1#1
  let main_v7 : IVec S_ 1 := (fun x v => Host.reduce IntOp.andi x v reducesTo_S2x16x64_S_d0_1_2 h_S_) main_v6 main_c_1
  let main_v8 : IVec S_ 1 := andi main_v3 main_v7
  let main_v9 : FVec F S2x16 .f32 := Host.absf main_arg2
  let main_cst_2 : FVec F S_ .f32 := constant S_ .f32 0x7F800000#32
  let main_v10 : FVec F S2x16 .f32 := broadcastInDim S2x16 ![] bcast_S_S2x16 main_cst_2
  let main_v11 : IVec S2x16 1 := cmpf .olt main_v9 main_v10
  let main_c_3 : IVec S_ 1 := constantI S_ 1 1#1
  let main_v12 : IVec S_ 1 := (fun x v => Host.reduce IntOp.andi x v reducesTo_S2x16_S_d0_1 h_S_) main_v11 main_c_3
  let main_v13 : IVec S_ 1 := andi main_v8 main_v12
  let main_v14 : FVec F S2x16x64x16 .f32 := Host.absf main_arg3
  let main_cst_4 : FVec F S_ .f32 := constant S_ .f32 0x7F800000#32
  let main_v15 : FVec F S2x16x64x16 .f32 := broadcastInDim S2x16x64x16 ![] bcast_S_S2x16x64x16 main_cst_4
  let main_v16 : IVec S2x16x64x16 1 := cmpf .olt main_v14 main_v15
  fn_part1 (F := F) main_arg4 main_arg5 main_arg6 main_arg7 main_arg8 main_arg9 main_arg10 main_arg11 main_arg12 main_v13 main_v16
-- ==== Pre_q_dx_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x1024 .bf16) (main_arg1 : FVec F S1024x1024 .f32) (main_arg2 : FVec F S4096x1024 .f32) (main_arg3 : FVec F S1x1024 .f32) (main_arg4 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== AttnBwd.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnBwdRefIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x2048, .f32⟩
  | .hbm, ⟨89, _⟩ => ⟨S4096x1024, .f32⟩
  | .hbm, ⟨90, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== FfnDx.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnDxRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== QDx.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QDxRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InDx.lean ====
abbrev S4096x512 : Shape := ⟨2, ![4096, 512]⟩
abbrev S4096x256 : Shape := ⟨2, ![4096, 256]⟩
abbrev S4096x1024 : Shape := ⟨2, ![4096, 1024]⟩
abbrev S1024x2816 : Shape := ⟨2, ![1024, 2816]⟩
abbrev S1x1024 : Shape := ⟨2, ![1, 1024]⟩
abbrev S2816x1024 : Shape := ⟨2, ![2816, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S1024x2816, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S2816x1024, .f32⟩
  | .hbm, ⟨9, _⟩ => ⟨S2816x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InDxRefIdeal.lean ====
abbrev S4096x512 : Shape := ⟨2, ![4096, 512]⟩
abbrev S4096x256 : Shape := ⟨2, ![4096, 256]⟩
abbrev S4096x1024 : Shape := ⟨2, ![4096, 1024]⟩
abbrev S1024x2816 : Shape := ⟨2, ![1024, 2816]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S1024x2816, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x512, .f32⟩
  | .hbm, ⟨9, _⟩ => ⟨S4096x256, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x512, .f32⟩
  | .hbm, ⟨33, _⟩ => ⟨S4096x256, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== FfnHead.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnHeadRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x128, .f32⟩
  | .hbm, ⟨77, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== MergeBwd.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S4x1024x256 : Shape := ⟨3, ![4, 1024, 256]⟩
abbrev S512x512 : Shape := ⟨2, ![512, 512]⟩
abbrev S512x256 : Shape := ⟨2, ![512, 256]⟩
abbrev S512x2816 : Shape := ⟨2, ![512, 2816]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 20
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S4096x2816, .f32⟩
  | .hbm, ⟨6, _⟩ => ⟨S4096x1024, .bf16⟩
  | .hbm, ⟨7, _⟩ => ⟨S512x4x256, .f32⟩
  | .hbm, ⟨8, _⟩ => ⟨S4x512x256, .f32⟩
  | .hbm, ⟨9, _⟩ => ⟨S256x4x256, .f32⟩
  | .hbm, ⟨10, _⟩ => ⟨S4x256x256, .f32⟩
  | .hbm, ⟨11, _⟩ => ⟨S256x4x256, .f32⟩
  | .hbm, ⟨12, _⟩ => ⟨S4x256x256, .f32⟩
  | .hbm, ⟨13, _⟩ => ⟨S4x1024x256, .f32⟩
  | .hbm, ⟨14, _⟩ => ⟨S4x1024x256, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S4x1024x256, .bf16⟩
  | .local _ .vmem, ⟨5, _⟩ => ⟨S512x2816, .f32⟩
  | .local _ .vmem, ⟨6, _⟩ => ⟨S512x2816, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeBwdRefIdeal.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S4096x2816, .f32⟩
  | .hbm, ⟨6, _⟩ => ⟨S4096x1024, .bf16⟩
  | .hbm, ⟨7, _⟩ => ⟨S4096x512, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S4096x1024, .bf16⟩
  | .hbm, ⟨68, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== BwdAct.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .bf16⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x1024, .bf16⟩
  | .local _ .vmem, ⟨11, _⟩ => ⟨S512x1024, .bf16⟩
  | .local _ .vmem, ⟨12, _⟩ => ⟨S2816x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== BwdActRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .bf16⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== MixerDx.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S4x1024x256 : Shape := ⟨3, ![4, 1024, 256]⟩
abbrev S4096x512 : Shape := ⟨2, ![4096, 512]⟩
abbrev S512x256 : Shape := ⟨2, ![512, 256]⟩
abbrev S512x512 : Shape := ⟨2, ![512, 512]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S512x1024, .f32⟩
  | .hbm, ⟨4, _⟩ => ⟨S256x1024, .f32⟩
  | .hbm, ⟨5, _⟩ => ⟨S256x1024, .f32⟩
  | .hbm, ⟨6, _⟩ => ⟨S4096x256, .f32⟩
  | .hbm, ⟨7, _⟩ => ⟨S512x4x256, .f32⟩
  | .hbm, ⟨8, _⟩ => ⟨S4x512x256, .f32⟩
  | .hbm, ⟨9, _⟩ => ⟨S256x4x256, .f32⟩
  | .hbm, ⟨10, _⟩ => ⟨S4x256x256, .f32⟩
  | .hbm, ⟨11, _⟩ => ⟨S256x4x256, .f32⟩
  | .hbm, ⟨12, _⟩ => ⟨S4x256x256, .f32⟩
  | .hbm, ⟨13, _⟩ => ⟨S4x1024x256, .f32⟩
  | .hbm, ⟨14, _⟩ => ⟨S4x1024x256, .bf16⟩
  | .hbm, ⟨15, _⟩ => ⟨S4096x512, .bf16⟩
  | .hbm, ⟨16, _⟩ => ⟨S4096x256, .f32⟩
  | .hbm, ⟨17, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x1024x256, .bf16⟩
  | .local _ .vmem, ⟨7, _⟩ => ⟨S512x256, .f32⟩
  | .local _ .vmem, ⟨8, _⟩ => ⟨S512x256, .f32⟩
  | .local _ .vmem, ⟨9, _⟩ => ⟨S512x512, .bf16⟩
  | .local _ .vmem, ⟨10, _⟩ => ⟨S512x512, .bf16⟩
  | .local _ .vmem, ⟨11, _⟩ => ⟨S512x256, .f32⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerDxIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== MixerDxRefIdeal.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S4096x512 : Shape := ⟨2, ![4096, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S512x1024, .f32⟩
  | .hbm, ⟨4, _⟩ => ⟨S256x1024, .f32⟩
  | .hbm, ⟨5, _⟩ => ⟨S256x1024, .f32⟩
  | .hbm, ⟨6, _⟩ => ⟨S4096x256, .f32⟩
  | .hbm, ⟨7, _⟩ => ⟨S4096x512, .bf16⟩
  | .hbm, ⟨8, _⟩ => ⟨S4096x256, .f32⟩
  | .hbm, ⟨9, _⟩ => ⟨S4096x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S4096x256, .f32⟩
  | .local _ .vmem, ⟨7, _⟩ => ⟨S4096x512, .bf16⟩
  | .local _ .vmem, ⟨8, _⟩ => ⟨S4096x256, .f32⟩
  | .local _ .vmem, ⟨9, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "gelu_k" => some ((8943 / 200000 : ℝ) : EReal)
  | _ => none

abbrev grid0 : Pipeline.Grid := .none

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== SsmDs.lean ====
abbrev S4096x2816 : Shape := ⟨2, ![4096, 2816]⟩
abbrev S4096x256 : Shape := ⟨2, ![4096, 256]⟩
abbrev S1x256 : Shape := ⟨2, ![1, 256]⟩
abbrev S512x256 : Shape := ⟨2, ![512, 256]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S1x256, .f32⟩
  | .hbm, ⟨5, _⟩ => ⟨S4096x256, .bf16⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S1x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SsmDsRefIdeal.lean ====
abbrev S4096x2816 : Shape := ⟨2, ![4096, 2816]⟩
abbrev S4096x256 : Shape := ⟨2, ![4096, 256]⟩
abbrev S1x256 : Shape := ⟨2, ![1, 256]⟩
abbrev S_ : Shape := ⟨0, ![]⟩
abbrev S256 : Shape := ⟨1, ![256]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== AttnFwd.lean ====
abbrev S4096x1024 : Shape := ⟨2, ![4096, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdRefIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S4096x4x256, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== PoolBwd.lean ====
abbrev S4096x512 : Shape := ⟨2, ![4096, 512]⟩
abbrev S4x128x128 : Shape := ⟨3, ![4, 128, 128]⟩
abbrev S1x512 : Shape := ⟨2, ![1, 512]⟩
abbrev S4 : Shape := ⟨1, ![4]⟩
abbrev S_ : Shape := ⟨0, ![]⟩
abbrev S4096x4x128 : Shape := ⟨3, ![4096, 4, 128]⟩
abbrev S1x4x128 : Shape := ⟨3, ![1, 4, 128]⟩
abbrev S4097x4x128 : Shape := ⟨3, ![4097, 4, 128]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S4x128x4096 : Shape := ⟨3, ![4, 128, 4096]⟩
abbrev S4112x512 : Shape := ⟨2, ![4112, 512]⟩
abbrev S8x512 : Shape := ⟨2, ![8, 512]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S128 : Shape := ⟨1, ![128]⟩
abbrev S272x128 : Shape := ⟨2, ![272, 128]⟩

abbrev nBuf : Space → Nat
  | .hbm => 102
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S1x512, .f32⟩
  | .hbm, ⟨3, _⟩ => ⟨S4096x512, .bf16⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4096x4x128, .f32⟩
  | .hbm, ⟨12, _⟩ => ⟨S1x4x128, .f32⟩
  | .hbm, ⟨13, _⟩ => ⟨S_, .f32⟩
  | .hbm, ⟨14, _⟩ => ⟨S1x4x128, .f32⟩
  | .hbm, ⟨15, _⟩ => ⟨S_, .f32⟩
  | .hbm, ⟨16, _⟩ => ⟨S_, .f32⟩
  | .hbm, ⟨17, _⟩ => ⟨S4096x4x128, .f32⟩
  | .hbm, ⟨18, _⟩ => ⟨S4097x4x128, .f32⟩
  | .hbm, ⟨19, _⟩ => ⟨S4096, .i32⟩
  | .hbm, ⟨20, _⟩ => ⟨S4096x1, .i32⟩
  | .hbm, ⟨21, _⟩ => ⟨S1x4, .i32⟩
  | .hbm, ⟨22, _⟩ => ⟨S4096x4, .i32⟩
  | .hbm, ⟨23, _⟩ => ⟨S4096x4, .i32⟩
  | .hbm, ⟨24, _⟩ => ⟨S4096x4, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4096x4, .i32⟩
  | .hbm, ⟨29, _⟩ => ⟨S4096x4, .i32⟩
  | .hbm, ⟨30, _⟩ => ⟨S_, .i32⟩
  | .hbm, ⟨31, _⟩ => ⟨S4096x4, .i32⟩
  | .hbm, ⟨32, _⟩ => ⟨S4096x4, .i32⟩
  | .hbm, ⟨33, _⟩ => ⟨S1x4, .i32⟩
  | .hbm, ⟨34, _⟩ => ⟨S4096x4, .i32⟩
  | .hbm, ⟨35, _⟩ => ⟨S4096x4, .i32⟩
  | .hbm, ⟨36, _⟩ => ⟨S4096x4, .i32⟩
  | .hbm, ⟨37, _⟩ => ⟨S_, .i32⟩
  | .hbm, ⟨38, _⟩ => ⟨S4096x4, .i32⟩
  | .hbm, ⟨39, _⟩ => ⟨S4096x4, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S4096x4, .i32⟩
  | .hbm, ⟨44, _⟩ => ⟨S4096x4, .i32⟩
  | .hbm, ⟨45, _⟩ => ⟨S_, .i32⟩
  | .hbm, ⟨46, _⟩ => ⟨S4096x4, .i32⟩
  | .hbm, ⟨47, _⟩ => ⟨S4096x4, .i32⟩
  | .hbm, ⟨48, _⟩ => ⟨S_, .i32⟩
  | .hbm, ⟨49, _⟩ => ⟨S4096x4, .i32⟩
  | .hbm, ⟨50, _⟩ => ⟨S4096x4, .i1⟩
  | .hbm, ⟨51, _⟩ => ⟨S_, .i32⟩
  | .hbm, ⟨52, _⟩ => ⟨S4096x4, .i32⟩
  | .hbm, ⟨53, _⟩ => ⟨S4096x4, .i32⟩
  | .hbm, ⟨54, _⟩ => ⟨S4096x4, .i32⟩
  | .hbm, ⟨55, _⟩ => ⟨S_, .i32⟩
  | .hbm, ⟨56, _⟩ => ⟨S4, .i32⟩
  | .hbm, ⟨57, _⟩ => ⟨S4, .i1⟩
  | .hbm, ⟨58, _⟩ => ⟨S_, .i32⟩
  | .hbm, ⟨59, _⟩ => ⟨S4, .i32⟩
  | .hbm, ⟨60, _⟩ => ⟨S4, .i32⟩
  | .hbm, ⟨61, _⟩ => ⟨S4, .i32⟩
  | .hbm, ⟨62, _⟩ => ⟨S4096x4, .i32⟩
  | .hbm, ⟨63, _⟩ => ⟨S4096x4x1, .i32⟩
  | .hbm, ⟨64, _⟩ => ⟨S4096x4x1, .i32⟩
  | .hbm, ⟨65, _⟩ => ⟨S4096x4x2, .i32⟩
  | .hbm, ⟨66, _⟩ => ⟨S4096x4x128, .f32⟩
  | .hbm, ⟨67, _⟩ => ⟨S_, .i32⟩
  | .hbm, ⟨68, _⟩ => ⟨S4096x4, .i32⟩
  | .hbm, ⟨69, _⟩ => ⟨S4096x4, .i1⟩
  | .hbm, ⟨70, _⟩ => ⟨S_, .i32⟩
  | .hbm, ⟨71, _⟩ => ⟨S4096x4, .i32⟩
  | .hbm, ⟨72, _⟩ => ⟨S4096x4, .i32⟩
  | .hbm, ⟨73, _⟩ => ⟨S4096x4, .i32⟩
  | .hbm, ⟨74, _⟩ => ⟨S_, .i32⟩
  | .hbm, ⟨75, _⟩ => ⟨S4, .i32⟩
  | .hbm, ⟨76, _⟩ => ⟨S4, .i1⟩
  | .hbm, ⟨77, _⟩ => ⟨S_, .i32⟩
  | .hbm, ⟨78, _⟩ => ⟨S4, .i32⟩
  | .hbm, ⟨79, _⟩ => ⟨S4, .i32⟩
  | .hbm, ⟨80, _⟩ => ⟨S4, .i32⟩
  | .hbm, ⟨81, _⟩ => ⟨S4096x4, .i32⟩
  | .hbm, ⟨82, _⟩ => ⟨S4096x4x1, .i32⟩
  | .hbm, ⟨83, _⟩ => ⟨S4096x4x1, .i32⟩
  | .hbm, ⟨84, _⟩ => ⟨S4096x4x2, .i32⟩
  | .hbm, ⟨85, _⟩ => ⟨S4096x4x128, .f32⟩
  | .hbm, ⟨86, _⟩ => ⟨S4096x4x128, .f32⟩
  | .hbm, ⟨87, _⟩ => ⟨S4096x4, .i32⟩
  | .hbm, ⟨88, _⟩ => ⟨S4096x4, .f32⟩
  | .hbm, ⟨89, _⟩ => ⟨S4096x4x1, .f32⟩
  | .hbm, ⟨90, _⟩ => ⟨S4096x4x128, .f32⟩
  | .hbm, ⟨91, _⟩ => ⟨S4096x4x128, .f32⟩
  | .hbm, ⟨92, _⟩ => ⟨S4096x4x128, .f32⟩
  | .hbm, ⟨93, _⟩ => ⟨S4x128x4096, .f32⟩
  | .hbm, ⟨94, _⟩ => ⟨S4096x4x128, .f32⟩
  | .hbm, ⟨95, _⟩ => ⟨S4096x512, .f32⟩
  | .hbm, ⟨96, _⟩ => ⟨S4096x512, .bf16⟩
  | .hbm, ⟨97, _⟩ => ⟨S4096x512, .f32⟩
  | .hbm, ⟨98, _⟩ => ⟨S4096x512, .bf16⟩
  | .hbm, ⟨99, _⟩ => ⟨S4096x512, .bf16⟩
  | .hbm, ⟨100, _⟩ => ⟨S1x512, .f32⟩
  | .hbm, ⟨101, _⟩ => ⟨S4x128x128, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4x128x128, .f32⟩
  | .local _ .vmem, ⟨4, _⟩ => ⟨S1x512, .f32⟩
  | .local _ .vmem, ⟨5, _⟩ => ⟨S4096x512, .bf16⟩
  | .local _ .vmem, ⟨6, _⟩ => ⟨S1x512, .f32⟩
  | .local _ .vmem, ⟨7, _⟩ => ⟨S4x128x128, .f32⟩
  | .local _ .vmem, ⟨8, _⟩ => ⟨S4112x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_c_9 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_c_13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67_0 : Ref sig .tc := ⟨.hbm, 99, rfl⟩
abbrev main_v67_1 : Ref sig .tc := ⟨.hbm, 100, rfl⟩
abbrev main_v67_2 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v60 : BitVec 32 := Scalar.muli arg9 c256_i32
  v60
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v60 : BitVec 32 := Scalar.muli arg9 c256_i32
  let v61 : BitVec 32 := v60
  let v62 : Index := Scalar.indexCast v61
  let c0_74 : Index := 0#32
  ![v62.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v60 : BitVec 32 := Scalar.muli arg9 c256_i32
  let v61 : BitVec 32 := v60
  let c8_i32 : BitVec 32 := 8#32
  let v98 : BitVec 32 := Scalar.addi v61 c8_i32
  let v99 : Index := Scalar.indexCast v98
  let c0_84 : Index := 0#32
  ![v99.toNat, 0]
@[reducible] def k0_t2_loop : Scf.Loop 32 :=
  let c0_i32_16 : BitVec 32 := 0#32
  let c16_i32_17 : BitVec 32 := 16#32
  let v20 : BitVec 32 := Scalar.addi c0_i32_16 c16_i32_17
  let c1_i32_18 : BitVec 32 := 1#32
  ⟨c0_i32_16, v20, c1_i32_18⟩
def k0_mult2 (k0_t2 : Fin k0_t2_loop.trips) : BitVec 32 :=
  let c0_i32_16 : BitVec 32 := 0#32
  let c1_i32_18 : BitVec 32 := 1#32
  let arg9 : BitVec 32 := Scf.iv c0_i32_16 c1_i32_18 k0_t2
  let c256_i32 : BitVec 32 := 256#32
  let v60 : BitVec 32 := Scalar.muli arg9 c256_i32
  v60
def k0_off3 (k0_t2 : Fin k0_t2_loop.trips) : Fin 2 → Nat :=
  let c0_i32_16 : BitVec 32 := 0#32
  let c1_i32_18 : BitVec 32 := 1#32
  let arg9 : BitVec 32 := Scf.iv c0_i32_16 c1_i32_18 k0_t2
  let c256_i32 : BitVec 32 := 256#32
  let v60 : BitVec 32 := Scalar.muli arg9 c256_i32
  let v61 : BitVec 32 := v60
  let v62 : Index := Scalar.indexCast v61
  let c0_74 : Index := 0#32
  ![v62.toNat, 0]
def k0_off4 (k0_t2 : Fin k0_t2_loop.trips) : Fin 2 → Nat :=
  let c0_i32_16 : BitVec 32 := 0#32
  let c1_i32_18 : BitVec 32 := 1#32
  let arg9 : BitVec 32 := Scf.iv c0_i32_16 c1_i32_18 k0_t2
  let c256_i32 : BitVec 32 := 256#32
  let v60 : BitVec 32 := Scalar.muli arg9 c256_i32
  let v61 : BitVec 32 := v60
  let v86 : Index := Scalar.indexCast v61
  let c0_79 : Index := 0#32
  ![v86.toNat, 0]
@[reducible] def k0_t3_loop : Scf.Loop 32 :=
  let c0_i32_25 : BitVec 32 := 0#32
  let c16_i32_26 : BitVec 32 := 16#32
  let v27 : BitVec 32 := Scalar.addi c0_i32_25 c16_i32_26
  let c1_i32_27 : BitVec 32 := 1#32
  ⟨c0_i32_25, v27, c1_i32_27⟩
def k0_mult3 (k0_t3 : Fin k0_t3_loop.trips) : BitVec 32 :=
  let c0_i32_25 : BitVec 32 := 0#32
  let c1_i32_27 : BitVec 32 := 1#32
  let arg9 : BitVec 32 := Scf.iv c0_i32_25 c1_i32_27 k0_t3
  let c256_i32 : BitVec 32 := 256#32
  let v60 : BitVec 32 := Scalar.muli arg9 c256_i32
  v60
def k0_off5 (k0_t3 : Fin k0_t3_loop.trips) : Fin 2 → Nat :=
  let c0_i32_25 : BitVec 32 := 0#32
  let c1_i32_27 : BitVec 32 := 1#32
  let arg9 : BitVec 32 := Scf.iv c0_i32_25 c1_i32_27 k0_t3
  let c256_i32 : BitVec 32 := 256#32
  let v60 : BitVec 32 := Scalar.muli arg9 c256_i32
  let v61 : BitVec 32 := v60
  let v62 : Index := Scalar.indexCast v61
  let c128_74 : Index := 128#32
  ![v62.toNat, 128]
def k0_off6 (k0_t3 : Fin k0_t3_loop.trips) : Fin 2 → Nat :=
  let c0_i32_25 : BitVec 32 := 0#32
  let c1_i32_27 : BitVec 32 := 1#32
  let arg9 : BitVec 32 := Scf.iv c0_i32_25 c1_i32_27 k0_t3
  let c256_i32 : BitVec 32 := 256#32
  let v60 : BitVec 32 := Scalar.muli arg9 c256_i32
  let v61 : BitVec 32 := v60
  let c8_i32 : BitVec 32 := 8#32
  let v98 : BitVec 32 := Scalar.addi v61 c8_i32
  let v99 : Index := Scalar.indexCast v98
  let c128_83 : Index := 128#32
  ![v99.toNat, 128]
@[reducible] def k0_t4_loop : Scf.Loop 32 :=
  let c0_i32_34 : BitVec 32 := 0#32
  let c16_i32_35 : BitVec 32 := 16#32
  let v33 : BitVec 32 := Scalar.addi c0_i32_34 c16_i32_35
  let c1_i32_36 : BitVec 32 := 1#32
  ⟨c0_i32_34, v33, c1_i32_36⟩
def k0_mult4 (k0_t4 : Fin k0_t4_loop.trips) : BitVec 32 :=
  let c0_i32_34 : BitVec 32 := 0#32
  let c1_i32_36 : BitVec 32 := 1#32
  let arg9 : BitVec 32 := Scf.iv c0_i32_34 c1_i32_36 k0_t4
  let c256_i32 : BitVec 32 := 256#32
  let v60 : BitVec 32 := Scalar.muli arg9 c256_i32
  v60
def k0_off7 (k0_t4 : Fin k0_t4_loop.trips) : Fin 2 → Nat :=
  let c0_i32_34 : BitVec 32 := 0#32
  let c1_i32_36 : BitVec 32 := 1#32
  let arg9 : BitVec 32 := Scf.iv c0_i32_34 c1_i32_36 k0_t4
  let c256_i32 : BitVec 32 := 256#32
  let v60 : BitVec 32 := Scalar.muli arg9 c256_i32
  let v61 : BitVec 32 := v60
  let v62 : Index := Scalar.indexCast v61
  let c128_74 : Index := 128#32
  ![v62.toNat, 128]
def k0_off8 (k0_t4 : Fin k0_t4_loop.trips) : Fin 2 → Nat :=
  let c0_i32_34 : BitVec 32 := 0#32
  let c1_i32_36 : BitVec 32 := 1#32
  let arg9 : BitVec 32 := Scf.iv c0_i32_34 c1_i32_36 k0_t4
  let c256_i32 : BitVec 32 := 256#32
  let v60 : BitVec 32 := Scalar.muli arg9 c256_i32
  let v61 : BitVec 32 := v60
  let v89 : Index := Scalar.indexCast v61
  let c128_79 : Index := 128#32
  ![v89.toNat, 128]
@[reducible] def k0_t5_loop : Scf.Loop 32 :=
  let c0_i32_43 : BitVec 32 := 0#32
  let c16_i32_44 : BitVec 32 := 16#32
  let v40 : BitVec 32 := Scalar.addi c0_i32_43 c16_i32_44
  let c1_i32_45 : BitVec 32 := 1#32
  ⟨c0_i32_43, v40, c1_i32_45⟩
def k0_mult5 (k0_t5 : Fin k0_t5_loop.trips) : BitVec 32 :=
  let c0_i32_43 : BitVec 32 := 0#32
  let c1_i32_45 : BitVec 32 := 1#32
  let arg9 : BitVec 32 := Scf.iv c0_i32_43 c1_i32_45 k0_t5
  let c256_i32 : BitVec 32 := 256#32
  let v60 : BitVec 32 := Scalar.muli arg9 c256_i32
  v60
def k0_off9 (k0_t5 : Fin k0_t5_loop.trips) : Fin 2 → Nat :=
  let c0_i32_43 : BitVec 32 := 0#32
  let c1_i32_45 : BitVec 32 := 1#32
  let arg9 : BitVec 32 := Scf.iv c0_i32_43 c1_i32_45 k0_t5
  let c256_i32 : BitVec 32 := 256#32
  let v60 : BitVec 32 := Scalar.muli arg9 c256_i32
  let v61 : BitVec 32 := v60
  let v62 : Index := Scalar.indexCast v61
  let c256_74 : Index := 256#32
  ![v62.toNat, 256]
def k0_off10 (k0_t5 : Fin k0_t5_loop.trips) : Fin 2 → Nat :=
  let c0_i32_43 : BitVec 32 := 0#32
  let c1_i32_45 : BitVec 32 := 1#32
  let arg9 : BitVec 32 := Scf.iv c0_i32_43 c1_i32_45 k0_t5
  let c256_i32 : BitVec 32 := 256#32
  let v60 : BitVec 32 := Scalar.muli arg9 c256_i32
  let v61 : BitVec 32 := v60
  let c8_i32 : BitVec 32 := 8#32
  let v98 : BitVec 32 := Scalar.addi v61 c8_i32
  let v99 : Index := Scalar.indexCast v98
  let c256_82 : Index := 256#32
  ![v99.toNat, 256]
@[reducible] def k0_t6_loop : Scf.Loop 32 :=
  let c0_i32_52 : BitVec 32 := 0#32
  let c16_i32_53 : BitVec 32 := 16#32
  let v46 : BitVec 32 := Scalar.addi c0_i32_52 c16_i32_53
  let c1_i32_54 : BitVec 32 := 1#32
  ⟨c0_i32_52, v46, c1_i32_54⟩
def k0_mult6 (k0_t6 : Fin k0_t6_loop.trips) : BitVec 32 :=
  let c0_i32_52 : BitVec 32 := 0#32
  let c1_i32_54 : BitVec 32 := 1#32
  let arg9 : BitVec 32 := Scf.iv c0_i32_52 c1_i32_54 k0_t6
  let c256_i32 : BitVec 32 := 256#32
  let v60 : BitVec 32 := Scalar.muli arg9 c256_i32
  v60
def k0_off11 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let c256_i32 : BitVec 32 := 256#32
  let v60 : BitVec 32 := Scalar.muli arg9 c256_i32
  let v61 : BitVec 32 := v60
  let v62 : Index := Scalar.indexCast v61
  let c256_74 : Index := 256#32
  ![v62.toNat, 256]
def k0_off12 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let c256_i32 : BitVec 32 := 256#32
  let v60 : BitVec 32 := Scalar.muli arg9 c256_i32
  let v61 : BitVec 32 := v60
  let v91 : Index := Scalar.indexCast v61
  let c256_78 : Index := 256#32
  ![v91.toNat, 256]
@[reducible] def k0_t7_loop : Scf.Loop 32 :=
  let c0_i32_61 : BitVec 32 := 0#32
  let c16_i32_62 : BitVec 32 := 16#32
  let v53 : BitVec 32 := Scalar.addi c0_i32_61 c16_i32_62
  let c1_i32_63 : BitVec 32 := 1#32
  ⟨c0_i32_61, v53, c1_i32_63⟩
def k0_mult7 (k0_t7 : Fin k0_t7_loop.trips) : BitVec 32 :=
  let c0_i32_61 : BitVec 32 := 0#32
  let c1_i32_63 : BitVec 32 := 1#32
  let arg9 : BitVec 32 := Scf.iv c0_i32_61 c1_i32_63 k0_t7
  let c256_i32 : BitVec 32 := 256#32
  let v60 : BitVec 32 := Scalar.muli arg9 c256_i32
  v60
def k0_off13 (k0_t7 : Fin k0_t7_loop.trips) : Fin 2 → Nat :=
  let c0_i32_61 : BitVec 32 := 0#32
  let c1_i32_63 : BitVec 32 := 1#32
  let arg9 : BitVec 32 := Scf.iv c0_i32_61 c1_i32_63 k0_t7
  let c256_i32 : BitVec 32 := 256#32
  let v60 : BitVec 32 := Scalar.muli arg9 c256_i32
  let v61 : BitVec 32 := v60
  let v62 : Index := Scalar.indexCast v61
  let c384_74 : Index := 384#32
  ![v62.toNat, 384]
def k0_off14 (k0_t7 : Fin k0_t7_loop.trips) : Fin 2 → Nat :=
  let c0_i32_61 : BitVec 32 := 0#32
  let c1_i32_63 : BitVec 32 := 1#32
  let arg9 : BitVec 32 := Scf.iv c0_i32_61 c1_i32_63 k0_t7
  let c256_i32 : BitVec 32 := 256#32
  let v60 : BitVec 32 := Scalar.muli arg9 c256_i32
  let v61 : BitVec 32 := v60
  let c8_i32_82 : BitVec 32 := 8#32
  let v98 : BitVec 32 := Scalar.addi v61 c8_i32_82
  let v99 : Index := Scalar.indexCast v98
  let c384_83 : Index := 384#32
  ![v99.toNat, 384]
@[reducible] def k0_t8_loop : Scf.Loop 32 :=
  let c0_i32_70 : BitVec 32 := 0#32
  let c16_i32_71 : BitVec 32 := 16#32
  let v59 : BitVec 32 := Scalar.addi c0_i32_70 c16_i32_71
  let c1_i32_72 : BitVec 32 := 1#32
  ⟨c0_i32_70, v59, c1_i32_72⟩
def k0_mult8 (k0_t8 : Fin k0_t8_loop.trips) : BitVec 32 :=
  let c0_i32_70 : BitVec 32 := 0#32
  let c1_i32_72 : BitVec 32 := 1#32
  let arg9 : BitVec 32 := Scf.iv c0_i32_70 c1_i32_72 k0_t8
  let c256_i32 : BitVec 32 := 256#32
  let v60 : BitVec 32 := Scalar.muli arg9 c256_i32
  v60
def k0_off15 (k0_t8 : Fin k0_t8_loop.trips) : Fin 2 → Nat :=
  let c0_i32_70 : BitVec 32 := 0#32
  let c1_i32_72 : BitVec 32 := 1#32
  let arg9 : BitVec 32 := Scf.iv c0_i32_70 c1_i32_72 k0_t8
  let c256_i32 : BitVec 32 := 256#32
  let v60 : BitVec 32 := Scalar.muli arg9 c256_i32
  let v61 : BitVec 32 := v60
  let v62 : Index := Scalar.indexCast v61
  let c384_74 : Index := 384#32
  ![v62.toNat, 384]
def k0_off16 (k0_t8 : Fin k0_t8_loop.trips) : Fin 2 → Nat :=
  let c0_i32_70 : BitVec 32 := 0#32
  let c1_i32_72 : BitVec 32 := 1#32
  let arg9 : BitVec 32 := Scf.iv c0_i32_70 c1_i32_72 k0_t8
  let c256_i32 : BitVec 32 := 256#32
  let v60 : BitVec 32 := Scalar.muli arg9 c256_i32
  let v61 : BitVec 32 := v60
  let v93 : Index := Scalar.indexCast v61
  let c384_78 : Index := 384#32
  ![v93.toNat, 384]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== PoolBwdRefIdeal.lean ====
abbrev S4096x512 : Shape := ⟨2, ![4096, 512]⟩
abbrev S4x128x128 : Shape := ⟨3, ![4, 128, 128]⟩
abbrev S1x512 : Shape := ⟨2, ![1, 512]⟩
abbrev S4 : Shape := ⟨1, ![4]⟩
abbrev S_ : Shape := ⟨0, ![]⟩
abbrev S4096x4x128 : Shape := ⟨3, ![4096, 4, 128]⟩
abbrev S1x4x128 : Shape := ⟨3, ![1, 4, 128]⟩
abbrev S4097x4x128 : Shape := ⟨3, ![4097, 4, 128]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S4x128x4096 : Shape := ⟨3, ![4, 128, 4096]⟩
abbrev S512 : Shape := ⟨1, ![512]⟩
abbrev S4x4096x128 : Shape := ⟨3, ![4, 4096, 128]⟩

abbrev nBuf : Space → Nat
  | .hbm => 132
  | .vmem => 0
  | .smem => 0
  | _ => 0

abbrev hbmTy0_0 (i : Nat) : BufTy := match i % 128 with
  | 0 => ⟨S4096x512, .f32⟩
  | 1 => ⟨S4x128x128, .f32⟩
  | 2 => ⟨S1x512, .f32⟩
  | 3 => ⟨S4096x512, .bf16⟩
  | 4 => ⟨S4, .i32⟩
  | 5 => ⟨S_, .i32⟩
  | 6 => ⟨S4, .i32⟩
  | 7 => ⟨S4, .i32⟩
  | 8 => ⟨S_, .i32⟩
  | 9 => ⟨S4, .i32⟩
  | 10 => ⟨S4, .i32⟩
  | 11 => ⟨S4096x4x128, .f32⟩
  | 12 => ⟨S1x4x128, .f32⟩
  | 13 => ⟨S_, .f32⟩
  | 14 => ⟨S1x4x128, .f32⟩
  | 15 => ⟨S_, .f32⟩
  | 16 => ⟨S_, .f32⟩
  | 17 => ⟨S4096x4x128, .f32⟩
  | 18 => ⟨S4097x4x128, .f32⟩
  | 19 => ⟨S_, .f32⟩
  | 20 => ⟨S1x4x128, .f32⟩
  | 21 => ⟨S4096, .i32⟩
  | 22 => ⟨S4096x1, .i32⟩
  | 23 => ⟨S1x4, .i32⟩
  | 24 => ⟨S4096x4, .i32⟩
  | 25 => ⟨S4096x4, .i32⟩
  | 26 => ⟨S4096x4, .i32⟩
  | 27 => ⟨S_, .i32⟩
  | 28 => ⟨S_, .i32⟩
  | 29 => ⟨S_, .i32⟩
  | 30 => ⟨S4096x4, .i32⟩
  | 31 => ⟨S4096x4, .i32⟩
  | 32 => ⟨S_, .i32⟩
  | 33 => ⟨S4096x4, .i32⟩
  | 34 => ⟨S4096x4, .i32⟩
  | 35 => ⟨S1x4, .i32⟩
  | 36 => ⟨S4096x4, .i32⟩
  | 37 => ⟨S4096x4, .i32⟩
  | 38 => ⟨S4096x4, .i32⟩
  | 39 => ⟨S_, .i32⟩
  | 40 => ⟨S4096x4, .i32⟩
  | 41 => ⟨S4096x4, .i32⟩
  | 42 => ⟨S_, .i32⟩
  | 43 => ⟨S_, .i32⟩
  | 44 => ⟨S_, .i32⟩
  | 45 => ⟨S4096x4, .i32⟩
  | 46 => ⟨S4096x4, .i32⟩
  | 47 => ⟨S_, .i32⟩
  | 48 => ⟨S4096x4, .i32⟩
  | 49 => ⟨S4096x4, .i32⟩
  | 50 => ⟨S_, .i32⟩
  | 51 => ⟨S4096x4, .i32⟩
  | 52 => ⟨S4096x4, .i1⟩
  | 53 => ⟨S_, .i32⟩
  | 54 => ⟨S4096x4, .i32⟩
  | 55 => ⟨S4096x4, .i32⟩
  | 56 => ⟨S4096x4, .i32⟩
  | 57 => ⟨S_, .i32⟩
  | 58 => ⟨S4, .i32⟩
  | 59 => ⟨S4, .i1⟩
  | 60 => ⟨S_, .i32⟩
  | 61 => ⟨S4, .i32⟩
  | 62 => ⟨S4, .i32⟩
  | 63 => ⟨S4, .i32⟩
  | 64 => ⟨S4096x4, .i32⟩
  | 65 => ⟨S4096x4x1, .i32⟩
  | 66 => ⟨S4096x4x1, .i32⟩
  | 67 => ⟨S4096x4x2, .i32⟩
  | 68 => ⟨S4096x4x128, .f32⟩
  | 69 => ⟨S_, .i32⟩
  | 70 => ⟨S4096x4, .i32⟩
  | 71 => ⟨S4096x4, .i1⟩
  | 72 => ⟨S_, .i32⟩
  | 73 => ⟨S4096x4, .i32⟩
  | 74 => ⟨S4096x4, .i32⟩
  | 75 => ⟨S4096x4, .i32⟩
  | 76 => ⟨S_, .i32⟩
  | 77 => ⟨S4, .i32⟩
  | 78 => ⟨S4, .i1⟩
  | 79 => ⟨S_, .i32⟩
  | 80 => ⟨S4, .i32⟩
  | 81 => ⟨S4, .i32⟩
  | 82 => ⟨S4, .i32⟩
  | 83 => ⟨S4096x4, .i32⟩
  | 84 => ⟨S4096x4x1, .i32⟩
  | 85 => ⟨S4096x4x1, .i32⟩
  | 86 => ⟨S4096x4x2, .i32⟩
  | 87 => ⟨S4096x4x128, .f32⟩
  | 88 => ⟨S4096x4x128, .f32⟩
  | 89 => ⟨S4096x4, .i32⟩
  | 90 => ⟨S4096x4, .f32⟩
  | 91 => ⟨S4096x4x1, .f32⟩
  | 92 => ⟨S4096x4x128, .f32⟩
  | 93 => ⟨S4096x4x128, .f32⟩
  | 94 => ⟨S4096x4x128, .f32⟩
  | 95 => ⟨S4x128x4096, .f32⟩
  | 96 => ⟨S4096x4x128, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S4096x512, .f32⟩
  | 106 => ⟨S4096x512, .f32⟩
  | 107 => ⟨S4096x4x128, .f32⟩
  | 108 => ⟨S4x128x4096, .f32⟩
  | 109 => ⟨S4x4096x128, .f32⟩
  | 110 => ⟨S4096x4x128, .f32⟩
  | 111 => ⟨S4x128x128, .f32⟩
  | 112 => ⟨S4x128x128, .f32⟩
  | 113 => ⟨S4096x4x128, .f32⟩
  | 114 => ⟨S4096x4x128, .f32⟩
  | 115 => ⟨S4096x4x128, .f32⟩
  | 116 => ⟨S4096x4x128, .f32⟩
  | 117 => ⟨S_, .f32⟩
  | 118 => ⟨S4097x4x128, .f32⟩
  | 119 => ⟨S4097x4x128, .f32⟩
  | 120 => ⟨S_, .f32⟩
  | 121 => ⟨S4097x4x128, .f32⟩
  | 122 => ⟨S4097x4x128, .f32⟩
  | 123 => ⟨S4097x4x128, .f32⟩
  | 124 => ⟨S1x4x128, .f32⟩
  | 125 => ⟨S4096x4x128, .f32⟩
  | 126 => ⟨S_, .f32⟩
  | 127 => ⟨S_, .f32⟩
  | _ => ⟨S4096x512, .f32⟩

abbrev hbmTy0_1 (i : Nat) : BufTy := match i % 128 with
  | 0 => ⟨S4096x4x128, .f32⟩
  | 1 => ⟨S4096x4x128, .f32⟩
  | 2 => ⟨S4096x512, .f32⟩
  | 3 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_c_6 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_c_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_9 : Ref sig .tc := ⟨.hbm, 57, rfl⟩
abbrev main_v30 : Ref sig .tc := ⟨.hbm, 58, rfl⟩
abbrev main_v31 : Ref sig .tc := ⟨.hbm, 59, rfl⟩
abbrev main_c_10 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_c_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_c_14 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_call0_cst : Ref sig .tc := ⟨.hbm, 126, rfl⟩
abbrev main_call3_call0_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]
-- ==== PrepBwd.lean ====
abbrev S2x16x64 : Shape := ⟨3, ![2, 16, 64]⟩
abbrev S2x16 : Shape := ⟨2, ![2, 16]⟩
abbrev S2x16x64x16 : Shape := ⟨4, ![2, 16, 64, 16]⟩
abbrev S1x1024 : Shape := ⟨2, ![1, 1024]⟩
abbrev S256x2048 : Shape := ⟨2, ![256, 2048]⟩
abbrev S32x1x64 : Shape := ⟨3, ![32, 1, 64]⟩
abbrev S32x16x64 : Shape := ⟨3, ![32, 16, 64]⟩
abbrev S512x64 : Shape := ⟨2, ![512, 64]⟩
abbrev S32x1x1 : Shape := ⟨3, ![32, 1, 1]⟩
abbrev S32x16x1 : Shape := ⟨3, ![32, 16, 1]⟩
abbrev S512x1 : Shape := ⟨2, ![512, 1]⟩
abbrev S2x16x16x64 : Shape := ⟨4, ![2, 16, 16, 64]⟩
abbrev S256x1024 : Shape := ⟨2, ![256, 1024]⟩
abbrev S1024x64 : Shape := ⟨2, ![1024, 64]⟩
abbrev S256x64 : Shape := ⟨2, ![256, 64]⟩
abbrev S_ : Shape := ⟨0, ![]⟩
abbrev S32x64 : Shape := ⟨2, ![32, 64]⟩
abbrev S32x1024 : Shape := ⟨2, ![32, 1024]⟩
abbrev S32 : Shape := ⟨1, ![32]⟩

abbrev nBuf : Space → Nat
  | .hbm => 49
  | .vmem => 20
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16, .f32⟩
  | .hbm, ⟨4, _⟩ => ⟨S2x16x64x16, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S32x1x64, .f32⟩
  | .hbm, ⟨14, _⟩ => ⟨S32x16x64, .f32⟩
  | .hbm, ⟨15, _⟩ => ⟨S512x64, .f32⟩
  | .hbm, ⟨16, _⟩ => ⟨S32x1x64, .f32⟩
  | .hbm, ⟨17, _⟩ => ⟨S32x16x64, .f32⟩
  | .hbm, ⟨18, _⟩ => ⟨S512x64, .f32⟩
  | .hbm, ⟨19, _⟩ => ⟨S32x1x1, .f32⟩
  | .hbm, ⟨20, _⟩ => ⟨S32x16x1, .f32⟩
  | .hbm, ⟨21, _⟩ => ⟨S512x1, .f32⟩
  | .hbm, ⟨22, _⟩ => ⟨S2x16x16x64, .f32⟩
  | .hbm, ⟨23, _⟩ => ⟨S512x64, .f32⟩
  | .hbm, ⟨24, _⟩ => ⟨S2x16x16x64, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S512x64, .f32⟩
  | .hbm, ⟨32, _⟩ => ⟨S512x64, .f32⟩
  | .hbm, ⟨33, _⟩ => ⟨S32x16x64, .f32⟩
  | .hbm, ⟨34, _⟩ => ⟨S_, .f32⟩
  | .hbm, ⟨35, _⟩ => ⟨S32x64, .f32⟩
  | .hbm, ⟨36, _⟩ => ⟨S2x16x64, .f32⟩
  | .hbm, ⟨37, _⟩ => ⟨S32x16x64, .f32⟩
  | .hbm, ⟨38, _⟩ => ⟨S_, .f32⟩
  | .hbm, ⟨39, _⟩ => ⟨S32x64, .f32⟩
  | .hbm, ⟨40, _⟩ => ⟨S2x16x64, .f32⟩
  | .hbm, ⟨41, _⟩ => ⟨S32x1024, .f32⟩
  | .hbm, ⟨42, _⟩ => ⟨S_, .f32⟩
  | .hbm, ⟨43, _⟩ => ⟨S32, .f32⟩
  | .hbm, ⟨44, _⟩ => ⟨S2x16, .f32⟩
  | .hbm, ⟨45, _⟩ => ⟨S2x16x16x64, .f32⟩
  | .hbm, ⟨46, _⟩ => ⟨S2x16x16x64, .f32⟩
  | .hbm, ⟨47, _⟩ => ⟨S2x16x16x64, .f32⟩
  | .hbm, ⟨48, _⟩ => ⟨S2x16x16x64, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x64, .f32⟩
  | .local _ .vmem, ⟨4, _⟩ => ⟨S512x64, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v13_6 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== PrepBwdRefIdeal.lean ====
abbrev S2x16x64 : Shape := ⟨3, ![2, 16, 64]⟩
abbrev S2x16 : Shape := ⟨2, ![2, 16]⟩
abbrev S2x16x64x16 : Shape := ⟨4, ![2, 16, 64, 16]⟩
abbrev S1x1024 : Shape := ⟨2, ![1, 1024]⟩
abbrev S256x2048 : Shape := ⟨2, ![256, 2048]⟩
abbrev S_ : Shape := ⟨0, ![]⟩
abbrev S2x16x16x64 : Shape := ⟨4, ![2, 16, 16, 64]⟩
abbrev S1x1x1024 : Shape := ⟨3, ![1, 1, 1024]⟩
abbrev S2x1x1024 : Shape := ⟨3, ![2, 1, 1024]⟩
abbrev S1x256x2048 : Shape := ⟨3, ![1, 256, 2048]⟩
abbrev S2x256x2048 : Shape := ⟨3, ![2, 256, 2048]⟩
abbrev S2x16x1 : Shape := ⟨3, ![2, 16, 1]⟩
abbrev S2x16x64x1 : Shape := ⟨4, ![2, 16, 64, 1]⟩
abbrev S16x16 : Shape := ⟨2, ![16, 16]⟩
abbrev S2x16x16x1x64 : Shape := ⟨5, ![2, 16, 16, 1, 64]⟩
abbrev S16x1x16x1 : Shape := ⟨4, ![16, 1, 16, 1]⟩
abbrev S1x16x1x16x1 : Shape := ⟨5, ![1, 16, 1, 16, 1]⟩
abbrev S2x16x16x16x64 : Shape := ⟨5, ![2, 16, 16, 16, 64]⟩
abbrev S2x256x1024 : Shape := ⟨3, ![2, 256, 1024]⟩

abbrev nBuf : Space → Nat
  | .hbm => 265
  | .vmem => 0
  | .smem => 0
  | _ => 0

abbrev hbmTy0_0 (i : Nat) : BufTy := match i % 128 with
  | 0 => ⟨S2x16x64, .f32⟩
  | 1 => ⟨S2x16x64, .f32⟩
  | 2 => ⟨S2x16, .f32⟩
  | 3 => ⟨S2x16x64x16, .f32⟩
  | 4 => ⟨S2x16x64x16, .f32⟩
  | 5 => ⟨S1x1024, .f32⟩
  | 6 => ⟨S1x1024, .f32⟩
  | 7 => ⟨S1x1024, .f32⟩
  | 8 => ⟨S1x1024, .f32⟩
  | 9 => ⟨S256x2048, .f32⟩
  | 10 => ⟨S256x2048, .f32⟩
  | 11 => ⟨S256x2048, .f32⟩
  | 12 => ⟨S256x2048, .f32⟩
  | 13 => ⟨S_, .f32⟩
  | 14 => ⟨S2x16x16x64, .f32⟩
  | 15 => ⟨S1x1x1024, .f32⟩
  | 16 => ⟨S1x1x1024, .f32⟩
  | 17 => ⟨S2x1x1024, .f32⟩
  | 18 => ⟨S1x1x1024, .f32⟩
  | 19 => ⟨S1x1x1024, .f32⟩
  | 20 => ⟨S2x1x1024, .f32⟩
  | 21 => ⟨S1x256x2048, .f32⟩
  | 22 => ⟨S1x256x2048, .f32⟩
  | 23 => ⟨S2x256x2048, .f32⟩
  | 24 => ⟨S1x256x2048, .f32⟩
  | 25 => ⟨S1x256x2048, .f32⟩
  | 26 => ⟨S2x256x2048, .f32⟩
  | 27 => ⟨S2x16, .f32⟩
  | 28 => ⟨S2x16x1, .f32⟩
  | 29 => ⟨S2x16x64, .f32⟩
  | 30 => ⟨S2x16x64, .f32⟩
  | 31 => ⟨S2x16x64, .f32⟩
  | 32 => ⟨S2x16x64, .f32⟩
  | 33 => ⟨S2x16x64, .f32⟩
  | 34 => ⟨S2x16x64, .f32⟩
  | 35 => ⟨S2x16x64, .f32⟩
  | 36 => ⟨S2x16x64, .f32⟩
  | 37 => ⟨S2x16x64, .f32⟩
  | 38 => ⟨S2x16x64, .f32⟩
  | 39 => ⟨S2x16x64, .f32⟩
  | 40 => ⟨S2x16x64, .f32⟩
  | 41 => ⟨S2x16x64, .f32⟩
  | 42 => ⟨S2x16x64, .f32⟩
  | 43 => ⟨S_, .f32⟩
  | 44 => ⟨S2x16x64, .f32⟩
  | 45 => ⟨S2x16x64, .f32⟩
  | 46 => ⟨S2x16x64, .f32⟩
  | 47 => ⟨S2x16x64, .f32⟩
  | 48 => ⟨S2x16x64, .f32⟩
  | 49 => ⟨S2x16x64, .f32⟩
  | 50 => ⟨S2x16x64, .f32⟩
  | 51 => ⟨S_, .f32⟩
  | 52 => ⟨S2x16x64, .f32⟩
  | 53 => ⟨S2x16x64, .f32⟩
  | 54 => ⟨S2x16x64, .f32⟩
  | 55 => ⟨S2x16x64, .f32⟩
  | 56 => ⟨S2x16x64, .f32⟩
  | 57 => ⟨S2x16x64, .f32⟩
  | 58 => ⟨S2x16x64, .f32⟩
  | 59 => ⟨S_, .f32⟩
  | 60 => ⟨S2x16x64, .f32⟩
  | 61 => ⟨S2x16x64, .f32⟩
  | 62 => ⟨S2x16x64x1, .f32⟩
  | 63 => ⟨S2x16x64x16, .f32⟩
  | 64 => ⟨S2x16x64x16, .f32⟩
  | 65 => ⟨S2x16x64x1, .f32⟩
  | 66 => ⟨S2x16x64x16, .f32⟩
  | 67 => ⟨S2x16x64x16, .f32⟩
  | 68 => ⟨S2x16x64x16, .f32⟩
  | 69 => ⟨S2x16x64x1, .f32⟩
  | 70 => ⟨S2x16x64x16, .f32⟩
  | 71 => ⟨S2x16x64x16, .f32⟩
  | 72 => ⟨S2x16x64x1, .f32⟩
  | 73 => ⟨S2x16x64x16, .f32⟩
  | 74 => ⟨S2x16x64x16, .f32⟩
  | 75 => ⟨S2x16x64x16, .f32⟩
  | 76 => ⟨S2x1x1024, .f32⟩
  | 77 => ⟨S2x1x1024, .f32⟩
  | 78 => ⟨S16x16, .i32⟩
  | 79 => ⟨S16x16, .i32⟩
  | 80 => ⟨S_, .i32⟩
  | 81 => ⟨S16x16, .i32⟩
  | 82 => ⟨S16x16, .i32⟩
  | 83 => ⟨S16x16, .i1⟩
  | 84 => ⟨S16x16, .f32⟩
  | 85 => ⟨S2x16x16x64, .f32⟩
  | 86 => ⟨S2x16x16x1x64, .f32⟩
  | 87 => ⟨S16x1x16x1, .f32⟩
  | 88 => ⟨S1x16x1x16x1, .f32⟩
  | 89 => ⟨S2x16x16x16x64, .f32⟩
  | 90 => ⟨S2x16x16x16x64, .f32⟩
  | 91 => ⟨S2x16x16x16x64, .f32⟩
  | 92 => ⟨S2x256x1024, .f32⟩
  | 93 => ⟨S2x16x16x64, .f32⟩
  | 94 => ⟨S2x16x16x1x64, .f32⟩
  | 95 => ⟨S16x1x16x1, .f32⟩
  | 96 => ⟨S1x16x1x16x1, .f32⟩
  | 97 => ⟨S2x16x16x16x64, .f32⟩
  | 98 => ⟨S2x16x16x16x64, .f32⟩
  | 99 => ⟨S2x16x16x16x64, .f32⟩
  | 100 => ⟨S2x256x1024, .f32⟩
  | 101 => ⟨S2x256x2048, .f32⟩
  | 102 => ⟨S16x16, .i32⟩
  | 103 => ⟨S16x16, .i32⟩
  | 104 => ⟨S_, .i32⟩
  | 105 => ⟨S16x16, .i32⟩
  | 106 => ⟨S16x16, .i32⟩
  | 107 => ⟨S16x16, .i1⟩
  | 108 => ⟨S16x16, .f32⟩
  | 109 => ⟨S2x16x16x64, .f32⟩
  | 110 => ⟨S2x16x16x1x64, .f32⟩
  | 111 => ⟨S16x1x16x1, .f32⟩
  | 112 => ⟨S1x16x1x16x1, .f32⟩
  | 113 => ⟨S2x16x16x16x64, .f32⟩
  | 114 => ⟨S2x16x16x16x64, .f32⟩
  | 115 => ⟨S2x16x16x16x64, .f32⟩
  | 116 => ⟨S2x256x1024, .f32⟩
  | 117 => ⟨S2x16x16x1x64, .f32⟩
  | 118 => ⟨S16x1x16x1, .f32⟩
  | 119 => ⟨S1x16x1x16x1, .f32⟩
  | 120 => ⟨S2x16x16x16x64, .f32⟩
  | 121 => ⟨S2x16x16x16x64, .f32⟩
  | 122 => ⟨S2x16x16x16x64, .f32⟩
  | 123 => ⟨S2x256x1024, .f32⟩
  | 124 => ⟨S2x256x2048, .f32⟩
  | 125 => ⟨S2x256x1024, .f32⟩
  | 126 => ⟨S2x256x1024, .f32⟩
  | 127 => ⟨S2x16x16x16x64, .f32⟩
  | _ => ⟨S2x16x64, .f32⟩

abbrev hbmTy0_1 (i : Nat) : BufTy := match i % 128 with
  | 0 => ⟨S2x16x16x16x64, .f32⟩
  | 1 => ⟨S2x16x16x16x64, .f32⟩
  | 2 => ⟨S_, .f32⟩
  | 3 => ⟨S2x16x16x64, .f32⟩
  | 4 => ⟨S2x16x16x1x64, .f32⟩
  | 5 => ⟨S_, .f32⟩
  | 6 => ⟨S2x16x16x64, .f32⟩
  | 7 => ⟨S2x16x16x16x64, .f32⟩
  | 8 => ⟨S2x16x16x16x64, .f32⟩
  | 9 => ⟨S2x16x16x16x64, .f32⟩
  | 10 => ⟨S_, .f32⟩
  | 11 => ⟨S2x16x16x64, .f32⟩
  | 12 => ⟨S2x16x16x1x64, .f32⟩
  | 13 => ⟨S_, .f32⟩
  | 14 => ⟨S2x16x16x64, .f32⟩
  | 15 => ⟨S2x16x16x64, .f32⟩
  | 16 => ⟨S2x256x1024, .f32⟩
  | 17 => ⟨S2x256x1024, .f32⟩
  | 18 => ⟨S2x16x16x16x64, .f32⟩
  | 19 => ⟨S2x16x16x16x64, .f32⟩
  | 20 => ⟨S2x16x16x16x64, .f32⟩
  | 21 => ⟨S_, .f32⟩
  | 22 => ⟨S2x16x16x64, .f32⟩
  | 23 => ⟨S2x16x16x1x64, .f32⟩
  | 24 => ⟨S_, .f32⟩
  | 25 => ⟨S2x16x16x64, .f32⟩
  | 26 => ⟨S2x16x64x16, .f32⟩
  | 27 => ⟨S2x16x16x16x64, .f32⟩
  | 28 => ⟨S2x16x16x16x64, .f32⟩
  | 29 => ⟨S2x16x16x16x64, .f32⟩
  | 30 => ⟨S_, .f32⟩
  | 31 => ⟨S2x16x16x64, .f32⟩
  | 32 => ⟨S2x16x16x1x64, .f32⟩
  | 33 => ⟨S_, .f32⟩
  | 34 => ⟨S2x16x16x64, .f32⟩
  | 35 => ⟨S2x16x64x16, .f32⟩
  | 36 => ⟨S2x16x64, .f32⟩
  | 37 => ⟨S2x16x64, .f32⟩
  | 38 => ⟨S2x16x64x16, .f32⟩
  | 39 => ⟨S2x16x64x16, .f32⟩
  | 40 => ⟨S2x16x64x16, .f32⟩
  | 41 => ⟨S_, .f32⟩
  | 42 => ⟨S2x16x64, .f32⟩
  | 43 => ⟨S2x16x64x1, .f32⟩
  | 44 => ⟨S_, .f32⟩
  | 45 => ⟨S2x16x64, .f32⟩
  | 46 => ⟨S2x16x64x16, .f32⟩
  | 47 => ⟨S2x16x64x16, .f32⟩
  | 48 => ⟨S2x16x64x16, .f32⟩
  | 49 => ⟨S_, .f32⟩
  | 50 => ⟨S2x16x64, .f32⟩
  | 51 => ⟨S2x16x64x1, .f32⟩
  | 52 => ⟨S_, .f32⟩
  | 53 => ⟨S2x16x64, .f32⟩
  | 54 => ⟨S2x16x64x16, .f32⟩
  | 55 => ⟨S2x16x64x16, .f32⟩
  | 56 => ⟨S2x16x64x16, .f32⟩
  | 57 => ⟨S2x16x64x16, .f32⟩
  | 58 => ⟨S2x16x64x16, .f32⟩
  | 59 => ⟨S_, .f32⟩
  | 60 => ⟨S2x16x64, .f32⟩
  | 61 => ⟨S2x16x64x1, .f32⟩
  | 62 => ⟨S_, .f32⟩
  | 63 => ⟨S2x16x64, .f32⟩
  | 64 => ⟨S2x16x64, .f32⟩
  | 65 => ⟨S2x16x64x16, .f32⟩
  | 66 => ⟨S2x16x64x16, .f32⟩
  | 67 => ⟨S2x16x64x16, .f32⟩
  | 68 => ⟨S2x16x64x16, .f32⟩
  | 69 => ⟨S_, .f32⟩
  | 70 => ⟨S2x16x64, .f32⟩
  | 71 => ⟨S2x16x64x1, .f32⟩
  | 72 => ⟨S_, .f32⟩
  | 73 => ⟨S2x16x64, .f32⟩
  | 74 => ⟨S2x16x64, .f32⟩
  | 75 => ⟨S2x16x64, .f32⟩
  | 76 => ⟨S2x16x64, .f32⟩
  | 77 => ⟨S2x16x64, .f32⟩
  | 78 => ⟨S2x16x64, .f32⟩
  | 79 => ⟨S2x16x64, .f32⟩
  | 80 => ⟨S2x16x64, .f32⟩
  | 81 => ⟨S2x16x64, .f32⟩
  | 82 => ⟨S2x16x64, .f32⟩
  | 83 => ⟨S2x16x64, .f32⟩
  | 84 => ⟨S2x16x64, .f32⟩
  | 85 => ⟨S2x16x64, .f32⟩
  | 86 => ⟨S2x16x64, .f32⟩
  | 87 => ⟨S2x16x64, .f32⟩
  | 88 => ⟨S2x16x64, .f32⟩
  | 89 => ⟨S2x16x64, .f32⟩
  | 90 => ⟨S2x16x64, .f32⟩
  | 91 => ⟨S2x16x64, .f32⟩
  | 92 => ⟨S2x16x64, .f32⟩
  | 93 => ⟨S2x16x64, .f32⟩
  | 94 => ⟨S2x16x64, .f32⟩
  | 95 => ⟨S2x16x64, .f32⟩
  | 96 => ⟨S2x16x64, .f32⟩
  | 97 => ⟨S2x16x64, .f32⟩
  | 98 => ⟨S2x16x64, .f32⟩
  | 99 => ⟨S2x16x64, .f32⟩
  | 100 => ⟨S2x16x64, .f32⟩
  | 101 => ⟨S2x16x64, .f32⟩
  | 102 => ⟨S2x16x64, .f32⟩
  | 103 => ⟨S2x16x64, .f32⟩
  | 104 => ⟨S2x16x64, .f32⟩
  | 105 => ⟨S2x16x64, .f32⟩
  | 106 => ⟨S2x16x64, .f32⟩
  | 107 => ⟨S2x16x64, .f32⟩
  | 108 => ⟨S2x16x64, .f32⟩
  | 109 => ⟨S2x16x64, .f32⟩
  | 110 => ⟨S2x16x64, .f32⟩
  | 111 => ⟨S2x16x64, .f32⟩
  | 112 => ⟨S2x16x64, .f32⟩
  | 113 => ⟨S2x16x64, .f32⟩
  | 114 => ⟨S2x16x64, .f32⟩
  | 115 => ⟨S2x16x64, .f32⟩
  | 116 => ⟨S2x16x64, .f32⟩
  | 117 => ⟨S2x16x64, .f32⟩
  | 118 => ⟨S2x16x64, .f32⟩
  | 119 => ⟨S2x16x64, .f32⟩
  | 120 => ⟨S_, .f32⟩
  | 121 => ⟨S2x16, .f32⟩
  | 122 => ⟨S2x16x1, .f32⟩
  | 123 => ⟨S2x16x64, .f32⟩
  | 124 => ⟨S2x16x64, .f32⟩
  | 125 => ⟨S2x16x64, .f32⟩
  | 126 => ⟨S2x16x64, .f32⟩
  | 127 => ⟨S2x16x64, .f32⟩
  | _ => ⟨S2x16x64, .f32⟩

abbrev hbmTy0_2 (i : Nat) : BufTy := match i % 128 with
  | 0 => ⟨S_, .f32⟩
  | 1 => ⟨S2x16, .f32⟩
  | 2 => ⟨S2x16x1, .f32⟩
  | 3 => ⟨S2x16x1, .f32⟩
  | 4 => ⟨S_, .f32⟩
  | 5 => ⟨S2x16, .f32⟩
  | 6 => ⟨S2x16, .f32⟩
  | 7 => ⟨S2x16x16x64, .f32⟩
  | 8 => ⟨S2x16x16x64, .f32⟩
  | _ => ⟨S2x16x64, .f32⟩

abbrev hbmTy (i : Nat) : BufTy := match i / 128 with
  | 0 => hbmTy0_0 i
  | 1 => hbmTy0_1 i
  | 2 => hbmTy0_2 i
  | _ => ⟨S2x16x64, .f32⟩

abbrev bufTy : (tb : Table) → Fin (tcTables nBuf tb) → BufTy
  | .hbm, ⟨i, _⟩ => hbmTy i
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_3 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_4 : Ref sig .tc := ⟨.hbm, 130, rfl⟩
abbrev main_v111 : Ref sig .tc := ⟨.hbm, 131, rfl⟩
abbrev main_v112 : Ref sig .tc := ⟨.hbm, 132, rfl⟩
abbrev main_cst_5 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_6 : Ref sig .tc := ⟨.hbm, 138, rfl⟩
abbrev main_v117 : Ref sig .tc := ⟨.hbm, 139, rfl⟩
abbrev main_v118 : Ref sig .tc := ⟨.hbm, 140, rfl⟩
abbrev main_cst_7 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_8 : Ref sig .tc := ⟨.hbm, 149, rfl⟩
abbrev main_v126 : Ref sig .tc := ⟨.hbm, 150, rfl⟩
abbrev main_v127 : Ref sig .tc := ⟨.hbm, 151, rfl⟩
abbrev main_cst_9 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_10 : Ref sig .tc := ⟨.hbm, 158, rfl⟩
abbrev main_v133 : Ref sig .tc := ⟨.hbm, 159, rfl⟩
abbrev main_v134 : Ref sig .tc := ⟨.hbm, 160, rfl⟩
abbrev main_cst_11 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_12 : Ref sig .tc := ⟨.hbm, 169, rfl⟩
abbrev main_v142 : Ref sig .tc := ⟨.hbm, 170, rfl⟩
abbrev main_v143 : Ref sig .tc := ⟨.hbm, 171, rfl⟩
abbrev main_cst_13 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_14 : Ref sig .tc := ⟨.hbm, 177, rfl⟩
abbrev main_v148 : Ref sig .tc := ⟨.hbm, 178, rfl⟩
abbrev main_v149 : Ref sig .tc := ⟨.hbm, 179, rfl⟩
abbrev main_cst_15 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_16 : Ref sig .tc := ⟨.hbm, 187, rfl⟩
abbrev main_v156 : Ref sig .tc := ⟨.hbm, 188, rfl⟩
abbrev main_v157 : Ref sig .tc := ⟨.hbm, 189, rfl⟩
abbrev main_cst_17 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_18 : Ref sig .tc := ⟨.hbm, 197, rfl⟩
abbrev main_v164 : Ref sig .tc := ⟨.hbm, 198, rfl⟩
abbrev main_v165 : Ref sig .tc := ⟨.hbm, 199, rfl⟩
abbrev main_cst_19 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_cst_20 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_cst_21 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_cst_22 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩

abbrev nD : Nat := 1
abbrev τ : Topo := Topo.v7x

variable {F : FTy → Type} [FloatOps F]
-- ==== RmsNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Combine.lean ====
abbrev S4096x2816 : Shape := ⟨2, ![4096, 2816]⟩
abbrev S4096x256 : Shape := ⟨2, ![4096, 256]⟩
abbrev S1x256 : Shape := ⟨2, ![1, 256]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S4096x256, .f32⟩
  | .hbm, ⟨5, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .bf16⟩
  | .local _ .vmem, ⟨10, _⟩ => ⟨S512x256, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S4096x2816 : Shape := ⟨2, ![4096, 2816]⟩
abbrev S4096x256 : Shape := ⟨2, ![4096, 256]⟩
abbrev S1x256 : Shape := ⟨2, ![1, 256]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Merge.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S4x1024x256 : Shape := ⟨3, ![4, 1024, 256]⟩
abbrev S4096x1024 : Shape := ⟨2, ![4096, 1024]⟩
abbrev S512x512 : Shape := ⟨2, ![512, 512]⟩
abbrev S512x256 : Shape := ⟨2, ![512, 256]⟩
abbrev S512x2816 : Shape := ⟨2, ![512, 2816]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 15
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S4096x2816, .f32⟩
  | .hbm, ⟨6, _⟩ => ⟨S512x4x256, .f32⟩
  | .hbm, ⟨7, _⟩ => ⟨S4x512x256, .f32⟩
  | .hbm, ⟨8, _⟩ => ⟨S256x4x256, .f32⟩
  | .hbm, ⟨9, _⟩ => ⟨S4x256x256, .f32⟩
  | .hbm, ⟨10, _⟩ => ⟨S256x4x256, .f32⟩
  | .hbm, ⟨11, _⟩ => ⟨S4x256x256, .f32⟩
  | .hbm, ⟨12, _⟩ => ⟨S4x1024x256, .f32⟩
  | .hbm, ⟨13, _⟩ => ⟨S4x1024x256, .bf16⟩
  | .hbm, ⟨14, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S4x1024x256, .bf16⟩
  | .local _ .vmem, ⟨5, _⟩ => ⟨S512x2816, .f32⟩
  | .local _ .vmem, ⟨6, _⟩ => ⟨S512x2816, .f32⟩
  | .local _ .vmem, ⟨7, _⟩ => ⟨S512x1024, .bf16⟩
  | .local _ .vmem, ⟨8, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .f32⟩
  | .hbm, ⟨3, _⟩ => ⟨S256x1024, .f32⟩
  | .hbm, ⟨4, _⟩ => ⟨S256x1024, .f32⟩
  | .hbm, ⟨5, _⟩ => ⟨S4096x2816, .f32⟩
  | .hbm, ⟨6, _⟩ => ⟨S4096x512, .f32⟩
  | .hbm, ⟨7, _⟩ => ⟨S4096x256, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== ScanBwd.lean ====
abbrev S1x1024 : Shape := ⟨2, ![1, 1024]⟩
abbrev S256x2048 : Shape := ⟨2, ![256, 2048]⟩
abbrev S4096x256 : Shape := ⟨2, ![4096, 256]⟩
abbrev S1x256x2048 : Shape := ⟨3, ![1, 256, 2048]⟩
abbrev S2x256x2048 : Shape := ⟨3, ![2, 256, 2048]⟩
abbrev S1x1x1024 : Shape := ⟨3, ![1, 1, 1024]⟩
abbrev S2x1x1024 : Shape := ⟨3, ![2, 1, 1024]⟩
abbrev S2048x256 : Shape := ⟨2, ![2048, 256]⟩
abbrev S1x2048x256 : Shape := ⟨3, ![1, 2048, 256]⟩
abbrev S2x2048x256 : Shape := ⟨3, ![2, 2048, 256]⟩
abbrev S4096x2048 : Shape := ⟨2, ![4096, 2048]⟩
abbrev S512x256 : Shape := ⟨2, ![512, 256]⟩
abbrev S512x2048 : Shape := ⟨2, ![512, 2048]⟩
abbrev S8x1024 : Shape := ⟨2, ![8, 1024]⟩
abbrev S8x8x1024 : Shape := ⟨3, ![8, 8, 1024]⟩
abbrev S1x8x1024 : Shape := ⟨3, ![1, 8, 1024]⟩
abbrev S128x256 : Shape := ⟨2, ![128, 256]⟩
abbrev S128x2048 : Shape := ⟨2, ![128, 2048]⟩

abbrev nBuf : Space → Nat
  | .hbm => 22
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S256x2048, .f32⟩
  | .hbm, ⟨3, _⟩ => ⟨S256x2048, .f32⟩
  | .hbm, ⟨4, _⟩ => ⟨S4096x256, .bf16⟩
  | .hbm, ⟨5, _⟩ => ⟨S1x256x2048, .f32⟩
  | .hbm, ⟨6, _⟩ => ⟨S1x256x2048, .f32⟩
  | .hbm, ⟨7, _⟩ => ⟨S2x256x2048, .f32⟩
  | .hbm, ⟨8, _⟩ => ⟨S2x256x2048, .bf16⟩
  | .hbm, ⟨9, _⟩ => ⟨S1x1x1024, .f32⟩
  | .hbm, ⟨10, _⟩ => ⟨S1x1x1024, .f32⟩
  | .hbm, ⟨11, _⟩ => ⟨S2x1x1024, .f32⟩
  | .hbm, ⟨12, _⟩ => ⟨S1x1x1024, .f32⟩
  | .hbm, ⟨13, _⟩ => ⟨S1x1x1024, .f32⟩
  | .hbm, ⟨14, _⟩ => ⟨S2x1x1024, .f32⟩
  | .hbm, ⟨15, _⟩ => ⟨S2048x256, .f32⟩
  | .hbm, ⟨16, _⟩ => ⟨S1x2048x256, .f32⟩
  | .hbm, ⟨17, _⟩ => ⟨S1x2048x256, .f32⟩
  | .hbm, ⟨18, _⟩ => ⟨S2x2048x256, .f32⟩
  | .hbm, ⟨19, _⟩ => ⟨S2x2048x256, .bf16⟩
  | .hbm, ⟨20, _⟩ => ⟨S4096x2048, .bf16⟩
  | .hbm, ⟨21, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S1x256x2048, .bf16⟩
  | .local _ .vmem, ⟨3, _⟩ => ⟨S1x1x1024, .f32⟩
  | .local _ .vmem, ⟨4, _⟩ => ⟨S1x1x1024, .f32⟩
  | .local _ .vmem, ⟨5, _⟩ => ⟨S1x2048x256, .bf16⟩
  | .local _ .vmem, ⟨6, _⟩ => ⟨S512x2048, .bf16⟩
  | .local _ .vmem, ⟨7, _⟩ => ⟨S512x2048, .bf16⟩
  | .local _ .vmem, ⟨8, _⟩ => ⟨S512x256, .f32⟩
  | .local _ .vmem, ⟨9, _⟩ => ⟨S512x256, .f32⟩
  | .local _ .vmem, ⟨10, _⟩ => ⟨S8x1024, .f32⟩
  | .local _ .vmem, ⟨11, _⟩ => ⟨S8x1024, .f32⟩
  | .local _ .vmem, ⟨12, _⟩ => ⟨S8x8x1024, .f32⟩
  | .local _ .vmem, ⟨13, _⟩ => ⟨S512x2048, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolFwd.lean ====
abbrev S4096x2816 : Shape := ⟨2, ![4096, 2816]⟩
abbrev S4x128x128 : Shape := ⟨3, ![4, 128, 128]⟩
abbrev S1x512 : Shape := ⟨2, ![1, 512]⟩
abbrev S4096x512 : Shape := ⟨2, ![4096, 512]⟩
abbrev S4112x512 : Shape := ⟨2, ![4112, 512]⟩
abbrev S_ : Shape := ⟨0, ![]⟩
abbrev S8x512 : Shape := ⟨2, ![8, 512]⟩
abbrev S1x128x128 : Shape := ⟨3, ![1, 128, 128]⟩
abbrev S128x128 : Shape := ⟨2, ![128, 128]⟩
abbrev S1x128 : Shape := ⟨2, ![1, 128]⟩
abbrev S272x128 : Shape := ⟨2, ![272, 128]⟩
abbrev S256x128 : Shape := ⟨2, ![256, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4x128x128, .f32⟩
  | .hbm, ⟨2, _⟩ => ⟨S1x512, .f32⟩
  | .hbm, ⟨3, _⟩ => ⟨S4096x512, .bf16⟩
  | .hbm, ⟨4, _⟩ => ⟨S4096x512, .bf16⟩
  | .hbm, ⟨5, _⟩ => ⟨S4096x512, .bf16⟩
  | .local _ .vmem, ⟨0, _⟩ => ⟨S4x128x128, .f32⟩
  | .local _ .vmem, ⟨1, _⟩ => ⟨S1x512, .f32⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4112x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_14 : BitVec 32 := 0#32
  let c16_i32 : BitVec 32 := 16#32
  let v16 : BitVec 32 := Scalar.addi c0_i32_14 c16_i32
  let c1_i32 : BitVec 32 := 1#32
  ⟨c0_i32_14, v16, c1_i32⟩
def k0_mult1 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c256_i32 : BitVec 32 := 256#32
  let v32 : BitVec 32 := Scalar.muli arg8 c256_i32
  v32
def k0_off1 (k0_t1 : Fin k0_t1_loop.trips) : Fin 2 → Nat :=
  let c0_i32_14 : BitVec 32 := 0#32
  let c1_i32 : BitVec 32 := 1#32
  let arg8 : BitVec 32 := Scf.iv c0_i32_14 c1_i32 k0_t1
  let c256_i32 : BitVec 32 := 256#32
  let v32 : BitVec 32 := Scalar.muli arg8 c256_i32
  let v33 : BitVec 32 := v32
  let v34 : Index := Scalar.indexCast v33
  let c0_37 : Index := 0#32
  ![v34.toNat, 0]
def k0_off2 (k0_t1 : Fin k0_t1_loop.trips) : Fin 2 → Nat :=
  let c0_i32_14 : BitVec 32 := 0#32
  let c1_i32 : BitVec 32 := 1#32
  let arg8 : BitVec 32 := Scf.iv c0_i32_14 c1_i32 k0_t1
  let c256_i32 : BitVec 32 := 256#32
  let v32 : BitVec 32 := Scalar.muli arg8 c256_i32
  let v33 : BitVec 32 := v32
  let v60 : Index := Scalar.indexCast v33
  let c0_44 : Index := 0#32
  ![v60.toNat, 0]
@[reducible] def k0_t2_loop : Scf.Loop 32 :=
  let c0_i32_19 : BitVec 32 := 0#32
  let c16_i32_20 : BitVec 32 := 16#32
  let v21 : BitVec 32 := Scalar.addi c0_i32_19 c16_i32_20
  let c1_i32_21 : BitVec 32 := 1#32
  ⟨c0_i32_19, v21, c1_i32_21⟩
def k0_mult2 (k0_t2 : Fin k0_t2_loop.trips) : BitVec 32 :=
  let c0_i32_19 : BitVec 32 := 0#32
  let c1_i32_21 : BitVec 32 := 1#32
  let arg8 : BitVec 32 := Scf.iv c0_i32_19 c1_i32_21 k0_t2
  let c256_i32 : BitVec 32 := 256#32
  let v32 : BitVec 32 := Scalar.muli arg8 c256_i32
  v32
def k0_off3 (k0_t2 : Fin k0_t2_loop.trips) : Fin 2 → Nat :=
  let c0_i32_19 : BitVec 32 := 0#32
  let c1_i32_21 : BitVec 32 := 1#32
  let arg8 : BitVec 32 := Scf.iv c0_i32_19 c1_i32_21 k0_t2
  let c256_i32 : BitVec 32 := 256#32
  let v32 : BitVec 32 := Scalar.muli arg8 c256_i32
  let v33 : BitVec 32 := v32
  let v34 : Index := Scalar.indexCast v33
  let c128_37 : Index := 128#32
  ![v34.toNat, 128]
def k0_off4 (k0_t2 : Fin k0_t2_loop.trips) : Fin 2 → Nat :=
  let c0_i32_19 : BitVec 32 := 0#32
  let c1_i32_21 : BitVec 32 := 1#32
  let arg8 : BitVec 32 := Scf.iv c0_i32_19 c1_i32_21 k0_t2
  let c256_i32 : BitVec 32 := 256#32
  let v32 : BitVec 32 := Scalar.muli arg8 c256_i32
  let v33 : BitVec 32 := v32
  let v62 : Index := Scalar.indexCast v33
  let c128_43 : Index := 128#32
  ![v62.toNat, 128]
@[reducible] def k0_t3_loop : Scf.Loop 32 :=
  let c0_i32_26 : BitVec 32 := 0#32
  let c16_i32_27 : BitVec 32 := 16#32
  let v26 : BitVec 32 := Scalar.addi c0_i32_26 c16_i32_27
  let c1_i32_28 : BitVec 32 := 1#32
  ⟨c0_i32_26, v26, c1_i32_28⟩
def k0_mult3 (k0_t3 : Fin k0_t3_loop.trips) : BitVec 32 :=
  let c0_i32_26 : BitVec 32 := 0#32
  let c1_i32_28 : BitVec 32 := 1#32
  let arg8 : BitVec 32 := Scf.iv c0_i32_26 c1_i32_28 k0_t3
  let c256_i32 : BitVec 32 := 256#32
  let v32 : BitVec 32 := Scalar.muli arg8 c256_i32
  v32
def k0_off5 (k0_t3 : Fin k0_t3_loop.trips) : Fin 2 → Nat :=
  let c0_i32_26 : BitVec 32 := 0#32
  let c1_i32_28 : BitVec 32 := 1#32
  let arg8 : BitVec 32 := Scf.iv c0_i32_26 c1_i32_28 k0_t3
  let c256_i32 : BitVec 32 := 256#32
  let v32 : BitVec 32 := Scalar.muli arg8 c256_i32
  let v33 : BitVec 32 := v32
  let v34 : Index := Scalar.indexCast v33
  let c256_37 : Index := 256#32
  ![v34.toNat, 256]
def k0_off6 (k0_t3 : Fin k0_t3_loop.trips) : Fin 2 → Nat :=
  let c0_i32_26 : BitVec 32 := 0#32
  let c1_i32_28 : BitVec 32 := 1#32
  let arg8 : BitVec 32 := Scf.iv c0_i32_26 c1_i32_28 k0_t3
  let c256_i32 : BitVec 32 := 256#32
  let v32 : BitVec 32 := Scalar.muli arg8 c256_i32
  let v33 : BitVec 32 := v32
  let v64 : Index := Scalar.indexCast v33
  let c256_42 : Index := 256#32
  ![v64.toNat, 256]
@[reducible] def k0_t4_loop : Scf.Loop 32 :=
  let c0_i32_33 : BitVec 32 := 0#32
  let c16_i32_34 : BitVec 32 := 16#32
  let v31 : BitVec 32 := Scalar.addi c0_i32_33 c16_i32_34
  let c1_i32_35 : BitVec 32 := 1#32
  ⟨c0_i32_33, v31, c1_i32_35⟩
def k0_mult4 (k0_t4 : Fin k0_t4_loop.trips) : BitVec 32 :=
  let c0_i32_33 : BitVec 32 := 0#32
  let c1_i32_35 : BitVec 32 := 1#32
  let arg8 : BitVec 32 := Scf.iv c0_i32_33 c1_i32_35 k0_t4
  let c256_i32 : BitVec 32 := 256#32
  let v32 : BitVec 32 := Scalar.muli arg8 c256_i32
  v32
def k0_off7 (k0_t4 : Fin k0_t4_loop.trips) : Fin 2 → Nat :=
  let c0_i32_33 : BitVec 32 := 0#32
  let c1_i32_35 : BitVec 32 := 1#32
  let arg8 : BitVec 32 := Scf.iv c0_i32_33 c1_i32_35 k0_t4
  let c256_i32 : BitVec 32 := 256#32
  let v32 : BitVec 32 := Scalar.muli arg8 c256_i32
  let v33 : BitVec 32 := v32
  let v34 : Index := Scalar.indexCast v33
  let c384_37 : Index := 384#32
  ![v34.toNat, 384]
def k0_off8 (k0_t4 : Fin k0_t4_loop.trips) : Fin 2 → Nat :=
  let c0_i32_33 : BitVec 32 := 0#32
  let c1_i32_35 : BitVec 32 := 1#32
  let arg8 : BitVec 32 := Scf.iv c0_i32_33 c1_i32_35 k0_t4
  let c256_i32 : BitVec 32 := 256#32
  let v32 : BitVec 32 := Scalar.muli arg8 c256_i32
  let v33 : BitVec 32 := v32
  let v66 : Index := Scalar.indexCast v33
  let c384_43 : Index := 384#32
  ![v66.toNat, 384]
abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ResidNorm.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== SsmPrep.lean ====
abbrev S2x16x64 : Shape := ⟨3, ![2, 16, 64]⟩
abbrev S2x16 : Shape := ⟨2, ![2, 16]⟩
abbrev S2x16x64x16 : Shape := ⟨4, ![2, 16, 64, 16]⟩
abbrev S2x16x16x64 : Shape := ⟨4, ![2, 16, 16, 64]⟩
abbrev S32x1x64 : Shape := ⟨3, ![32, 1, 64]⟩
abbrev S32x16x64 : Shape := ⟨3, ![32, 16, 64]⟩
abbrev S512x64 : Shape := ⟨2, ![512, 64]⟩
abbrev S32x1x1 : Shape := ⟨3, ![32, 1, 1]⟩
abbrev S32x16x1 : Shape := ⟨3, ![32, 16, 1]⟩
abbrev S512x1 : Shape := ⟨2, ![512, 1]⟩
abbrev S2x256x2048 : Shape := ⟨3, ![2, 256, 2048]⟩
abbrev S2x2048x256 : Shape := ⟨3, ![2, 2048, 256]⟩
abbrev S256x1024 : Shape := ⟨2, ![256, 1024]⟩
abbrev S64x1024 : Shape := ⟨2, ![64, 1024]⟩
abbrev S256x64 : Shape := ⟨2, ![256, 64]⟩
abbrev S1x256x1024 : Shape := ⟨3, ![1, 256, 1024]⟩
abbrev S1024x256 : Shape := ⟨2, ![1024, 256]⟩
abbrev S1x1024x256 : Shape := ⟨3, ![1, 1024, 256]⟩

abbrev nBuf : Space → Nat
  | .hbm => 28
  | .vmem => 13
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16, .f32⟩
  | .hbm, ⟨4, _⟩ => ⟨S2x16x64x16, .f32⟩
  | .hbm, ⟨5, _⟩ => ⟨S2x16x16x64, .f32⟩
  | .hbm, ⟨6, _⟩ => ⟨S2x16x16x64, .f32⟩
  | .hbm, ⟨7, _⟩ => ⟨S32x1x64, .f32⟩
  | .hbm, ⟨8, _⟩ => ⟨S32x16x64, .f32⟩
  | .hbm, ⟨9, _⟩ => ⟨S512x64, .f32⟩
  | .hbm, ⟨10, _⟩ => ⟨S32x1x64, .f32⟩
  | .hbm, ⟨11, _⟩ => ⟨S32x16x64, .f32⟩
  | .hbm, ⟨12, _⟩ => ⟨S512x64, .f32⟩
  | .hbm, ⟨13, _⟩ => ⟨S32x1x1, .f32⟩
  | .hbm, ⟨14, _⟩ => ⟨S32x16x1, .f32⟩
  | .hbm, ⟨15, _⟩ => ⟨S512x1, .f32⟩
  | .hbm, ⟨16, _⟩ => ⟨S2x16x16x64, .f32⟩
  | .hbm, ⟨17, _⟩ => ⟨S512x64, .f32⟩
  | .hbm, ⟨18, _⟩ => ⟨S2x16x16x64, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S2x256x2048, .bf16⟩
  | .hbm, ⟨25, _⟩ => ⟨S2x2048x256, .bf16⟩
  | .hbm, ⟨26, _⟩ => ⟨S2x256x2048, .bf16⟩
  | .hbm, ⟨27, _⟩ => ⟨S2x2048x256, .bf16⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S2x256x2048, .bf16⟩
  | .local _ .vmem, ⟨10, _⟩ => ⟨S2x2048x256, .bf16⟩
  | .local _ .vmem, ⟨11, _⟩ => ⟨S2x256x2048, .bf16⟩
  | .local _ .vmem, ⟨12, _⟩ => ⟨S2x2048x256, .bf16⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== SsmPrepRefIdeal.lean ====
abbrev S2x16x64 : Shape := ⟨3, ![2, 16, 64]⟩
abbrev S2x16 : Shape := ⟨2, ![2, 16]⟩
abbrev S2x16x64x16 : Shape := ⟨4, ![2, 16, 64, 16]⟩
abbrev S2x16x16x64 : Shape := ⟨4, ![2, 16, 16, 64]⟩
abbrev S2x16x1 : Shape := ⟨3, ![2, 16, 1]⟩
abbrev S_ : Shape := ⟨0, ![]⟩
abbrev S2x16x64x1 : Shape := ⟨4, ![2, 16, 64, 1]⟩
abbrev S16x16 : Shape := ⟨2, ![16, 16]⟩
abbrev S2x16x16x1x64 : Shape := ⟨5, ![2, 16, 16, 1, 64]⟩
abbrev S16x1x16x1 : Shape := ⟨4, ![16, 1, 16, 1]⟩
abbrev S1x16x1x16x1 : Shape := ⟨5, ![1, 16, 1, 16, 1]⟩
abbrev S2x16x16x16x64 : Shape := ⟨5, ![2, 16, 16, 16, 64]⟩
abbrev S2x256x1024 : Shape := ⟨3, ![2, 256, 1024]⟩
abbrev S2x256x2048 : Shape := ⟨3, ![2, 256, 2048]⟩
abbrev S32x1x64 : Shape := ⟨3, ![32, 1, 64]⟩
abbrev S32x16x64 : Shape := ⟨3, ![32, 16, 64]⟩
abbrev S512x64 : Shape := ⟨2, ![512, 64]⟩
abbrev S2x2048x256 : Shape := ⟨3, ![2, 2048, 256]⟩

abbrev nBuf : Space → Nat
  | .hbm => 103
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16, .f32⟩
  | .hbm, ⟨3, _⟩ => ⟨S2x16x64x16, .f32⟩
  | .hbm, ⟨4, _⟩ => ⟨S2x16x64x16, .f32⟩
  | .hbm, ⟨5, _⟩ => ⟨S2x16x16x64, .f32⟩
  | .hbm, ⟨6, _⟩ => ⟨S2x16x16x64, .f32⟩
  | .hbm, ⟨7, _⟩ => ⟨S2x16, .f32⟩
  | .hbm, ⟨8, _⟩ => ⟨S2x16x1, .f32⟩
  | .hbm, ⟨9, _⟩ => ⟨S2x16x64, .f32⟩
  | .hbm, ⟨10, _⟩ => ⟨S2x16x64, .f32⟩
  | .hbm, ⟨11, _⟩ => ⟨S2x16x64, .f32⟩
  | .hbm, ⟨12, _⟩ => ⟨S2x16x64, .f32⟩
  | .hbm, ⟨13, _⟩ => ⟨S2x16x64, .f32⟩
  | .hbm, ⟨14, _⟩ => ⟨S2x16x64, .f32⟩
  | .hbm, ⟨15, _⟩ => ⟨S2x16x64, .f32⟩
  | .hbm, ⟨16, _⟩ => ⟨S2x16x64, .f32⟩
  | .hbm, ⟨17, _⟩ => ⟨S2x16x64, .f32⟩
  | .hbm, ⟨18, _⟩ => ⟨S2x16x64, .f32⟩
  | .hbm, ⟨19, _⟩ => ⟨S2x16x64, .f32⟩
  | .hbm, ⟨20, _⟩ => ⟨S2x16x64, .f32⟩
  | .hbm, ⟨21, _⟩ => ⟨S_, .f32⟩
  | .hbm, ⟨22, _⟩ => ⟨S2x16x64, .f32⟩
  | .hbm, ⟨23, _⟩ => ⟨S2x16x64, .f32⟩
  | .hbm, ⟨24, _⟩ => ⟨S2x16x64, .f32⟩
  | .hbm, ⟨25, _⟩ => ⟨S2x16x64, .f32⟩
  | .hbm, ⟨26, _⟩ => ⟨S2x16x64, .f32⟩
  | .hbm, ⟨27, _⟩ => ⟨S2x16x64, .f32⟩
  | .hbm, ⟨28, _⟩ => ⟨S2x16x64, .f32⟩
  | .hbm, ⟨29, _⟩ => ⟨S2x16x64, .f32⟩
  | .hbm, ⟨30, _⟩ => ⟨S2x16x64, .f32⟩
  | .hbm, ⟨31, _⟩ => ⟨S2x16x64, .f32⟩
  | .hbm, ⟨32, _⟩ => ⟨S2x16x64x1, .f32⟩
  | .hbm, ⟨33, _⟩ => ⟨S2x16x64x16, .f32⟩
  | .hbm, ⟨34, _⟩ => ⟨S2x16x64x16, .f32⟩
  | .hbm, ⟨35, _⟩ => ⟨S2x16x64x1, .f32⟩
  | .hbm, ⟨36, _⟩ => ⟨S2x16x64x16, .f32⟩
  | .hbm, ⟨37, _⟩ => ⟨S2x16x64x16, .f32⟩
  | .hbm, ⟨38, _⟩ => ⟨S2x16x64x16, .f32⟩
  | .hbm, ⟨39, _⟩ => ⟨S2x16x64x1, .f32⟩
  | .hbm, ⟨40, _⟩ => ⟨S2x16x64x16, .f32⟩
  | .hbm, ⟨41, _⟩ => ⟨S2x16x64x16, .f32⟩
  | .hbm, ⟨42, _⟩ => ⟨S2x16x64x1, .f32⟩
  | .hbm, ⟨43, _⟩ => ⟨S2x16x64x16, .f32⟩
  | .hbm, ⟨44, _⟩ => ⟨S2x16x64x16, .f32⟩
  | .hbm, ⟨45, _⟩ => ⟨S2x16x64x16, .f32⟩
  | .hbm, ⟨46, _⟩ => ⟨S16x16, .i32⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i1⟩
  | .hbm, ⟨52, _⟩ => ⟨S16x16, .f32⟩
  | .hbm, ⟨53, _⟩ => ⟨S2x16x16x64, .f32⟩
  | .hbm, ⟨54, _⟩ => ⟨S2x16x16x1x64, .f32⟩
  | .hbm, ⟨55, _⟩ => ⟨S16x1x16x1, .f32⟩
  | .hbm, ⟨56, _⟩ => ⟨S1x16x1x16x1, .f32⟩
  | .hbm, ⟨57, _⟩ => ⟨S2x16x16x16x64, .f32⟩
  | .hbm, ⟨58, _⟩ => ⟨S2x16x16x16x64, .f32⟩
  | .hbm, ⟨59, _⟩ => ⟨S2x16x16x16x64, .f32⟩
  | .hbm, ⟨60, _⟩ => ⟨S2x256x1024, .f32⟩
  | .hbm, ⟨61, _⟩ => ⟨S2x16x16x64, .f32⟩
  | .hbm, ⟨62, _⟩ => ⟨S2x16x16x1x64, .f32⟩
  | .hbm, ⟨63, _⟩ => ⟨S16x1x16x1, .f32⟩
  | .hbm, ⟨64, _⟩ => ⟨S1x16x1x16x1, .f32⟩
  | .hbm, ⟨65, _⟩ => ⟨S2x16x16x16x64, .f32⟩
  | .hbm, ⟨66, _⟩ => ⟨S2x16x16x16x64, .f32⟩
  | .hbm, ⟨67, _⟩ => ⟨S2x16x16x16x64, .f32⟩
  | .hbm, ⟨68, _⟩ => ⟨S2x256x1024, .f32⟩
  | .hbm, ⟨69, _⟩ => ⟨S2x256x2048, .f32⟩
  | .hbm, ⟨70, _⟩ => ⟨S2x256x2048, .bf16⟩
  | .hbm, ⟨71, _⟩ => ⟨S16x16, .i32⟩
  | .hbm, ⟨72, _⟩ => ⟨S16x16, .i32⟩
  | .hbm, ⟨73, _⟩ => ⟨S_, .i32⟩
  | .hbm, ⟨74, _⟩ => ⟨S16x16, .i32⟩
  | .hbm, ⟨75, _⟩ => ⟨S16x16, .i32⟩
  | .hbm, ⟨76, _⟩ => ⟨S16x16, .i1⟩
  | .hbm, ⟨77, _⟩ => ⟨S16x16, .f32⟩
  | .hbm, ⟨78, _⟩ => ⟨S2x16x16x64, .f32⟩
  | .hbm, ⟨79, _⟩ => ⟨S2x16x16x1x64, .f32⟩
  | .hbm, ⟨80, _⟩ => ⟨S16x1x16x1, .f32⟩
  | .hbm, ⟨81, _⟩ => ⟨S1x16x1x16x1, .f32⟩
  | .hbm, ⟨82, _⟩ => ⟨S2x16x16x16x64, .f32⟩
  | .hbm, ⟨83, _⟩ => ⟨S2x16x16x16x64, .f32⟩
  | .hbm, ⟨84, _⟩ => ⟨S2x16x16x16x64, .f32⟩
  | .hbm, ⟨85, _⟩ => ⟨S2x256x1024, .f32⟩
  | .hbm, ⟨86, _⟩ => ⟨S2x16x16x1x64, .f32⟩
  | .hbm, ⟨87, _⟩ => ⟨S16x1x16x1, .f32⟩
  | .hbm, ⟨88, _⟩ => ⟨S1x16x1x16x1, .f32⟩
  | .hbm, ⟨89, _⟩ => ⟨S2x16x16x16x64, .f32⟩
  | .hbm, ⟨90, _⟩ => ⟨S2x16x16x16x64, .f32⟩
  | .hbm, ⟨91, _⟩ => ⟨S2x16x16x16x64, .f32⟩
  | .hbm, ⟨92, _⟩ => ⟨S2x256x1024, .f32⟩
  | .hbm, ⟨93, _⟩ => ⟨S2x256x2048, .f32⟩
  | .hbm, ⟨94, _⟩ => ⟨S2x256x2048, .bf16⟩
  | .hbm, ⟨95, _⟩ => ⟨S32x1x64, .f32⟩
  | .hbm, ⟨96, _⟩ => ⟨S32x16x64, .f32⟩
  | .hbm, ⟨97, _⟩ => ⟨S512x64, .f32⟩
  | .hbm, ⟨98, _⟩ => ⟨S32x1x64, .f32⟩
  | .hbm, ⟨99, _⟩ => ⟨S32x16x64, .f32⟩
  | .hbm, ⟨100, _⟩ => ⟨S512x64, .f32⟩
  | .hbm, ⟨101, _⟩ => ⟨S2x2048x256, .bf16⟩
  | .hbm, ⟨102, _⟩ => ⟨S2x2048x256, .bf16⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c_0 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩

abbrev nD : Nat := 1
abbrev τ : Topo := Topo.v7x

variable {F : FTy → Type} [FloatOps F]
-- ==== PlainMm.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PlainMmRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixIn.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4096x256 : Shape := ⟨2, ![4096, 256]⟩
abbrev S512x1024 : Shape := ⟨2, ![512, 1024]⟩
abbrev S512x2816 : Shape := ⟨2, ![512, 2816]⟩
abbrev S512x256 : Shape := ⟨2, ![512, 256]⟩
abbrev S1408x1024 : Shape := ⟨2, ![1408, 1024]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x2816, .f32⟩
  | .hbm, ⟨5, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S512x256, .bf16⟩
  | .local _ .vmem, ⟨6, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixInRefIdeal.lean ====
abbrev S4096x1024 : Shape := ⟨2, ![4096, 1024]⟩
abbrev S1024x2816 : Shape := ⟨2, ![1024, 2816]⟩
abbrev S4096x2816 : Shape := ⟨2, ![4096, 2816]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S4096x1024, .f32⟩
  | .hbm, ⟨3, _⟩ => ⟨S4096x2816, .f32⟩
  | .hbm, ⟨4, _⟩ => ⟨S4096x256, .f32⟩
  | .hbm, ⟨5, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwMm.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwMmRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamW.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DevSum.lean ====
abbrev S8x1664x128 : Shape := ⟨3, ![8, 1664, 128]⟩
abbrev S1664x128 : Shape := ⟨2, ![1664, 128]⟩
abbrev S1x1664x128 : Shape := ⟨3, ![1, 1664, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1664x128, .f32⟩
  | .hbm, ⟨1, _⟩ => ⟨S1664x128, .f32⟩
  | .local _ .vmem, ⟨0, _⟩ => ⟨S8x1664x128, .f32⟩
  | .local _ .vmem, ⟨1, _⟩ => ⟨S1664x128, .f32⟩
  | _, _ => ⟨S8x1664x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1664x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1664x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DevSumRefIdeal.lean ====
abbrev S8x1664x128 : Shape := ⟨3, ![8, 1664, 128]⟩
abbrev S_ : Shape := ⟨0, ![]⟩
abbrev S1664x128 : Shape := ⟨2, ![1664, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1664x128, .f32⟩
  | .hbm, ⟨1, _⟩ => ⟨S_, .f32⟩
  | .hbm, ⟨2, _⟩ => ⟨S1664x128, .f32⟩
  | _, _ => ⟨S8x1664x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Step.Real.lean ====
/-
  Extended reals that are real numbers: what a precondition "every element is finite" gives, and the words of the
  constants that the programs use.
-/
module

public import Idealize.ShloMosaic.PureOps.Ideal
public import Idealize.ShloMosaic.PureOps.Ideal.Laws
public import Idealize.ShloMosaic.Lib.ReduceAll
public import Idealize.ShloMosaic.Lib.Pointwise

@[expose] public section

noncomputable section

namespace Cert.Step

open Idealize.ShloMosaic

/-- The word of `+∞`. -/
theorem ofBits_inf : Ideal.ofBits .f32 0x7F800000#32 = ⊤ := by simp [Ideal.ofBits, Ideal.ieee]

/-- An extended real whose absolute value is below `+∞` is a real. -/
theorem real_of_abs_lt {a : EReal} (h : max a (-a) < ⊤) : ∃ r : ℝ, a = r := by
  induction a with
  | bot => simp at h
  | top => simp at h
  | coe r => exact ⟨r, rfl⟩

instance : Subsingleton (⟨0, ![]⟩ : Shape).Idx := ⟨fun _ _ => funext fun a => a.elim0⟩

/-- The printed test "all elements are below `+∞` in absolute value" says that every element is a real. -/
theorem real_of_all {s u : Shape} {axes : List (Fin s.rank)} (x : s.Idx → EReal)
    (hb : (⟨0, ![]⟩ : Shape).BroadcastsInDim s (![] : Fin 0 → Fin s.rank)) (h : s.ReducesTo axes ⟨0, ![]⟩) (hu : 0 < u.numel)
    (init : u.Idx → BitVec 1) (j : (⟨0, ![]⟩ : Shape).Idx)
    (e : Host.reduce IntOp.andi (cmpf .olt (Host.absf (F := Ideal) (φ := .f32) x) (broadcastInDim s ![] hb (constant ⟨0, ![]⟩ .f32 0x7F800000#32)))
      init h hu j = 1#1) (i : s.Idx) : ∃ r : ℝ, x i = r := by
  have e' := Host.reduce_andi_all _ _ _ _ j e i
  refine real_of_abs_lt ?_
  have hc : Ideal.cmp .olt (max (x i) (-(x i))) ⊤ = 1#1 := by
    rw [← ofBits_inf]; exact e'
  rw [show Ideal.cmp .olt (max (x i) (-(x i))) ⊤ = BitVec.ofBool (decide (max (x i) (-(x i)) < ⊤)) from rfl] at hc
  by_contra hn
  rw [decide_eq_false hn] at hc
  exact absurd hc (by decide)

/-- A conjunction of two tests that is 1 has both at 1. -/
theorem andi_split {a b : IVec ⟨0, ![]⟩ 1} {j : (⟨0, ![]⟩ : Shape).Idx} (h : andi a b j = 1#1) : a j = 1#1 ∧ b j = 1#1 := by
  revert h
  show IntOp.andi (a j) (b j) = 1#1 → _
  generalize a j = p
  generalize b j = q
  revert p q
  decide

/-- The word of `1024`. -/
theorem ofBits_1024 : Ideal.ofBits .f32 0x44800000#32 = ((1024 : ℝ) : EReal) := by
  simp [Ideal.ofBits, Ideal.ieee]
  rw [← EReal.coe_mul]
  norm_num

/-- The word of `1/2`. -/
theorem ofBits_half : Ideal.ofBits .f32 0x3F000000#32 = ((1 / 2 : ℝ) : EReal) := by
  simp [Ideal.ofBits, Ideal.ieee]
  rw [← EReal.coe_mul]
  norm_num

/-- The word of `-1/2`. -/
theorem ofBits_neg_half : Ideal.ofBits .f32 0xBF000000#32 = ((-1 / 2 : ℝ) : EReal) := by
  simp [Ideal.ofBits, Ideal.ieee]
  rw [← EReal.coe_mul]
  norm_num

/-- The real that the word of the norm's `1e-6` is. -/
def epsR : ℝ := 8796093 * 2 ^ (-43 : ℤ)

theorem ofBits_eps : Ideal.ofBits .f32 0x358637BD#32 = (epsR : EReal) := by
  simp [Ideal.ofBits, Ideal.ieee, epsR]

theorem epsR_pos : 0 < epsR := by unfold epsR; positivity

/-- A finite sum of reals, as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- Division of reals, the divisor not zero. -/
theorem div_coe (a : ℝ) {b : ℝ} (hb : b ≠ 0) : Ideal.div (a : EReal) (b : EReal) = ((a / b : ℝ) : EReal) := by
  unfold Ideal.div
  rw [if_neg (by simpa using hb), ← EReal.coe_inv, ← EReal.coe_mul, div_eq_mul_inv]

/-- The reciprocal root of a positive real. -/
theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg ha.not_gt, if_neg ha.ne']

end Cert.Step

end
-- ==== Proof.Step.Norm.lean ====
module
public import proofs.«01_k».proof.Proof.Step.Real
@[expose] public section
open Idealize.ShloMosaic
noncomputable section

/-! The gradient of a root-mean-square norm over a row of 1024 numbers: the form that the kernels compute, the form
that the derivative of the forward lines computes, and that the two are equal on rows of reals. -/

namespace Cert.Step

/-- The mean of the squares of a row, with the norm's `1e-6` added. -/
def msq (h : Fin 1024 → EReal) : EReal :=
  Ideal.div (∑ k, h k * h k) (Ideal.ofBits .f32 0x44800000#32) + Ideal.ofBits .f32 0x358637BD#32

/-- The reciprocal root mean square of a row. -/
def rms (h : Fin 1024 → EReal) : EReal := Ideal.rsqrt (msq h)

/-- The gradient at the norm's input as the kernels compute it, from the row `h` and the row `dn` of the normalised
row's cotangents. -/
def normDh (h dn : Fin 1024 → EReal) (j : Fin 1024) : EReal :=
  rms h * (dn j - h j * rms h *
    Ideal.div (∑ k, dn k * (h k * rms h)) (Ideal.ofBits .f32 0x44800000#32))

/-- The half of the mean square's cotangent that each factor of `h * h` receives. -/
def msqCt (h dn : Fin 1024 → EReal) : EReal :=
  Ideal.div ((∑ k, h k * dn k) * (Ideal.ofBits .f32 0xBF000000#32 * Ideal.div (rms h) (msq h)))
    (Ideal.ofBits .f32 0x44800000#32)

/-- The gradient at the norm's input as the chain rule writes it. -/
def normDhRef (h dn : Fin 1024 → EReal) (j : Fin 1024) : EReal :=
  dn j * rms h + h j * msqCt h dn + msqCt h dn * h j

/-- The mean square of a row of reals is a positive real. -/
theorem msq_real (x : Fin 1024 → ℝ) : ∃ s : ℝ, 0 < s ∧ msq (fun k => (x k : EReal)) = (s : EReal) := by
  refine ⟨(∑ k, x k * x k) / 1024 + epsR, ?_, ?_⟩
  · have := epsR_pos
    have h0 : 0 ≤ ∑ k, x k * x k := Finset.sum_nonneg fun k _ => mul_self_nonneg _
    positivity
  · unfold msq
    rw [ofBits_1024, ofBits_eps, EReal.coe_add, ← div_coe _ (by norm_num), coe_sum]
    simp only [EReal.coe_mul]

/-- A row of reals has a real reciprocal root mean square `r`, and its mean square is `1 / r ^ 2`. -/
theorem rms_real (x : Fin 1024 → ℝ) : ∃ s r : ℝ, 0 < s ∧ r * r * s = 1 ∧
    msq (fun k => (x k : EReal)) = (s : EReal) ∧ rms (fun k => (x k : EReal)) = (r : EReal) := by
  obtain ⟨s, hs, e⟩ := msq_real x
  refine ⟨s, (Real.sqrt s)⁻¹, hs, ?_, e, ?_⟩
  · have h2 : Real.sqrt s * Real.sqrt s = s := Real.mul_self_sqrt hs.le
    have h3 : Real.sqrt s ≠ 0 := (Real.sqrt_pos.2 hs).ne'
    rw [← mul_inv, h2, inv_mul_cancel₀ hs.ne']
  · unfold rms
    rw [e, rsqrt_coe hs]

/-- The two forms of the gradient agree on reals. -/
theorem normDh_eq_coe (x d : Fin 1024 → ℝ) (j : Fin 1024) :
    normDh (fun k => (x k : EReal)) (fun k => (d k : EReal)) j
      = normDhRef (fun k => (x k : EReal)) (fun k => (d k : EReal)) j := by
  obtain ⟨s, r, hs, hr, em, er⟩ := rms_real x
  unfold normDh normDhRef msqCt
  rw [em, er, ofBits_1024, ofBits_neg_half, div_coe _ hs.ne']
  simp only [← EReal.coe_mul, ← coe_sum]
  rw [div_coe _ (by norm_num), div_coe _ (by norm_num)]
  simp only [← EReal.coe_mul, ← EReal.coe_add, ← EReal.coe_sub]
  have e1 : ∑ k, d k * (x k * r) = (∑ k, x k * d k) * r := by
    rw [Finset.sum_mul]
    exact Finset.sum_congr rfl fun k _ => by ring
  rw [e1]
  have e2 : r / s = r * r * r := by
    rw [div_eq_iff hs.ne']
    linear_combination (-r) * hr
  rw [e2]
  congr 1
  ring

/-- The two forms of the gradient agree on rows that hold reals. -/
theorem normDh_eq {h dn : Fin 1024 → EReal} (hh : ∀ k, ∃ r : ℝ, h k = r) (hd : ∀ k, ∃ r : ℝ, dn k = r) :
    normDh h dn = normDhRef h dn := by
  choose x ex using hh
  choose d ed using hd
  obtain rfl : h = fun k => (x k : EReal) := funext ex
  obtain rfl : dn = fun k => (d k : EReal) := funext ed
  exact funext fun j => normDh_eq_coe x d j

/-- A product of two reals is a real. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- A sum of two reals is a real. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A finite sum of reals is a real. -/
theorem real_sum {ι : Type*} {s : Finset ι} {f : ι → EReal} (h : ∀ k, ∃ r : ℝ, f k = r) : ∃ r : ℝ, ∑ k ∈ s, f k = r := by
  choose x ex using h
  exact ⟨∑ k ∈ s, x k, by rw [coe_sum]; exact Finset.sum_congr rfl fun k _ => ex k⟩

/-! ## Whole arrays: rows with their own cotangents -/

/-- The array of the gradients that a kernel adds to the residual's, from each row's cotangents `du`. -/
def dhArr {n : ℕ} (du : Fin n → Fin 1024 → EReal) (h : FVec Ideal ⟨2, ![n, 1024]⟩ .f32) (g : FVec Ideal ⟨2, ![1, 1024]⟩ .f32)
    (dhin : FVec Ideal ⟨2, ![n, 1024]⟩ .f32) : FVec Ideal ⟨2, ![n, 1024]⟩ .f32 := fun i =>
  dhin i + normDh (fun k => h (ix2 (i 0) k)) (fun k => du (i 0) k * g (ix2 0 k)) (i 1)

/-- The same array as the chain rule writes it. -/
def dhArrRef {n : ℕ} (du : Fin n → Fin 1024 → EReal) (h : FVec Ideal ⟨2, ![n, 1024]⟩ .f32) (g : FVec Ideal ⟨2, ![1, 1024]⟩ .f32)
    (dhin : FVec Ideal ⟨2, ![n, 1024]⟩ .f32) : FVec Ideal ⟨2, ![n, 1024]⟩ .f32 := fun i =>
  dhin i + normDhRef (fun k => h (ix2 (i 0) k)) (fun k => du (i 0) k * g (ix2 0 k)) (i 1)

/-- The gain's gradient, summed over the rows. -/
def dgArr {n : ℕ} (du : Fin n → Fin 1024 → EReal) (h : FVec Ideal ⟨2, ![n, 1024]⟩ .f32) : FVec Ideal ⟨2, ![1, 1024]⟩ .f32 := fun i =>
  ∑ r : Fin n, du r (i 1) * (h (ix2 r (i 1)) * rms fun k => h (ix2 r k))

/-- At real arguments the two arrays are one; the residual's own gradient may be anything. -/
theorem dhArr_eq {n : ℕ} {du : Fin n → Fin 1024 → EReal} {h : FVec Ideal ⟨2, ![n, 1024]⟩ .f32} {g : FVec Ideal ⟨2, ![1, 1024]⟩ .f32}
    (dhin : FVec Ideal ⟨2, ![n, 1024]⟩ .f32) (hd : ∀ r k, ∃ x : ℝ, du r k = x) (hh : ∀ i, ∃ x : ℝ, h i = x)
    (hg : ∀ i, ∃ x : ℝ, g i = x) : dhArr du h g dhin = dhArrRef du h g dhin := by
  funext i
  unfold dhArr dhArrRef
  exact congrArg (dhin i + ·) (congrFun (normDh_eq (fun k => hh _) (fun k => real_mul (hd _ _) (hg _))) _)

end Cert.Step

end
-- ==== Proof.Step.NormMem.lean ====
module
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Step.Norm
public import proofs.«01_k».proof.Defs
public import proofs.«01_k».proof.Proof.Gen.Pre_norm_mem_finite
public import Idealize.ShloMosaic.Lib.Pipeline.ValueKit
@[expose] public section
set_option maxRecDepth 16384
open Idealize.ShloMosaic Idealize.ShloMosaic.TcCoe Idealize.SL.Sem
noncomputable section

/-! The gradient of the memory's norm: what the kernel's one point leaves, and the derivative of the forward lines. -/

namespace Cert.Step.NormMem

open Cert.NormMemIdeal Cert.NormMemIdeal.Gen

variable (m : (ℓ : Loc nD τ sig) → Buf (Elt Ideal) ℓ)

/-- The block index of every window at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The kernel's first result is its gradient payload over the argument arrays. -/
theorem final3 (c : Dev nD) : (dats m 0 c).arrAt 3 cfg0.N
    = k0_pay4 (m ((c : Thread nD τ).loc main_arg0)) (m ((c : Thread nD τ).loc main_arg2)) (m ((c : Thread nD τ).loc main_arg1)) := by
  refine (dats m 0 c).arrAt_eq_of_after_last 3 t0_0 (by decide +kernel) _ fun j => ?_
  blk_simp
  rw [after0_3]
  unfold outsAt0
  frame_out
  blk_point [iblk, V, idx t0_0]

/-- The second result is the same in the narrow format. -/
theorem final4 (c : Dev nD) : (dats m 0 c).arrAt 4 cfg0.N
    = k0_pay5 (m ((c : Thread nD τ).loc main_arg0)) (m ((c : Thread nD τ).loc main_arg2)) (m ((c : Thread nD τ).loc main_arg1)) := by
  refine (dats m 0 c).arrAt_eq_of_after_last 4 t0_0 (by decide +kernel) _ fun j => ?_
  blk_simp
  rw [after0_4]
  unfold outsAt0
  frame_out
  blk_point [iblk, V, idx t0_0]

/-- The third result is zero plus the gain's gradient payload. -/
theorem final5 (c : Dev nD) : (dats m 0 c).arrAt 5 cfg0.N
    = k0_pay1 (k0_pay7 (k0_pay6 (F := Ideal))) (k0_pay8 (m ((c : Thread nD τ).loc main_arg0)) (m ((c : Thread nD τ).loc main_arg2))) := by
  refine (dats m 0 c).arrAt_eq_of_after_last 5 t0_0 (by decide +kernel) _ fun j => ?_
  blk_simp
  rw [after0_5]
  unfold outsAt0
  frame_out
  blk_point [iblk, V, idx t0_0]

/-! ## Both sides at an index -/

open Cert.NormMemRefIdeal.Read

variable (h du : FVec Ideal S256x1024 .f32) (g : FVec Ideal S1x1024 .f32)

/-- The kernel's gradient at an index, in the form `normDh`. -/
theorem pay4_apply (r : Fin 256) (l : Fin 1024) : k0_pay4 (F := Ideal) h du g (ix2 r l)
    = normDh (fun k => h (ix2 r k)) (fun k => du (ix2 r k) * g (ix2 0 k)) l := by
  unfold_payloads
  pointwise
  rfl

/-- The reference's root mean square at a row. -/
theorem ref_v7 (r : Fin 256) : val_main_v7 (F := Ideal) h (ix2 r 0) = rms (fun k => h (ix2 r k)) := by
  simp only [val_main_v7, val_main_v6, val_main_v5, val_main_v4, val_main_v3, val_main_v2, val_main_v1, val_main_v0]
  pointwise [val_main_cst, val_main_cst_0, val_main_cst_1]
  rfl

/-- The reference's gradient at an index, in the form `normDhRef`. -/
theorem v33_apply (r : Fin 256) (l : Fin 1024) : val_main_v33 (F := Ideal) h g du (ix2 r l)
    = normDhRef (fun k => h (ix2 r k)) (fun k => du (ix2 r k) * g (ix2 0 k)) l := by
  have e8 : val_main_v8 (F := Ideal) h (ix2 r 0) = Ideal.div (rms fun k => h (ix2 r k)) (msq fun k => h (ix2 r k)) := by
    rw [← ref_v7]
    simp only [val_main_v8, val_main_v6, val_main_v5, val_main_v4, val_main_v3, val_main_v2, val_main_v1, val_main_v0]
    pointwise [val_main_cst, val_main_cst_0, val_main_cst_1]
    rfl
  have e7 := ref_v7 h r
  simp only [val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9]
  pointwise [val_main_cst_2, val_main_cst_3, val_main_cst_4, val_main_cst_5, val_main_cst_6]
  simp only [Fin.sum_univ_one, Fin.isValue, e7, e8]
  rfl

/-- The gain's gradient: the kernel's column sum is the reference's. -/
theorem v17_apply (l : Fin 1024) : k0_pay1 (k0_pay7 (k0_pay6 (F := Ideal))) (k0_pay8 (F := Ideal) h du) (ix2 0 l)
    = val_main_v17 (F := Ideal) h du (ix2 0 l) := by
  have e7 := ref_v7 h
  simp only [val_main_v17, val_main_v16, val_main_v15, val_main_v14, val_main_v13, val_main_v12, val_main_v11]
  unfold_payloads
  pointwise [val_main_cst_3]
  simp only [e7]
  exact Finset.sum_congr rfl fun x _ => mul_comm _ _

/-! ## The claim -/

/-- The gradients agree at finite arguments. -/
theorem dh_eq (hh : ∀ i, ∃ r : ℝ, h i = r) (hg : ∀ i, ∃ r : ℝ, g i = r) (hd : ∀ i, ∃ r : ℝ, du i = r) :
    k0_pay4 (F := Ideal) h du g = val_main_v33 (F := Ideal) h g du := by
  funext j
  idx_vars j
  exact (pay4_apply h du g _ _).trans ((congrFun (normDh_eq (fun k => hh _) (fun k => real_mul (hd _) (hg _))) _).trans
    (v33_apply h du g _ _).symm)

/-- The gain's gradients agree. -/
theorem dg_eq : k0_pay1 (k0_pay7 (k0_pay6 (F := Ideal))) (k0_pay8 (F := Ideal) h du) = val_main_v17 (F := Ideal) h du := by
  funext j
  idx_vars j
  obtain rfl : j0 = 0 := Subsingleton.elim _ _
  exact v17_apply h du _

/-- The precondition says that every element of the three arguments is a real. -/
theorem real_of_pre (e : Cert.Pre_norm_mem_finite.fn (F := Ideal) h g du = fun _ => 1#1) :
    (∀ i, ∃ r : ℝ, h i = r) ∧ (∀ i, ∃ r : ℝ, g i = r) ∧ ∀ i, ∃ r : ℝ, du i = r := by
  have e0 := congrFun e ix0
  unfold Cert.Pre_norm_mem_finite.fn at e0
  have e1 := andi_split e0
  have e2 := andi_split e1.1
  exact ⟨real_of_all h _ _ _ _ _ e2.1, real_of_all g _ _ _ _ _ e2.2, real_of_all du _ _ _ _ _ e1.2⟩

/-- Kernel and derivative leave the same three results. -/
theorem algebraic : Cert.algebraic_NormMemIdeal_NormMemRefIdeal_pre_norm_mem_finite := by
  intro m ρ m' ρ' hpre hag
  refine ⟨_, _, _, Value.run_blocks m ρ, (θ_run _ _ _).mono (fun r h c => ?_) (Cert.NormMemRefIdeal.Value.run m' ρ')⟩
  obtain ⟨h1, h2, h3, h4, h5, h6⟩ := h c
  obtain ⟨a1, a2, a3⟩ := hag c
  obtain ⟨r1, r2, r3⟩ := real_of_pre _ _ _ (hpre c)
  have e := dh_eq _ _ _ r1 r2 r3
  refine ⟨h1.trans ?_, h2.trans ?_, h3.trans ?_, h4, h5, h6⟩
  · rw [final3, e, ← a1, ← a2, ← a3]
    exact val_main_v33_eq _ _ _
  · rw [final4]
    refine Eq.trans ?_ (congrArg (fun x => truncf .bf16 x bitsLt_bf16_f32) e.symm)
    rw [← a1, ← a2, ← a3]
    exact val_main_v34_eq _ _ _
  · rw [final5, dg_eq, ← a1, ← a3]
    exact val_main_v17_eq _ _

end Cert.Step.NormMem
end
-- ==== Proof.Step.Attn.lean ====
module
public import proofs.«01_k».proof.Proof.Step.Norm
@[expose] public section
open Idealize.ShloMosaic
noncomputable section

/-! The attention of one query row over 256 keys, and its gradient: the form that the kernels compute, the form that
the derivative of the forward lines computes, and that the two are equal on reals. -/

namespace Cert.Step

/-- A row's greatest score. -/
def smax (s : Fin 256 → EReal) : EReal := Finset.fold max (Ideal.ofBits .f32 0xFF800000#32) s Finset.univ

/-- A score's exponential, the row's greatest score taken off. -/
def sexp (s : Fin 256 → EReal) (j : Fin 256) : EReal := Ideal.exp (s j - smax s)

/-- A score's share of the row. -/
def sprob (s : Fin 256 → EReal) (j : Fin 256) : EReal := Ideal.div (sexp s j) (∑ k, sexp s k)

/-- The gradient at the product of query and key as the kernel computes it, from the scores and the shares' cotangents. -/
def dscore (s dp : Fin 256 → EReal) (j : Fin 256) : EReal :=
  sprob s j * (dp j - ∑ k, dp k * sprob s k) * Ideal.ofBits .f32 0x3D800000#32

/-- The same as the chain rule writes it. -/
def dscoreRef (s dp : Fin 256 → EReal) (j : Fin 256) : EReal :=
  Ideal.div ((Ideal.div (dp j) (∑ k, sexp s k)
    + -∑ k, dp k * Ideal.div (Ideal.ofBits .f32 0x3F800000#32) ((∑ k, sexp s k) * ∑ k, sexp s k) * sexp s k) * sexp s j)
    (Ideal.ofBits .f32 0x41800000#32)

theorem ofBits_ninf : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee]
  rw [← EReal.coe_mul]
  norm_num

theorem ofBits_16 : Ideal.ofBits .f32 0x41800000#32 = ((16 : ℝ) : EReal) := by
  simp [Ideal.ofBits, Ideal.ieee]
  rw [← EReal.coe_mul]
  norm_num

theorem ofBits_inv16 : Ideal.ofBits .f32 0x3D800000#32 = ((1 / 16 : ℝ) : EReal) := by
  simp [Ideal.ofBits, Ideal.ieee]
  rw [← EReal.coe_mul]
  norm_num

/-- The greatest of a row of reals is a real. -/
theorem smax_real (x : Fin 256 → ℝ) : ∃ M : ℝ, smax (fun k => (x k : EReal)) = (M : EReal) := by
  have key : ∀ s : Finset (Fin 256), s.Nonempty → ∃ M : ℝ, Finset.fold max (⊥ : EReal) (fun k => (x k : EReal)) s = (M : EReal) := by
    classical
    intro s
    induction s using Finset.induction_on with
    | empty => exact fun h => absurd h Finset.not_nonempty_empty
    | insert a s h ih =>
      intro _
      rw [Finset.fold_insert h]
      rcases s.eq_empty_or_nonempty with rfl | hs
      · exact ⟨x a, by simp⟩
      · obtain ⟨M, e⟩ := ih hs
        exact ⟨max (x a) M, by rw [e]; exact (EReal.coe_strictMono.monotone.map_max).symm⟩
  unfold smax
  rw [ofBits_ninf]
  exact key _ Finset.univ_nonempty

/-- The exponentials of a row of reals are positive reals. -/
theorem sexp_real (x : Fin 256 → ℝ) : ∃ e : Fin 256 → ℝ, (∀ j, 0 < e j) ∧ ∀ j, sexp (fun k => (x k : EReal)) j = (e j : EReal) := by
  obtain ⟨M, h⟩ := smax_real x
  refine ⟨fun j => Real.exp (x j - M), fun j => Real.exp_pos _, fun j => ?_⟩
  unfold sexp
  rw [h, ← EReal.coe_sub]
  rfl

/-- The two forms of the gradient agree on reals. -/
theorem dscore_eq {s dp : Fin 256 → EReal} (hs : ∀ k, ∃ r : ℝ, s k = r) (hd : ∀ k, ∃ r : ℝ, dp k = r) (j : Fin 256) :
    dscore s dp j = dscoreRef s dp j := by
  choose x ex using hs
  choose d ed using hd
  obtain rfl : s = fun k => (x k : EReal) := funext ex
  obtain rfl : dp = fun k => (d k : EReal) := funext ed
  obtain ⟨e, he, ee⟩ := sexp_real x
  have hS : 0 < ∑ k, e k := Finset.sum_pos (fun k _ => he k) Finset.univ_nonempty
  unfold dscore dscoreRef sprob
  simp only [ee, ← coe_sum, div_coe _ hS.ne', ofBits_inv16, ofBits_16, ofBits_one, ← EReal.coe_mul,
    div_coe _ (mul_pos hS hS).ne', ← EReal.coe_sub, ← EReal.coe_neg, ← EReal.coe_add, div_coe _ (by norm_num : (16 : ℝ) ≠ 0)]
  congr 1
  have e1 : ∑ k, d k * (e k / ∑ k, e k) = (∑ k, d k * e k) / ∑ k, e k := by
    rw [Finset.sum_div]
    exact Finset.sum_congr rfl fun k _ => by ring
  have e2 : ∑ k, d k * (1 / ((∑ k, e k) * ∑ k, e k)) * e k = (∑ k, d k * e k) / ((∑ k, e k) * ∑ k, e k) := by
    rw [Finset.sum_div]
    exact Finset.sum_congr rfl fun k _ => by ring
  rw [e1, e2]
  field_simp
  ring

/-! ## Whole arrays: four heads of 256 columns; the keys stand before the values -/

section Arrays

variable {n : ℕ} (q : (⟨2, ![n, 1024]⟩ : Shape).Idx → EReal) (kv : (⟨2, ![256, 2048]⟩ : Shape).Idx → EReal)
  (dO : (⟨2, ![n, 1024]⟩ : Shape).Idx → EReal)

/-- A head's scores of a query row. -/
def score (r : Fin n) (a : Fin 4) (j : Fin 256) : EReal :=
  (∑ d : Fin 256, q (ix2 r ⟨a.val * 256 + d.val, by omega⟩) * kv (ix2 j ⟨a.val * 256 + d.val, by omega⟩))
    * Ideal.ofBits .f32 0x3D800000#32

/-- The cotangents of a head's shares. -/
def dshare (r : Fin n) (a : Fin 4) (j : Fin 256) : EReal :=
  ∑ d : Fin 256, dO (ix2 r ⟨a.val * 256 + d.val, by omega⟩) * kv (ix2 j ⟨1024 + (a.val * 256 + d.val), by omega⟩)

/-- The attention's result at a row and a column. -/
def oAt (r : Fin n) (x : Fin 1024) : EReal :=
  ∑ j : Fin 256, sprob (score q kv r ⟨x.val / 256, by omega⟩) j * kv (ix2 j ⟨1024 + x.val, by omega⟩)

/-- The queries' gradient at a row and a column. -/
def dqAt (r : Fin n) (x : Fin 1024) : EReal :=
  ∑ j : Fin 256, dscore (score q kv r ⟨x.val / 256, by omega⟩) (dshare kv dO r ⟨x.val / 256, by omega⟩) j
    * kv (ix2 j ⟨x.val, by omega⟩)

/-- What a row adds to the keys' gradient. -/
def dkTerm (r : Fin n) (j : Fin 256) (x : Fin 1024) : EReal :=
  dscore (score q kv r ⟨x.val / 256, by omega⟩) (dshare kv dO r ⟨x.val / 256, by omega⟩) j * q (ix2 r x)

/-- What a row adds to the values' gradient. -/
def dvTerm (r : Fin n) (j : Fin 256) (x : Fin 1024) : EReal :=
  sprob (score q kv r ⟨x.val / 256, by omega⟩) j * dO (ix2 r x)

/-- What a row adds to the gradients of the keys and, beside them, of the values. -/
def dkvTerm (r : Fin n) (j : Fin 256) (x : Fin 2048) : EReal :=
  if h : x.val < 1024 then dkTerm q kv dO r j ⟨x.val, h⟩ else dvTerm q kv dO r j ⟨x.val - 1024, by omega⟩

/-- The queries' gradient. -/
def dqArr : (⟨2, ![n, 1024]⟩ : Shape).Idx → EReal := fun i => dqAt q kv dO (i 0) (i 1)

/-- The gradients of keys and values, summed over the rows. -/
def dkvArr : (⟨2, ![256, 2048]⟩ : Shape).Idx → EReal := fun i => ∑ r : Fin n, dkvTerm q kv dO r (i 0) (i 1)

/-- A row's part depends on the row alone. -/
theorem dkvTerm_congr {n' : ℕ} {q dO : (⟨2, ![n, 1024]⟩ : Shape).Idx → EReal} {q' dO' : (⟨2, ![n', 1024]⟩ : Shape).Idx → EReal}
    {kv : (⟨2, ![256, 2048]⟩ : Shape).Idx → EReal} {r : Fin n} {r' : Fin n'} (hq : ∀ k, q (ix2 r k) = q' (ix2 r' k))
    (hd : ∀ k, dO (ix2 r k) = dO' (ix2 r' k)) (j : Fin 256) (x : Fin 2048) :
    dkvTerm q kv dO r j x = dkvTerm q' kv dO' r' j x := by
  unfold dkvTerm dkTerm dvTerm score dshare
  simp only [hq, hd]

theorem dqAt_congr {n' : ℕ} {q dO : (⟨2, ![n, 1024]⟩ : Shape).Idx → EReal} {q' dO' : (⟨2, ![n', 1024]⟩ : Shape).Idx → EReal}
    {kv : (⟨2, ![256, 2048]⟩ : Shape).Idx → EReal} {r : Fin n} {r' : Fin n'} (hq : ∀ k, q (ix2 r k) = q' (ix2 r' k))
    (hd : ∀ k, dO (ix2 r k) = dO' (ix2 r' k)) (x : Fin 1024) :
    dqAt q kv dO r x = dqAt q' kv dO' r' x := by
  unfold dqAt score dshare
  simp only [hq, hd]

theorem oAt_congr {n' : ℕ} {q : (⟨2, ![n, 1024]⟩ : Shape).Idx → EReal} {q' : (⟨2, ![n', 1024]⟩ : Shape).Idx → EReal}
    {kv : (⟨2, ![256, 2048]⟩ : Shape).Idx → EReal} {r : Fin n} {r' : Fin n'} (hq : ∀ k, q (ix2 r k) = q' (ix2 r' k))
    (x : Fin 1024) : oAt q kv r x = oAt q' kv r' x := by
  unfold oAt score
  simp only [hq]

end Arrays

end Cert.Step
end
-- ==== Proof.Step.Tiles.lean ====
module
public import Idealize.ShloMosaic.Lib.Pipeline.ValueKit
@[expose] public section
open Idealize.ShloMosaic
noncomputable section

/-! Stores that cover an index hide the earlier store of a whole buffer. -/

namespace Cert.Step

variable {Val : EltTy → Type} {S : Shape} {e : EltTy}

/-- At an index that one of the later stores covers, the earlier stores do not count. -/
theorem canon_append_covered [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_append_covered L' y L ⟨q, hq', hyq⟩

/-- The first store does not count where a later one covers the index. -/
theorem canon_dropLast [∀ e, Nonempty (Val e)] (L : List (View.Piece Val S e)) (y : S.Idx)
    (h : ∃ p ∈ L.dropLast, y ∈ p.1.set) : View.canon L y = View.canon L.dropLast y := by
  rcases L.eq_nil_or_concat with rfl | ⟨K, p, rfl⟩
  · rfl
  · rw [List.concat_eq_append, List.dropLast_concat] at *
    exact canon_append_covered _ _ _ h

end Cert.Step
end
-- ==== Proof.Step.AttnBwd.lean ====
module
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.Pre_attn_bwd_finite
public import proofs.«01_k».proof.Proof.Step.Attn
public import proofs.«01_k».proof.Proof.Step.Tiles
public import proofs.«01_k».proof.Defs
public import Idealize.ShloMosaic.Lib.Pipeline.ValueKit
public import Idealize.ShloMosaic.Lib.Pipeline.ReadBack
@[expose] public section
set_option maxRecDepth 16384
open Idealize.ShloMosaic Idealize.ShloMosaic.TcCoe Idealize.SL.Sem
noncomputable section

/-! The gradient of the attention at the queries, and at the keys and values. -/

namespace Cert.Step.AttnBwd

open Cert.AttnBwdIdeal Cert.AttnBwdIdeal.Gen

section Kernel

variable (m : (ℓ : Loc nD τ sig) → Buf (Elt Ideal) ℓ)

/-- The block indices at a point: the row blocks move with the point, the keys and values stay. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-! ### One head of a block -/

/-- The scores of a head, from its queries and keys. -/
theorem pay23_apply (q : FVec Ideal S512x256 .bf16) (k : FVec Ideal S256x256 .bf16) (r : Fin 512) (j : Fin 256) :
    k0_pay23 (F := Ideal) q k (ix2 r j) = (∑ d : Fin 256, q (ix2 r d) * k (ix2 j d)) * Ideal.ofBits .f32 0x3D800000#32 := by
  pointwise [k0_pay23]

/-- The shares of a head. -/
theorem pay1_apply (s : FVec Ideal S512x256 .f32) (r : Fin 512) (j : Fin 256) :
    k0_pay1 (F := Ideal) s (ix2 r j) = sprob (fun j => s (ix2 r j)) j := by
  pointwise [k0_pay1]
  rfl

/-- The gradient at the scores. -/
theorem pay3_apply (v : FVec Ideal S256x256 .bf16) (d : FVec Ideal S512x256 .bf16) (s : FVec Ideal S512x256 .f32) (r : Fin 512) (j : Fin 256) :
    k0_pay3 (F := Ideal) v d s (ix2 r j)
    = dscore (fun j => s (ix2 r j)) (fun j => ∑ e : Fin 256, d (ix2 r e) * v (ix2 j e)) j := by
  have e1 := pay1_apply s
  unfold k0_pay3
  pointwise
  simp only [e1]
  rfl

/-- The values' gradient after a block: the shares' products with the result's cotangent are added. -/
theorem pay2_apply (d : FVec Ideal S512x256 .bf16) (s : FVec Ideal S512x256 .f32) (prev : FVec Ideal S256x256 .f32) (x : S256x256.Idx) :
    k0_pay2 (F := Ideal) d s prev x = prev x + ∑ r : Fin 512, sprob (fun j => s (ix2 r j)) (x 0) * d (ix2 r (x 1)) := by
  idx_vars x
  have e1 := pay1_apply s
  unfold k0_pay2
  pointwise
  simp only [e1]

/-- The keys' gradient after a block. -/
theorem pay5_apply (q : FVec Ideal S512x256 .bf16) (v : FVec Ideal S256x256 .bf16) (d : FVec Ideal S512x256 .bf16)
    (s : FVec Ideal S512x256 .f32) (prev : FVec Ideal S256x256 .f32) (x : S256x256.Idx) :
    k0_pay5 (F := Ideal) q v d s prev x = prev x + ∑ r : Fin 512,
      dscore (fun j => s (ix2 r j)) (fun j => ∑ e : Fin 256, d (ix2 r e) * v (ix2 j e)) (x 0) * q (ix2 r (x 1)) := by
  idx_vars x
  have e3 := pay3_apply v d s
  unfold k0_pay5
  pointwise
  simp only [e3]

/-- The queries' gradient of a block. -/
theorem pay4_apply (k v : FVec Ideal S256x256 .bf16) (d : FVec Ideal S512x256 .bf16) (s : FVec Ideal S512x256 .f32) (x : S512x256.Idx) :
    k0_pay4 (F := Ideal) k v d s x = ∑ j : Fin 256,
      dscore (fun j => s (ix2 (x 0) j)) (fun j => ∑ e : Fin 256, d (ix2 (x 0) e) * v (ix2 j e)) j * k (ix2 j (x 1)) := by
  idx_vars x
  have e3 := pay3_apply v d s
  unfold k0_pay4
  pointwise
  simp only [e3]

/-! ### The head that stands at column `lo` of a block -/

section Head

/-- 256 columns of a row block from column `l`. -/
abbrev tileR (f : S512x1024.Idx → EReal) (l : ℕ) (inb : ∀ b, (![0, l] : Fin 2 → ℕ) b + (![512, 256] : Fin 2 → ℕ) b ≤ S512x1024.size b) :
    S512x256.Idx → EReal := fun x => f ((Rect.unit (s := S512x1024) ![0, l] ![512, 256] inb).idx x)

/-- 256 columns of the keys and values from column `l`. -/
abbrev tileK (f : S256x2048.Idx → EReal) (l : ℕ) (inb : ∀ b, (![0, l] : Fin 2 → ℕ) b + (![256, 256] : Fin 2 → ℕ) b ≤ S256x2048.size b) :
    S256x256.Idx → EReal := fun x => f ((Rect.unit (s := S256x2048) ![0, l] ![256, 256] inb).idx x)

variable (q : FVec Ideal S512x1024 .bf16) (kv : FVec Ideal S256x2048 .bf16) (dO : FVec Ideal S512x1024 .bf16)
  (prev : FVec Ideal S256x2048 .f32) (a : Fin 4) (lo lv : ℕ) (hlo : lo = a.val * 256) (hlv : lv = 1024 + a.val * 256)
  (inbq : ∀ b, (![0, lo] : Fin 2 → ℕ) b + (![512, 256] : Fin 2 → ℕ) b ≤ S512x1024.size b)
  (inbk : ∀ b, (![0, lo] : Fin 2 → ℕ) b + (![256, 256] : Fin 2 → ℕ) b ≤ S256x2048.size b)
  (inbv : ∀ b, (![0, lv] : Fin 2 → ℕ) b + (![256, 256] : Fin 2 → ℕ) b ≤ S256x2048.size b)

/-- A tile's element is the block's at the tile's column. -/
theorem tileR_apply (f : S512x1024.Idx → EReal) (x : S512x256.Idx) (i : S512x1024.Idx) (h0 : (i 0 : ℕ) = x 0) (h1 : (i 1 : ℕ) = lo + x 1) :
    tileR f lo inbq x = f i := by
  exact View.ld_unit_apply_of (Val := Elt Ideal) (e := .f32) f ![0, lo] ![512, 256] inbq x i fun b => by
    fin_cases b
    · exact h0.trans (Nat.zero_add _).symm
    · exact h1

theorem tileK_apply (f : S256x2048.Idx → EReal) (x : S256x256.Idx) (i : S256x2048.Idx) (h0 : (i 0 : ℕ) = x 0) (h1 : (i 1 : ℕ) = lo + x 1) :
    tileK f lo inbk x = f i := by
  exact View.ld_unit_apply_of (Val := Elt Ideal) (e := .f32) f ![0, lo] ![256, 256] inbk x i fun b => by
    fin_cases b
    · exact h0.trans (Nat.zero_add _).symm
    · exact h1

include hlo in
/-- The head's scores. -/
theorem scores_tile (r : Fin 512) :
    (fun j => k0_pay23 (F := Ideal) (tileR q lo inbq) (tileK kv lo inbk) (ix2 r j)) = score q kv r a := by
  funext j
  rw [pay23_apply]
  refine congrArg (· * _) (Finset.sum_congr rfl fun d _ => congrArg₂ _ ?_ ?_)
  · exact tileR_apply lo inbq q _ _ rfl (by subst hlo; rfl)
  · exact tileK_apply lo inbk kv _ _ rfl (by subst hlo; rfl)

include hlo hlv in
/-- The cotangents of the head's shares. -/
theorem dshare_tile (r : Fin 512) :
    (fun j => ∑ e : Fin 256, tileR dO lo inbq (ix2 r e) * tileK kv lv inbv (ix2 j e)) = dshare kv dO r a := by
  funext j
  refine Finset.sum_congr rfl fun d _ => congrArg₂ _ ?_ ?_
  · exact tileR_apply lo inbq dO _ _ rfl (by subst hlo; rfl)
  · exact tileK_apply lv inbv kv _ _ rfl (by subst hlv; exact (Nat.add_assoc _ _ _).symm)

include hlo hlv in
/-- What the block's keys' gradient holds after the head's store. -/
theorem dk_tile (x : S256x256.Idx) (i : S256x2048.Idx) (h0 : (i 0 : ℕ) = x 0) (h1 : (i 1 : ℕ) = lo + x 1) :
    k0_pay5 (F := Ideal) (tileR q lo inbq) (tileK kv lv inbv) (tileR dO lo inbq)
      (k0_pay23 (F := Ideal) (tileR q lo inbq) (tileK kv lo inbk)) (tileK prev lo inbk) x
    = prev i + dkvArr q kv dO i := by
  have hx : (x 1).val < 256 := (x 1).isLt
  have ha := a.isLt
  have hi : (i 1).val < 1024 := by omega
  have e0 : i 0 = x 0 := Fin.ext h0
  have ea : (⟨(i 1).val / 256, by omega⟩ : Fin 4) = a := Fin.ext (by show (i 1).val / 256 = a.val; omega)
  rw [pay5_apply, tileK_apply lo inbk prev x i h0 h1]
  refine congrArg (prev i + ·) (Finset.sum_congr rfl fun r _ => ?_)
  rw [scores_tile q kv a lo hlo inbq inbk, dshare_tile kv dO a lo lv hlo hlv inbq inbv]
  unfold dkvTerm dkTerm
  rw [dif_pos hi, ea, e0]
  refine congrArg _ (tileR_apply lo inbq q _ _ rfl h1)

include hlo hlv in
/-- What the block's values' gradient holds after the head's store. -/
theorem dv_tile (x : S256x256.Idx) (i : S256x2048.Idx) (h0 : (i 0 : ℕ) = x 0) (h1 : (i 1 : ℕ) = lv + x 1) :
    k0_pay2 (F := Ideal) (tileR dO lo inbq)
      (k0_pay23 (F := Ideal) (tileR q lo inbq) (tileK kv lo inbk)) (tileK prev lv inbv) x
    = prev i + dkvArr q kv dO i := by
  have hx : (x 1).val < 256 := (x 1).isLt
  have ha := a.isLt
  have hi : ¬ (i 1).val < 1024 := by omega
  have e0 : i 0 = x 0 := Fin.ext h0
  have ea : (⟨((i 1).val - 1024) / 256, by omega⟩ : Fin 4) = a := Fin.ext (by show ((i 1).val - 1024) / 256 = a.val; omega)
  rw [pay2_apply, tileK_apply lv inbv prev x i h0 h1]
  refine congrArg (prev i + ·) (Finset.sum_congr rfl fun r _ => ?_)
  rw [scores_tile q kv a lo hlo inbq inbk]
  unfold dkvTerm dvTerm
  rw [dif_neg hi, ea, e0]
  refine congrArg _ (tileR_apply lo inbq dO _ _ rfl ?_)
  show (i 1).val - 1024 = lo + (x 1).val
  omega

include hlo hlv in
/-- The head's columns of the queries' gradient of a block. -/
theorem dq_tile (x : S512x256.Idx) (i : S512x1024.Idx) (h0 : (i 0 : ℕ) = x 0) (h1 : (i 1 : ℕ) = lo + x 1) :
    k0_pay4 (F := Ideal) (tileK kv lo inbk) (tileK kv lv inbv) (tileR dO lo inbq)
      (k0_pay23 (F := Ideal) (tileR q lo inbq) (tileK kv lo inbk)) x
    = dqArr q kv dO i := by
  have hx : (x 1).val < 256 := (x 1).isLt
  have ha := a.isLt
  have hi : (i 1).val < 1024 := (i 1).isLt
  have e0 : i 0 = x 0 := Fin.ext h0
  have ea : (⟨(i 1).val / 256, by omega⟩ : Fin 4) = a := Fin.ext (by show (i 1).val / 256 = a.val; omega)
  rw [pay4_apply]
  unfold dqArr dqAt
  refine Finset.sum_congr rfl fun j _ => ?_
  refine congrArg₂ (· * ·) (congrArg₂ (fun s d => dscore s d j) ?_ ?_) (tileK_apply lo inbk kv _ _ rfl h1)
  · exact (scores_tile q kv a lo hlo inbq inbk (x 0)).trans (by rw [ea, e0])
  · exact (dshare_tile kv dO a lo lv hlo hlv inbq inbv (x 0)).trans (by rw [ea, e0])

end Head

/-- The accumulated block: what a point adds at an index. -/
def term (c : Dev nD) (t : Fin cfg0.N) (i : S256x2048.Idx) : EReal :=
  dkvArr (n := 512) (iblk m c 0 t) (iblk m c 1 t) (iblk m c 2 t) i

/-- The step of the accumulated block. -/
theorem stepB (c : Dev nD) (t : Fin cfg0.N) (h0 : ¬ t.val % 8 = 0) (i : S256x2048.Idx) :
    (outsAt0 m c t.val t.isLt).2 i = (outsAt0 m c (t.val - 1) (Nat.lt_of_le_of_lt (Nat.sub_le _ _) t.isLt)).2 i + term m c t i := by
  rw [outsAt0_B m c t h0]
  frame_open
  simp (disch := decide) only [↓ View.readCov_skip, ↓ View.readCov_cons_toLoadRect, ↓ View.readCov_fill]
  frame_out
  canon_tiles x h
  · exact dk_tile _ _ _ _ 3 768 1792 rfl rfl _ _ _ x i h0 h1
  · exact dv_tile _ _ _ _ 3 768 1792 rfl rfl _ _ _ x i h0 h1
  · exact dk_tile _ _ _ _ 2 512 1536 rfl rfl _ _ _ x i h0 h1
  · exact dv_tile _ _ _ _ 2 512 1536 rfl rfl _ _ _ x i h0 h1
  · exact dk_tile _ _ _ _ 1 256 1280 rfl rfl _ _ _ x i h0 h1
  · exact dv_tile _ _ _ _ 1 256 1280 rfl rfl _ _ _ x i h0 h1
  · exact dk_tile _ _ _ _ 0 0 1024 rfl rfl _ _ _ x i h0 (by omega)
  · exact dv_tile _ _ _ _ 0 0 1024 rfl rfl _ _ _ x i h0 h1

/-- The first step of the accumulated block. -/
theorem stepA (c : Dev nD) (t : Fin cfg0.N) (h0 : t.val % 8 = 0) (i : S256x2048.Idx) :
    (outsAt0 m c t.val t.isLt).2 i = k0_pay6 (F := Ideal) i + term m c t i := by
  rw [outsAt0_A m c t h0]
  frame_open
  simp (disch := decide) only [↓ View.readCov_skip, ↓ View.readCov_cons_toLoadRect, ↓ View.readCov_fill]
  frame_out
  refine (canon_dropLast _ _ ?_).trans ?_
  · simp only [List.dropLast]
    exact View.cover_of_tiled_head _ _ _ (by rfl) _
  simp only [List.dropLast]
  canon_tiles x h
  · exact dk_tile _ _ _ (k0_pay6 (F := Ideal)) 3 768 1792 rfl rfl _ _ _ x i h0 h1
  · exact dv_tile _ _ _ (k0_pay6 (F := Ideal)) 3 768 1792 rfl rfl _ _ _ x i h0 h1
  · exact dk_tile _ _ _ (k0_pay6 (F := Ideal)) 2 512 1536 rfl rfl _ _ _ x i h0 h1
  · exact dv_tile _ _ _ (k0_pay6 (F := Ideal)) 2 512 1536 rfl rfl _ _ _ x i h0 h1
  · exact dk_tile _ _ _ (k0_pay6 (F := Ideal)) 1 256 1280 rfl rfl _ _ _ x i h0 h1
  · exact dv_tile _ _ _ (k0_pay6 (F := Ideal)) 1 256 1280 rfl rfl _ _ _ x i h0 h1
  · exact dk_tile _ _ _ (k0_pay6 (F := Ideal)) 0 0 1024 rfl rfl _ _ _ x i h0 (by omega)
  · exact dv_tile _ _ _ (k0_pay6 (F := Ideal)) 0 0 1024 rfl rfl _ _ _ x i h0 h1

/-- What a point stores into the queries' gradient's block. -/
theorem point3 (c : Dev nD) (t : Fin cfg0.N) (i : S512x1024.Idx) :
    (outsAt0 m c t.val t.isLt).1 i = dqArr (n := 512) (iblk m c 0 t) (iblk m c 1 t) (iblk m c 2 t) i := by
  by_cases h0 : t.val % 8 = 0
  · rw [outsAt0_A m c t h0]
    frame_open
    simp (disch := decide) only [↓ View.readCov_skip, ↓ View.readCov_cons_toLoadRect, ↓ View.readCov_fill]
    frame_out
    canon_tiles x h
    · exact dq_tile _ _ _ 3 768 1792 rfl rfl _ _ _ x i h0 h1
    · exact dq_tile _ _ _ 2 512 1536 rfl rfl _ _ _ x i h0 h1
    · exact dq_tile _ _ _ 1 256 1280 rfl rfl _ _ _ x i h0 h1
    · exact dq_tile _ _ _ 0 0 1024 rfl rfl _ _ _ x i h0 (by omega)
  · rw [outsAt0_B m c t h0]
    frame_open
    simp (disch := decide) only [↓ View.readCov_skip, ↓ View.readCov_cons_toLoadRect, ↓ View.readCov_fill]
    frame_out
    canon_tiles x h
    · exact dq_tile _ _ _ 3 768 1792 rfl rfl _ _ _ x i h0 h1
    · exact dq_tile _ _ _ 2 512 1536 rfl rfl _ _ _ x i h0 h1
    · exact dq_tile _ _ _ 1 256 1280 rfl rfl _ _ _ x i h0 h1
    · exact dq_tile _ _ _ 0 0 1024 rfl rfl _ _ _ x i h0 (by omega)

/-- The accumulated block after the last point. -/
theorem acc4 (c : Dev nD) (i : S256x2048.Idx) :
    (outsAt0 m c t0_7.val t0_7.isLt).2 i = k0_pay6 (F := Ideal) i + ∑ t : Fin cfg0.N, term m c t i :=
  Pipeline.eq_sum_fin_of_reset_step_apply_last (fun n hn => (outsAt0 m c n hn).2) 8 _ (term m c)
    (fun t h j => stepA m c t h j) (fun t h j => stepB m c t h j) (by decide +kernel) t0_7 rfl i

/-- The three arguments' arrays. -/
abbrev qA (c : Dev nD) : FVec Ideal S4096x1024 .bf16 := m ((c : Thread nD τ).loc main_arg0)
abbrev kvA (c : Dev nD) : FVec Ideal S256x2048 .bf16 := m ((c : Thread nD τ).loc main_arg1)
abbrev doA (c : Dev nD) : FVec Ideal S4096x1024 .bf16 := m ((c : Thread nD τ).loc main_arg2)

/-- The point's blocks: rows from `512 t` of the queries and cotangents, all keys and values. -/
theorem blk_q (c : Dev nD) (t : Fin cfg0.N) (x : Fin 512) (r : Fin 4096) (e : r.val = t.val * 512 + x.val) (k : Fin 1024) :
    iblk m c 0 t (ix2 x k) = qA m c (ix2 r k) := by
  blk_point [iblk, V, idx t, qA, doA, e]

theorem blk_do (c : Dev nD) (t : Fin cfg0.N) (x : Fin 512) (r : Fin 4096) (e : r.val = t.val * 512 + x.val) (k : Fin 1024) :
    iblk m c 2 t (ix2 x k) = doA m c (ix2 r k) := by
  blk_point [iblk, V, idx t, qA, doA, e]

theorem blk_kv (c : Dev nD) (t : Fin cfg0.N) : iblk m c 1 t = kvA m c := by
  funext i
  blk_point [iblk, V, idx t]

/-- The queries' gradient after the run. -/
theorem final3 (c : Dev nD) : (dats m 0 c).arrAt 3 cfg0.N = (dqArr (qA m c) (kvA m c) (doA m c) : S4096x1024.Idx → EReal) := by
  refine (dats m 0 c).arrAt_eq_of_covers 3 _ (by decide +kernel) fun t _ y => ?_
  blk_simp
  rw [after0_3, point3]
  rw [blk_kv]
  idx_vars y
  have e : ∀ f : S4096x1024.Idx → EReal, f (((cfg0.win 3).blk t).view.emb (ix2 y0 y1))
      = f (ix2 ⟨t.val * 512 + y0.val, by have := t.isLt; have := y0.isLt; change t.val < 8 at *; omega⟩ y1) := by
    intro f
    blk_point [idx t]
  refine Eq.trans ?_ (e _).symm
  exact dqAt_congr (fun k => blk_q m c t _ _ rfl k) (fun k => blk_do m c t _ _ rfl k) _

/-- The gradients of keys and values after the run. -/
theorem final4 (c : Dev nD) : (dats m 0 c).arrAt 4 cfg0.N = dkvArr (qA m c) (kvA m c) (doA m c) := by
  refine (dats m 0 c).arrAt_eq_of_after_last 4 t0_7 (by decide +kernel) _ fun j => ?_
  blk_simp
  rw [after0_4, acc4]
  rw [show k0_pay6 (F := Ideal) j = 0 from by idx_vars j; pointwise [k0_pay6], zero_add]
  unfold dkvArr
  refine Fin.sum_mul_add_congr fun t x hl => ?_
  rw [blk_kv]
  exact dkvTerm_congr (fun k => blk_q m c t x _ rfl k) (fun k => blk_do m c t x _ rfl k) _ _

end Kernel

/-! ## The derivative of the forward lines -/

section Reference

open Cert.AttnBwdRefIdeal.Read

variable (q : FVec Ideal S4096x1024 .bf16) (kv : FVec Ideal S256x2048 .bf16) (dO : FVec Ideal S4096x1024 .bf16)

/-- Over 16 is times one sixteenth. -/
theorem div_16 (x : EReal) : Ideal.div x (Ideal.ofBits .f32 0x41800000#32) = x * Ideal.ofBits .f32 0x3D800000#32 := by
  rw [ofBits_16, ofBits_inv16]
  unfold Ideal.div
  rw [if_neg (by norm_num), ← EReal.coe_inv]
  norm_num

/-- The reference's scores. -/
theorem ref_v9 (a : Fin 4) (r : Fin 4096) (j : Fin 256) : val_main_v9 (F := Ideal) q kv (ix3 a r j) = score q kv r a j := by
  simp only [val_main_v9, val_main_v8, val_main_v7, val_main_v6, val_main_v5, val_main_v4, val_main_v3, val_main_v2, val_main_v1, val_main_v0]
  pointwise [val_main_cst]
  exact div_16 _

/-- The greatest of each row. -/
theorem row_max (z : FVec Ideal Cert.AttnBwdRefIdeal.S4x4096x256 .f32) (a : Fin 4) (r : Fin 4096) :
    Host.reduce FloatOps.maximumf z (constant Cert.AttnBwdRefIdeal.S_ .f32 0xFF800000#32)
      Cert.AttnBwdRefIdeal.Gen.reducesTo_S4x4096x256_S4x4096_d2 Cert.AttnBwdRefIdeal.Gen.h_S_ (ix2 a r)
    = smax fun x => z (ix3 a r x) := by
  pointwise [smax]

/-- The reference's row maximum. -/
theorem ref_v10 (a : Fin 4) (r : Fin 4096) : val_main_v10 (F := Ideal) q kv (ix2 a r) = smax (score q kv r a) := by
  unfold val_main_v10
  exact (row_max _ a r).trans (congrArg smax (funext (ref_v9 q kv a r)))

/-- The same, beside the least of all. -/
theorem ref_v17 (a : Fin 4) (r : Fin 4096) : val_main_v17 (F := Ideal) q kv (ix2 a r) = smax (score q kv r a) := by
  rw [val_main_v17_apply, ref_v10]
  exact max_eq_right (ofBits_ninf.le.trans bot_le)

/-- The reference's exponentials. -/
theorem ref_v30 (a : Fin 4) (r : Fin 4096) (j : Fin 256) : val_main_v30 (F := Ideal) q kv (ix3 a r j) = sexp (score q kv r a) j := by
  have e9 := ref_v9 q kv
  have e17 := ref_v17 q kv
  simp only [val_main_v30, val_main_v29, val_main_v28, val_main_v27]
  generalize val_main_v9 (F := Ideal) q kv = z at e9 ⊢
  generalize val_main_v17 (F := Ideal) q kv = y at e17 ⊢
  pointwise
  simp only [e9, e17]
  rfl

/-- The sums of a row's exponentials. -/
theorem ref_v32 (a : Fin 4) (r : Fin 4096) : val_main_v32 (F := Ideal) q kv (ix3 a r 0) = ∑ j, sexp (score q kv r a) j := by
  have e30 := ref_v30 q kv
  simp only [val_main_v32, val_main_v31]
  pointwise [val_main_cst_8]
  simp only [e30]

/-- The reference's shares. -/
theorem ref_v34 (a : Fin 4) (r : Fin 4096) (j : Fin 256) : val_main_v34 (F := Ideal) q kv (ix3 a r j) = sprob (score q kv r a) j := by
  have e30 := ref_v30 q kv
  have e32 := ref_v32 q kv
  simp only [val_main_v34, val_main_v33]
  pointwise
  simp only [e30, e32]
  rfl

/-- The reference's cotangents of the shares. -/
theorem ref_v44 (a : Fin 4) (r : Fin 4096) (j : Fin 256) : val_main_v44 (F := Ideal) kv dO (ix3 a r j) = dshare kv dO r a j := by
  simp only [val_main_v44, val_main_v43, val_main_v42, val_main_v41, val_main_v6, val_main_v5, val_main_v1]
  pointwise [dshare]

/-- The reference's gradient at the products of queries and keys. -/
theorem ref_v60 (a : Fin 4) (r : Fin 4096) (j : Fin 256) : val_main_v60 (F := Ideal) q kv dO (ix3 a r j)
    = dscoreRef (score q kv r a) (dshare kv dO r a) j := by
  have e30 := ref_v30 q kv
  have e32 := ref_v32 q kv
  have e44 := ref_v44 kv dO
  simp only [val_main_v60, val_main_v59, val_main_v58, val_main_v57, val_main_v56, val_main_v55, val_main_v54, val_main_v53,
    val_main_v52, val_main_v51, val_main_v50, val_main_v49, val_main_v48, val_main_v47, val_main_v37, val_main_v36, val_main_v35]
  pointwise [val_main_cst_9, val_main_cst_10, val_main_cst_11, val_main_cst_12, dscoreRef]
  simp only [Fin.sum_univ_one, Fin.isValue, e30, e32, e44]

/-- Where the two forms of the scores' gradient agree, the reference's queries' gradient is the kernel's. -/
theorem ref_v71 (h : ∀ r a j, dscore (score q kv r a) (dshare kv dO r a) j = dscoreRef (score q kv r a) (dshare kv dO r a) j) :
    (val_main_v71 (F := Ideal) q kv dO : S4096x1024.Idx → EReal) = dqArr q kv dO := by
  funext i
  idx_vars i
  have e60 := ref_v60 q kv dO
  simp only [val_main_v71, val_main_v70, val_main_v64, val_main_v63, val_main_v4, val_main_v3, val_main_v1]
  pointwise [dqArr, dqAt]
  simp only [e60, ← h]

/-- The same of the gradients of keys and values. -/
theorem ref_v69 (h : ∀ r a j, dscore (score q kv r a) (dshare kv dO r a) j = dscoreRef (score q kv r a) (dshare kv dO r a) j) :
    val_main_v69 (F := Ideal) q kv dO = dkvArr q kv dO := by
  funext i
  idx_vars i
  have e60 := ref_v60 q kv dO
  have e34 := ref_v34 q kv
  simp only [val_main_v69, val_main_v68, val_main_v67, val_main_v66, val_main_v65, val_main_v62, val_main_v61, val_main_v46, val_main_v45, val_main_v43, val_main_v42, val_main_v41, val_main_v2, val_main_v0]
  pointwise [val_main_cst_13, val_main_cst_14, dkvArr, dkvTerm, dkTerm, dvTerm]
  simp only [e60, e34, ← h]
  by_cases hi : i1.val < 1024
  · simp only [dif_neg (show ¬ (1024 ≤ i1.val ∧ i1.val - 1024 < 1024) by omega), dif_pos hi, zero_add, Nat.div_add_mod']
  · simp only [dif_pos (show 1024 ≤ i1.val ∧ i1.val - 1024 < 1024 by omega), dif_neg hi, add_zero, Nat.div_add_mod']
    exact Finset.sum_congr rfl fun x _ => mul_comm _ _

end Reference

/-! ## The claim -/

/-- The precondition says that every element of the arguments is a real. -/
theorem score_of_pre (q : FVec Ideal S4096x1024 .bf16) (kv : FVec Ideal S256x2048 .bf16) (dO : FVec Ideal S4096x1024 .bf16)
    (e : Cert.Pre_attn_bwd_finite.fn (F := Ideal) q kv dO = fun _ => 1#1) (r : Fin 4096) (a : Fin 4) (j : Fin 256) :
    dscore (score q kv r a) (dshare kv dO r a) j = dscoreRef (score q kv r a) (dshare kv dO r a) j := by
  have e0 := congrFun e ix0
  unfold Cert.Pre_attn_bwd_finite.fn at e0
  have e1 := andi_split e0
  have e2 := andi_split e1.1
  have hd := real_of_all dO _ _ _ _ _ e1.2
  have hk := real_of_all kv _ _ _ _ _ e2.2
  have hq := real_of_all q _ _ _ _ _ e2.1
  exact dscore_eq (fun k => real_mul (real_sum fun d => real_mul (hq _) (hk _)) ⟨_, ofBits_inv16⟩)
    (fun k => real_sum fun d => real_mul (hd _) (hk _)) j

/-- Kernel and derivative leave the same two results. -/
theorem algebraic : Cert.algebraic_AttnBwdIdeal_AttnBwdRefIdeal_pre_attn_bwd_finite := by
  intro m ρ m' ρ' hpre hag
  refine ⟨_, _, Value.run_blocks m ρ, (θ_run _ _ _).mono (fun r h c => ?_) (Cert.AttnBwdRefIdeal.Value.run m' ρ')⟩
  obtain ⟨h1, h2, hk⟩ := h c
  obtain ⟨a0, a1, a2⟩ := hag c
  have e := score_of_pre _ _ _ (hpre c)
  refine ⟨h1.trans ?_, h2.trans ?_, hk⟩
  · rw [final3]
    refine Eq.trans ?_ (ref_v71 _ _ _ e)
    unfold qA kvA doA
    rw [← a0, ← a1, ← a2]
    exact Cert.AttnBwdRefIdeal.Read.val_main_v71_eq m' c
  · rw [final4]
    refine Eq.trans ?_ (ref_v69 _ _ _ e)
    unfold qA kvA doA
    rw [← a0, ← a1, ← a2]
    exact Cert.AttnBwdRefIdeal.Read.val_main_v69_eq m' c

end Cert.Step.AttnBwd
end
-- ==== Proof.Step.FfnDx.lean ====
module
public import proofs.«01_k».proof.Proof.Gen.FfnDxIdeal.Value
public import proofs.«01_k».proof.Proof.Gen.FfnDxRefIdeal.Run
public import proofs.«01_k».proof.Proof.Gen.FfnDxRefIdeal.Read
public import proofs.«01_k».proof.Proof.Gen.Pre_ffn_dx_finite
public import proofs.«01_k».proof.Proof.Step.Norm
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The gradient through the feed-forward block's two products and its norm, onto the residual's gradient. -/

namespace Cert.Step.FfnDx

open Cert.FfnDxIdeal Cert.FfnDxIdeal.Gen

variable (dga dup : FVec Ideal S4096x2816 .bf16) (wg wu : FVec Ideal S1024x2816 .f32) (h : FVec Ideal S4096x1024 .f32)
  (g : FVec Ideal S1x1024 .f32) (dhin : FVec Ideal S4096x1024 .f32)

/-- The cotangent of the normalised and scaled row, through the two products. -/
def du (r : Fin 4096) (k : Fin 1024) : EReal :=
  (∑ x : Fin 2816, dga (ix2 r x) * wg (ix2 k x)) + ∑ x : Fin 2816, dup (ix2 r x) * wu (ix2 k x)

section Kernel

variable (m : (ℓ : Loc nD τ sig) → Buf (Elt Ideal) ℓ)

/-- The block indices at a point: the row blocks move with the point, the rest stays. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- What the point stores into the gradient's block. -/
theorem point7 (c : Dev nD) (t : Fin cfg0.N) (y : S256x1024.Idx) :
    k0_pay7 (F := Ideal) (iblk m c 0 t) (iblk m c 2 t) (iblk m c 1 t) (iblk m c 3 t) (iblk m c 4 t) (iblk m c 5 t) (iblk m c 6 t) y
    = dhArr (du (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) (((cfg0.win 7).blk t).view.emb y) := by
  unfold_payloads
  pointwise [dhArr, normDh, rms, msq, du]
  blk_point [iblk, V, idx t]

/-- The first result after the run. -/
theorem final7 (c : Dev nD) : (dats m 0 c).arrAt 7 cfg0.N = dhArr (du (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  by_cases h0 : t.val % 16 = 0
  · rw [outsAt0_A m c t h0]
    frame_out
    exact point7 m c t y
  · rw [outsAt0_B m c t h0]
    frame_out
    exact point7 m c t y

/-- The second result, the same in the narrow format. -/
theorem final8 (c : Dev nD) : (dats m 0 c).arrAt 8 cfg0.N = (dhArr (du (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) : S4096x1024.Idx → EReal) := by
  refine (dats m 0 c).arrAt_eq_of_covers 8 _ (by decide +kernel) fun t _ y => ?_
  blk_simp
  rw [after0_8]
  by_cases h0 : t.val % 16 = 0
  · rw [outsAt0_A m c t h0]
    frame_out
    exact point7 m c t y
  · rw [outsAt0_B m c t h0]
    frame_out
    exact point7 m c t y

/-- What a point adds to the gain's gradient. -/
def term (c : Dev nD) (t : Fin cfg0.N) (i : S1x1024.Idx) : EReal :=
  ∑ x : Fin 256, k0_pay4 (F := Ideal) (iblk m c 0 t) (iblk m c 2 t) (iblk m c 1 t) (iblk m c 3 t) (ix2 x (i 1))
    * k0_pay6 (F := Ideal) (iblk m c 4 t) (ix2 x (i 1))

/-- The accumulator's step adds a column sum. -/
theorem pay3_apply (v8 v19 : FVec Ideal S256x1024 .f32) (v : FVec Ideal S1x1024 .f32) (i : S1x1024.Idx) :
    k0_pay3 (F := Ideal) v8 v19 v i = v i + ∑ x : Fin 256, v8 (ix2 x (i 1)) * v19 (ix2 x (i 1)) := by
  idx_vars i
  pointwise [k0_pay3]

/-- The accumulated gain's gradient after the last point. -/
theorem acc9 (c : Dev nD) (i : S1x1024.Idx) :
    (outsAt0 m c t0_15.val t0_15.isLt).2.2 i = k0_pay2 (F := Ideal) i + ∑ t : Fin cfg0.N, term m c t i :=
  Pipeline.eq_sum_fin_of_reset_step_apply_last (fun n hn => (outsAt0 m c n hn).2.2) 16 _ (term m c)
    (fun t h j => by rw [outsAt0_A m c t h]; frame_out; rw [pay3_apply]; rfl)
    (fun t h j => by rw [outsAt0_B m c t h]; frame_out; rw [pay3_apply]; rfl) (by decide +kernel) t0_15 rfl i

/-- The third result after the run. -/
theorem final9 (c : Dev nD) : (dats m 0 c).arrAt 9 cfg0.N = dgArr (du (m ((c : Thread nD τ).loc main_arg0)) (m ((c : Thread nD τ).loc main_arg1)) (m ((c : Thread nD τ).loc main_arg2)) (m ((c : Thread nD τ).loc main_arg3))) (m ((c : Thread nD τ).loc main_arg4)) := by
  refine (dats m 0 c).arrAt_eq_of_after_last 9 t0_15 (by decide +kernel) _ fun j => ?_
  blk_simp
  rw [after0_9, acc9]
  unfold dgArr
  rw [show k0_pay2 (F := Ideal) j = 0 from by idx_vars j; pointwise [k0_pay2], zero_add]
  refine Fin.sum_mul_add_congr fun t x hl => ?_
  unfold_payloads
  idx_vars j
  pointwise [rms, msq, du]
  blk_point [iblk, V, idx t]

end Kernel

/-! ## The derivative of the forward lines -/

section Reference

open Cert.FfnDxRefIdeal.Read

/-- The reference's reciprocal root mean square at a row. -/
theorem ref_v7 (r : Fin 4096) : val_main_v7 (F := Ideal) h (ix2 r 0) = rms (fun k => h (ix2 r k)) := by
  simp only [val_main_v7, val_main_v6, val_main_v5, val_main_v4, val_main_v3, val_main_v2, val_main_v1, val_main_v0]
  pointwise [val_main_cst, val_main_cst_0, val_main_cst_1]
  rfl

/-- The same divided by the mean square. -/
theorem ref_v8 (r : Fin 4096) : val_main_v8 (F := Ideal) h (ix2 r 0)
    = Ideal.div (rms fun k => h (ix2 r k)) (msq fun k => h (ix2 r k)) := by
  rw [← ref_v7]
  simp only [val_main_v8, val_main_v6, val_main_v5, val_main_v4, val_main_v3, val_main_v2, val_main_v1, val_main_v0]
  pointwise [val_main_cst, val_main_cst_0, val_main_cst_1]
  rfl

/-- The reference's cotangent of the normalised and scaled row. -/
theorem ref_v21 (r : Fin 4096) (k : Fin 1024) : val_main_v21 (F := Ideal) dga dup wg wu (ix2 r k) = du dga dup wg wu r k := by
  simp only [val_main_v21, val_main_v20, val_main_v19, val_main_v18, val_main_v17]
  pointwise
  exact add_comm _ _

/-- The reference's first result. -/
theorem ref_v41 : val_main_v41 (F := Ideal) dga dup wg wu h g dhin = dhArrRef (du dga dup wg wu) h g dhin := by
  funext i
  idx_vars i
  have e7 := ref_v7 h
  have e8 := ref_v8 h
  have e21 := ref_v21 dga dup wg wu
  simp only [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v10, val_main_v9]
  pointwise [val_main_cst_2, val_main_cst_4, val_main_cst_5, val_main_cst_6, dhArrRef, normDhRef]
  simp only [Fin.sum_univ_one, Fin.isValue, e7, e8, e21, add_assoc]
  rfl

/-- The reference's third result. -/
theorem ref_v24 : val_main_v24 (F := Ideal) dga dup wg wu h = dgArr (du dga dup wg wu) h := by
  funext i
  idx_vars i
  have e7 := ref_v7 h
  have e21 := ref_v21 dga dup wg wu
  simp only [val_main_v24, val_main_v23, val_main_v22, val_main_v12, val_main_v11]
  pointwise [val_main_cst_3, dgArr]
  simp only [e7, e21]
  exact Finset.sum_congr rfl fun x _ => mul_comm _ _

end Reference

/-! ## The claim -/

/-- The precondition says that every element of the arguments, but for the residual's gradient, is a real. -/
theorem real_of_pre (e : Cert.Pre_ffn_dx_finite.fn (F := Ideal) dga dup wg wu h g dhin = fun _ => 1#1) :
    (∀ r k, ∃ x : ℝ, du dga dup wg wu r k = x) ∧ (∀ i, ∃ x : ℝ, h i = x) ∧ ∀ i, ∃ x : ℝ, g i = x := by
  have e0 := congrFun e ix0
  unfold Cert.Pre_ffn_dx_finite.fn at e0
  have e1 := andi_split e0
  have e2 := andi_split e1.1
  have e3 := andi_split e2.1
  have e4 := andi_split e3.1
  have e5 := andi_split e4.1
  refine ⟨fun r k => ?_, real_of_all h _ _ _ _ _ e2.2, real_of_all g _ _ _ _ _ e1.2⟩
  exact real_add (real_sum fun x => real_mul (real_of_all dga _ _ _ _ _ e5.1 _) (real_of_all wg _ _ _ _ _ e4.2 _))
    (real_sum fun x => real_mul (real_of_all dup _ _ _ _ _ e5.2 _) (real_of_all wu _ _ _ _ _ e3.2 _))

/-- Kernel and derivative leave the same three results. -/
theorem algebraic : Cert.algebraic_FfnDxIdeal_FfnDxRefIdeal_pre_ffn_dx_finite := by
  intro m ρ m' ρ' hpre hag
  refine ⟨_, _, _, Value.run_blocks m ρ, (θ_run _ _ _).mono (fun r h c => ?_) (Cert.FfnDxRefIdeal.Value.run m' ρ')⟩
  obtain ⟨h1, h2, h3, hk⟩ := h c
  obtain ⟨a0, a1, a2, a3, a4, a5, a6⟩ := hag c
  obtain ⟨r1, r2, r3⟩ := real_of_pre _ _ _ _ _ _ _ (hpre c)
  have e := dhArr_eq (m ((c : Thread nD τ).loc main_arg6)) r1 r2 r3
  refine ⟨h1.trans ?_, h2.trans ?_, h3.trans ?_, hk⟩
  · rw [final7, e, ← ref_v41, ← a0, ← a1, ← a2, ← a3, ← a4, ← a5, ← a6]
    exact Cert.FfnDxRefIdeal.Read.val_main_v41_eq m' c
  · rw [final8]
    refine Eq.trans ?_ (show (truncf .bf16 (dhArrRef _ _ _ _) bitsLt_bf16_f32 : S4096x1024.Idx → EReal) = _ from e.symm)
    rw [← ref_v41, ← a0, ← a1, ← a2, ← a3, ← a4, ← a5, ← a6]
    exact Cert.FfnDxRefIdeal.Read.val_main_v42_eq m' c
  · rw [final9, ← ref_v24, ← a0, ← a1, ← a2, ← a3, ← a4]
    exact Cert.FfnDxRefIdeal.Read.val_main_v24_eq _ _ _ _ _

end Cert.Step.FfnDx
end
-- ==== Proof.Step.QDx.lean ====
module
public import proofs.«01_k».proof.Proof.Gen.QDxIdeal.Value
public import proofs.«01_k».proof.Proof.Gen.QDxRefIdeal.Run
public import proofs.«01_k».proof.Proof.Gen.QDxRefIdeal.Read
public import proofs.«01_k».proof.Proof.Gen.Pre_q_dx_finite
public import proofs.«01_k».proof.Proof.Step.Norm
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The gradient through the attention's query product and its norm, onto the residual's gradient. -/

namespace Cert.Step.QDx

open Cert.QDxIdeal Cert.QDxIdeal.Gen

variable (dq : FVec Ideal S4096x1024 .bf16) (wq : FVec Ideal S1024x1024 .f32) (h : FVec Ideal S4096x1024 .f32)
  (g : FVec Ideal S1x1024 .f32) (dhin : FVec Ideal S4096x1024 .f32)

/-- The cotangent of the normalised and scaled row, through the product. -/
def du (r : Fin 4096) (k : Fin 1024) : EReal :=
  ∑ x : Fin 1024, dq (ix2 r x) * wq (ix2 k x)

section Kernel

variable (m : (ℓ : Loc nD τ sig) → Buf (Elt Ideal) ℓ)

/-- The block indices at a point: the row blocks move with the point, the rest stays. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- What the point stores into the gradient's block. -/
theorem point5 (c : Dev nD) (t : Fin cfg0.N) (y : S512x1024.Idx) :
    k0_pay6 (F := Ideal) (iblk m c 0 t) (iblk m c 1 t) (iblk m c 2 t) (iblk m c 3 t) (iblk m c 4 t) y
    = dhArr (du (m ((c : Thread nD τ).loc main_arg0)) (m ((c : Thread nD τ).loc main_arg1)))
        (m ((c : Thread nD τ).loc main_arg2)) (m ((c : Thread nD τ).loc main_arg3)) (m ((c : Thread nD τ).loc main_arg4)) (((cfg0.win 5).blk t).view.emb y) := by
  unfold_payloads
  pointwise [dhArr, normDh, rms, msq, du]
  blk_point [iblk, V, idx t]

/-- The first result after the run. -/
theorem final5 (c : Dev nD) : (dats m 0 c).arrAt 5 cfg0.N = dhArr (du (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 8 = 0
  · rw [outsAt0_A m c t h0]
    frame_out
    exact point5 m c t y
  · rw [outsAt0_B m c t h0]
    frame_out
    exact point5 m c t y

/-- The second result, the same in the narrow format. -/
theorem final6 (c : Dev nD) : (dats m 0 c).arrAt 6 cfg0.N = (dhArr (du (m ((c : Thread nD τ).loc main_arg0)) (m ((c : Thread nD τ).loc main_arg1)))
        (m ((c : Thread nD τ).loc main_arg2)) (m ((c : Thread nD τ).loc main_arg3)) (m ((c : Thread nD τ).loc main_arg4)) : S4096x1024.Idx → EReal) := by
  refine (dats m 0 c).arrAt_eq_of_covers 6 _ (by decide +kernel) fun t _ y => ?_
  blk_simp
  rw [after0_6]
  by_cases h0 : t.val % 8 = 0
  · rw [outsAt0_A m c t h0]
    frame_out
    exact point5 m c t y
  · rw [outsAt0_B m c t h0]
    frame_out
    exact point5 m c t y

/-- What a point adds to the gain's gradient. -/
def term (c : Dev nD) (t : Fin cfg0.N) (i : S1x1024.Idx) : EReal :=
  ∑ x : Fin 512, k0_pay3 (F := Ideal) (iblk m c 0 t) (iblk m c 1 t) (ix2 x (i 1))
    * k0_pay5 (F := Ideal) (iblk m c 2 t) (ix2 x (i 1))

/-- The accumulator's step adds a column sum. -/
theorem pay2_apply (v8 v19 : FVec Ideal S512x1024 .f32) (v : FVec Ideal S1x1024 .f32) (i : S1x1024.Idx) :
    k0_pay2 (F := Ideal) v8 v19 v i = v i + ∑ x : Fin 512, v8 (ix2 x (i 1)) * v19 (ix2 x (i 1)) := by
  idx_vars i
  pointwise [k0_pay2]

/-- The accumulated gain's gradient after the last point. -/
theorem acc7 (c : Dev nD) (i : S1x1024.Idx) :
    (outsAt0 m c t0_7.val t0_7.isLt).2.2 i = k0_pay1 (F := Ideal) i + ∑ t : Fin cfg0.N, term m c t i :=
  Pipeline.eq_sum_fin_of_reset_step_apply_last (fun n hn => (outsAt0 m c n hn).2.2) 8 _ (term m c)
    (fun t h j => by rw [outsAt0_A m c t h]; frame_out; rw [pay2_apply]; rfl)
    (fun t h j => by rw [outsAt0_B m c t h]; frame_out; rw [pay2_apply]; rfl) (by decide +kernel) t0_7 rfl i

/-- The third result after the run. -/
theorem final7 (c : Dev nD) : (dats m 0 c).arrAt 7 cfg0.N = dgArr (du (m ((c : Thread nD τ).loc main_arg0)) (m ((c : Thread nD τ).loc main_arg1))) (m ((c : Thread nD τ).loc main_arg2)) := by
  refine (dats m 0 c).arrAt_eq_of_after_last 7 t0_7 (by decide +kernel) _ fun j => ?_
  blk_simp
  rw [after0_7, acc7]
  unfold dgArr
  rw [show k0_pay1 (F := Ideal) j = 0 from by idx_vars j; pointwise [k0_pay1], zero_add]
  refine Fin.sum_mul_add_congr fun t x hl => ?_
  unfold_payloads
  idx_vars j
  pointwise [rms, msq, du]
  blk_point [iblk, V, idx t]

end Kernel

/-! ## The derivative of the forward lines -/

section Reference

open Cert.QDxRefIdeal.Read

/-- The reference's reciprocal root mean square at a row. -/
theorem ref_v7 (r : Fin 4096) : val_main_v7 (F := Ideal) h (ix2 r 0) = rms (fun k => h (ix2 r k)) := by
  simp only [val_main_v7, val_main_v6, val_main_v5, val_main_v4, val_main_v3, val_main_v2, val_main_v1, val_main_v0]
  pointwise [val_main_cst, val_main_cst_0, val_main_cst_1]
  rfl

/-- The same divided by the mean square. -/
theorem ref_v8 (r : Fin 4096) : val_main_v8 (F := Ideal) h (ix2 r 0)
    = Ideal.div (rms fun k => h (ix2 r k)) (msq fun k => h (ix2 r k)) := by
  rw [← ref_v7]
  simp only [val_main_v8, val_main_v6, val_main_v5, val_main_v4, val_main_v3, val_main_v2, val_main_v1, val_main_v0]
  pointwise [val_main_cst, val_main_cst_0, val_main_cst_1]
  rfl

/-- The reference's cotangent of the normalised and scaled row. -/
theorem ref_v17 (r : Fin 4096) (k : Fin 1024) : val_main_v17 (F := Ideal) dq wq (ix2 r k) = du dq wq r k := by
  simp only [val_main_v17, val_main_v16]
  pointwise
  rfl

/-- The reference's first result. -/
theorem ref_v37 : val_main_v37 (F := Ideal) dq wq h g dhin = dhArrRef (du dq wq) h g dhin := by
  funext i
  idx_vars i
  have e7 := ref_v7 h
  have e8 := ref_v8 h
  have e17 := ref_v17 dq wq
  simp only [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v10, val_main_v9]
  pointwise [val_main_cst_2, val_main_cst_4, val_main_cst_5, val_main_cst_6, dhArrRef, normDhRef]
  simp only [Fin.sum_univ_one, Fin.isValue, e7, e8, e17, add_assoc]
  rfl

/-- The reference's third result. -/
theorem ref_v20 : val_main_v20 (F := Ideal) dq wq h = dgArr (du dq wq) h := by
  funext i
  idx_vars i
  have e7 := ref_v7 h
  have e17 := ref_v17 dq wq
  simp only [val_main_v20, val_main_v19, val_main_v18, val_main_v12, val_main_v11]
  pointwise [val_main_cst_3, dgArr]
  simp only [e7, e17]
  exact Finset.sum_congr rfl fun x _ => mul_comm _ _

end Reference

/-! ## The claim -/

/-- The precondition says that every element of the arguments, but for the residual's gradient, is a real. -/
theorem real_of_pre (e : Cert.Pre_q_dx_finite.fn (F := Ideal) dq wq h g dhin = fun _ => 1#1) :
    (∀ r k, ∃ x : ℝ, du dq wq r k = x) ∧ (∀ i, ∃ x : ℝ, h i = x) ∧ ∀ i, ∃ x : ℝ, g i = x := by
  have e0 := congrFun e ix0
  unfold Cert.Pre_q_dx_finite.fn at e0
  have e1 := andi_split e0
  have e2 := andi_split e1.1
  have e3 := andi_split e2.1
  refine ⟨fun r k => ?_, real_of_all h _ _ _ _ _ e2.2, real_of_all g _ _ _ _ _ e1.2⟩
  exact real_sum fun x => real_mul (real_of_all dq _ _ _ _ _ e3.1 _) (real_of_all wq _ _ _ _ _ e3.2 _)

/-- Kernel and derivative leave the same three results. -/
theorem algebraic : Cert.algebraic_QDxIdeal_QDxRefIdeal_pre_q_dx_finite := by
  intro m ρ m' ρ' hpre hag
  refine ⟨_, _, _, Value.run_blocks m ρ, (θ_run _ _ _).mono (fun r h c => ?_) (Cert.QDxRefIdeal.Value.run m' ρ')⟩
  obtain ⟨h1, h2, h3, hk⟩ := h c
  obtain ⟨a0, a1, a2, a3, a4⟩ := hag c
  obtain ⟨r1, r2, r3⟩ := real_of_pre _ _ _ _ _ (hpre c)
  have e := dhArr_eq (m ((c : Thread nD τ).loc main_arg4)) r1 r2 r3
  refine ⟨h1.trans ?_, h2.trans ?_, h3.trans ?_, hk⟩
  · rw [final5, e, ← ref_v37, ← a0, ← a1, ← a2, ← a3, ← a4]
    exact Cert.QDxRefIdeal.Read.val_main_v37_eq m' c
  · rw [final6]
    refine Eq.trans ?_ (show (truncf .bf16 (dhArrRef _ _ _ _) bitsLt_bf16_f32 : S4096x1024.Idx → EReal) = _ from e.symm)
    rw [← ref_v37, ← a0, ← a1, ← a2, ← a3, ← a4]
    exact Cert.QDxRefIdeal.Read.val_main_v38_eq m' c
  · rw [final7, ← ref_v20, ← a0, ← a1, ← a2]
    exact Cert.QDxRefIdeal.Read.val_main_v20_eq _ _ _

end Cert.Step.QDx
end
-- ==== Proof.Step.InDx.lean ====
module
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.Pre_in_dx_finite
public import proofs.«01_k».proof.Proof.Step.Norm
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The gradient through the mixer's input product and its norm, onto the residual's gradient. -/

namespace Cert.Step.InDx

open Cert.InDxIdeal Cert.InDxIdeal.Gen

variable (dp : FVec Ideal S4096x512 .bf16) (ds : FVec Ideal S4096x256 .bf16) (dgp dgs : FVec Ideal S4096x1024 .bf16)
  (w : FVec Ideal S1024x2816 .f32) (h : FVec Ideal S4096x1024 .f32)
  (g : FVec Ideal S1x1024 .f32) (dhin : FVec Ideal S4096x1024 .f32)

/-- The cotangent of the normalised and scaled row, through the product with the four column blocks of the weight. -/
def du (r : Fin 4096) (k : Fin 1024) : EReal :=
  (∑ x : Fin 512, dp (ix2 r x) * w (ix2 k ⟨x.val, by omega⟩))
    + (∑ x : Fin 256, ds (ix2 r x) * w (ix2 k ⟨512 + x.val, by omega⟩))
    + (∑ x : Fin 1024, dgp (ix2 r x) * w (ix2 k ⟨768 + x.val, by omega⟩))
    + ∑ x : Fin 1024, dgs (ix2 r x) * w (ix2 k ⟨1792 + x.val, by omega⟩)

/-- A sum over the weight's columns, one sum for each of its four blocks. -/
theorem sum_blocks (f : Fin 2816 → EReal) : ∑ x, f x = (∑ x : Fin 512, f ⟨x.val, by omega⟩)
    + (∑ x : Fin 256, f ⟨512 + x.val, by omega⟩) + (∑ x : Fin 1024, f ⟨768 + x.val, by omega⟩)
    + ∑ x : Fin 1024, f ⟨1792 + x.val, by omega⟩ := by
  rw [Fin.sum_univ_add (a := 1792) (b := 1024) f, Fin.sum_univ_add (a := 768) (b := 1024), Fin.sum_univ_add (a := 512) (b := 256)]
  rfl

section Kernel

variable (m : (ℓ : Loc nD τ sig) → Buf (Elt Ideal) ℓ)

/-- That cotangent from the launch's arguments. -/
abbrev dU (c : Dev nD) : Fin 4096 → Fin 1024 → EReal :=
  du (m ((c : Thread nD τ).loc main_arg0)) (m ((c : Thread nD τ).loc main_arg1)) (m ((c : Thread nD τ).loc main_arg2))
    (m ((c : Thread nD τ).loc main_arg3)) (m ((c : Thread nD τ).loc main_arg4))

/-- The block indices at a point: the row blocks move with the point, the rest stays. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

/-- The point's cotangent: four products, each with one row block of the transposed weight. -/
abbrev duBlk (c : Dev nD) (t : Fin cfg0.N) : FVec Ideal S512x1024 .f32 :=
  k0_pay5 (F := Ideal) (iblk m c 0 t) (View.ld (iblk m c 4 t) (Rect.unit ![0, 0] ![512, 1024] inb_S2816x1024_S512x1024_0_0))
    (iblk m c 1 t) (View.ld (iblk m c 4 t) (Rect.unit ![512, 0] ![256, 1024] inb_S2816x1024_S256x1024_512_0))
    (iblk m c 2 t) (View.ld (iblk m c 4 t) (Rect.unit ![768, 0] ![1024, 1024] inb_S2816x1024_S1024x1024_768_0))
    (iblk m c 3 t) (View.ld (iblk m c 4 t) (Rect.unit ![1792, 0] ![1024, 1024] inb_S2816x1024_S1024x1024_1792_0))

/-- What the point stores into the gradient's block. -/
theorem point8 (c : Dev nD) (t : Fin cfg0.N) (y : S512x1024.Idx) :
    k0_pay1 (F := Ideal) (duBlk m c t) (k0_pay6 (F := Ideal) (iblk m c 5 t)) (k0_pay7 (F := Ideal) (iblk m c 5 t)) (k0_pay8 (F := Ideal) (iblk m c 6 t)) (iblk m c 7 t) y
    = dhArr (dU m c)
        (m ((c : Thread nD τ).loc main_arg5)) (m ((c : Thread nD τ).loc main_arg6)) (m ((c : Thread nD τ).loc main_arg7)) (((cfg0.win 8).blk t).view.emb y) := by
  unfold duBlk
  unfold_payloads
  pointwise [dhArr, normDh, rms, msq, du]
  blk_point [iblk, V, idx t]

/-- The first result after the run. -/
theorem final8 (c : Dev nD) : (dats m 0 c).arrAt 8 cfg0.N = dhArr (dU m c)
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  by_cases h0 : t.val % 8 = 0
  · rw [outsAt0_A m c t h0]
    frame_out
    exact point8 m c t y
  · rw [outsAt0_B m c t h0]
    frame_out
    exact point8 m c t y

/-- The second result, the same in the narrow format. -/
theorem final9 (c : Dev nD) : (dats m 0 c).arrAt 9 cfg0.N = (dhArr (dU m c)
        (m ((c : Thread nD τ).loc main_arg5)) (m ((c : Thread nD τ).loc main_arg6)) (m ((c : Thread nD τ).loc main_arg7)) : S4096x1024.Idx → EReal) := by
  refine (dats m 0 c).arrAt_eq_of_covers 9 _ (by decide +kernel) fun t _ y => ?_
  blk_simp
  rw [after0_9]
  by_cases h0 : t.val % 8 = 0
  · rw [outsAt0_A m c t h0]
    frame_out
    exact point8 m c t y
  · rw [outsAt0_B m c t h0]
    frame_out
    exact point8 m c t y

/-- What a point adds to the gain's gradient. -/
def term (c : Dev nD) (t : Fin cfg0.N) (i : S1x1024.Idx) : EReal :=
  ∑ x : Fin 512, duBlk m c t (ix2 x (i 1))
    * k0_pay7 (F := Ideal) (iblk m c 5 t) (ix2 x (i 1))

/-- The accumulator's step adds a column sum. -/
theorem pay4_apply (v8 v19 : FVec Ideal S512x1024 .f32) (v : FVec Ideal S1x1024 .f32) (i : S1x1024.Idx) :
    k0_pay4 (F := Ideal) v8 v19 v i = v i + ∑ x : Fin 512, v8 (ix2 x (i 1)) * v19 (ix2 x (i 1)) := by
  idx_vars i
  pointwise [k0_pay4]

/-- The accumulated gain's gradient after the last point. -/
theorem acc10 (c : Dev nD) (i : S1x1024.Idx) :
    (outsAt0 m c t0_7.val t0_7.isLt).2.2 i = k0_pay3 (F := Ideal) i + ∑ t : Fin cfg0.N, term m c t i :=
  Pipeline.eq_sum_fin_of_reset_step_apply_last (fun n hn => (outsAt0 m c n hn).2.2) 8 _ (term m c)
    (fun t h j => by rw [outsAt0_A m c t h]; frame_out; rw [pay4_apply]; rfl)
    (fun t h j => by rw [outsAt0_B m c t h]; frame_out; rw [pay4_apply]; rfl) (by decide +kernel) t0_7 rfl i

/-- The third result after the run. -/
theorem final10 (c : Dev nD) : (dats m 0 c).arrAt 10 cfg0.N = dgArr (dU m c) (m ((c : Thread nD τ).loc main_arg5)) := by
  refine (dats m 0 c).arrAt_eq_of_after_last 10 t0_7 (by decide +kernel) _ fun j => ?_
  blk_simp
  rw [after0_10, acc10]
  unfold dgArr
  rw [show k0_pay3 (F := Ideal) j = 0 from by idx_vars j; pointwise [k0_pay3], zero_add]
  refine Fin.sum_mul_add_congr fun t x hl => ?_
  unfold duBlk
  unfold_payloads
  idx_vars j
  pointwise [rms, msq, du]
  blk_point [iblk, V, idx t]

end Kernel

/-! ## The derivative of the forward lines -/

section Reference

open Cert.InDxRefIdeal.Read

/-- The reference's reciprocal root mean square at a row. -/
theorem ref_v11 (r : Fin 4096) : val_main_v11 (F := Ideal) h (ix2 r 0) = rms (fun k => h (ix2 r k)) := by
  simp only [val_main_v11, val_main_v10, val_main_v9, val_main_v8, val_main_v7, val_main_v6, val_main_v5, val_main_v4]
  pointwise [val_main_cst, val_main_cst_0, val_main_cst_1]
  rfl

/-- The same divided by the mean square. -/
theorem ref_v12 (r : Fin 4096) : val_main_v12 (F := Ideal) h (ix2 r 0)
    = Ideal.div (rms fun k => h (ix2 r k)) (msq fun k => h (ix2 r k)) := by
  rw [← ref_v11]
  simp only [val_main_v12, val_main_v10, val_main_v9, val_main_v8, val_main_v7, val_main_v6, val_main_v5, val_main_v4]
  pointwise [val_main_cst, val_main_cst_0, val_main_cst_1]
  rfl

/-- The reference's cotangent of the normalised and scaled row. -/
theorem ref_v31 (r : Fin 4096) (k : Fin 1024) : val_main_v31 (F := Ideal) dp ds dgp dgs w (ix2 r k) = du dp ds dgp dgs w r k := by
  simp only [val_main_v31, val_main_v30, val_main_v29, val_main_v28, val_main_v27, val_main_v26, val_main_v25, val_main_v24,
    val_main_v3, val_main_v2, val_main_v1, val_main_v0]
  pointwise [val_main_cst_3, val_main_cst_4, val_main_cst_5, val_main_cst_6, du]
  rw [sum_blocks]
  refine congrArg₂ _ (congrArg₂ _ (congrArg₂ _ ?_ ?_) ?_) ?_ <;> refine Finset.sum_congr rfl fun x _ => ?_
  all_goals simp (disch := omega) only [dif_pos, dif_neg, zero_add, add_zero, Nat.add_sub_cancel_left, Fin.eta]

/-- The reference's first result. -/
theorem ref_v51 : val_main_v51 (F := Ideal) dp ds dgp dgs w h g dhin = dhArrRef (du dp ds dgp dgs w) h g dhin := by
  funext i
  idx_vars i
  have e11 := ref_v11 h
  have e12 := ref_v12 h
  have e31 := ref_v31 dp ds dgp dgs w
  simp only [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v14, val_main_v13]
  pointwise [val_main_cst_2, val_main_cst_8, val_main_cst_9, val_main_cst_10, dhArrRef, normDhRef]
  simp only [Fin.sum_univ_one, Fin.isValue, e11, e12, e31, add_assoc]
  rfl

/-- The reference's third result. -/
theorem ref_v34 : val_main_v34 (F := Ideal) dp ds dgp dgs w h = dgArr (du dp ds dgp dgs w) h := by
  funext i
  idx_vars i
  have e11 := ref_v11 h
  have e31 := ref_v31 dp ds dgp dgs w
  simp only [val_main_v34, val_main_v33, val_main_v32, val_main_v16, val_main_v15]
  pointwise [val_main_cst_7, dgArr]
  simp only [e11, e31]
  exact Finset.sum_congr rfl fun x _ => mul_comm _ _

end Reference

/-! ## The claim -/

/-- The precondition says that every element of the arguments, but for the residual's gradient, is a real. -/
theorem real_of_pre (e : Cert.Pre_in_dx_finite.fn (F := Ideal) dp ds dgp dgs w h g dhin = fun _ => 1#1) :
    (∀ r k, ∃ x : ℝ, du dp ds dgp dgs w r k = x) ∧ (∀ i, ∃ x : ℝ, h i = x) ∧ ∀ i, ∃ x : ℝ, g i = x := by
  have e0 := congrFun e ix0
  unfold Cert.Pre_in_dx_finite.fn at e0
  have e1 := andi_split e0
  have e2 := andi_split e1.1
  have e3 := andi_split e2.1
  refine ⟨fun r k => ?_, real_of_all h _ _ _ _ _ e2.2, real_of_all g _ _ _ _ _ e1.2⟩
  have e4 := andi_split e3.1
  have e5 := andi_split e4.1
  have e6 := andi_split e5.1
  have hw := real_of_all w _ _ _ _ _ e3.2
  exact real_add (real_add (real_add (real_sum fun x => real_mul (real_of_all dp _ _ _ _ _ e6.1 _) (hw _))
    (real_sum fun x => real_mul (real_of_all ds _ _ _ _ _ e6.2 _) (hw _)))
    (real_sum fun x => real_mul (real_of_all dgp _ _ _ _ _ e5.2 _) (hw _)))
    (real_sum fun x => real_mul (real_of_all dgs _ _ _ _ _ e4.2 _) (hw _))

/-- Kernel and derivative leave the same three results. -/
theorem algebraic : Cert.algebraic_InDxIdeal_InDxRefIdeal_pre_in_dx_finite := by
  intro m ρ m' ρ' hpre hag
  refine ⟨_, _, _, Value.run_blocks m ρ, (θ_run _ _ _).mono (fun r h c => ?_) (Cert.InDxRefIdeal.Value.run m' ρ')⟩
  obtain ⟨h1, h2, h3, hk⟩ := h c
  obtain ⟨a0, a1, a2, a3, a4, a5, a6, a7⟩ := hag c
  obtain ⟨r1, r2, r3⟩ := real_of_pre _ _ _ _ _ _ _ _ (hpre c)
  have e := dhArr_eq (m ((c : Thread nD τ).loc main_arg7)) r1 r2 r3
  refine ⟨h1.trans ?_, h2.trans ?_, h3.trans ?_, hk⟩
  · rw [final8, e, ← ref_v51, ← a0, ← a1, ← a2, ← a3, ← a4, ← a5, ← a6, ← a7]
    exact Cert.InDxRefIdeal.Read.val_main_v51_eq m' c
  · rw [final9]
    refine Eq.trans ?_ (show (truncf .bf16 (dhArrRef _ _ _ _) bitsLt_bf16_f32 : S4096x1024.Idx → EReal) = _ from e.symm)
    rw [← ref_v51, ← a0, ← a1, ← a2, ← a3, ← a4, ← a5, ← a6, ← a7]
    exact Cert.InDxRefIdeal.Read.val_main_v52_eq m' c
  · rw [final10, ← ref_v34, ← a0, ← a1, ← a2, ← a3, ← a4, ← a5]
    exact Cert.InDxRefIdeal.Read.val_main_v34_eq _ _ _ _ _ _

end Cert.Step.InDx
end
-- ==== Proof.Step.FfnHead.lean ====
module
public import proofs.«01_k».proof.Proof.Gen.FfnHeadIdeal.Value
public import proofs.«01_k».proof.Proof.Gen.FfnHeadRefIdeal.Run
public import proofs.«01_k».proof.Proof.Gen.FfnHeadRefIdeal.Read
public import proofs.«01_k».proof.Proof.Gen.Pre_ffn_head_finite
public import proofs.«01_k».proof.Proof.Step.Norm
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The head of the step: the feed-forward block's last product, the residual, the final norm, the squared error,
and the gradient of the error through the norm. -/

namespace Cert.Step.FfnHead

open Cert.FfnHeadIdeal Cert.FfnHeadIdeal.Gen

variable (a : FVec Ideal S4096x2816 .bf16) (w : FVec Ideal S2816x1024 .f32) (x : FVec Ideal S4096x1024 .f32)
  (g : FVec Ideal S1x1024 .f32) (y : FVec Ideal S4096x1024 .f32)

/-- The residual stream after the block. -/
def hv : FVec Ideal S4096x1024 .f32 := fun i =>
  x i + Ideal.ofBits .f32 0x3F000000#32 * ∑ k : Fin 2816, a (ix2 (i 0) k) * w (ix2 k (i 1))

/-- The error of the normalised and scaled row against the target. -/
def err (r : Fin 4096) (k : Fin 1024) : EReal :=
  hv a w x (ix2 r k) * rms (fun k => hv a w x (ix2 r k)) * g (ix2 0 k) - y (ix2 r k)

/-- The cotangent of the normalised and scaled row: the error over the row's length. -/
def du (r : Fin 4096) (k : Fin 1024) : EReal := err a w x g y r k * Ideal.ofBits .f32 0x3A800000#32

/-- The gradient at the residual stream, as the kernel computes it. -/
def dh : FVec Ideal S4096x1024 .f32 := fun i =>
  normDh (fun k => hv a w x (ix2 (i 0) k)) (fun k => du a w x g y (i 0) k * g (ix2 0 k)) (i 1)

/-- The gradient at the residual stream, as the chain rule writes it. -/
def dhRef : FVec Ideal S4096x1024 .f32 := fun i =>
  normDhRef (fun k => hv a w x (ix2 (i 0) k)) (fun k => du a w x g y (i 0) k * g (ix2 0 k)) (i 1)

/-- A row's mean squared error. -/
def mse (r : Fin 4096) : EReal :=
  Ideal.div (∑ k, err a w x g y r k * err a w x g y r k) (Ideal.ofBits .f32 0x44800000#32)

/-- The loss, on each of 128 lanes. -/
def loss : FVec Ideal S1x128 .f32 := fun _ => Ideal.ofBits .f32 0x3F000000#32 * ∑ r, mse a w x g y r

/-- Half of a sum is the sum of the halves. -/
theorem half_mul_sum {ι : Type*} (s : Finset ι) (f : ι → EReal) :
    Ideal.ofBits .f32 0x3F000000#32 * ∑ k ∈ s, f k = ∑ k ∈ s, Ideal.ofBits .f32 0x3F000000#32 * f k := by
  classical
  rw [ofBits_half]
  induction s using Finset.induction_on with
  | empty => simp
  | insert b s h ih =>
    rw [Finset.sum_insert h, Finset.sum_insert h, ← ih]
    exact EReal.left_distrib_of_nonneg_of_ne_top (by exact_mod_cast (by norm_num : (0 : ℝ) ≤ 1 / 2)) (EReal.coe_ne_top _) _ _

section Kernel

variable (m : (ℓ : Loc nD τ sig) → Buf (Elt Ideal) ℓ)

/-- A function of the five arguments at the launch's arrays. -/
abbrev at' {α : Type} (c : Dev nD) (f : FVec Ideal S4096x2816 .bf16 → FVec Ideal S2816x1024 .f32 → FVec Ideal S4096x1024 .f32
    → FVec Ideal S1x1024 .f32 → FVec Ideal S4096x1024 .f32 → α) : α :=
  f (m ((c : Thread nD τ).loc main_arg0)) (m ((c : Thread nD τ).loc main_arg1)) (m ((c : Thread nD τ).loc main_arg2))
    (m ((c : Thread nD τ).loc main_arg3)) (m ((c : Thread nD τ).loc main_arg4))

/-- The block indices at a point: the row blocks move with the point, the rest stays. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- What the point stores into the gradient's block. -/
theorem point6 (c : Dev nD) (t : Fin cfg0.N) (j : S512x1024.Idx) :
    k0_pay11 (F := Ideal) (iblk m c 2 t) (iblk m c 0 t) (iblk m c 1 t) (iblk m c 3 t) (iblk m c 4 t) j
    = at' m c dh (((cfg0.win 6).blk t).view.emb j) := by
  unfold_payloads
  pointwise [dh, normDh, rms, msq, du, err, hv]
  blk_point [iblk, V, idx t]

/-- The gradient after the run. -/
theorem final6 (c : Dev nD) : (dats m 0 c).arrAt 6 cfg0.N = at' m c dh := by
  refine (dats m 0 c).arrAt_eq_of_covers 6 _ (by decide +kernel) fun t _ y => ?_
  blk_simp
  rw [after0_6]
  by_cases h0 : t.val % 8 = 0
  · rw [outsAt0_A m c t h0]
    frame_out
    exact point6 m c t y
  · rw [outsAt0_B m c t h0]
    frame_out
    exact point6 m c t y

/-- The gradient in the narrow format. -/
theorem final7 (c : Dev nD) : (dats m 0 c).arrAt 7 cfg0.N = (at' m c dh : S4096x1024.Idx → EReal) := by
  refine (dats m 0 c).arrAt_eq_of_covers 7 _ (by decide +kernel) fun t _ y => ?_
  blk_simp
  rw [after0_7]
  by_cases h0 : t.val % 8 = 0
  · rw [outsAt0_A m c t h0]
    frame_out
    exact point6 m c t y
  · rw [outsAt0_B m c t h0]
    frame_out
    exact point6 m c t y

/-- The point's block of errors over the row's length, and the same block before the division. -/
abbrev duBlk (c : Dev nD) (t : Fin cfg0.N) : FVec Ideal S512x1024 .f32 :=
  k0_pay10 (F := Ideal) (iblk m c 2 t) (iblk m c 0 t) (iblk m c 1 t) (iblk m c 3 t) (iblk m c 4 t)

abbrev errBlk (c : Dev nD) (t : Fin cfg0.N) : FVec Ideal S512x1024 .f32 :=
  k0_pay9 (F := Ideal) (iblk m c 2 t) (iblk m c 0 t) (iblk m c 1 t) (iblk m c 3 t) (iblk m c 4 t)

/-- What a point adds to the gain's gradient. -/
def term (c : Dev nD) (t : Fin cfg0.N) (i : S1x1024.Idx) : EReal :=
  ∑ x : Fin 512, duBlk m c t (ix2 x (i 1)) * k0_pay8 (F := Ideal) (iblk m c 2 t) (iblk m c 0 t) (iblk m c 1 t) (ix2 x (i 1))

/-- What a point adds to the loss. -/
def lossTerm (c : Dev nD) (t : Fin cfg0.N) (_ : S1x128.Idx) : EReal :=
  Ideal.ofBits .f32 0x3F000000#32 * ∑ x : Fin 512,
    Ideal.div (∑ k : Fin 1024, errBlk m c t (ix2 x k) * errBlk m c t (ix2 x k)) (Ideal.ofBits .f32 0x44800000#32)

/-- The accumulator's step adds a column sum. -/
theorem pay4_apply (v18 v24 : FVec Ideal S512x1024 .f32) (v : FVec Ideal S1x1024 .f32) (i : S1x1024.Idx) :
    k0_pay4 (F := Ideal) v18 v24 v i = v i + ∑ x : Fin 512, v24 (ix2 x (i 1)) * v18 (ix2 x (i 1)) := by
  idx_vars i
  pointwise [k0_pay4]

/-- The loss's step adds half of the sum of the rows' mean squares. -/
theorem pay5_apply (e : FVec Ideal S512x1024 .f32) (v : FVec Ideal S1x128 .f32) (i : S1x128.Idx) :
    k0_pay5 (F := Ideal) e v i = v i + Ideal.ofBits .f32 0x3F000000#32 * ∑ x : Fin 512,
      Ideal.div (∑ k : Fin 1024, e (ix2 x k) * e (ix2 x k)) (Ideal.ofBits .f32 0x44800000#32) := by
  idx_vars i
  pointwise [k0_pay5]

/-- The accumulated gain's gradient after the last point. -/
theorem acc8 (c : Dev nD) (i : S1x1024.Idx) :
    (outsAt0 m c t0_7.val t0_7.isLt).2.2.2 i = k0_pay2 (F := Ideal) i + ∑ t : Fin cfg0.N, term m c t i :=
  Pipeline.eq_sum_fin_of_reset_step_apply_last (fun n hn => (outsAt0 m c n hn).2.2.2) 8 _ (term m c)
    (fun t h j => by rw [outsAt0_A m c t h]; frame_out; rw [pay4_apply]; rfl)
    (fun t h j => by rw [outsAt0_B m c t h]; frame_out; rw [pay4_apply]; rfl) (by decide +kernel) t0_7 rfl i

/-- The accumulated loss after the last point. -/
theorem acc5 (c : Dev nD) (i : S1x128.Idx) :
    (outsAt0 m c t0_7.val t0_7.isLt).1 i = k0_pay3 (F := Ideal) i + ∑ t : Fin cfg0.N, lossTerm m c t i :=
  Pipeline.eq_sum_fin_of_reset_step_apply_last (fun n hn => (outsAt0 m c n hn).1) 8 _ (lossTerm m c)
    (fun t h j => by rw [outsAt0_A m c t h]; frame_out; rw [pay5_apply]; rfl)
    (fun t h j => by rw [outsAt0_B m c t h]; frame_out; rw [pay5_apply]; rfl) (by decide +kernel) t0_7 rfl i

/-- The gain's gradient after the run. -/
theorem final8 (c : Dev nD) : (dats m 0 c).arrAt 8 cfg0.N = dgArr (at' m c du) (at' m c fun a w x _ _ => hv a w x) := by
  refine (dats m 0 c).arrAt_eq_of_after_last 8 t0_7 (by decide +kernel) _ fun j => ?_
  blk_simp
  rw [after0_8, acc8]
  unfold dgArr
  rw [show k0_pay2 (F := Ideal) j = 0 from by idx_vars j; pointwise [k0_pay2], zero_add]
  refine Fin.sum_mul_add_congr fun t x hl => ?_
  unfold duBlk at'
  unfold_payloads
  idx_vars j
  pointwise [rms, msq, du, err, hv]
  blk_point [iblk, V, idx t]

/-- The loss after the run. -/
theorem final5 (c : Dev nD) : (dats m 0 c).arrAt 5 cfg0.N = at' m c loss := by
  refine (dats m 0 c).arrAt_eq_of_after_last 5 t0_7 (by decide +kernel) _ fun j => ?_
  blk_simp
  rw [after0_5, acc5]
  unfold loss lossTerm
  rw [show k0_pay3 (F := Ideal) j = 0 from by idx_vars j; pointwise [k0_pay3], zero_add, ← half_mul_sum]
  refine congrArg _ (Fin.sum_mul_add_congr fun t x hl => ?_)
  unfold errBlk
  unfold_payloads
  pointwise [mse, rms, msq, err, hv]
  blk_point [iblk, V, idx t]

end Kernel

/-! ## The derivative of the forward lines -/

section Reference

open Cert.FfnHeadRefIdeal.Read

/-- The reference's residual stream. -/
theorem ref_v4 : val_main_v4 (F := Ideal) a w x = hv a w x := by
  funext i
  idx_vars i
  simp only [val_main_v4, val_main_v3, val_main_v2, val_main_v1, val_main_v0]
  pointwise [val_main_cst, hv]

/-- The reference's reciprocal root mean square at a row. -/
theorem ref_v12 (r : Fin 4096) : val_main_v12 (F := Ideal) a w x (ix2 r 0) = rms (fun k => hv a w x (ix2 r k)) := by
  rw [← ref_v4]
  simp only [val_main_v12, val_main_v11, val_main_v10, val_main_v9, val_main_v8, val_main_v7, val_main_v6, val_main_v5]
  pointwise [val_main_cst_0, val_main_cst_1, val_main_cst_2]
  rfl

/-- The same divided by the mean square. -/
theorem ref_v13 (r : Fin 4096) : val_main_v13 (F := Ideal) a w x (ix2 r 0)
    = Ideal.div (rms fun k => hv a w x (ix2 r k)) (msq fun k => hv a w x (ix2 r k)) := by
  rw [← ref_v12, ← ref_v4]
  simp only [val_main_v13, val_main_v11, val_main_v10, val_main_v9, val_main_v8, val_main_v7, val_main_v6, val_main_v5]
  pointwise [val_main_cst_0, val_main_cst_1, val_main_cst_2]
  rfl

/-- The reference's error. -/
theorem ref_v20 (r : Fin 4096) (k : Fin 1024) : val_main_v20 (F := Ideal) a w x g y (ix2 r k) = err a w x g y r k := by
  have e12 := ref_v12 a w x
  have e4 := ref_v4 a w x
  simp only [val_main_v20, val_main_v19, val_main_v18, val_main_v17, val_main_v16]
  pointwise [err]
  simp only [e12, e4]

/-- Twice the error times the half over the row's length is the error over the row's length. -/
theorem scale (z : EReal) : Ideal.div (Ideal.ofBits .f32 0x3F000000#32)
    (Ideal.ofBits .f32 0x44800000#32) * (Ideal.ofBits .f32 0x40000000#32 * z) = z * Ideal.ofBits .f32 0x3A800000#32 := by
  have e2 : Ideal.ofBits .f32 0x40000000#32 = ((2 : ℝ) : EReal) := by
    simp [Ideal.ofBits, Ideal.ieee]
    rw [← EReal.coe_mul]
    norm_num
  have e3 : Ideal.ofBits .f32 0x3A800000#32 = ((1 / 1024 : ℝ) : EReal) := by
    simp [Ideal.ofBits, Ideal.ieee]
    rw [← EReal.coe_mul]
    norm_num
  rw [e2, e3, ofBits_half, ofBits_1024, div_coe _ (by norm_num), ← mul_assoc, ← EReal.coe_mul, mul_comm]
  norm_num

/-- The reference's cotangent of the normalised and scaled row. -/
theorem ref_v34 (r : Fin 4096) (k : Fin 1024) : val_main_v34 (F := Ideal) a w x g y (ix2 r k) = du a w x g y r k := by
  have e20 := ref_v20 a w x g y
  simp only [val_main_v34, val_main_v33, val_main_v32, val_main_v31, val_main_v30, val_main_v29, val_main_v23, val_main_v22]
  pointwise [val_main_cst_4, val_main_cst_9, val_main_cst_10, val_main_cst_11, du]
  rw [e20]
  exact scale _

/-- The reference's loss. -/
theorem ref_v54 : val_main_v54 (F := Ideal) a w x g y = loss a w x g y := by
  funext i
  idx_vars i
  have e20 := ref_v20 a w x g y
  simp only [val_main_v54, val_main_v28, val_main_v27, val_main_v26, val_main_v25, val_main_v24, val_main_v21]
  pointwise [val_main_cst_5, val_main_cst_6, val_main_cst_7, val_main_cst_8, loss, mse]
  simp only [e20]

/-- The reference's gradient at the residual stream. -/
theorem ref_v53 : val_main_v53 (F := Ideal) a w x g y = dhRef a w x g y := by
  funext i
  idx_vars i
  have e4 := ref_v4 a w x
  have e12 := ref_v12 a w x
  have e13 := ref_v13 a w x
  have e34 := ref_v34 a w x g y
  simp only [val_main_v53, val_main_v52, val_main_v51, val_main_v50, val_main_v49, val_main_v48, val_main_v47, val_main_v46,
    val_main_v45, val_main_v44, val_main_v43, val_main_v42, val_main_v41, val_main_v40, val_main_v39, val_main_v38,
    val_main_v15, val_main_v14, e4]
  pointwise [val_main_cst_3, val_main_cst_13, val_main_cst_14, val_main_cst_15, dhRef, normDhRef]
  simp only [Fin.sum_univ_one, Fin.isValue, e12, e13, e34]
  rfl

/-- The reference's gain gradient. -/
theorem ref_v37 : val_main_v37 (F := Ideal) a w x g y = dgArr (du a w x g y) (hv a w x) := by
  funext i
  idx_vars i
  have e4 := ref_v4 a w x
  have e12 := ref_v12 a w x
  have e34 := ref_v34 a w x g y
  simp only [val_main_v37, val_main_v36, val_main_v35, val_main_v17, val_main_v16, e4]
  pointwise [val_main_cst_12, dgArr]
  simp only [e12, e34]
  exact Finset.sum_congr rfl fun x _ => mul_comm _ _

end Reference

/-! ## The claim -/

/-- The precondition says that every element of the arguments is a real. -/
theorem real_of_pre (e : Cert.Pre_ffn_head_finite.fn (F := Ideal) a w x g y = fun _ => 1#1) :
    (∀ i, ∃ r : ℝ, hv a w x i = r) ∧ (∀ r k, ∃ z : ℝ, du a w x g y r k = z) ∧ ∀ i, ∃ r : ℝ, g i = r := by
  have e0 := congrFun e ix0
  unfold Cert.Pre_ffn_head_finite.fn at e0
  have e1 := andi_split e0
  have e2 := andi_split e1.1
  have e3 := andi_split e2.1
  have e4 := andi_split e3.1
  have hg := real_of_all g _ _ _ _ _ e2.2
  have hh : ∀ i, ∃ r : ℝ, hv a w x i = r := fun i =>
    real_add (real_of_all x _ _ _ _ _ e3.2 _) (real_mul ⟨_, ofBits_half⟩
      (real_sum fun k => real_mul (real_of_all a _ _ _ _ _ e4.1 _) (real_of_all w _ _ _ _ _ e4.2 _)))
  refine ⟨hh, fun r k => ?_, hg⟩
  have hr : ∃ z : ℝ, rms (fun k => hv a w x (ix2 r k)) = z := by
    choose f ef using fun k => hh (ix2 r k)
    obtain ⟨_, z, _, _, _, e⟩ := rms_real f
    exact ⟨z, by rw [← e]; exact congrArg rms (funext ef)⟩
  obtain ⟨p, ep⟩ := real_mul (real_mul (hh (ix2 r k)) hr) (hg (ix2 0 k))
  obtain ⟨q, eq⟩ := real_of_all y _ _ _ _ _ e1.2 (ix2 r k)
  exact real_mul ⟨p - q, by rw [err, ep, eq, EReal.coe_sub]⟩
    ⟨1 / 1024, by simp [Ideal.ofBits, Ideal.ieee]; rw [← EReal.coe_mul]; norm_num⟩

/-- At real arguments the kernel's gradient is the chain rule's. -/
theorem dh_eq (hh : ∀ i, ∃ r : ℝ, hv a w x i = r) (hd : ∀ r k, ∃ z : ℝ, du a w x g y r k = z) (hg : ∀ i, ∃ r : ℝ, g i = r) :
    dh a w x g y = dhRef a w x g y := by
  funext i
  exact congrFun (normDh_eq (fun k => hh _) (fun k => real_mul (hd _ _) (hg _))) _

/-- Kernel and derivative leave the same four results. -/
theorem algebraic : Cert.algebraic_FfnHeadIdeal_FfnHeadRefIdeal_pre_ffn_head_finite := by
  intro m ρ m' ρ' hpre hag
  refine ⟨_, _, _, _, Value.run_blocks m ρ, (θ_run _ _ _).mono (fun r h c => ?_) (Cert.FfnHeadRefIdeal.Value.run m' ρ')⟩
  obtain ⟨h1, h2, h3, h4, hk⟩ := h c
  obtain ⟨a0, a1, a2, a3, a4⟩ := hag c
  obtain ⟨r1, r2, r3⟩ := real_of_pre _ _ _ _ _ (hpre c)
  have e := dh_eq _ _ _ _ _ r1 r2 r3
  refine ⟨h1.trans ?_, h2.trans ?_, h3.trans ?_, h4.trans ?_, hk⟩
  · rw [final5]
    unfold at'
    rw [← ref_v54, ← a0, ← a1, ← a2, ← a3, ← a4]
    exact Cert.FfnHeadRefIdeal.Read.val_main_v54_eq _ _ _ _ _
  · rw [final6]
    unfold at'
    rw [e, ← ref_v53, ← a0, ← a1, ← a2, ← a3, ← a4]
    exact Cert.FfnHeadRefIdeal.Read.val_main_v53_eq m' c
  · rw [final7]
    refine Eq.trans ?_ (show (truncf .bf16 (dhRef _ _ _ _ _) bitsLt_bf16_f32 : S4096x1024.Idx → EReal) = _ from e.symm)
    rw [← ref_v53, ← a0, ← a1, ← a2, ← a3, ← a4]
    exact Cert.FfnHeadRefIdeal.Read.val_main_v55_eq m' c
  · rw [final8]
    unfold at'
    rw [← ref_v37, ← a0, ← a1, ← a2, ← a3, ← a4]
    exact Cert.FfnHeadRefIdeal.Read.val_main_v37_eq _ _ _ _ _

end Cert.Step.FfnHead
end
-- ==== Proof.Step.Gate.lean ====
module
public import proofs.«01_k».proof.Proof.Step.Norm
@[expose] public section
open Idealize.ShloMosaic
noncomputable section

/-! The gated merge of the pool's and the scan's rows, over four packed column blocks of the three weights, and its
gradient. -/

namespace Cert.Step

/-- The logistic function. -/
def sg (z : EReal) : EReal :=
  Ideal.div (Ideal.ofBits .f32 0x3F800000#32) (Ideal.ofBits .f32 0x3F800000#32 + Ideal.exp (Ideal.ofBits .f32 0x00000000#32 - z))

/-- One less the logistic function. -/
def cg (z : EReal) : EReal := Ideal.ofBits .f32 0x3F800000#32 - sg z

/-- Three weights beside one another: four blocks of 256 columns, in each the rows of the three weights. -/
def packedAt (wp : (⟨2, ![512, 1024]⟩ : Shape).Idx → EReal) (wv wg : (⟨2, ![256, 1024]⟩ : Shape).Idx → EReal)
    (a : Fin 4) (k : Fin 1024) (j : Fin 256) : EReal :=
  if h : k.val < 512 then wp (ix2 ⟨k.val, h⟩ ⟨a.val * 256 + j.val, by omega⟩)
  else if h' : k.val < 768 then wv (ix2 ⟨k.val - 512, by omega⟩ ⟨a.val * 256 + j.val, by omega⟩)
  else wg (ix2 ⟨k.val - 768, by omega⟩ ⟨a.val * 256 + j.val, by omega⟩)

def packed (wp : (⟨2, ![512, 1024]⟩ : Shape).Idx → EReal) (wv wg : (⟨2, ![256, 1024]⟩ : Shape).Idx → EReal) :
    (⟨3, ![4, 1024, 256]⟩ : Shape).Idx → EReal := fun i => packedAt wp wv wg (i 0) (i 1) (i 2)

section Arrays

variable {n : ℕ} (ms : (⟨2, ![n, 512]⟩ : Shape).Idx → EReal) (y : (⟨2, ![n, 256]⟩ : Shape).Idx → EReal)
  (pk : (⟨3, ![4, 1024, 256]⟩ : Shape).Idx → EReal) (pj : (⟨2, ![n, 2816]⟩ : Shape).Idx → EReal)
  (dm : (⟨2, ![n, 1024]⟩ : Shape).Idx → EReal)

/-- The pool's product. -/
def zPool (r : Fin n) (x : Fin 1024) : EReal :=
  ∑ k : Fin 512, ms (ix2 r k) * pk (ix3 ⟨x.val / 256, by omega⟩ ⟨k.val, by omega⟩ ⟨x.val % 256, by omega⟩)

/-- The scan's product of values. -/
def zVal (r : Fin n) (x : Fin 1024) : EReal :=
  ∑ k : Fin 256, y (ix2 r k) * pk (ix3 ⟨x.val / 256, by omega⟩ ⟨512 + k.val, by omega⟩ ⟨x.val % 256, by omega⟩)

/-- The scan's product of gates. -/
def zGate (r : Fin n) (x : Fin 1024) : EReal :=
  ∑ k : Fin 256, y (ix2 r k) * pk (ix3 ⟨x.val / 256, by omega⟩ ⟨768 + k.val, by omega⟩ ⟨x.val % 256, by omega⟩)

/-- The pool's gate, and the scan's. -/
def gPool (r : Fin n) (x : Fin 1024) : EReal := pj (ix2 r ⟨768 + x.val, by omega⟩)
def gSsm (r : Fin n) (x : Fin 1024) : EReal := pj (ix2 r ⟨1792 + x.val, by omega⟩)

/-- The merged rows. -/
def merged (r : Fin n) (x : Fin 1024) : EReal :=
  sg (gPool pj r x) * zPool ms pk r x + sg (gSsm pj r x) * (zVal y pk r x * sg (zGate y pk r x))

/-- The gradients at the pool's gate, the scan's gate, and the three products. -/
def dGPool (r : Fin n) (x : Fin 1024) : EReal :=
  dm (ix2 r x) * zPool ms pk r x * sg (gPool pj r x) * cg (gPool pj r x)
def dGSsm (r : Fin n) (x : Fin 1024) : EReal :=
  dm (ix2 r x) * zVal y pk r x * sg (zGate y pk r x) * sg (gSsm pj r x) * cg (gSsm pj r x)
def dZPool (r : Fin n) (x : Fin 1024) : EReal := dm (ix2 r x) * sg (gPool pj r x)
def dZVal (r : Fin n) (x : Fin 1024) : EReal := dm (ix2 r x) * sg (gSsm pj r x) * sg (zGate y pk r x)
def dZGate (r : Fin n) (x : Fin 1024) : EReal :=
  dm (ix2 r x) * sg (gSsm pj r x) * zVal y pk r x * sg (zGate y pk r x) * cg (zGate y pk r x)

section Packed

variable (wp : (⟨2, ![512, 1024]⟩ : Shape).Idx → EReal) (wv wg : (⟨2, ![256, 1024]⟩ : Shape).Idx → EReal) (r : Fin n) (x : Fin 1024)

/-- The products with packed weights are the products with the weights. -/
theorem zPool_packed : zPool ms (packed wp wv wg) r x = ∑ k : Fin 512, ms (ix2 r k) * wp (ix2 k x) := by
  refine Finset.sum_congr rfl fun k _ => congrArg _ ?_
  show packedAt wp wv wg ⟨x.val / 256, by omega⟩ ⟨k.val, by omega⟩ ⟨x.val % 256, by omega⟩ = _
  unfold packedAt
  rw [dif_pos (show k.val < 512 from k.isLt)]
  exact congrArg (fun z => wp (ix2 k z)) (Fin.ext (Nat.div_add_mod' _ _))

theorem zVal_packed : zVal y (packed wp wv wg) r x = ∑ k : Fin 256, y (ix2 r k) * wv (ix2 k x) := by
  refine Finset.sum_congr rfl fun k _ => congrArg _ ?_
  show packedAt wp wv wg ⟨x.val / 256, by omega⟩ ⟨512 + k.val, by omega⟩ ⟨x.val % 256, by omega⟩ = _
  unfold packedAt
  rw [dif_neg (show ¬ 512 + k.val < 512 by omega), dif_pos (show 512 + k.val < 768 by omega)]
  exact congrArg₂ (fun j z => wv (ix2 j z)) (Fin.ext (Nat.add_sub_cancel_left _ _)) (Fin.ext (Nat.div_add_mod' _ _))

theorem zGate_packed : zGate y (packed wp wv wg) r x = ∑ k : Fin 256, y (ix2 r k) * wg (ix2 k x) := by
  refine Finset.sum_congr rfl fun k _ => congrArg _ ?_
  show packedAt wp wv wg ⟨x.val / 256, by omega⟩ ⟨768 + k.val, by omega⟩ ⟨x.val % 256, by omega⟩ = _
  unfold packedAt
  rw [dif_neg (show ¬ 768 + k.val < 512 by omega), dif_neg (show ¬ 768 + k.val < 768 by omega)]
  exact congrArg₂ (fun j z => wg (ix2 j z)) (Fin.ext (Nat.add_sub_cancel_left _ _)) (Fin.ext (Nat.div_add_mod' _ _))

end Packed

end Arrays

/-- The logistic function of the host. -/
theorem sg_eq (z : EReal) : Ideal.div (Ideal.ofBits .f32 0x3F800000#32) (Ideal.ofBits .f32 0x3F800000#32 + Ideal.exp (-z)) = sg z := by
  unfold sg
  rw [show Ideal.ofBits .f32 0x00000000#32 = 0 by simp [Ideal.ofBits, Ideal.ieee], zero_sub]

end Cert.Step
end
-- ==== Proof.Step.MergeBwd.lean ====
module
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Step.Gate
public import proofs.«01_k».proof.Defs
public import Idealize.ShloMosaic.Lib.Pipeline.ValueKit
public import Idealize.ShloMosaic.Lib.Pipeline.ReadBack
public import Idealize.ShloMosaic.Lib.StableHlo.ReadAt
@[expose] public section
set_option maxRecDepth 16384
open Idealize.ShloMosaic Idealize.ShloMosaic.TcCoe Idealize.SL.Sem
noncomputable section

/-! The gradient of the gated merge at its two gates and its three products. -/

namespace Cert.Step.MergeBwd

open Cert.MergeBwdIdeal Cert.MergeBwdIdeal.Gen

section Kernel

variable (m : (ℓ : Loc nD τ sig) → Buf (Elt Ideal) ℓ)

/-- The block indices at a point: the row blocks move with the point, the weights stay. -/
theorem idx : ∀ t : Fin cfg0.N, win0_0.index t = ![t.val, 0] ∧ win0_1.index t = ![t.val, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The packed weights. -/
def pk (c : Dev nD) : FVec Ideal S4x1024x256 .bf16 :=
  packed (m ((c : Thread nD τ).loc main_arg2)) (m ((c : Thread nD τ).loc main_arg3)) (m ((c : Thread nD τ).loc main_arg4))

/-- The host's lines pack the weights. -/
theorem V_pk (c : Dev nD) : V m c main_v7 = pk m c := by
  funext i
  idx_vars i
  unfold V pk packed packedAt
  after_reads_at
  by_cases h1 : i1.val < 512
  · simp only [dif_pos h1]
    after_reads_at
  by_cases h2 : i1.val - 512 < 256
  · simp only [dif_neg h1, dif_pos h2]
    after_reads_at
    simp only [dif_neg h1, dif_pos (show i1.val < 768 by omega)]
  · simp only [dif_neg h1, dif_neg h2]
    after_reads_at
    simp only [dif_neg h1, dif_neg (show ¬ i1.val < 768 by omega), show i1.val - 512 - 256 = i1.val - 768 by omega]

section Point

variable (ms : FVec Ideal S512x512 .bf16) (y : FVec Ideal S512x256 .bf16) (w : FVec Ideal S4x1024x256 .bf16)
  (pj : FVec Ideal S512x2816 .f32) (dm : FVec Ideal S512x1024 .bf16) (i : S512x1024.Idx)

/-- What a point stores into the five blocks. -/
theorem points :
    (out0_5 (F := Ideal) ms y w pj dm : S512x1024.Idx → EReal) i = dGPool (n := 512) ms w pj dm (i 0) (i 1)
    ∧ (out0_6 (F := Ideal) ms y w pj dm : S512x1024.Idx → EReal) i = dGSsm (n := 512) y w pj dm (i 0) (i 1)
    ∧ (out0_7 (F := Ideal) ms y w pj dm : S512x1024.Idx → EReal) i = dZPool (n := 512) pj dm (i 0) (i 1)
    ∧ (out0_8 (F := Ideal) ms y w pj dm : S512x1024.Idx → EReal) i = dZVal (n := 512) y w pj dm (i 0) (i 1)
    ∧ (out0_9 (F := Ideal) ms y w pj dm : S512x1024.Idx → EReal) i = dZGate (n := 512) y w pj dm (i 0) (i 1) := by
  refine ⟨?_, ?_, ?_, ?_, ?_⟩
  · unfold_out out0_5
    canon_tiles x h
    all_goals unfold_payloads; idx_vars i; pointwise [dGPool, zPool, gPool, sg, cg]; blk_point
  · unfold_out out0_6
    canon_tiles x h
    all_goals unfold_payloads; idx_vars i; pointwise [dGSsm, zVal, zGate, gSsm, sg, cg]; blk_point
  · unfold_out out0_7
    canon_tiles x h
    all_goals unfold_payloads; idx_vars i; pointwise [dZPool, gPool, sg]; blk_point
  · unfold_out out0_8
    canon_tiles x h
    all_goals unfold_payloads; idx_vars i; pointwise [dZVal, zGate, gSsm, sg]; blk_point
  · unfold_out out0_9
    canon_tiles x h
    all_goals unfold_payloads; idx_vars i; pointwise [dZGate, zVal, zGate, gSsm, sg, cg]; blk_point

end Point

/-- A point's row in the arrays. -/
abbrev row (t : Fin cfg0.N) (x : Fin 512) : Fin 4096 := ⟨t.val * 512 + x.val, by have := t.isLt; change t.val < 8 at this; omega⟩

/-- The row blocks' entries and the weights, at a point. -/
theorem blk_ms (c : Dev nD) (t : Fin cfg0.N) (x : Fin 512) (k : Fin 512) :
    iblk m c 0 t (ix2 x k) = m ((c : Thread nD τ).loc main_arg0) (ix2 (row t x) k) := by
  blk_point [iblk, V, idx t]

theorem blk_y (c : Dev nD) (t : Fin cfg0.N) (x : Fin 512) (k : Fin 256) :
    iblk m c 1 t (ix2 x k) = m ((c : Thread nD τ).loc main_arg1) (ix2 (row t x) k) := by
  blk_point [iblk, V, idx t]

theorem blk_w (c : Dev nD) (t : Fin cfg0.N) : iblk m c 2 t = pk m c := by
  rw [← V_pk]
  funext i
  blk_point [iblk, idx t]

theorem blk_pj (c : Dev nD) (t : Fin cfg0.N) (x : Fin 512) (k : Fin 2816) :
    iblk m c 3 t (ix2 x k) = m ((c : Thread nD τ).loc main_arg5) (ix2 (row t x) k) := by
  blk_point [iblk, V, idx t]

theorem blk_dm (c : Dev nD) (t : Fin cfg0.N) (x : Fin 512) (k : Fin 1024) :
    iblk m c 4 t (ix2 x k) = m ((c : Thread nD τ).loc main_arg6) (ix2 (row t x) k) := by
  blk_point [iblk, V, idx t]

/-- A result array from its function of row and column. -/
abbrev arr (f : Fin 4096 → Fin 1024 → EReal) : S4096x1024.Idx → EReal := fun i => f (i 0) (i 1)

abbrev msA (c : Dev nD) : FVec Ideal S4096x512 .bf16 := m ((c : Thread nD τ).loc main_arg0)
abbrev yA (c : Dev nD) : FVec Ideal S4096x256 .bf16 := m ((c : Thread nD τ).loc main_arg1)
abbrev pjA (c : Dev nD) : FVec Ideal S4096x2816 .f32 := m ((c : Thread nD τ).loc main_arg5)
abbrev dmA (c : Dev nD) : FVec Ideal S4096x1024 .bf16 := m ((c : Thread nD τ).loc main_arg6)

/-- A block's entry stands in the array at the point's row. -/
theorem emb (t : Fin cfg0.N) (f : S4096x1024.Idx → EReal) (x : Fin 512) (k : Fin 1024) :
    f (((cfg0.win 5).blk t).view.emb (ix2 x k)) = f (ix2 (row t x) k)
    ∧ f (((cfg0.win 6).blk t).view.emb (ix2 x k)) = f (ix2 (row t x) k)
    ∧ f (((cfg0.win 7).blk t).view.emb (ix2 x k)) = f (ix2 (row t x) k)
    ∧ f (((cfg0.win 8).blk t).view.emb (ix2 x k)) = f (ix2 (row t x) k)
    ∧ f (((cfg0.win 9).blk t).view.emb (ix2 x k)) = f (ix2 (row t x) k) := by
  refine ⟨?_, ?_, ?_, ?_, ?_⟩ <;> blk_point [idx t]

/-- The pool's gate's gradient after the run. -/
theorem final5 (c : Dev nD) : (dats m 0 c).arrAt 5 cfg0.N = arr (dGPool (msA m c) (pk m c) (pjA m c) (dmA m c)) := by
  refine (dats m 0 c).arrAt_eq_of_covers 5 _ (by decide +kernel) fun t _ y => ?_
  blk_simp
  rw [after0_5, (points _ _ _ _ _ _).1, blk_w]
  idx_vars y
  refine Eq.trans ?_ ((emb t _ y0 y1).1).symm
  unfold dGPool zPool gPool
  simp only [blk_ms, blk_pj, blk_dm]
  rfl

/-- The scan's gate's gradient after the run. -/
theorem final6 (c : Dev nD) : (dats m 0 c).arrAt 6 cfg0.N = arr (dGSsm (yA m c) (pk m c) (pjA m c) (dmA m c)) := by
  refine (dats m 0 c).arrAt_eq_of_covers 6 _ (by decide +kernel) fun t _ y => ?_
  blk_simp
  rw [after0_6, (points _ _ _ _ _ _).2.1, blk_w]
  idx_vars y
  refine Eq.trans ?_ ((emb t _ y0 y1).2.1).symm
  unfold dGSsm zVal zGate gSsm
  simp only [blk_y, blk_pj, blk_dm]
  rfl

/-- The pool's product's gradient after the run. -/
theorem final7 (c : Dev nD) : (dats m 0 c).arrAt 7 cfg0.N = arr (dZPool (pjA m c) (dmA m c)) := by
  refine (dats m 0 c).arrAt_eq_of_covers 7 _ (by decide +kernel) fun t _ y => ?_
  blk_simp
  rw [after0_7, (points _ _ _ _ _ _).2.2.1]
  idx_vars y
  refine Eq.trans ?_ ((emb t _ y0 y1).2.2.1).symm
  unfold dZPool gPool
  simp only [blk_pj, blk_dm]
  rfl

/-- The values' gradient after the run. -/
theorem final8 (c : Dev nD) : (dats m 0 c).arrAt 8 cfg0.N = arr (dZVal (yA m c) (pk m c) (pjA m c) (dmA m c)) := by
  refine (dats m 0 c).arrAt_eq_of_covers 8 _ (by decide +kernel) fun t _ y => ?_
  blk_simp
  rw [after0_8, (points _ _ _ _ _ _).2.2.2.1, blk_w]
  idx_vars y
  refine Eq.trans ?_ ((emb t _ y0 y1).2.2.2.1).symm
  unfold dZVal zGate gSsm
  simp only [blk_y, blk_pj, blk_dm]
  rfl

/-- The gates' gradient after the run. -/
theorem final9 (c : Dev nD) : (dats m 0 c).arrAt 9 cfg0.N = arr (dZGate (yA m c) (pk m c) (pjA m c) (dmA m c)) := by
  refine (dats m 0 c).arrAt_eq_of_covers 9 _ (by decide +kernel) fun t _ y => ?_
  blk_simp
  rw [after0_9, (points _ _ _ _ _ _).2.2.2.2, blk_w]
  idx_vars y
  refine Eq.trans ?_ ((emb t _ y0 y1).2.2.2.2).symm
  unfold dZGate zVal zGate gSsm
  simp only [blk_y, blk_pj, blk_dm]
  rfl

end Kernel

/-! ## The derivative of the forward lines -/

section Reference

open Cert.MergeBwdRefIdeal.Read

variable (ms : FVec Ideal S4096x512 .bf16) (y : FVec Ideal S4096x256 .bf16) (wp : FVec Ideal S512x1024 .f32)
  (wv wg : FVec Ideal S256x1024 .f32) (pj : FVec Ideal S4096x2816 .f32) (dm : FVec Ideal S4096x1024 .bf16)
  (r : Fin 4096) (x : Fin 1024)

/-- The reference's logistic functions, and one less them. -/
theorem ref_v12 : val_main_v12 (F := Ideal) pj (ix2 r x) = sg (gPool pj r x) := by
  rw [← sg_eq]
  simp only [val_main_v12, val_main_v11, val_main_v10, val_main_v9, val_main_v8, val_main_v7, val_main_v2]
  pointwise [val_main_cst, val_main_cst_0, gPool]

theorem ref_v22 : val_main_v22 (F := Ideal) pj (ix2 r x) = sg (gSsm pj r x) := by
  rw [← sg_eq]
  simp only [val_main_v22, val_main_v21, val_main_v20, val_main_v19, val_main_v18, val_main_v17, val_main_v3]
  pointwise [val_main_cst_2, val_main_cst_3, gSsm]

theorem ref_v6 : val_main_v6 (F := Ideal) y wg (ix2 r x) = zGate y (packed wp wv wg) r x := by
  rw [zGate_packed]
  simp only [val_main_v6, val_main_v1]
  pointwise

theorem ref_v31 : val_main_v31 (F := Ideal) y wg (ix2 r x) = sg (zGate y (packed wp wv wg) r x) := by
  rw [← sg_eq, ← ref_v6]
  simp only [val_main_v31, val_main_v30, val_main_v29, val_main_v28, val_main_v27, val_main_v26]
  pointwise [val_main_cst_5, val_main_cst_6]

/-- The five results of the reference. -/
theorem ref_results :
    (val_main_v48 (F := Ideal) ms wp pj dm : S4096x1024.Idx → EReal) (ix2 r x) = dGPool ms (packed wp wv wg) pj dm r x
    ∧ (val_main_v49 (F := Ideal) y wv wg pj dm : S4096x1024.Idx → EReal) (ix2 r x) = dGSsm y (packed wp wv wg) pj dm r x
    ∧ (val_main_v50 (F := Ideal) pj dm : S4096x1024.Idx → EReal) (ix2 r x) = dZPool pj dm r x
    ∧ (val_main_v51 (F := Ideal) y wg pj dm : S4096x1024.Idx → EReal) (ix2 r x) = dZVal y (packed wp wv wg) pj dm r x
    ∧ (val_main_v52 (F := Ideal) y wv wg pj dm : S4096x1024.Idx → EReal) (ix2 r x) = dZGate y (packed wp wv wg) pj dm r x := by
  have e12 := ref_v12 pj
  have e22 := ref_v22 pj
  have e31 := ref_v31 y wp wv wg
  refine ⟨?_, ?_, ?_, ?_, ?_⟩
  · unfold dGPool cg
    rw [zPool_packed]
    simp only [val_main_v48, val_main_v47, val_main_v46, val_main_v15, val_main_v14, val_main_v13, val_main_v4, val_main_v38, val_main_v0]
    pointwise [val_main_cst_1]
    simp only [e12]
    simp only [mul_assoc]
  · unfold dGSsm cg
    rw [zVal_packed]
    simp only [val_main_v49, val_main_v44, val_main_v40, val_main_v35, val_main_v25, val_main_v24, val_main_v23, val_main_v5, val_main_v38, val_main_v1]
    pointwise [val_main_cst_4]
    simp only [e22, e31]
    simp only [mul_assoc]
  · unfold dZPool
    simp only [val_main_v50, val_main_v45, val_main_v38]
    pointwise
    simp only [e12]
    exact mul_comm _ _
  · unfold dZVal
    simp only [val_main_v51, val_main_v42, val_main_v39, val_main_v38]
    pointwise
    simp only [e22, e31]
    rw [mul_comm (sg (gSsm pj r x))]
  · unfold dZGate cg
    rw [zVal_packed]
    simp only [val_main_v52, val_main_v43, val_main_v41, val_main_v34, val_main_v33, val_main_v32, val_main_v39, val_main_v5, val_main_v38, val_main_v1]
    pointwise [val_main_cst_7]
    simp only [e22, e31]
    simp only [mul_assoc, mul_comm, mul_left_comm]

end Reference

/-! ## The claim -/

/-- Kernel and derivative leave the same five results. -/
theorem algebraic : Cert.algebraic_MergeBwdIdeal_MergeBwdRefIdeal := by
  intro m ρ m' ρ' _ hag
  refine ⟨_, _, _, _, _, Value.run_blocks m ρ, (θ_run _ _ _).mono (fun r h c => ?_) (Cert.MergeBwdRefIdeal.Value.run m' ρ')⟩
  obtain ⟨h1, h2, h3, h4, h5, hk⟩ := h c
  obtain ⟨a0, a1, a2, a3, a4, a5, a6⟩ := hag c
  have e := fun i : S4096x1024.Idx => ref_results (msA m c) (yA m c) (m ((c : Thread nD τ).loc main_arg2))
    (m ((c : Thread nD τ).loc main_arg3)) (m ((c : Thread nD τ).loc main_arg4)) (pjA m c) (dmA m c) (i 0) (i 1)
  refine ⟨h1.trans ?_, h2.trans ?_, h3.trans ?_, h4.trans ?_, h5.trans ?_, hk⟩
  · rw [final5, pk]
    refine (Cert.MergeBwdRefIdeal.Read.val_main_v48_eq _ _ _ _).trans ?_
    rw [a0, a2, a5, a6]
    funext i
    idx_vars i
    exact (e (ix2 i0 i1)).1
  · rw [final6, pk]
    refine (Cert.MergeBwdRefIdeal.Read.val_main_v49_eq _ _ _ _ _).trans ?_
    rw [a1, a3, a4, a5, a6]
    funext i
    idx_vars i
    exact (e (ix2 i0 i1)).2.1
  · rw [final7]
    refine (Cert.MergeBwdRefIdeal.Read.val_main_v50_eq _ _).trans ?_
    rw [a5, a6]
    funext i
    idx_vars i
    exact (e (ix2 i0 i1)).2.2.1
  · rw [final8, pk]
    refine (Cert.MergeBwdRefIdeal.Read.val_main_v51_eq _ _ _ _).trans ?_
    rw [a1, a4, a5, a6]
    funext i
    idx_vars i
    exact (e (ix2 i0 i1)).2.2.2.1
  · rw [final9, pk]
    refine (Cert.MergeBwdRefIdeal.Read.val_main_v52_eq _ _ _ _ _).trans ?_
    rw [a1, a3, a4, a5, a6]
    funext i
    idx_vars i
    exact (e (ix2 i0 i1)).2.2.2.2

end Cert.Step.MergeBwd
end
-- ==== Proof.Step.Swiglu.lean ====
module
public import proofs.«01_k».proof.Proof.Step.Gate
public import proofs.«01_k».proof.Proof.Step.Attn
@[expose] public section
open Idealize.ShloMosaic
noncomputable section

/-! The gated activation `a = silu(g) · up`, its two saved factors and its gradient. -/

namespace Cert.Step

section Arrays

variable {n : ℕ} (u : (⟨2, ![n, 1024]⟩ : Shape).Idx → EReal) (wg wu : (⟨2, ![2816, 1024]⟩ : Shape).Idx → EReal)

/-- A product with the rows of a weight. -/
def rowMul (w : (⟨2, ![2816, 1024]⟩ : Shape).Idx → EReal) (r : Fin n) (x : Fin 2816) : EReal := ∑ k : Fin 1024, u (ix2 r k) * w (ix2 x k)

/-- The saved factor of the gate's gradient: half the derivative of `silu` times the up product. -/
def pgAt (g up : EReal) : EReal :=
  Ideal.ofBits .f32 0x3F000000#32 * sg g * (Ideal.ofBits .f32 0x3F800000#32 + g * cg g) * up

/-- The saved factor of the up product's gradient: half `silu`. -/
def puAt (g : EReal) : EReal := Ideal.ofBits .f32 0x3F000000#32 * (g * sg g)

end Arrays

/-- The logistic function is a real everywhere. -/
theorem sg_real (z : EReal) : ∃ r : ℝ, sg z = r := by
  have h : ∀ z : EReal, ∃ r : ℝ, sg z = r := by
    intro z
    unfold sg
    rw [show Ideal.ofBits .f32 0x00000000#32 = 0 by simp [Ideal.ofBits, Ideal.ieee], zero_sub, ofBits_one]
    induction z with
    | bot =>
      refine ⟨0, ?_⟩
      show Ideal.div _ (((1 : ℝ) : EReal) + ⊤) = _
      rw [EReal.coe_add_top]
      unfold Ideal.div
      rw [if_neg (by simp), EReal.inv_top, mul_zero]
      rfl
    | top =>
      refine ⟨1, ?_⟩
      show Ideal.div _ (((1 : ℝ) : EReal) + 0) = _
      rw [add_zero, div_coe 1 one_ne_zero, div_one]
    | coe x =>
      refine ⟨1 / (1 + Real.exp (-x)), ?_⟩
      rw [← div_coe 1 (by positivity)]
      rfl
  exact h z

/-- The logistic function at the two infinities. -/
theorem sg_top : sg ⊤ = ((1 : ℝ) : EReal) := by
  unfold sg
  rw [show Ideal.ofBits .f32 0x00000000#32 = 0 by simp [Ideal.ofBits, Ideal.ieee], zero_sub, ofBits_one]
  show Ideal.div _ (((1 : ℝ) : EReal) + 0) = _
  rw [add_zero, div_coe 1 one_ne_zero, div_one]

theorem sg_bot : sg ⊥ = 0 := by
  unfold sg
  rw [show Ideal.ofBits .f32 0x00000000#32 = 0 by simp [Ideal.ofBits, Ideal.ieee], zero_sub, ofBits_one]
  show Ideal.div _ (((1 : ℝ) : EReal) + ⊤) = _
  rw [EReal.coe_add_top]
  unfold Ideal.div
  rw [if_neg (by simp), EReal.inv_top, mul_zero]

/-- The gate's gradient, as a product with the saved factor and as the derivative writes it. -/
theorem dgate_eq (d p : ℝ) (g : EReal) :
    ((d : ℝ) : EReal) * pgAt g (p : ℝ)
      = ((((1 / 2 * d : ℝ) : EReal)) * (p : ℝ)) * sg g + (g * ((((1 / 2 * d : ℝ) : EReal)) * (p : ℝ))) * (sg g * cg g) := by
  have h : ∀ g : EReal, ((d : ℝ) : EReal) * pgAt g (p : ℝ)
      = ((((1 / 2 * d : ℝ) : EReal)) * (p : ℝ)) * sg g + (g * ((((1 / 2 * d : ℝ) : EReal)) * (p : ℝ))) * (sg g * cg g) := by
    intro g
    induction g with
    | bot =>
      unfold pgAt cg
      rw [sg_bot]
      simp
    | top =>
      unfold pgAt cg
      rw [sg_top, ofBits_half, ofBits_one, ← EReal.coe_sub, sub_self, EReal.coe_zero, mul_zero, mul_zero, mul_zero, add_zero, add_zero]
      simp only [← EReal.coe_mul]
      refine congrArg _ ?_
      ring
    | coe x =>
      obtain ⟨s, hs⟩ := sg_real (x : EReal)
      unfold pgAt cg
      rw [hs, ofBits_half, ofBits_one]
      simp only [← EReal.coe_mul, ← EReal.coe_add, ← EReal.coe_sub]
      refine congrArg _ ?_
      ring
  exact h g

end Cert.Step
end
-- ==== Proof.Step.BwdAct.lean ====
module
public import proofs.«01_k».proof.Proof.Gen.BwdActIdeal.Frame
public import proofs.«01_k».proof.Proof.Gen.BwdActRefIdeal.Run
public import proofs.«01_k».proof.Proof.Gen.BwdActRefIdeal.Read
public import proofs.«01_k».proof.Proof.Gen.Pre_bwd_act_finite
public import proofs.«01_k».proof.Proof.Step.Swiglu
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
noncomputable section

/-! The gradient of the gated activation: the forward call saves two factors, the backward call multiplies them by the
cotangent through the down product. -/

namespace Cert.Step.BwdAct

section Run

open Cert.BwdActIdeal Cert.BwdActIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution ends with the memory that the two calls' write-backs leave. -/
theorem run_mem : θ_run defs (onTc (τ := τ) (main (F := F))) ⟨m, fun _ => 0, ρ⟩ (fun r => ∀ c : Dev nD, ∀ b ∈ Pipeline.ucRefs τ sig,
    r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The same at the two results and the arguments. -/
theorem run : θ_run defs (onTc (τ := τ) (main (F := F))) ⟨m, fun _ => 0, ρ⟩ (fun r => ∀ c : Dev nD,
      r.2.mem ((c.tc : Thread nD τ).loc main_v6_0) = (dat1 (V2 m ρ) c).arrAt 4 cfg1.N
      ∧ r.2.mem ((c.tc : Thread nD τ).loc main_v6_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
    ⟨(h c _ (mem_uc main_v6_0 (by decide))).trans (W3_arr m ρ c 4),
     (h c _ (mem_uc main_v6_1 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_mem m ρ)

end Run

section Point

open Cert.BwdActIdeal Cert.BwdActIdeal.Gen

variable (u : FVec Ideal S512x1024 .bf16) (wg wu : FVec Ideal S2816x1024 .bf16) (pg pu : FVec Ideal S512x2816 .bf16)

theorem point3 (i : S512x2816.Idx) : (out0_3 (F := Ideal) u wg wu : S512x2816.Idx → EReal) i
    = pgAt (rowMul (n := 512) u wg (i 0) (i 1)) (rowMul (n := 512) u wu (i 0) (i 1)) := by
  unfold_out out0_3
  canon_tiles x h
  all_goals
    unfold_payloads
    idx_vars i
    pointwise [pgAt, rowMul, sg, cg]
    blk_point

theorem point4 (i : S512x2816.Idx) : (out0_4 (F := Ideal) u wg wu : S512x2816.Idx → EReal) i
    = puAt (rowMul (n := 512) u wg (i 0) (i 1)) := by
  unfold_out out0_4
  canon_tiles x h
  all_goals
    unfold_payloads
    idx_vars i
    pointwise [puAt, rowMul, sg]
    blk_point

theorem pointG (i : S512x2816.Idx) : (out1_4 (F := Ideal) u wg pg pu : S512x2816.Idx → EReal) i
    = rowMul (n := 512) u wg (i 0) (i 1) * pg i := by
  unfold out1_4
  canon_tiles x h
  all_goals
    unfold_payloads
    idx_vars i
    pointwise [rowMul]
    blk_point

theorem pointU (i : S512x2816.Idx) : (out1_5 (F := Ideal) u wg pg pu : S512x2816.Idx → EReal) i
    = rowMul (n := 512) u wg (i 0) (i 1) * pu i := by
  unfold out1_5
  canon_tiles x h
  all_goals
    unfold_payloads
    idx_vars i
    pointwise [rowMul]
    blk_point

end Point

section Kernel

open Cert.BwdActIdeal Cert.BwdActIdeal.Gen

/-- The block indices at a point of the forward call, and of the backward call. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] :=
  (by decide +kernel : ∀ t : Fin grid1.N, _)

section Regions

variable (V : (c : Dev nD) → (b : Ref sig .tc) → Buf (Elt Ideal) ((c : Thread nD τ).loc b))

/-- The forward call's saved factors, from the contents it finds. -/
theorem arr3 (c : Dev nD) : (dat0 V c).arrAt 3 cfg0.N = (fun i : S4096x2816.Idx =>
    pgAt (rowMul (n := 4096) (V c main_arg0) (V c main_v1) (i 0) (i 1)) (rowMul (n := 4096) (V c main_arg0) (V c main_v3) (i 0) (i 1)) : S4096x2816.Idx → EReal) := by
  refine (dat0 V c).arrAt_eq_of_covers 3 _ (by decide +kernel) fun t _ y => ?_
  blk_simp
  rw [after0_3, point3]
  idx_vars y
  unfold rowMul
  blk_point [iblk0, idx0 t]

theorem arr4 (c : Dev nD) : (dat0 V c).arrAt 4 cfg0.N = (fun i : S4096x2816.Idx =>
    puAt (rowMul (n := 4096) (V c main_arg0) (V c main_v1) (i 0) (i 1)) : S4096x2816.Idx → EReal) := by
  refine (dat0 V c).arrAt_eq_of_covers 4 _ (by decide +kernel) fun t _ y => ?_
  blk_simp
  rw [after0_4, point4]
  idx_vars y
  unfold rowMul
  blk_point [iblk0, idx0 t]

/-- The backward call's results, from the contents it finds. -/
theorem arrG (c : Dev nD) : (dat1 V c).arrAt 4 cfg1.N = (fun i : S4096x2816.Idx =>
    rowMul (n := 4096) (V c main_arg4) (V c main_v4) (i 0) (i 1) * (show S4096x2816.Idx → EReal from V c main_v5_0) i : S4096x2816.Idx → EReal) := by
  refine (dat1 V c).arrAt_eq_of_covers 4 _ (by decide +kernel) fun t _ y => ?_
  blk_simp
  rw [after1_4, pointG]
  idx_vars y
  unfold rowMul
  blk_point [iblk1, idx1 t]

theorem arrU (c : Dev nD) : (dat1 V c).arrAt 5 cfg1.N = (fun i : S4096x2816.Idx =>
    rowMul (n := 4096) (V c main_arg4) (V c main_v4) (i 0) (i 1) * (show S4096x2816.Idx → EReal from V c main_v5_1) i : S4096x2816.Idx → EReal) := by
  refine (dat1 V c).arrAt_eq_of_covers 5 _ (by decide +kernel) fun t _ y => ?_
  blk_simp
  rw [after1_5, pointU]
  idx_vars y
  unfold rowMul
  blk_point [iblk1, idx1 t]

end Regions

variable (m : (ℓ : Loc nD τ sig) → Buf (Elt Ideal) ℓ) (ρ : Dev nD → PrngReg)

/-- The transposed weights that the host prepares. -/
def gateT (c : Dev nD) : S2816x1024.Idx → EReal := fun i => (m ((c : Thread nD τ).loc main_arg1) : S1024x2816.Idx → EReal) (ix2 (i 1) (i 0))
def upT (c : Dev nD) : S2816x1024.Idx → EReal := fun i => (m ((c : Thread nD τ).loc main_arg2) : S1024x2816.Idx → EReal) (ix2 (i 1) (i 0))

theorem V1_gate (c : Dev nD) : V1 m ρ c main_v1 = gateT m c := by
  funext i
  idx_vars i
  unfold gateT
  after_reads_at

theorem V1_up (c : Dev nD) : V1 m ρ c main_v3 = upT m c := by
  funext i
  idx_vars i
  unfold upT
  after_reads_at

theorem V1_arg0 (c : Dev nD) : V1 m ρ c main_arg0 = m ((c : Thread nD τ).loc main_arg0) := W1_args m ρ c main_arg0 (by decide)

theorem V2_arg4 (c : Dev nD) : V2 m ρ c main_arg4 = m ((c : Thread nD τ).loc main_arg4) := W2_args m ρ c main_arg4 (by decide)

theorem V2_down (c : Dev nD) : V2 m ρ c main_v4 = (m ((c : Thread nD τ).loc main_arg3) : S2816x1024.Idx → EReal) := by
  refine (W2_of m ρ c main_v4 (by decide)).trans ?_
  funext i
  idx_vars i
  after_reads_at

/-- The cotangent through the down product, the gate's product and the up product, at an index. -/
def dA (c : Dev nD) (i : S4096x2816.Idx) : EReal :=
  rowMul (n := 4096) (m ((c : Thread nD τ).loc main_arg4)) (m ((c : Thread nD τ).loc main_arg3)) (i 0) (i 1)
def gA (c : Dev nD) (i : S4096x2816.Idx) : EReal := rowMul (n := 4096) (m ((c : Thread nD τ).loc main_arg0)) (gateT m c) (i 0) (i 1)
def uA (c : Dev nD) (i : S4096x2816.Idx) : EReal := rowMul (n := 4096) (m ((c : Thread nD τ).loc main_arg0)) (upT m c) (i 0) (i 1)

theorem finalG (c : Dev nD) : (dat1 (V2 m ρ) c).arrAt 4 cfg1.N = (fun i => dA m c i * pgAt (gA m c i) (uA m c i) : S4096x2816.Idx → EReal) := by
  rw [arrG, V2_arg4, V2_down, show V2 m ρ c main_v5_0 = _ from W2_arr m ρ c 3, arr3, V1_arg0, V1_gate, V1_up]
  rfl

theorem finalU (c : Dev nD) : (dat1 (V2 m ρ) c).arrAt 5 cfg1.N = (fun i => dA m c i * puAt (gA m c i) : S4096x2816.Idx → EReal) := by
  rw [arrU, V2_arg4, V2_down, show V2 m ρ c main_v5_1 = _ from W2_arr m ρ c 4, arr4, V1_arg0, V1_gate]
  rfl

end Kernel

/-! ## The derivative of the forward lines -/

section Reference

open Cert.BwdActRefIdeal Cert.BwdActRefIdeal.Read

variable (u : FVec Ideal S4096x1024 .bf16) (wg wu : FVec Ideal S1024x2816 .f32) (wd : FVec Ideal S2816x1024 .f32) (dh : FVec Ideal S4096x1024 .bf16)

/-- The two products of the forward lines. -/
def zG (i : S4096x2816.Idx) : EReal := ∑ k : Fin 1024, u (ix2 (i 0) k) * wg (ix2 k (i 1))

/-- The cotangent through the down product, of half the rows. -/
def zD (i : S4096x2816.Idx) : EReal := ∑ k : Fin 1024, (Ideal.ofBits .f32 0x3F000000#32 * dh (ix2 (i 0) k)) * wd (ix2 (i 1) k)

theorem ref_v1 (i : S4096x2816.Idx) : val_main_v1 (F := Ideal) u wg i = zG u wg i := by
  idx_vars i
  simp only [val_main_v1, val_main_v0]
  pointwise [zG]

theorem ref_v2 (i : S4096x2816.Idx) : val_main_v2 (F := Ideal) u wu i = zG u wu i := by
  idx_vars i
  simp only [val_main_v2, val_main_v0]
  pointwise [zG]

theorem ref_v11 (i : S4096x2816.Idx) : val_main_v11 (F := Ideal) wd dh i = zD wd dh i := by
  idx_vars i
  simp only [val_main_v11, val_main_v10, val_main_v9, val_main_v8]
  pointwise [zD, val_main_cst_0]

theorem ref_sg (i : S4096x2816.Idx) : val_main_v3_2 (F := Ideal) u wg i = sg (zG u wg i) := by
  rw [← sg_eq, ← ref_v1]
  idx_vars i
  simp only [val_main_v3_2, val_main_call0_v4, val_main_call0_v3, val_main_call0_v2, val_main_call0_v1, val_main_call0_v0]
  pointwise [val_main_call0_cst, val_main_call0_cst_0]

theorem ref_v16 (i : S4096x2816.Idx) : val_main_v16 (F := Ideal) u wg wd dh i = (zG u wg i * sg (zG u wg i)) * zD wd dh i := by
  rw [← ref_sg, ← ref_v1, ← ref_v11]
  rfl

theorem ref_v15 (i : S4096x2816.Idx) : val_main_v15 (F := Ideal) u wg wu wd dh i
    = (zD wd dh i * zG u wu i) * sg (zG u wg i) + (zG u wg i * (zD wd dh i * zG u wu i)) * (sg (zG u wg i) * cg (zG u wg i)) := by
  unfold cg
  rw [← ref_sg, ← ref_v1, ← ref_v11, ← ref_v2]
  rfl

end Reference

/-! ## The claim -/

section Claim

variable {u : FVec Ideal ⟨2, ![4096, 1024]⟩ .bf16} {wg wu : FVec Ideal ⟨2, ![1024, 2816]⟩ .f32}
  {wd : FVec Ideal ⟨2, ![2816, 1024]⟩ .f32} {dh : FVec Ideal ⟨2, ![4096, 1024]⟩ .bf16}

/-- Where the rows, two of the weights and the cotangent are finite, the up product is a real, and the cotangent's product
halves with its rows. -/
theorem real_of_pre (e : Cert.Pre_bwd_act_finite.fn (F := Ideal) u wg wu wd dh = fun _ => 1#1) (i : (⟨2, ![4096, 2816]⟩ : Shape).Idx) :
    (∃ p : ℝ, zG u wu i = p) ∧ ∃ d : ℝ, rowMul (n := 4096) dh wd (i 0) (i 1) = d ∧ zD wd dh i = ((1 / 2 * d : ℝ) : EReal) := by
  have e0 := congrFun e ix0
  unfold Cert.Pre_bwd_act_finite.fn at e0
  have e1 := andi_split e0
  have e2 := andi_split e1.1
  have e3 := andi_split e2.1
  have hu := real_of_all u _ _ _ _ _ e3.1
  have hwu := real_of_all wu _ _ _ _ _ e3.2
  have hwd := real_of_all wd _ _ _ _ _ e2.2
  have hdh := real_of_all dh _ _ _ _ _ e1.2
  refine ⟨real_sum fun k => real_mul (hu _) (hwu _), ?_⟩
  choose a ha using hdh
  choose b hb using hwd
  refine ⟨∑ k : Fin 1024, a (ix2 (i 0) k) * b (ix2 (i 1) k), ?_, ?_⟩
  · unfold rowMul
    rw [coe_sum]
    refine Finset.sum_congr rfl fun k _ => ?_
    rw [ha, hb, EReal.coe_mul]
  · unfold zD
    rw [Finset.mul_sum, coe_sum]
    refine Finset.sum_congr rfl fun k _ => ?_
    rw [ha, hb, ofBits_half, ← EReal.coe_mul, ← EReal.coe_mul, mul_assoc]

/-- Kernel and derivative leave the same two results. -/
theorem algebraic : Cert.algebraic_BwdActIdeal_BwdActRefIdeal_pre_bwd_act_finite := by
  intro m ρ m' ρ' hpre hag
  refine ⟨_, _, run m ρ, (θ_run _ _ _).mono (fun r h c => ?_) (Cert.BwdActRefIdeal.Value.run m' ρ')⟩
  obtain ⟨h1, h2, hk⟩ := h c
  obtain ⟨a0, a1, a2, a3, a4⟩ := hag c
  have e := real_of_pre (hpre c)
  refine ⟨h1.trans ?_, h2.trans ?_, hk⟩
  · rw [finalG]
    refine (Cert.BwdActRefIdeal.Read.val_main_v15_eq _ _ _ _ _).trans ?_
    rw [a0, a1, a2, a3, a4]
    funext i
    refine (ref_v15 _ _ _ _ _ i).trans ?_
    obtain ⟨⟨p, hp⟩, d, hd, hz⟩ := e i
    rw [hz, hp, ← dgate_eq]
    exact congrArg₂ (fun a b => a * pgAt _ b) hd.symm hp.symm
  · rw [finalU]
    refine (Cert.BwdActRefIdeal.Read.val_main_v16_eq _ _ _ _).trans ?_
    rw [a0, a1, a3, a4]
    funext i
    refine (ref_v16 _ _ _ _ i).trans ?_
    obtain ⟨-, d, hd, hz⟩ := e i
    rw [hz, EReal.coe_mul, ← hd, ← ofBits_half]
    have comm : ∀ a h d : EReal, a * (h * d) = d * (h * a) := fun a h d => by rw [mul_comm h d, mul_left_comm, mul_comm a h]
    exact comm _ _ _

end Claim

end Cert.Step.BwdAct
end
-- ==== Proof.Step.MixerDx.lean ====
module
public import proofs.«01_k».proof.Proof.Gen.MixerDxIdeal.Value
public import proofs.«01_k».proof.Proof.Gen.MixerDxRefIdeal.Value
public import proofs.«01_k».proof.Proof.Step.Gate
public import proofs.«01_k».proof.Proof.Step.Attn
public import proofs.«01_k».proof.Proof.Gen.Pre_mixer_dx_finite
public import proofs.«01_k».proof.Defs
public import Idealize.ShloMosaic.Lib.Pipeline.ValueKit
public import Idealize.ShloMosaic.Lib.Pipeline.ReadBack
public import Idealize.ShloMosaic.Lib.StableHlo.ReadAt
@[expose] public section
set_option maxRecDepth 16384
open Idealize.ShloMosaic Idealize.ShloMosaic.TcCoe Idealize.SL.Sem
noncomputable section

/-! The gradient through the mixer's three output products and the gelu. -/

namespace Cert.Step.MixerDx

/-- The two named decimals of the gelu. -/
def gk : EReal := ((8943 / 200000 : ℝ) : EReal)
def gk3 : EReal := ((26829 / 200000 : ℝ) : EReal)

/-- The gelu's hyperbolic tangent, and its derivative as the kernel writes it. -/
def th (y : EReal) : EReal := Ideal.tanh (Ideal.ofBits .f32 0x3F4C422A#32 * (y + gk * y * y * y))
def geluD (y : EReal) : EReal :=
  Ideal.ofBits .f32 0x3F000000#32 * (Ideal.ofBits .f32 0x3F800000#32 + th y)
    + Ideal.ofBits .f32 0x3F000000#32 * y * (Ideal.ofBits .f32 0x3F800000#32 - th y * th y) * Ideal.ofBits .f32 0x3F4C422A#32
      * (Ideal.ofBits .f32 0x3F800000#32 + gk3 * y * y)

theorem named_k : Named.named (F := Ideal) Cert.MixerDxIdeal.κ "gelu_k" (φ := .f32) 0x3D372713#32 = gk := by
  rfl
theorem named_3k : Named.named (F := Ideal) Cert.MixerDxIdeal.κ "gelu_3k" (φ := .f32) 0x3E095D4F#32 = gk3 := by
  rfl

section Arrays

variable {n : ℕ} (zp zv zg : (⟨2, ![n, 1024]⟩ : Shape).Idx → EReal) (pk : (⟨3, ![4, 1024, 256]⟩ : Shape).Idx → EReal)
  (y : (⟨2, ![n, 256]⟩ : Shape).Idx → EReal)

/-- The pool's rows: the product with the pool's weights, four column blocks one after another. -/
def dMs (r : Fin n) (k : Fin 512) : EReal :=
  ∑ s : Fin 4, ∑ j : Fin 256, zp (ix2 r ⟨s.val * 256 + j.val, by omega⟩) * pk (ix3 s ⟨k.val, by omega⟩ j)

/-- The activation's gradient: the products with the values' and the gates' weights. -/
def dAct (r : Fin n) (k : Fin 256) : EReal :=
  ∑ s : Fin 4, ((∑ j : Fin 256, zv (ix2 r ⟨s.val * 256 + j.val, by omega⟩) * pk (ix3 s ⟨512 + k.val, by omega⟩ j))
    + ∑ j : Fin 256, zg (ix2 r ⟨s.val * 256 + j.val, by omega⟩) * pk (ix3 s ⟨768 + k.val, by omega⟩ j))

/-- The products with packed weights are the products with the weights. -/
theorem dMs_packed (wp : (⟨2, ![512, 1024]⟩ : Shape).Idx → EReal) (wv wg : (⟨2, ![256, 1024]⟩ : Shape).Idx → EReal) (r : Fin n) (k : Fin 512) :
    dMs zp (packed wp wv wg) r k = ∑ x : Fin 1024, zp (ix2 r x) * wp (ix2 k x) := by
  refine Fin.sum_mul_add_congr fun s j hl => congrArg _ ?_
  show packedAt wp wv wg s ⟨k.val, by omega⟩ j = _
  unfold packedAt
  rw [dif_pos (show k.val < 512 from k.isLt)]

theorem dAct_packed (wp : (⟨2, ![512, 1024]⟩ : Shape).Idx → EReal) (wv wg : (⟨2, ![256, 1024]⟩ : Shape).Idx → EReal) (r : Fin n) (k : Fin 256) :
    dAct zv zg (packed wp wv wg) r k
      = (∑ x : Fin 1024, zv (ix2 r x) * wv (ix2 k x)) + ∑ x : Fin 1024, zg (ix2 r x) * wg (ix2 k x) := by
  unfold dAct
  rw [Finset.sum_add_distrib]
  refine congrArg₂ (· + ·) (Fin.sum_mul_add_congr fun s j hl => congrArg _ ?_) (Fin.sum_mul_add_congr fun s j hl => congrArg _ ?_)
  · show packedAt wp wv wg s ⟨512 + k.val, by omega⟩ j = _
    unfold packedAt
    rw [dif_neg (show ¬ 512 + k.val < 512 by omega), dif_pos (show 512 + k.val < 768 by omega)]
    exact congrArg (fun z => wv (ix2 z _)) (Fin.ext (Nat.add_sub_cancel_left _ _))
  · show packedAt wp wv wg s ⟨768 + k.val, by omega⟩ j = _
    unfold packedAt
    rw [dif_neg (show ¬ 768 + k.val < 512 by omega), dif_neg (show ¬ 768 + k.val < 768 by omega)]
    exact congrArg (fun z => wg (ix2 z _)) (Fin.ext (Nat.add_sub_cancel_left _ _))

/-- The scan's rows: through the gelu. -/
def dY (r : Fin n) (k : Fin 256) : EReal := dAct zv zg pk r k * geluD (y (ix2 r k))

end Arrays

section Point

open Cert.MixerDxIdeal Cert.MixerDxIdeal.Gen

variable (zp zv zg : FVec Ideal S512x1024 .bf16) (w : FVec Ideal S4x1024x256 .bf16) (y : FVec Ideal S512x256 .f32)

theorem point5 (i : S512x512.Idx) : (out0_5 (F := Ideal) zp zv zg w y : S512x512.Idx → EReal) i = dMs (n := 512) zp w (i 0) (i 1) := by
  unfold_out out0_5
  canon_tiles x h
  unfold_payloads
  idx_vars i
  unfold dMs
  simp only [Fin.sum_univ_four]
  pointwise
  blk_point

theorem point6 (i : S512x256.Idx) : (out0_6 (F := Ideal) zp zv zg w y : S512x256.Idx → EReal) i = dY (n := 512) zv zg w y (i 0) (i 1) := by
  unfold_out out0_6
  canon_tiles x h
  unfold_payloads
  idx_vars i
  unfold dY dAct geluD th
  simp only [Fin.sum_univ_four, ← named_k, ← named_3k]
  pointwise
  blk_point

theorem point7 (i : S512x256.Idx) : (out0_7 (F := Ideal) zp zv zg w y : S512x256.Idx → EReal) i = dY (n := 512) zv zg w y (i 0) (i 1) := by
  unfold_out out0_7
  canon_tiles x h
  unfold_payloads
  idx_vars i
  unfold dY dAct geluD th
  simp only [Fin.sum_univ_four, ← named_k, ← named_3k]
  pointwise
  blk_point

end Point

section Kernel

open Cert.MixerDxIdeal Cert.MixerDxIdeal.Gen

variable (m : (ℓ : Loc nD τ sig) → Buf (Elt Ideal) ℓ)

/-- The block indices at a point: the row blocks move with the point, the weights stay. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The packed weights. -/
def pk (c : Dev nD) : FVec Ideal S4x1024x256 .bf16 :=
  packed (m ((c : Thread nD τ).loc main_arg3)) (m ((c : Thread nD τ).loc main_arg4)) (m ((c : Thread nD τ).loc main_arg5))

/-- The host's lines pack the weights. -/
theorem V_pk (c : Dev nD) : V m c main_v7 = pk m c := by
  funext i
  idx_vars i
  unfold V pk packed packedAt
  after_reads_at
  by_cases h1 : i1.val < 512
  · simp only [dif_pos h1]
    after_reads_at
  by_cases h2 : i1.val - 512 < 256
  · simp only [dif_neg h1, dif_pos h2]
    after_reads_at
    simp only [dif_neg h1, dif_pos (show i1.val < 768 by omega)]
  · simp only [dif_neg h1, dif_neg h2]
    after_reads_at
    simp only [dif_neg h1, dif_neg (show ¬ i1.val < 768 by omega), show i1.val - 512 - 256 = i1.val - 768 by omega]

/-- A point's row in the arrays. -/
abbrev row (t : Fin cfg0.N) (x : Fin 512) : Fin 4096 := ⟨t.val * 512 + x.val, by have := t.isLt; change t.val < 8 at this; omega⟩

/-- The row blocks' entries and the weights, at a point. -/
theorem blk_zp (c : Dev nD) (t : Fin cfg0.N) (x : Fin 512) (k : Fin 1024) :
    iblk m c 0 t (ix2 x k) = m ((c : Thread nD τ).loc main_arg0) (ix2 (row t x) k) := by
  blk_point [iblk, V, idx t]

theorem blk_zv (c : Dev nD) (t : Fin cfg0.N) (x : Fin 512) (k : Fin 1024) :
    iblk m c 1 t (ix2 x k) = m ((c : Thread nD τ).loc main_arg1) (ix2 (row t x) k) := by
  blk_point [iblk, V, idx t]

theorem blk_zg (c : Dev nD) (t : Fin cfg0.N) (x : Fin 512) (k : Fin 1024) :
    iblk m c 2 t (ix2 x k) = m ((c : Thread nD τ).loc main_arg2) (ix2 (row t x) k) := by
  blk_point [iblk, V, idx t]

theorem blk_w (c : Dev nD) (t : Fin cfg0.N) : iblk m c 3 t = pk m c := by
  rw [← V_pk]
  funext i
  blk_point [iblk, idx t]

theorem blk_y (c : Dev nD) (t : Fin cfg0.N) (x : Fin 512) (k : Fin 256) :
    iblk m c 4 t (ix2 x k) = m ((c : Thread nD τ).loc main_arg6) (ix2 (row t x) k) := by
  blk_point [iblk, V, idx t]

/-- A result array from its function of row and column. -/
abbrev arrP (f : Fin 4096 → Fin 512 → EReal) : S4096x512.Idx → EReal := fun i => f (i 0) (i 1)
abbrev arrY (f : Fin 4096 → Fin 256 → EReal) : S4096x256.Idx → EReal := fun i => f (i 0) (i 1)

abbrev zpA (c : Dev nD) : FVec Ideal S4096x1024 .bf16 := m ((c : Thread nD τ).loc main_arg0)
abbrev zvA (c : Dev nD) : FVec Ideal S4096x1024 .bf16 := m ((c : Thread nD τ).loc main_arg1)
abbrev zgA (c : Dev nD) : FVec Ideal S4096x1024 .bf16 := m ((c : Thread nD τ).loc main_arg2)
abbrev yA (c : Dev nD) : FVec Ideal S4096x256 .f32 := m ((c : Thread nD τ).loc main_arg6)

/-- A block's entry stands in the array at the point's row. -/
theorem emb5 (t : Fin cfg0.N) (f : S4096x512.Idx → EReal) (x : Fin 512) (k : Fin 512) :
    f (((cfg0.win 5).blk t).view.emb (ix2 x k)) = f (ix2 (row t x) k) := by
  blk_point [idx t]

theorem emb6 (t : Fin cfg0.N) (f : S4096x256.Idx → EReal) (x : Fin 512) (k : Fin 256) :
    f (((cfg0.win 6).blk t).view.emb (ix2 x k)) = f (ix2 (row t x) k)
    ∧ f (((cfg0.win 7).blk t).view.emb (ix2 x k)) = f (ix2 (row t x) k) := by
  constructor <;> blk_point [idx t]

/-- The pool's rows after the run. -/
theorem final5 (c : Dev nD) : (dats m 0 c).arrAt 5 cfg0.N = arrP (dMs (zpA m c) (pk m c)) := by
  refine (dats m 0 c).arrAt_eq_of_covers 5 _ (by decide +kernel) fun t _ y => ?_
  blk_simp
  rw [after0_5, point5, blk_w]
  idx_vars y
  refine Eq.trans ?_ (emb5 t _ y0 y1).symm
  unfold dMs
  simp only [blk_zp]
  rfl

/-- The scan's rows after the run. -/
theorem final6 (c : Dev nD) : (dats m 0 c).arrAt 6 cfg0.N = arrY (dY (zvA m c) (zgA m c) (pk m c) (yA m c)) := by
  refine (dats m 0 c).arrAt_eq_of_covers 6 _ (by decide +kernel) fun t _ y => ?_
  blk_simp
  rw [after0_6, point6, blk_w]
  idx_vars y
  refine Eq.trans ?_ (emb6 t _ y0 y1).1.symm
  unfold dY dAct
  simp only [blk_zv, blk_zg, blk_y]
  rfl

/-- The same rows in the narrow format. -/
theorem final7 (c : Dev nD) : (dats m 0 c).arrAt 7 cfg0.N = arrY (dY (zvA m c) (zgA m c) (pk m c) (yA m c)) := by
  refine (dats m 0 c).arrAt_eq_of_covers 7 _ (by decide +kernel) fun t _ y => ?_
  blk_simp
  rw [after0_7, point7, blk_w]
  idx_vars y
  refine Eq.trans ?_ (emb6 t _ y0 y1).2.symm
  unfold dY dAct
  simp only [blk_zv, blk_zg, blk_y]
  rfl

end Kernel

/-! ## The derivative of the forward lines -/

section Algebra

/-- A gelu's gradient times a cotangent, as the derivative writes it. -/
def geluRef (a y : EReal) : EReal :=
  a * (Ideal.ofBits .f32 0x3F000000#32 * (Ideal.ofBits .f32 0x3F800000#32 + th y))
    + Ideal.ofBits .f32 0x3F4C422A#32 * (Ideal.ofBits .f32 0x3F000000#32 * (y * a)
      * ((Ideal.ofBits .f32 0x3F800000#32 + th y) * (Ideal.ofBits .f32 0x3F800000#32 - th y)))
    + gk * (Ideal.ofBits .f32 0x3F4C422A#32 * (Ideal.ofBits .f32 0x3F000000#32 * (y * a)
      * ((Ideal.ofBits .f32 0x3F800000#32 + th y) * (Ideal.ofBits .f32 0x3F800000#32 - th y))))
      * (Ideal.ofBits .f32 0x40400000#32 * (y * y))

theorem ofBits_c : ∃ r : ℝ, Ideal.ofBits .f32 0x3F4C422A#32 = (r : EReal) := by
  refine ⟨13386282 * 2 ^ (-24 : ℤ), ?_⟩
  simp [Ideal.ofBits, Ideal.ieee]

theorem ofBits_3 : Ideal.ofBits .f32 0x40400000#32 = ((3 : ℝ) : EReal) := by
  simp [Ideal.ofBits, Ideal.ieee]
  rw [← EReal.coe_mul]
  norm_num

theorem th_real (y : EReal) : ∃ t : ℝ, th y = t := by
  unfold th
  have h : ∀ z : EReal, ∃ t : ℝ, Ideal.tanh z = t := by
    intro z
    induction z with
    | bot => exact ⟨-1, rfl⟩
    | top => exact ⟨1, rfl⟩
    | coe r => exact ⟨_, rfl⟩
  exact h _

/-- On reals the kernel's formula and the derivative's are equal. -/
theorem gelu_eq {a y : EReal} (ha : ∃ r : ℝ, a = r) (hy : ∃ r : ℝ, y = r) : a * geluD y = geluRef a y := by
  obtain ⟨t, ht⟩ := th_real y
  obtain ⟨a, rfl⟩ := ha
  obtain ⟨y, rfl⟩ := hy
  obtain ⟨c, hc⟩ := ofBits_c
  unfold geluD geluRef gk gk3
  rw [ht, hc, ofBits_half, ofBits_one, ofBits_3]
  simp only [← EReal.coe_add, ← EReal.coe_mul, ← EReal.coe_sub]
  refine congrArg _ ?_
  ring

end Algebra

section Reference

open Cert.MixerDxRefIdeal Cert.MixerDxRefIdeal.Gen

section Point

variable (zp zv zg : FVec Ideal S4096x1024 .bf16) (wp : FVec Ideal S512x1024 .f32)
  (wv wg : FVec Ideal S256x1024 .f32) (y : FVec Ideal S4096x256 .f32)

theorem ref_named : Named.named (F := Ideal) Cert.MixerDxRefIdeal.κ "gelu_k" (φ := .f32) 0x3D372713#32 = gk := by
  rfl

/-- What the reference's one point stores. -/
theorem ref_point7 (i : S4096x512.Idx) :
    (out0_7 (F := Ideal) zp zv zg wp wv wg y : S4096x512.Idx → EReal) i = dMs zp (packed wp wv wg) (i 0) (i 1) := by
  unfold_out out0_7
  canon_tiles x h
  idx_vars i
  refine Eq.trans ?_ (dMs_packed zp wp wv wg i0 i1).symm
  unfold_payloads
  pointwise
  blk_point

theorem ref_point8 (i : S4096x256.Idx) :
    (out0_8 (F := Ideal) zp zv zg wp wv wg y : S4096x256.Idx → EReal) i
      = geluRef (dAct zv zg (packed wp wv wg) (i 0) (i 1)) (y i) := by
  unfold_out out0_8
  canon_tiles x h
  idx_vars i
  refine Eq.trans ?_ (congrArg (geluRef · _) ((dAct_packed zv zg wp wv wg i0 i1).trans (add_comm _ _))).symm
  unfold_payloads
  unfold geluRef th
  simp only [← ref_named, mul_assoc]
  pointwise
  simp only [mul_assoc]
  blk_point

theorem ref_point9 (i : S4096x256.Idx) :
    (out0_9 (F := Ideal) zp zv zg wp wv wg y : S4096x256.Idx → EReal) i
      = geluRef (dAct zv zg (packed wp wv wg) (i 0) (i 1)) (y i) := by
  unfold_out out0_9
  canon_tiles x h
  idx_vars i
  refine Eq.trans ?_ (congrArg (geluRef · _) ((dAct_packed zv zg wp wv wg i0 i1).trans (add_comm _ _))).symm
  unfold_payloads
  unfold geluRef th
  simp only [← ref_named, mul_assoc]
  pointwise
  simp only [mul_assoc]
  blk_point

end Point

variable (m : (ℓ : Loc nD τ sig) → Buf (Elt Ideal) ℓ)

/-- The reference's one point takes every array whole. -/
theorem ref_idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem ref_blks (c : Dev nD) (t : Fin cfg0.N) :
    iblk m c 0 t = m ((c : Thread nD τ).loc main_arg0) ∧ iblk m c 1 t = m ((c : Thread nD τ).loc main_arg1)
    ∧ iblk m c 2 t = m ((c : Thread nD τ).loc main_arg2) ∧ iblk m c 3 t = m ((c : Thread nD τ).loc main_arg3)
    ∧ iblk m c 4 t = m ((c : Thread nD τ).loc main_arg4) ∧ iblk m c 5 t = m ((c : Thread nD τ).loc main_arg5)
    ∧ iblk m c 6 t = m ((c : Thread nD τ).loc main_arg6) := by
  refine ⟨?_, ?_, ?_, ?_, ?_, ?_, ?_⟩ <;> funext i <;> blk_point [iblk, V, ref_idx t]

/-- The pool's rows of the reference. -/
theorem ref_final7 (c : Dev nD) : (dats m 0 c).arrAt 7 cfg0.N
    = arrP (dMs (m ((c : Thread nD τ).loc main_arg0)) (packed (m ((c : Thread nD τ).loc main_arg3))
        (m ((c : Thread nD τ).loc main_arg4)) (m ((c : Thread nD τ).loc main_arg5)))) := by
  refine (dats m 0 c).arrAt_eq_of_covers 7 _ (by decide +kernel) fun t _ y => ?_
  obtain ⟨b0, b1, b2, b3, b4, b5, b6⟩ := ref_blks m c t
  blk_simp
  rw [after0_7, ref_point7, b0, b3, b4, b5]
  idx_vars y
  blk_point [ref_idx t]

/-- The scan's rows of the reference. -/
def refY (c : Dev nD) : (⟨2, ![4096, 256]⟩ : Shape).Idx → EReal := fun i =>
  geluRef (dAct (m ((c : Thread nD τ).loc main_arg1)) (m ((c : Thread nD τ).loc main_arg2)) (packed (m ((c : Thread nD τ).loc main_arg3))
        (m ((c : Thread nD τ).loc main_arg4)) (m ((c : Thread nD τ).loc main_arg5))) (i 0) (i 1)) (m ((c : Thread nD τ).loc main_arg6) i)

theorem ref_final8 (c : Dev nD) : (dats m 0 c).arrAt 8 cfg0.N = refY m c := by
  refine (dats m 0 c).arrAt_eq_of_covers 8 _ (by decide +kernel) fun t _ y => ?_
  obtain ⟨b0, b1, b2, b3, b4, b5, b6⟩ := ref_blks m c t
  blk_simp
  rw [after0_8, ref_point8, b1, b2, b3, b4, b5, b6]
  idx_vars y
  refine (show _ = refY m c (ix2 y0 y1) from rfl).trans (congrArg _ ?_)
  blk_point [ref_idx t]

theorem ref_final9 (c : Dev nD) : (dats m 0 c).arrAt 9 cfg0.N = refY m c := by
  refine (dats m 0 c).arrAt_eq_of_covers 9 _ (by decide +kernel) fun t _ y => ?_
  obtain ⟨b0, b1, b2, b3, b4, b5, b6⟩ := ref_blks m c t
  blk_simp
  rw [after0_9, ref_point9, b1, b2, b3, b4, b5, b6]
  idx_vars y
  refine (show _ = refY m c (ix2 y0 y1) from rfl).trans (congrArg _ ?_)
  blk_point [ref_idx t]

end Reference

/-! ## The claim -/

section Claim

open Cert.MixerDxIdeal Cert.MixerDxIdeal.Gen

variable (zp zv zg : FVec Ideal S4096x1024 .bf16) (wp : FVec Ideal S512x1024 .f32)
  (wv wg : FVec Ideal S256x1024 .f32) (y : FVec Ideal S4096x256 .f32)

/-- Where the two cotangents, their weights and the scan's rows are finite, the activation's gradient is a real. -/
theorem real_of_pre (e : Cert.Pre_mixer_dx_finite.fn (F := Ideal) zp zv zg wp wv wg y = fun _ => 1#1) :
    (∀ r k, ∃ x : ℝ, dAct zv zg (packed wp wv wg) r k = x) ∧ ∀ i, ∃ x : ℝ, y i = x := by
  have e0 := congrFun e ix0
  unfold Cert.Pre_mixer_dx_finite.fn at e0
  have e1 := andi_split e0
  have e2 := andi_split e1.1
  have e3 := andi_split e2.1
  have e4 := andi_split e3.1
  refine ⟨fun r k => ?_, real_of_all y _ _ _ _ _ e1.2⟩
  rw [dAct_packed]
  exact real_add (real_sum fun x => real_mul (real_of_all zv _ _ _ _ _ e4.1 _) (real_of_all wv _ _ _ _ _ e3.2 _))
    (real_sum fun x => real_mul (real_of_all zg _ _ _ _ _ e4.2 _) (real_of_all wg _ _ _ _ _ e2.2 _))

/-- Kernel and derivative leave the same three results. -/
theorem algebraic : Cert.algebraic_MixerDxIdeal_MixerDxRefIdeal_pre_mixer_dx_finite := by
  intro m ρ m' ρ' hpre hag
  refine ⟨_, _, _, Value.run_blocks m ρ, (θ_run _ _ _).mono (fun r h c => ?_) (Cert.MixerDxRefIdeal.Value.run_blocks m' ρ')⟩
  obtain ⟨h1, h2, h3, hk⟩ := h c
  obtain ⟨a0, a1, a2, a3, a4, a5, a6⟩ := hag c
  obtain ⟨r1, r2⟩ := real_of_pre _ _ _ _ _ _ _ (hpre c)
  have e : refY m' c = arrY (dY (zvA m c) (zgA m c) (pk m c) (yA m c)) := by
    unfold refY
    rw [a1, a2, a3, a4, a5, a6]
    funext i
    idx_vars i
    exact (gelu_eq (r1 i0 i1) (r2 _)).symm
  refine ⟨h1.trans ?_, h2.trans ?_, h3.trans ?_, hk⟩
  · rw [ref_final7, final5, a0, a3, a4, a5]
    rfl
  · rw [ref_final8, final6]
    exact e
  · rw [ref_final9, final7]
    exact e

/-- The ledger's two entries: the named decimals round to the version's words. -/
theorem preserves : Cert.preserves_MixerDx_MixerDxIdeal :=
  ⟨IdealRules.named_const.statement Cert.MixerDxIdeal.κ "gelu_k" .f32 0x3D372713#32 ((8943 / 200000 : ℝ) : EReal) rfl,
    IdealRules.named_const.statement Cert.MixerDxIdeal.κ "gelu_3k" .f32 0x3E095D4F#32 ((26829 / 200000 : ℝ) : EReal) rfl⟩

end Claim

end Cert.Step.MixerDx
end
-- ==== Proof.Step.SsmDs.lean ====
module
public import proofs.«01_k».proof.Proof.Gen.SsmDsIdeal.Value
public import proofs.«01_k».proof.Proof.Gen.SsmDsRefIdeal.Run
public import proofs.«01_k».proof.Proof.Gen.SsmDsRefIdeal.Read
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The gradient of the scan's input, summed from its three uses, and of the skip weight. -/

namespace Cert.Step.SsmDs

open Cert.SsmDsIdeal Cert.SsmDsIdeal.Gen

/-- The input's gradient: through the skip, and from the two scans. -/
def dsArr (dy da db : S4096x256.Idx → EReal) (sk : S1x256.Idx → EReal) : S4096x256.Idx → EReal := fun i =>
  dy i * sk (ix2 0 (i 1)) + da i + db i

/-- The skip weight's gradient: a sum over the rows. -/
def ddArr (pj : S4096x2816.Idx → EReal) (dy : S4096x256.Idx → EReal) : S1x256.Idx → EReal := fun i =>
  ∑ r : Fin 4096, dy (ix2 r (i 1)) * pj (ix2 r ⟨512 + (i 1).val, by have h : (i 1).val < 256 := (i 1).isLt; omega⟩)

section Kernel

variable (m : (ℓ : Loc nD τ sig) → Buf (Elt Ideal) ℓ)

/-- The block indices at a point. -/
theorem idx : ∀ t : Fin cfg0.N, win0_0.index t = ![t.val, 2] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- What a point stores into the first result's block. -/
theorem point5 (c : Dev nD) (t : Fin cfg0.N) (y : S512x256.Idx) :
    (k0_pay1 (F := Ideal) (iblk m c 1 t) (iblk m c 4 t) (iblk m c 2 t) (iblk m c 3 t) : S512x256.Idx → EReal) y
      = dsArr (m ((c : Thread nD τ).loc main_arg1)) (m ((c : Thread nD τ).loc main_arg2)) (m ((c : Thread nD τ).loc main_arg3))
          (m ((c : Thread nD τ).loc main_arg4)) (((cfg0.win 5).blk t).view.emb y) := by
  unfold_payloads
  idx_vars y
  pointwise [dsArr]
  blk_point [iblk, V, idx t]

/-- The first result after the run. -/
theorem final5 (c : Dev nD) : (dats m 0 c).arrAt 5 cfg0.N = (dsArr (m ((c : Thread nD τ).loc main_arg1)) (m ((c : Thread nD τ).loc main_arg2))
      (m ((c : Thread nD τ).loc main_arg3)) (m ((c : Thread nD τ).loc main_arg4)) : S4096x256.Idx → EReal) := by
  refine (dats m 0 c).arrAt_eq_of_covers 5 _ (by decide +kernel) fun t _ y => ?_
  blk_simp
  rw [after0_5]
  by_cases h0 : t.val % 8 = 0
  · rw [outsAt0_A m c t h0]
    frame_out
    exact point5 m c t y
  · rw [outsAt0_B m c t h0]
    frame_out
    exact point5 m c t y

/-- The product of a column of two blocks. -/
def rowDot (dy s : S512x256.Idx → EReal) (q : Fin 256) : EReal := ∑ x : Fin 512, dy (ix2 x q) * s (ix2 x q)

/-- What a point adds to the skip weight's gradient. -/
def term (c : Dev nD) (t : Fin cfg0.N) (i : S1x256.Idx) : EReal :=
  rowDot (iblk m c 1 t) (iblk m c 0 t) (i 1)

/-- The accumulator's step adds a column sum. -/
theorem pay3_apply (dy s : FVec Ideal S512x256 .f32) (v : FVec Ideal S1x256 .f32) (i : S1x256.Idx) :
    k0_pay3 (F := Ideal) dy v s i = v i + rowDot dy s (i 1) := by
  idx_vars i
  pointwise [k0_pay3, rowDot]

/-- The accumulated gradient after the last point. -/
theorem acc6 (c : Dev nD) (i : S1x256.Idx) :
    (outsAt0 m c t0_7.val t0_7.isLt).2 i = k0_pay2 (F := Ideal) i + ∑ t : Fin cfg0.N, term m c t i :=
  Pipeline.eq_sum_fin_of_reset_step_apply_last (fun n hn => (outsAt0 m c n hn).2) 8 _ (term m c)
    (fun t h j => by rw [outsAt0_A m c t h]; frame_out; rw [pay3_apply]; rfl)
    (fun t h j => by rw [outsAt0_B m c t h]; frame_out; rw [pay3_apply]; rfl) (by decide +kernel) t0_7 rfl i

/-- The second result after the run. -/
theorem final6 (c : Dev nD) : (dats m 0 c).arrAt 6 cfg0.N = ddArr (m ((c : Thread nD τ).loc main_arg0)) (m ((c : Thread nD τ).loc main_arg1)) := by
  refine (dats m 0 c).arrAt_eq_of_after_last 6 t0_7 (by decide +kernel) _ fun j => ?_
  blk_simp
  rw [after0_6, acc6]
  unfold ddArr
  rw [show k0_pay2 (F := Ideal) j = 0 from by idx_vars j; pointwise [k0_pay2], zero_add]
  refine Fin.sum_mul_add_congr fun t x hl => ?_
  idx_vars j
  blk_point [iblk, V, idx t]

end Kernel

/-! ## The derivative of the forward lines -/

section Reference

open Cert.SsmDsRefIdeal.Read

variable (pj : FVec Ideal S4096x2816 .f32) (dy da db : FVec Ideal S4096x256 .f32) (sk : FVec Ideal S1x256 .f32)

theorem ref_v10 : (val_main_v10 (F := Ideal) dy da db sk : S4096x256.Idx → EReal) = dsArr dy da db sk := by
  funext i
  idx_vars i
  simp only [val_main_v10, val_main_v9, val_main_v8, val_main_v7, val_main_v3]
  pointwise [dsArr]
  rw [add_comm, add_assoc]

theorem ref_v6 : (val_main_v6 (F := Ideal) pj dy : S1x256.Idx → EReal) = ddArr pj dy := by
  funext i
  idx_vars i
  simp only [val_main_v6, val_main_v5, val_main_v4, val_main_v0]
  pointwise [ddArr, val_main_cst]
  simp only [mul_comm]

end Reference

/-! ## The claim -/

/-- Kernel and derivative leave the same two results. -/
theorem algebraic : Cert.algebraic_SsmDsIdeal_SsmDsRefIdeal := by
  intro m ρ m' ρ' _ hag
  refine ⟨_, _, Value.run_blocks m ρ, (θ_run _ _ _).mono (fun r h c => ?_) (Cert.SsmDsRefIdeal.Value.run m' ρ')⟩
  obtain ⟨h1, h2, hk⟩ := h c
  obtain ⟨a0, a1, a2, a3, a4⟩ := hag c
  refine ⟨h1.trans ?_, h2.trans ?_, hk⟩
  · rw [final5, ← ref_v10, ← a1, ← a2, ← a3, ← a4]
    exact Cert.SsmDsRefIdeal.Read.val_main_v10_eq _ _ _ _
  · rw [final6, ← ref_v6, ← a0, ← a1]
    exact Cert.SsmDsRefIdeal.Read.val_main_v6_eq _ _

end Cert.Step.SsmDs
end
-- ==== Proof.Step.AttnFwd.lean ====
module
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Step.Attn
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The attention over the memory. -/

namespace Cert.Step.AttnFwd

/-- The attention of every row. -/
def oArr {n : ℕ} (q : (⟨2, ![n, 1024]⟩ : Shape).Idx → EReal) (kv : (⟨2, ![256, 2048]⟩ : Shape).Idx → EReal) :
    (⟨2, ![n, 1024]⟩ : Shape).Idx → EReal := fun i => oAt q kv (i 0) (i 1)

/-- A head's attention of a row, from the head's own queries, keys and values. -/
def headAt {n : ℕ} (q : (⟨2, ![n, 256]⟩ : Shape).Idx → EReal) (k v : (⟨2, ![256, 256]⟩ : Shape).Idx → EReal) :
    (⟨2, ![n, 256]⟩ : Shape).Idx → EReal := fun x =>
  ∑ j : Fin 256, sprob (fun j => (∑ d : Fin 256, q (ix2 (x 0) d) * k (ix2 j d)) * Ideal.ofBits .f32 0x3D800000#32) j * v (ix2 j (x 1))

section Kernel

open Cert.AttnFwdIdeal Cert.AttnFwdIdeal.Gen

variable (m : (ℓ : Loc nD τ sig) → Buf (Elt Ideal) ℓ)

/-- The block indices at a point: the row blocks move with the point, the keys and values stay. -/
theorem idx : ∀ t : Fin cfg0.N, win0_0.index t = ![t.val, 0] ∧ win0_1.index t = ![0, 0] ∧ win0_2.index t = ![t.val, 0] :=
  (by decide +kernel : ∀ t : Fin grid0.N, _)

/-! ### One head of a block -/

/-- The four heads' stores: each is the head's attention. -/
theorem pay2_eq (q : FVec Ideal S1024x256 .bf16) (k v : FVec Ideal S256x256 .bf16) :
    (k0_pay2 (F := Ideal) q k v : S1024x256.Idx → EReal) = headAt q k v := by
  funext x
  idx_vars x
  pointwise [k0_pay2]
  rfl

theorem pay4_eq (q : FVec Ideal S1024x256 .bf16) (k v : FVec Ideal S256x256 .bf16) :
    (k0_pay4 (F := Ideal) v (k0_pay3 q k) : S1024x256.Idx → EReal) = headAt q k v := by
  funext x
  idx_vars x
  pointwise [k0_pay4, k0_pay3]
  rfl

theorem pay5_eq (q : FVec Ideal S1024x256 .bf16) (k v : FVec Ideal S256x256 .bf16) :
    (k0_pay5 (F := Ideal) q k v : S1024x256.Idx → EReal) = headAt q k v := by
  funext x
  idx_vars x
  pointwise [k0_pay5]
  rfl

theorem pay1_eq (q : FVec Ideal S1024x256 .bf16) (k v : FVec Ideal S256x256 .bf16) :
    (k0_pay1 (F := Ideal) (k0_pay6 q k) (k0_pay7 q k) v : S1024x256.Idx → EReal) = headAt q k v := by
  funext x
  idx_vars x
  pointwise [k0_pay1, k0_pay6, k0_pay7]
  rfl

/-- The head that stands at column `lo` of a block. -/
theorem o_tile (q : FVec Ideal S1024x1024 .bf16) (kv : FVec Ideal S256x2048 .bf16) (a : Fin 4) (lo lv : ℕ)
    (hlo : lo = a.val * 256) (hlv : lv = 1024 + a.val * 256)
    (inbq : ∀ b, (![0, lo] : Fin 2 → ℕ) b + (![1024, 256] : Fin 2 → ℕ) b ≤ S1024x1024.size b)
    (inbk : ∀ b, (![0, lo] : Fin 2 → ℕ) b + (![256, 256] : Fin 2 → ℕ) b ≤ S256x2048.size b)
    (inbv : ∀ b, (![0, lv] : Fin 2 → ℕ) b + (![256, 256] : Fin 2 → ℕ) b ≤ S256x2048.size b)
    (x : S1024x256.Idx) (i : S1024x1024.Idx) (h0 : (i 0 : ℕ) = x 0) (h1 : (i 1 : ℕ) = lo + x 1) :
    headAt (n := 1024) (fun x => q ((Rect.unit (s := S1024x1024) ![0, lo] ![1024, 256] inbq).idx x))
      (fun x => kv ((Rect.unit (s := S256x2048) ![0, lo] ![256, 256] inbk).idx x))
      (fun x => kv ((Rect.unit (s := S256x2048) ![0, lv] ![256, 256] inbv).idx x)) x = oArr q kv i := by
  have hx : (x 1).val < 256 := (x 1).isLt
  have hi : (i 1).val < 1024 := (i 1).isLt
  have ea : (⟨(i 1).val / 256, by omega⟩ : Fin 4) = a := Fin.ext (by show (i 1).val / 256 = a.val; omega)
  have eq : ∀ (y : S1024x256.Idx) (z : S1024x1024.Idx), (z 0 : ℕ) = y 0 → (z 1 : ℕ) = lo + y 1 →
      q ((Rect.unit (s := S1024x1024) ![0, lo] ![1024, 256] inbq).idx y) = q z := fun y z e0 e1 =>
    View.ld_unit_apply_of (Val := Elt Ideal) (e := .bf16) q ![0, lo] ![1024, 256] inbq y z fun b => by
      fin_cases b
      · exact e0.trans (Nat.zero_add _).symm
      · exact e1
  have ek : ∀ (l : ℕ) (inb : ∀ b, (![0, l] : Fin 2 → ℕ) b + (![256, 256] : Fin 2 → ℕ) b ≤ S256x2048.size b)
      (y : S256x256.Idx) (z : S256x2048.Idx), (z 0 : ℕ) = y 0 → (z 1 : ℕ) = l + y 1 →
      kv ((Rect.unit (s := S256x2048) ![0, l] ![256, 256] inb).idx y) = kv z := fun l inb y z e0 e1 =>
    View.ld_unit_apply_of (Val := Elt Ideal) (e := .bf16) kv ![0, l] ![256, 256] inb y z fun b => by
      fin_cases b
      · exact e0.trans (Nat.zero_add _).symm
      · exact e1
  unfold headAt oArr oAt
  rw [ea]
  refine Finset.sum_congr rfl fun j _ => congrArg₂ (· * ·) (congrArg (fun s => sprob s j) (funext fun j => ?_)) ?_
  · refine congrArg (· * _) (Finset.sum_congr rfl fun d _ => congrArg₂ _ ?_ ?_)
    · exact eq _ _ h0 (by subst hlo; rfl)
    · exact ek lo inbk _ _ rfl (by subst hlo; rfl)
  · refine ek lv inbv _ _ rfl ?_
    show 1024 + (i 1).val = lv + (x 1).val
    omega

/-- What a point stores. -/
theorem out_eq (q : FVec Ideal S1024x1024 .bf16) (kv : FVec Ideal S256x2048 .bf16) (i : S1024x1024.Idx) :
    (out0_2 (F := Ideal) q kv : S1024x1024.Idx → EReal) i = oArr q kv i := by
  unfold out0_2
  canon_tiles x h
  · exact (congrFun (pay1_eq _ _ _) x).trans (o_tile q kv 3 768 1792 rfl rfl _ _ _ x i h0 h1)
  · exact (congrFun (pay5_eq _ _ _) x).trans (o_tile q kv 2 512 1536 rfl rfl _ _ _ x i h0 h1)
  · exact (congrFun (pay4_eq _ _ _) x).trans (o_tile q kv 1 256 1280 rfl rfl _ _ _ x i h0 h1)
  · exact (congrFun (pay2_eq _ _ _) x).trans (o_tile q kv 0 0 1024 rfl rfl _ _ _ x i h0 (by omega))

/-- The two arguments' arrays. -/
abbrev qA (c : Dev nD) : FVec Ideal S4096x1024 .bf16 := m ((c : Thread nD τ).loc main_arg0)
abbrev kvA (c : Dev nD) : FVec Ideal S256x2048 .bf16 := m ((c : Thread nD τ).loc main_arg1)

/-- The point's blocks: rows from `1024 t` of the queries, all keys and values. -/
theorem blk_q (c : Dev nD) (t : Fin cfg0.N) (x : Fin 1024) (r : Fin 4096) (e : r.val = t.val * 1024 + x.val) (k : Fin 1024) :
    iblk m c 0 t (ix2 x k) = qA m c (ix2 r k) := by
  blk_point [iblk, V, idx t, qA, e]

theorem blk_kv (c : Dev nD) (t : Fin cfg0.N) : iblk m c 1 t = kvA m c := by
  funext i
  blk_point [iblk, V, idx t]

/-- The attention after the run. -/
theorem final2 (c : Dev nD) : (dats m 0 c).arrAt 2 cfg0.N = (oArr (qA m c) (kvA m c) : S4096x1024.Idx → EReal) := by
  refine (dats m 0 c).arrAt_eq_of_covers 2 _ (by decide +kernel) fun t _ y => ?_
  blk_simp
  rw [after0_2]
  refine (out_eq _ _ y).trans ?_
  rw [blk_kv]
  idx_vars y
  have e : ∀ f : S4096x1024.Idx → EReal, f (((cfg0.win 2).blk t).view.emb (ix2 y0 y1))
      = f (ix2 ⟨t.val * 1024 + y0.val, by have := t.isLt; have := y0.isLt; change t.val < 4 at *; omega⟩ y1) := by
    intro f
    blk_point [idx t]
  refine Eq.trans ?_ (e _).symm
  exact oAt_congr (fun k => blk_q m c t _ _ rfl k) _

end Kernel

/-! ## The forward lines -/

section Reference

open Cert.AttnFwdRefIdeal Cert.AttnFwdRefIdeal.Read

variable (q : FVec Ideal S4096x1024 .bf16) (kv : FVec Ideal S256x2048 .bf16)

/-- Over 16 is times one sixteenth. -/
theorem div_16 (x : EReal) : Ideal.div x (Ideal.ofBits .f32 0x41800000#32) = x * Ideal.ofBits .f32 0x3D800000#32 := by
  rw [ofBits_16, ofBits_inv16]
  unfold Ideal.div
  rw [if_neg (by norm_num), ← EReal.coe_inv]
  norm_num

/-- The reference's scores. -/
theorem ref_v9 (a : Fin 4) (r : Fin 4096) (j : Fin 256) : val_main_v9 (F := Ideal) q kv (ix3 a r j) = score q kv r a j := by
  simp only [val_main_v9, val_main_v8, val_main_v7, val_main_v4, val_main_v3, val_main_v2, val_main_v1, val_main_v0]
  pointwise [val_main_cst]
  exact div_16 _

/-- The greatest of each row. -/
theorem row_max (z : FVec Ideal S4x4096x256 .f32) (a : Fin 4) (r : Fin 4096) :
    Host.reduce FloatOps.maximumf z (constant S_ .f32 0xFF800000#32)
      Gen.reducesTo_S4x4096x256_S4x4096_d2 Gen.h_S_ (ix2 a r)
    = smax fun x => z (ix3 a r x) := by
  pointwise [smax]

/-- The reference's row maximum, beside the least of all. -/
theorem ref_v12 (a : Fin 4) (r : Fin 4096) : val_main_v12 (F := Ideal) q kv (ix2 a r) = smax (score q kv r a) := by
  rw [val_main_v12_apply, show val_main_v10 (F := Ideal) q kv (ix2 a r) = smax (score q kv r a) from
    (row_max _ a r).trans (congrArg smax (funext (ref_v9 q kv a r)))]
  exact max_eq_right (ofBits_ninf.le.trans bot_le)

/-- The reference's exponentials. -/
theorem ref_v16 (a : Fin 4) (r : Fin 4096) (j : Fin 256) : val_main_v16 (F := Ideal) q kv (ix3 a r j) = sexp (score q kv r a) j := by
  have e9 := ref_v9 q kv
  have e12 := ref_v12 q kv
  simp only [val_main_v16, val_main_v15, val_main_v14, val_main_v13]
  generalize val_main_v9 (F := Ideal) q kv = z at e9 ⊢
  generalize val_main_v12 (F := Ideal) q kv = y at e12 ⊢
  pointwise
  simp only [e9, e12]
  rfl

/-- The reference's shares. -/
theorem ref_v20 (a : Fin 4) (r : Fin 4096) (j : Fin 256) : val_main_v20 (F := Ideal) q kv (ix3 a r j) = sprob (score q kv r a) j := by
  have e16 := ref_v16 q kv
  simp only [val_main_v20, val_main_v19, val_main_v18, val_main_v17]
  pointwise [val_main_cst_2]
  simp only [e16]
  rfl

/-- The reference's result. -/
theorem ref_v24 : (val_main_v24 (F := Ideal) q kv : S4096x1024.Idx → EReal) = oArr q kv := by
  funext i
  idx_vars i
  have e20 := ref_v20 q kv
  simp only [val_main_v24, val_main_v23, val_main_v22, val_main_v21, val_main_v6, val_main_v5, val_main_v1]
  pointwise [oArr, oAt]
  simp only [e20]
  exact Finset.sum_congr rfl fun x _ => mul_comm _ _

end Reference

/-! ## The claim -/

/-- Kernel and forward lines leave the same result. -/
theorem algebraic : Cert.algebraic_AttnFwdIdeal_AttnFwdRefIdeal := by
  intro m ρ m' ρ' _ hag
  refine ⟨_, Cert.AttnFwdIdeal.Value.run_blocks m ρ, (θ_run _ _ _).mono (fun r h c => ?_) (Cert.AttnFwdRefIdeal.Value.run m' ρ')⟩
  obtain ⟨h1, hk⟩ := h c
  obtain ⟨a0, a1⟩ := hag c
  refine ⟨h1.trans ?_, hk⟩
  rw [final2, ← ref_v24]
  refine (Cert.AttnFwdRefIdeal.Read.val_main_v24_eq _ _).trans ?_
  rw [a0, a1]

end Cert.Step.AttnFwd
end
-- ==== Proof.Step.PoolTiles.lean ====
/-
Row tiles stored by the trips of a counted loop: what a buffer holds after the first trips.
-/
module

public import Idealize.ShloMosaic.Lib.Pipeline.ValueKit
public import Idealize.ShloMosaic.Lib.WritesUnit
public import Idealize.ShloMosaic.Lib.WholeRead

@[expose] public section

noncomputable section

open Idealize.ShloMosaic

namespace Cert.Step.Pool

/-- The pieces of the first `n` trips, the newest first. -/
def tilesBefore {N : ℕ} {α : Type} (P : Fin N → α) : ℕ → List α
  | 0 => []
  | n + 1 => if h : n < N then P ⟨n, h⟩ :: tilesBefore P n else tilesBefore P n

/-- A value carried through the first `n` trips. -/
def carried {N : ℕ} {α : Type} (R : Fin N → α → α) (init : α) : ℕ → α
  | 0 => init
  | n + 1 => if h : n < N then R ⟨n, h⟩ (carried R init n) else carried R init n

/-- A loop's state, given step by step, is what its trips carried and the pieces that they stored. -/
theorem state_eq {N : ℕ} {α β : Type} (S : ℕ → α × List β) (R : Fin N → α → α) (P : Fin N → β) (init : α)
    (h0 : S 0 = (init, [])) (hs : ∀ k : Fin N, S (k.val + 1) = (R k (S k.val).1, [P k] ++ (S k.val).2)) :
    ∀ n, n ≤ N → S n = (carried R init n, tilesBefore P n)
  | 0, _ => h0
  | n + 1, hn => by
    have e := hs ⟨n, hn⟩
    rw [show (⟨n, hn⟩ : Fin N).val = n from rfl, state_eq S R P init h0 hs n (Nat.le_of_lt hn)] at e
    rw [e, carried, tilesBefore, dif_pos (Nat.lt_of_succ_le hn), dif_pos (Nat.lt_of_succ_le hn)]
    rfl

/-- The pieces of a loop that carries nothing, given step by step. -/
theorem pieces_eq {N : ℕ} {β : Type} (S : ℕ → List β) (P : Fin N → β)
    (h0 : S 0 = []) (hs : ∀ k : Fin N, S (k.val + 1) = [P k] ++ S k.val) :
    ∀ n, n ≤ N → S n = tilesBefore P n
  | 0, _ => h0
  | n + 1, hn => by
    have e := hs ⟨n, hn⟩
    rw [show (⟨n, hn⟩ : Fin N).val = n from rfl, pieces_eq S P h0 hs n (Nat.le_of_lt hn)] at e
    rw [e, tilesBefore, dif_pos (Nat.lt_of_succ_le hn)]
    rfl

section Read

variable {sig : RefSig} {κ : Kind} {sp : Space} {s : Shape} {e : EltTy} {Val : EltTy → Type} {N : ℕ}
  (v : View sig κ sp s e) (f : v.ty.Contents Val) (P : Fin N → View.Piece Val s e) (L : List (View.Piece Val s e))
  (off : Fin N → Fin s.rank → ℕ) (size : Fin s.rank → ℕ) (inb : ∀ k a, off k a + size a ≤ s.size a)
  (w : ∀ k, (Rect.unit (off k) size (inb k)).shape.Idx → Val e) (hP : ∀ k, P k = ⟨Rect.unit (off k) size (inb k), w k⟩)
  (y : s.Idx)

include hP in
/-- An index outside every tile reads what was there before the trips. -/
theorem read_tiles_miss (hy : ∀ k, ∃ a, y a < off k a ∨ off k a + size a ≤ y a) :
    ∀ n, v.read Val (v.writes Val f (tilesBefore P n ++ L)) y = v.read Val (v.writes Val f L) y
  | 0 => rfl
  | n + 1 => by
    rw [tilesBefore]
    split
    · rename_i hn
      obtain ⟨a, ha⟩ := hy ⟨n, hn⟩
      rw [List.cons_append, hP, View.read_writes_cons_unit_of_not_mem v f (inb ⟨n, hn⟩) _ _ y rfl a ha]
      exact read_tiles_miss hy n
    · exact read_tiles_miss hy n

include hP in
/-- An index of one tile, outside the others, reads that tile. -/
theorem read_tiles_hit (k : Fin N) (x : (Rect.unit (off k) size (inb k)).shape.Idx) (hx : ∀ a, (y a).val = off k a + (x a).val)
    (hy : ∀ k', k' ≠ k → ∃ a, y a < off k' a ∨ off k' a + size a ≤ y a) :
    ∀ n, k.val < n → n ≤ N → v.read Val (v.writes Val f (tilesBefore P n ++ L)) y = w k x
  | 0, h, _ => absurd h (Nat.not_lt_zero _)
  | n + 1, h, hN => by
    rw [tilesBefore, dif_pos (Nat.lt_of_succ_le hN), List.cons_append, hP]
    by_cases e : k.val = n
    · obtain rfl : k = ⟨n, hN⟩ := Fin.ext e
      exact View.read_writes_cons_unit_of_mem v f (inb ⟨n, hN⟩) _ _ y x rfl hx
    · obtain ⟨a, ha⟩ := hy ⟨n, hN⟩ fun h' => e (congrArg Fin.val h'.symm)
      rw [View.read_writes_cons_unit_of_not_mem v f (inb ⟨n, hN⟩) _ _ y rfl a ha]
      exact read_tiles_hit k x hx hy n (by omega) (Nat.le_of_lt hN)

end Read

/-- Two indices of a matrix are equal where their coordinates are. -/
theorem idx_ext2 {n0 n1 : ℕ} {i j : (⟨2, ![n0, n1]⟩ : Shape).Idx} (h0 : (i 0).val = (j 0).val) (h1 : (i 1).val = (j 1).val) :
    i = j := funext fun a => Fin.ext (by
  match a with
  | ⟨0, _⟩ => exact h0
  | ⟨1, _⟩ => exact h1)

/-- Tile `k` (256 rows) of group `g`'s 128 columns of an array of 4096 rows. -/
def tile {α : Type} (X : (⟨2, ![4096, 512]⟩ : Shape).Idx → α) (g : Fin 4) (k : Fin 16) :
    (⟨2, ![256, 128]⟩ : Shape).Idx → α := fun z =>
  X (ix2 ⟨256 * k.val + (z 0).val, by have := k.isLt; have h : (z 0).val < 256 := (z 0).isLt; omega⟩
    ⟨128 * g.val + (z 1).val, by have := g.isLt; have h : (z 1).val < 128 := (z 1).isLt; omega⟩)

/-- A group's part of the padded buffer: 8 rows of `zero` on each side of the group's tiles. -/
def padded {α : Type} (zero : α) (q : Fin 16 → (⟨2, ![256, 128]⟩ : Shape).Idx → α) (r : ℕ) (l : Fin 128) : α :=
  if h : 8 ≤ r ∧ r < 4104 then q ⟨(r - 8) / 256, by omega⟩ (ix2 ⟨(r - 8) % 256, by omega⟩ l) else zero

section Group

variable {sig : RefSig} {κ : Kind} {sp : Space} {R : ℕ} {e : EltTy} {Val : EltTy → Type} {N : ℕ}
  (v : View sig κ sp ⟨2, ![R, 512]⟩ e) (f : v.ty.Contents Val) (P : Fin N → View.Piece Val ⟨2, ![R, 512]⟩ e)
  (L : List (View.Piece Val ⟨2, ![R, 512]⟩ e)) (off : Fin N → Fin 2 → ℕ)
  (inb : ∀ k a, off k a + (![256, 128] : Fin 2 → ℕ) a ≤ (![R, 512] : Fin 2 → ℕ) a)
  (w : Fin N → (⟨2, ![256, 128]⟩ : Shape).Idx → Val e)
  (hP : ∀ k, P k = ⟨Rect.unit (s := ⟨2, ![R, 512]⟩) (off k) ![256, 128] (inb k), w k⟩)
  (o c : ℕ) (hoff : ∀ k, off k = ![o + 256 * k.val, c]) (hN : N = 16) (y : (⟨2, ![R, 512]⟩ : Shape).Idx)

include hP hoff in
/-- Outside a group's 16 tiles a buffer holds what it held before. -/
theorem group_miss (hy : (y 1).val < c ∨ c + 128 ≤ (y 1).val ∨ (y 0).val < o ∨ o + 256 * N ≤ (y 0).val) (n : ℕ) :
    v.read Val (v.writes Val f (tilesBefore P n ++ L)) y = v.read Val (v.writes Val f L) y :=
  read_tiles_miss v f P L off ![256, 128] inb w hP y (fun k => by
    have hk := k.isLt
    have e0 : off k 0 = o + 256 * k.val := congrFun (hoff k) 0
    have e1 : off k 1 = c := congrFun (hoff k) 1
    rcases hy with h | h | h | h
    · exact ⟨1, Or.inl (by rw [e1]; exact h)⟩
    · exact ⟨1, Or.inr (by rw [e1]; exact h)⟩
    · exact ⟨0, Or.inl (by rw [e0]; omega)⟩
    · exact ⟨0, Or.inr (by rw [e0]; show o + 256 * k.val + 256 ≤ _; omega)⟩) n

include hP hoff in
/-- Inside a group's 16 tiles a buffer holds the tile's entry. -/
theorem group_hit (k : Fin N) (z : (⟨2, ![256, 128]⟩ : Shape).Idx) (h0 : (y 0).val = o + 256 * k.val + (z 0).val)
    (h1 : (y 1).val = c + (z 1).val) :
    v.read Val (v.writes Val f (tilesBefore P N ++ L)) y = w k z := by
  have e0 : ∀ k, off k 0 = o + 256 * k.val := fun k => congrFun (hoff k) 0
  have e1 : ∀ k, off k 1 = c := fun k => congrFun (hoff k) 1
  have hz : (z 0).val < 256 := (z 0).isLt
  refine read_tiles_hit v f P L off ![256, 128] inb w hP y k z (fun a => ?_) (fun k' hk' => ?_) N k.isLt le_rfl
  · match a with
    | ⟨0, _⟩ => exact h0.trans (congrArg (· + (z 0).val) (e0 k).symm)
    | ⟨1, _⟩ => exact h1.trans (congrArg (· + (z 1).val) (e1 k).symm)
  · have hne : k'.val ≠ k.val := fun h => hk' (Fin.ext h)
    refine ⟨0, ?_⟩
    rw [e0, h0]
    show _ ∨ o + 256 * k'.val + 256 ≤ _
    omega

include hP hoff hN in
/-- A group's tiles over a buffer that is `zero` in the group's columns elsewhere are the padded group. -/
theorem group_padded (zero : Val e) (l : Fin 128) (h1 : (y 1).val = c + l.val) (ho : o = 8)
    (hz : (y 0).val < 8 ∨ 4104 ≤ (y 0).val → v.read Val (v.writes Val f L) y = zero) :
    v.read Val (v.writes Val f (tilesBefore P N ++ L)) y = padded zero (fun k => w (Fin.cast hN.symm k)) (y 0).val l := by
  subst ho
  unfold padded
  by_cases h : 8 ≤ (y 0).val ∧ (y 0).val < 4104
  · rw [dif_pos h]
    refine group_hit v f P L off inb w hP 8 c hoff y _ _ ?_ h1
    show (y 0).val = 8 + 256 * (((y 0).val - 8) / 256) + ((y 0).val - 8) % 256
    omega
  · rw [dif_neg h, group_miss v f P L off inb w hP 8 c hoff y (by omega) N]
    exact hz (by omega)

end Group

/-- What the second loop's trip `k` reads of a group's padded buffer: its 256 rows with 8 more on each side. -/
def halo {α : Type} (zero : α) (q : Fin 16 → (⟨2, ![256, 128]⟩ : Shape).Idx → α) (k : Fin 16) :
    (⟨2, ![272, 128]⟩ : Shape).Idx → α := fun z => padded zero q (256 * k.val + (z 0).val) (z 1)

/-- Reading group `g`'s tiles side by side as an array of 4096 rows and 512 columns. -/
def untile {α : Type} (D : Fin 4 → Fin 16 → (⟨2, ![256, 128]⟩ : Shape).Idx → α) : (⟨2, ![4096, 512]⟩ : Shape).Idx → α := fun y =>
  D ⟨(y 1).val / 128, by have h : (y 1).val < 512 := (y 1).isLt; omega⟩ ⟨(y 0).val / 256, by have h : (y 0).val < 4096 := (y 0).isLt; omega⟩
    (ix2 ⟨(y 0).val % 256, by omega⟩ ⟨(y 1).val % 128, by omega⟩)

end Cert.Step.Pool

end
-- ==== Proof.Step.PoolLoops.lean ====
/-
The eight loops of the pooling mixer's backward kernel: what each carries and which tiles it stores.
-/
module

public import proofs.«01_k».proof.Proof.Gen.PoolBwdIdeal.Loops
public import Idealize.ShloMosaic.Lib.Pipeline.ValueKit
public import proofs.«01_k».proof.Proof.Step.PoolTiles

@[expose] public section

set_option maxRecDepth 16384

noncomputable section

namespace Cert.Step.PoolBwd

open Cert.Step.Pool Cert.PoolBwdIdeal Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V)
  (arg0 : Memref sig .tc .vmem S4096x512 .bf16) (harg0 : arg0.IsWhole) (arg1 : Memref sig .tc .vmem S4096x512 .bf16) (harg1 : arg1.IsWhole) (arg2 : Memref sig .tc .vmem S4096x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S4x128x128 .f32) (harg7 : arg7.IsWhole) (arg8 : Memref sig .tc .vmem S4112x512 .f32) (harg8 : arg8.IsWhole)
  (x0 : Vec F S4096x512 .bf16) (x1 : Vec F S4096x512 .bf16) (x2 : Vec F S4096x512 .bf16)

/-- Group 0's tiles number 16. -/
theorem trips1 : k0_t1_loop.trips = 16 := by decide

/-- Where trip `k` of group 0's first loop reads and stores. -/
theorem off1_eq : ∀ k : Fin k0_t1_loop.trips, k0_off1 k = ![256 * k.val, 0] := by decide +kernel
theorem off2_eq : ∀ k : Fin k0_t1_loop.trips, k0_off2 k = ![8 + 256 * k.val, 0] := by decide +kernel

/-- Reading the rows of trip `k` of group 0 reads that tile. -/
theorem read1 {e : EltTy} (m : Memref sig .tc .vmem S4096x512 e) (hm : m.IsWhole) (X : Vec F S4096x512 e) (k : Fin k0_t1_loop.trips) :
    m.view.readAt (Elt F) (Rect.unit (s := S4096x512) (k0_off1 k) S256x128.size (k0_off1_inb k)).toLoadRect (hm.unread X)
      = tile X 0 (Fin.cast trips1 k) := funext fun z => (hm.readAt_unread X _ z).trans (congrArg X (idx_ext2
        (congrArg₂ (· + ·) (congrFun (off1_eq k) 0) (Nat.one_mul _))
        (congrArg₂ (· + ·) (congrFun (off1_eq k) 1) (Nat.one_mul _))))

/-- Group 0's first loop. -/
theorem loop1 (v8 : Vec F S1x128x128 .f32) (v11 : Vec F S1x128 .f32) (init : FVec F S1x128 .f32 × FVec F S128x128 .f32) :
    st_k0_t1 (F := F) 𝒱 c bd arg0 harg0 arg1 harg1 arg2 harg2 arg3 harg3 arg4 harg4 arg5 harg5 arg6 harg6 arg7 harg7 arg8 harg8 v8 v11 (harg0.unread x0) (harg1.unread x1) (harg2.unread x2) init k0_t1_loop.trips
      = (carried (fun k acc => (k0_pay16 acc.1 (tile x0 0 (Fin.cast trips1 k)) (tile x1 0 (Fin.cast trips1 k)), k0_pay18 v11 acc.2 (tile x0 0 (Fin.cast trips1 k)) (tile x2 0 (Fin.cast trips1 k)))) init k0_t1_loop.trips,
        tilesBefore (fun k : Fin k0_t1_loop.trips => ⟨Rect.unit (s := S4112x512) (k0_off2 k) S256x128.size (k0_off2_inb k), k0_pay19 v8 v11 k (tile x0 0 (Fin.cast trips1 k))⟩) k0_t1_loop.trips) := by
  refine state_eq (N := k0_t1_loop.trips) _ _ _ init rfl (fun k => (st_k0_t1_succ 𝒱 c bd arg0 harg0 arg1 harg1 arg2 harg2 arg3 harg3 arg4 harg4 arg5 harg5 arg6 harg6 arg7 harg7 arg8 harg8 v8 v11 _ _ _ init k).trans ?_) _ le_rfl
  simp only [← read1 arg0 harg0 x0 k, ← read1 arg1 harg1 x1 k, ← read1 arg2 harg2 x2 k]
  unfold tripR_k0_t1 tripL_k0_t1 trip_k0_t1
  rfl

/-- Group 1's tiles number 16. -/
theorem trips3 : k0_t3_loop.trips = 16 := by decide

/-- Where trip `k` of group 1's first loop reads and stores. -/
theorem off5_eq : ∀ k : Fin k0_t3_loop.trips, k0_off5 k = ![256 * k.val, 128] := by decide +kernel
theorem off6_eq : ∀ k : Fin k0_t3_loop.trips, k0_off6 k = ![8 + 256 * k.val, 128] := by decide +kernel

/-- Reading the rows of trip `k` of group 1 reads that tile. -/
theorem read5 {e : EltTy} (m : Memref sig .tc .vmem S4096x512 e) (hm : m.IsWhole) (X : Vec F S4096x512 e) (k : Fin k0_t3_loop.trips) :
    m.view.readAt (Elt F) (Rect.unit (s := S4096x512) (k0_off5 k) S256x128.size (k0_off5_inb k)).toLoadRect (hm.unread X)
      = tile X 1 (Fin.cast trips3 k) := funext fun z => (hm.readAt_unread X _ z).trans (congrArg X (idx_ext2
        (congrArg₂ (· + ·) (congrFun (off5_eq k) 0) (Nat.one_mul _))
        (congrArg₂ (· + ·) (congrFun (off5_eq k) 1) (Nat.one_mul _))))

/-- Group 1's first loop. -/
theorem loop3 (v8 : FVec F S128x128 .bf16) (v11 : Vec F S1x128 .f32) (init : FVec F S1x128 .f32 × FVec F S128x128 .f32) :
    st_k0_t3 (F := F) 𝒱 c bd arg0 harg0 arg1 harg1 arg2 harg2 arg3 harg3 arg4 harg4 arg5 harg5 arg6 harg6 arg7 harg7 arg8 harg8 v8 v11 (harg0.unread x0) (harg1.unread x1) (harg2.unread x2) init k0_t3_loop.trips
      = (carried (fun k acc => (k0_pay26 acc.1 (tile x0 1 (Fin.cast trips3 k)) (tile x1 1 (Fin.cast trips3 k)), k0_pay28 v11 acc.2 (tile x0 1 (Fin.cast trips3 k)) (tile x2 1 (Fin.cast trips3 k)))) init k0_t3_loop.trips,
        tilesBefore (fun k : Fin k0_t3_loop.trips => ⟨Rect.unit (s := S4112x512) (k0_off6 k) S256x128.size (k0_off6_inb k), k0_pay29 v8 v11 k (tile x0 1 (Fin.cast trips3 k))⟩) k0_t3_loop.trips) := by
  refine state_eq (N := k0_t3_loop.trips) _ _ _ init rfl (fun k => (st_k0_t3_succ 𝒱 c bd arg0 harg0 arg1 harg1 arg2 harg2 arg3 harg3 arg4 harg4 arg5 harg5 arg6 harg6 arg7 harg7 arg8 harg8 v8 v11 _ _ _ init k).trans ?_) _ le_rfl
  simp only [← read5 arg0 harg0 x0 k, ← read5 arg1 harg1 x1 k, ← read5 arg2 harg2 x2 k]
  unfold tripR_k0_t3 tripL_k0_t3 trip_k0_t3
  rfl

/-- Group 2's tiles number 16. -/
theorem trips5 : k0_t5_loop.trips = 16 := by decide

/-- Where trip `k` of group 2's first loop reads and stores. -/
theorem off9_eq : ∀ k : Fin k0_t5_loop.trips, k0_off9 k = ![256 * k.val, 256] := by decide +kernel
theorem off10_eq : ∀ k : Fin k0_t5_loop.trips, k0_off10 k = ![8 + 256 * k.val, 256] := by decide +kernel

/-- Reading the rows of trip `k` of group 2 reads that tile. -/
theorem read9 {e : EltTy} (m : Memref sig .tc .vmem S4096x512 e) (hm : m.IsWhole) (X : Vec F S4096x512 e) (k : Fin k0_t5_loop.trips) :
    m.view.readAt (Elt F) (Rect.unit (s := S4096x512) (k0_off9 k) S256x128.size (k0_off9_inb k)).toLoadRect (hm.unread X)
      = tile X 2 (Fin.cast trips5 k) := funext fun z => (hm.readAt_unread X _ z).trans (congrArg X (idx_ext2
        (congrArg₂ (· + ·) (congrFun (off9_eq k) 0) (Nat.one_mul _))
        (congrArg₂ (· + ·) (congrFun (off9_eq k) 1) (Nat.one_mul _))))

/-- Group 2's first loop. -/
theorem loop5 (v23 : FVec F S128x128 .bf16) (v8 : Vec F S1x128x128 .f32) (v11 : Vec F S1x128 .f32) (init : FVec F S1x128 .f32 × FVec F S128x128 .f32) :
    st_k0_t5 (F := F) 𝒱 c bd arg0 harg0 arg1 harg1 arg2 harg2 arg3 harg3 arg4 harg4 arg5 harg5 arg6 harg6 arg7 harg7 arg8 harg8 v23 v8 v11 (harg0.unread x0) (harg1.unread x1) (harg2.unread x2) init k0_t5_loop.trips
      = (carried (fun k acc => (k0_pay35 acc.1 (tile x0 2 (Fin.cast trips5 k)) (tile x1 2 (Fin.cast trips5 k)), k0_pay37 v11 acc.2 (tile x0 2 (Fin.cast trips5 k)) (tile x2 2 (Fin.cast trips5 k)))) init k0_t5_loop.trips,
        tilesBefore (fun k : Fin k0_t5_loop.trips => ⟨Rect.unit (s := S4112x512) (k0_off10 k) S256x128.size (k0_off10_inb k), k0_pay38 v8 v11 k (tile x0 2 (Fin.cast trips5 k))⟩) k0_t5_loop.trips) := by
  refine state_eq (N := k0_t5_loop.trips) _ _ _ init rfl (fun k => (st_k0_t5_succ 𝒱 c bd arg0 harg0 arg1 harg1 arg2 harg2 arg3 harg3 arg4 harg4 arg5 harg5 arg6 harg6 arg7 harg7 arg8 harg8 v23 v8 v11 _ _ _ init k).trans ?_) _ le_rfl
  simp only [← read9 arg0 harg0 x0 k, ← read9 arg1 harg1 x1 k, ← read9 arg2 harg2 x2 k]
  unfold tripR_k0_t5 tripL_k0_t5 trip_k0_t5
  rfl

/-- Group 3's tiles number 16. -/
theorem trips7 : k0_t7_loop.trips = 16 := by decide

/-- Where trip `k` of group 3's first loop reads and stores. -/
theorem off13_eq : ∀ k : Fin k0_t7_loop.trips, k0_off13 k = ![256 * k.val, 384] := by decide +kernel
theorem off14_eq : ∀ k : Fin k0_t7_loop.trips, k0_off14 k = ![8 + 256 * k.val, 384] := by decide +kernel

/-- Reading the rows of trip `k` of group 3 reads that tile. -/
theorem read13 {e : EltTy} (m : Memref sig .tc .vmem S4096x512 e) (hm : m.IsWhole) (X : Vec F S4096x512 e) (k : Fin k0_t7_loop.trips) :
    m.view.readAt (Elt F) (Rect.unit (s := S4096x512) (k0_off13 k) S256x128.size (k0_off13_inb k)).toLoadRect (hm.unread X)
      = tile X 3 (Fin.cast trips7 k) := funext fun z => (hm.readAt_unread X _ z).trans (congrArg X (idx_ext2
        (congrArg₂ (· + ·) (congrFun (off13_eq k) 0) (Nat.one_mul _))
        (congrArg₂ (· + ·) (congrFun (off13_eq k) 1) (Nat.one_mul _))))

/-- Group 3's first loop. -/
theorem loop7 (v8 : Vec F S1x128x128 .f32) (v11 : Vec F S1x128 .f32) (init : FVec F S1x128 .f32 × FVec F S128x128 .f32) :
    st_k0_t7 (F := F) 𝒱 c bd arg0 harg0 arg1 harg1 arg2 harg2 arg3 harg3 arg4 harg4 arg5 harg5 arg6 harg6 arg7 harg7 arg8 harg8 v8 v11 (harg0.unread x0) (harg1.unread x1) (harg2.unread x2) init k0_t7_loop.trips
      = (carried (fun k acc => (k0_pay5 acc.1 (tile x0 3 (Fin.cast trips7 k)) (tile x1 3 (Fin.cast trips7 k)), k0_pay7 v11 acc.2 (tile x0 3 (Fin.cast trips7 k)) (tile x2 3 (Fin.cast trips7 k)))) init k0_t7_loop.trips,
        tilesBefore (fun k : Fin k0_t7_loop.trips => ⟨Rect.unit (s := S4112x512) (k0_off14 k) S256x128.size (k0_off14_inb k), k0_pay8 v8 v11 k (tile x0 3 (Fin.cast trips7 k))⟩) k0_t7_loop.trips) := by
  refine state_eq (N := k0_t7_loop.trips) _ _ _ init rfl (fun k => (st_k0_t7_succ 𝒱 c bd arg0 harg0 arg1 harg1 arg2 harg2 arg3 harg3 arg4 harg4 arg5 harg5 arg6 harg6 arg7 harg7 arg8 harg8 v8 v11 _ _ _ init k).trans ?_) _ le_rfl
  simp only [← read13 arg0 harg0 x0 k, ← read13 arg1 harg1 x1 k, ← read13 arg2 harg2 x2 k]
  unfold tripR_k0_t7 tripL_k0_t7 trip_k0_t7
  rfl

/-- Group 0's tiles number 16. -/
theorem trips2 : k0_t2_loop.trips = 16 := by decide

/-- Where trip `k` of group 0's second loop reads and stores. -/
theorem off3_eq : ∀ k : Fin k0_t2_loop.trips, k0_off3 k = ![256 * k.val, 0] := by decide +kernel
theorem off4_eq : ∀ k : Fin k0_t2_loop.trips, k0_off4 k = ![256 * k.val, 0] := by decide +kernel

/-- Group 0's second loop. -/
theorem loop2  (X8 : BufTy.Contents (Elt F) arg8.view.ty) :
    pb_k0_t2 (F := F) 𝒱 c bd arg0 harg0 arg1 harg1 arg2 harg2 arg3 harg3 arg4 harg4 arg5 harg5 arg6 harg6 arg7 harg7 arg8 harg8  X8 k0_t2_loop.trips
      = tilesBefore (fun k : Fin k0_t2_loop.trips => ⟨Rect.unit (s := S4096x512) (k0_off4 k) S256x128.size (k0_off4_inb k),
          k0_pay21  k (arg8.view.readAt (Elt F) (Rect.unit (s := S4112x512) (k0_off3 k) S272x128.size (k0_off3_inb k)).toLoadRect X8)⟩) k0_t2_loop.trips := by
  refine pieces_eq (N := k0_t2_loop.trips) _ _ rfl (fun k => (pb_k0_t2_succ 𝒱 c bd arg0 harg0 arg1 harg1 arg2 harg2 arg3 harg3 arg4 harg4 arg5 harg5 arg6 harg6 arg7 harg7 arg8 harg8  X8 k).trans ?_) _ le_rfl
  unfold tripL_k0_t2 trip_k0_t2
  rfl

/-- Group 1's tiles number 16. -/
theorem trips4 : k0_t4_loop.trips = 16 := by decide

/-- Where trip `k` of group 1's second loop reads and stores. -/
theorem off7_eq : ∀ k : Fin k0_t4_loop.trips, k0_off7 k = ![256 * k.val, 128] := by decide +kernel
theorem off8_eq : ∀ k : Fin k0_t4_loop.trips, k0_off8 k = ![256 * k.val, 128] := by decide +kernel

/-- Group 1's second loop. -/
theorem loop4 (v23 : FVec F S128x128 .bf16) (X8 : BufTy.Contents (Elt F) arg8.view.ty) :
    pb_k0_t4 (F := F) 𝒱 c bd arg0 harg0 arg1 harg1 arg2 harg2 arg3 harg3 arg4 harg4 arg5 harg5 arg6 harg6 arg7 harg7 arg8 harg8 v23 X8 k0_t4_loop.trips
      = tilesBefore (fun k : Fin k0_t4_loop.trips => ⟨Rect.unit (s := S4096x512) (k0_off8 k) S256x128.size (k0_off8_inb k),
          k0_pay31  k (arg8.view.readAt (Elt F) (Rect.unit (s := S4112x512) (k0_off7 k) S272x128.size (k0_off7_inb k)).toLoadRect X8)⟩) k0_t4_loop.trips := by
  refine pieces_eq (N := k0_t4_loop.trips) _ _ rfl (fun k => (pb_k0_t4_succ 𝒱 c bd arg0 harg0 arg1 harg1 arg2 harg2 arg3 harg3 arg4 harg4 arg5 harg5 arg6 harg6 arg7 harg7 arg8 harg8 v23 X8 k).trans ?_) _ le_rfl
  unfold tripL_k0_t4 trip_k0_t4
  rfl

/-- Group 2's tiles number 16. -/
theorem trips6 : k0_t6_loop.trips = 16 := by decide

/-- Where trip `k` of group 2's second loop reads and stores. -/
theorem off11_eq : ∀ k : Fin k0_t6_loop.trips, k0_off11 k = ![256 * k.val, 256] := by decide +kernel
theorem off12_eq : ∀ k : Fin k0_t6_loop.trips, k0_off12 k = ![256 * k.val, 256] := by decide +kernel

/-- Group 2's second loop. -/
theorem loop6 (c0 : BitVec 32) (X8 : BufTy.Contents (Elt F) arg8.view.ty) :
    pb_k0_t6 (F := F) 𝒱 c bd arg0 harg0 arg1 harg1 arg2 harg2 arg3 harg3 arg4 harg4 arg5 harg5 arg6 harg6 arg7 harg7 arg8 harg8 c0 X8 k0_t6_loop.trips
      = tilesBefore (fun k : Fin k0_t6_loop.trips => ⟨Rect.unit (s := S4096x512) (k0_off12 k) S256x128.size (k0_off12_inb k),
          k0_pay1 c0 k (arg8.view.readAt (Elt F) (Rect.unit (s := S4112x512) (k0_off11 k) S272x128.size (k0_off11_inb k)).toLoadRect X8)⟩) k0_t6_loop.trips := by
  refine pieces_eq (N := k0_t6_loop.trips) _ _ rfl (fun k => (pb_k0_t6_succ 𝒱 c bd arg0 harg0 arg1 harg1 arg2 harg2 arg3 harg3 arg4 harg4 arg5 harg5 arg6 harg6 arg7 harg7 arg8 harg8 c0 X8 k).trans ?_) _ le_rfl
  unfold tripL_k0_t6 trip_k0_t6
  rfl

/-- Group 3's tiles number 16. -/
theorem trips8 : k0_t8_loop.trips = 16 := by decide

/-- Where trip `k` of group 3's second loop reads and stores. -/
theorem off15_eq : ∀ k : Fin k0_t8_loop.trips, k0_off15 k = ![256 * k.val, 384] := by decide +kernel
theorem off16_eq : ∀ k : Fin k0_t8_loop.trips, k0_off16 k = ![256 * k.val, 384] := by decide +kernel

/-- Group 3's second loop. -/
theorem loop8  (X8 : BufTy.Contents (Elt F) arg8.view.ty) :
    pb_k0_t8 (F := F) 𝒱 c bd arg0 harg0 arg1 harg1 arg2 harg2 arg3 harg3 arg4 harg4 arg5 harg5 arg6 harg6 arg7 harg7 arg8 harg8  X8 k0_t8_loop.trips
      = tilesBefore (fun k : Fin k0_t8_loop.trips => ⟨Rect.unit (s := S4096x512) (k0_off16 k) S256x128.size (k0_off16_inb k),
          k0_pay10  k (arg8.view.readAt (Elt F) (Rect.unit (s := S4112x512) (k0_off15 k) S272x128.size (k0_off15_inb k)).toLoadRect X8)⟩) k0_t8_loop.trips := by
  refine pieces_eq (N := k0_t8_loop.trips) _ _ rfl (fun k => (pb_k0_t8_succ 𝒱 c bd arg0 harg0 arg1 harg1 arg2 harg2 arg3 harg3 arg4 harg4 arg5 harg5 arg6 harg6 arg7 harg7 arg8 harg8  X8 k).trans ?_) _ le_rfl
  unfold tripL_k0_t8 trip_k0_t8
  rfl

end Cert.Step.PoolBwd

end
-- ==== Proof.Step.PoolRun.lean ====
/-
The run of the pooling mixer's backward kernel: what its body leaves in its three results, over any float values.
-/
module

public import proofs.«01_k».proof.Proof.Gen.PoolBwdIdeal.Frame
public import proofs.«01_k».proof.Proof.Gen.PoolBwdIdeal.Loops
public import Idealize.ShloMosaic.Lib.Pipeline.ValueKit
public import Idealize.ShloMosaic.Lib.WritesUnit

@[expose] public section

set_option maxRecDepth 16384

noncomputable section

namespace Cert.Step.PoolBwd

open Cert.PoolBwdIdeal Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces that the body writes into its three results (last first), from its inputs `x0 … x4` and from what
    the padding buffer held before (`ds`), with the proof that the body runs to the continuation holding them. -/
def bodyRun (c : Dev nD) (arg0 : Memref sig .tc .vmem S4096x512 .bf16) (harg0 : arg0.IsWhole) (arg1 : Memref sig .tc .vmem S4096x512 .bf16) (harg1 : arg1.IsWhole) (arg2 : Memref sig .tc .vmem S4096x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S4x128x128 .f32) (harg7 : arg7.IsWhole) (arg8 : Memref sig .tc .vmem S4112x512 .f32) (harg8 : arg8.IsWhole)
    (x0 : Vec F S4096x512 .bf16) (x1 : Vec F S4096x512 .bf16) (x2 : Vec F S4096x512 .bf16) (x3 : Vec F S4x128x128 .f32) (x4 : Vec F S1x512 .f32) (ds : Vec F S4112x512 .f32) :
    Σ' (L5 : List (View.Piece (Elt F) S4096x512 .bf16)), Σ' (L6 : List (View.Piece (Elt F) S1x512 .f32)), { L7 : List (View.Piece (Elt F) S4x128x128 .f32) //
      ∀ (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare ds
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
              ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ d, owns (c : Thread nD τ) arg8 fullShare d)) -∗ K ⟨⟩))
          ⊢ wp frame (wpE (defs₀ (F := F)) Variants.none c none) Set.univ (cc0_pool_bwd arg0 harg0 arg1 harg1 arg2 harg2 arg3 harg3 arg4 harg4 arg5 harg5 arg6 harg6 arg7 harg7 arg8 harg8) K } := by
  refine ⟨?_, ?_, ?_, fun K => ?run⟩
  case run =>
    simp only [cc0_pool_bwd_eq_skeleton]; unfold cc0_pool_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg0.eq_unread hf0; obtain rfl := harg1.eq_unread hf1; obtain rfl := harg2.eq_unread hf2
    obtain rfl := harg3.eq_unread hf3; obtain rfl := harg4.eq_unread hf4; obtain rfl := harg8.eq_unread hfs
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _, _; isplitr; swap; · iexact HS
    ipureintro; rfl

end Cert.Step.PoolBwd

end
-- ==== Proof.Step.PoolOut.lean ====
/-
What the pooling mixer's backward kernel leaves in its three results, of its five arguments.
-/
module

public import proofs.«01_k».proof.Proof.Gen.PoolBwdIdeal.Frame
public import proofs.«01_k».proof.Proof.Gen.PoolBwdIdeal.Loops
public import Idealize.ShloMosaic.Lib.Pipeline.ValueKit
public import proofs.«01_k».proof.Proof.Step.PoolLoops
public import proofs.«01_k».proof.Proof.Step.PoolRun

@[expose] public section

set_option maxRecDepth 16384

noncomputable section

namespace Cert.Step.PoolBwd

open Cert.Step.Pool Cert.PoolBwdIdeal Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Group `g`'s matrix. -/
def mat (x : Vec F S4x128x128 .f32) (g : Fin 4) : Vec F S1x128x128 .f32 := fun z => x (ix3 g (z 1) (z 2))

/-- Group `g`'s 128 scales. -/
def scales (x : Vec F S1x512 .f32) (g : Fin 4) : Vec F S1x128 .f32 := fun z =>
  x (ix2 0 ⟨128 * g.val + (z 1).val, by have h : (z 1).val < 128 := (z 1).isLt; have := g.isLt; omega⟩)

/-- Group 0: a tile of the cotangent of the pooled rows, over their count. -/
def cot0 (x0 : Vec F S4096x512 .bf16) (x3 : Vec F S4x128x128 .f32) (x4 : Vec F S1x512 .f32) (k : Fin k0_t1_loop.trips) : (⟨2, ![256, 128]⟩ : Shape).Idx → Elt F .f32 :=
  k0_pay19 (mat x3 0) (scales x4 0) k (tile x0 0 (Fin.cast trips1 k))

/-- Group 0: what its first loop carries out, a row of 128 sums and a 128 × 128 matrix. -/
def sums0 (x0 x1 x2 : Vec F S4096x512 .bf16) (x4 : Vec F S1x512 .f32) : FVec F S1x128 .f32 × FVec F S128x128 .f32 :=
  carried (fun (k : Fin k0_t1_loop.trips) acc =>
    (k0_pay16 acc.1 (tile x0 0 (Fin.cast trips1 k)) (tile x1 0 (Fin.cast trips1 k)),
      k0_pay18 (scales x4 0) acc.2 (tile x0 0 (Fin.cast trips1 k)) (tile x2 0 (Fin.cast trips1 k)))) (k0_pay13, k0_pay14) k0_t1_loop.trips

/-- Group 0's tiles in the padded buffer, before those stored earlier. -/
def pad0 (x0 : Vec F S4096x512 .bf16) (x3 : Vec F S4x128x128 .f32) (x4 : Vec F S1x512 .f32) : List (View.Piece (Elt F) S4112x512 .f32) :=
  tilesBefore (fun k : Fin k0_t1_loop.trips => ⟨Rect.unit (s := S4112x512) (k0_off2 k) S256x128.size (k0_off2_inb k), cot0 x0 x3 x4 k⟩) k0_t1_loop.trips
    ++ [⟨Rect.unit (s := S4112x512) ![4104, 0] S8x512.size inb_S4112x512_S8x512_4104_0, k0_pay12⟩, ⟨Rect.unit (s := S4112x512) ![0, 0] S8x512.size inb_S4112x512_S8x512_0_0, k0_pay11⟩]

/-- Group 1: a tile of the cotangent of the pooled rows, over their count. -/
def cot1 (x0 : Vec F S4096x512 .bf16) (x3 : Vec F S4x128x128 .f32) (x4 : Vec F S1x512 .f32) (k : Fin k0_t3_loop.trips) : (⟨2, ![256, 128]⟩ : Shape).Idx → Elt F .f32 :=
  k0_pay29 (k0_pay22 (mat x3 1)) (scales x4 1) k (tile x0 1 (Fin.cast trips3 k))

/-- Group 1: what its first loop carries out, a row of 128 sums and a 128 × 128 matrix. -/
def sums1 (x0 x1 x2 : Vec F S4096x512 .bf16) (x4 : Vec F S1x512 .f32) : FVec F S1x128 .f32 × FVec F S128x128 .f32 :=
  carried (fun (k : Fin k0_t3_loop.trips) acc =>
    (k0_pay26 acc.1 (tile x0 1 (Fin.cast trips3 k)) (tile x1 1 (Fin.cast trips3 k)),
      k0_pay28 (scales x4 1) acc.2 (tile x0 1 (Fin.cast trips3 k)) (tile x2 1 (Fin.cast trips3 k)))) (k0_pay23, k0_pay24) k0_t3_loop.trips

/-- Group 1's tiles in the padded buffer, before those stored earlier. -/
def pad1 (x0 : Vec F S4096x512 .bf16) (x3 : Vec F S4x128x128 .f32) (x4 : Vec F S1x512 .f32) : List (View.Piece (Elt F) S4112x512 .f32) :=
  tilesBefore (fun k : Fin k0_t3_loop.trips => ⟨Rect.unit (s := S4112x512) (k0_off6 k) S256x128.size (k0_off6_inb k), cot1 x0 x3 x4 k⟩) k0_t3_loop.trips
    ++ pad0 x0 x3 x4

/-- Group 2: a tile of the cotangent of the pooled rows, over their count. -/
def cot2 (x0 : Vec F S4096x512 .bf16) (x3 : Vec F S4x128x128 .f32) (x4 : Vec F S1x512 .f32) (k : Fin k0_t5_loop.trips) : (⟨2, ![256, 128]⟩ : Shape).Idx → Elt F .f32 :=
  k0_pay38 (mat x3 2) (scales x4 2) k (tile x0 2 (Fin.cast trips5 k))

/-- Group 2: what its first loop carries out, a row of 128 sums and a 128 × 128 matrix. -/
def sums2 (x0 x1 x2 : Vec F S4096x512 .bf16) (x4 : Vec F S1x512 .f32) : FVec F S1x128 .f32 × FVec F S128x128 .f32 :=
  carried (fun (k : Fin k0_t5_loop.trips) acc =>
    (k0_pay35 acc.1 (tile x0 2 (Fin.cast trips5 k)) (tile x1 2 (Fin.cast trips5 k)),
      k0_pay37 (scales x4 2) acc.2 (tile x0 2 (Fin.cast trips5 k)) (tile x2 2 (Fin.cast trips5 k)))) (k0_pay32, k0_pay33) k0_t5_loop.trips

/-- Group 2's tiles in the padded buffer, before those stored earlier. -/
def pad2 (x0 : Vec F S4096x512 .bf16) (x3 : Vec F S4x128x128 .f32) (x4 : Vec F S1x512 .f32) : List (View.Piece (Elt F) S4112x512 .f32) :=
  tilesBefore (fun k : Fin k0_t5_loop.trips => ⟨Rect.unit (s := S4112x512) (k0_off10 k) S256x128.size (k0_off10_inb k), cot2 x0 x3 x4 k⟩) k0_t5_loop.trips
    ++ pad1 x0 x3 x4

/-- Group 3: a tile of the cotangent of the pooled rows, over their count. -/
def cot3 (x0 : Vec F S4096x512 .bf16) (x3 : Vec F S4x128x128 .f32) (x4 : Vec F S1x512 .f32) (k : Fin k0_t7_loop.trips) : (⟨2, ![256, 128]⟩ : Shape).Idx → Elt F .f32 :=
  k0_pay8 (mat x3 3) (scales x4 3) k (tile x0 3 (Fin.cast trips7 k))

/-- Group 3: what its first loop carries out, a row of 128 sums and a 128 × 128 matrix. -/
def sums3 (x0 x1 x2 : Vec F S4096x512 .bf16) (x4 : Vec F S1x512 .f32) : FVec F S1x128 .f32 × FVec F S128x128 .f32 :=
  carried (fun (k : Fin k0_t7_loop.trips) acc =>
    (k0_pay5 acc.1 (tile x0 3 (Fin.cast trips7 k)) (tile x1 3 (Fin.cast trips7 k)),
      k0_pay7 (scales x4 3) acc.2 (tile x0 3 (Fin.cast trips7 k)) (tile x2 3 (Fin.cast trips7 k)))) (k0_pay2, k0_pay3) k0_t7_loop.trips

/-- Group 3's tiles in the padded buffer, before those stored earlier. -/
def pad3 (x0 : Vec F S4096x512 .bf16) (x3 : Vec F S4x128x128 .f32) (x4 : Vec F S1x512 .f32) : List (View.Piece (Elt F) S4112x512 .f32) :=
  tilesBefore (fun k : Fin k0_t7_loop.trips => ⟨Rect.unit (s := S4112x512) (k0_off14 k) S256x128.size (k0_off14_inb k), cot3 x0 x3 x4 k⟩) k0_t7_loop.trips
    ++ pad2 x0 x3 x4

variable (c : Dev nD)
  (arg0 : Memref sig .tc .vmem S4096x512 .bf16) (harg0 : arg0.IsWhole) (arg1 : Memref sig .tc .vmem S4096x512 .bf16) (harg1 : arg1.IsWhole) (arg2 : Memref sig .tc .vmem S4096x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S4x128x128 .f32) (harg7 : arg7.IsWhole) (arg8 : Memref sig .tc .vmem S4112x512 .f32) (harg8 : arg8.IsWhole)
  (x0 : Vec F S4096x512 .bf16) (x1 : Vec F S4096x512 .bf16) (x2 : Vec F S4096x512 .bf16) (x3 : Vec F S4x128x128 .f32) (x4 : Vec F S1x512 .f32) (ds : Vec F S4112x512 .f32)

theorem readMat0 : arg3.view.readAt (Elt F) (Rect.unit (s := S4x128x128) ![0, 0, 0] S1x128x128.size inb_S4x128x128_S1x128x128_0_0_0).toLoadRect (harg3.unread x3) = mat x3 0 :=
  funext fun z => (harg3.readAt_unread x3 _ z).trans (congrArg x3 (funext fun a => match a with
    | ⟨0, _⟩ => Fin.ext (by have h : (z 0).val < 1 := (z 0).isLt; show 0 + 1 * (z 0).val = 0; omega)
    | ⟨1, _⟩ => Fin.ext (by show 0 + 1 * (z 1).val = (z 1).val; omega)
    | ⟨2, _⟩ => Fin.ext (by show 0 + 1 * (z 2).val = (z 2).val; omega)))

theorem readScales0 : arg4.view.readAt (Elt F) (Rect.unit (s := S1x512) ![0, 0] S1x128.size inb_S1x512_S1x128_0_0).toLoadRect (harg4.unread x4) = scales x4 0 :=
  funext fun z => (harg4.readAt_unread x4 _ z).trans (congrArg x4 (funext fun a => match a with
    | ⟨0, _⟩ => Fin.ext (by have h : (z 0).val < 1 := (z 0).isLt; show 0 + 1 * (z 0).val = 0; omega)
    | ⟨1, _⟩ => Fin.ext (by show 0 + 1 * (z 1).val = 128 * 0 + (z 1).val; omega)))

theorem readMat1 : arg3.view.readAt (Elt F) (Rect.unit (s := S4x128x128) ![1, 0, 0] S1x128x128.size inb_S4x128x128_S1x128x128_1_0_0).toLoadRect (harg3.unread x3) = mat x3 1 :=
  funext fun z => (harg3.readAt_unread x3 _ z).trans (congrArg x3 (funext fun a => match a with
    | ⟨0, _⟩ => Fin.ext (by have h : (z 0).val < 1 := (z 0).isLt; show 1 + 1 * (z 0).val = 1; omega)
    | ⟨1, _⟩ => Fin.ext (by show 0 + 1 * (z 1).val = (z 1).val; omega)
    | ⟨2, _⟩ => Fin.ext (by show 0 + 1 * (z 2).val = (z 2).val; omega)))

theorem readScales1 : arg4.view.readAt (Elt F) (Rect.unit (s := S1x512) ![0, 128] S1x128.size inb_S1x512_S1x128_0_128).toLoadRect (harg4.unread x4) = scales x4 1 :=
  funext fun z => (harg4.readAt_unread x4 _ z).trans (congrArg x4 (funext fun a => match a with
    | ⟨0, _⟩ => Fin.ext (by have h : (z 0).val < 1 := (z 0).isLt; show 0 + 1 * (z 0).val = 0; omega)
    | ⟨1, _⟩ => Fin.ext (by show 128 + 1 * (z 1).val = 128 * 1 + (z 1).val; omega)))

theorem readMat2 : arg3.view.readAt (Elt F) (Rect.unit (s := S4x128x128) ![2, 0, 0] S1x128x128.size inb_S4x128x128_S1x128x128_2_0_0).toLoadRect (harg3.unread x3) = mat x3 2 :=
  funext fun z => (harg3.readAt_unread x3 _ z).trans (congrArg x3 (funext fun a => match a with
    | ⟨0, _⟩ => Fin.ext (by have h : (z 0).val < 1 := (z 0).isLt; show 2 + 1 * (z 0).val = 2; omega)
    | ⟨1, _⟩ => Fin.ext (by show 0 + 1 * (z 1).val = (z 1).val; omega)
    | ⟨2, _⟩ => Fin.ext (by show 0 + 1 * (z 2).val = (z 2).val; omega)))

theorem readScales2 : arg4.view.readAt (Elt F) (Rect.unit (s := S1x512) ![0, 256] S1x128.size inb_S1x512_S1x128_0_256).toLoadRect (harg4.unread x4) = scales x4 2 :=
  funext fun z => (harg4.readAt_unread x4 _ z).trans (congrArg x4 (funext fun a => match a with
    | ⟨0, _⟩ => Fin.ext (by have h : (z 0).val < 1 := (z 0).isLt; show 0 + 1 * (z 0).val = 0; omega)
    | ⟨1, _⟩ => Fin.ext (by show 256 + 1 * (z 1).val = 128 * 2 + (z 1).val; omega)))

theorem readMat3 : arg3.view.readAt (Elt F) (Rect.unit (s := S4x128x128) ![3, 0, 0] S1x128x128.size inb_S4x128x128_S1x128x128_3_0_0).toLoadRect (harg3.unread x3) = mat x3 3 :=
  funext fun z => (harg3.readAt_unread x3 _ z).trans (congrArg x3 (funext fun a => match a with
    | ⟨0, _⟩ => Fin.ext (by have h : (z 0).val < 1 := (z 0).isLt; show 3 + 1 * (z 0).val = 3; omega)
    | ⟨1, _⟩ => Fin.ext (by show 0 + 1 * (z 1).val = (z 1).val; omega)
    | ⟨2, _⟩ => Fin.ext (by show 0 + 1 * (z 2).val = (z 2).val; omega)))

theorem readScales3 : arg4.view.readAt (Elt F) (Rect.unit (s := S1x512) ![0, 384] S1x128.size inb_S1x512_S1x128_0_384).toLoadRect (harg4.unread x4) = scales x4 3 :=
  funext fun z => (harg4.readAt_unread x4 _ z).trans (congrArg x4 (funext fun a => match a with
    | ⟨0, _⟩ => Fin.ext (by have h : (z 0).val < 1 := (z 0).isLt; show 0 + 1 * (z 0).val = 0; omega)
    | ⟨1, _⟩ => Fin.ext (by show 384 + 1 * (z 1).val = 128 * 3 + (z 1).val; omega)))

/-- Group 0's first loop, of what it reads of the matrices and the scales. -/
theorem state0 : st_k0_t1 (F := F) Variants.none c none arg0 harg0 arg1 harg1 arg2 harg2 arg3 harg3 arg4 harg4 arg5 harg5 arg6 harg6 arg7 harg7 arg8 harg8 (arg3.view.readAt (Elt F) (Rect.unit (s := S4x128x128) ![0, 0, 0] S1x128x128.size inb_S4x128x128_S1x128x128_0_0_0).toLoadRect (harg3.unread x3)) (arg4.view.readAt (Elt F) (Rect.unit (s := S1x512) ![0, 0] S1x128.size inb_S1x512_S1x128_0_0).toLoadRect (harg4.unread x4)) (harg0.unread x0) (harg1.unread x1) (harg2.unread x2) (k0_pay13, k0_pay14) k0_t1_loop.trips
    = (sums0 x0 x1 x2 x4, tilesBefore (fun k : Fin k0_t1_loop.trips => ⟨Rect.unit (s := S4112x512) (k0_off2 k) S256x128.size (k0_off2_inb k), cot0 x0 x3 x4 k⟩) k0_t1_loop.trips) := by
  rw [loop1, readScales0, readMat0]
  rfl

/-- Group 1's first loop, of what it reads of the matrices and the scales. -/
theorem state1 : st_k0_t3 (F := F) Variants.none c none arg0 harg0 arg1 harg1 arg2 harg2 arg3 harg3 arg4 harg4 arg5 harg5 arg6 harg6 arg7 harg7 arg8 harg8 (k0_pay22 (arg3.view.readAt (Elt F) (Rect.unit (s := S4x128x128) ![1, 0, 0] S1x128x128.size inb_S4x128x128_S1x128x128_1_0_0).toLoadRect (harg3.unread x3))) (arg4.view.readAt (Elt F) (Rect.unit (s := S1x512) ![0, 128] S1x128.size inb_S1x512_S1x128_0_128).toLoadRect (harg4.unread x4)) (harg0.unread x0) (harg1.unread x1) (harg2.unread x2) (k0_pay23, k0_pay24) k0_t3_loop.trips
    = (sums1 x0 x1 x2 x4, tilesBefore (fun k : Fin k0_t3_loop.trips => ⟨Rect.unit (s := S4112x512) (k0_off6 k) S256x128.size (k0_off6_inb k), cot1 x0 x3 x4 k⟩) k0_t3_loop.trips) := by
  rw [loop3, readScales1, readMat1]
  rfl

/-- Group 2's first loop, of what it reads of the matrices and the scales. -/
theorem state2 : st_k0_t5 (F := F) Variants.none c none arg0 harg0 arg1 harg1 arg2 harg2 arg3 harg3 arg4 harg4 arg5 harg5 arg6 harg6 arg7 harg7 arg8 harg8 (k0_pay22 (arg3.view.readAt (Elt F) (Rect.unit (s := S4x128x128) ![1, 0, 0] S1x128x128.size inb_S4x128x128_S1x128x128_1_0_0).toLoadRect (harg3.unread x3))) (arg3.view.readAt (Elt F) (Rect.unit (s := S4x128x128) ![2, 0, 0] S1x128x128.size inb_S4x128x128_S1x128x128_2_0_0).toLoadRect (harg3.unread x3)) (arg4.view.readAt (Elt F) (Rect.unit (s := S1x512) ![0, 256] S1x128.size inb_S1x512_S1x128_0_256).toLoadRect (harg4.unread x4)) (harg0.unread x0) (harg1.unread x1) (harg2.unread x2) (k0_pay32, k0_pay33) k0_t5_loop.trips
    = (sums2 x0 x1 x2 x4, tilesBefore (fun k : Fin k0_t5_loop.trips => ⟨Rect.unit (s := S4112x512) (k0_off10 k) S256x128.size (k0_off10_inb k), cot2 x0 x3 x4 k⟩) k0_t5_loop.trips) := by
  rw [loop5, readScales2, readMat2]
  rfl

/-- Group 3's first loop, of what it reads of the matrices and the scales. -/
theorem state3 : st_k0_t7 (F := F) Variants.none c none arg0 harg0 arg1 harg1 arg2 harg2 arg3 harg3 arg4 harg4 arg5 harg5 arg6 harg6 arg7 harg7 arg8 harg8 (arg3.view.readAt (Elt F) (Rect.unit (s := S4x128x128) ![3, 0, 0] S1x128x128.size inb_S4x128x128_S1x128x128_3_0_0).toLoadRect (harg3.unread x3)) (arg4.view.readAt (Elt F) (Rect.unit (s := S1x512) ![0, 384] S1x128.size inb_S1x512_S1x128_0_384).toLoadRect (harg4.unread x4)) (harg0.unread x0) (harg1.unread x1) (harg2.unread x2) (k0_pay2, k0_pay3) k0_t7_loop.trips
    = (sums3 x0 x1 x2 x4, tilesBefore (fun k : Fin k0_t7_loop.trips => ⟨Rect.unit (s := S4112x512) (k0_off14 k) S256x128.size (k0_off14_inb k), cot3 x0 x3 x4 k⟩) k0_t7_loop.trips) := by
  rw [loop7, readScales3, readMat3]
  rfl

/-- The pieces of the four matrices. -/
def list7 (a b c d : FVec F S128x128 .f32) : List (View.Piece (Elt F) S4x128x128 .f32) :=
  [⟨Rect.unit (s := S4x128x128) ![3, 0, 0] S1x128x128.size inb_S4x128x128_S1x128x128_3_0_0, k0_pay9 a⟩,
    ⟨Rect.unit (s := S4x128x128) ![2, 0, 0] S1x128x128.size inb_S4x128x128_S1x128x128_2_0_0, k0_pay39 b⟩,
    ⟨Rect.unit (s := S4x128x128) ![1, 0, 0] S1x128x128.size inb_S4x128x128_S1x128x128_1_0_0, k0_pay30 c⟩,
    ⟨Rect.unit (s := S4x128x128) ![0, 0, 0] S1x128x128.size inb_S4x128x128_S1x128x128_0_0_0, k0_pay20 d⟩]

/-- The pieces of the four rows of sums. -/
def list6 (a b c d : FVec F S1x128 .f32) : List (View.Piece (Elt F) S1x512 .f32) :=
  [⟨Rect.unit (s := S1x512) ![0, 384] S1x128.size inb_S1x512_S1x128_0_384, a⟩,
    ⟨Rect.unit (s := S1x512) ![0, 256] S1x128.size inb_S1x512_S1x128_0_256, b⟩,
    ⟨Rect.unit (s := S1x512) ![0, 128] S1x128.size inb_S1x512_S1x128_0_128, c⟩,
    ⟨Rect.unit (s := S1x512) ![0, 0] S1x128.size inb_S1x512_S1x128_0_0, d⟩]

theorem list7_congr {a b c d a' b' c' d' : FVec F S128x128 .f32} (ha : a = a') (hb : b = b') (hc : c = c') (hd : d = d') :
    list7 a b c d = list7 a' b' c' d' := by rw [ha, hb, hc, hd]

/-- What the body stores in the cotangents of the matrices. -/
theorem pieces7 : (bodyRun c arg0 harg0 arg1 harg1 arg2 harg2 arg3 harg3 arg4 harg4 arg5 harg5 arg6 harg6 arg7 harg7 arg8 harg8 x0 x1 x2 x3 x4 ds).2.2.1 = list7 (sums3 x0 x1 x2 x4).2 (sums2 x0 x1 x2 x4).2 (sums1 x0 x1 x2 x4).2 (sums0 x0 x1 x2 x4).2 := by
  unfold bodyRun
  dsimp only
  unfold bodyRun.sl.H7_4
  exact (list7_congr (congrArg (fun s : (FVec F S1x128 .f32 × FVec F S128x128 .f32) × List (View.Piece (Elt F) S4112x512 .f32) => s.1.2) (state3 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.2) (state2 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.2) (state1 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.2) (state0 c arg0 harg0 arg1 harg1 arg2 harg2 arg3 harg3 arg4 harg4 arg5 harg5 arg6 harg6 arg7 harg7 arg8 harg8 x0 x1 x2 x3 x4)))

theorem list6_congr {a b c d a' b' c' d' : FVec F S1x128 .f32} (ha : a = a') (hb : b = b') (hc : c = c') (hd : d = d') :
    list6 a b c d = list6 a' b' c' d' := by rw [ha, hb, hc, hd]

/-- What the body stores in the cotangents of the scales. -/
theorem pieces6 : (bodyRun c arg0 harg0 arg1 harg1 arg2 harg2 arg3 harg3 arg4 harg4 arg5 harg5 arg6 harg6 arg7 harg7 arg8 harg8 x0 x1 x2 x3 x4 ds).2.1 = list6 (sums3 x0 x1 x2 x4).1 (sums2 x0 x1 x2 x4).1 (sums1 x0 x1 x2 x4).1 (sums0 x0 x1 x2 x4).1 := by
  unfold bodyRun
  dsimp only
  unfold bodyRun.sl.H6_4
  exact (list6_congr (congrArg (fun s : (FVec F S1x128 .f32 × FVec F S128x128 .f32) × List (View.Piece (Elt F) S4112x512 .f32) => s.1.1) (state3 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.1) (state2 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.1) (state1 c arg0 harg0 arg1 harg1 arg2 harg2 arg3 harg3 arg4 harg4 arg5 harg5 arg6 harg6 arg7 harg7 arg8 harg8 x0 x1 x2 x3 x4)) (congrArg (fun s : (FVec F S1x128 .f32 × FVec F S128x128 .f32) × List (View.Piece (Elt F) S4112x512 .f32) => s.1.1) (state0 c arg0 harg0 arg1 harg1 arg2 harg2 arg3 harg3 arg4 harg4 arg5 harg5 arg6 harg6 arg7 harg7 arg8 harg8 x0 x1 x2 x3 x4)))

/-- Group 0's tiles of the result, of what the padded buffer holds. -/
def out0 : List (View.Piece (Elt F) S4096x512 .bf16) :=
  tilesBefore (fun k : Fin k0_t2_loop.trips => ⟨Rect.unit (s := S4096x512) (k0_off4 k) S256x128.size (k0_off4_inb k),
    k0_pay21 k (arg8.view.readAt (Elt F) (Rect.unit (s := S4112x512) (k0_off3 k) S272x128.size (k0_off3_inb k)).toLoadRect (arg8.view.writes (Elt F) (harg8.unread ds) (pad0 x0 x3 x4)))⟩) k0_t2_loop.trips

/-- Group 1's tiles of the result, of what the padded buffer holds. -/
def out1 : List (View.Piece (Elt F) S4096x512 .bf16) :=
  tilesBefore (fun k : Fin k0_t4_loop.trips => ⟨Rect.unit (s := S4096x512) (k0_off8 k) S256x128.size (k0_off8_inb k),
    k0_pay31 k (arg8.view.readAt (Elt F) (Rect.unit (s := S4112x512) (k0_off7 k) S272x128.size (k0_off7_inb k)).toLoadRect (arg8.view.writes (Elt F) (harg8.unread ds) (pad1 x0 x3 x4)))⟩) k0_t4_loop.trips

/-- Group 2's tiles of the result, of what the padded buffer holds. -/
def out2 : List (View.Piece (Elt F) S4096x512 .bf16) :=
  tilesBefore (fun k : Fin k0_t6_loop.trips => ⟨Rect.unit (s := S4096x512) (k0_off12 k) S256x128.size (k0_off12_inb k),
    k0_pay1 0#32 k (arg8.view.readAt (Elt F) (Rect.unit (s := S4112x512) (k0_off11 k) S272x128.size (k0_off11_inb k)).toLoadRect (arg8.view.writes (Elt F) (harg8.unread ds) (pad2 x0 x3 x4)))⟩) k0_t6_loop.trips

/-- Group 3's tiles of the result, of what the padded buffer holds. -/
def out3 : List (View.Piece (Elt F) S4096x512 .bf16) :=
  tilesBefore (fun k : Fin k0_t8_loop.trips => ⟨Rect.unit (s := S4096x512) (k0_off16 k) S256x128.size (k0_off16_inb k),
    k0_pay10 k (arg8.view.readAt (Elt F) (Rect.unit (s := S4112x512) (k0_off15 k) S272x128.size (k0_off15_inb k)).toLoadRect (arg8.view.writes (Elt F) (harg8.unread ds) (pad3 x0 x3 x4)))⟩) k0_t8_loop.trips

/-- What the body stores in the cotangent of the rows. -/
theorem pieces5 : (bodyRun c arg0 harg0 arg1 harg1 arg2 harg2 arg3 harg3 arg4 harg4 arg5 harg5 arg6 harg6 arg7 harg7 arg8 harg8 x0 x1 x2 x3 x4 ds).1
    = out3 arg8 harg8 x0 x3 x4 ds ++ (out2 arg8 harg8 x0 x3 x4 ds ++ (out1 arg8 harg8 x0 x3 x4 ds ++ out0 arg8 harg8 x0 x3 x4 ds)) := by
  unfold bodyRun
  dsimp only
  exact congrArg₂ (· ++ ·) ((loop8 Variants.none c none arg0 harg0 arg1 harg1 arg2 harg2 arg3 harg3 arg4 harg4 arg5 harg5 arg6 harg6 arg7 harg7 arg8 harg8  _).trans (congrArg (fun L => tilesBefore (fun k : Fin k0_t8_loop.trips => (⟨Rect.unit (s := S4096x512) (k0_off16 k) S256x128.size (k0_off16_inb k),
    k0_pay10 k (arg8.view.readAt (Elt F) (Rect.unit (s := S4112x512) (k0_off15 k) S272x128.size (k0_off15_inb k)).toLoadRect (arg8.view.writes (Elt F) (harg8.unread ds) L))⟩ : View.Piece (Elt F) S4096x512 .bf16)) k0_t8_loop.trips) (congrArg₂ (· ++ ·) (congrArg Prod.snd (state3 c arg0 harg0 arg1 harg1 arg2 harg2 arg3 harg3 arg4 harg4 arg5 harg5 arg6 harg6 arg7 harg7 arg8 harg8 x0 x1 x2 x3 x4)) (congrArg₂ (· ++ ·) (congrArg Prod.snd (state2 c arg0 harg0 arg1 harg1 arg2 harg2 arg3 harg3 arg4 harg4 arg5 harg5 arg6 harg6 arg7 harg7 arg8 harg8 x0 x1 x2 x3 x4)) (congrArg₂ (· ++ ·) (congrArg Prod.snd (state1 c arg0 harg0 arg1 harg1 arg2 harg2 arg3 harg3 arg4 harg4 arg5 harg5 arg6 harg6 arg7 harg7 arg8 harg8 x0 x1 x2 x3 x4)) (congrArg₂ (· ++ ·) (congrArg Prod.snd (state0 c arg0 harg0 arg1 harg1 arg2 harg2 arg3 harg3 arg4 harg4 arg5 harg5 arg6 harg6 arg7 harg7 arg8 harg8 x0 x1 x2 x3 x4)) rfl))))))
    (congrArg₂ (· ++ ·) ((loop6 Variants.none c none arg0 harg0 arg1 harg1 arg2 harg2 arg3 harg3 arg4 harg4 arg5 harg5 arg6 harg6 arg7 harg7 arg8 harg8 _ _).trans (congrArg (fun L => tilesBefore (fun k : Fin k0_t6_loop.trips => (⟨Rect.unit (s := S4096x512) (k0_off12 k) S256x128.size (k0_off12_inb k),
    k0_pay1 0#32 k (arg8.view.readAt (Elt F) (Rect.unit (s := S4112x512) (k0_off11 k) S272x128.size (k0_off11_inb k)).toLoadRect (arg8.view.writes (Elt F) (harg8.unread ds) L))⟩ : View.Piece (Elt F) S4096x512 .bf16)) k0_t6_loop.trips) (congrArg₂ (· ++ ·) (congrArg Prod.snd (state2 c arg0 harg0 arg1 harg1 arg2 harg2 arg3 harg3 arg4 harg4 arg5 harg5 arg6 harg6 arg7 harg7 arg8 harg8 x0 x1 x2 x3 x4)) (congrArg₂ (· ++ ·) (congrArg Prod.snd (state1 c arg0 harg0 arg1 harg1 arg2 harg2 arg3 harg3 arg4 harg4 arg5 harg5 arg6 harg6 arg7 harg7 arg8 harg8 x0 x1 x2 x3 x4)) (congrArg₂ (· ++ ·) (congrArg Prod.snd (state0 c arg0 harg0 arg1 harg1 arg2 harg2 arg3 harg3 arg4 harg4 arg5 harg5 arg6 harg6 arg7 harg7 arg8 harg8 x0 x1 x2 x3 x4)) rfl)))))
      (congrArg₂ (· ++ ·) ((loop4 Variants.none c none arg0 harg0 arg1 harg1 arg2 harg2 arg3 harg3 arg4 harg4 arg5 harg5 arg6 harg6 arg7 harg7 arg8 harg8 _ _).trans (congrArg (fun L => tilesBefore (fun k : Fin k0_t4_loop.trips => (⟨Rect.unit (s := S4096x512) (k0_off8 k) S256x128.size (k0_off8_inb k),
    k0_pay31 k (arg8.view.readAt (Elt F) (Rect.unit (s := S4112x512) (k0_off7 k) S272x128.size (k0_off7_inb k)).toLoadRect (arg8.view.writes (Elt F) (harg8.unread ds) L))⟩ : View.Piece (Elt F) S4096x512 .bf16)) k0_t4_loop.trips) (congrArg₂ (· ++ ·) (congrArg Prod.snd (state1 c arg0 harg0 arg1 harg1 arg2 harg2 arg3 harg3 arg4 harg4 arg5 harg5 arg6 harg6 arg7 harg7 arg8 harg8 x0 x1 x2 x3 x4)) (congrArg₂ (· ++ ·) (congrArg Prod.snd (state0 c arg0 harg0 arg1 harg1 arg2 harg2 arg3 harg3 arg4 harg4 arg5 harg5 arg6 harg6 arg7 harg7 arg8 harg8 x0 x1 x2 x3 x4)) rfl))))
        ((loop2 Variants.none c none arg0 harg0 arg1 harg1 arg2 harg2 arg3 harg3 arg4 harg4 arg5 harg5 arg6 harg6 arg7 harg7 arg8 harg8  _).trans (congrArg (fun L => tilesBefore (fun k : Fin k0_t2_loop.trips => (⟨Rect.unit (s := S4096x512) (k0_off4 k) S256x128.size (k0_off4_inb k),
    k0_pay21 k (arg8.view.readAt (Elt F) (Rect.unit (s := S4112x512) (k0_off3 k) S272x128.size (k0_off3_inb k)).toLoadRect (arg8.view.writes (Elt F) (harg8.unread ds) L))⟩ : View.Piece (Elt F) S4096x512 .bf16)) k0_t2_loop.trips) (congrArg₂ (· ++ ·) (congrArg Prod.snd (state0 c arg0 harg0 arg1 harg1 arg2 harg2 arg3 harg3 arg4 harg4 arg5 harg5 arg6 harg6 arg7 harg7 arg8 harg8 x0 x1 x2 x3 x4)) rfl)))))

end Cert.Step.PoolBwd

end
-- ==== Proof.Step.PoolRead.lean ====
/-
What the pooling mixer's backward kernel leaves in its three results, entry by entry.
-/
module

public import proofs.«01_k».proof.Proof.Gen.PoolBwdIdeal.Frame
public import proofs.«01_k».proof.Proof.Gen.PoolBwdIdeal.Loops
public import Idealize.ShloMosaic.Lib.Pipeline.ValueKit
public import proofs.«01_k».proof.Proof.Step.PoolOut
public import Idealize.ShloMosaic.Lib.WritesUnit
public import Idealize.ShloMosaic.Lib.Pipeline.ValueKit

@[expose] public section

set_option maxRecDepth 16384

noncomputable section

namespace Cert.Step.PoolBwd

open Cert.Step.Pool Cert.PoolBwdIdeal Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero that pads the rows. -/
def zero : Elt F .f32 := Scalar.ofBits .f32 0x00000000#32

section Pad

variable {κ : Kind} {sp : Space} (v : View sig κ sp S4112x512 .f32) (f : v.ty.Contents (Elt F))
  (x0 : Vec F S4096x512 .bf16) (x3 : Vec F S4x128x128 .f32) (x4 : Vec F S1x512 .f32)

/-- The two blocks of zero rows, before any tile. -/
theorem ends (y : S4112x512.Idx) (hy : (y 0).val < 8 ∨ 4104 ≤ (y 0).val) :
    v.read (Elt F) (v.writes (Elt F) f [⟨Rect.unit (s := S4112x512) ![4104, 0] S8x512.size inb_S4112x512_S8x512_4104_0, k0_pay12⟩, ⟨Rect.unit (s := S4112x512) ![0, 0] S8x512.size inb_S4112x512_S8x512_0_0, k0_pay11⟩]) y = zero := by
  rcases hy with h | h
  · exact (View.read_writes_cons_unit_of_not_mem (off' := ![4104, 0]) v f inb_S4112x512_S8x512_4104_0 _ _ y rfl 0 (Or.inl (by show (y 0).val < 4104; omega))).trans
      (View.read_writes_cons_unit_of_mem (off' := ![0, 0]) v f inb_S4112x512_S8x512_0_0 _ _ y (ix2 ⟨(y 0).val, h⟩ (y 1)) rfl fun a => match a with
        | ⟨0, _⟩ => (Nat.zero_add _).symm
        | ⟨1, _⟩ => (Nat.zero_add _).symm)
  · exact View.read_writes_cons_unit_of_mem (off' := ![4104, 0]) v f inb_S4112x512_S8x512_4104_0 _ _ y
      (ix2 ⟨(y 0).val - 4104, by have h' : (y 0).val < 4112 := (y 0).isLt; omega⟩ (y 1)) rfl fun a => match a with
        | ⟨0, _⟩ => by show (y 0).val = 4104 + ((y 0).val - 4104); omega
        | ⟨1, _⟩ => (Nat.zero_add _).symm

/-- Group 0's tiles leave the rows at the two ends zero. -/
theorem edge0 (y : S4112x512.Idx) (hy : (y 0).val < 8 ∨ 4104 ≤ (y 0).val) :
    v.read (Elt F) (v.writes (Elt F) f (pad0 x0 x3 x4)) y = zero :=
  (group_miss v f (fun k : Fin k0_t1_loop.trips => ⟨Rect.unit (s := S4112x512) (k0_off2 k) S256x128.size (k0_off2_inb k), cot0 x0 x3 x4 k⟩) _ _ (k0_off2_inb) _ (fun _ => rfl) 8 0 off2_eq y (by
    have hN : k0_t1_loop.trips = 16 := trips1
    rw [hN]; omega) k0_t1_loop.trips).trans (ends v f y hy)

/-- What trip `k` of group 0's second loop reads of the padded buffer. -/
theorem padRead0 (k : Fin k0_t2_loop.trips) :
    v.readAt (Elt F) (Rect.unit (s := S4112x512) (k0_off3 k) S272x128.size (k0_off3_inb k)).toLoadRect (v.writes (Elt F) f (pad0 x0 x3 x4))
      = halo zero (fun k => cot0 x0 x3 x4 (Fin.cast trips1.symm k)) (Fin.cast trips2 k) := funext fun z => by
  have e0 : k0_off3 k 0 = 256 * k.val := congrFun (off3_eq k) 0
  have e1 : k0_off3 k 1 = 0 := congrFun (off3_eq k) 1
  have hz : (z 0).val < 272 := (z 0).isLt
  refine (group_padded v f (fun k : Fin k0_t1_loop.trips => ⟨Rect.unit (s := S4112x512) (k0_off2 k) S256x128.size (k0_off2_inb k), cot0 x0 x3 x4 k⟩) _ _ (k0_off2_inb) _ (fun _ => rfl) 8 0 off2_eq trips1
    ((Rect.unit (s := S4112x512) (k0_off3 k) S272x128.size (k0_off3_inb k)).emb z) zero (z 1) ?_ rfl ?_).trans ?_
  · show k0_off3 k 1 + 1 * (z 1).val = 0 + (z 1).val
    rw [e1, Nat.one_mul]
  · exact ends v f _
  · exact congrArg (fun r => padded zero (fun k => cot0 x0 x3 x4 (Fin.cast trips1.symm k)) r (z 1))
      (by show k0_off3 k 0 + 1 * (z 0).val = 256 * k.val + (z 0).val; rw [e0, Nat.one_mul])

/-- Group 1's tiles leave the rows at the two ends zero. -/
theorem edge1 (y : S4112x512.Idx) (hy : (y 0).val < 8 ∨ 4104 ≤ (y 0).val) :
    v.read (Elt F) (v.writes (Elt F) f (pad1 x0 x3 x4)) y = zero :=
  (group_miss v f (fun k : Fin k0_t3_loop.trips => ⟨Rect.unit (s := S4112x512) (k0_off6 k) S256x128.size (k0_off6_inb k), cot1 x0 x3 x4 k⟩) _ _ (k0_off6_inb) _ (fun _ => rfl) 8 128 off6_eq y (by
    have hN : k0_t3_loop.trips = 16 := trips3
    rw [hN]; omega) k0_t3_loop.trips).trans (edge0 v f x0 x3 x4 y hy)

/-- What trip `k` of group 1's second loop reads of the padded buffer. -/
theorem padRead1 (k : Fin k0_t4_loop.trips) :
    v.readAt (Elt F) (Rect.unit (s := S4112x512) (k0_off7 k) S272x128.size (k0_off7_inb k)).toLoadRect (v.writes (Elt F) f (pad1 x0 x3 x4))
      = halo zero (fun k => cot1 x0 x3 x4 (Fin.cast trips3.symm k)) (Fin.cast trips4 k) := funext fun z => by
  have e0 : k0_off7 k 0 = 256 * k.val := congrFun (off7_eq k) 0
  have e1 : k0_off7 k 1 = 128 := congrFun (off7_eq k) 1
  have hz : (z 0).val < 272 := (z 0).isLt
  refine (group_padded v f (fun k : Fin k0_t3_loop.trips => ⟨Rect.unit (s := S4112x512) (k0_off6 k) S256x128.size (k0_off6_inb k), cot1 x0 x3 x4 k⟩) _ _ (k0_off6_inb) _ (fun _ => rfl) 8 128 off6_eq trips3
    ((Rect.unit (s := S4112x512) (k0_off7 k) S272x128.size (k0_off7_inb k)).emb z) zero (z 1) ?_ rfl ?_).trans ?_
  · show k0_off7 k 1 + 1 * (z 1).val = 128 + (z 1).val
    rw [e1, Nat.one_mul]
  · exact edge0 v f x0 x3 x4 _
  · exact congrArg (fun r => padded zero (fun k => cot1 x0 x3 x4 (Fin.cast trips3.symm k)) r (z 1))
      (by show k0_off7 k 0 + 1 * (z 0).val = 256 * k.val + (z 0).val; rw [e0, Nat.one_mul])

/-- Group 2's tiles leave the rows at the two ends zero. -/
theorem edge2 (y : S4112x512.Idx) (hy : (y 0).val < 8 ∨ 4104 ≤ (y 0).val) :
    v.read (Elt F) (v.writes (Elt F) f (pad2 x0 x3 x4)) y = zero :=
  (group_miss v f (fun k : Fin k0_t5_loop.trips => ⟨Rect.unit (s := S4112x512) (k0_off10 k) S256x128.size (k0_off10_inb k), cot2 x0 x3 x4 k⟩) _ _ (k0_off10_inb) _ (fun _ => rfl) 8 256 off10_eq y (by
    have hN : k0_t5_loop.trips = 16 := trips5
    rw [hN]; omega) k0_t5_loop.trips).trans (edge1 v f x0 x3 x4 y hy)

/-- What trip `k` of group 2's second loop reads of the padded buffer. -/
theorem padRead2 (k : Fin k0_t6_loop.trips) :
    v.readAt (Elt F) (Rect.unit (s := S4112x512) (k0_off11 k) S272x128.size (k0_off11_inb k)).toLoadRect (v.writes (Elt F) f (pad2 x0 x3 x4))
      = halo zero (fun k => cot2 x0 x3 x4 (Fin.cast trips5.symm k)) (Fin.cast trips6 k) := funext fun z => by
  have e0 : k0_off11 k 0 = 256 * k.val := congrFun (off11_eq k) 0
  have e1 : k0_off11 k 1 = 256 := congrFun (off11_eq k) 1
  have hz : (z 0).val < 272 := (z 0).isLt
  refine (group_padded v f (fun k : Fin k0_t5_loop.trips => ⟨Rect.unit (s := S4112x512) (k0_off10 k) S256x128.size (k0_off10_inb k), cot2 x0 x3 x4 k⟩) _ _ (k0_off10_inb) _ (fun _ => rfl) 8 256 off10_eq trips5
    ((Rect.unit (s := S4112x512) (k0_off11 k) S272x128.size (k0_off11_inb k)).emb z) zero (z 1) ?_ rfl ?_).trans ?_
  · show k0_off11 k 1 + 1 * (z 1).val = 256 + (z 1).val
    rw [e1, Nat.one_mul]
  · exact edge1 v f x0 x3 x4 _
  · exact congrArg (fun r => padded zero (fun k => cot2 x0 x3 x4 (Fin.cast trips5.symm k)) r (z 1))
      (by show k0_off11 k 0 + 1 * (z 0).val = 256 * k.val + (z 0).val; rw [e0, Nat.one_mul])

/-- Group 3's tiles leave the rows at the two ends zero. -/
theorem edge3 (y : S4112x512.Idx) (hy : (y 0).val < 8 ∨ 4104 ≤ (y 0).val) :
    v.read (Elt F) (v.writes (Elt F) f (pad3 x0 x3 x4)) y = zero :=
  (group_miss v f (fun k : Fin k0_t7_loop.trips => ⟨Rect.unit (s := S4112x512) (k0_off14 k) S256x128.size (k0_off14_inb k), cot3 x0 x3 x4 k⟩) _ _ (k0_off14_inb) _ (fun _ => rfl) 8 384 off14_eq y (by
    have hN : k0_t7_loop.trips = 16 := trips7
    rw [hN]; omega) k0_t7_loop.trips).trans (edge2 v f x0 x3 x4 y hy)

/-- What trip `k` of group 3's second loop reads of the padded buffer. -/
theorem padRead3 (k : Fin k0_t8_loop.trips) :
    v.readAt (Elt F) (Rect.unit (s := S4112x512) (k0_off15 k) S272x128.size (k0_off15_inb k)).toLoadRect (v.writes (Elt F) f (pad3 x0 x3 x4))
      = halo zero (fun k => cot3 x0 x3 x4 (Fin.cast trips7.symm k)) (Fin.cast trips8 k) := funext fun z => by
  have e0 : k0_off15 k 0 = 256 * k.val := congrFun (off15_eq k) 0
  have e1 : k0_off15 k 1 = 384 := congrFun (off15_eq k) 1
  have hz : (z 0).val < 272 := (z 0).isLt
  refine (group_padded v f (fun k : Fin k0_t7_loop.trips => ⟨Rect.unit (s := S4112x512) (k0_off14 k) S256x128.size (k0_off14_inb k), cot3 x0 x3 x4 k⟩) _ _ (k0_off14_inb) _ (fun _ => rfl) 8 384 off14_eq trips7
    ((Rect.unit (s := S4112x512) (k0_off15 k) S272x128.size (k0_off15_inb k)).emb z) zero (z 1) ?_ rfl ?_).trans ?_
  · show k0_off15 k 1 + 1 * (z 1).val = 384 + (z 1).val
    rw [e1, Nat.one_mul]
  · exact edge2 v f x0 x3 x4 _
  · exact congrArg (fun r => padded zero (fun k => cot3 x0 x3 x4 (Fin.cast trips7.symm k)) r (z 1))
      (by show k0_off15 k 0 + 1 * (z 0).val = 256 * k.val + (z 0).val; rw [e0, Nat.one_mul])

end Pad

/-- The tiles of the cotangent of the rows, group by group. -/
def dpTile (x0 : Vec F S4096x512 .bf16) (x3 : Vec F S4x128x128 .f32) (x4 : Vec F S1x512 .f32) :
    Fin 4 → Fin 16 → (⟨2, ![256, 128]⟩ : Shape).Idx → Elt F .bf16
  | 0 => fun k => k0_pay21 (Fin.cast trips2.symm k) (halo zero (fun k => cot0 x0 x3 x4 (Fin.cast trips1.symm k)) k)
  | 1 => fun k => k0_pay31 (Fin.cast trips4.symm k) (halo zero (fun k => cot1 x0 x3 x4 (Fin.cast trips3.symm k)) k)
  | 2 => fun k => k0_pay1 0#32 (Fin.cast trips6.symm k) (halo zero (fun k => cot2 x0 x3 x4 (Fin.cast trips5.symm k)) k)
  | 3 => fun k => k0_pay10 (Fin.cast trips8.symm k) (halo zero (fun k => cot3 x0 x3 x4 (Fin.cast trips7.symm k)) k)

/-- What each group's first loop carries out. -/
def sumsOf (x0 x1 x2 : Vec F S4096x512 .bf16) (x4 : Vec F S1x512 .f32) : Fin 4 → FVec F S1x128 .f32 × FVec F S128x128 .f32
  | 0 => sums0 x0 x1 x2 x4 | 1 => sums1 x0 x1 x2 x4 | 2 => sums2 x0 x1 x2 x4 | 3 => sums3 x0 x1 x2 x4

/-- The cotangent of the rows. -/
def dpOf (x0 : Vec F S4096x512 .bf16) (x3 : Vec F S4x128x128 .f32) (x4 : Vec F S1x512 .f32) : Vec F S4096x512 .bf16 := untile (dpTile x0 x3 x4)

/-- The cotangent of the scales. -/
def dscaleOf (x0 x1 x2 : Vec F S4096x512 .bf16) (x4 : Vec F S1x512 .f32) : Vec F S1x512 .f32 := fun y =>
  (sumsOf x0 x1 x2 x4 ⟨(y 1).val / 128, by have h : (y 1).val < 512 := (y 1).isLt; omega⟩).1 (ix2 0 ⟨(y 1).val % 128, by omega⟩)

/-- The cotangents of the four matrices. -/
def dwOf (x0 x1 x2 : Vec F S4096x512 .bf16) (x4 : Vec F S1x512 .f32) : Vec F S4x128x128 .f32 := fun y =>
  (sumsOf x0 x1 x2 x4 (y 0)).2 (ix2 (y 1) (y 2))

variable (c : Dev nD)
  (arg0 : Memref sig .tc .vmem S4096x512 .bf16) (harg0 : arg0.IsWhole) (arg1 : Memref sig .tc .vmem S4096x512 .bf16) (harg1 : arg1.IsWhole) (arg2 : Memref sig .tc .vmem S4096x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S4x128x128 .f32) (harg7 : arg7.IsWhole) (arg8 : Memref sig .tc .vmem S4112x512 .f32) (harg8 : arg8.IsWhole)
  (x0 : Vec F S4096x512 .bf16) (x1 : Vec F S4096x512 .bf16) (x2 : Vec F S4096x512 .bf16) (x3 : Vec F S4x128x128 .f32) (x4 : Vec F S1x512 .f32) (ds : Vec F S4112x512 .f32)

section

variable (f : arg5.view.ty.Contents (Elt F)) (L : List (View.Piece (Elt F) S4096x512 .bf16)) (y : S4096x512.Idx)

/-- Outside group 0's columns its tiles change nothing. -/
theorem outMiss0 (hy : (y 1).val < 0 ∨ 128 ≤ (y 1).val) :
    arg5.view.read (Elt F) (arg5.view.writes (Elt F) f (out0 arg8 harg8 x0 x3 x4 ds ++ L)) y = arg5.view.read (Elt F) (arg5.view.writes (Elt F) f L) y :=
  group_miss arg5.view f (fun k : Fin k0_t2_loop.trips => ⟨Rect.unit (s := S4096x512) (k0_off4 k) S256x128.size (k0_off4_inb k),
      k0_pay21 k (arg8.view.readAt (Elt F) (Rect.unit (s := S4112x512) (k0_off3 k) S272x128.size (k0_off3_inb k)).toLoadRect (arg8.view.writes (Elt F) (harg8.unread ds) (pad0 x0 x3 x4)))⟩) L _ (k0_off4_inb) _ (fun _ => rfl) 0 0 (fun k => (off4_eq k).trans (by rw [Nat.zero_add])) y (by omega) _

/-- In group 0's columns the result is that group's tile. -/
theorem outHit0 (hy : 0 ≤ (y 1).val ∧ (y 1).val < 128) :
    arg5.view.read (Elt F) (arg5.view.writes (Elt F) f (out0 arg8 harg8 x0 x3 x4 ds ++ L)) y = dpOf x0 x3 x4 y := by
  have h0 : (y 0).val < 4096 := (y 0).isLt
  refine (group_hit arg5.view f (fun k : Fin k0_t2_loop.trips => ⟨Rect.unit (s := S4096x512) (k0_off4 k) S256x128.size (k0_off4_inb k),
      k0_pay21 k (arg8.view.readAt (Elt F) (Rect.unit (s := S4112x512) (k0_off3 k) S272x128.size (k0_off3_inb k)).toLoadRect (arg8.view.writes (Elt F) (harg8.unread ds) (pad0 x0 x3 x4)))⟩) L _ (k0_off4_inb) _ (fun _ => rfl) 0 0 (fun k => (off4_eq k).trans (by rw [Nat.zero_add])) y
    (Fin.cast trips2.symm ⟨(y 0).val / 256, by omega⟩) (ix2 ⟨(y 0).val % 256, by omega⟩ ⟨(y 1).val % 128, by omega⟩) ?_ ?_).trans ?_
  · show (y 0).val = 0 + 256 * ((y 0).val / 256) + (y 0).val % 256
    omega
  · show (y 1).val = 0 + (y 1).val % 128
    omega
  · rw [padRead0]
    have e : (⟨(y 1).val / 128, by omega⟩ : Fin 4) = 0 := Fin.ext (by show (y 1).val / 128 = 0; omega)
    unfold dpOf untile
    rw [e]
    rfl

end

section

variable (f : arg5.view.ty.Contents (Elt F)) (L : List (View.Piece (Elt F) S4096x512 .bf16)) (y : S4096x512.Idx)

/-- Outside group 1's columns its tiles change nothing. -/
theorem outMiss1 (hy : (y 1).val < 128 ∨ 256 ≤ (y 1).val) :
    arg5.view.read (Elt F) (arg5.view.writes (Elt F) f (out1 arg8 harg8 x0 x3 x4 ds ++ L)) y = arg5.view.read (Elt F) (arg5.view.writes (Elt F) f L) y :=
  group_miss arg5.view f (fun k : Fin k0_t4_loop.trips => ⟨Rect.unit (s := S4096x512) (k0_off8 k) S256x128.size (k0_off8_inb k),
      k0_pay31 k (arg8.view.readAt (Elt F) (Rect.unit (s := S4112x512) (k0_off7 k) S272x128.size (k0_off7_inb k)).toLoadRect (arg8.view.writes (Elt F) (harg8.unread ds) (pad1 x0 x3 x4)))⟩) L _ (k0_off8_inb) _ (fun _ => rfl) 0 128 (fun k => (off8_eq k).trans (by rw [Nat.zero_add])) y (by omega) _

/-- In group 1's columns the result is that group's tile. -/
theorem outHit1 (hy : 128 ≤ (y 1).val ∧ (y 1).val < 256) :
    arg5.view.read (Elt F) (arg5.view.writes (Elt F) f (out1 arg8 harg8 x0 x3 x4 ds ++ L)) y = dpOf x0 x3 x4 y := by
  have h0 : (y 0).val < 4096 := (y 0).isLt
  refine (group_hit arg5.view f (fun k : Fin k0_t4_loop.trips => ⟨Rect.unit (s := S4096x512) (k0_off8 k) S256x128.size (k0_off8_inb k),
      k0_pay31 k (arg8.view.readAt (Elt F) (Rect.unit (s := S4112x512) (k0_off7 k) S272x128.size (k0_off7_inb k)).toLoadRect (arg8.view.writes (Elt F) (harg8.unread ds) (pad1 x0 x3 x4)))⟩) L _ (k0_off8_inb) _ (fun _ => rfl) 0 128 (fun k => (off8_eq k).trans (by rw [Nat.zero_add])) y
    (Fin.cast trips4.symm ⟨(y 0).val / 256, by omega⟩) (ix2 ⟨(y 0).val % 256, by omega⟩ ⟨(y 1).val % 128, by omega⟩) ?_ ?_).trans ?_
  · show (y 0).val = 0 + 256 * ((y 0).val / 256) + (y 0).val % 256
    omega
  · show (y 1).val = 128 + (y 1).val % 128
    omega
  · rw [padRead1]
    have e : (⟨(y 1).val / 128, by omega⟩ : Fin 4) = 1 := Fin.ext (by show (y 1).val / 128 = 1; omega)
    unfold dpOf untile
    rw [e]
    rfl

end

section

variable (f : arg5.view.ty.Contents (Elt F)) (L : List (View.Piece (Elt F) S4096x512 .bf16)) (y : S4096x512.Idx)

/-- Outside group 2's columns its tiles change nothing. -/
theorem outMiss2 (hy : (y 1).val < 256 ∨ 384 ≤ (y 1).val) :
    arg5.view.read (Elt F) (arg5.view.writes (Elt F) f (out2 arg8 harg8 x0 x3 x4 ds ++ L)) y = arg5.view.read (Elt F) (arg5.view.writes (Elt F) f L) y :=
  group_miss arg5.view f (fun k : Fin k0_t6_loop.trips => ⟨Rect.unit (s := S4096x512) (k0_off12 k) S256x128.size (k0_off12_inb k),
      k0_pay1 0#32 k (arg8.view.readAt (Elt F) (Rect.unit (s := S4112x512) (k0_off11 k) S272x128.size (k0_off11_inb k)).toLoadRect (arg8.view.writes (Elt F) (harg8.unread ds) (pad2 x0 x3 x4)))⟩) L _ (k0_off12_inb) _ (fun _ => rfl) 0 256 (fun k => (off12_eq k).trans (by rw [Nat.zero_add])) y (by omega) _

/-- In group 2's columns the result is that group's tile. -/
theorem outHit2 (hy : 256 ≤ (y 1).val ∧ (y 1).val < 384) :
    arg5.view.read (Elt F) (arg5.view.writes (Elt F) f (out2 arg8 harg8 x0 x3 x4 ds ++ L)) y = dpOf x0 x3 x4 y := by
  have h0 : (y 0).val < 4096 := (y 0).isLt
  refine (group_hit arg5.view f (fun k : Fin k0_t6_loop.trips => ⟨Rect.unit (s := S4096x512) (k0_off12 k) S256x128.size (k0_off12_inb k),
      k0_pay1 0#32 k (arg8.view.readAt (Elt F) (Rect.unit (s := S4112x512) (k0_off11 k) S272x128.size (k0_off11_inb k)).toLoadRect (arg8.view.writes (Elt F) (harg8.unread ds) (pad2 x0 x3 x4)))⟩) L _ (k0_off12_inb) _ (fun _ => rfl) 0 256 (fun k => (off12_eq k).trans (by rw [Nat.zero_add])) y
    (Fin.cast trips6.symm ⟨(y 0).val / 256, by omega⟩) (ix2 ⟨(y 0).val % 256, by omega⟩ ⟨(y 1).val % 128, by omega⟩) ?_ ?_).trans ?_
  · show (y 0).val = 0 + 256 * ((y 0).val / 256) + (y 0).val % 256
    omega
  · show (y 1).val = 256 + (y 1).val % 128
    omega
  · rw [padRead2]
    have e : (⟨(y 1).val / 128, by omega⟩ : Fin 4) = 2 := Fin.ext (by show (y 1).val / 128 = 2; omega)
    unfold dpOf untile
    rw [e]
    rfl

end

section

variable (f : arg5.view.ty.Contents (Elt F)) (L : List (View.Piece (Elt F) S4096x512 .bf16)) (y : S4096x512.Idx)

/-- Outside group 3's columns its tiles change nothing. -/
theorem outMiss3 (hy : (y 1).val < 384 ∨ 512 ≤ (y 1).val) :
    arg5.view.read (Elt F) (arg5.view.writes (Elt F) f (out3 arg8 harg8 x0 x3 x4 ds ++ L)) y = arg5.view.read (Elt F) (arg5.view.writes (Elt F) f L) y :=
  group_miss arg5.view f (fun k : Fin k0_t8_loop.trips => ⟨Rect.unit (s := S4096x512) (k0_off16 k) S256x128.size (k0_off16_inb k),
      k0_pay10 k (arg8.view.readAt (Elt F) (Rect.unit (s := S4112x512) (k0_off15 k) S272x128.size (k0_off15_inb k)).toLoadRect (arg8.view.writes (Elt F) (harg8.unread ds) (pad3 x0 x3 x4)))⟩) L _ (k0_off16_inb) _ (fun _ => rfl) 0 384 (fun k => (off16_eq k).trans (by rw [Nat.zero_add])) y (by omega) _

/-- In group 3's columns the result is that group's tile. -/
theorem outHit3 (hy : 384 ≤ (y 1).val ∧ (y 1).val < 512) :
    arg5.view.read (Elt F) (arg5.view.writes (Elt F) f (out3 arg8 harg8 x0 x3 x4 ds ++ L)) y = dpOf x0 x3 x4 y := by
  have h0 : (y 0).val < 4096 := (y 0).isLt
  refine (group_hit arg5.view f (fun k : Fin k0_t8_loop.trips => ⟨Rect.unit (s := S4096x512) (k0_off16 k) S256x128.size (k0_off16_inb k),
      k0_pay10 k (arg8.view.readAt (Elt F) (Rect.unit (s := S4112x512) (k0_off15 k) S272x128.size (k0_off15_inb k)).toLoadRect (arg8.view.writes (Elt F) (harg8.unread ds) (pad3 x0 x3 x4)))⟩) L _ (k0_off16_inb) _ (fun _ => rfl) 0 384 (fun k => (off16_eq k).trans (by rw [Nat.zero_add])) y
    (Fin.cast trips8.symm ⟨(y 0).val / 256, by omega⟩) (ix2 ⟨(y 0).val % 256, by omega⟩ ⟨(y 1).val % 128, by omega⟩) ?_ ?_).trans ?_
  · show (y 0).val = 0 + 256 * ((y 0).val / 256) + (y 0).val % 256
    omega
  · show (y 1).val = 384 + (y 1).val % 128
    omega
  · rw [padRead3]
    have e : (⟨(y 1).val / 128, by omega⟩ : Fin 4) = 3 := Fin.ext (by show (y 1).val / 128 = 3; omega)
    unfold dpOf untile
    rw [e]
    rfl

end

/-- The first result. -/
theorem read5_eq (f : arg5.view.ty.Contents (Elt F)) :
    arg5.view.read (Elt F) (arg5.view.writes (Elt F) f (bodyRun c arg0 harg0 arg1 harg1 arg2 harg2 arg3 harg3 arg4 harg4 arg5 harg5 arg6 harg6 arg7 harg7 arg8 harg8 x0 x1 x2 x3 x4 ds).1) = dpOf x0 x3 x4 := funext fun y => by
  have h1 : (y 1).val < 512 := (y 1).isLt
  rw [pieces5]
  by_cases h3 : 384 ≤ (y 1).val
  · exact outHit3 arg5 arg8 harg8 x0 x3 x4 ds f _ y ⟨h3, by omega⟩
  rw [outMiss3 arg5 arg8 harg8 x0 x3 x4 ds f _ y (by omega)]
  by_cases h2 : 256 ≤ (y 1).val
  · exact outHit2 arg5 arg8 harg8 x0 x3 x4 ds f _ y ⟨h2, by omega⟩
  rw [outMiss2 arg5 arg8 harg8 x0 x3 x4 ds f _ y (by omega)]
  by_cases h1 : 128 ≤ (y 1).val
  · exact outHit1 arg5 arg8 harg8 x0 x3 x4 ds f _ y ⟨h1, by omega⟩
  rw [outMiss1 arg5 arg8 harg8 x0 x3 x4 ds f _ y (by omega), ← List.append_nil (out0 arg8 harg8 x0 x3 x4 ds)]
  exact outHit0 arg5 arg8 harg8 x0 x3 x4 ds f _ y ⟨by omega, by omega⟩

theorem pay20_apply (m : FVec F S128x128 .f32) (a b : Fin 128) : k0_pay20 m (ix3 0 a b) = m (ix2 a b) := by
  pointwise [k0_pay20]

theorem pay30_apply (m : FVec F S128x128 .f32) (a b : Fin 128) : k0_pay30 m (ix3 0 a b) = m (ix2 a b) := by
  pointwise [k0_pay30]

theorem pay39_apply (m : FVec F S128x128 .f32) (a b : Fin 128) : k0_pay39 m (ix3 0 a b) = m (ix2 a b) := by
  pointwise [k0_pay39]

theorem pay9_apply (m : FVec F S128x128 .f32) (a b : Fin 128) : k0_pay9 m (ix3 0 a b) = m (ix2 a b) := by
  pointwise [k0_pay9]

/-- The second result. -/
theorem read6_eq (f : arg6.view.ty.Contents (Elt F)) :
    arg6.view.read (Elt F) (arg6.view.writes (Elt F) f (bodyRun c arg0 harg0 arg1 harg1 arg2 harg2 arg3 harg3 arg4 harg4 arg5 harg5 arg6 harg6 arg7 harg7 arg8 harg8 x0 x1 x2 x3 x4 ds).2.1) = dscaleOf x0 x1 x2 x4 := funext fun y => by
  have hy0 : (y 0).val < 1 := (y 0).isLt
  have hy1 : (y 1).val < 512 := (y 1).isLt
  have e : dscaleOf x0 x1 x2 x4 y = (sumsOf x0 x1 x2 x4 ⟨(y 1).val / 128, by omega⟩).1 (ix2 0 ⟨(y 1).val % 128, by omega⟩) := rfl
  rw [pieces6, list6, e]
  by_cases h3 : 384 ≤ (y 1).val
  · refine (View.read_writes_cons_unit_of_mem (off' := ![0, 384]) arg6.view f inb_S1x512_S1x128_0_384 _ _ y (ix2 0 ⟨(y 1).val % 128, by omega⟩) rfl fun a => match a with
        | ⟨0, _⟩ => by show (y 0).val = 0 + 0; omega
        | ⟨1, _⟩ => by show (y 1).val = 384 + (y 1).val % 128; omega).trans ?_
    rw [show (⟨(y 1).val / 128, by omega⟩ : Fin 4) = 3 from Fin.ext (by show (y 1).val / 128 = 3; omega)]
    rfl
  rw [View.read_writes_cons_unit_of_not_mem (off' := ![0, 384]) arg6.view f inb_S1x512_S1x128_0_384 _ _ y rfl 1 (Or.inl (by show (y 1).val < 384; omega))]
  by_cases h2 : 256 ≤ (y 1).val
  · refine (View.read_writes_cons_unit_of_mem (off' := ![0, 256]) arg6.view f inb_S1x512_S1x128_0_256 _ _ y (ix2 0 ⟨(y 1).val % 128, by omega⟩) rfl fun a => match a with
        | ⟨0, _⟩ => by show (y 0).val = 0 + 0; omega
        | ⟨1, _⟩ => by show (y 1).val = 256 + (y 1).val % 128; omega).trans ?_
    rw [show (⟨(y 1).val / 128, by omega⟩ : Fin 4) = 2 from Fin.ext (by show (y 1).val / 128 = 2; omega)]
    rfl
  rw [View.read_writes_cons_unit_of_not_mem (off' := ![0, 256]) arg6.view f inb_S1x512_S1x128_0_256 _ _ y rfl 1 (Or.inl (by show (y 1).val < 256; omega))]
  by_cases h1 : 128 ≤ (y 1).val
  · refine (View.read_writes_cons_unit_of_mem (off' := ![0, 128]) arg6.view f inb_S1x512_S1x128_0_128 _ _ y (ix2 0 ⟨(y 1).val % 128, by omega⟩) rfl fun a => match a with
        | ⟨0, _⟩ => by show (y 0).val = 0 + 0; omega
        | ⟨1, _⟩ => by show (y 1).val = 128 + (y 1).val % 128; omega).trans ?_
    rw [show (⟨(y 1).val / 128, by omega⟩ : Fin 4) = 1 from Fin.ext (by show (y 1).val / 128 = 1; omega)]
    rfl
  rw [View.read_writes_cons_unit_of_not_mem (off' := ![0, 128]) arg6.view f inb_S1x512_S1x128_0_128 _ _ y rfl 1 (Or.inl (by show (y 1).val < 128; omega))]
  refine (View.read_writes_cons_unit_of_mem (off' := ![0, 0]) arg6.view f inb_S1x512_S1x128_0_0 _ _ y (ix2 0 ⟨(y 1).val % 128, by omega⟩) rfl fun a => match a with
        | ⟨0, _⟩ => by show (y 0).val = 0 + 0; omega
        | ⟨1, _⟩ => by show (y 1).val = 0 + (y 1).val % 128; omega).trans ?_
  rw [show (⟨(y 1).val / 128, by omega⟩ : Fin 4) = 0 from Fin.ext (by show (y 1).val / 128 = 0; omega)]
  rfl

/-- The third result. -/
theorem read7_eq (f : arg7.view.ty.Contents (Elt F)) :
    arg7.view.read (Elt F) (arg7.view.writes (Elt F) f (bodyRun c arg0 harg0 arg1 harg1 arg2 harg2 arg3 harg3 arg4 harg4 arg5 harg5 arg6 harg6 arg7 harg7 arg8 harg8 x0 x1 x2 x3 x4 ds).2.2.1) = dwOf x0 x1 x2 x4 := funext fun y => by
  have hy0 : (y 0).val < 4 := (y 0).isLt
  have e : dwOf x0 x1 x2 x4 y = (sumsOf x0 x1 x2 x4 (y 0)).2 (ix2 (y 1) (y 2)) := rfl
  rw [pieces7, list7, e]
  by_cases h3 : 3 ≤ (y 0).val
  · refine (View.read_writes_cons_unit_of_mem (off' := ![3, 0, 0]) arg7.view f inb_S4x128x128_S1x128x128_3_0_0 _ _ y (ix3 0 (y 1) (y 2)) rfl fun a => match a with
        | ⟨0, _⟩ => by show (y 0).val = 3 + 0; omega
        | ⟨1, _⟩ => (Nat.zero_add _).symm
        | ⟨2, _⟩ => (Nat.zero_add _).symm).trans ?_
    rw [show y 0 = (3 : Fin 4) from Fin.ext (by show (y 0).val = 3; omega)]
    exact pay9_apply _ _ _
  rw [View.read_writes_cons_unit_of_not_mem (off' := ![3, 0, 0]) arg7.view f inb_S4x128x128_S1x128x128_3_0_0 _ _ y rfl 0 (Or.inl (by show (y 0).val < 3; omega))]
  by_cases h2 : 2 ≤ (y 0).val
  · refine (View.read_writes_cons_unit_of_mem (off' := ![2, 0, 0]) arg7.view f inb_S4x128x128_S1x128x128_2_0_0 _ _ y (ix3 0 (y 1) (y 2)) rfl fun a => match a with
        | ⟨0, _⟩ => by show (y 0).val = 2 + 0; omega
        | ⟨1, _⟩ => (Nat.zero_add _).symm
        | ⟨2, _⟩ => (Nat.zero_add _).symm).trans ?_
    rw [show y 0 = (2 : Fin 4) from Fin.ext (by show (y 0).val = 2; omega)]
    exact pay39_apply _ _ _
  rw [View.read_writes_cons_unit_of_not_mem (off' := ![2, 0, 0]) arg7.view f inb_S4x128x128_S1x128x128_2_0_0 _ _ y rfl 0 (Or.inl (by show (y 0).val < 2; omega))]
  by_cases h1 : 1 ≤ (y 0).val
  · refine (View.read_writes_cons_unit_of_mem (off' := ![1, 0, 0]) arg7.view f inb_S4x128x128_S1x128x128_1_0_0 _ _ y (ix3 0 (y 1) (y 2)) rfl fun a => match a with
        | ⟨0, _⟩ => by show (y 0).val = 1 + 0; omega
        | ⟨1, _⟩ => (Nat.zero_add _).symm
        | ⟨2, _⟩ => (Nat.zero_add _).symm).trans ?_
    rw [show y 0 = (1 : Fin 4) from Fin.ext (by show (y 0).val = 1; omega)]
    exact pay30_apply _ _ _
  rw [View.read_writes_cons_unit_of_not_mem (off' := ![1, 0, 0]) arg7.view f inb_S4x128x128_S1x128x128_1_0_0 _ _ y rfl 0 (Or.inl (by show (y 0).val < 1; omega))]
  refine (View.read_writes_cons_unit_of_mem (off' := ![0, 0, 0]) arg7.view f inb_S4x128x128_S1x128x128_0_0_0 _ _ y (ix3 0 (y 1) (y 2)) rfl fun a => match a with
        | ⟨0, _⟩ => by show (y 0).val = 0 + 0; omega
        | ⟨1, _⟩ => (Nat.zero_add _).symm
        | ⟨2, _⟩ => (Nat.zero_add _).symm).trans ?_
  rw [show y 0 = (0 : Fin 4) from Fin.ext (by show (y 0).val = 0; omega)]
  exact pay20_apply _ _ _

end Cert.Step.PoolBwd

end
-- ==== Proof.Step.PoolFrame.lean ====
/-
The run of the pooling mixer's backward program: what its arrays hold when it ends, and its frame.
-/
module

public import proofs.«01_k».proof.Proof.Gen.PoolBwdIdeal.Frame
public import Idealize.ShloMosaic.Lib.Pipeline.ValueKit
public import proofs.«01_k».proof.Proof.Step.PoolRead

@[expose] public section

set_option maxRecDepth 16384

noncomputable section

namespace Cert.Step.PoolBwd

open Cert.Step.Pool Cert.PoolBwdIdeal Cert.PoolBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, each input's buffer at its block, the three results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dpOf (iblk m c 0 t) (iblk m c 3 t) (iblk m c 4 t)
    | ⟨6, _⟩ => dscaleOf (iblk m c 0 t) (iblk m c 1 t) (iblk m c 2 t) (iblk m c 4 t)
    | ⟨7, _⟩ => dwOf (iblk m c 0 t) (iblk m c 1 t) (iblk m c 2 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dpOf (iblk m c 0 t) (iblk m c 3 t) (iblk m c 4 t) := by dsimp only [dats]
theorem after0_6 (c : Dev nD) (t : Fin cfg0.N) : (dats m 0 c).after 6 t = dscaleOf (iblk m c 0 t) (iblk m c 1 t) (iblk m c 2 t) (iblk m c 4 t) := by dsimp only [dats]
theorem after0_7 (c : Dev nD) (t : Fin cfg0.N) : (dats m 0 c).after 7 t = dwOf (iblk m c 0 t) (iblk m c 1 t) (iblk m c 2 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

/-- The scratch buffer at some contents. -/
theorem scratch_elim (c : Dev nD) (d : Vec F S4112x512 .f32) : (owns (c : Thread nD τ) (Memref.whole cc0_scratch0) fullShare d : sProp 𝕄)
    ⊢ iprop(∃ f : Buf (Elt F) ((c : Thread nD τ).loc cc0_scratch0), ((c : Thread nD τ).loc cc0_scratch0) ↦{fullShare} f) := by
  rw [owns_whole_eq]
  iintro ⟨%f, -, H⟩
  iexists f
  iexact H

/-- The body at its point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4, after0_5, after0_6, after0_7]
  rw [show (dats m 0 c).Φ t.castSucc = Pipeline.ΦA spec0 c from rfl]
  unfold Pipeline.ΦA
  rw [scopedRest0_eq]
  iintro ⟨⟨⟨%fs, HS0⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c _ _ _ _ _ _ _ _ _ _ _ _ _ _ _ _ _ _ (iblk m c 0 t) (iblk m c 1 t) (iblk m c 2 t) (iblk m c 3 t) (iblk m c 4 t) fs).2.2.2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]
  · rw [owns_whole_eq]; iexists _; isplitr
    swap; · iexact HS0
    ipureintro; rfl
  iintro ⟨H0, H1, H2, H3, H4, ⟨%e5, H5⟩, ⟨%e6, H6⟩, ⟨%e7, H7⟩, ⟨%e8, HS0⟩⟩
  isplitl [HS0 Hg]
  · isplitl [HS0]
    · iapply (scratch_elim c e8); iexact HS0
    iexact Hg
  isplitl [HW]; · iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read5_eq c _ _ _ _ _ _ _ _ _ _ _ _ _ _ _ _ _ _ (iblk m c 0 t) (iblk m c 1 t) (iblk m c 2 t) (iblk m c 3 t) (iblk m c 4 t) fs _
  isplitl [H6]
  · unfold owns; iexists _; isplitr
    swap; · iexact H6
    ipureintro; exact read6_eq c _ _ _ _ _ _ _ _ _ _ _ _ _ _ _ _ _ _ (iblk m c 0 t) (iblk m c 1 t) (iblk m c 2 t) (iblk m c 3 t) (iblk m c 4 t) fs _
  unfold owns; iexists _; isplitr
  swap; · iexact H7
  ipureintro; exact read7_eq c _ _ _ _ _ _ _ _ _ _ _ _ _ _ _ _ _ _ (iblk m c 0 t) (iblk m c 1 t) (iblk m c 2 t) (iblk m c 3 t) (iblk m c 4 t) fs _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 3).trans (((dats m 0 c).arrAt_in 3 rfl _).trans ((A_eq m c 3).trans (V_main_arg1 m c))),
      ((h.1 c).1 4).trans (((dats m 0 c).arrAt_in 4 rfl _).trans ((A_eq m c 4).trans (V_main_arg2 m c))),
      ((h.1 c).1 0).trans (((dats m 0 c).arrAt_in 0 rfl _).trans ((A_eq m c 0).trans (V_main_arg3 m c)))⟩, h.2⟩) (run_main_quiescent m ρ)

end Cert.Step.PoolBwd

end
-- ==== Proof.Step.PoolMath.lean ====
/-
A moving sum over the rows: as the sum of a window, and as a running sum from the end of what enters and leaves.
-/
module

public import Mathlib.Data.Real.Basic
public import Mathlib.Algebra.BigOperators.Fin
public import Mathlib.Algebra.BigOperators.Ring.Finset

@[expose] public section

namespace Cert.Step.Pool

/-- The first row of the window of row `t`, `L` rows below it. -/
def lo (L t : ℕ) : ℕ := t - L

/-- The row after the last of the window of row `t`. -/
def hi (L t : ℕ) : ℕ := min 4096 (t + L)

/-- The rows with 8 zero rows before and after. -/
noncomputable def ext (q : Fin 4096 → ℝ) (r : ℕ) : ℝ := if h : 8 ≤ r ∧ r < 4104 then q ⟨r - 8, by omega⟩ else 0

theorem ext_eq_sum (q : Fin 4096 → ℝ) (r : ℕ) : ext q r = ∑ t : Fin 4096, if t.val + 8 = r then q t else 0 := by
  unfold ext
  by_cases h : 8 ≤ r ∧ r < 4104
  · rw [dif_pos h, Finset.sum_eq_single (⟨r - 8, by omega⟩ : Fin 4096)]
    · rw [if_pos (by show r - 8 + 8 = r; omega)]
    · intro b _ hb
      exact if_neg fun e => hb (Fin.ext (by show b.val = r - 8; omega))
    · intro hn; exact absurd (Finset.mem_univ _) hn
  · rw [dif_neg h]
    refine (Finset.sum_eq_zero fun t _ => if_neg ?_).symm
    have := t.isLt
    omega

/-- Of the rows from `i` on, row `v - 1` alone adds `x`. -/
theorem sum_at (i v : ℕ) (hv : v ≤ 4096) (x : ℝ) :
    (∑ n : Fin 4096, if i + n.val < 4096 then (if v = i + n.val + 1 then x else 0) else 0) = if i < v then x else 0 := by
  by_cases h : i < v
  · rw [if_pos h, Finset.sum_eq_single (⟨v - 1 - i, by omega⟩ : Fin 4096)]
    · rw [if_pos (by show i + (v - 1 - i) < 4096; omega), if_pos (by show v = i + (v - 1 - i) + 1; omega)]
    · intro b _ hb
      by_cases h1 : i + b.val < 4096
      · rw [if_pos h1]
        exact if_neg fun e => hb (Fin.ext (by show b.val = v - 1 - i; omega))
      · rw [if_neg h1]
    · intro hn; exact absurd (Finset.mem_univ _) hn
  · rw [if_neg h]
    refine Finset.sum_eq_zero fun n _ => ?_
    by_cases h1 : i + n.val < 4096
    · rw [if_pos h1]
      exact if_neg (by omega)
    · rw [if_neg h1]

/-- A running sum from row `i` on of what is recorded one after a row. -/
theorem running (f : ℕ → ℕ) (hf : ∀ t < 4096, f t ≤ 4096) (q : Fin 4096 → ℝ) (i : ℕ) :
    (∑ n : Fin 4096, if i + n.val < 4096 then (∑ t : Fin 4096, if f t.val = i + n.val + 1 then q t else 0) else 0)
      = ∑ t : Fin 4096, if i < f t.val then q t else 0 := by
  rw [← Finset.sum_congr rfl fun t _ => sum_at i (f t.val) (hf t.val t.isLt) (q t), Finset.sum_comm]
  refine Finset.sum_congr rfl fun n _ => ?_
  by_cases h : i + n.val < 4096
  · simp only [if_pos h]
  · simp only [if_neg h, Finset.sum_const_zero]

/-- The sum of the window of `2 L` rows that begins `L - 1` rows before row `i`: what leaves subtracted from what enters. -/
theorem window (L : ℕ) (hL : 1 ≤ L ∧ L ≤ 8) (q : Fin 4096 → ℝ) (i : Fin 4096) :
    (∑ s ∈ Finset.range (2 * L), ext q (i.val + 8 - (L - 1) + s))
      = ∑ n : Fin 4096, if i.val + n.val < 4096 then
          -(∑ t : Fin 4096, if lo L t.val = i.val + n.val + 1 then q t else 0)
            + ∑ t : Fin 4096, if hi L t.val = i.val + n.val + 1 then q t else 0 else 0 := by
  have e : ∀ n : Fin 4096, (if i.val + n.val < 4096 then
          -(∑ t : Fin 4096, if lo L t.val = i.val + n.val + 1 then q t else 0)
            + ∑ t : Fin 4096, if hi L t.val = i.val + n.val + 1 then q t else 0 else 0)
      = (if i.val + n.val < 4096 then ∑ t : Fin 4096, if hi L t.val = i.val + n.val + 1 then q t else 0 else 0)
        - (if i.val + n.val < 4096 then ∑ t : Fin 4096, if lo L t.val = i.val + n.val + 1 then q t else 0 else 0) := fun n => by
    by_cases h : i.val + n.val < 4096
    · simp only [if_pos h]; exact neg_add_eq_sub _ _
    · simp only [if_neg h, sub_zero]
  rw [Finset.sum_congr rfl fun n _ => e n, Finset.sum_sub_distrib, running (hi L) (fun t _ => by unfold hi; omega),
    running (lo L) (fun t ht => by unfold lo; omega), ← Finset.sum_sub_distrib,
    Finset.sum_congr rfl fun s _ => ext_eq_sum q _, Finset.sum_comm]
  refine Finset.sum_congr rfl fun t _ => ?_
  have ht := t.isLt
  have hi' := i.isLt
  by_cases h : i.val + 8 - (L - 1) ≤ t.val + 8 ∧ t.val + 8 < i.val + 8 - (L - 1) + 2 * L
  · rw [Finset.sum_eq_single (t.val + 8 - (i.val + 8 - (L - 1))), if_pos (by omega), if_pos (by unfold hi; omega), if_neg (by unfold lo; omega), sub_zero]
    · intro b _ hb
      exact if_neg (by omega)
    · intro hn
      exact absurd (Finset.mem_range.2 (by omega)) hn
  · rw [Finset.sum_eq_zero fun s hs => if_neg (by have := Finset.mem_range.1 hs; omega)]
    by_cases h1 : i.val < hi L t.val
    · rw [if_pos h1, if_pos (by unfold hi at h1; unfold lo; omega), sub_self]
    · rw [if_neg h1, if_neg (by unfold hi at h1; unfold lo; omega), sub_self]

end Cert.Step.Pool

end
-- ==== Proof.Step.PoolValue.lean ====
/-
What the pooling mixer's backward kernel leaves in its three results over the extended reals: the cotangent of a pooled
row over its count, a window's sum of these, and the two gradients that are sums over all rows.
-/
module

public import proofs.«01_k».proof.Proof.Step.PoolFrame
public import proofs.«01_k».proof.Proof.Step.PoolMath
public import proofs.«01_k».proof.Proof.Step.Real

@[expose] public section

set_option maxRecDepth 16384

open Idealize.ShloMosaic Idealize.ShloMosaic.TcCoe Idealize.SL.Sem

noncomputable section

namespace Cert.Step.PoolBwd

open Cert.Step.Pool Cert.PoolBwdIdeal Cert.PoolBwdIdeal.Gen

/-- Column `d` of group `g`. -/
def col (g : Fin 4) (d : Fin 128) : Fin 512 := ⟨128 * g.val + d.val, by have := g.isLt; have := d.isLt; omega⟩

theorem col_zero (d : Fin 128) : col 0 d = ⟨d.val, by have := d.isLt; omega⟩ := Fin.ext (Nat.zero_add _)

/-- Row `r` of tile `k`. -/
def row (k : Fin 16) (r : Fin 256) : Fin 4096 := ⟨256 * k.val + r.val, by have := k.isLt; have := r.isLt; omega⟩

/-- How many rows the window of row `t` has in group `g`. -/
def count (g : Fin 4) (t : ℕ) : EReal := (((hi (2 ^ g.val) t - lo (2 ^ g.val) t : ℕ) : ℝ) : EReal)

/-- The cotangent of the pooled rows: the scaled rows through the transposed matrix of their group. -/
def cotangent (dm : S4096x512.Idx → EReal) (w : S4x128x128.Idx → EReal) (sc : S1x512.Idx → EReal) (g : Fin 4)
    (t : Fin 4096) (c : Fin 128) : EReal :=
  ∑ d, dm (ix2 t (col g d)) * sc (ix2 0 (col g d)) * w (ix3 g c d)

/-- The kernel's words for the first and the last row of a window are that window's bounds. -/
theorem word : ∀ (g : Fin 4) (k : Fin 16) (r : Fin 256),
    (IntOp.subi
      (IntOp.minsi (IntOp.addi (IntOp.addi (IntOp.addi (Scalar.muli (Scf.iv 0#32 1#32 k.val) 256#32) (BitVec.ofNat 32 r.val))
        (BitVec.ofNat 32 (2 ^ g.val - 1))) 1#32) 4096#32)
      (IntOp.maxsi (IntOp.subi (IntOp.addi (Scalar.muli (Scf.iv 0#32 1#32 k.val) 256#32) (BitVec.ofNat 32 r.val))
        (BitVec.ofNat 32 (2 ^ g.val))) 0#32)).toInt
      = (hi (2 ^ g.val) (256 * k.val + r.val) - lo (2 ^ g.val) (256 * k.val + r.val) : ℕ) := by decide +kernel

/-- That word as a float is the count. -/
theorem count_eq (g : Fin 4) (k : Fin 16) (r : Fin 256) {w : BitVec 32}
    (h : w = IntOp.subi
      (IntOp.minsi (IntOp.addi (IntOp.addi (IntOp.addi (Scalar.muli (Scf.iv 0#32 1#32 k.val) 256#32) (BitVec.ofNat 32 r.val))
        (BitVec.ofNat 32 (2 ^ g.val - 1))) 1#32) 4096#32)
      (IntOp.maxsi (IntOp.subi (IntOp.addi (Scalar.muli (Scf.iv 0#32 1#32 k.val) 256#32) (BitVec.ofNat 32 r.val))
        (BitVec.ofNat 32 (2 ^ g.val))) 0#32)) :
    FloatOps.sitofp (F := Ideal) .f32 w = count g (256 * k.val + r.val) := by
  show (((w.toInt : ℤ) : ℝ) : EReal) = _
  rw [h, word, Int.cast_natCast]
  rfl

/-- A value carried through a loop that adds `a k` in trip `k` has had the sum of the `a k` added. -/
theorem carried_sum {N : ℕ} {α : Type} (R : Fin N → α → α) (init : α) (φ : α → EReal) (a : Fin N → EReal)
    (h : ∀ k acc, φ (R k acc) = φ acc + a k) : φ (carried R init N) = φ init + ∑ k, a k := by
  have key : ∀ n (hn : n ≤ N), φ (carried R init n) = φ init + ∑ k : Fin n, a (Fin.castLE hn k) := by
    intro n
    induction n with
    | zero => intro _; simp [carried]
    | succ n ih =>
      intro hn
      have hlt : n < N := hn
      rw [carried, dif_pos hlt, h, ih hlt.le, Fin.sum_univ_castSucc, ← add_assoc]
      rfl
  exact key N le_rfl

theorem sum_assoc (a b c : EReal) : a + b + c = a + (b + c) := add_assoc a b c

variable (x0 x1 x2 : S4096x512.Idx → EReal) (x3 : S4x128x128.Idx → EReal) (x4 : S1x512.Idx → EReal)

/-- Group 0: a tile's entry is the cotangent of its pooled row over the row's count. -/
theorem cot0_apply (k : Fin 16) (r : Fin 256) (c : Fin 128) :
    cot0 (F := Ideal) x0 x3 x4 (Fin.cast trips1.symm k) (ix2 r c)
      = Ideal.div (cotangent x0 x3 x4 0 (row k r) c) (count 0 (256 * k.val + r.val)) := by
  unfold cot0
  pointwise [k0_pay19, k0_pay15, k0_pay17, k0_pay20, mat, scales, tile]
  exact congrArg₂ Ideal.div rfl (count_eq 0 k r rfl)

/-- Group 0: the gradient of the scales, before its sum is put in one order. -/
theorem sums0_fst (c : Fin 128) :
    (sums0 (F := Ideal) x0 x1 x2 x4).1 (ix2 0 c) = ∑ t : Fin 4096, x0 (ix2 t (col 0 c)) * x1 (ix2 t (col 0 c)) := by
  unfold sums0
  refine (carried_sum _ _ (fun s : FVec Ideal S1x128 .f32 × FVec Ideal S128x128 .f32 => s.1 (ix2 0 c))
    (fun k => ∑ r : Fin 256, x0 (ix2 (row (Fin.cast trips1 k) r) (col 0 c)) * x1 (ix2 (row (Fin.cast trips1 k) r) (col 0 c)))
    (fun k acc => ?_)).trans ?_
  · pointwise [k0_pay16, k0_pay15, k0_pay17, k0_pay20, tile]
    simp only [col_zero]; rfl
  · rw [show (k0_pay13 (F := Ideal), k0_pay14 (F := Ideal)).1 (ix2 0 c) = 0 from by pointwise [k0_pay13], zero_add]
    exact Fin.sum_mul_add_congr (S := 16) (n := 256) fun k r hl => congrArg (fun t => x0 (ix2 t (col 0 c)) * x1 (ix2 t (col 0 c)))
      (Fin.ext (congrArg (· + r.val) (Nat.mul_comm 256 k.val)))

/-- Group 0: the gradient of the matrix. -/
theorem sums0_snd (a c : Fin 128) :
    (sums0 (F := Ideal) x0 x1 x2 x4).2 (ix2 a c)
      = ∑ t : Fin 4096, x2 (ix2 t (col 0 a)) * (x0 (ix2 t (col 0 c)) * x4 (ix2 0 (col 0 c))) := by
  unfold sums0
  refine (carried_sum _ _ (fun s : FVec Ideal S1x128 .f32 × FVec Ideal S128x128 .f32 => s.2 (ix2 a c))
    (fun k => ∑ r : Fin 256, x2 (ix2 (row (Fin.cast trips1 k) r) (col 0 a))
      * (x0 (ix2 (row (Fin.cast trips1 k) r) (col 0 c)) * x4 (ix2 0 (col 0 c))))
    (fun k acc => ?_)).trans ?_
  · pointwise [k0_pay18, k0_pay15, k0_pay17, k0_pay20, tile, scales]
    simp only [col_zero]; rfl
  · rw [show (k0_pay13 (F := Ideal), k0_pay14 (F := Ideal)).2 (ix2 a c) = 0 from by pointwise [k0_pay14], zero_add]
    exact Fin.sum_mul_add_congr (S := 16) (n := 256) fun k r hl => congrArg (fun t => x2 (ix2 t (col 0 a)) * (x0 (ix2 t (col 0 c)) * x4 (ix2 0 (col 0 c))))
      (Fin.ext (congrArg (· + r.val) (Nat.mul_comm 256 k.val)))

/-- Group 1: a tile's entry is the cotangent of its pooled row over the row's count. -/
theorem cot1_apply (k : Fin 16) (r : Fin 256) (c : Fin 128) :
    cot1 (F := Ideal) x0 x3 x4 (Fin.cast trips3.symm k) (ix2 r c)
      = Ideal.div (cotangent x0 x3 x4 1 (row k r) c) (count 1 (256 * k.val + r.val)) := by
  unfold cot1
  pointwise [k0_pay29, k0_pay22, k0_pay25, k0_pay27, k0_pay30, mat, scales, tile]
  exact congrArg₂ Ideal.div rfl (count_eq 1 k r rfl)

/-- Group 1: the gradient of the scales, before its sum is put in one order. -/
theorem sums1_fst (c : Fin 128) :
    (sums1 (F := Ideal) x0 x1 x2 x4).1 (ix2 0 c) = ∑ t : Fin 4096, x0 (ix2 t (col 1 c)) * x1 (ix2 t (col 1 c)) := by
  unfold sums1
  refine (carried_sum _ _ (fun s : FVec Ideal S1x128 .f32 × FVec Ideal S128x128 .f32 => s.1 (ix2 0 c))
    (fun k => ∑ r : Fin 256, x0 (ix2 (row (Fin.cast trips3 k) r) (col 1 c)) * x1 (ix2 (row (Fin.cast trips3 k) r) (col 1 c)))
    (fun k acc => ?_)).trans ?_
  · pointwise [k0_pay26, k0_pay22, k0_pay25, k0_pay27, k0_pay30, tile]
    rfl
  · rw [show (k0_pay23 (F := Ideal), k0_pay24 (F := Ideal)).1 (ix2 0 c) = 0 from by pointwise [k0_pay23], zero_add]
    exact Fin.sum_mul_add_congr (S := 16) (n := 256) fun k r hl => congrArg (fun t => x0 (ix2 t (col 1 c)) * x1 (ix2 t (col 1 c)))
      (Fin.ext (congrArg (· + r.val) (Nat.mul_comm 256 k.val)))

/-- Group 1: the gradient of the matrix. -/
theorem sums1_snd (a c : Fin 128) :
    (sums1 (F := Ideal) x0 x1 x2 x4).2 (ix2 a c)
      = ∑ t : Fin 4096, x2 (ix2 t (col 1 a)) * (x0 (ix2 t (col 1 c)) * x4 (ix2 0 (col 1 c))) := by
  unfold sums1
  refine (carried_sum _ _ (fun s : FVec Ideal S1x128 .f32 × FVec Ideal S128x128 .f32 => s.2 (ix2 a c))
    (fun k => ∑ r : Fin 256, x2 (ix2 (row (Fin.cast trips3 k) r) (col 1 a))
      * (x0 (ix2 (row (Fin.cast trips3 k) r) (col 1 c)) * x4 (ix2 0 (col 1 c))))
    (fun k acc => ?_)).trans ?_
  · pointwise [k0_pay28, k0_pay22, k0_pay25, k0_pay27, k0_pay30, tile, scales]
    rfl
  · rw [show (k0_pay23 (F := Ideal), k0_pay24 (F := Ideal)).2 (ix2 a c) = 0 from by pointwise [k0_pay24], zero_add]
    exact Fin.sum_mul_add_congr (S := 16) (n := 256) fun k r hl => congrArg (fun t => x2 (ix2 t (col 1 a)) * (x0 (ix2 t (col 1 c)) * x4 (ix2 0 (col 1 c))))
      (Fin.ext (congrArg (· + r.val) (Nat.mul_comm 256 k.val)))

/-- Group 2: a tile's entry is the cotangent of its pooled row over the row's count. -/
theorem cot2_apply (k : Fin 16) (r : Fin 256) (c : Fin 128) :
    cot2 (F := Ideal) x0 x3 x4 (Fin.cast trips5.symm k) (ix2 r c)
      = Ideal.div (cotangent x0 x3 x4 2 (row k r) c) (count 2 (256 * k.val + r.val)) := by
  unfold cot2
  pointwise [k0_pay38, k0_pay34, k0_pay36, k0_pay39, mat, scales, tile]
  exact congrArg₂ Ideal.div rfl (count_eq 2 k r rfl)

/-- Group 2: the gradient of the scales, before its sum is put in one order. -/
theorem sums2_fst (c : Fin 128) :
    (sums2 (F := Ideal) x0 x1 x2 x4).1 (ix2 0 c) = ∑ t : Fin 4096, x0 (ix2 t (col 2 c)) * x1 (ix2 t (col 2 c)) := by
  unfold sums2
  refine (carried_sum _ _ (fun s : FVec Ideal S1x128 .f32 × FVec Ideal S128x128 .f32 => s.1 (ix2 0 c))
    (fun k => ∑ r : Fin 256, x0 (ix2 (row (Fin.cast trips5 k) r) (col 2 c)) * x1 (ix2 (row (Fin.cast trips5 k) r) (col 2 c)))
    (fun k acc => ?_)).trans ?_
  · pointwise [k0_pay35, k0_pay34, k0_pay36, k0_pay39, tile]
    rfl
  · rw [show (k0_pay32 (F := Ideal), k0_pay33 (F := Ideal)).1 (ix2 0 c) = 0 from by pointwise [k0_pay32], zero_add]
    exact Fin.sum_mul_add_congr (S := 16) (n := 256) fun k r hl => congrArg (fun t => x0 (ix2 t (col 2 c)) * x1 (ix2 t (col 2 c)))
      (Fin.ext (congrArg (· + r.val) (Nat.mul_comm 256 k.val)))

/-- Group 2: the gradient of the matrix. -/
theorem sums2_snd (a c : Fin 128) :
    (sums2 (F := Ideal) x0 x1 x2 x4).2 (ix2 a c)
      = ∑ t : Fin 4096, x2 (ix2 t (col 2 a)) * (x0 (ix2 t (col 2 c)) * x4 (ix2 0 (col 2 c))) := by
  unfold sums2
  refine (carried_sum _ _ (fun s : FVec Ideal S1x128 .f32 × FVec Ideal S128x128 .f32 => s.2 (ix2 a c))
    (fun k => ∑ r : Fin 256, x2 (ix2 (row (Fin.cast trips5 k) r) (col 2 a))
      * (x0 (ix2 (row (Fin.cast trips5 k) r) (col 2 c)) * x4 (ix2 0 (col 2 c))))
    (fun k acc => ?_)).trans ?_
  · pointwise [k0_pay37, k0_pay34, k0_pay36, k0_pay39, tile, scales]
    rfl
  · rw [show (k0_pay32 (F := Ideal), k0_pay33 (F := Ideal)).2 (ix2 a c) = 0 from by pointwise [k0_pay33], zero_add]
    exact Fin.sum_mul_add_congr (S := 16) (n := 256) fun k r hl => congrArg (fun t => x2 (ix2 t (col 2 a)) * (x0 (ix2 t (col 2 c)) * x4 (ix2 0 (col 2 c))))
      (Fin.ext (congrArg (· + r.val) (Nat.mul_comm 256 k.val)))

/-- Group 3: a tile's entry is the cotangent of its pooled row over the row's count. -/
theorem cot3_apply (k : Fin 16) (r : Fin 256) (c : Fin 128) :
    cot3 (F := Ideal) x0 x3 x4 (Fin.cast trips7.symm k) (ix2 r c)
      = Ideal.div (cotangent x0 x3 x4 3 (row k r) c) (count 3 (256 * k.val + r.val)) := by
  unfold cot3
  pointwise [k0_pay8, k0_pay4, k0_pay6, k0_pay9, mat, scales, tile]
  exact congrArg₂ Ideal.div rfl (count_eq 3 k r rfl)

/-- Group 3: the gradient of the scales, before its sum is put in one order. -/
theorem sums3_fst (c : Fin 128) :
    (sums3 (F := Ideal) x0 x1 x2 x4).1 (ix2 0 c) = ∑ t : Fin 4096, x0 (ix2 t (col 3 c)) * x1 (ix2 t (col 3 c)) := by
  unfold sums3
  refine (carried_sum _ _ (fun s : FVec Ideal S1x128 .f32 × FVec Ideal S128x128 .f32 => s.1 (ix2 0 c))
    (fun k => ∑ r : Fin 256, x0 (ix2 (row (Fin.cast trips7 k) r) (col 3 c)) * x1 (ix2 (row (Fin.cast trips7 k) r) (col 3 c)))
    (fun k acc => ?_)).trans ?_
  · pointwise [k0_pay5, k0_pay4, k0_pay6, k0_pay9, tile]
    rfl
  · rw [show (k0_pay2 (F := Ideal), k0_pay3 (F := Ideal)).1 (ix2 0 c) = 0 from by pointwise [k0_pay2], zero_add]
    exact Fin.sum_mul_add_congr (S := 16) (n := 256) fun k r hl => congrArg (fun t => x0 (ix2 t (col 3 c)) * x1 (ix2 t (col 3 c)))
      (Fin.ext (congrArg (· + r.val) (Nat.mul_comm 256 k.val)))

/-- Group 3: the gradient of the matrix. -/
theorem sums3_snd (a c : Fin 128) :
    (sums3 (F := Ideal) x0 x1 x2 x4).2 (ix2 a c)
      = ∑ t : Fin 4096, x2 (ix2 t (col 3 a)) * (x0 (ix2 t (col 3 c)) * x4 (ix2 0 (col 3 c))) := by
  unfold sums3
  refine (carried_sum _ _ (fun s : FVec Ideal S1x128 .f32 × FVec Ideal S128x128 .f32 => s.2 (ix2 a c))
    (fun k => ∑ r : Fin 256, x2 (ix2 (row (Fin.cast trips7 k) r) (col 3 a))
      * (x0 (ix2 (row (Fin.cast trips7 k) r) (col 3 c)) * x4 (ix2 0 (col 3 c))))
    (fun k acc => ?_)).trans ?_
  · pointwise [k0_pay7, k0_pay4, k0_pay6, k0_pay9, tile, scales]
    rfl
  · rw [show (k0_pay2 (F := Ideal), k0_pay3 (F := Ideal)).2 (ix2 a c) = 0 from by pointwise [k0_pay3], zero_add]
    exact Fin.sum_mul_add_congr (S := 16) (n := 256) fun k r hl => congrArg (fun t => x2 (ix2 t (col 3 a)) * (x0 (ix2 t (col 3 c)) * x4 (ix2 0 (col 3 c))))
      (Fin.ext (congrArg (· + r.val) (Nat.mul_comm 256 k.val)))

set_option maxHeartbeats 2000000 in
/-- Group 0: a tile's entry of the result is the sum of a window of the padded rows, less the row times its count. -/
theorem window0_apply (Q : Fin 16 → (⟨2, ![256, 128]⟩ : Shape).Idx → EReal) (k : Fin 16) (r : Fin 256) (c : Fin 128) :
    k0_pay21 (F := Ideal) (Fin.cast trips2.symm k) (halo (zero (F := Ideal)) Q k) (ix2 r c)
      = (∑ s ∈ Finset.range 2, padded (zero (F := Ideal)) Q (256 * k.val + r.val + 8 - 0 + s) c)
        - padded (zero (F := Ideal)) Q (256 * k.val + r.val + 8) c * count 0 (256 * k.val + r.val) := by
  have hr := r.isLt
  pointwise [k0_pay21, k0_pay15, k0_pay17, k0_pay20, halo]
  simp only [Finset.sum_range_succ, Finset.sum_range_zero, zero_add, sum_assoc]
  refine congrArg₂ (· - ·) ?_ (congrArg₂ (· * ·) (congrArg (fun n => padded _ Q n c) (by omega)) (count_eq 0 k r rfl))
  iterate 1 (refine congrArg₂ (· + ·) (congrArg (fun n => padded _ Q n c) (by omega)) ?_)
  exact congrArg (fun n => padded _ Q n c) (by omega)

set_option maxHeartbeats 2000000 in
/-- Group 1: a tile's entry of the result is the sum of a window of the padded rows, less the row times its count. -/
theorem window1_apply (Q : Fin 16 → (⟨2, ![256, 128]⟩ : Shape).Idx → EReal) (k : Fin 16) (r : Fin 256) (c : Fin 128) :
    k0_pay31 (F := Ideal) (Fin.cast trips4.symm k) (halo (zero (F := Ideal)) Q k) (ix2 r c)
      = (∑ s ∈ Finset.range 4, padded (zero (F := Ideal)) Q (256 * k.val + r.val + 8 - 1 + s) c)
        - padded (zero (F := Ideal)) Q (256 * k.val + r.val + 8) c * count 1 (256 * k.val + r.val) := by
  have hr := r.isLt
  pointwise [k0_pay31, k0_pay22, k0_pay25, k0_pay27, k0_pay30, halo]
  simp only [Finset.sum_range_succ, Finset.sum_range_zero, zero_add, sum_assoc]
  refine congrArg₂ (· - ·) ?_ (congrArg₂ (· * ·) (congrArg (fun n => padded _ Q n c) (by omega)) (count_eq 1 k r rfl))
  iterate 3 (refine congrArg₂ (· + ·) (congrArg (fun n => padded _ Q n c) (by omega)) ?_)
  exact congrArg (fun n => padded _ Q n c) (by omega)

set_option maxHeartbeats 2000000 in
/-- Group 2: a tile's entry of the result is the sum of a window of the padded rows, less the row times its count. -/
theorem window2_apply (Q : Fin 16 → (⟨2, ![256, 128]⟩ : Shape).Idx → EReal) (k : Fin 16) (r : Fin 256) (c : Fin 128) :
    k0_pay1 0#32 (F := Ideal) (Fin.cast trips6.symm k) (halo (zero (F := Ideal)) Q k) (ix2 r c)
      = (∑ s ∈ Finset.range 8, padded (zero (F := Ideal)) Q (256 * k.val + r.val + 8 - 3 + s) c)
        - padded (zero (F := Ideal)) Q (256 * k.val + r.val + 8) c * count 2 (256 * k.val + r.val) := by
  have hr := r.isLt
  pointwise [k0_pay1, k0_pay34, k0_pay36, k0_pay39, halo]
  simp only [Finset.sum_range_succ, Finset.sum_range_zero, zero_add, sum_assoc]
  refine congrArg₂ (· - ·) ?_ (congrArg₂ (· * ·) (congrArg (fun n => padded _ Q n c) (by omega)) (count_eq 2 k r rfl))
  iterate 7 (refine congrArg₂ (· + ·) (congrArg (fun n => padded _ Q n c) (by omega)) ?_)
  exact congrArg (fun n => padded _ Q n c) (by omega)

set_option maxHeartbeats 2000000 in
/-- Group 3: a tile's entry of the result is the sum of a window of the padded rows, less the row times its count. -/
theorem window3_apply (Q : Fin 16 → (⟨2, ![256, 128]⟩ : Shape).Idx → EReal) (k : Fin 16) (r : Fin 256) (c : Fin 128) :
    k0_pay10 (F := Ideal) (Fin.cast trips8.symm k) (halo (zero (F := Ideal)) Q k) (ix2 r c)
      = (∑ s ∈ Finset.range 16, padded (zero (F := Ideal)) Q (256 * k.val + r.val + 8 - 7 + s) c)
        - padded (zero (F := Ideal)) Q (256 * k.val + r.val + 8) c * count 3 (256 * k.val + r.val) := by
  have hr := r.isLt
  pointwise [k0_pay10, k0_pay4, k0_pay6, k0_pay9, halo]
  simp only [Finset.sum_range_succ, Finset.sum_range_zero, zero_add, sum_assoc]
  refine congrArg₂ (· - ·) ?_ (congrArg₂ (· * ·) (congrArg (fun n => padded _ Q n c) (by omega)) (count_eq 3 k r rfl))
  iterate 15 (refine congrArg₂ (· + ·) (congrArg (fun n => padded _ Q n c) (by omega)) ?_)
  exact congrArg (fun n => padded _ Q n c) (by omega)

end Cert.Step.PoolBwd

end
-- ==== Proof.Step.PoolWords.lean ====
/-
The words that the pooling mixer's forward lines compute for the bounds of a window, and what they name.
-/
module

public import Idealize.ShloMosaic.Lib.Pipeline.ValueKit
public import proofs.«01_k».proof.Proof.Step.PoolMath

@[expose] public section

set_option maxRecDepth 16384

open Idealize.ShloMosaic Idealize.ShloMosaic.TcCoe Idealize.SL.Sem

noncomputable section

namespace Cert.Step.PoolBwd

open Cert.Step.Pool

/-- The word of the first row of a window, as the forward lines compute it. -/
def loWord (g t : ℕ) : BitVec 32 :=
  IntOp.minsi 4096#32 (IntOp.maxsi 0#32 (IntOp.subi (BitVec.ofNat 32 t) (IntOp.shli ArithUnit.host 1#32 (BitVec.ofNat 32 g))))

/-- The word of the row after a window's last. -/
def hiWord (g t : ℕ) : BitVec 32 :=
  IntOp.minsi 4096#32 (IntOp.maxsi 0#32 (IntOp.addi (IntOp.addi (BitVec.ofNat 32 t)
    (IntOp.subi (IntOp.shli ArithUnit.host 1#32 (BitVec.ofNat 32 g)) 1#32)) 1#32))

/-- An index counted from the end where it is negative. -/
def wrap (n w : BitVec 32) : BitVec 32 := Scalar.select (IntOp.cmpi CmpIPredicate.slt w 0#32) (IntOp.addi w n) w

theorem words : ∀ (g : Fin 4) (k : Fin 16) (r : Fin 256),
    (wrap 4097#32 (loWord g.val (256 * k.val + r.val))).toInt = (lo (2 ^ g.val) (256 * k.val + r.val) : ℕ)
      ∧ (wrap 4097#32 (hiWord g.val (256 * k.val + r.val))).toInt = (hi (2 ^ g.val) (256 * k.val + r.val) : ℕ)
      ∧ (IntOp.subi (hiWord g.val (256 * k.val + r.val)) (loWord g.val (256 * k.val + r.val))).toInt
        = (hi (2 ^ g.val) (256 * k.val + r.val) - lo (2 ^ g.val) (256 * k.val + r.val) : ℕ) := by decide +kernel

theorem words_at (g : Fin 4) (t : Fin 4096) :
    (wrap 4097#32 (loWord g.val t.val)).toInt = (lo (2 ^ g.val) t.val : ℕ)
      ∧ (wrap 4097#32 (hiWord g.val t.val)).toInt = (hi (2 ^ g.val) t.val : ℕ)
      ∧ (IntOp.subi (hiWord g.val t.val) (loWord g.val t.val)).toInt = (hi (2 ^ g.val) t.val - lo (2 ^ g.val) t.val : ℕ) := by
  have ht := t.isLt
  have h := words g ⟨t.val / 256, by omega⟩ ⟨t.val % 256, by omega⟩
  have e : 256 * (t.val / 256) + t.val % 256 = t.val := Nat.div_add_mod _ _
  simp only [e] at h
  exact h

theorem group_word : ∀ g : Fin 4, (wrap 4#32 (BitVec.ofNat 32 g.val)).toInt = (g.val : ℤ) := by decide

end Cert.Step.PoolBwd

end
-- ==== Proof.Step.PoolRef.lean ====
/-
The derivative of the pooling mixer's forward lines, read at an index: where the gathers' cotangents are added, the
reversed running sum, and the three results.
-/
module

public import proofs.«01_k».proof.Proof.Gen.PoolBwdRefIdeal.Read
public import Idealize.ShloMosaic.Lib.Pipeline.ValueKit
public import Idealize.ShloMosaic.Lib.Routing.OpsPair
public import proofs.«01_k».proof.Proof.Step.PoolValue
public import proofs.«01_k».proof.Proof.Step.PoolWords

@[expose] public section

set_option maxRecDepth 16384

open Idealize.ShloMosaic Idealize.ShloMosaic.TcCoe Idealize.SL.Sem

noncomputable section

namespace Cert.Step.PoolBwd

open Cert.Step.Pool Cert.PoolBwdRefIdeal Cert.PoolBwdRefIdeal.Read

/-- A fold that adds is the sum. -/
theorem foldl_add {N : ℕ} (f : Fin N → EReal) (v : EReal) : (List.finRange N).foldl (fun r n => r + f n) v = v + ∑ n, f n := by
  have key : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [key, ← List.sum_ofFn, List.ofFn_eq_map]

/-- The sum over the windows that reach from a row to the end of the array: all rows from that one on. -/
theorem reverse_sum (h : S4096x4x128.ReduceWindows ![4096, 1, 1] ![1, 1, 1] ![0, 0, 0] ![4095, 0, 0] S4096x4x128)
    (x : S4096x4x128.Idx → EReal) (i : Fin 4096) (g : Fin 4) (c : Fin 128) :
    Ideal.hostReduceWindowAdd ![4096, 1, 1] ![1, 1, 1] ![0, 0, 0] ![4095, 0, 0] h x 0 (ix3 i g c)
      = ∑ n : Fin 4096, if hn : i.val + n.val < 4096 then x (ix3 ⟨i.val + n.val, hn⟩ g c) else 0 := by
  unfold Ideal.hostReduceWindowAdd Host.reduceWindow
  refine (foldl_add _ _).trans ((zero_add _).trans ?_)
  have key : ∀ (w : (⟨3, ![4096, 1, 1]⟩ : Shape).Idx) (D : Decidable (∀ a : Fin 3, (![0, 0, 0] : Fin 3 → ℕ) a ≤ (ix3 i g c a).val * (![1, 1, 1] : Fin 3 → ℕ) a + (w a).val
          ∧ (ix3 i g c a).val * (![1, 1, 1] : Fin 3 → ℕ) a + (w a).val - (![0, 0, 0] : Fin 3 → ℕ) a < S4096x4x128.size a)),
      @dite EReal _ D (fun hin => x (fun a => ⟨(ix3 i g c a).val * (![1, 1, 1] : Fin 3 → ℕ) a + (w a).val - (![0, 0, 0] : Fin 3 → ℕ) a, (hin a).2⟩)) (fun _ => 0)
      = if hn : i.val + (w 0).val < 4096 then x (ix3 ⟨i.val + (w 0).val, hn⟩ g c) else 0 := by
    intro w D
    have h1 : (w 1).val = 0 := by have h : (w 1).val < 1 := (w 1).isLt; omega
    have h2 : (w 2).val = 0 := by have h : (w 2).val < 1 := (w 2).isLt; omega
    have hg := g.isLt
    have hc := c.isLt
    by_cases hn : i.val + (w 0).val < 4096
    · rw [dif_pos hn, dif_pos]
      · exact congrArg x (funext fun a => match a with
          | ⟨0, _⟩ => Fin.ext (by show i.val * 1 + (w 0).val - 0 = i.val + (w 0).val; omega)
          | ⟨1, _⟩ => Fin.ext (by show g.val * 1 + (w 1).val - 0 = g.val; omega)
          | ⟨2, _⟩ => Fin.ext (by show c.val * 1 + (w 2).val - 0 = c.val; omega))
      · intro a
        match a with
        | ⟨0, _⟩ => exact ⟨Nat.zero_le _, by show i.val * 1 + (w 0).val - 0 < 4096; omega⟩
        | ⟨1, _⟩ => exact ⟨Nat.zero_le _, by show g.val * 1 + (w 1).val - 0 < 4; omega⟩
        | ⟨2, _⟩ => exact ⟨Nat.zero_le _, by show c.val * 1 + (w 2).val - 0 < 128; omega⟩
    · rw [dif_neg hn, dif_neg]
      intro h
      have : i.val * 1 + (w 0).val - 0 < 4096 := (h 0).2
      omega
  refine (Finset.sum_congr rfl fun n _ => key ((Shape.rowMajor ⟨3, ![4096, 1, 1]⟩).symm n) _).trans
    ((Equiv.sum_comp (Shape.rowMajor ⟨3, ![4096, 1, 1]⟩).symm
    (fun w : (⟨3, ![4096, 1, 1]⟩ : Shape).Idx => if hn : i.val + (w 0).val < 4096 then x (ix3 ⟨i.val + (w 0).val, hn⟩ g c) else 0)).trans ?_)
  refine Finset.sum_nbij' (fun w : (⟨3, ![4096, 1, 1]⟩ : Shape).Idx => w 0) (fun n => ix3 n 0 0) (fun _ _ => Finset.mem_univ _) (fun _ _ => Finset.mem_univ _) ?_ (fun _ _ => rfl) (fun _ _ => rfl)
  exact fun w _ => funext fun a => match a with
      | ⟨0, _⟩ => rfl
      | ⟨1, _⟩ => Fin.ext (by have h : (w 1).val < 1 := (w 1).isLt; show 0 = (w 1).val; omega)
      | ⟨2, _⟩ => Fin.ext (by have h : (w 2).val < 1 := (w 2).isLt; show 0 = (w 2).val; omega)

/-- An update of the scatter lands in the row that its first index names. -/
theorem scatter_pairs (idx : IVec S4096x4x2 32) (hg : ∀ t g, (idx (ix3 t g 1)).toInt = (g.val : ℤ)) (upd : S4096x4x128.Idx → EReal)
    (k : Fin 4097) (g : Fin 4) (c : Fin 128) :
    (∑ j ∈ Finset.univ.filter (fun j => scatter_S4097x4x128_S4096x4x2_S4096x4x128_2_01_01_2.resultIdx? j idx = some (ix3 k g c)), upd j)
      = ∑ t : Fin 4096, if (idx (ix3 t g 0)).toInt = (k.val : ℤ) then upd (ix3 t g c) else 0 := by
  have e0 : ∀ j : S4096x4x128.Idx, scatter_S4097x4x128_S4096x4x2_S4096x4x128_2_01_01_2.start j idx 0 = (idx (ix3 (j 0) (j 1) 0)).toInt := fun j => by
    refine (dif_pos (by decide)).trans (congrArg (fun z => (idx z).toInt) (funext fun a => match a with
      | ⟨0, _⟩ => rfl
      | ⟨1, _⟩ => rfl
      | ⟨2, _⟩ => rfl))
  have e1 : ∀ j : S4096x4x128.Idx, scatter_S4097x4x128_S4096x4x2_S4096x4x128_2_01_01_2.start j idx 1 = ((j 1).val : ℤ) := fun j => by
    refine Eq.trans ((dif_pos (by decide)).trans (congrArg (fun z => (idx z).toInt) (a₂ := ix3 (j 0) (j 1) 1) (funext fun a => match a with
      | ⟨0, _⟩ => rfl
      | ⟨1, _⟩ => rfl
      | ⟨2, _⟩ => rfl)))  (hg (j 0) (j 1))
  have e2 : ∀ j : S4096x4x128.Idx, scatter_S4097x4x128_S4096x4x2_S4096x4x128_2_01_01_2.start j idx 2 = 0 := fun j => dif_neg (by decide)
  have w0 : ∀ j : S4096x4x128.Idx, scatter_S4097x4x128_S4096x4x2_S4096x4x128_2_01_01_2.window j 0 = 0 := fun j => dif_neg (by decide)
  have w1 : ∀ j : S4096x4x128.Idx, scatter_S4097x4x128_S4096x4x2_S4096x4x128_2_01_01_2.window j 1 = 0 := fun j => dif_neg (by decide)
  have w2 : ∀ j : S4096x4x128.Idx, scatter_S4097x4x128_S4096x4x2_S4096x4x128_2_01_01_2.window j 2 = (j 2).val := fun j => (dif_pos (by decide)).trans rfl
  have lands : ∀ j : S4096x4x128.Idx, scatter_S4097x4x128_S4096x4x2_S4096x4x128_2_01_01_2.resultIdx? j idx = some (ix3 k g c)
      ↔ (idx (ix3 (j 0) (j 1) 0)).toInt = (k.val : ℤ) ∧ j 1 = g ∧ j 2 = c := fun j => by
    rw [Routing.resultIdx?_eq_some]
    constructor
    · intro h
      have h0 := h 0; have h1 := h 1; have h2 := h 2
      rw [e0, w0] at h0
      rw [e1, w1] at h1
      rw [e2, w2] at h2
      exact ⟨by simpa using h0, Fin.ext (by have : ((j 1).val : ℤ) + ((0 : ℕ) : ℤ) = (g.val : ℤ) := h1; omega),
        Fin.ext (by have : (0 : ℤ) + ((j 2).val : ℤ) = (c.val : ℤ) := h2; omega)⟩
    · rintro ⟨h0, h1, h2⟩ a
      match a with
      | ⟨0, _⟩ => exact (congrArg₂ (fun (s : ℤ) (w : ℕ) => s + (w : ℤ)) (e0 j) (w0 j)).trans (by simpa using h0)
      | ⟨1, _⟩ => exact (congrArg₂ (fun (s : ℤ) (w : ℕ) => s + (w : ℤ)) (e1 j) (w1 j)).trans (by
          simpa using congrArg (fun z : Fin 4 => (z.val : ℤ)) h1)
      | ⟨2, _⟩ => exact (congrArg₂ (fun (s : ℤ) (w : ℕ) => s + (w : ℤ)) (e2 j) (w2 j)).trans (by
          simpa using congrArg (fun z : Fin 128 => (z.val : ℤ)) h2)
  rw [← Finset.sum_filter]
  refine Finset.sum_nbij' (fun j => j 0) (fun t => ix3 t g c) ?_ ?_ ?_ ?_ ?_
  · intro j hj
    obtain ⟨h0, h1, h2⟩ := (lands j).1 (Finset.mem_filter.1 hj).2
    exact Finset.mem_filter.2 ⟨Finset.mem_univ _, by rw [← h1]; exact h0⟩
  · intro t ht
    exact Finset.mem_filter.2 ⟨Finset.mem_univ _, (lands _).2 ⟨(Finset.mem_filter.1 ht).2, rfl, rfl⟩⟩
  · intro j hj
    obtain ⟨h0, h1, h2⟩ := (lands j).1 (Finset.mem_filter.1 hj).2
    exact funext fun a => match a with
      | ⟨0, _⟩ => rfl
      | ⟨1, _⟩ => h1.symm
      | ⟨2, _⟩ => h2.symm
  · intro t ht; rfl
  · intro j hj
    obtain ⟨h0, h1, h2⟩ := (lands j).1 (Finset.mem_filter.1 hj).2
    exact congrArg upd (funext fun a => match a with
      | ⟨0, _⟩ => rfl
      | ⟨1, _⟩ => h1
      | ⟨2, _⟩ => h2)

theorem hi_row (t : Fin 4096) (g : Fin 4) : (val_main_v38 (F := Ideal) (ix3 t g 0)).toInt = (hi (2 ^ g.val) t.val : ℕ) := by
  refine Eq.trans (congrArg BitVec.toInt ?_) (words_at g t).2.1
  pointwise [val_main_v38, val_main_v36, val_main_v37, val_main_v35, val_main_v34, val_main_v33, val_main_v32, val_main_v31, val_main_v30, val_main_v29, val_main_v28, val_main_v27, val_main_v26, val_main_v25, val_main_c_7, val_main_c_8, val_main_c_9, val_main_c_10]
  pointwise [val_main_v0, val_main_c, val_main_v1, val_main_v2, val_main_c_0, val_main_v3, val_main_v4, val_main_v11, val_main_v12, val_main_v13, val_main_v14, val_main_v15, val_main_v16, val_main_c_2, val_main_c_3, val_main_call1_v0, val_main_call1_v1, val_main_call1_v2, val_main_call1_v3, val_main_call1_v4, val_main_v17, val_main_v18, val_main_v19, val_main_v20, val_main_v21, val_main_c_4, val_main_v22, val_main_v23, val_main_c_5, val_main_c_6, val_main_call2_v0, val_main_call2_v1, val_main_call2_v2, val_main_call2_v3, val_main_call2_v4, val_main_v24]
  rfl

theorem hi_group (t : Fin 4096) (g : Fin 4) : (val_main_v38 (F := Ideal) (ix3 t g 1)).toInt = (g.val : ℤ) := by
  refine Eq.trans (congrArg BitVec.toInt ?_) (group_word g)
  pointwise [val_main_v38, val_main_v36, val_main_v37, val_main_v35, val_main_v34, val_main_v33, val_main_v32, val_main_v31, val_main_v30, val_main_v29, val_main_v28, val_main_v27, val_main_v26, val_main_v25, val_main_c_7, val_main_c_8, val_main_c_9, val_main_c_10, val_main_v0]
  rfl

theorem lo_row (t : Fin 4096) (g : Fin 4) : (val_main_v53 (F := Ideal) (ix3 t g 0)).toInt = (lo (2 ^ g.val) t.val : ℕ) := by
  refine Eq.trans (congrArg BitVec.toInt ?_) (words_at g t).1
  pointwise [val_main_v53, val_main_v51, val_main_v52, val_main_v50, val_main_v49, val_main_v48, val_main_v47, val_main_v46, val_main_v45, val_main_v44, val_main_v43, val_main_v42, val_main_v41, val_main_v40, val_main_c_11, val_main_c_12, val_main_c_13, val_main_c_14]
  pointwise [val_main_v0, val_main_c, val_main_v1, val_main_v2, val_main_c_0, val_main_v3, val_main_v4, val_main_v11, val_main_v12, val_main_v13, val_main_v14, val_main_v15, val_main_v16, val_main_c_2, val_main_c_3, val_main_call1_v0, val_main_call1_v1, val_main_call1_v2, val_main_call1_v3, val_main_call1_v4, val_main_v17, val_main_v18, val_main_v19, val_main_v20, val_main_v21, val_main_c_4, val_main_v22, val_main_v23, val_main_c_5, val_main_c_6, val_main_call2_v0, val_main_call2_v1, val_main_call2_v2, val_main_call2_v3, val_main_call2_v4, val_main_v24]
  rfl

theorem lo_group (t : Fin 4096) (g : Fin 4) : (val_main_v53 (F := Ideal) (ix3 t g 1)).toInt = (g.val : ℤ) := by
  refine Eq.trans (congrArg BitVec.toInt ?_) (group_word g)
  pointwise [val_main_v53, val_main_v51, val_main_v52, val_main_v50, val_main_v49, val_main_v48, val_main_v47, val_main_v46, val_main_v45, val_main_v44, val_main_v43, val_main_v42, val_main_v41, val_main_v40, val_main_c_11, val_main_c_12, val_main_c_13, val_main_c_14, val_main_v0]
  rfl

theorem count_row (t : Fin 4096) (g : Fin 4) : val_main_v57 (F := Ideal) (ix2 t g) = count g t.val := by
  have h : val_main_v56 (F := Ideal) (ix2 t g) = IntOp.subi (hiWord g.val t.val) (loWord g.val t.val) := by
    pointwise [val_main_v56, val_main_v0, val_main_c, val_main_v1, val_main_v2, val_main_c_0, val_main_v3, val_main_v4, val_main_v11, val_main_v12, val_main_v13, val_main_v14, val_main_v15, val_main_v16, val_main_c_2, val_main_c_3, val_main_call1_v0, val_main_call1_v1, val_main_call1_v2, val_main_call1_v3, val_main_call1_v4, val_main_v17, val_main_v18, val_main_v19, val_main_v20, val_main_v21, val_main_c_4, val_main_v22, val_main_v23, val_main_c_5, val_main_c_6, val_main_call2_v0, val_main_call2_v1, val_main_call2_v2, val_main_call2_v3, val_main_call2_v4, val_main_v24]
    rfl
  show ((((val_main_v56 (F := Ideal) (ix2 t g)).toInt : ℤ) : ℝ) : EReal) = _
  rw [h, (words_at g t).2.2, Int.cast_natCast]
  rfl

section At

variable (x1 : S4x128x128.Idx → EReal) (x2 : S1x512.Idx → EReal) (x3 : S4096x512.Idx → EReal)

theorem cotangent_apply (t : Fin 4096) (g : Fin 4) (c : Fin 128) :
    val_main_v76 (F := Ideal) x1 x2 x3 (ix3 t g c) = cotangent x3 x1 x2 g t c := by
  pointwise [val_main_v76, val_main_v75, val_main_v74, val_main_v73, val_main_v72, val_main_v71, val_main_v67, cotangent, col]
  simp only [Nat.mul_comm 128 g.val]

theorem quotient_apply (t : Fin 4096) (g : Fin 4) (c : Fin 128) :
    val_main_v81 (F := Ideal) x1 x2 x3 (ix3 t g c) = Ideal.div (cotangent x3 x1 x2 g t c) (count g t.val) := by
  rw [← cotangent_apply, ← count_row]
  pointwise [val_main_v81, val_main_v80, val_main_v58]

/-- What the two gathers' cotangents add up to in a row of the running sums. -/
theorem scattered_apply (k : Fin 4097) (g : Fin 4) (c : Fin 128) :
    val_main_v87 (F := Ideal) x1 x2 x3 (ix3 k g c)
      = (∑ t : Fin 4096, if lo (2 ^ g.val) t.val = k.val then -Ideal.div (cotangent x3 x1 x2 g t c) (count g t.val) else 0)
        + ∑ t : Fin 4096, if hi (2 ^ g.val) t.val = k.val then Ideal.div (cotangent x3 x1 x2 g t c) (count g t.val) else 0 := by
  have e83 : val_main_v83 (F := Ideal) (ix3 k g c) = 0 := by pointwise [val_main_v83, val_main_cst_16]
  have e85 : val_main_v85 (F := Ideal) (ix3 k g c) = 0 := by pointwise [val_main_v85, val_main_cst_17]
  have e82 : ∀ t, val_main_v82 (F := Ideal) x1 x2 x3 (ix3 t g c) = -Ideal.div (cotangent x3 x1 x2 g t c) (count g t.val) := fun t => by
    rw [← quotient_apply]; rfl
  refine congrArg₂ (fun x y : EReal => x + y)
    ((congrArg₂ (fun x y : EReal => x + y) e83 (scatter_pairs _ lo_group _ k g c)).trans ((zero_add _).trans (Finset.sum_congr rfl fun t _ => ?_)))
    ((congrArg₂ (fun x y : EReal => x + y) e85 (scatter_pairs _ hi_group _ k g c)).trans ((zero_add _).trans (Finset.sum_congr rfl fun t _ => ?_)))
  · rw [lo_row, e82]
    simp only [Nat.cast_inj]
  · rw [hi_row, quotient_apply]
    simp only [Nat.cast_inj]

/-- The group of a column, and its place in the group. -/
def grp (m : Fin 512) : Fin 4 := ⟨m.val / 128, by have := m.isLt; omega⟩
def lane (m : Fin 512) : Fin 128 := ⟨m.val % 128, by omega⟩

/-- The reference's cotangent of the rows. -/
theorem dp_apply (i : Fin 4096) (m : Fin 512) : val_main_v93 (F := Ideal) x1 x2 x3 (ix2 i m)
    = -cotangent x3 x1 x2 (grp m) i (lane m)
      + ∑ n : Fin 4096, if i.val + n.val < 4096 then
          (∑ t : Fin 4096, if lo (2 ^ (grp m).val) t.val = i.val + n.val + 1 then -Ideal.div (cotangent x3 x1 x2 (grp m) t (lane m)) (count (grp m) t.val) else 0)
            + ∑ t : Fin 4096, if hi (2 ^ (grp m).val) t.val = i.val + n.val + 1 then Ideal.div (cotangent x3 x1 x2 (grp m) t (lane m)) (count (grp m) t.val) else 0
        else 0 := by
  have e90 : val_main_v90 (F := Ideal) x1 x2 x3 (ix3 i (grp m) (lane m))
      = ∑ n : Fin 4096, if hn : i.val + n.val < 4096 then val_main_v89 (F := Ideal) x1 x2 x3 (ix3 ⟨i.val + n.val, hn⟩ (grp m) (lane m)) else 0 := by
    unfold val_main_v90 Host.reduceWindowAdd
    rw [Ideal.hostReduceWindowAdd_def]
    refine Eq.trans ?_ (reverse_sum Gen.facts₀.reduceWindows_S4096x4x128_S4096x4x128_w4096s1p0_4095_w1s1p0_0_w1s1p0_0 _ i (grp m) (lane m))
    have e0 : ∀ z, val_main_call3_call0_v0 (F := Ideal) z = 0 := fun z => by pointwise [val_main_call3_call0_v0, val_main_call3_call0_cst]
    show Ideal.hostReduceWindowAdd _ _ _ _ _ _ (val_main_call3_call0_v0 (F := Ideal) _) _ = _
    rw [e0]
  pointwise [val_main_v93, val_main_v92, val_main_v91, val_main_v79]
  refine congrArg₂ (fun x y : EReal => -x + y) (cotangent_apply x1 x2 x3 i (grp m) (lane m)) (e90.trans (Finset.sum_congr rfl fun n _ => ?_))
  by_cases hn : i.val + n.val < 4096
  · rw [dif_pos hn, if_pos hn]
    refine Eq.trans ?_ (scattered_apply x1 x2 x3 ⟨i.val + n.val + 1, by omega⟩ (grp m) (lane m))
    pointwise [val_main_v89]
    exact congrArg (fun k => val_main_v87 (F := Ideal) x1 x2 x3 (ix3 k (grp m) (lane m))) (Fin.ext (Nat.add_comm _ _))
  · rw [dif_neg hn, if_neg hn]

end At

end Cert.Step.PoolBwd

end
-- ==== Proof.Step.PoolEq.lean ====
/-
The pooling mixer's backward kernel and the derivative of the forward lines leave the same three results.
-/
module

public import proofs.«01_k».proof.Proof.Step.PoolRef

@[expose] public section

set_option maxRecDepth 16384

open Idealize.ShloMosaic Idealize.ShloMosaic.TcCoe Idealize.SL.Sem

noncomputable section

namespace Cert.Step.PoolBwd

open Cert.Step.Pool Cert.PoolBwdIdeal Cert.PoolBwdIdeal.Gen

theorem zero_ideal : (zero (F := Ideal) : EReal) = 0 := by show Ideal.ofBits .f32 0x00000000#32 = 0; simp [Ideal.ofBits, Ideal.ieee]

/-- Real rows between zero rows are the padded real rows. -/
theorem padded_coe (Q : Fin 16 → (⟨2, ![256, 128]⟩ : Shape).Idx → EReal) (q : Fin 4096 → ℝ) (c : Fin 128)
    (hQ : ∀ k r, Q k (ix2 r c) = (q (row k r) : EReal)) (n : ℕ) : padded (zero (F := Ideal)) Q n c = ((ext q n : ℝ) : EReal) := by
  unfold padded ext
  by_cases h : 8 ≤ n ∧ n < 4104
  · rw [dif_pos h, dif_pos h, hQ]
    exact congrArg (fun t => (q t : EReal)) (Fin.ext (by show 256 * ((n - 8) / 256) + (n - 8) % 256 = n - 8; omega))
  · rw [dif_neg h, dif_neg h, zero_ideal]
    rfl

/-- A window has at least one row. -/
theorem count_ne (g : Fin 4) (t : Fin 4096) : ((hi (2 ^ g.val) t.val - lo (2 ^ g.val) t.val : ℕ) : ℝ) ≠ 0 := by
  have h1 : 1 ≤ 2 ^ g.val := Nat.one_le_two_pow
  have ht := t.isLt
  have : hi (2 ^ g.val) t.val - lo (2 ^ g.val) t.val ≠ 0 := by
    unfold hi lo
    omega
  exact Nat.cast_ne_zero.2 this

/-- A row at its place in the padded rows. -/
theorem ext_at (q : Fin 4096 → ℝ) (t : Fin 4096) : ext q (t.val + 8) = q t := by
  have ht := t.isLt
  unfold ext
  rw [dif_pos ⟨by omega, by omega⟩]
  exact congrArg q (Fin.ext (by show t.val + 8 - 8 = t.val; omega))

/-- A window's sum of real rows less one row times its count is the sum of the differences that the running sums' gradient leaves. -/
theorem window_eq (g : Fin 4) (L : ℕ) (hL : L = 2 ^ g.val) (Q : Fin 16 → (⟨2, ![256, 128]⟩ : Shape).Idx → EReal) (G : Fin 4096 → ℝ) (c : Fin 128)
    (hQ : ∀ k r, Q k (ix2 r c) = Ideal.div (G (row k r) : EReal) (count g (256 * k.val + r.val))) (i : Fin 4096) :
    (∑ s ∈ Finset.range (2 * L), padded (zero (F := Ideal)) Q (i.val + 8 - (L - 1) + s) c) - padded (zero (F := Ideal)) Q (i.val + 8) c * count g i.val
      = -(G i : EReal) + ∑ n : Fin 4096, if i.val + n.val < 4096 then
          (∑ t : Fin 4096, if lo L t.val = i.val + n.val + 1 then -Ideal.div (G t : EReal) (count g t.val) else 0)
            + ∑ t : Fin 4096, if hi L t.val = i.val + n.val + 1 then Ideal.div (G t : EReal) (count g t.val) else 0 else 0 := by
  have hg := g.isLt
  have hL' : 1 ≤ L ∧ L ≤ 8 := by
    subst hL
    exact ⟨Nat.one_le_two_pow, (Nat.pow_le_pow_right (by decide) (show g.val ≤ 3 by omega)).trans (by decide)⟩
  let q : Fin 4096 → ℝ := fun t => G t / ((hi (2 ^ g.val) t.val - lo (2 ^ g.val) t.val : ℕ) : ℝ)
  have hq : ∀ t : Fin 4096, Ideal.div (G t : EReal) (count g t.val) = (q t : EReal) := fun t => div_coe _ (count_ne g t)
  have hp := padded_coe Q q c fun k r => (hQ k r).trans (hq (row k r))
  have hl : (∑ n : Fin 4096, if i.val + n.val < 4096 then
          (∑ t : Fin 4096, if lo L t.val = i.val + n.val + 1 then -Ideal.div (G t : EReal) (count g t.val) else 0)
            + ∑ t : Fin 4096, if hi L t.val = i.val + n.val + 1 then Ideal.div (G t : EReal) (count g t.val) else 0 else 0)
      = ((∑ n : Fin 4096, if i.val + n.val < 4096 then
          -(∑ t : Fin 4096, if lo L t.val = i.val + n.val + 1 then q t else 0)
            + ∑ t : Fin 4096, if hi L t.val = i.val + n.val + 1 then q t else 0 else 0 : ℝ) : EReal) := by
    rw [coe_sum]
    refine Finset.sum_congr rfl fun n _ => ?_
    by_cases hn : i.val + n.val < 4096
    · rw [if_pos hn, if_pos hn, EReal.coe_add, ← Finset.sum_neg_distrib, coe_sum, coe_sum]
      refine congrArg₂ (fun x y : EReal => x + y) (Finset.sum_congr rfl fun t _ => ?_) (Finset.sum_congr rfl fun t _ => ?_)
      · by_cases h : lo L t.val = i.val + n.val + 1
        · rw [if_pos h, if_pos h, hq]; rfl
        · rw [if_neg h, if_neg h, neg_zero]; rfl
      · by_cases h : hi L t.val = i.val + n.val + 1
        · rw [if_pos h, if_pos h, hq]
        · rw [if_neg h, if_neg h]; rfl
    · rw [if_neg hn, if_neg hn]; rfl
  rw [hl, ← window L hL' q i, Finset.sum_congr rfl fun s _ => hp _, hp, ← coe_sum, ext_at]
  have hGq : (q i : EReal) * count g i.val = (G i : EReal) := by
    show ((q i : ℝ) : EReal) * (((hi (2 ^ g.val) i.val - lo (2 ^ g.val) i.val : ℕ) : ℝ) : EReal) = _
    rw [← EReal.coe_mul]
    exact congrArg _ (div_mul_cancel₀ _ (count_ne g i))
  rw [hGq, sub_eq_add_neg, add_comm]

variable (x0 x1 x2 : S4096x512.Idx → EReal) (x3 : S4x128x128.Idx → EReal) (x4 : S1x512.Idx → EReal)

/-- Group 0: the kernel's tile of the cotangent of the rows. -/
theorem dp0 (hG : ∀ t c, ∃ r : ℝ, cotangent x0 x3 x4 0 t c = (r : EReal)) (k : Fin 16) (r : Fin 256) (c : Fin 128) :
    dpTile (F := Ideal) x0 x3 x4 0 k (ix2 r c)
      = -cotangent x0 x3 x4 0 (row k r) c
        + ∑ n : Fin 4096, if (row k r).val + n.val < 4096 then
          (∑ t : Fin 4096, if lo 1 t.val = (row k r).val + n.val + 1 then -Ideal.div (cotangent x0 x3 x4 0 t c) (count 0 t.val) else 0)
            + ∑ t : Fin 4096, if hi 1 t.val = (row k r).val + n.val + 1 then Ideal.div (cotangent x0 x3 x4 0 t c) (count 0 t.val) else 0
          else 0 := by
  choose G hG using hG
  refine (window0_apply (fun k => cot0 (F := Ideal) x0 x3 x4 (Fin.cast trips1.symm k)) k r c).trans ?_
  refine (window_eq 0 1 rfl _ (fun t => G t c) c (fun k r => ?_) (row k r)).trans ?_
  · exact (cot0_apply x0 x3 x4 k r c).trans (by rw [hG])
  · simp only [hG]

/-- Group 1: the kernel's tile of the cotangent of the rows. -/
theorem dp1 (hG : ∀ t c, ∃ r : ℝ, cotangent x0 x3 x4 1 t c = (r : EReal)) (k : Fin 16) (r : Fin 256) (c : Fin 128) :
    dpTile (F := Ideal) x0 x3 x4 1 k (ix2 r c)
      = -cotangent x0 x3 x4 1 (row k r) c
        + ∑ n : Fin 4096, if (row k r).val + n.val < 4096 then
          (∑ t : Fin 4096, if lo 2 t.val = (row k r).val + n.val + 1 then -Ideal.div (cotangent x0 x3 x4 1 t c) (count 1 t.val) else 0)
            + ∑ t : Fin 4096, if hi 2 t.val = (row k r).val + n.val + 1 then Ideal.div (cotangent x0 x3 x4 1 t c) (count 1 t.val) else 0
          else 0 := by
  choose G hG using hG
  refine (window1_apply (fun k => cot1 (F := Ideal) x0 x3 x4 (Fin.cast trips3.symm k)) k r c).trans ?_
  refine (window_eq 1 2 rfl _ (fun t => G t c) c (fun k r => ?_) (row k r)).trans ?_
  · exact (cot1_apply x0 x3 x4 k r c).trans (by rw [hG])
  · simp only [hG]

/-- Group 2: the kernel's tile of the cotangent of the rows. -/
theorem dp2 (hG : ∀ t c, ∃ r : ℝ, cotangent x0 x3 x4 2 t c = (r : EReal)) (k : Fin 16) (r : Fin 256) (c : Fin 128) :
    dpTile (F := Ideal) x0 x3 x4 2 k (ix2 r c)
      = -cotangent x0 x3 x4 2 (row k r) c
        + ∑ n : Fin 4096, if (row k r).val + n.val < 4096 then
          (∑ t : Fin 4096, if lo 4 t.val = (row k r).val + n.val + 1 then -Ideal.div (cotangent x0 x3 x4 2 t c) (count 2 t.val) else 0)
            + ∑ t : Fin 4096, if hi 4 t.val = (row k r).val + n.val + 1 then Ideal.div (cotangent x0 x3 x4 2 t c) (count 2 t.val) else 0
          else 0 := by
  choose G hG using hG
  refine (window2_apply (fun k => cot2 (F := Ideal) x0 x3 x4 (Fin.cast trips5.symm k)) k r c).trans ?_
  refine (window_eq 2 4 rfl _ (fun t => G t c) c (fun k r => ?_) (row k r)).trans ?_
  · exact (cot2_apply x0 x3 x4 k r c).trans (by rw [hG])
  · simp only [hG]

/-- Group 3: the kernel's tile of the cotangent of the rows. -/
theorem dp3 (hG : ∀ t c, ∃ r : ℝ, cotangent x0 x3 x4 3 t c = (r : EReal)) (k : Fin 16) (r : Fin 256) (c : Fin 128) :
    dpTile (F := Ideal) x0 x3 x4 3 k (ix2 r c)
      = -cotangent x0 x3 x4 3 (row k r) c
        + ∑ n : Fin 4096, if (row k r).val + n.val < 4096 then
          (∑ t : Fin 4096, if lo 8 t.val = (row k r).val + n.val + 1 then -Ideal.div (cotangent x0 x3 x4 3 t c) (count 3 t.val) else 0)
            + ∑ t : Fin 4096, if hi 8 t.val = (row k r).val + n.val + 1 then Ideal.div (cotangent x0 x3 x4 3 t c) (count 3 t.val) else 0
          else 0 := by
  choose G hG using hG
  refine (window3_apply (fun k => cot3 (F := Ideal) x0 x3 x4 (Fin.cast trips7.symm k)) k r c).trans ?_
  refine (window_eq 3 8 rfl _ (fun t => G t c) c (fun k r => ?_) (row k r)).trans ?_
  · exact (cot3_apply x0 x3 x4 k r c).trans (by rw [hG])
  · simp only [hG]

/-- The kernel's cotangent of the rows is the reference's. -/
theorem dp_eq (hG : ∀ g t c, ∃ r : ℝ, cotangent x0 x3 x4 g t c = (r : EReal)) :
    dpOf (F := Ideal) x0 x3 x4 = Cert.PoolBwdRefIdeal.Read.val_main_v93 (F := Ideal) x3 x4 x0 := funext fun y => by
  have h0 : (y 0).val < 4096 := (y 0).isLt
  have ey : y = ix2 (y 0) (y 1) := funext fun a => match a with
    | ⟨0, _⟩ => rfl
    | ⟨1, _⟩ => rfl
  refine Eq.trans ?_ ((congrArg _ ey).trans (dp_apply x3 x4 x0 (y 0) (y 1))).symm
  have er : row ⟨(y 0).val / 256, by omega⟩ ⟨(y 0).val % 256, by omega⟩ = y 0 := Fin.ext (Nat.div_add_mod _ _)
  show dpTile (F := Ideal) x0 x3 x4 (grp (y 1)) ⟨(y 0).val / 256, by omega⟩ (ix2 ⟨(y 0).val % 256, by omega⟩ (lane (y 1))) = _
  generalize grp (y 1) = g
  match g with
  | 0 => exact (dp0 x0 x3 x4 (hG 0) _ _ _).trans (by rw [er]; rfl)
  | 1 => exact (dp1 x0 x3 x4 (hG 1) _ _ _).trans (by rw [er]; rfl)
  | 2 => exact (dp2 x0 x3 x4 (hG 2) _ _ _).trans (by rw [er]; rfl)
  | 3 => exact (dp3 x0 x3 x4 (hG 3) _ _ _).trans (by rw [er]; rfl)

theorem sums_fst (g : Fin 4) (c : Fin 128) :
    (sumsOf (F := Ideal) x0 x1 x2 x4 g).1 (ix2 0 c) = ∑ t : Fin 4096, x0 (ix2 t (col g c)) * x1 (ix2 t (col g c)) :=
  match g with
  | 0 => sums0_fst x0 x1 x2 x4 c
  | 1 => sums1_fst x0 x1 x2 x4 c
  | 2 => sums2_fst x0 x1 x2 x4 c
  | 3 => sums3_fst x0 x1 x2 x4 c

theorem sums_snd (g : Fin 4) (a c : Fin 128) :
    (sumsOf (F := Ideal) x0 x1 x2 x4 g).2 (ix2 a c)
      = ∑ t : Fin 4096, x2 (ix2 t (col g a)) * (x0 (ix2 t (col g c)) * x4 (ix2 0 (col g c))) :=
  match g with
  | 0 => sums0_snd x0 x1 x2 x4 a c
  | 1 => sums1_snd x0 x1 x2 x4 a c
  | 2 => sums2_snd x0 x1 x2 x4 a c
  | 3 => sums3_snd x0 x1 x2 x4 a c

theorem col_grp (m : Fin 512) : col (grp m) (lane m) = m := Fin.ext (Nat.div_add_mod _ _)
theorem grp_col (g : Fin 4) (c : Fin 128) : grp (col g c) = g := Fin.ext (by have := c.isLt; show (128 * g.val + c.val) / 128 = g.val; omega)
theorem lane_col (g : Fin 4) (c : Fin 128) : lane (col g c) = c := Fin.ext (by have := c.isLt; show (128 * g.val + c.val) % 128 = c.val; omega)

section
open Cert.PoolBwdRefIdeal.Read
variable (p : S4096x512.Idx → EReal)

/-- The gradient of the scales. -/
theorem dscale_eq : dscaleOf (F := Ideal) x0 (val_main_v64 (F := Ideal) p x3) x2 x4 = val_main_v70 (F := Ideal) p x3 x0 := funext fun y => by
  refine (sums_fst x0 _ x2 x4 (grp (y 1)) (lane (y 1))).trans ?_
  idx_vars y
  pointwise [val_main_v70, val_main_v69, val_main_v68, val_main_v67, val_main_cst_15]
  simp only [col_grp]
  exact Finset.sum_congr rfl fun t _ => mul_comm _ _

/-- The gradient of the matrices. -/
theorem dw_eq : dwOf (F := Ideal) x0 x1 (fun z => val_main_v61 (F := Ideal) p (ix3 (z 0) (grp (z 1)) (lane (z 1)))) x4 = val_main_v78 (F := Ideal) p x4 x0 := funext fun y => by
  refine (sums_snd x0 x1 _ x4 (y 0) (y 1) (y 2)).trans ?_
  idx_vars y
  pointwise [val_main_v78, val_main_v77, val_main_v74, val_main_v73, val_main_v72, val_main_v71, val_main_v67]
  refine Finset.sum_congr rfl fun t _ => ?_
  rw [grp_col, lane_col, mul_comm]
  have e : (⟨y0.val * 128 + y2.val, by have := y0.isLt; have := y2.isLt; omega⟩ : Fin 512) = col y0 y2 := Fin.ext (congrArg (· + y2.val) (Nat.mul_comm _ _))
  rw [e]
end

end Cert.Step.PoolBwd

end
-- ==== Proof.Step.PoolBwd.lean ====
/-
The pooling mixer's backward call: its frame, and that its three results are the derivative of the forward lines.
-/
module

public import proofs.«01_k».proof.Proof.Step.PoolEq
public import proofs.«01_k».proof.Proof.Step.Norm
public import proofs.«01_k».proof.Proof.Gen.PoolBwd
public import proofs.«01_k».proof.Proof.Gen.PoolBwdRefIdeal.Run
public import proofs.«01_k».proof.Proof.Gen.Pre_pool_bwd_finite
public import proofs.«01_k».proof.Defs
public import Idealize.ShloMosaic.Lib.StableHlo.ReadAt

@[expose] public section

set_option maxRecDepth 16384

open Idealize.ShloMosaic Idealize.ShloMosaic.TcCoe Idealize.SL.Sem

noncomputable section

namespace Cert.Step.PoolBwd

open Cert.Step.Pool Cert.PoolBwdIdeal Cert.PoolBwdIdeal.Gen
variable (m : (ℓ : Loc nD τ sig) → Buf (Elt Ideal) ℓ)

theorem v7_eq (c : Dev nD) : StableHlo.upto (List.flatten [hostOps0 (F := Ideal), hostOps0_1, hostOps0_2, hostOps0_3, hostOps0_4, hostOps0_5, hostOps0_6]) (fun b => m (c, b)) 14 (Proc.devRef .tc main_v7) = (Cert.PoolBwdRefIdeal.Read.val_main_v7 (F := Ideal) : S1x4x128.Idx → EReal) := by
  after_reads_simp
  try simp -implicitDefEqProofs only [StableHlo.TRef.toBuf, StableHlo.TRef.ofBuf, cast_cast, cast_eq]
  clean_types
  rfl

theorem v8_eq (c : Dev nD) : StableHlo.upto (List.flatten [hostOps0 (F := Ideal), hostOps0_1, hostOps0_2, hostOps0_3, hostOps0_4, hostOps0_5, hostOps0_6]) (fun b => m (c, b)) 14 (Proc.devRef .tc main_v8) = (Cert.PoolBwdRefIdeal.Read.val_main_v8 (F := Ideal) (m ((c : Thread nD τ).loc main_arg0)) : S4096x4x128.Idx → EReal) := by
  after_reads_simp
  try simp -implicitDefEqProofs only [StableHlo.TRef.toBuf, StableHlo.TRef.ofBuf, cast_cast, cast_eq]
  clean_types
  rfl

theorem v35_eq (c : Dev nD) : StableHlo.upto (List.flatten [hostOps0 (F := Ideal), hostOps0_1, hostOps0_2, hostOps0_3, hostOps0_4, hostOps0_5, hostOps0_6]) (fun b => m (c, b)) 61 (Proc.devRef .tc main_v35) = (Cert.PoolBwdRefIdeal.Read.val_main_v36 (F := Ideal) : S4096x4x1.Idx → BitVec 32) := by
  after_reads_simp
  try simp -implicitDefEqProofs only [StableHlo.TRef.toBuf, StableHlo.TRef.ofBuf, cast_cast, cast_eq]
  clean_types
  rfl

theorem v36_eq (c : Dev nD) : StableHlo.upto (List.flatten [hostOps0 (F := Ideal), hostOps0_1, hostOps0_2, hostOps0_3, hostOps0_4, hostOps0_5, hostOps0_6]) (fun b => m (c, b)) 61 (Proc.devRef .tc main_v36) = (Cert.PoolBwdRefIdeal.Read.val_main_v37 (F := Ideal) : S4096x4x1.Idx → BitVec 32) := by
  after_reads_simp
  try simp -implicitDefEqProofs only [StableHlo.TRef.toBuf, StableHlo.TRef.ofBuf, cast_cast, cast_eq]
  clean_types
  rfl

theorem v50_eq (c : Dev nD) : StableHlo.upto (List.flatten [hostOps0 (F := Ideal), hostOps0_1, hostOps0_2, hostOps0_3, hostOps0_4, hostOps0_5, hostOps0_6]) (fun b => m (c, b)) 80 (Proc.devRef .tc main_v50) = (Cert.PoolBwdRefIdeal.Read.val_main_v51 (F := Ideal) : S4096x4x1.Idx → BitVec 32) := by
  after_reads_simp
  try simp -implicitDefEqProofs only [StableHlo.TRef.toBuf, StableHlo.TRef.ofBuf, cast_cast, cast_eq]
  clean_types
  rfl

theorem v51_eq (c : Dev nD) : StableHlo.upto (List.flatten [hostOps0 (F := Ideal), hostOps0_1, hostOps0_2, hostOps0_3, hostOps0_4, hostOps0_5, hostOps0_6]) (fun b => m (c, b)) 80 (Proc.devRef .tc main_v51) = (Cert.PoolBwdRefIdeal.Read.val_main_v52 (F := Ideal) : S4096x4x1.Idx → BitVec 32) := by
  after_reads_simp
  try simp -implicitDefEqProofs only [StableHlo.TRef.toBuf, StableHlo.TRef.ofBuf, cast_cast, cast_eq]
  clean_types
  rfl

theorem V_mixed (c : Dev nD) : V m c main_v64 = (Cert.PoolBwdRefIdeal.Read.val_main_v64 (F := Ideal) (m ((c : Thread nD τ).loc main_arg0)) (m ((c : Thread nD τ).loc main_arg1)) : S4096x512.Idx → EReal) := by
  unfold V
  after_reads_simp
  simp -implicitDefEqProofs only [StableHlo.TRef.toBuf, StableHlo.TRef.ofBuf, cast_cast, cast_eq]
  clean_types
  rw [v7_eq, v8_eq, v35_eq, v36_eq, v50_eq, v51_eq]
  rfl

theorem V_pooled (c : Dev nD) : V m c main_v66 = (fun z => Cert.PoolBwdRefIdeal.Read.val_main_v61 (F := Ideal) (m ((c : Thread nD τ).loc main_arg0)) (ix3 (z 0) (grp (z 1)) (lane (z 1))) : S4096x512.Idx → EReal) := by
  unfold V
  after_reads_simp
  simp -implicitDefEqProofs only [StableHlo.TRef.toBuf, StableHlo.TRef.ofBuf, cast_cast, cast_eq]
  clean_types
  rw [v7_eq, v8_eq, v35_eq, v36_eq, v50_eq, v51_eq]
  refine Eq.trans (b := fun i => shapeCast S4096x512 (Cert.PoolBwdRefIdeal.Read.val_main_v61 (F := Ideal) (m ((c : Thread nD τ).loc main_arg0))) shapeCasts_S4096x4x128_S4096x512 i) rfl ?_
  funext y
  idx_vars y
  pointwise [grp, lane]

theorem idx : ∀ t : Fin cfg0.N, win0_0.index t = ![0, 0] ∧ win0_1.index t = ![0, 0] ∧ win0_2.index t = ![0, 0] ∧ win0_3.index t = ![0, 0, 0] ∧ win0_4.index t = ![0, 0] ∧ win0_5.index t = ![0, 0] ∧ win0_6.index t = ![0, 0] ∧ win0_7.index t = ![0, 0, 0] :=
  (by decide +kernel : ∀ t : Fin grid0.N, _)

theorem blk0 (c : Dev nD) (t : Fin cfg0.N) : iblk m c 0 t = (V m c main_arg3 : S4096x512.Idx → EReal) := by
  funext z
  idx_vars z
  blk_point [iblk, idx t]

theorem blk1 (c : Dev nD) (t : Fin cfg0.N) : iblk m c 1 t = (V m c main_v64 : S4096x512.Idx → EReal) := by
  funext z
  idx_vars z
  blk_point [iblk, idx t]

theorem blk2 (c : Dev nD) (t : Fin cfg0.N) : iblk m c 2 t = (V m c main_v66 : S4096x512.Idx → EReal) := by
  funext z
  idx_vars z
  blk_point [iblk, idx t]

theorem blk3 (c : Dev nD) (t : Fin cfg0.N) : iblk m c 3 t = (V m c main_arg1 : S4x128x128.Idx → EReal) := by
  funext z
  idx_vars z
  blk_point [iblk, idx t]

theorem blk4 (c : Dev nD) (t : Fin cfg0.N) : iblk m c 4 t = (V m c main_arg2 : S1x512.Idx → EReal) := by
  funext z
  idx_vars z
  blk_point [iblk, idx t]

theorem emb5 (t : Fin cfg0.N) (f : S4096x512.Idx → EReal) (y : S4096x512.Idx) : f (((cfg0.win 5).blk t).view.emb y) = f y := by
  idx_vars y
  blk_point [idx t]

theorem emb6 (t : Fin cfg0.N) (f : S1x512.Idx → EReal) (y : S1x512.Idx) : f (((cfg0.win 6).blk t).view.emb y) = f y := by
  idx_vars y
  blk_point [idx t]

theorem emb7 (t : Fin cfg0.N) (f : S4x128x128.Idx → EReal) (y : S4x128x128.Idx) : f (((cfg0.win 7).blk t).view.emb y) = f y := by
  idx_vars y
  blk_point [idx t]

theorem final5 (c : Dev nD) : (dats m 0 c).arrAt 5 cfg0.N = dpOf (F := Ideal) (V m c main_arg3) (V m c main_arg1) (V m c main_arg2) := by
  refine (dats m 0 c).arrAt_eq_of_covers 5 _ (by decide +kernel) fun t _ y => ?_
  blk_simp
  rw [after0_5]
  simp only [blk0, blk1, blk2, blk3, blk4]
  exact (emb5 t _ y).symm

theorem final6 (c : Dev nD) : (dats m 0 c).arrAt 6 cfg0.N = dscaleOf (F := Ideal) (V m c main_arg3) (V m c main_v64) (V m c main_v66) (V m c main_arg2) := by
  refine (dats m 0 c).arrAt_eq_of_covers 6 _ (by decide +kernel) fun t _ y => ?_
  blk_simp
  rw [after0_6]
  simp only [blk0, blk1, blk2, blk3, blk4]
  exact (emb6 t _ y).symm

theorem final7 (c : Dev nD) : (dats m 0 c).arrAt 7 cfg0.N = dwOf (F := Ideal) (V m c main_arg3) (V m c main_v64) (V m c main_v66) (V m c main_arg2) := by
  refine (dats m 0 c).arrAt_eq_of_covers 7 _ (by decide +kernel) fun t _ y => ?_
  blk_simp
  rw [after0_7]
  simp only [blk0, blk1, blk2, blk3, blk4]
  exact (emb7 t _ y).symm

/-- The precondition says that the matrices, the scales and the cotangent are real: the cotangent of every pooled row is. -/
theorem real_of_pre (p dm : S4096x512.Idx → EReal) (w : S4x128x128.Idx → EReal) (sc : S1x512.Idx → EReal)
    (e : Cert.Pre_pool_bwd_finite.fn (F := Ideal) p w sc dm = fun _ => 1#1) (g : Fin 4) (t : Fin 4096) (c : Fin 128) :
    ∃ r : ℝ, cotangent dm w sc g t c = (r : EReal) := by
  have e0 := congrFun e ix0
  unfold Cert.Pre_pool_bwd_finite.fn at e0
  have e1 := andi_split e0
  have e2 := andi_split e1.1
  exact real_sum fun x => real_mul (real_mul (real_of_all dm _ _ _ _ _ e1.2 _) (real_of_all sc _ _ _ _ _ e2.2 _)) (real_of_all w _ _ _ _ _ e2.1 _)

/-- Kernel and derivative compute the same gradient of the input. -/
theorem same_dp (c : Dev nD) (hG : ∀ g t k, ∃ r : ℝ, cotangent (m (c, main_arg3)) (m (c, main_arg1)) (m (c, main_arg2)) g t k = (r : EReal)) :
    (dats m 0 c).arrAt 5 cfg0.N = Cert.PoolBwdRefIdeal.Read.val_main_v93 (F := Ideal) (m (c, main_arg1)) (m (c, main_arg2)) (m (c, main_arg3)) :=
  (final5 m c).trans ((congr (congr (congrArg (dpOf (F := Ideal)) (V_main_arg3 m c)) (V_main_arg1 m c)) (V_main_arg2 m c)).trans (dp_eq _ _ _ hG))

/-- … of the scales. -/
theorem same_dscale (c : Dev nD) :
    (dats m 0 c).arrAt 6 cfg0.N = Cert.PoolBwdRefIdeal.Read.val_main_v70 (F := Ideal) (m (c, main_arg0)) (m (c, main_arg1)) (m (c, main_arg3)) :=
  (final6 m c).trans ((congr (congr (congr (congrArg (dscaleOf (F := Ideal)) (V_main_arg3 m c)) (V_mixed m c)) rfl) (V_main_arg2 m c)).trans (dscale_eq _ _ _ _ _))

/-- … of the matrices. -/
theorem same_dw (c : Dev nD) :
    (dats m 0 c).arrAt 7 cfg0.N = Cert.PoolBwdRefIdeal.Read.val_main_v78 (F := Ideal) (m (c, main_arg0)) (m (c, main_arg2)) (m (c, main_arg3)) :=
  (final7 m c).trans ((congr (congr (congr (congrArg (dwOf (F := Ideal)) (V_main_arg3 m c)) rfl) (V_pooled m c)) (V_main_arg2 m c)).trans (dw_eq _ _ _ _))

/-- Kernel and derivative leave the same three results. -/
theorem algebraic : Cert.algebraic_PoolBwdIdeal_PoolBwdRefIdeal_pre_pool_bwd_finite := by
  intro m ρ m' ρ' hpre hag
  refine ⟨fun c => (dats m 0 c).arrAt 5 cfg0.N, fun c => (dats m 0 c).arrAt 6 cfg0.N, fun c => (dats m 0 c).arrAt 7 cfg0.N,
    (θ_run _ _ _).mono (fun r h c => ?_) (run_main_quiescent m ρ), (θ_run _ _ _).mono (fun r h c => ?_) (Cert.PoolBwdRefIdeal.Value.run m' ρ')⟩
  · exact ⟨(h.1 c).1 5, (h.1 c).1 6, (h.1 c).1 7, ((h.1 c).2 main_arg0 (Pipeline.mem_restRefs_of main_arg0 (by decide) (by decide))).trans (V_main_arg0 m c),
      ((h.1 c).1 3).trans (((dats m 0 c).arrAt_in 3 rfl _).trans ((A_eq m c 3).trans (V_main_arg1 m c))),
      ((h.1 c).1 4).trans (((dats m 0 c).arrAt_in 4 rfl _).trans ((A_eq m c 4).trans (V_main_arg2 m c))),
      ((h.1 c).1 0).trans (((dats m 0 c).arrAt_in 0 rfl _).trans ((A_eq m c 0).trans (V_main_arg3 m c)))⟩
  · obtain ⟨h1, h2, h3, hk⟩ := h c
    obtain ⟨a0, a1, a2, a3⟩ := hag c
    have hG := real_of_pre _ _ _ _ (hpre c)
    refine ⟨h1.trans ?_, h2.trans ?_, h3.trans ?_, hk⟩ <;> beta_reduce
    · rw [same_dp m c hG, ← a1, ← a2, ← a3]
      exact Cert.PoolBwdRefIdeal.Read.val_main_v93_eq m' c
    · rw [same_dscale m c, ← a0, ← a1, ← a3]
      exact Cert.PoolBwdRefIdeal.Read.val_main_v70_eq m' c
    · rw [same_dw m c, ← a0, ← a2, ← a3]
      exact Cert.PoolBwdRefIdeal.Read.val_main_v78_eq m' c

/-- The two printed programs have the same text. -/
theorem same_defs : Cert.PoolBwd.defs (F := Bits) = Cert.PoolBwdIdeal.defs := by sl_kernel_rfl

theorem same_main : Cert.PoolBwd.main (F := Bits) = Cert.PoolBwdIdeal.main := by sl_kernel_rfl

/-- The frame of the kernel over floats: the run is the same. -/
theorem frame_kernel : Cert.quiescent_PoolBwd := fun m ρ _ => by
  rw [same_defs, same_main]
  exact frame (F := Bits) m ρ

end Cert.Step.PoolBwd
end
-- ==== Proof.Step.PrepPick.lean ====
/-
The gradient of the zero-order hold: what the kernel's masks and its product with a one-hot matrix pick out of a dense
gradient.
-/
module

public import proofs.«01_k».proof.Proof.Step.Norm
public import proofs.«01_k».proof.Proof.Gen.PrepBwdIdeal.Frame
public import Idealize.ShloMosaic.Lib.Pipeline.ValueKit
public import Mathlib.Tactic.Ring

@[expose] public section

set_option maxRecDepth 16384

open Idealize.ShloMosaic Idealize.ShloMosaic.TcCoe Idealize.SL.Sem

noncomputable section

namespace Cert.Step.PrepBwd

open Cert.PrepBwdIdeal Cert.PrepBwdIdeal.Gen

/-- The quotient of a row number or column number, as the kernel's words compute it (rounding down). -/
def divWord (w n : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt n 0#32)) (Scalar.extui (Scalar.cmpi CmpIPredicate.slt n 0#32))))
      (IntOp.cmpi CmpIPredicate.ne (IntOp.remsi ArithUnit.vector w n) 0#32))
    (IntOp.subi (IntOp.divsi ArithUnit.vector w n) 1#32)
    (IntOp.divsi ArithUnit.vector w n)

/-- The remainder, likewise. -/
def modWord (w n : BitVec 32) : BitVec 32 :=
  Scalar.select
    (IntOp.andi
      (IntOp.xori
        (IntOp.cmpi CmpIPredicate.slt (IntOp.remsi ArithUnit.vector w (Scalar.select (Scalar.cmpi CmpIPredicate.eq n 0#32) 1#32 n)) 0#32)
        (Scalar.cmpi CmpIPredicate.slt (Scalar.select (Scalar.cmpi CmpIPredicate.eq n 0#32) 1#32 n) 0#32))
      (IntOp.cmpi CmpIPredicate.ne (IntOp.remsi ArithUnit.vector w (Scalar.select (Scalar.cmpi CmpIPredicate.eq n 0#32) 1#32 n)) 0#32))
    (IntOp.addi (IntOp.remsi ArithUnit.vector w (Scalar.select (Scalar.cmpi CmpIPredicate.eq n 0#32) 1#32 n)) (Scalar.select (Scalar.cmpi CmpIPredicate.eq n 0#32) 1#32 n))
    (IntOp.remsi ArithUnit.vector w (Scalar.select (Scalar.cmpi CmpIPredicate.eq n 0#32) 1#32 n))

theorem row_words : ∀ r : Fin 256, divWord (BitVec.ofNat 32 r.val) 16#32 = BitVec.ofNat 32 (r.val / 16)
    ∧ IntOp.cmpi CmpIPredicate.eq (modWord (BitVec.ofNat 32 r.val) 16#32) 0#32 = if r.val % 16 = 0 then 1#1 else 0#1 := by decide +kernel

theorem column_words : ∀ k : Fin 1024, divWord (BitVec.ofNat 32 k.val) 64#32 = BitVec.ofNat 32 (k.val / 64)
    ∧ modWord (BitVec.ofNat 32 k.val) 64#32 = BitVec.ofNat 32 (k.val % 64) := by decide +kernel

theorem eq_word {a b : ℕ} (ha : a < 64) (hb : b < 64) : IntOp.cmpi CmpIPredicate.eq (BitVec.ofNat 32 a) (BitVec.ofNat 32 b) = if a = b then 1#1 else 0#1 := by
  have h : ∀ a b : Fin 64, IntOp.cmpi CmpIPredicate.eq (BitVec.ofNat 32 a.val) (BitVec.ofNat 32 b.val) = if a.val = b.val then 1#1 else 0#1 := by decide +kernel
  exact h ⟨a, ha⟩ ⟨b, hb⟩

/-- A group's rows meet its own columns: the mask. -/
theorem mask_apply (r : Fin 256) (k : Fin 1024) :
    k0_pay22 (iota .tc S256x1024 32 [0] iota_S256x1024_d0_w32) (iota .tc S256x1024 32 [1] iota_S256x1024_d1_w32) k0_pay19 k0_pay20 k0_pay21 (ix2 r k) = if r.val / 16 = k.val / 64 then 1#1 else 0#1 := by
  pointwise [k0_pay22, k0_pay19, k0_pay20, k0_pay21]
  refine Eq.trans ?_ (eq_word (a := r.val / 16) (b := k.val / 64) (by omega) (by omega))
  exact congrArg₂ (IntOp.cmpi CmpIPredicate.eq) (row_words r).1 (column_words k).1

/-- The one-hot matrix: a column of the dense array belongs to one state. -/
theorem own_apply (k : Fin 1024) (s : Fin 64) :
    k0_pay27 (F := Ideal) (iota .tc S1024x64 32 [1] iota_S1024x64_d1_w32) (Scalar.select (Scalar.cmpi .eq 64#32 0#32) 1#32 64#32) k0_pay23 k0_pay24 k0_pay25 k0_pay26 (ix2 k s) = if k.val % 64 = s.val then (1 : EReal) else 0 := by
  pointwise [k0_pay27, k0_pay23, k0_pay24, k0_pay25, k0_pay26]
  refine Eq.trans (congrArg (fun w => FloatOps.sitofp (F := Ideal) FTy.f32 (BitVec.setWidth 32 w)) ((congrArg (fun w => IntOp.cmpi CmpIPredicate.eq w (BitVec.ofNat 32 s.val)) (column_words k).2).trans (eq_word (a := k.val % 64) (b := s.val) (by omega) s.isLt))) ?_
  split <;> simp [FloatOps.sitofp]

/-- The first channel's rows. -/
theorem first_apply (r : Fin 256) (k : Fin 1024) : k0_pay28 (ix2 r k) = if r.val % 16 = 0 then 1#1 else 0#1 := by
  pointwise [k0_pay28]
  exact (row_words r).2

/-- A row's own column for a state. -/
def own (r : Fin 256) (s : Fin 64) : Fin 1024 := ⟨64 * (r.val / 16) + s.val, by omega⟩

/-- The kernel's product of a masked array, split in a rounded part and a rest, with the one-hot matrix: it picks the
    row's own column. -/
theorem pick (v79 : IVec S256x1024 1) (v101 : FVec Ideal S1024x64 .bf16)
    (h79 : ∀ r k, v79 (ix2 r k) = if r.val / 16 = k.val / 64 then 1#1 else 0#1)
    (h101 : ∀ k s, v101 (ix2 k s) = if k.val % 64 = s.val then (1 : EReal) else 0)
    (x : Fin 1024 → EReal) (hx : ∀ k, ∃ a : ℝ, x k = a) (r : Fin 256) (s : Fin 64) :
    (∑ k, Scalar.select (v79 (ix2 r k)) (x k * v101 (ix2 k s)) 0
      + ∑ k, (Scalar.select (v79 (ix2 r k)) (x k) 0 - Scalar.select (v79 (ix2 r k)) (x k) 0) * v101 (ix2 k s) : EReal) = x (own r s) := by
  have h2 : ∀ k, (Scalar.select (v79 (ix2 r k)) (x k) 0 - Scalar.select (v79 (ix2 r k)) (x k) 0 : EReal) * v101 (ix2 k s) = 0 := fun k => by
    obtain ⟨a, ha⟩ := hx k
    rw [h79, ha]
    split
    · rw [show Scalar.select 1#1 (a : EReal) 0 = a from rfl, ← EReal.coe_sub, sub_self, EReal.coe_zero, zero_mul]
    · rw [show Scalar.select 0#1 (a : EReal) 0 = 0 from rfl, sub_zero, zero_mul]
  rw [Finset.sum_congr rfl fun k _ => h2 k, Finset.sum_const_zero, add_zero, Finset.sum_eq_single (own r s)]
  · have e1 : (own r s).val / 64 = r.val / 16 := by simp only [own]; omega
    have e2 : (own r s).val % 64 = s.val := by simp only [own]; omega
    rw [h79, h101, if_pos e1.symm, if_pos e2, mul_one]
    rfl
  · intro k _ hk
    rw [h79, h101]
    split
    · rw [if_neg, mul_zero]
      · rfl
      · intro e
        refine hk (Fin.ext ?_)
        simp only [own]
        omega
    · rfl
  · exact fun h => absurd (Finset.mem_univ _) h

/-- The same, of a row vector that only the first channel's rows take. -/
theorem pick_first (v79 v120 : IVec S256x1024 1) (v101 : FVec Ideal S1024x64 .bf16)
    (h79 : ∀ r k, v79 (ix2 r k) = if r.val / 16 = k.val / 64 then 1#1 else 0#1)
    (h120 : ∀ r k, v120 (ix2 r k) = if r.val % 16 = 0 then 1#1 else 0#1)
    (h101 : ∀ k s, v101 (ix2 k s) = if k.val % 64 = s.val then (1 : EReal) else 0)
    (x : S1x1024.Idx → EReal) (hx : ∀ k, ∃ a : ℝ, x k = a) (r : Fin 256) (s : Fin 64) :
    (∑ k, Scalar.select (v79 (ix2 r k)) (Scalar.select (v120 (ix2 r k)) (x (ix2 0 k) * v101 (ix2 k s)) 0) 0
      + ∑ k, (Scalar.select (v79 (ix2 r k)) (Scalar.select (v120 (ix2 r k)) (x (ix2 0 k)) 0) 0
        - Scalar.select (v79 (ix2 r k)) (Scalar.select (v120 (ix2 r k)) (x (ix2 0 k)) 0) 0) * v101 (ix2 k s) : EReal)
      = if r.val % 16 = 0 then x (ix2 0 (own r s)) else 0 := by
  have h := pick v79 v101 h79 h101 (fun k => Scalar.select (v120 (ix2 r k)) (x (ix2 0 k)) 0) (fun k => by
    rw [h120]
    split
    · exact hx _
    · exact ⟨0, rfl⟩) r s
  have e : ∀ k, (Scalar.select (v120 (ix2 r k)) (x (ix2 0 k) * v101 (ix2 k s)) 0 : EReal) = Scalar.select (v120 (ix2 r k)) (x (ix2 0 k)) 0 * v101 (ix2 k s) := fun k => by
    rw [h120]
    split
    · rfl
    · exact (zero_mul _).symm
  simp only [e]
  refine h.trans ?_
  simp only [h120]
  split <;> rfl

/-- The row of a direction, group and channel. -/
def rowOf (d : Fin 2) (g ch : Fin 16) : Fin 512 := ⟨256 * d.val + 16 * g.val + ch.val, by omega⟩
def rowIn (g ch : Fin 16) : Fin 256 := ⟨16 * g.val + ch.val, by omega⟩
def colOf (g : Fin 16) (s : Fin 64) : Fin 1024 := ⟨64 * g.val + s.val, by omega⟩

theorem own_row (g ch : Fin 16) (s : Fin 64) : own (rowIn g ch) s = colOf g s := Fin.ext (by simp only [own, rowIn, colOf]; omega)

theorem rowIn_mod (g ch : Fin 16) : (rowIn g ch).val % 16 = ch.val := by simp only [rowIn]; omega

/-- Of two arrays on top of each other, a direction's row is its own array's. -/
theorem on_top (p q : Fin 256 → EReal) (d : Fin 2) (g ch : Fin 16) :
    (if h : (rowOf d g ch).val < 256 then p ⟨(rowOf d g ch).val, h⟩ else q ⟨(rowOf d g ch).val - 256, by have := (rowOf d g ch).isLt; omega⟩)
      = (if d = 0 then p else q) (rowIn g ch) := by
  by_cases hd : d = 0
  · subst hd
    have h : (rowOf 0 g ch).val < 256 := by simp only [rowOf]; simp; omega
    rw [dif_pos h, if_pos rfl]
    exact congrArg p (Fin.ext (by simp [rowOf, rowIn]))
  · have hd1 : d = 1 := by omega
    subst hd1
    have h : ¬ (rowOf 1 g ch).val < 256 := by simp only [rowOf]; simp; omega
    rw [dif_neg h, if_neg hd]
    exact congrArg q (Fin.ext (by simp [rowOf, rowIn]; omega))

section scalar

variable (a i l p q u v : EReal)

/-! One row and state of the kernel: the hold's own values, then the three gradients from the cotangents `p`, `q` of the
    quotient and `u`, `v` of the discretised decay. -/

def magE : EReal := Ideal.exp (Ideal.exp l * a)
def cosE : EReal := Ideal.cos (Ideal.exp l * i)
def sinE : EReal := Ideal.sin (Ideal.exp l * i)
def abiE : EReal := magE a l * sinE i l
def nrE : EReal := magE a l * cosE i l - 1
def denE : EReal := a * a + i * i
def qrE : EReal := Ideal.div (nrE a i l * a + abiE a i l * i) (denE a i)
def qiE : EReal := Ideal.div (abiE a i l * a - nrE a i l * i) (denE a i)
def gdenE : EReal := Ideal.div (0 - (p * qrE a i l + q * qiE a i l)) (denE a i)
def gabrE : EReal := u + (Ideal.div p (denE a i) * a - Ideal.div q (denE a i) * i)
def gabiE : EReal := v + (Ideal.div p (denE a i) * i + Ideal.div q (denE a i) * a)
def geE : EReal := (gabrE a i p q u * cosE i l + gabiE a i p q v * sinE i l) * magE a l
def gangE : EReal := magE a l * (gabiE a i p q v * cosE i l - gabrE a i p q u * sinE i l)
def outA : EReal := Ideal.div p (denE a i) * nrE a i l + Ideal.div q (denE a i) * abiE a i l + 2 * a * gdenE a i l p q + geE a i l p q u v * Ideal.exp l
def outI : EReal := Ideal.div p (denE a i) * abiE a i l - Ideal.div q (denE a i) * nrE a i l + 2 * i * gdenE a i l p q + gangE a i l p q u v * Ideal.exp l
def outL : EReal := (geE a i l p q u v * a + gangE a i l p q u v * i) * Ideal.exp l

end scalar

section real

/-! The same over reals: each gradient is linear in the four cotangents, with these coefficients. -/

/-- A linear combination of the four cotangents. -/
def lin (k : Fin 4 → ℝ) (p q u v : ℝ) : ℝ := k 0 * p + k 1 * q + k 2 * u + k 3 * v

variable (a i l : ℝ)

def magR : ℝ := Real.exp (Real.exp l * a)
def cosR : ℝ := Real.cos (Real.exp l * i)
def sinR : ℝ := Real.sin (Real.exp l * i)
def abiR : ℝ := magR a l * sinR i l
def nrR : ℝ := magR a l * cosR i l - 1
def rhoR : ℝ := (a * a + i * i)⁻¹
def qrR : ℝ := (nrR a i l * a + abiR a i l * i) * rhoR a i
def qiR : ℝ := (abiR a i l * a - nrR a i l * i) * rhoR a i
def kE : Fin 4 → ℝ := ![(a * cosR i l + i * sinR i l) * rhoR a i * magR a l, (a * sinR i l - i * cosR i l) * rhoR a i * magR a l, cosR i l * magR a l, sinR i l * magR a l]
def kG : Fin 4 → ℝ := ![(i * cosR i l - a * sinR i l) * rhoR a i * magR a l, (a * cosR i l + i * sinR i l) * rhoR a i * magR a l, - sinR i l * magR a l, cosR i l * magR a l]
def kA : Fin 4 → ℝ := ![(nrR a i l - 2 * a * qrR a i l) * rhoR a i + kE a i l 0 * Real.exp l, (abiR a i l - 2 * a * qiR a i l) * rhoR a i + kE a i l 1 * Real.exp l, kE a i l 2 * Real.exp l, kE a i l 3 * Real.exp l]
def kI : Fin 4 → ℝ := ![(abiR a i l - 2 * i * qrR a i l) * rhoR a i + kG a i l 0 * Real.exp l, (-nrR a i l - 2 * i * qiR a i l) * rhoR a i + kG a i l 1 * Real.exp l, kG a i l 2 * Real.exp l, kG a i l 3 * Real.exp l]
def kL : Fin 4 → ℝ := fun n => (kE a i l n * a + kG a i l n * i) * Real.exp l

theorem exp_coe : Ideal.exp (l : EReal) = (Real.exp l : ℝ) := rfl
theorem cos_coe : Ideal.cos (l : EReal) = (Real.cos l : ℝ) := rfl
theorem sin_coe : Ideal.sin (l : EReal) = (Real.sin l : ℝ) := rfl

theorem den_cases : (a = 0 ∧ i = 0) ∨ a * a + i * i ≠ 0 := by
  by_cases h : a * a + i * i = 0
  · exact .inl (mul_self_add_mul_self_eq_zero.mp h)
  · exact .inr h

theorem div_rho {a i : ℝ} (h : a * a + i * i ≠ 0) (x : ℝ) : Ideal.div (x : EReal) (((a * a + i * i : ℝ)) : EReal) = ((x * rhoR a i : ℝ) : EReal) :=
  (div_coe x h).trans (congrArg _ (div_eq_mul_inv _ _))

theorem nrE_zero : nrE 0 0 (l : EReal) = 0 := by
  simp only [nrE, magE, cosE, mul_zero, exp_coe]
  rw [← EReal.coe_zero, exp_coe, cos_coe, Real.exp_zero, Real.cos_zero, ← EReal.coe_one, ← EReal.coe_mul, ← EReal.coe_sub, one_mul, sub_self]

theorem abiE_zero : abiE 0 0 (l : EReal) = 0 := by
  simp only [abiE, magE, sinE, mul_zero, exp_coe]
  rw [← EReal.coe_zero, exp_coe, sin_coe, Real.exp_zero, Real.sin_zero, ← EReal.coe_mul, mul_zero]

variable (p q u v : ℝ)

theorem geE_coe : geE (a : EReal) i l p q u v = (lin (kE a i l) p q u v : ℝ) := by
  rcases den_cases a i with ⟨rfl, rfl⟩ | h
  · simp only [geE, gabrE, gabiE, EReal.coe_zero, mul_zero, add_zero, sub_zero]
    simp only [cosE, sinE, magE, exp_coe, cos_coe, sin_coe, ← EReal.coe_mul, ← EReal.coe_add, ← EReal.coe_zero]
    refine congrArg _ ?_
    simp only [lin, kE, cosR, sinR, magR, Matrix.cons_val]
    ring
  · simp only [geE, gabrE, gabiE, cosE, sinE, magE, denE, exp_coe, cos_coe, sin_coe, ← EReal.coe_mul, ← EReal.coe_add, ← EReal.coe_sub, div_rho h]
    refine congrArg _ ?_
    simp only [lin, kE, cosR, sinR, magR, Matrix.cons_val]
    ring

theorem gangE_coe : gangE (a : EReal) i l p q u v = (lin (kG a i l) p q u v : ℝ) := by
  rcases den_cases a i with ⟨rfl, rfl⟩ | h
  · simp only [gangE, gabrE, gabiE, EReal.coe_zero, mul_zero, add_zero, sub_zero]
    simp only [cosE, sinE, magE, exp_coe, cos_coe, sin_coe, ← EReal.coe_mul, ← EReal.coe_sub, ← EReal.coe_zero]
    refine congrArg _ ?_
    simp only [lin, kG, cosR, sinR, magR, Matrix.cons_val]
    ring
  · simp only [gangE, gabrE, gabiE, cosE, sinE, magE, denE, exp_coe, cos_coe, sin_coe, ← EReal.coe_mul, ← EReal.coe_add, ← EReal.coe_sub, div_rho h]
    refine congrArg _ ?_
    simp only [lin, kG, cosR, sinR, magR, Matrix.cons_val]
    ring

theorem two_coe : (2 : EReal) = ((2 : ℝ) : EReal) := rfl

theorem outA_coe : outA (a : EReal) i l p q u v = (lin (kA a i l) p q u v : ℝ) := by
  simp only [outA, geE_coe]
  rcases den_cases a i with ⟨rfl, rfl⟩ | h
  · simp only [EReal.coe_zero, nrE_zero, abiE_zero, mul_zero, zero_mul, zero_add, exp_coe, ← EReal.coe_mul]
    refine congrArg _ ?_
    simp only [lin, kA, rhoR, Matrix.cons_val, mul_zero, add_zero, inv_zero, zero_add]
    ring
  · simp only [two_coe, gdenE, qrE, qiE, nrE, abiE, cosE, sinE, magE, denE, exp_coe, cos_coe, sin_coe, ← EReal.coe_zero, ← EReal.coe_one, ← EReal.coe_mul, ← EReal.coe_add, ← EReal.coe_sub, div_rho h]
    refine congrArg _ ?_
    simp only [lin, kA, nrR, abiR, qrR, qiR, cosR, sinR, magR, Matrix.cons_val]
    ring

theorem outI_coe : outI (a : EReal) i l p q u v = (lin (kI a i l) p q u v : ℝ) := by
  simp only [outI, gangE_coe]
  rcases den_cases a i with ⟨rfl, rfl⟩ | h
  · simp only [EReal.coe_zero, nrE_zero, abiE_zero, mul_zero, zero_mul, zero_add, sub_zero, exp_coe, ← EReal.coe_mul]
    refine congrArg _ ?_
    simp only [lin, kI, rhoR, Matrix.cons_val, mul_zero, add_zero, inv_zero, zero_add]
    ring
  · simp only [two_coe, gdenE, qrE, qiE, nrE, abiE, cosE, sinE, magE, denE, exp_coe, cos_coe, sin_coe, ← EReal.coe_zero, ← EReal.coe_one, ← EReal.coe_mul, ← EReal.coe_add, ← EReal.coe_sub, div_rho h]
    refine congrArg _ ?_
    simp only [lin, kI, nrR, abiR, qrR, qiR, cosR, sinR, magR, Matrix.cons_val]
    ring

theorem outL_coe : outL (a : EReal) i l p q u v = (lin (kL a i l) p q u v : ℝ) := by
  simp only [outL, gangE_coe, geE_coe, exp_coe, ← EReal.coe_mul, ← EReal.coe_add]
  refine congrArg _ ?_
  simp only [lin, kL]
  ring

end real

/-- A linear combination of sums is the sum of the combinations. -/
theorem lin_sum {ι : Type*} (t : Finset ι) (k : Fin 4 → ℝ) (p q u v : ι → ℝ) :
    ∑ c ∈ t, lin k (p c) (q c) (u c) (v c) = lin k (∑ c ∈ t, p c) (∑ c ∈ t, q c) (∑ c ∈ t, u c) (∑ c ∈ t, v c) := by
  simp only [lin, Finset.sum_add_distrib, Finset.mul_sum]

end Cert.Step.PrepBwd
end
-- ==== Proof.Step.PrepRow.lean ====
/-
The gradient of the zero-order hold: one row of each of the kernel's seven results.
-/
module

public import proofs.«01_k».proof.Proof.Step.PrepPick

@[expose] public section

set_option maxRecDepth 16384

open Idealize.ShloMosaic Idealize.ShloMosaic.TcCoe Idealize.SL.Sem

noncomputable section

namespace Cert.Step.PrepBwd

open Cert.PrepBwdIdeal Cert.PrepBwdIdeal.Gen

theorem ofBits_two : Ideal.ofBits FTy.f32 0x40000000#32 = (2 : EReal) := by
  simp [Ideal.ofBits, Ideal.ieee]
  rw [← EReal.coe_mul]
  norm_num
  rfl

theorem row0_lt (g ch : Fin 16) : (rowOf 0 g ch).val < 256 := by simp only [rowOf]; simp; omega
theorem row1_ge (g ch : Fin 16) : ¬ (rowOf 1 g ch).val < 256 := by simp only [rowOf]; simp; omega
theorem row0_eq (g ch : Fin 16) (h : (rowOf 0 g ch).val < 256) : (⟨(rowOf 0 g ch).val, h⟩ : Fin 256) = rowIn g ch := Fin.ext (by simp [rowOf, rowIn])
theorem row1_eq (g ch : Fin 16) (h : (rowOf 1 g ch).val - 256 < 256) : (⟨(rowOf 1 g ch).val - 256, h⟩ : Fin 256) = rowIn g ch := Fin.ext (by simp [rowOf, rowIn]; omega)

theorem dir_cases (d : Fin 2) : d = 0 ∨ d = 1 := by omega

/-- One direction's array of two. -/
def ofDir {α : Type} (d : Fin 2) (f b : α) : α := if d = 0 then f else b

section

variable (v79 v120 : IVec S256x1024 1) (v101 : FVec Ideal S1024x64 .bf16)
    (h79 : ∀ r k, v79 (ix2 r k) = if r.val / 16 = k.val / 64 then 1#1 else 0#1)
    (h120 : ∀ r k, v120 (ix2 r k) = if r.val % 16 = 0 then 1#1 else 0#1)
    (h101 : ∀ k s, v101 (ix2 k s) = if k.val % 64 = s.val then (1 : EReal) else 0)

include h79 h101

theorem pick_at (x : FVec Ideal S256x1024 .f32) (hx : ∀ k, ∃ a : ℝ, x k = a) (g ch : Fin 16) (s : Fin 64) :
    (∑ k, Scalar.select (v79 (ix2 (rowIn g ch) k)) (x (ix2 (rowIn g ch) k) * v101 (ix2 k s)) 0
      + ∑ k, (Scalar.select (v79 (ix2 (rowIn g ch) k)) (x (ix2 (rowIn g ch) k)) 0
        - Scalar.select (v79 (ix2 (rowIn g ch) k)) (x (ix2 (rowIn g ch) k)) 0) * v101 (ix2 k s) : EReal) = x (ix2 (rowIn g ch) (colOf g s)) :=
  (pick v79 v101 h79 h101 (fun k => x (ix2 (rowIn g ch) k)) (fun k => hx _) (rowIn g ch) s).trans (congrArg (fun k => x (ix2 (rowIn g ch) k)) (own_row g ch s))

theorem pay34_row (x y : FVec Ideal S256x1024 .f32) (hx : ∀ k, ∃ a : ℝ, x k = a) (hy : ∀ k, ∃ a : ℝ, y k = a) (d : Fin 2) (g ch : Fin 16) (s : Fin 64) :
    k0_pay34 v79 v101 x y (ix2 (rowOf d g ch) s) = ofDir d x y (ix2 (rowIn g ch) (colOf g s)) := by
  pointwise [k0_pay34]
  rcases dir_cases d with rfl | rfl
  · simp only [dif_pos (row0_lt g ch), row0_eq, pick_at v79 v101 h79 h101 x hx]
    rfl
  · simp only [dif_neg (row1_ge g ch), row1_eq, pick_at v79 v101 h79 h101 y hy]
    rfl

theorem pay33_row (x y : FVec Ideal S256x1024 .f32) (hx : ∀ k, ∃ a : ℝ, x k = a) (hy : ∀ k, ∃ a : ℝ, y k = a) (d : Fin 2) (g ch : Fin 16) (s : Fin 64) :
    k0_pay33 v101 (k0_pay35 v79 v101 x) (k0_pay31 v79 y) (k0_pay32 v79 y) (constant S256x64 .f32 0x00000000#32) (ix2 (rowOf d g ch) s) = ofDir d x y (ix2 (rowIn g ch) (colOf g s)) := by
  pointwise [k0_pay33, k0_pay35, k0_pay30, k0_pay31, k0_pay32]
  rcases dir_cases d with rfl | rfl
  · simp only [dif_pos (row0_lt g ch), row0_eq, pick_at v79 v101 h79 h101 x hx]
    rfl
  · simp only [dif_neg (row1_ge g ch), row1_eq, pick_at v79 v101 h79 h101 y hy]
    rfl

theorem pay40_row (x y : FVec Ideal S256x1024 .f32) (hx : ∀ k, ∃ a : ℝ, x k = a) (hy : ∀ k, ∃ a : ℝ, y k = a) (d : Fin 2) (g ch : Fin 16) (s : Fin 64) :
    k0_pay40 v79 v101 x y (ix2 (rowOf d g ch) s) = 0 - ofDir d x y (ix2 (rowIn g ch) (colOf g s)) := by
  pointwise [k0_pay40]
  rcases dir_cases d with rfl | rfl
  · simp only [dif_pos (row0_lt g ch), row0_eq, pick_at v79 v101 h79 h101 x hx]
    rfl
  · simp only [dif_neg (row1_ge g ch), row1_eq, pick_at v79 v101 h79 h101 y hy]
    rfl

theorem pay39_row (x y : FVec Ideal S256x1024 .f32) (hx : ∀ k, ∃ a : ℝ, x k = a) (hy : ∀ k, ∃ a : ℝ, y k = a) (d : Fin 2) (g ch : Fin 16) (s : Fin 64) :
    k0_pay39 v101 (k0_pay35 v79 v101 x) (k0_pay36 v79 y) (k0_pay37 v79 y) (k0_pay38 v79 y) (ix2 (rowOf d g ch) s) = ofDir d x y (ix2 (rowIn g ch) (colOf g s)) := by
  pointwise [k0_pay39, k0_pay35, k0_pay36, k0_pay37, k0_pay38]
  rcases dir_cases d with rfl | rfl
  · simp only [dif_pos (row0_lt g ch), row0_eq, pick_at v79 v101 h79 h101 x hx]
    rfl
  · simp only [dif_neg (row1_ge g ch), row1_eq, pick_at v79 v101 h79 h101 y hy]
    rfl

/-- A row's part of the decay's gradient, which the first channel's row takes whole. -/
def atFirst (f b : FVec Ideal S1x1024 .f32) (d : Fin 2) (g ch : Fin 16) (s : Fin 64) : EReal := if ch.val = 0 then ofDir d f b (ix2 0 (colOf g s)) else 0

include h120

theorem first_at (x : FVec Ideal S1x1024 .f32) (hx : ∀ k, ∃ a : ℝ, x k = a) (g ch : Fin 16) (s : Fin 64) :
    (∑ k, Scalar.select (v79 (ix2 (rowIn g ch) k)) (Scalar.select (v120 (ix2 (rowIn g ch) k)) (x (ix2 0 k) * v101 (ix2 k s)) 0) 0
      + ∑ k, (Scalar.select (v79 (ix2 (rowIn g ch) k)) (Scalar.select (v120 (ix2 (rowIn g ch) k)) (x (ix2 0 k)) 0) 0
        - Scalar.select (v79 (ix2 (rowIn g ch) k)) (Scalar.select (v120 (ix2 (rowIn g ch) k)) (x (ix2 0 k)) 0) 0) * v101 (ix2 k s) : EReal)
      = if ch.val = 0 then x (ix2 0 (colOf g s)) else 0 := by
  refine (pick_first v79 v120 v101 h79 h120 h101 x hx (rowIn g ch) s).trans ?_
  rw [rowIn_mod, own_row]

variable (v141 v162 x0 x1 x3 x4 : FVec Ideal S512x64 .f32) (x2 : FVec Ideal S512x1 .f32) (f b f' b' : FVec Ideal S1x1024 .f32)

theorem pay4_row (hf : ∀ k, ∃ a : ℝ, f k = a) (hb : ∀ k, ∃ a : ℝ, b k = a) (hf' : ∀ k, ∃ a : ℝ, f' k = a) (hb' : ∀ k, ∃ a : ℝ, b' k = a) (d : Fin 2) (g ch : Fin 16) (s : Fin 64) :
    k0_pay4 (k0_pay9 x2) (k0_pay10 x0 x2) (k0_pay12 x1 x2) (k0_pay13 x1 x2) v79 v101
        (k0_pay53 (k0_pay7 x0) (k0_pay8 x1) (k0_pay15 x0 x1) v141 v162 (k0_pay41 x3) (k0_pay42 x4))
        (k0_pay54 (k0_pay7 x0) (k0_pay14 x0 x1 x2) (k0_pay15 x0 x1) (k0_pay16 x0 x1 x2) (k0_pay17 x0 x1 x2) (k0_pay18 x0 x1 x2) v141 v162 (k0_pay41 x3) (k0_pay42 x4))
        (k0_pay57 v79 v101 v120 (k0_pay52 (k0_pay7 x0) (k0_pay8 x1) (k0_pay15 x0 x1) v141 v162 (k0_pay41 x3) (k0_pay42 x4)) (k0_pay56 v79 v120 f) b)
        (k0_pay58 v79 v101 v120 f') (k0_pay59 v120 b') (Scalar.ofBits .f32 0x00000000#32) (ix2 (rowOf d g ch) s)
      = outA (x0 (ix2 (rowOf d g ch) s)) (x1 (ix2 (rowOf d g ch) s)) (x2 (ix2 (rowOf d g ch) 0))
        (v141 (ix2 (rowOf d g ch) s) * x3 (ix2 (rowOf d g ch) s) + v162 (ix2 (rowOf d g ch) s) * x4 (ix2 (rowOf d g ch) s))
        (v162 (ix2 (rowOf d g ch) s) * x3 (ix2 (rowOf d g ch) s) - v141 (ix2 (rowOf d g ch) s) * x4 (ix2 (rowOf d g ch) s))
        (atFirst f b d g ch s) (atFirst f' b' d g ch s) := by
  pointwise [k0_pay4, k0_pay3, k0_pay1, k0_pay7, k0_pay8, k0_pay9, k0_pay10, k0_pay11, k0_pay12, k0_pay13, k0_pay14, k0_pay15, k0_pay16, k0_pay17, k0_pay18, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  unfold atFirst ofDir
  rw [ofBits_two]
  rcases dir_cases d with rfl | rfl
  · simp only [dif_pos (row0_lt g ch), row0_eq, first_at v79 v120 v101 h79 h120 h101 f hf, first_at v79 v120 v101 h79 h120 h101 f' hf']
    rfl
  · simp only [dif_neg (row1_ge g ch), row1_eq, first_at v79 v120 v101 h79 h120 h101 b hb, first_at v79 v120 v101 h79 h120 h101 b' hb']
    rfl

theorem pay5_row (hf : ∀ k, ∃ a : ℝ, f k = a) (hb : ∀ k, ∃ a : ℝ, b k = a) (hf' : ∀ k, ∃ a : ℝ, f' k = a) (hb' : ∀ k, ∃ a : ℝ, b' k = a) (d : Fin 2) (g ch : Fin 16) (s : Fin 64) :
    k0_pay5 (k0_pay9 x2) (k0_pay10 x0 x2) (k0_pay12 x1 x2) (k0_pay13 x1 x2) v79 v101
        (k0_pay53 (k0_pay7 x0) (k0_pay8 x1) (k0_pay15 x0 x1) v141 v162 (k0_pay41 x3) (k0_pay42 x4))
        (k0_pay55 (k0_pay8 x1) (k0_pay14 x0 x1 x2) (k0_pay15 x0 x1) (k0_pay16 x0 x1 x2) (k0_pay17 x0 x1 x2) (k0_pay18 x0 x1 x2) v141 v162 (k0_pay41 x3) (k0_pay42 x4))
        (k0_pay57 v79 v101 v120 (k0_pay52 (k0_pay7 x0) (k0_pay8 x1) (k0_pay15 x0 x1) v141 v162 (k0_pay41 x3) (k0_pay42 x4)) (k0_pay56 v79 v120 f) b)
        (k0_pay58 v79 v101 v120 f') (k0_pay59 v120 b') (Scalar.ofBits .f32 0x00000000#32) (ix2 (rowOf d g ch) s)
      = outI (x0 (ix2 (rowOf d g ch) s)) (x1 (ix2 (rowOf d g ch) s)) (x2 (ix2 (rowOf d g ch) 0))
        (v141 (ix2 (rowOf d g ch) s) * x3 (ix2 (rowOf d g ch) s) + v162 (ix2 (rowOf d g ch) s) * x4 (ix2 (rowOf d g ch) s))
        (v162 (ix2 (rowOf d g ch) s) * x3 (ix2 (rowOf d g ch) s) - v141 (ix2 (rowOf d g ch) s) * x4 (ix2 (rowOf d g ch) s))
        (atFirst f b d g ch s) (atFirst f' b' d g ch s) := by
  pointwise [k0_pay5, k0_pay2, k0_pay1, k0_pay7, k0_pay8, k0_pay9, k0_pay10, k0_pay11, k0_pay12, k0_pay13, k0_pay14, k0_pay15, k0_pay16, k0_pay17, k0_pay18, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  unfold atFirst ofDir
  rw [ofBits_two]
  rcases dir_cases d with rfl | rfl
  · simp only [dif_pos (row0_lt g ch), row0_eq, first_at v79 v120 v101 h79 h120 h101 f hf, first_at v79 v120 v101 h79 h120 h101 f' hf']
    rfl
  · simp only [dif_neg (row1_ge g ch), row1_eq, first_at v79 v120 v101 h79 h120 h101 b hb, first_at v79 v120 v101 h79 h120 h101 b' hb']
    rfl

theorem pay6_row (hf : ∀ k, ∃ a : ℝ, f k = a) (hb : ∀ k, ∃ a : ℝ, b k = a) (hf' : ∀ k, ∃ a : ℝ, f' k = a) (hb' : ∀ k, ∃ a : ℝ, b' k = a) (d : Fin 2) (g ch : Fin 16) (s : Fin 64) :
    k0_pay6 (k0_pay7 x0) (k0_pay8 x1) (k0_pay9 x2) (k0_pay10 x0 x2) (k0_pay12 x1 x2) (k0_pay13 x1 x2) v79 v101
        (k0_pay53 (k0_pay7 x0) (k0_pay8 x1) (k0_pay15 x0 x1) v141 v162 (k0_pay41 x3) (k0_pay42 x4))
        (k0_pay57 v79 v101 v120 (k0_pay52 (k0_pay7 x0) (k0_pay8 x1) (k0_pay15 x0 x1) v141 v162 (k0_pay41 x3) (k0_pay42 x4)) (k0_pay56 v79 v120 f) b)
        (k0_pay58 v79 v101 v120 f') (k0_pay59 v120 b') (Scalar.ofBits .f32 0x00000000#32) (ix2 (rowOf d g ch) s)
      = outL (x0 (ix2 (rowOf d g ch) s)) (x1 (ix2 (rowOf d g ch) s)) (x2 (ix2 (rowOf d g ch) 0))
        (v141 (ix2 (rowOf d g ch) s) * x3 (ix2 (rowOf d g ch) s) + v162 (ix2 (rowOf d g ch) s) * x4 (ix2 (rowOf d g ch) s))
        (v162 (ix2 (rowOf d g ch) s) * x3 (ix2 (rowOf d g ch) s) - v141 (ix2 (rowOf d g ch) s) * x4 (ix2 (rowOf d g ch) s))
        (atFirst f b d g ch s) (atFirst f' b' d g ch s) := by
  pointwise [k0_pay6, k0_pay3, k0_pay2, k0_pay1, k0_pay7, k0_pay8, k0_pay9, k0_pay10, k0_pay11, k0_pay12, k0_pay13, k0_pay14, k0_pay15, k0_pay16, k0_pay17, k0_pay18, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  unfold atFirst ofDir
  rcases dir_cases d with rfl | rfl
  · simp only [dif_pos (row0_lt g ch), row0_eq, first_at v79 v120 v101 h79 h120 h101 f hf, first_at v79 v120 v101 h79 h120 h101 f' hf']
    rfl
  · simp only [dif_neg (row1_ge g ch), row1_eq, first_at v79 v120 v101 h79 h120 h101 b hb, first_at v79 v120 v101 h79 h120 h101 b' hb']
    rfl

omit h79 h101 h120 in
theorem pay45_row (r : Fin 512) (s : Fin 64) :
    k0_pay45 (k0_pay43 (k0_pay17 x0 x1 x2) v141) (k0_pay44 (k0_pay18 x0 x1 x2) v162) (ix2 r s)
      = v141 (ix2 r s) * qrE (x0 (ix2 r s)) (x1 (ix2 r s)) (x2 (ix2 r 0)) + v162 (ix2 r s) * qiE (x0 (ix2 r s)) (x1 (ix2 r s)) (x2 (ix2 r 0)) := by
  pointwise [k0_pay45, k0_pay43, k0_pay44, k0_pay7, k0_pay8, k0_pay9, k0_pay10, k0_pay11, k0_pay12, k0_pay13, k0_pay14, k0_pay15, k0_pay16, k0_pay17, k0_pay18]
  rfl

omit h79 h101 h120 in
theorem pay46_row (r : Fin 512) (s : Fin 64) :
    k0_pay46 (k0_pay17 x0 x1 x2) (k0_pay18 x0 x1 x2) v141 v162 (ix2 r s)
      = v162 (ix2 r s) * qrE (x0 (ix2 r s)) (x1 (ix2 r s)) (x2 (ix2 r 0)) - v141 (ix2 r s) * qiE (x0 (ix2 r s)) (x1 (ix2 r s)) (x2 (ix2 r 0)) := by
  pointwise [k0_pay46, k0_pay43, k0_pay44, k0_pay7, k0_pay8, k0_pay9, k0_pay10, k0_pay11, k0_pay12, k0_pay13, k0_pay14, k0_pay15, k0_pay16, k0_pay17, k0_pay18]
  rfl

end

end Cert.Step.PrepBwd
end
-- ==== Proof.Step.PrepOut.lean ====
/-
The gradient of the zero-order hold: an index of what the kernel's body leaves in each of its seven results.
-/
module

public import proofs.«01_k».proof.Proof.Step.PrepRow

@[expose] public section

set_option maxRecDepth 16384

open Idealize.ShloMosaic Idealize.ShloMosaic.TcCoe Idealize.SL.Sem

noncomputable section

namespace Cert.Step.PrepBwd

open Cert.PrepBwdIdeal Cert.PrepBwdIdeal.Gen

/-- The two halves of a dense array. -/
theorem left_half (x : Vec Ideal S256x2048 .f32) (i : S256x1024.Idx) : (View.ld x r0_2 : Vec Ideal S256x1024 .f32) i = x (ix2 (i 0) ⟨(i 1).val, by have := (i 1).isLt; simp at this; omega⟩) := by
  unfold r0_2
  exact View.ld_unit_apply_of (Val := Elt Ideal) (e := .f32) x _ _ _ _ _ fun b => by fin_cases b <;> simp

theorem right_half (x : Vec Ideal S256x2048 .f32) (i : S256x1024.Idx) : (View.ld x r0_3 : Vec Ideal S256x1024 .f32) i = x (ix2 (i 0) ⟨1024 + (i 1).val, by have := (i 1).isLt; simp at this; omega⟩) := by
  unfold r0_3
  exact View.ld_unit_apply_of (Val := Elt Ideal) (e := .f32) x _ _ _ _ _ fun b => by fin_cases b <;> simp

theorem whole_row (x : Vec Ideal S1x1024 .f32) : (View.ld x r0_4 : Vec Ideal S1x1024 .f32) = x := by
  funext i
  unfold r0_4
  exact View.ld_unit_apply_of (Val := Elt Ideal) (e := .f32) x _ _ _ _ _ fun b => by fin_cases b <;> simp

theorem whole_64 (x : Vec Ideal S512x64 .f32) : (View.ld x r0_0 : Vec Ideal S512x64 .f32) = x := by
  funext i
  unfold r0_0
  exact View.ld_unit_apply_of (Val := Elt Ideal) (e := .f32) x _ _ _ _ _ fun b => by fin_cases b <;> simp

theorem whole_1 (x : Vec Ideal S512x1 .f32) : (View.ld x r0_1 : Vec Ideal S512x1 .f32) = x := by
  funext i
  unfold r0_1
  exact View.ld_unit_apply_of (Val := Elt Ideal) (e := .f32) x _ _ _ _ _ fun b => by fin_cases b <;> simp

theorem canon0 (f : Vec Ideal S512x64 .f32) : (View.canon [⟨r0_0, f⟩] : Vec Ideal S512x64 .f32) = f := by
  funext x
  canon_tiles x h
  exact congrArg f (funext fun b => by fin_cases b <;> exact Fin.ext (by first | exact h0.symm | exact h1.symm))

/-- The mask of a row's own group, the first channel's rows, the one-hot matrix. -/
def ownGroup : IVec S256x1024 1 := k0_pay22 (iota .tc S256x1024 32 [0] iota_S256x1024_d0_w32) (iota .tc S256x1024 32 [1] iota_S256x1024_d1_w32) k0_pay19 k0_pay20 k0_pay21
def oneHot : FVec Ideal S1024x64 .bf16 := k0_pay27 (F := Ideal) (iota .tc S1024x64 32 [1] iota_S1024x64_d1_w32) (Scalar.select (Scalar.cmpi .eq 64#32 0#32) 1#32 64#32) k0_pay23 k0_pay24 k0_pay25 k0_pay26

variable (x0 x1 : Vec Ideal S512x64 .f32) (x2 : Vec Ideal S512x1 .f32) (x3 x4 : Vec Ideal S512x64 .f32) (x5 x6 x7 x8 : Vec Ideal S1x1024 .f32) (x9 x10 x11 x12 : Vec Ideal S256x2048 .f32)

/-- A direction's entry of a dense array's left and right half. -/
def gRe (d : Fin 2) (g ch : Fin 16) (s : Fin 64) : EReal := ofDir d x9 x10 (ix2 (rowIn g ch) ⟨(colOf g s).val, by omega⟩)
def gIm (d : Fin 2) (g ch : Fin 16) (s : Fin 64) : EReal := ofDir d x9 x10 (ix2 (rowIn g ch) ⟨1024 + (colOf g s).val, by omega⟩)

theorem left_real (h : ∀ k, ∃ a : ℝ, x9 k = a) (k : S256x1024.Idx) : ∃ a : ℝ, (View.ld x9 r0_2 : Vec Ideal S256x1024 .f32) k = a := by
  rw [left_half]
  exact h _

theorem right_real (h : ∀ k, ∃ a : ℝ, x9 k = a) (k : S256x1024.Idx) : ∃ a : ℝ, (View.ld x9 r0_3 : Vec Ideal S256x1024 .f32) k = a := by
  rw [right_half]
  exact h _

theorem left_at (d : Fin 2) (g ch : Fin 16) (s : Fin 64) : ofDir d (View.ld x9 r0_2 : Vec Ideal S256x1024 .f32) (View.ld x10 r0_2) (ix2 (rowIn g ch) (colOf g s)) = gRe x9 x10 d g ch s := by
  unfold gRe ofDir
  split <;> exact left_half _ _

theorem right_at (d : Fin 2) (g ch : Fin 16) (s : Fin 64) : ofDir d (View.ld x9 r0_3 : Vec Ideal S256x1024 .f32) (View.ld x10 r0_3) (ix2 (rowIn g ch) (colOf g s)) = gIm x9 x10 d g ch s := by
  unfold gIm ofDir
  split <;> exact right_half _ _

variable (d : Fin 2) (g ch : Fin 16) (s : Fin 64)

theorem pay79_row (h9 : ∀ k, ∃ a : ℝ, x9 k = a) (h10 : ∀ k, ∃ a : ℝ, x10 k = a) : k0_pay79 x0 x1 x2 x3 x4 x5 x6 x7 x8 x9 x10 x11 x12 (ix2 (rowOf d g ch) s) = gRe x9 x10 d g ch s :=
  (pay33_row ownGroup oneHot mask_apply own_apply (View.ld x9 r0_2) (View.ld x10 r0_2) (left_real _ h9) (left_real _ h10) d g ch s).trans (left_at x9 x10 d g ch s)

theorem pay80_row (h9 : ∀ k, ∃ a : ℝ, x9 k = a) (h10 : ∀ k, ∃ a : ℝ, x10 k = a) : k0_pay80 x0 x1 x2 x3 x4 x5 x6 x7 x8 x9 x10 x11 x12 (ix2 (rowOf d g ch) s) = gIm x9 x10 d g ch s :=
  (pay34_row ownGroup oneHot mask_apply own_apply (View.ld x9 r0_3) (View.ld x10 r0_3) (right_real _ h9) (right_real _ h10) d g ch s).trans (right_at x9 x10 d g ch s)

theorem out13_row (h5 : ∀ k, ∃ a : ℝ, x5 k = a) (h6 : ∀ k, ∃ a : ℝ, x6 k = a) (h7 : ∀ k, ∃ a : ℝ, x7 k = a) (h8 : ∀ k, ∃ a : ℝ, x8 k = a) (h9 : ∀ k, ∃ a : ℝ, x9 k = a) (h10 : ∀ k, ∃ a : ℝ, x10 k = a) :
    (out0_13 x0 x1 x2 x3 x4 x5 x6 x7 x8 x9 x10 x11 x12 : Vec Ideal S512x64 .f32) (ix2 (rowOf d g ch) s) = outA (x0 (ix2 (rowOf d g ch) s)) (x1 (ix2 (rowOf d g ch) s)) (x2 (ix2 (rowOf d g ch) 0))
      (gRe x9 x10 d g ch s * x3 (ix2 (rowOf d g ch) s) + gIm x9 x10 d g ch s * x4 (ix2 (rowOf d g ch) s)) (gIm x9 x10 d g ch s * x3 (ix2 (rowOf d g ch) s) - gRe x9 x10 d g ch s * x4 (ix2 (rowOf d g ch) s))
      (atFirst x5 x6 d g ch s) (atFirst x7 x8 d g ch s) := by
  rw [← pay79_row x0 x1 x2 x3 x4 x5 x6 x7 x8 x9 x10 x11 x12 d g ch s h9 h10, ← pay80_row x0 x1 x2 x3 x4 x5 x6 x7 x8 x9 x10 x11 x12 d g ch s h9 h10]
  have e := pay4_row ownGroup k0_pay28 oneHot mask_apply first_apply own_apply (k0_pay79 x0 x1 x2 x3 x4 x5 x6 x7 x8 x9 x10 x11 x12) (k0_pay80 x0 x1 x2 x3 x4 x5 x6 x7 x8 x9 x10 x11 x12) x0 x1 x3 x4 x2 x5 x6 x7 x8 h5 h6 h7 h8 d g ch s
  refine Eq.trans ?_ e
  refine (congrFun (canon0 _) _).trans ?_
  unfold k0_pay86 k0_pay85 k0_pay84 k0_pay83 k0_pay82 k0_pay81 k0_pay78 k0_pay77 k0_pay76 k0_pay75 k0_pay74 k0_pay73 k0_pay72 k0_pay71 k0_pay70 k0_pay69 k0_pay68 k0_pay67 k0_pay66 k0_pay65 k0_pay64 k0_pay63 k0_pay62 k0_pay61 k0_pay60 ownGroup oneHot
  simp only [whole_row, whole_64, whole_1]

theorem out14_row (h5 : ∀ k, ∃ a : ℝ, x5 k = a) (h6 : ∀ k, ∃ a : ℝ, x6 k = a) (h7 : ∀ k, ∃ a : ℝ, x7 k = a) (h8 : ∀ k, ∃ a : ℝ, x8 k = a) (h9 : ∀ k, ∃ a : ℝ, x9 k = a) (h10 : ∀ k, ∃ a : ℝ, x10 k = a) :
    (out0_14 x0 x1 x2 x3 x4 x5 x6 x7 x8 x9 x10 x11 x12 : Vec Ideal S512x64 .f32) (ix2 (rowOf d g ch) s) = outI (x0 (ix2 (rowOf d g ch) s)) (x1 (ix2 (rowOf d g ch) s)) (x2 (ix2 (rowOf d g ch) 0))
      (gRe x9 x10 d g ch s * x3 (ix2 (rowOf d g ch) s) + gIm x9 x10 d g ch s * x4 (ix2 (rowOf d g ch) s)) (gIm x9 x10 d g ch s * x3 (ix2 (rowOf d g ch) s) - gRe x9 x10 d g ch s * x4 (ix2 (rowOf d g ch) s))
      (atFirst x5 x6 d g ch s) (atFirst x7 x8 d g ch s) := by
  rw [← pay79_row x0 x1 x2 x3 x4 x5 x6 x7 x8 x9 x10 x11 x12 d g ch s h9 h10, ← pay80_row x0 x1 x2 x3 x4 x5 x6 x7 x8 x9 x10 x11 x12 d g ch s h9 h10]
  have e := pay5_row ownGroup k0_pay28 oneHot mask_apply first_apply own_apply (k0_pay79 x0 x1 x2 x3 x4 x5 x6 x7 x8 x9 x10 x11 x12) (k0_pay80 x0 x1 x2 x3 x4 x5 x6 x7 x8 x9 x10 x11 x12) x0 x1 x3 x4 x2 x5 x6 x7 x8 h5 h6 h7 h8 d g ch s
  refine Eq.trans ?_ e
  refine (congrFun (canon0 _) _).trans ?_
  unfold k0_pay86 k0_pay85 k0_pay84 k0_pay83 k0_pay82 k0_pay81 k0_pay78 k0_pay77 k0_pay76 k0_pay75 k0_pay74 k0_pay73 k0_pay72 k0_pay71 k0_pay70 k0_pay69 k0_pay68 k0_pay67 k0_pay66 k0_pay65 k0_pay64 k0_pay63 k0_pay62 k0_pay61 k0_pay60 ownGroup oneHot
  simp only [whole_row, whole_64, whole_1]

theorem out15_row (h5 : ∀ k, ∃ a : ℝ, x5 k = a) (h6 : ∀ k, ∃ a : ℝ, x6 k = a) (h7 : ∀ k, ∃ a : ℝ, x7 k = a) (h8 : ∀ k, ∃ a : ℝ, x8 k = a) (h9 : ∀ k, ∃ a : ℝ, x9 k = a) (h10 : ∀ k, ∃ a : ℝ, x10 k = a) :
    (out0_15 x0 x1 x2 x3 x4 x5 x6 x7 x8 x9 x10 x11 x12 : Vec Ideal S512x64 .f32) (ix2 (rowOf d g ch) s) = outL (x0 (ix2 (rowOf d g ch) s)) (x1 (ix2 (rowOf d g ch) s)) (x2 (ix2 (rowOf d g ch) 0))
      (gRe x9 x10 d g ch s * x3 (ix2 (rowOf d g ch) s) + gIm x9 x10 d g ch s * x4 (ix2 (rowOf d g ch) s)) (gIm x9 x10 d g ch s * x3 (ix2 (rowOf d g ch) s) - gRe x9 x10 d g ch s * x4 (ix2 (rowOf d g ch) s))
      (atFirst x5 x6 d g ch s) (atFirst x7 x8 d g ch s) := by
  rw [← pay79_row x0 x1 x2 x3 x4 x5 x6 x7 x8 x9 x10 x11 x12 d g ch s h9 h10, ← pay80_row x0 x1 x2 x3 x4 x5 x6 x7 x8 x9 x10 x11 x12 d g ch s h9 h10]
  have e := pay6_row ownGroup k0_pay28 oneHot mask_apply first_apply own_apply (k0_pay79 x0 x1 x2 x3 x4 x5 x6 x7 x8 x9 x10 x11 x12) (k0_pay80 x0 x1 x2 x3 x4 x5 x6 x7 x8 x9 x10 x11 x12) x0 x1 x3 x4 x2 x5 x6 x7 x8 h5 h6 h7 h8 d g ch s
  refine Eq.trans ?_ e
  refine (congrFun (canon0 _) _).trans ?_
  unfold k0_pay86 k0_pay85 k0_pay84 k0_pay83 k0_pay82 k0_pay81 k0_pay78 k0_pay77 k0_pay76 k0_pay75 k0_pay74 k0_pay73 k0_pay72 k0_pay71 k0_pay67 k0_pay65 k0_pay64 k0_pay63 k0_pay62 k0_pay61 k0_pay60 ownGroup oneHot
  simp only [whole_row, whole_64, whole_1]

theorem out16_row (h9 : ∀ k, ∃ a : ℝ, x9 k = a) (h10 : ∀ k, ∃ a : ℝ, x10 k = a) :
    (out0_16 x0 x1 x2 x3 x4 x5 x6 x7 x8 x9 x10 x11 x12 : Vec Ideal S512x64 .f32) (ix2 (rowOf d g ch) s) = gRe x9 x10 d g ch s * qrE (x0 (ix2 (rowOf d g ch) s)) (x1 (ix2 (rowOf d g ch) s)) (x2 (ix2 (rowOf d g ch) 0)) + gIm x9 x10 d g ch s * qiE (x0 (ix2 (rowOf d g ch) s)) (x1 (ix2 (rowOf d g ch) s)) (x2 (ix2 (rowOf d g ch) 0)) := by
  rw [← pay79_row x0 x1 x2 x3 x4 x5 x6 x7 x8 x9 x10 x11 x12 d g ch s h9 h10, ← pay80_row x0 x1 x2 x3 x4 x5 x6 x7 x8 x9 x10 x11 x12 d g ch s h9 h10]
  refine Eq.trans ?_ (pay45_row (k0_pay79 x0 x1 x2 x3 x4 x5 x6 x7 x8 x9 x10 x11 x12) (k0_pay80 x0 x1 x2 x3 x4 x5 x6 x7 x8 x9 x10 x11 x12) x0 x1 x2 (rowOf d g ch) s)
  refine (congrFun (canon0 _) _).trans ?_
  unfold k0_pay69 k0_pay70
  simp only [whole_64, whole_1]

theorem out17_row (h9 : ∀ k, ∃ a : ℝ, x9 k = a) (h10 : ∀ k, ∃ a : ℝ, x10 k = a) :
    (out0_17 x0 x1 x2 x3 x4 x5 x6 x7 x8 x9 x10 x11 x12 : Vec Ideal S512x64 .f32) (ix2 (rowOf d g ch) s) = gIm x9 x10 d g ch s * qrE (x0 (ix2 (rowOf d g ch) s)) (x1 (ix2 (rowOf d g ch) s)) (x2 (ix2 (rowOf d g ch) 0)) - gRe x9 x10 d g ch s * qiE (x0 (ix2 (rowOf d g ch) s)) (x1 (ix2 (rowOf d g ch) s)) (x2 (ix2 (rowOf d g ch) 0)) := by
  rw [← pay79_row x0 x1 x2 x3 x4 x5 x6 x7 x8 x9 x10 x11 x12 d g ch s h9 h10, ← pay80_row x0 x1 x2 x3 x4 x5 x6 x7 x8 x9 x10 x11 x12 d g ch s h9 h10]
  refine Eq.trans ?_ (pay46_row (k0_pay79 x0 x1 x2 x3 x4 x5 x6 x7 x8 x9 x10 x11 x12) (k0_pay80 x0 x1 x2 x3 x4 x5 x6 x7 x8 x9 x10 x11 x12) x0 x1 x2 (rowOf d g ch) s)
  refine (congrFun (canon0 _) _).trans ?_
  unfold k0_pay69 k0_pay70
  simp only [whole_64, whole_1]

theorem out18_row (h11 : ∀ k, ∃ a : ℝ, x11 k = a) (h12 : ∀ k, ∃ a : ℝ, x12 k = a) :
    (out0_18 x0 x1 x2 x3 x4 x5 x6 x7 x8 x9 x10 x11 x12 : Vec Ideal S512x64 .f32) (ix2 (rowOf d g ch) s) = gRe x11 x12 d g ch s :=
  (congrFun (canon0 _) _).trans ((pay39_row ownGroup oneHot mask_apply own_apply (View.ld x11 r0_2) (View.ld x12 r0_2) (left_real _ h11) (left_real _ h12) d g ch s).trans (left_at x11 x12 d g ch s))

theorem out19_row (h11 : ∀ k, ∃ a : ℝ, x11 k = a) (h12 : ∀ k, ∃ a : ℝ, x12 k = a) :
    (out0_19 x0 x1 x2 x3 x4 x5 x6 x7 x8 x9 x10 x11 x12 : Vec Ideal S512x64 .f32) (ix2 (rowOf d g ch) s) = 0 - gIm x11 x12 d g ch s :=
  (congrFun (canon0 _) _).trans ((pay40_row ownGroup oneHot mask_apply own_apply (View.ld x11 r0_3) (View.ld x12 r0_3) (right_real _ h11) (right_real _ h12) d g ch s).trans (congrArg (0 - ·) (right_at x11 x12 d g ch s)))

end Cert.Step.PrepBwd
end
-- ==== Proof.Step.PrepValue.lean ====
/-
The gradient of the zero-order hold: what the kernel's program leaves in its seven results.
-/
module

public import proofs.«01_k».proof.Proof.Step.PrepOut
public import Idealize.ShloMosaic.Lib.StableHlo.ReadAt

@[expose] public section

set_option maxRecDepth 16384

open Idealize.ShloMosaic Idealize.ShloMosaic.TcCoe Idealize.SL.Sem

noncomputable section

namespace Cert.Step.PrepBwd

open Cert.PrepBwdIdeal Cert.PrepBwdIdeal.Gen

variable (m : (ℓ : Loc nD τ sig) → Buf (Elt Ideal) ℓ)

/-- Each window is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

theorem blk0 (c : Dev nD) (t : Fin cfg0.N) : iblk m c 0 t = (V m c main_v2 : S512x64.Idx → EReal) := by
  funext z
  idx_vars z
  blk_point [iblk, idx t]

theorem blk1 (c : Dev nD) (t : Fin cfg0.N) : iblk m c 1 t = (V m c main_v5 : S512x64.Idx → EReal) := by
  funext z
  idx_vars z
  blk_point [iblk, idx t]

theorem blk2 (c : Dev nD) (t : Fin cfg0.N) : iblk m c 2 t = (V m c main_v8 : S512x1.Idx → EReal) := by
  funext z
  idx_vars z
  blk_point [iblk, idx t]

theorem blk3 (c : Dev nD) (t : Fin cfg0.N) : iblk m c 3 t = (V m c main_v10 : S512x64.Idx → EReal) := by
  funext z
  idx_vars z
  blk_point [iblk, idx t]

theorem blk4 (c : Dev nD) (t : Fin cfg0.N) : iblk m c 4 t = (V m c main_v12 : S512x64.Idx → EReal) := by
  funext z
  idx_vars z
  blk_point [iblk, idx t]

theorem blk5 (c : Dev nD) (t : Fin cfg0.N) : iblk m c 5 t = (V m c main_arg5 : S1x1024.Idx → EReal) := by
  funext z
  idx_vars z
  blk_point [iblk, idx t]

theorem blk6 (c : Dev nD) (t : Fin cfg0.N) : iblk m c 6 t = (V m c main_arg6 : S1x1024.Idx → EReal) := by
  funext z
  idx_vars z
  blk_point [iblk, idx t]

theorem blk7 (c : Dev nD) (t : Fin cfg0.N) : iblk m c 7 t = (V m c main_arg7 : S1x1024.Idx → EReal) := by
  funext z
  idx_vars z
  blk_point [iblk, idx t]

theorem blk8 (c : Dev nD) (t : Fin cfg0.N) : iblk m c 8 t = (V m c main_arg8 : S1x1024.Idx → EReal) := by
  funext z
  idx_vars z
  blk_point [iblk, idx t]

theorem blk9 (c : Dev nD) (t : Fin cfg0.N) : iblk m c 9 t = (V m c main_arg9 : S256x2048.Idx → EReal) := by
  funext z
  idx_vars z
  blk_point [iblk, idx t]

theorem blk10 (c : Dev nD) (t : Fin cfg0.N) : iblk m c 10 t = (V m c main_arg10 : S256x2048.Idx → EReal) := by
  funext z
  idx_vars z
  blk_point [iblk, idx t]

theorem blk11 (c : Dev nD) (t : Fin cfg0.N) : iblk m c 11 t = (V m c main_arg11 : S256x2048.Idx → EReal) := by
  funext z
  idx_vars z
  blk_point [iblk, idx t]

theorem blk12 (c : Dev nD) (t : Fin cfg0.N) : iblk m c 12 t = (V m c main_arg12 : S256x2048.Idx → EReal) := by
  funext z
  idx_vars z
  blk_point [iblk, idx t]

theorem emb13 (t : Fin cfg0.N) (f : S512x64.Idx → EReal) (y : S512x64.Idx) : f (((cfg0.win 13).blk t).view.emb y) = f y := by
  idx_vars y
  blk_point [idx t]

theorem arr13 (c : Dev nD) : (dats m 0 c).arrAt 13 cfg0.N = (out0_13 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 13 _ (by decide +kernel) fun t _ y => ?_
  blk_simp
  rw [after0_13]
  simp only [blk0, blk1, blk2, blk3, blk4, blk5, blk6, blk7, blk8, blk9, blk10, blk11, blk12]
  exact (emb13 t _ y).symm

theorem emb14 (t : Fin cfg0.N) (f : S512x64.Idx → EReal) (y : S512x64.Idx) : f (((cfg0.win 14).blk t).view.emb y) = f y := by
  idx_vars y
  blk_point [idx t]

theorem arr14 (c : Dev nD) : (dats m 0 c).arrAt 14 cfg0.N = (out0_14 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 14 _ (by decide +kernel) fun t _ y => ?_
  blk_simp
  rw [after0_14]
  simp only [blk0, blk1, blk2, blk3, blk4, blk5, blk6, blk7, blk8, blk9, blk10, blk11, blk12]
  exact (emb14 t _ y).symm

theorem emb15 (t : Fin cfg0.N) (f : S512x64.Idx → EReal) (y : S512x64.Idx) : f (((cfg0.win 15).blk t).view.emb y) = f y := by
  idx_vars y
  blk_point [idx t]

theorem arr15 (c : Dev nD) : (dats m 0 c).arrAt 15 cfg0.N = (out0_15 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 15 _ (by decide +kernel) fun t _ y => ?_
  blk_simp
  rw [after0_15]
  simp only [blk0, blk1, blk2, blk3, blk4, blk5, blk6, blk7, blk8, blk9, blk10, blk11, blk12]
  exact (emb15 t _ y).symm

theorem emb16 (t : Fin cfg0.N) (f : S512x64.Idx → EReal) (y : S512x64.Idx) : f (((cfg0.win 16).blk t).view.emb y) = f y := by
  idx_vars y
  blk_point [idx t]

theorem arr16 (c : Dev nD) : (dats m 0 c).arrAt 16 cfg0.N = (out0_16 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 16 _ (by decide +kernel) fun t _ y => ?_
  blk_simp
  rw [after0_16]
  simp only [blk0, blk1, blk2, blk3, blk4, blk5, blk6, blk7, blk8, blk9, blk10, blk11, blk12]
  exact (emb16 t _ y).symm

theorem emb17 (t : Fin cfg0.N) (f : S512x64.Idx → EReal) (y : S512x64.Idx) : f (((cfg0.win 17).blk t).view.emb y) = f y := by
  idx_vars y
  blk_point [idx t]

theorem arr17 (c : Dev nD) : (dats m 0 c).arrAt 17 cfg0.N = (out0_17 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 17 _ (by decide +kernel) fun t _ y => ?_
  blk_simp
  rw [after0_17]
  simp only [blk0, blk1, blk2, blk3, blk4, blk5, blk6, blk7, blk8, blk9, blk10, blk11, blk12]
  exact (emb17 t _ y).symm

theorem emb18 (t : Fin cfg0.N) (f : S512x64.Idx → EReal) (y : S512x64.Idx) : f (((cfg0.win 18).blk t).view.emb y) = f y := by
  idx_vars y
  blk_point [idx t]

theorem arr18 (c : Dev nD) : (dats m 0 c).arrAt 18 cfg0.N = (out0_18 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 18 _ (by decide +kernel) fun t _ y => ?_
  blk_simp
  rw [after0_18]
  simp only [blk0, blk1, blk2, blk3, blk4, blk5, blk6, blk7, blk8, blk9, blk10, blk11, blk12]
  exact (emb18 t _ y).symm

theorem emb19 (t : Fin cfg0.N) (f : S512x64.Idx → EReal) (y : S512x64.Idx) : f (((cfg0.win 19).blk t).view.emb y) = f y := by
  idx_vars y
  blk_point [idx t]

theorem arr19 (c : Dev nD) : (dats m 0 c).arrAt 19 cfg0.N = (out0_19 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) := by
  refine (dats m 0 c).arrAt_eq_of_covers 19 _ (by decide +kernel) fun t _ y => ?_
  blk_simp
  rw [after0_19]
  simp only [blk0, blk1, blk2, blk3, blk4, blk5, blk6, blk7, blk8, blk9, blk10, blk11, blk12]
  exact (emb19 t _ y).symm

theorem row_dir (d : Fin 2) (g ch : Fin 16) (h : (rowOf d g ch).val / 16 / 16 < 2) : (⟨(rowOf d g ch).val / 16 / 16, h⟩ : Fin 2) = d := Fin.ext (by simp only [rowOf]; omega)
theorem row_dir' (d : Fin 2) (g ch : Fin 16) (h : (rowOf d g ch).val / 256 < 2) : (⟨(rowOf d g ch).val / 256, h⟩ : Fin 2) = d := Fin.ext (by simp only [rowOf]; omega)
theorem row_group (d : Fin 2) (g ch : Fin 16) (h : (rowOf d g ch).val / 16 % 16 < 16) : (⟨(rowOf d g ch).val / 16 % 16, h⟩ : Fin 16) = g := Fin.ext (by simp only [rowOf]; omega)
theorem row_channel (d : Fin 2) (g ch : Fin 16) (h : (rowOf d g ch).val % 16 < 16) : (⟨(rowOf d g ch).val % 16, h⟩ : Fin 16) = ch := Fin.ext (by simp only [rowOf]; omega)

theorem V_a (c : Dev nD) (d : Fin 2) (g ch : Fin 16) (s : Fin 64) : (V m c main_v2 : S512x64.Idx → EReal) (ix2 (rowOf d g ch) s) = (m ((c : Thread nD τ).loc main_arg0) : S2x16x64.Idx → EReal) (ix3 d g s) := by
  unfold V
  after_reads_at
  simp only [row_dir, row_dir', row_group, row_channel]

theorem V_i (c : Dev nD) (d : Fin 2) (g ch : Fin 16) (s : Fin 64) : (V m c main_v5 : S512x64.Idx → EReal) (ix2 (rowOf d g ch) s) = (m ((c : Thread nD τ).loc main_arg1) : S2x16x64.Idx → EReal) (ix3 d g s) := by
  unfold V
  after_reads_at
  simp only [row_dir, row_dir', row_group, row_channel]

theorem V_l (c : Dev nD) (d : Fin 2) (g ch : Fin 16) : (V m c main_v8 : S512x1.Idx → EReal) (ix2 (rowOf d g ch) 0) = (m ((c : Thread nD τ).loc main_arg2) : S2x16.Idx → EReal) (ix2 d g) := by
  unfold V
  after_reads_at
  simp only [row_dir, row_dir', row_group, row_channel]

theorem V_br (c : Dev nD) (d : Fin 2) (g ch : Fin 16) (s : Fin 64) : (V m c main_v10 : S512x64.Idx → EReal) (ix2 (rowOf d g ch) s) = (m ((c : Thread nD τ).loc main_arg3) : S2x16x64x16.Idx → EReal) (ix4 d g s ch) := by
  unfold V
  after_reads_at
  simp only [row_dir, row_dir', row_group, row_channel]

theorem V_bi (c : Dev nD) (d : Fin 2) (g ch : Fin 16) (s : Fin 64) : (V m c main_v12 : S512x64.Idx → EReal) (ix2 (rowOf d g ch) s) = (m ((c : Thread nD τ).loc main_arg4) : S2x16x64x16.Idx → EReal) (ix4 d g s ch) := by
  unfold V
  after_reads_at
  simp only [row_dir, row_dir', row_group, row_channel]

theorem with13 (c : Dev nD) : Pipeline.withArrays (cfgs 0).spec c (V0 m c) (fun w => (dats m 0 c).arrAt w (cfgs 0).N) (Proc.tc.devRef main_v13_0) = (out0_13 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 13).trans (arr13 m c)

theorem with14 (c : Dev nD) : Pipeline.withArrays (cfgs 0).spec c (V0 m c) (fun w => (dats m 0 c).arrAt w (cfgs 0).N) (Proc.tc.devRef main_v13_1) = (out0_14 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 14).trans (arr14 m c)

theorem with15 (c : Dev nD) : Pipeline.withArrays (cfgs 0).spec c (V0 m c) (fun w => (dats m 0 c).arrAt w (cfgs 0).N) (Proc.tc.devRef main_v13_2) = (out0_15 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 15).trans (arr15 m c)

theorem with16 (c : Dev nD) : Pipeline.withArrays (cfgs 0).spec c (V0 m c) (fun w => (dats m 0 c).arrAt w (cfgs 0).N) (Proc.tc.devRef main_v13_3) = (out0_16 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 16).trans (arr16 m c)

theorem with17 (c : Dev nD) : Pipeline.withArrays (cfgs 0).spec c (V0 m c) (fun w => (dats m 0 c).arrAt w (cfgs 0).N) (Proc.tc.devRef main_v13_4) = (out0_17 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 17).trans (arr17 m c)

theorem with18 (c : Dev nD) : Pipeline.withArrays (cfgs 0).spec c (V0 m c) (fun w => (dats m 0 c).arrAt w (cfgs 0).N) (Proc.tc.devRef main_v13_5) = (out0_18 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 18).trans (arr18 m c)

theorem with19 (c : Dev nD) : Pipeline.withArrays (cfgs 0).spec c (V0 m c) (fun w => (dats m 0 c).arrAt w (cfgs 0).N) (Proc.tc.devRef main_v13_6) = (out0_19 (V m c main_v2) (V m c main_v5) (V m c main_v8) (V m c main_v10) (V m c main_v12) (V m c main_arg5) (V m c main_arg6) (V m c main_arg7) (V m c main_arg8) (V m c main_arg9) (V m c main_arg10) (V m c main_arg11) (V m c main_arg12) : Vec Ideal S512x64 .f32) :=
  (Pipeline.withArrays_arr spec0 (by decide) c (V0 m c) (fun w => (dats m 0 c).arrAt w (cfgs 0).N) 19).trans (arr19 m c)

theorem res16 (c : Dev nD) (F : Vec Ideal S512x64 .f32) (hF : Pipeline.withArrays (cfgs 0).spec c (V0 m c) (fun w => (dats m 0 c).arrAt w (cfgs 0).N) (Proc.tc.devRef main_v13_0) = F) (d : Fin 2) (g : Fin 16) (s : Fin 64) : (Pipeline.afterTail₀ cfgs (dats m) 0 (V0 m) [hostOps1] c main_v16 : S2x16x64.Idx → EReal) (ix3 d g s)
    = ∑ ch : Fin 16, (F : S512x64.Idx → EReal) (ix2 (rowOf d g ch) s) := by
  unfold Pipeline.afterTail₀
  after_reads_at
  exact Finset.sum_congr rfl fun ch _ => (congrFun hF _).trans (congrArg (F : S512x64.Idx → EReal) (congrArg (fun r => ix2 r s) (Fin.ext (by simp only [rowOf]; omega))))

theorem res19 (c : Dev nD) (F : Vec Ideal S512x64 .f32) (hF : Pipeline.withArrays (cfgs 0).spec c (V0 m c) (fun w => (dats m 0 c).arrAt w (cfgs 0).N) (Proc.tc.devRef main_v13_1) = F) (d : Fin 2) (g : Fin 16) (s : Fin 64) : (Pipeline.afterTail₀ cfgs (dats m) 0 (V0 m) [hostOps1] c main_v19 : S2x16x64.Idx → EReal) (ix3 d g s)
    = ∑ ch : Fin 16, (F : S512x64.Idx → EReal) (ix2 (rowOf d g ch) s) := by
  unfold Pipeline.afterTail₀
  after_reads_at
  exact Finset.sum_congr rfl fun ch _ => (congrFun hF _).trans (congrArg (F : S512x64.Idx → EReal) (congrArg (fun r => ix2 r s) (Fin.ext (by simp only [rowOf]; omega))))

theorem res22 (c : Dev nD) (F : Vec Ideal S512x64 .f32) (hF : Pipeline.withArrays (cfgs 0).spec c (V0 m c) (fun w => (dats m 0 c).arrAt w (cfgs 0).N) (Proc.tc.devRef main_v13_2) = F) (d : Fin 2) (g : Fin 16) : (Pipeline.afterTail₀ cfgs (dats m) 0 (V0 m) [hostOps1] c main_v22 : S2x16.Idx → EReal) (ix2 d g)
    = ∑ ch : Fin 16, ∑ s : Fin 64, (F : S512x64.Idx → EReal) (ix2 (rowOf d g ch) s) := by
  unfold Pipeline.afterTail₀
  after_reads_at
  have e : ∀ y : S512x64.Idx, ((Pipeline.withArrays (cfgs 0).spec c (V0 m c) (fun w => (dats m 0 c).arrAt w (cfgs 0).N) (Proc.tc.devRef main_v13_2)) y : EReal) = F y := congrFun hF
  refine Eq.trans ?_ (Fin.sum_mul_add_fin 16 64 (fun x : Fin 1024 => (F : S512x64.Idx → EReal) (ix2 ⟨(d.val * 16 + g.val) * 16 + x.val / 64, by omega⟩ ⟨x.val % 64, by omega⟩))).symm |>.trans ?_
  · exact Finset.sum_congr (M := EReal) rfl fun x _ => e _
  · refine Finset.sum_congr rfl fun ch _ => Finset.sum_congr rfl fun s _ => congrArg (F : S512x64.Idx → EReal) ?_
    exact congrArg₂ ix2 (Fin.ext (by simp only [rowOf]; omega)) (Fin.ext (by dsimp only; omega))

theorem res23 (c : Dev nD) (F : Vec Ideal S512x64 .f32) (hF : Pipeline.withArrays (cfgs 0).spec c (V0 m c) (fun w => (dats m 0 c).arrAt w (cfgs 0).N) (Proc.tc.devRef main_v13_3) = F) (d : Fin 2) (g ch : Fin 16) (s : Fin 64) : (Pipeline.afterTail₀ cfgs (dats m) 0 (V0 m) [hostOps1] c main_v23 : S2x16x16x64.Idx → EReal) (ix4 d g ch s)
    = (F : S512x64.Idx → EReal) (ix2 (rowOf d g ch) s) := by
  unfold Pipeline.afterTail₀
  after_reads_at
  exact (congrFun hF _).trans (congrArg (F : S512x64.Idx → EReal) (congrArg (fun r => ix2 r s) (Fin.ext (by simp only [rowOf]; omega))))

theorem res24 (c : Dev nD) (F : Vec Ideal S512x64 .f32) (hF : Pipeline.withArrays (cfgs 0).spec c (V0 m c) (fun w => (dats m 0 c).arrAt w (cfgs 0).N) (Proc.tc.devRef main_v13_4) = F) (d : Fin 2) (g ch : Fin 16) (s : Fin 64) : (Pipeline.afterTail₀ cfgs (dats m) 0 (V0 m) [hostOps1] c main_v24 : S2x16x16x64.Idx → EReal) (ix4 d g ch s)
    = (F : S512x64.Idx → EReal) (ix2 (rowOf d g ch) s) := by
  unfold Pipeline.afterTail₀
  after_reads_at
  exact (congrFun hF _).trans (congrArg (F : S512x64.Idx → EReal) (congrArg (fun r => ix2 r s) (Fin.ext (by simp only [rowOf]; omega))))

theorem res25 (c : Dev nD) (F : Vec Ideal S512x64 .f32) (hF : Pipeline.withArrays (cfgs 0).spec c (V0 m c) (fun w => (dats m 0 c).arrAt w (cfgs 0).N) (Proc.tc.devRef main_v13_5) = F) (d : Fin 2) (g ch : Fin 16) (s : Fin 64) : (Pipeline.afterTail₀ cfgs (dats m) 0 (V0 m) [hostOps1] c main_v25 : S2x16x16x64.Idx → EReal) (ix4 d g ch s)
    = (F : S512x64.Idx → EReal) (ix2 (rowOf d g ch) s) := by
  unfold Pipeline.afterTail₀
  after_reads_at
  exact (congrFun hF _).trans (congrArg (F : S512x64.Idx → EReal) (congrArg (fun r => ix2 r s) (Fin.ext (by simp only [rowOf]; omega))))

theorem res26 (c : Dev nD) (F : Vec Ideal S512x64 .f32) (hF : Pipeline.withArrays (cfgs 0).spec c (V0 m c) (fun w => (dats m 0 c).arrAt w (cfgs 0).N) (Proc.tc.devRef main_v13_6) = F) (d : Fin 2) (g ch : Fin 16) (s : Fin 64) : (Pipeline.afterTail₀ cfgs (dats m) 0 (V0 m) [hostOps1] c main_v26 : S2x16x16x64.Idx → EReal) (ix4 d g ch s)
    = (F : S512x64.Idx → EReal) (ix2 (rowOf d g ch) s) := by
  unfold Pipeline.afterTail₀
  after_reads_at
  exact (congrFun hF _).trans (congrArg (F : S512x64.Idx → EReal) (congrArg (fun r => ix2 r s) (Fin.ext (by simp only [rowOf]; omega))))

end Cert.Step.PrepBwd
end
-- ==== Proof.Step.PrepRef.lean ====
/-
The gradient of the zero-order hold: what the reference computes, entry by entry.
-/
module

public import proofs.«01_k».proof.Proof.Step.PrepOut
public import proofs.«01_k».proof.Proof.Gen.PrepBwdRefIdeal.Read
public import Mathlib.Tactic.Ring

@[expose] public section

set_option maxRecDepth 16384

open Idealize.ShloMosaic Idealize.ShloMosaic.TcCoe Idealize.SL.Sem

noncomputable section

namespace Cert.Step.PrepBwd

open Cert.PrepBwdRefIdeal Cert.PrepBwdRefIdeal.Read

section scalar

variable (a i l p q u v : EReal)

/-! One state of the reference, from the cotangents `p`, `q` of the quotient and `u`, `v` of the discretised decay. -/

def refDen : EReal := -(q * Ideal.div 1 (denE a i * denE a i) * (abiE a i l * a - nrE a i l * i)) + -(p * Ideal.div 1 (denE a i * denE a i) * (nrE a i l * a + abiE a i l * i))
def refAbi : EReal := v + Ideal.div q (denE a i) * a + Ideal.div p (denE a i) * i
def refAbr : EReal := u + -(Ideal.div q (denE a i)) * i + Ideal.div p (denE a i) * a
def refE : EReal := (refAbi a i p q v * sinE i l + refAbr a i p q u * cosE i l) * magE a l
def refG : EReal := magE a l * refAbi a i p q v * cosE i l + -(magE a l * refAbr a i p q u) * sinE i l
def refA : EReal := abiE a i l * Ideal.div q (denE a i) + nrE a i l * Ideal.div p (denE a i) + a * refDen a i l p q + refDen a i l p q * a + Ideal.exp l * refE a i l p q u v
def refI : EReal := nrE a i l * -(Ideal.div q (denE a i)) + abiE a i l * Ideal.div p (denE a i) + i * refDen a i l p q + refDen a i l p q * i + Ideal.exp l * refG a i l p q u v

end scalar

section real

variable (a i l p q u v : ℝ)

theorem inv_rho {a i : ℝ} (h : a * a + i * i ≠ 0) : Ideal.div 1 ((((a * a + i * i) * (a * a + i * i) : ℝ)) : EReal) = ((rhoR a i * rhoR a i : ℝ) : EReal) := by
  rw [← EReal.coe_one]
  exact (div_coe 1 (mul_ne_zero h h)).trans (congrArg _ (by rw [rhoR, one_div, mul_inv]))

theorem refE_coe : refE (a : EReal) i l p q u v = (lin (kE a i l) p q u v : ℝ) := by
  rcases den_cases a i with ⟨rfl, rfl⟩ | h
  · simp only [refE, refAbi, refAbr, EReal.coe_zero, mul_zero, add_zero]
    simp only [cosE, sinE, magE, exp_coe, cos_coe, sin_coe, ← EReal.coe_mul, ← EReal.coe_add, ← EReal.coe_zero]
    refine congrArg _ ?_
    simp only [lin, kE, cosR, sinR, magR, Matrix.cons_val]
    ring
  · simp only [refE, refAbi, refAbr, cosE, sinE, magE, denE, exp_coe, cos_coe, sin_coe, ← EReal.coe_mul, ← EReal.coe_add, div_rho h, ← EReal.coe_neg]
    refine congrArg _ ?_
    simp only [lin, kE, cosR, sinR, magR, Matrix.cons_val]
    ring

theorem refG_coe : refG (a : EReal) i l p q u v = (lin (kG a i l) p q u v : ℝ) := by
  rcases den_cases a i with ⟨rfl, rfl⟩ | h
  · simp only [refG, refAbi, refAbr, EReal.coe_zero, mul_zero, add_zero]
    simp only [cosE, sinE, magE, exp_coe, cos_coe, sin_coe, ← EReal.coe_mul, ← EReal.coe_add, ← EReal.coe_neg, ← EReal.coe_zero]
    refine congrArg _ ?_
    simp only [lin, kG, cosR, sinR, magR, Matrix.cons_val]
    ring
  · simp only [refG, refAbi, refAbr, cosE, sinE, magE, denE, exp_coe, cos_coe, sin_coe, ← EReal.coe_mul, ← EReal.coe_add, div_rho h, ← EReal.coe_neg]
    refine congrArg _ ?_
    simp only [lin, kG, cosR, sinR, magR, Matrix.cons_val]
    ring

theorem refA_coe : refA (a : EReal) i l p q u v = (lin (kA a i l) p q u v : ℝ) := by
  simp only [refA, refE_coe]
  rcases den_cases a i with ⟨rfl, rfl⟩ | h
  · simp only [EReal.coe_zero, nrE_zero, abiE_zero, mul_zero, zero_mul, zero_add, exp_coe, ← EReal.coe_mul]
    refine congrArg _ ?_
    simp only [lin, kA, rhoR, Matrix.cons_val, mul_zero, add_zero, inv_zero, zero_add]
    ring
  · simp only [refDen, nrE, abiE, cosE, sinE, magE, denE, exp_coe, cos_coe, sin_coe, ← EReal.coe_mul, ← EReal.coe_add, inv_rho h, div_rho h]
    simp only [← EReal.coe_one, ← EReal.coe_mul, ← EReal.coe_add, ← EReal.coe_sub, ← EReal.coe_neg]
    refine congrArg _ ?_
    simp only [lin, kA, nrR, abiR, qrR, qiR, cosR, sinR, magR, Matrix.cons_val]
    ring

theorem refI_coe : refI (a : EReal) i l p q u v = (lin (kI a i l) p q u v : ℝ) := by
  simp only [refI, refG_coe]
  rcases den_cases a i with ⟨rfl, rfl⟩ | h
  · simp only [EReal.coe_zero, nrE_zero, abiE_zero, mul_zero, zero_mul, zero_add, exp_coe, ← EReal.coe_mul]
    refine congrArg _ ?_
    simp only [lin, kI, rhoR, Matrix.cons_val, mul_zero, add_zero, inv_zero, zero_add]
    ring
  · simp only [refDen, nrE, abiE, cosE, sinE, magE, denE, exp_coe, cos_coe, sin_coe, ← EReal.coe_mul, ← EReal.coe_add, inv_rho h, div_rho h]
    simp only [← EReal.coe_one, ← EReal.coe_mul, ← EReal.coe_add, ← EReal.coe_sub, ← EReal.coe_neg]
    refine congrArg _ ?_
    simp only [lin, kI, nrR, abiR, qrR, qiR, cosR, sinR, magR, Matrix.cons_val]
    ring

end real

theorem uitofp_one : FloatOps.uitofp (F := Ideal) FTy.f32 1#1 = (1 : EReal) := by
  show (((1#1 : BitVec 1).toNat : ℝ) : EReal) = 1
  simp

theorem uitofp_zero : FloatOps.uitofp (F := Ideal) FTy.f32 0#1 = (0 : EReal) := by
  show (((0#1 : BitVec 1).toNat : ℝ) : EReal) = 0
  simp

theorem ref_mask (g h : Fin 16) : (val_main_v66 (F := Ideal) : S16x16.Idx → EReal) (ix2 g h) = if g = h then 1 else 0 := by
  pointwise [val_main_v66, val_main_v65, val_main_v64, val_main_v63, val_main_v62, val_main_v61, val_main_c]
  rw [show IntOp.addi (BitVec.ofNat 32 g.val) 0#32 = BitVec.ofNat 32 g.val from BitVec.add_zero _, eq_word (by omega) (by omega)]
  by_cases e : g = h
  · rw [if_pos (congrArg Fin.val e), if_pos e]
    exact uitofp_one
  · rw [if_neg fun k => e (Fin.ext k), if_neg e]
    exact uitofp_zero

theorem ref_mask' : (val_main_v89 (F := Ideal)) = val_main_v66 := rfl

theorem ref_stack (x9 x10 : Vec Ideal S256x2048 .f32) (d : Fin 2) (r : Fin 256) (s : Fin 2048) : (val_main_v9 x9 x10 : S2x256x2048.Idx → EReal) (ix3 d r s) = ofDir d x9 x10 (ix2 r s) := by
  rcases dir_cases d with rfl | rfl <;> pointwise [val_main_v9, val_main_v8, val_main_v7, ofDir]

theorem ref_stack' (x9 x10 : Vec Ideal S256x2048 .f32) (d : Fin 2) (r : Fin 256) (s : Fin 2048) : (val_main_v12 x9 x10 : S2x256x2048.Idx → EReal) (ix3 d r s) = ofDir d x9 x10 (ix2 r s) := by
  rcases dir_cases d with rfl | rfl <;> pointwise [val_main_v12, val_main_v11, val_main_v10, ofDir]

/-- The mask keeps one of the sixteen groups. -/
theorem kept (f : Fin 16 → EReal) (g : Fin 16) : ∑ _x : Fin 1, ∑ h : Fin 16, f h * (val_main_v66 (F := Ideal) : S16x16.Idx → EReal) (ix2 g h) = f g := by
  simp only [ref_mask, mul_ite, mul_one, mul_zero, Finset.sum_ite_eq, Finset.mem_univ, if_true, Finset.sum_const, Finset.card_univ, Fintype.card_fin, one_smul]

theorem col (g : Fin 16) (s : Fin 64) (h : g.val * 64 + s.val < 1024) : (⟨g.val * 64 + s.val, h⟩ : Fin 1024) = colOf g s := Fin.ext (by simp only [colOf]; omega)

theorem ref_gi (x9 x10 : Vec Ideal S256x2048 .f32) (d : Fin 2) (g ch : Fin 16) (s : Fin 64) : (val_main_v129 x9 x10 : S2x16x64x16.Idx → EReal) (ix4 d g s ch) = gIm x9 x10 d g ch s := by
  pointwise [val_main_v129, val_main_v128, val_main_v127, val_main_v126, val_main_v125, val_main_v124, val_main_v123, val_main_v122, val_main_v78, val_main_v77, val_main_cst_9, val_main_cst_8, ref_stack]
  refine (kept _ g).trans ?_
  simp only [gIm, gRe]
  refine congrArg (ofDir d x9 x10) (congrArg₂ ix2 ?_ ?_) <;> refine Fin.ext ?_ <;> simp only [rowIn, colOf] <;> omega

theorem ref_gr (x9 x10 : Vec Ideal S256x2048 .f32) (d : Fin 2) (g ch : Fin 16) (s : Fin 64) : (val_main_v136 x9 x10 : S2x16x64x16.Idx → EReal) (ix4 d g s ch) = gRe x9 x10 d g ch s := by
  pointwise [val_main_v136, val_main_v135, val_main_v134, val_main_v133, val_main_v132, val_main_v131, val_main_v130, val_main_v121, val_main_v70, val_main_v69, val_main_cst_11, val_main_cst_10, ref_stack]
  refine (kept _ g).trans ?_
  simp only [gIm, gRe]
  refine congrArg (ofDir d x9 x10) (congrArg₂ ix2 ?_ ?_) <;> refine Fin.ext ?_ <;> simp only [rowIn, colOf] <;> omega

theorem ref_cr (x9 x10 : Vec Ideal S256x2048 .f32) (d : Fin 2) (g ch : Fin 16) (s : Fin 64) : (val_main_v119 x9 x10 : S2x16x16x64.Idx → EReal) (ix4 d g ch s) = gRe x9 x10 d g ch s := by
  pointwise [val_main_v119, val_main_v118, val_main_v117, val_main_v116, val_main_v115, val_main_v114, val_main_v106, val_main_v93, val_main_v92, val_main_cst_7, val_main_cst_6, ref_mask', ref_stack']
  refine (kept _ g).trans ?_
  simp only [gIm, gRe]
  refine congrArg (ofDir d x9 x10) (congrArg₂ ix2 ?_ ?_) <;> refine Fin.ext ?_ <;> simp only [rowIn, colOf] <;> omega

theorem ref_ci0 (x9 x10 : Vec Ideal S256x2048 .f32) (d : Fin 2) (g ch : Fin 16) (s : Fin 64) : (val_main_v113 x9 x10 : S2x16x16x64.Idx → EReal) (ix4 d g ch s) = gIm x9 x10 d g ch s := by
  pointwise [val_main_v113, val_main_v112, val_main_v111, val_main_v110, val_main_v109, val_main_v108, val_main_v107, val_main_v100, val_main_v99, val_main_cst_5, val_main_cst_4, ref_mask', ref_stack']
  refine (kept _ g).trans ?_
  simp only [gIm, gRe]
  refine congrArg (ofDir d x9 x10) (congrArg₂ ix2 ?_ ?_) <;> refine Fin.ext ?_ <;> simp only [rowIn, colOf] <;> omega

theorem ref_dai (x7 x8 : Vec Ideal S1x1024 .f32) (d : Fin 2) (g : Fin 16) (s : Fin 64) : (val_main_v137 x7 x8 : S2x16x64.Idx → EReal) (ix3 d g s) = ofDir d x7 x8 (ix2 0 (colOf g s)) := by
  rcases dir_cases d with rfl | rfl <;> pointwise [val_main_v137, val_main_v6, val_main_v5, val_main_v4, ofDir, col]

theorem ref_dar (x5 x6 : Vec Ideal S1x1024 .f32) (d : Fin 2) (g : Fin 16) (s : Fin 64) : (val_main_v138 x5 x6 : S2x16x64.Idx → EReal) (ix3 d g s) = ofDir d x5 x6 (ix2 0 (colOf g s)) := by
  rcases dir_cases d with rfl | rfl <;> pointwise [val_main_v138, val_main_v3, val_main_v2, val_main_v1, ofDir, col]

theorem ref_ci (x11 x12 : Vec Ideal S256x2048 .f32) (d : Fin 2) (g ch : Fin 16) (s : Fin 64) : (val_main_v120 x11 x12 : S2x16x16x64.Idx → EReal) (ix4 d g ch s) = -gIm x11 x12 d g ch s := by
  pointwise [val_main_v120, ref_ci0]

variable (x0 x1 : Vec Ideal S2x16x64 .f32) (x2 : Vec Ideal S2x16 .f32) (x3 x4 : Vec Ideal S2x16x64x16 .f32) (x5 x6 x7 x8 : Vec Ideal S1x1024 .f32) (x9 x10 : Vec Ideal S256x2048 .f32) (d : Fin 2) (g : Fin 16) (s : Fin 64)

/-- The cotangent of the quotient's real part. -/
def refP : EReal := (∑ ch : Fin 16, gIm x9 x10 d g ch s * (x4 : S2x16x64x16.Idx → EReal) (ix4 d g s ch)) + ∑ ch : Fin 16, gRe x9 x10 d g ch s * (x3 : S2x16x64x16.Idx → EReal) (ix4 d g s ch)
/-- The cotangent of the quotient's imaginary part. -/
def refQ : EReal := (∑ ch : Fin 16, gIm x9 x10 d g ch s * (x3 : S2x16x64x16.Idx → EReal) (ix4 d g s ch)) + ∑ ch : Fin 16, -gRe x9 x10 d g ch s * (x4 : S2x16x64x16.Idx → EReal) (ix4 d g s ch)

theorem one_sum (x : EReal) : ∑ _x : Fin 1, x = x := by simp

theorem ref_p : (val_main_v167 x3 x4 x9 x10 : S2x16x64.Idx → EReal) (ix3 d g s) = refP x3 x4 x9 x10 d g s := by
  pointwise [val_main_v167, val_main_v166, val_main_v165, val_main_v164, val_main_v163, val_main_v150, val_main_v149, val_main_v148, val_main_v147, val_main_cst_14, val_main_cst_15, val_main_cst_18, val_main_cst_19, ref_gi, ref_gr, refP, one_sum]

theorem ref_q : (val_main_v159 x3 x4 x9 x10 : S2x16x64.Idx → EReal) (ix3 d g s) = refQ x3 x4 x9 x10 d g s := by
  pointwise [val_main_v159, val_main_v158, val_main_v157, val_main_v156, val_main_v155, val_main_v151, val_main_v144, val_main_v143, val_main_v142, val_main_v141, val_main_cst_12, val_main_cst_13, val_main_cst_16, val_main_cst_17, ref_gi, ref_gr, refQ, one_sum]

theorem ref_den : (val_main_v28 x0 x1 : S2x16x64.Idx → EReal) (ix3 d g s) = denE ((x0 : S2x16x64.Idx → EReal) (ix3 d g s)) ((x1 : S2x16x64.Idx → EReal) (ix3 d g s)) := by
  pointwise [val_main_v28, val_main_v27, val_main_v26, denE]

theorem ref_mag : (val_main_v17 x0 x2 : S2x16x64.Idx → EReal) (ix3 d g s) = magE ((x0 : S2x16x64.Idx → EReal) (ix3 d g s)) ((x2 : S2x16.Idx → EReal) (ix2 d g)) := by
  pointwise [val_main_v17, val_main_v16, val_main_v15, val_main_v14, val_main_v13, magE]

theorem ref_cos : (val_main_v20 x1 x2 : S2x16x64.Idx → EReal) (ix3 d g s) = cosE ((x1 : S2x16x64.Idx → EReal) (ix3 d g s)) ((x2 : S2x16.Idx → EReal) (ix2 d g)) := by
  pointwise [val_main_v20, val_main_v19, val_main_v18, val_main_v14, val_main_v13, cosE]

theorem ref_cos2 : (val_main_v24 x1 x2 : S2x16x64.Idx → EReal) (ix3 d g s) = cosE ((x1 : S2x16x64.Idx → EReal) (ix3 d g s)) ((x2 : S2x16.Idx → EReal) (ix2 d g)) := by
  pointwise [val_main_v24, val_main_v19, val_main_v18, val_main_v14, val_main_v13, cosE]

theorem ref_sin : (val_main_v21 x1 x2 : S2x16x64.Idx → EReal) (ix3 d g s) = sinE ((x1 : S2x16x64.Idx → EReal) (ix3 d g s)) ((x2 : S2x16.Idx → EReal) (ix2 d g)) := by
  pointwise [val_main_v21, val_main_v19, val_main_v18, val_main_v14, val_main_v13, sinE]

theorem ref_sin2 : (val_main_v23 x1 x2 : S2x16x64.Idx → EReal) (ix3 d g s) = sinE ((x1 : S2x16x64.Idx → EReal) (ix3 d g s)) ((x2 : S2x16.Idx → EReal) (ix2 d g)) := by
  pointwise [val_main_v23, val_main_v19, val_main_v18, val_main_v14, val_main_v13, sinE]

theorem ref_abi : (val_main_v25 x0 x1 x2 : S2x16x64.Idx → EReal) (ix3 d g s) = abiE ((x0 : S2x16x64.Idx → EReal) (ix3 d g s)) ((x1 : S2x16x64.Idx → EReal) (ix3 d g s)) ((x2 : S2x16.Idx → EReal) (ix2 d g)) := by
  pointwise [val_main_v25, ref_mag, ref_sin2, abiE]

theorem ref_nr : (val_main_v30 x0 x1 x2 : S2x16x64.Idx → EReal) (ix3 d g s) = nrE ((x0 : S2x16x64.Idx → EReal) (ix3 d g s)) ((x1 : S2x16x64.Idx → EReal) (ix3 d g s)) ((x2 : S2x16.Idx → EReal) (ix2 d g)) := by
  pointwise [val_main_v30, val_main_v29, val_main_v22, val_main_cst_0, ref_mag, ref_cos, nrE]

theorem ref_rinv : (val_main_v37 x0 x1 : S2x16x64.Idx → EReal) (ix3 d g s) = Ideal.div 1 (denE ((x0 : S2x16x64.Idx → EReal) (ix3 d g s)) ((x1 : S2x16x64.Idx → EReal) (ix3 d g s)) * denE ((x0 : S2x16x64.Idx → EReal) (ix3 d g s)) ((x1 : S2x16x64.Idx → EReal) (ix3 d g s))) := by
  pointwise [val_main_v37, val_main_v36, val_main_v35, val_main_cst_1, ref_den]

theorem ref_rinv2 : (val_main_v44 x0 x1 : S2x16x64.Idx → EReal) (ix3 d g s) = Ideal.div 1 (denE ((x0 : S2x16x64.Idx → EReal) (ix3 d g s)) ((x1 : S2x16x64.Idx → EReal) (ix3 d g s)) * denE ((x0 : S2x16x64.Idx → EReal) (ix3 d g s)) ((x1 : S2x16x64.Idx → EReal) (ix3 d g s))) := by
  pointwise [val_main_v44, val_main_v43, val_main_v42, val_main_cst_2, ref_den]

theorem ref_gden : (val_main_v182 x0 x1 x2 x3 x4 x9 x10 : S2x16x64.Idx → EReal) (ix3 d g s) = refDen ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) := by
  pointwise [val_main_v182, val_main_v181, val_main_v180, val_main_v179, val_main_v170, val_main_v169, val_main_v168, val_main_v40, val_main_v39, val_main_v38, val_main_v33, val_main_v32, val_main_v31, ref_rinv, ref_rinv2, ref_nr, ref_abi, ref_p, ref_q, refDen]

theorem ref_gabi : (val_main_v187 x0 x1 x3 x4 x7 x8 x9 x10 : S2x16x64.Idx → EReal) (ix3 d g s) = refAbi ((x0 : S2x16x64.Idx → EReal) (ix3 d g s)) ((x1 : S2x16x64.Idx → EReal) (ix3 d g s)) (refP x3 x4 x9 x10 d g s) (refQ x3 x4 x9 x10 d g s) (ofDir d x7 x8 (ix2 0 (colOf g s))) := by
  pointwise [val_main_v187, val_main_v186, val_main_v183, val_main_v178, val_main_v177, val_main_v171, ref_den, ref_dai, ref_p, ref_q, refAbi]

theorem ref_gabr : (val_main_v191 x0 x1 x3 x4 x5 x6 x9 x10 : S2x16x64.Idx → EReal) (ix3 d g s) = refAbr ((x0 : S2x16x64.Idx → EReal) (ix3 d g s)) ((x1 : S2x16x64.Idx → EReal) (ix3 d g s)) (refP x3 x4 x9 x10 d g s) (refQ x3 x4 x9 x10 d g s) (ofDir d x5 x6 (ix2 0 (colOf g s))) := by
  pointwise [val_main_v191, val_main_v190, val_main_v183, val_main_v175, val_main_v174, val_main_v172, val_main_v171, ref_den, ref_dar, ref_p, ref_q, refAbr]

theorem ref_e : (val_main_v215 x0 x1 x2 x3 x4 x5 x6 x7 x8 x9 x10 : S2x16x64.Idx → EReal) (ix3 d g s) = refE ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  pointwise [val_main_v215, val_main_v205, val_main_v204, val_main_v201, ref_gabi, ref_gabr, ref_sin2, ref_cos, ref_mag, refE]

theorem ref_g : (val_main_v208 x0 x1 x2 x3 x4 x5 x6 x7 x8 x9 x10 : S2x16x64.Idx → EReal) (ix3 d g s) = refG ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  pointwise [val_main_v208, val_main_v207, val_main_v206, val_main_v203, val_main_v202, val_main_v200, ref_gabi, ref_gabr, ref_sin, ref_cos2, ref_mag, refG]

theorem ref_a : (val_main_v218 x0 x1 x2 x3 x4 x5 x6 x7 x8 x9 x10 : S2x16x64.Idx → EReal) (ix3 d g s) = refA ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  pointwise [val_main_v218, val_main_v217, val_main_v216, val_main_v14, val_main_v13, val_main_v199, val_main_v198, val_main_v197, val_main_v196, val_main_v189, val_main_v188, val_main_v183, val_main_v176, val_main_v171, ref_e, ref_gden, ref_den, ref_nr, ref_abi, ref_p, ref_q, refA]

theorem ref_i : (val_main_v211 x0 x1 x2 x3 x4 x5 x6 x7 x8 x9 x10 : S2x16x64.Idx → EReal) (ix3 d g s) = refI ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  pointwise [val_main_v211, val_main_v210, val_main_v209, val_main_v14, val_main_v13, val_main_v195, val_main_v194, val_main_v193, val_main_v192, val_main_v185, val_main_v184, val_main_v183, val_main_v173, val_main_v172, val_main_v171, ref_g, ref_gden, ref_den, ref_nr, ref_abi, ref_p, ref_q, refI]

theorem ref_l : (val_main_v224 x0 x1 x2 x3 x4 x5 x6 x7 x8 x9 x10 : S2x16.Idx → EReal) (ix2 d g) = ((∑ s : Fin 64, refG ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) * ((x1 : S2x16x64.Idx → EReal) (ix3 d g s))) + ∑ s : Fin 64, refE ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) * ((x0 : S2x16x64.Idx → EReal) (ix3 d g s))) * Ideal.exp ((x2 : S2x16.Idx → EReal) (ix2 d g)) := by
  pointwise [val_main_v224, val_main_v223, val_main_v222, val_main_v221, val_main_v220, val_main_v219, val_main_v214, val_main_v213, val_main_v212, val_main_v13, val_main_cst_20, val_main_cst_21, val_main_cst_22, ref_e, ref_g, one_sum]

theorem ref_br (ch : Fin 16) : (val_main_v225 x0 x1 x2 x9 x10 : S2x16x16x64.Idx → EReal) (ix4 d g ch s) = qiE ((x0 : S2x16x64.Idx → EReal) (ix3 d g s)) ((x1 : S2x16x64.Idx → EReal) (ix3 d g s)) ((x2 : S2x16.Idx → EReal) (ix2 d g)) * gIm x9 x10 d g ch s + qrE ((x0 : S2x16x64.Idx → EReal) (ix3 d g s)) ((x1 : S2x16x64.Idx → EReal) (ix3 d g s)) ((x2 : S2x16.Idx → EReal) (ix2 d g)) * gRe x9 x10 d g ch s := by
  pointwise [val_main_v225, val_main_v162, val_main_v161, val_main_v160, val_main_v140, val_main_v139, val_main_v55, val_main_v45, val_main_v41, val_main_v34, val_main_v40, val_main_v39, val_main_v38, val_main_v33, val_main_v32, val_main_v31, ref_gi, ref_gr, ref_den, ref_nr, ref_abi, qiE, qrE]

theorem ref_bi (ch : Fin 16) : (val_main_v226 x0 x1 x2 x9 x10 : S2x16x16x64.Idx → EReal) (ix4 d g ch s) = qrE ((x0 : S2x16x64.Idx → EReal) (ix3 d g s)) ((x1 : S2x16x64.Idx → EReal) (ix3 d g s)) ((x2 : S2x16.Idx → EReal) (ix2 d g)) * gIm x9 x10 d g ch s + qiE ((x0 : S2x16x64.Idx → EReal) (ix3 d g s)) ((x1 : S2x16x64.Idx → EReal) (ix3 d g s)) ((x2 : S2x16.Idx → EReal) (ix2 d g)) * -gRe x9 x10 d g ch s := by
  pointwise [val_main_v226, val_main_v154, val_main_v153, val_main_v152, val_main_v151, val_main_v146, val_main_v145, val_main_v52, val_main_v48, val_main_v41, val_main_v34, val_main_v40, val_main_v39, val_main_v38, val_main_v33, val_main_v32, val_main_v31, ref_gi, ref_gr, ref_den, ref_nr, ref_abi, qiE, qrE]

end Cert.Step.PrepBwd
end
-- ==== Proof.Step.PrepBwd.lean ====
/-
The gradient of the zero-order hold: kernel and derivative compute the same seven arrays.
-/
module

public import proofs.«01_k».proof.Proof.Step.PrepValue
public import proofs.«01_k».proof.Proof.Step.PrepRef
public import proofs.«01_k».proof.Proof.Step.Norm
public import proofs.«01_k».proof.Proof.Gen.PrepBwdRefIdeal.Run
public import proofs.«01_k».proof.Proof.Gen.Pre_prep_bwd_finite
public import proofs.«01_k».proof.Defs

@[expose] public section

set_option maxRecDepth 16384

open Idealize.ShloMosaic Idealize.ShloMosaic.TcCoe Idealize.SL.Sem

noncomputable section

namespace Cert.Step.PrepBwd

/-! ## Sums of linear combinations -/

/-- Two functions of the four cotangents with the same coefficients: the first, summed over the channels, is the second of
    the cotangents' sums. The decay's cotangents stand at the first channel alone. -/
theorem gather (K : Fin 4 → ℝ) (out ref : EReal → EReal → EReal → EReal → EReal)
    (ho : ∀ p q u v : ℝ, out p q u v = (lin K p q u v : ℝ)) (hr : ∀ p q u v : ℝ, ref p q u v = (lin K p q u v : ℝ))
    (R J B C : Fin 16 → EReal) (u v : EReal) (hR : ∀ c, ∃ r : ℝ, R c = r) (hJ : ∀ c, ∃ r : ℝ, J c = r) (hB : ∀ c, ∃ r : ℝ, B c = r) (hC : ∀ c, ∃ r : ℝ, C c = r)
    (hu : ∃ r : ℝ, u = r) (hv : ∃ r : ℝ, v = r) :
    ∑ c : Fin 16, out (R c * B c + J c * C c) (J c * B c - R c * C c) (if c.val = 0 then u else 0) (if c.val = 0 then v else 0)
      = ref ((∑ c : Fin 16, J c * C c) + ∑ c : Fin 16, R c * B c) ((∑ c : Fin 16, J c * B c) + ∑ c : Fin 16, -R c * C c) u v := by
  choose R' eR using hR
  choose J' eJ using hJ
  choose B' eB using hB
  choose C' eC using hC
  obtain ⟨u', rfl⟩ := hu
  obtain ⟨v', rfl⟩ := hv
  have first : ∀ (x : ℝ) (c : Fin 16), (if c.val = 0 then (x : EReal) else 0) = ((if c.val = 0 then x else 0 : ℝ) : EReal) := fun x c => by split <;> simp
  have total : ∀ x : ℝ, (∑ c : Fin 16, if c.val = 0 then x else 0) = x := fun x => by simp [Fin.sum_univ_succ]
  simp only [eR, eJ, eB, eC, first, ← EReal.coe_mul, ← EReal.coe_add, ← EReal.coe_sub, ← EReal.coe_neg, ho]
  simp only [← coe_sum, ← EReal.coe_add, hr, lin_sum, total]
  refine congrArg _ ?_
  refine congrArg₂ (fun p q => lin K p q u' v') ?_ ?_
  · rw [Finset.sum_add_distrib, add_comm]
  · rw [← Finset.sum_add_distrib]
    exact Finset.sum_congr rfl fun c _ => by ring

theorem sum_mul_real {n : ℕ} (f g : Fin n → EReal) (e : EReal) (hf : ∀ s, ∃ r : ℝ, f s = r) (hg : ∀ s, ∃ r : ℝ, g s = r) (he : ∃ r : ℝ, e = r) :
    ∑ s : Fin n, (f s + g s) * e = ((∑ s : Fin n, g s) + ∑ s : Fin n, f s) * e := by
  choose f' ef using hf
  choose g' eg using hg
  obtain ⟨e', rfl⟩ := he
  simp only [ef, eg, ← EReal.coe_add, ← EReal.coe_mul, ← coe_sum]
  refine congrArg _ ?_
  rw [← Finset.sum_mul, Finset.sum_add_distrib, add_comm]

theorem real_ofDir {α : Type} (f b : α → EReal) (hf : ∀ k, ∃ r : ℝ, f k = r) (hb : ∀ k, ∃ r : ℝ, b k = r) (d : Fin 2) (k : α) : ∃ r : ℝ, ofDir d f b k = r := by
  unfold ofDir
  split
  · exact hf k
  · exact hb k

/-! ## The equation -/

section equation

open Cert.PrepBwdIdeal Cert.PrepBwdIdeal.Gen

variable (y0 y1 : Vec Ideal S512x64 .f32) (y2 : Vec Ideal S512x1 .f32) (y3 y4 : Vec Ideal S512x64 .f32)
  (x0 x1 : Vec Ideal S2x16x64 .f32) (x2 : Vec Ideal S2x16 .f32) (x3 x4 : Vec Ideal S2x16x64x16 .f32) (x5 x6 x7 x8 : Vec Ideal S1x1024 .f32) (x9 x10 x11 x12 : Vec Ideal S256x2048 .f32)

/-- What the host's layout puts into the call's first five windows. -/
structure Laid : Prop where
  a : ∀ d g ch s, (y0 : S512x64.Idx → EReal) (ix2 (rowOf d g ch) s) = (x0 : S2x16x64.Idx → EReal) (ix3 d g s)
  i : ∀ d g ch s, (y1 : S512x64.Idx → EReal) (ix2 (rowOf d g ch) s) = (x1 : S2x16x64.Idx → EReal) (ix3 d g s)
  l : ∀ d g ch, (y2 : S512x1.Idx → EReal) (ix2 (rowOf d g ch) 0) = (x2 : S2x16.Idx → EReal) (ix2 d g)
  br : ∀ d g ch s, (y3 : S512x64.Idx → EReal) (ix2 (rowOf d g ch) s) = (x3 : S2x16x64x16.Idx → EReal) (ix4 d g s ch)
  bi : ∀ d g ch s, (y4 : S512x64.Idx → EReal) (ix2 (rowOf d g ch) s) = (x4 : S2x16x64x16.Idx → EReal) (ix4 d g s ch)

/-- Every argument is real. -/
structure Reals : Prop where
  h0 : ∀ k, ∃ r : ℝ, x0 k = r
  h1 : ∀ k, ∃ r : ℝ, x1 k = r
  h2 : ∀ k, ∃ r : ℝ, x2 k = r
  h3 : ∀ k, ∃ r : ℝ, x3 k = r
  h4 : ∀ k, ∃ r : ℝ, x4 k = r
  h5 : ∀ k, ∃ r : ℝ, x5 k = r
  h6 : ∀ k, ∃ r : ℝ, x6 k = r
  h7 : ∀ k, ∃ r : ℝ, x7 k = r
  h8 : ∀ k, ∃ r : ℝ, x8 k = r
  h9 : ∀ k, ∃ r : ℝ, x9 k = r
  h10 : ∀ k, ∃ r : ℝ, x10 k = r
  h11 : ∀ k, ∃ r : ℝ, x11 k = r
  h12 : ∀ k, ∃ r : ℝ, x12 k = r

/-- One state's part of the reference's gradient of the step. -/
def refL (a i l p q u v : EReal) : EReal := (refE a i l p q u v * a + refG a i l p q u v * i) * Ideal.exp l

theorem refL_coe (a i l p q u v : ℝ) : refL (a : EReal) i l p q u v = (lin (kL a i l) p q u v : ℝ) := by
  simp only [refL, refE_coe, refG_coe, exp_coe, ← EReal.coe_mul, ← EReal.coe_add]
  refine congrArg _ ?_
  simp only [lin, kL]
  ring

variable (Y : Laid y0 y1 y2 y3 y4 x0 x1 x2 x3 x4) (X : Reals x0 x1 x2 x3 x4 x5 x6 x7 x8 x9 x10 x11 x12)
include Y X

theorem sum_a (d : Fin 2) (g : Fin 16) (s : Fin 64) : ∑ ch : Fin 16, (out0_13 y0 y1 y2 y3 y4 x5 x6 x7 x8 x9 x10 x11 x12 : S512x64.Idx → EReal) (ix2 (rowOf d g ch) s) = refA ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  refine (Finset.sum_congr rfl fun ch _ => out13_row y0 y1 y2 y3 y4 x5 x6 x7 x8 x9 x10 x11 x12 d g ch s X.h5 X.h6 X.h7 X.h8 X.h9 X.h10).trans ?_
  simp only [Y.a, Y.i, Y.l, Y.br, Y.bi, atFirst]
  obtain ⟨a, ea⟩ := X.h0 (ix3 d g s)
  obtain ⟨i, ei⟩ := X.h1 (ix3 d g s)
  obtain ⟨l, el⟩ := X.h2 (ix2 d g)
  rw [ea, ei, el]
  exact gather (kA a i l) (outA a i l) (refA a i l) (outA_coe a i l) (refA_coe a i l) _ _ _ _ _ _ (fun ch => real_ofDir _ _ X.h9 X.h10 _ _) (fun ch => real_ofDir _ _ X.h9 X.h10 _ _) (fun ch => X.h3 _) (fun ch => X.h4 _) (real_ofDir _ _ X.h5 X.h6 _ _) (real_ofDir _ _ X.h7 X.h8 _ _)

theorem sum_i (d : Fin 2) (g : Fin 16) (s : Fin 64) : ∑ ch : Fin 16, (out0_14 y0 y1 y2 y3 y4 x5 x6 x7 x8 x9 x10 x11 x12 : S512x64.Idx → EReal) (ix2 (rowOf d g ch) s) = refI ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  refine (Finset.sum_congr rfl fun ch _ => out14_row y0 y1 y2 y3 y4 x5 x6 x7 x8 x9 x10 x11 x12 d g ch s X.h5 X.h6 X.h7 X.h8 X.h9 X.h10).trans ?_
  simp only [Y.a, Y.i, Y.l, Y.br, Y.bi, atFirst]
  obtain ⟨a, ea⟩ := X.h0 (ix3 d g s)
  obtain ⟨i, ei⟩ := X.h1 (ix3 d g s)
  obtain ⟨l, el⟩ := X.h2 (ix2 d g)
  rw [ea, ei, el]
  exact gather (kI a i l) (outI a i l) (refI a i l) (outI_coe a i l) (refI_coe a i l) _ _ _ _ _ _ (fun ch => real_ofDir _ _ X.h9 X.h10 _ _) (fun ch => real_ofDir _ _ X.h9 X.h10 _ _) (fun ch => X.h3 _) (fun ch => X.h4 _) (real_ofDir _ _ X.h5 X.h6 _ _) (real_ofDir _ _ X.h7 X.h8 _ _)

theorem sum_l (d : Fin 2) (g : Fin 16) (s : Fin 64) : ∑ ch : Fin 16, (out0_15 y0 y1 y2 y3 y4 x5 x6 x7 x8 x9 x10 x11 x12 : S512x64.Idx → EReal) (ix2 (rowOf d g ch) s) = refL ((x0 : S2x16x64.Idx → EReal) (ix3 d g s)) ((x1 : S2x16x64.Idx → EReal) (ix3 d g s)) ((x2 : S2x16.Idx → EReal) (ix2 d g)) (refP x3 x4 x9 x10 d g s) (refQ x3 x4 x9 x10 d g s) (ofDir d x5 x6 (ix2 0 (colOf g s))) (ofDir d x7 x8 (ix2 0 (colOf g s))) := by
  refine (Finset.sum_congr rfl fun ch _ => out15_row y0 y1 y2 y3 y4 x5 x6 x7 x8 x9 x10 x11 x12 d g ch s X.h5 X.h6 X.h7 X.h8 X.h9 X.h10).trans ?_
  simp only [Y.a, Y.i, Y.l, Y.br, Y.bi, atFirst]
  obtain ⟨a, ea⟩ := X.h0 (ix3 d g s)
  obtain ⟨i, ei⟩ := X.h1 (ix3 d g s)
  obtain ⟨l, el⟩ := X.h2 (ix2 d g)
  rw [ea, ei, el]
  exact gather (kL a i l) (outL a i l) (refL a i l) (outL_coe a i l) (refL_coe a i l) _ _ _ _ _ _ (fun ch => real_ofDir _ _ X.h9 X.h10 _ _) (fun ch => real_ofDir _ _ X.h9 X.h10 _ _) (fun ch => X.h3 _) (fun ch => X.h4 _) (real_ofDir _ _ X.h5 X.h6 _ _) (real_ofDir _ _ X.h7 X.h8 _ _)

theorem real_p (d : Fin 2) (g : Fin 16) (s : Fin 64) : ∃ r : ℝ, refP x3 x4 x9 x10 d g s = r :=
  real_add (real_sum fun ch => real_mul (real_ofDir _ _ X.h9 X.h10 _ _) (X.h4 _)) (real_sum fun ch => real_mul (real_ofDir _ _ X.h9 X.h10 _ _) (X.h3 _))

theorem real_q (d : Fin 2) (g : Fin 16) (s : Fin 64) : ∃ r : ℝ, refQ x3 x4 x9 x10 d g s = r := by
  refine real_add (real_sum fun ch => real_mul (real_ofDir _ _ X.h9 X.h10 _ _) (X.h3 _)) (real_sum fun ch => real_mul ?_ (X.h4 _))
  obtain ⟨r, er⟩ := real_ofDir _ _ X.h9 X.h10 d (ix2 (rowIn g ch) ⟨(colOf g s).val, by omega⟩)
  exact ⟨-r, by rw [gRe, er, EReal.coe_neg]⟩

theorem eq_a (d : Fin 2) (g : Fin 16) (s : Fin 64) : ∑ ch : Fin 16, (out0_13 y0 y1 y2 y3 y4 x5 x6 x7 x8 x9 x10 x11 x12 : S512x64.Idx → EReal) (ix2 (rowOf d g ch) s) = (Cert.PrepBwdRefIdeal.Read.val_main_v218 x0 x1 x2 x3 x4 x5 x6 x7 x8 x9 x10 : S2x16x64.Idx → EReal) (ix3 d g s) :=
  (sum_a y0 y1 y2 y3 y4 x0 x1 x2 x3 x4 x5 x6 x7 x8 x9 x10 x11 x12 Y X d g s).trans (ref_a x0 x1 x2 x3 x4 x5 x6 x7 x8 x9 x10 d g s).symm

theorem eq_i (d : Fin 2) (g : Fin 16) (s : Fin 64) : ∑ ch : Fin 16, (out0_14 y0 y1 y2 y3 y4 x5 x6 x7 x8 x9 x10 x11 x12 : S512x64.Idx → EReal) (ix2 (rowOf d g ch) s) = (Cert.PrepBwdRefIdeal.Read.val_main_v211 x0 x1 x2 x3 x4 x5 x6 x7 x8 x9 x10 : S2x16x64.Idx → EReal) (ix3 d g s) :=
  (sum_i y0 y1 y2 y3 y4 x0 x1 x2 x3 x4 x5 x6 x7 x8 x9 x10 x11 x12 Y X d g s).trans (ref_i x0 x1 x2 x3 x4 x5 x6 x7 x8 x9 x10 d g s).symm

theorem eq_l (d : Fin 2) (g : Fin 16) : ∑ ch : Fin 16, ∑ s : Fin 64, (out0_15 y0 y1 y2 y3 y4 x5 x6 x7 x8 x9 x10 x11 x12 : S512x64.Idx → EReal) (ix2 (rowOf d g ch) s) = (Cert.PrepBwdRefIdeal.Read.val_main_v224 x0 x1 x2 x3 x4 x5 x6 x7 x8 x9 x10 : S2x16.Idx → EReal) (ix2 d g) := by
  refine Finset.sum_comm.trans ((Finset.sum_congr rfl fun s _ => sum_l y0 y1 y2 y3 y4 x0 x1 x2 x3 x4 x5 x6 x7 x8 x9 x10 x11 x12 Y X d g s).trans (Eq.trans ?_ (ref_l x0 x1 x2 x3 x4 x5 x6 x7 x8 x9 x10 d g).symm))
  have real : ∀ s, ∃ p q u v a i : ℝ, refP x3 x4 x9 x10 d g s = p ∧ refQ x3 x4 x9 x10 d g s = q ∧ ofDir d x5 x6 (ix2 0 (colOf g s)) = (u : EReal) ∧ ofDir d x7 x8 (ix2 0 (colOf g s)) = (v : EReal) ∧ (x0 : S2x16x64.Idx → EReal) (ix3 d g s) = a ∧ (x1 : S2x16x64.Idx → EReal) (ix3 d g s) = i := fun s => by
    obtain ⟨p, ep⟩ := real_p y0 y1 y2 y3 y4 x0 x1 x2 x3 x4 x5 x6 x7 x8 x9 x10 x11 x12 Y X d g s
    obtain ⟨q, eq⟩ := real_q y0 y1 y2 y3 y4 x0 x1 x2 x3 x4 x5 x6 x7 x8 x9 x10 x11 x12 Y X d g s
    obtain ⟨u, eu⟩ := real_ofDir _ _ X.h5 X.h6 d (ix2 0 (colOf g s))
    obtain ⟨v, ev⟩ := real_ofDir _ _ X.h7 X.h8 d (ix2 0 (colOf g s))
    obtain ⟨a, ea⟩ := X.h0 (ix3 d g s)
    obtain ⟨i, ei⟩ := X.h1 (ix3 d g s)
    exact ⟨p, q, u, v, a, i, ep, eq, eu, ev, ea, ei⟩
  obtain ⟨l, el⟩ := X.h2 (ix2 d g)
  simp only [refL]
  refine sum_mul_real _ _ _ (fun s => ?_) (fun s => ?_) ⟨Real.exp l, by rw [el]; rfl⟩
  · obtain ⟨p, q, u, v, a, i, ep, eq, eu, ev, ea, ei⟩ := real s
    exact ⟨lin (kE a i l) p q u v * a, by rw [ep, eq, eu, ev, ea, ei, el, refE_coe, EReal.coe_mul]⟩
  · obtain ⟨p, q, u, v, a, i, ep, eq, eu, ev, ea, ei⟩ := real s
    exact ⟨lin (kG a i l) p q u v * i, by rw [ep, eq, eu, ev, ea, ei, el, refG_coe, EReal.coe_mul]⟩

theorem eq_br (d : Fin 2) (g ch : Fin 16) (s : Fin 64) : (out0_16 y0 y1 y2 y3 y4 x5 x6 x7 x8 x9 x10 x11 x12 : S512x64.Idx → EReal) (ix2 (rowOf d g ch) s) = (Cert.PrepBwdRefIdeal.Read.val_main_v225 x0 x1 x2 x9 x10 : S2x16x16x64.Idx → EReal) (ix4 d g ch s) := by
  refine (out16_row y0 y1 y2 y3 y4 x5 x6 x7 x8 x9 x10 x11 x12 d g ch s X.h9 X.h10).trans (Eq.trans ?_ (ref_br x0 x1 x2 x9 x10 d g s ch).symm)
  rw [Y.a, Y.i, Y.l, add_comm, mul_comm (gIm x9 x10 d g ch s), mul_comm (gRe x9 x10 d g ch s)]

theorem eq_bi (d : Fin 2) (g ch : Fin 16) (s : Fin 64) : (out0_17 y0 y1 y2 y3 y4 x5 x6 x7 x8 x9 x10 x11 x12 : S512x64.Idx → EReal) (ix2 (rowOf d g ch) s) = (Cert.PrepBwdRefIdeal.Read.val_main_v226 x0 x1 x2 x9 x10 : S2x16x16x64.Idx → EReal) (ix4 d g ch s) := by
  refine (out17_row y0 y1 y2 y3 y4 x5 x6 x7 x8 x9 x10 x11 x12 d g ch s X.h9 X.h10).trans (Eq.trans ?_ (ref_bi x0 x1 x2 x9 x10 d g s ch).symm)
  rw [Y.a, Y.i, Y.l, sub_eq_add_neg, mul_neg, mul_comm (gIm x9 x10 d g ch s), mul_comm (gRe x9 x10 d g ch s)]

theorem eq_cr (d : Fin 2) (g ch : Fin 16) (s : Fin 64) : (out0_18 y0 y1 y2 y3 y4 x5 x6 x7 x8 x9 x10 x11 x12 : S512x64.Idx → EReal) (ix2 (rowOf d g ch) s) = (Cert.PrepBwdRefIdeal.Read.val_main_v119 x11 x12 : S2x16x16x64.Idx → EReal) (ix4 d g ch s) :=
  (out18_row y0 y1 y2 y3 y4 x5 x6 x7 x8 x9 x10 x11 x12 d g ch s X.h11 X.h12).trans (ref_cr x11 x12 d g ch s).symm

theorem eq_ci (d : Fin 2) (g ch : Fin 16) (s : Fin 64) : (out0_19 y0 y1 y2 y3 y4 x5 x6 x7 x8 x9 x10 x11 x12 : S512x64.Idx → EReal) (ix2 (rowOf d g ch) s) = (Cert.PrepBwdRefIdeal.Read.val_main_v120 x11 x12 : S2x16x16x64.Idx → EReal) (ix4 d g ch s) := by
  refine (out19_row y0 y1 y2 y3 y4 x5 x6 x7 x8 x9 x10 x11 x12 d g ch s X.h11 X.h12).trans (Eq.trans ?_ (ref_ci x11 x12 d g ch s).symm)
  rw [sub_eq_add_neg, zero_add]

end equation

/-! ## The claim -/

section claim

open Cert.PrepBwdIdeal Cert.PrepBwdIdeal.Gen

theorem real_of_pre (x0 x1 : Vec Ideal S2x16x64 .f32) (x2 : Vec Ideal S2x16 .f32) (x3 x4 : Vec Ideal S2x16x64x16 .f32) (x5 x6 x7 x8 : Vec Ideal S1x1024 .f32) (x9 x10 x11 x12 : Vec Ideal S256x2048 .f32)
    (e : Cert.Pre_prep_bwd_finite.fn (F := Ideal) x0 x1 x2 x3 x4 x5 x6 x7 x8 x9 x10 x11 x12 = fun _ => 1#1) : Reals x0 x1 x2 x3 x4 x5 x6 x7 x8 x9 x10 x11 x12 := by
  have e0 := congrFun e ix0
  unfold Cert.Pre_prep_bwd_finite.fn at e0
  have e1 := andi_split e0
  have e2 := andi_split e1.1
  have e3 := andi_split e2.1
  have e4 := andi_split e3.1
  have e5 := andi_split e4.1
  have e6 := andi_split e5.1
  have e7 := andi_split e6.1
  have e8 := andi_split e7.1
  have e9 := andi_split e8.1
  have e10 := andi_split e9.1
  have e11 := andi_split e10.1
  have e12 := andi_split e11.1
  exact ⟨real_of_all x0 _ _ _ _ _ e12.1, real_of_all x1 _ _ _ _ _ e12.2, real_of_all x2 _ _ _ _ _ e11.2, real_of_all x3 _ _ _ _ _ e10.2, real_of_all x4 _ _ _ _ _ e9.2, real_of_all x5 _ _ _ _ _ e8.2, real_of_all x6 _ _ _ _ _ e7.2, real_of_all x7 _ _ _ _ _ e6.2, real_of_all x8 _ _ _ _ _ e5.2, real_of_all x9 _ _ _ _ _ e4.2, real_of_all x10 _ _ _ _ _ e3.2, real_of_all x11 _ _ _ _ _ e2.2, real_of_all x12 _ _ _ _ _ e1.2⟩

variable (m : (ℓ : Loc nD τ sig) → Buf (Elt Ideal) ℓ)

theorem laid (c : Dev nD) : Laid (V m c main_v2) (V m c main_v5) (V m c main_v8) (V m c main_v10) (V m c main_v12)
    (m ((c : Thread nD τ).loc main_arg0)) (m ((c : Thread nD τ).loc main_arg1)) (m ((c : Thread nD τ).loc main_arg2)) (m ((c : Thread nD τ).loc main_arg3)) (m ((c : Thread nD τ).loc main_arg4)) :=
  ⟨V_a m c, V_i m c, V_l m c, V_br m c, V_bi m c⟩

/-- The thirteen arguments are real. -/
abbrev RealArgs (c : Dev nD) : Prop := Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem window_args (c : Dev nD) (f : (x5 x6 x7 x8 : Vec Ideal S1x1024 .f32) → (x9 x10 x11 x12 : Vec Ideal S256x2048 .f32) → Vec Ideal S512x64 .f32) :
    f (V m c main_arg5) (V m c main_arg6) (V m c main_arg7) (V m c main_arg8) (V m c main_arg9) (V m c main_arg10) (V m c main_arg11) (V m c main_arg12)
      = f (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  congr (congr (congr (congr (congr (congr (congr (congrArg f (V_main_arg5 m c)) (V_main_arg6 m c)) (V_main_arg7 m c)) (V_main_arg8 m c)) (V_main_arg9 m c)) (V_main_arg10 m c)) (V_main_arg11 m c)) (V_main_arg12 m c)

theorem same_a (c : Dev nD) (X : RealArgs m c) : (Pipeline.afterTail₀ cfgs (dats m) 0 (V0 m) [hostOps1] c main_v16 : S2x16x64.Idx → EReal) = (Cert.PrepBwdRefIdeal.Read.val_main_v218 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S2x16x64.Idx → EReal) := by
  funext z
  idx_vars z
  exact (res16 m c (out0_13 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with13 m c).trans (window_args m c (out0_13 (V m c main_v2) (V m c main_v5) (V m c main_v8) (V m c main_v10) (V m c main_v12)))) z0 z1 z2).trans (eq_a (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2)

theorem same_i (c : Dev nD) (X : RealArgs m c) : (Pipeline.afterTail₀ cfgs (dats m) 0 (V0 m) [hostOps1] c main_v19 : S2x16x64.Idx → EReal) = (Cert.PrepBwdRefIdeal.Read.val_main_v211 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S2x16x64.Idx → EReal) := by
  funext z
  idx_vars z
  exact (res19 m c (out0_14 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with14 m c).trans (window_args m c (out0_14 (V m c main_v2) (V m c main_v5) (V m c main_v8) (V m c main_v10) (V m c main_v12)))) z0 z1 z2).trans (eq_i (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2)

theorem same_l (c : Dev nD) (X : RealArgs m c) : (Pipeline.afterTail₀ cfgs (dats m) 0 (V0 m) [hostOps1] c main_v22 : S2x16.Idx → EReal) = (Cert.PrepBwdRefIdeal.Read.val_main_v224 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S2x16.Idx → EReal) := by
  funext z
  idx_vars z
  exact (res22 m c (out0_15 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with15 m c).trans (window_args m c (out0_15 (V m c main_v2) (V m c main_v5) (V m c main_v8) (V m c main_v10) (V m c main_v12)))) z0 z1).trans (eq_l (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1)

theorem same_br (c : Dev nD) (X : RealArgs m c) : (Pipeline.afterTail₀ cfgs (dats m) 0 (V0 m) [hostOps1] c main_v23 : S2x16x16x64.Idx → EReal) = (Cert.PrepBwdRefIdeal.Read.val_main_v225 (m ((c : Thread nD τ).loc main_arg0)) (m ((c : Thread nD τ).loc main_arg1)) (m ((c : Thread nD τ).loc main_arg2)) (m ((c : Thread nD τ).loc main_arg9)) (m ((c : Thread nD τ).loc main_arg10)) : S2x16x16x64.Idx → EReal) := by
  funext z
  idx_vars z
  exact (res23 m c (out0_16 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with16 m c).trans (window_args m c (out0_16 (V m c main_v2) (V m c main_v5) (V m c main_v8) (V m c main_v10) (V m c main_v12)))) z0 z1 z2 z3).trans (eq_br (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2 z3)

theorem same_bi (c : Dev nD) (X : RealArgs m c) : (Pipeline.afterTail₀ cfgs (dats m) 0 (V0 m) [hostOps1] c main_v24 : S2x16x16x64.Idx → EReal) = (Cert.PrepBwdRefIdeal.Read.val_main_v226 (m ((c : Thread nD τ).loc main_arg0)) (m ((c : Thread nD τ).loc main_arg1)) (m ((c : Thread nD τ).loc main_arg2)) (m ((c : Thread nD τ).loc main_arg9)) (m ((c : Thread nD τ).loc main_arg10)) : S2x16x16x64.Idx → EReal) := by
  funext z
  idx_vars z
  exact (res24 m c (out0_17 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with17 m c).trans (window_args m c (out0_17 (V m c main_v2) (V m c main_v5) (V m c main_v8) (V m c main_v10) (V m c main_v12)))) z0 z1 z2 z3).trans (eq_bi (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2 z3)

theorem same_cr (c : Dev nD) (X : RealArgs m c) : (Pipeline.afterTail₀ cfgs (dats m) 0 (V0 m) [hostOps1] c main_v25 : S2x16x16x64.Idx → EReal) = (Cert.PrepBwdRefIdeal.Read.val_main_v119 (m ((c : Thread nD τ).loc main_arg11)) (m ((c : Thread nD τ).loc main_arg12)) : S2x16x16x64.Idx → EReal) := by
  funext z
  idx_vars z
  exact (res25 m c (out0_18 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with18 m c).trans (window_args m c (out0_18 (V m c main_v2) (V m c main_v5) (V m c main_v8) (V m c main_v10) (V m c main_v12)))) z0 z1 z2 z3).trans (eq_cr (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2 z3)

theorem same_ci (c : Dev nD) (X : RealArgs m c) : (Pipeline.afterTail₀ cfgs (dats m) 0 (V0 m) [hostOps1] c main_v26 : S2x16x16x64.Idx → EReal) = (Cert.PrepBwdRefIdeal.Read.val_main_v120 (m ((c : Thread nD τ).loc main_arg11)) (m ((c : Thread nD τ).loc main_arg12)) : S2x16x16x64.Idx → EReal) := by
  funext z
  idx_vars z
  exact (res26 m c (out0_19 (V m c main_v2) (V m c main_v5) (V m c main_v8) (V m c main_v10) (V m c main_v12) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : Vec Ideal S512x64 .f32) ((with19 m c).trans (window_args m c (out0_19 (V m c main_v2) (V m c main_v5) (V m c main_v8) (V m c main_v10) (V m c main_v12)))) z0 z1 z2 z3).trans (eq_ci (V m c main_v2) (V m c main_v5) (V m c main_v8) (V m c main_v10) (V m c main_v12) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (laid m c) X z0 z1 z2 z3)

/-- Kernel and derivative leave the same seven results. -/
theorem algebraic : Cert.algebraic_PrepBwdIdeal_PrepBwdRefIdeal_pre_prep_bwd_finite := by
  intro m ρ m' ρ' hpre hag
  refine ⟨fun c => Pipeline.afterTail₀ cfgs (dats m) 0 (V0 m) [hostOps1] c main_v16, fun c => Pipeline.afterTail₀ cfgs (dats m) 0 (V0 m) [hostOps1] c main_v19, fun c => Pipeline.afterTail₀ cfgs (dats m) 0 (V0 m) [hostOps1] c main_v22, fun c => Pipeline.afterTail₀ cfgs (dats m) 0 (V0 m) [hostOps1] c main_v23, fun c => Pipeline.afterTail₀ cfgs (dats m) 0 (V0 m) [hostOps1] c main_v24, fun c => Pipeline.afterTail₀ cfgs (dats m) 0 (V0 m) [hostOps1] c main_v25, fun c => Pipeline.afterTail₀ cfgs (dats m) 0 (V0 m) [hostOps1] c main_v26,
    (θ_run _ _ _).mono (fun r h c => ?_) (run_main_quiescent m ρ), (θ_run _ _ _).mono (fun r h c => ?_) (Cert.PrepBwdRefIdeal.Value.run m' ρ')⟩
  · exact ⟨(h.1 c).2 main_v16 (Pipeline.mem_restRefs_of main_v16 (by decide) (by decide)), (h.1 c).2 main_v19 (Pipeline.mem_restRefs_of main_v19 (by decide) (by decide)), (h.1 c).2 main_v22 (Pipeline.mem_restRefs_of main_v22 (by decide) (by decide)), (h.1 c).2 main_v23 (Pipeline.mem_restRefs_of main_v23 (by decide) (by decide)), (h.1 c).2 main_v24 (Pipeline.mem_restRefs_of main_v24 (by decide) (by decide)), (h.1 c).2 main_v25 (Pipeline.mem_restRefs_of main_v25 (by decide) (by decide)), (h.1 c).2 main_v26 (Pipeline.mem_restRefs_of main_v26 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c))),
      ((h.1 c).1 10).trans (((dats m 0 c).arrAt_in 10 rfl _).trans ((A_eq m c 10).trans (V_main_arg10 m c))),
      ((h.1 c).1 11).trans (((dats m 0 c).arrAt_in 11 rfl _).trans ((A_eq m c 11).trans (V_main_arg11 m c))),
      ((h.1 c).1 12).trans (((dats m 0 c).arrAt_in 12 rfl _).trans ((A_eq m c 12).trans (V_main_arg12 m c)))⟩
  · obtain ⟨h0, h1, h2, h3, h4, h5, h6, hk⟩ := h c
    obtain ⟨a0, a1, a2, a3, a4, a5, a6, a7, a8, a9, a10, a11, a12⟩ := hag c
    have X := real_of_pre _ _ _ _ _ _ _ _ _ _ _ _ _ (hpre c)
    refine ⟨h0.trans ?_, h1.trans ?_, h2.trans ?_, h3.trans ?_, h4.trans ?_, h5.trans ?_, h6.trans ?_, hk⟩ <;> beta_reduce
    · rw [same_a m c X, ← a0, ← a1, ← a2, ← a3, ← a4, ← a5, ← a6, ← a7, ← a8, ← a9, ← a10]
      exact Cert.PrepBwdRefIdeal.Read.val_main_v218_eq (StableHlo.launchContents m' c)
    · rw [same_i m c X, ← a0, ← a1, ← a2, ← a3, ← a4, ← a5, ← a6, ← a7, ← a8, ← a9, ← a10]
      exact Cert.PrepBwdRefIdeal.Read.val_main_v211_eq (StableHlo.launchContents m' c)
    · rw [same_l m c X, ← a0, ← a1, ← a2, ← a3, ← a4, ← a5, ← a6, ← a7, ← a8, ← a9, ← a10]
      exact Cert.PrepBwdRefIdeal.Read.val_main_v224_eq (StableHlo.launchContents m' c)
    · rw [same_br m c X, ← a0, ← a1, ← a2, ← a9, ← a10]
      exact Cert.PrepBwdRefIdeal.Read.val_main_v225_eq (StableHlo.launchContents m' c)
    · rw [same_bi m c X, ← a0, ← a1, ← a2, ← a9, ← a10]
      exact Cert.PrepBwdRefIdeal.Read.val_main_v226_eq (StableHlo.launchContents m' c)
    · rw [same_cr m c X, ← a11, ← a12]
      exact Cert.PrepBwdRefIdeal.Read.val_main_v119_eq (StableHlo.launchContents m' c)
    · rw [same_ci m c X, ← a11, ← a12]
      exact Cert.PrepBwdRefIdeal.Read.val_main_v120_eq (StableHlo.launchContents m' c)

end claim

end Cert.Step.PrepBwd
end
-- ==== Proof.Step.RmsNorm.lean ====
module
public import proofs.«01_k».proof.Proof.Gen.RmsNormIdeal.Value
public import proofs.«01_k».proof.Proof.Gen.RmsNormRefIdeal.Run
public import proofs.«01_k».proof.Proof.Gen.RmsNormRefIdeal.Read
public import proofs.«01_k».proof.Proof.Step.Norm
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The root-mean-square norm of every row. -/

namespace Cert.Step.RmsNorm

/-- The norm's entry `j` of a row. -/
def normAt (h g : Fin 1024 → EReal) (j : Fin 1024) : EReal := h j * rms h * g j

/-- The norm of every row. -/
def normArr {n : ℕ} (h : FVec Ideal ⟨2, ![n, 1024]⟩ .f32) (g : FVec Ideal ⟨2, ![1, 1024]⟩ .f32) : (⟨2, ![n, 1024]⟩ : Shape).Idx → EReal :=
  fun i => normAt (fun k => h (ix2 (i 0) k)) (fun k => g (ix2 0 k)) (i 1)

section Kernel

open Cert.RmsNormIdeal Cert.RmsNormIdeal.Gen

variable (m : (ℓ : Loc nD τ sig) → Buf (Elt Ideal) ℓ)

/-- The block indices at a point: the rows move with the point, the gains stay. -/
theorem idx : ∀ t : Fin cfg0.N, win0_0.index t = ![t.val, 0] ∧ win0_1.index t = ![0, 0] ∧ win0_2.index t = ![t.val, 0] :=
  (by decide +kernel : ∀ t : Fin grid0.N, _)

/-- What a point stores. -/
theorem point (h : FVec Ideal S512x1024 .f32) (g : FVec Ideal S1x1024 .f32) (i : S512x1024.Idx) :
    (out0_2 (F := Ideal) h g : S512x1024.Idx → EReal) i = normArr h g i := by
  unfold out0_2
  canon_tiles x h
  all_goals
    unfold_payloads
    idx_vars i
    pointwise [normArr, normAt, rms, msq]
    blk_point

/-- The two arguments' arrays. -/
abbrev hA (c : Dev nD) : FVec Ideal S4096x1024 .f32 := m ((c : Thread nD τ).loc main_arg0)
abbrev gA (c : Dev nD) : FVec Ideal S1x1024 .f32 := m ((c : Thread nD τ).loc main_arg1)

/-- A point's row in the arrays. -/
abbrev row (t : Fin cfg0.N) (x : Fin 512) : Fin 4096 := ⟨t.val * 512 + x.val, by have := t.isLt; change t.val < 8 at this; omega⟩

/-- The point's blocks, and where a block's entry stands in the array. -/
theorem blk_h (c : Dev nD) (t : Fin cfg0.N) (x : Fin 512) (k : Fin 1024) : iblk m c 0 t (ix2 x k) = hA m c (ix2 (row t x) k) := by
  blk_point [iblk, V, idx t]

theorem blk_g (c : Dev nD) (t : Fin cfg0.N) : iblk m c 1 t = gA m c := by
  funext i
  blk_point [iblk, V, idx t]

theorem emb (t : Fin cfg0.N) (f : S4096x1024.Idx → EReal) (x : Fin 512) (k : Fin 1024) :
    f (((cfg0.win 2).blk t).view.emb (ix2 x k)) = f (ix2 (row t x) k) := by
  blk_point [idx t]

/-- The normalised rows after the run. -/
theorem final2 (c : Dev nD) : (dats m 0 c).arrAt 2 cfg0.N = (normArr (hA m c) (gA m c) : S4096x1024.Idx → EReal) := by
  refine (dats m 0 c).arrAt_eq_of_covers 2 _ (by decide +kernel) fun t _ y => ?_
  blk_simp
  rw [after0_2, point, blk_g]
  idx_vars y
  refine Eq.trans ?_ (emb t (normArr (hA m c) (gA m c)) y0 y1).symm
  exact congrArg (fun h => normAt h (fun k => gA m c (ix2 0 k)) y1) (funext fun k => blk_h m c t y0 k)

end Kernel

section Reference

open Cert.RmsNormRefIdeal Cert.RmsNormRefIdeal.Read

/-- The forward lines compute the same norm. -/
theorem ref_eq (h : FVec Ideal S4096x1024 .f32) (g : FVec Ideal S1x1024 .f32) :
    (val_main_v12 (F := Ideal) h g : S4096x1024.Idx → EReal) = normArr h g := by
  funext i
  idx_vars i
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, normArr, normAt, rms, msq]

end Reference

/-- Kernel and forward lines leave the same array. -/
theorem algebraic : Cert.algebraic_RmsNormIdeal_RmsNormRefIdeal := by
  intro m ρ m' ρ' _ hag
  refine ⟨_, Cert.RmsNormIdeal.Value.run_blocks m ρ, (θ_run _ _ _).mono (fun r h c => ?_) (Cert.RmsNormRefIdeal.Value.run m' ρ')⟩
  obtain ⟨h1, hk⟩ := h c
  obtain ⟨a0, a1⟩ := hag c
  refine ⟨h1.trans ?_, hk⟩
  rw [final2]
  refine (Cert.RmsNormRefIdeal.Read.val_main_v12_eq _ _).trans ?_
  rw [a0, a1]
  exact ref_eq _ _

end Cert.Step.RmsNorm
end
-- ==== Proof.Step.Combine.lean ====
module
public import proofs.«01_k».proof.Proof.Gen.CombineIdeal.Value
public import proofs.«01_k».proof.Proof.Gen.CombineRefIdeal.Run
public import proofs.«01_k».proof.Proof.Gen.CombineRefIdeal.Read
public import proofs.«01_k».proof.Proof.Step.Real
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The two directions' outputs with the skip, and the gelu of their sum. -/

namespace Cert.Step.Combine

/-- The sum of the two directions and the skip. -/
def yArr {n : ℕ} (pj : (⟨2, ![n, 2816]⟩ : Shape).Idx → EReal) (yf yb : (⟨2, ![n, 256]⟩ : Shape).Idx → EReal)
    (d : (⟨2, ![1, 256]⟩ : Shape).Idx → EReal) : (⟨2, ![n, 256]⟩ : Shape).Idx → EReal :=
  fun i => pj (ix2 (i 0) ⟨512 + (i 1).val, by have := (i 1).isLt; change (i 1).val < 256 at this; omega⟩) * d (ix2 0 (i 1)) + yf i + yb i

/-- The gelu, as the forward lines write it. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- The gelu, as the call writes it. -/
def geluK (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

theorem geluK_eq (y : EReal) : geluK y = gelu y := by
  unfold geluK gelu
  rw [mul_comm (Ideal.ofBits .f32 0x3F000000#32) y, mul_assoc y, mul_assoc (Ideal.ofBits .f32 0x3D372713#32) y y,
    mul_assoc (Ideal.ofBits .f32 0x3D372713#32) (y * y) y]

section Kernel

open Cert.CombineIdeal Cert.CombineIdeal.Gen

variable (m : (ℓ : Loc nD τ sig) → Buf (Elt Ideal) ℓ)

/-- The block indices at a point: the row blocks move with the point (the scan's columns are the third block of 256), the skip's gains stay. -/
theorem idx : ∀ t : Fin cfg0.N, win0_0.index t = ![t.val, 2] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

section Point

variable (u yf yb : FVec Ideal S512x256 .f32) (d : FVec Ideal S1x256 .f32) (i : S512x256.Idx)

/-- What a point stores into the two blocks. -/
theorem points : (out0_4 (F := Ideal) u yf yb d : S512x256.Idx → EReal) i = u i * d (ix2 0 (i 1)) + yf i + yb i
    ∧ (out0_5 (F := Ideal) u yf yb d : S512x256.Idx → EReal) i = geluK (u i * d (ix2 0 (i 1)) + yf i + yb i) := by
  refine ⟨?_, ?_⟩
  · unfold out0_4
    canon_tiles x h
    all_goals unfold_payloads; idx_vars i; pointwise; blk_point
  · unfold out0_5
    canon_tiles x h
    all_goals unfold_payloads; idx_vars i; pointwise [geluK]; blk_point

end Point

/-- The arguments' arrays. -/
abbrev pjA (c : Dev nD) : FVec Ideal S4096x2816 .f32 := m ((c : Thread nD τ).loc main_arg0)
abbrev yfA (c : Dev nD) : FVec Ideal S4096x256 .f32 := m ((c : Thread nD τ).loc main_arg1)
abbrev ybA (c : Dev nD) : FVec Ideal S4096x256 .f32 := m ((c : Thread nD τ).loc main_arg2)
abbrev dA (c : Dev nD) : FVec Ideal S1x256 .f32 := m ((c : Thread nD τ).loc main_arg3)

/-- The sums after the run. -/
theorem final4 (c : Dev nD) : (dats m 0 c).arrAt 4 cfg0.N = (yArr (pjA m c) (yfA m c) (ybA m c) (dA m c) : S4096x256.Idx → EReal) := by
  refine (dats m 0 c).arrAt_eq_of_covers 4 _ (by decide +kernel) fun t _ y => ?_
  blk_simp
  rw [after0_4, (points _ _ _ _ _).1]
  idx_vars y
  unfold yArr
  blk_point [iblk, V, idx t, pjA, yfA, ybA, dA]

/-- The gelus after the run. -/
theorem final5 (c : Dev nD) : (dats m 0 c).arrAt 5 cfg0.N
    = (fun i => gelu (yArr (pjA m c) (yfA m c) (ybA m c) (dA m c) i) : S4096x256.Idx → EReal) := by
  refine (dats m 0 c).arrAt_eq_of_covers 5 _ (by decide +kernel) fun t _ y => ?_
  blk_simp
  rw [after0_5, (points _ _ _ _ _).2, geluK_eq]
  idx_vars y
  unfold yArr
  refine congrArg gelu ?_
  blk_point [iblk, V, idx t, pjA, yfA, ybA, dA]

end Kernel

section Reference

open Cert.CombineRefIdeal Cert.CombineRefIdeal.Read

variable (pj : FVec Ideal S4096x2816 .f32) (yf yb : FVec Ideal S4096x256 .f32) (d : FVec Ideal S1x256 .f32)

/-- The forward lines' sum. -/
theorem ref_v4 : (val_main_v4 (F := Ideal) pj yf yb d : S4096x256.Idx → EReal) = yArr pj yf yb d := by
  funext i
  idx_vars i
  pointwise [val_main_v4, val_main_v3, val_main_v2, val_main_v1, val_main_v0, yArr]

/-- The forward lines' gelu. -/
theorem ref_v18 : (val_main_v18 (F := Ideal) pj yf yb d : S4096x256.Idx → EReal) = fun i => gelu (yArr pj yf yb d i) := by
  funext i
  rw [← ref_v4]
  idx_vars i
  simp only [val_main_v18, val_main_v17, val_main_v16, val_main_v15, val_main_v14, val_main_v13, val_main_v12, val_main_v11, val_main_v10,
    val_main_v9, val_main_v8, val_main_v7, val_main_v6, val_main_v5]
  pointwise [val_main_cst, val_main_cst_0, val_main_cst_1, val_main_cst_2, gelu]

end Reference

/-- Kernel and forward lines leave the same two arrays. -/
theorem algebraic : Cert.algebraic_CombineIdeal_CombineRefIdeal := by
  intro m ρ m' ρ' _ hag
  refine ⟨_, _, Cert.CombineIdeal.Value.run_blocks m ρ, (θ_run _ _ _).mono (fun r h c => ?_) (Cert.CombineRefIdeal.Value.run m' ρ')⟩
  obtain ⟨h1, h2, hk⟩ := h c
  obtain ⟨a0, a1, a2, a3⟩ := hag c
  refine ⟨h1.trans ?_, h2.trans ?_, hk⟩
  · rw [final4]
    refine (Cert.CombineRefIdeal.Read.val_main_v4_eq _ _ _ _).trans ?_
    rw [a0, a1, a2, a3]
    exact ref_v4 _ _ _ _
  · rw [final5]
    refine (Cert.CombineRefIdeal.Read.val_main_v18_eq _ _ _ _).trans ?_
    rw [a0, a1, a2, a3]
    exact ref_v18 _ _ _ _

end Cert.Step.Combine
end
-- ==== Proof.Step.Merge.lean ====
module
public import proofs.«01_k».proof.Proof.Gen.MergeIdeal.Value
public import proofs.«01_k».proof.Proof.Gen.MergeRefIdeal.Run
public import proofs.«01_k».proof.Proof.Gen.MergeRefIdeal.Read
public import proofs.«01_k».proof.Proof.Step.Gate
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The gated merge of the two mixers. -/

namespace Cert.Step.Merge

/-- The merge as the call writes it. -/
def mergedK {n : ℕ} (ms : (⟨2, ![n, 512]⟩ : Shape).Idx → EReal) (y : (⟨2, ![n, 256]⟩ : Shape).Idx → EReal)
    (w : (⟨3, ![4, 1024, 256]⟩ : Shape).Idx → EReal) (pj : (⟨2, ![n, 2816]⟩ : Shape).Idx → EReal) (r : Fin n) (x : Fin 1024) : EReal :=
  sg (gPool pj r x) * zPool ms w r x + sg (gSsm pj r x) * zVal y w r x * sg (zGate y w r x)

theorem mergedK_eq {n : ℕ} (ms : (⟨2, ![n, 512]⟩ : Shape).Idx → EReal) (y : (⟨2, ![n, 256]⟩ : Shape).Idx → EReal)
    (w : (⟨3, ![4, 1024, 256]⟩ : Shape).Idx → EReal) (pj : (⟨2, ![n, 2816]⟩ : Shape).Idx → EReal) (r : Fin n) (x : Fin 1024) :
    mergedK ms y w pj r x = merged ms y w pj r x := by
  unfold mergedK merged
  simp only [mul_assoc, mul_comm, mul_left_comm]

section Kernel

open Cert.MergeIdeal Cert.MergeIdeal.Gen

variable (m : (ℓ : Loc nD τ sig) → Buf (Elt Ideal) ℓ)

/-- The block indices at a point: the row blocks move with the point, the weights stay. -/
theorem idx : ∀ t : Fin cfg0.N, win0_0.index t = ![t.val, 0] ∧ win0_1.index t = ![t.val, 0] ∧ win0_2.index t = ![0, 0, 0]
    ∧ win0_3.index t = ![t.val, 0] ∧ win0_4.index t = ![t.val, 0] :=
  (by decide +kernel : ∀ t : Fin grid0.N, _)

/-- The packed weights. -/
def pk (c : Dev nD) : FVec Ideal S4x1024x256 .bf16 :=
  packed (m ((c : Thread nD τ).loc main_arg2)) (m ((c : Thread nD τ).loc main_arg3)) (m ((c : Thread nD τ).loc main_arg4))

/-- The host's lines pack the weights. -/
theorem V_pk (c : Dev nD) : V m c main_v7 = pk m c := by
  funext i
  idx_vars i
  unfold V pk packed packedAt
  after_reads_at
  by_cases h1 : i1.val < 512
  · simp only [dif_pos h1]
    after_reads_at
  by_cases h2 : i1.val - 512 < 256
  · simp only [dif_neg h1, dif_pos h2]
    after_reads_at
    simp only [dif_neg h1, dif_pos (show i1.val < 768 by omega)]
  · simp only [dif_neg h1, dif_neg h2]
    after_reads_at
    simp only [dif_neg h1, dif_neg (show ¬ i1.val < 768 by omega), show i1.val - 512 - 256 = i1.val - 768 by omega]

/-- What a point stores. -/
theorem point (ms : FVec Ideal S512x512 .bf16) (y : FVec Ideal S512x256 .bf16) (w : FVec Ideal S4x1024x256 .bf16)
    (pj : FVec Ideal S512x2816 .f32) (i : S512x1024.Idx) :
    (out0_4 (F := Ideal) ms y w pj : S512x1024.Idx → EReal) i = merged (n := 512) ms y w pj (i 0) (i 1) := by
  refine Eq.trans ?_ (mergedK_eq (n := 512) ms y w pj (i 0) (i 1))
  unfold out0_4
  canon_tiles x h
  all_goals unfold_payloads; idx_vars i; pointwise [mergedK, zPool, zVal, zGate, gPool, gSsm, sg]; blk_point

/-- A point's row in the arrays. -/
abbrev row (t : Fin cfg0.N) (x : Fin 512) : Fin 4096 := ⟨t.val * 512 + x.val, by have := t.isLt; change t.val < 8 at this; omega⟩

/-- The row blocks' entries and the weights, at a point. -/
theorem blk_ms (c : Dev nD) (t : Fin cfg0.N) (x : Fin 512) (k : Fin 512) :
    iblk m c 0 t (ix2 x k) = m ((c : Thread nD τ).loc main_arg0) (ix2 (row t x) k) := by
  blk_point [iblk, V, idx t]

theorem blk_y (c : Dev nD) (t : Fin cfg0.N) (x : Fin 512) (k : Fin 256) :
    iblk m c 1 t (ix2 x k) = m ((c : Thread nD τ).loc main_arg1) (ix2 (row t x) k) := by
  blk_point [iblk, V, idx t]

theorem blk_w (c : Dev nD) (t : Fin cfg0.N) : iblk m c 2 t = pk m c := by
  rw [← V_pk]
  funext i
  blk_point [iblk, idx t]

theorem blk_pj (c : Dev nD) (t : Fin cfg0.N) (x : Fin 512) (k : Fin 2816) :
    iblk m c 3 t (ix2 x k) = m ((c : Thread nD τ).loc main_arg5) (ix2 (row t x) k) := by
  blk_point [iblk, V, idx t]

/-- The arguments' arrays. -/
abbrev msA (c : Dev nD) : FVec Ideal S4096x512 .bf16 := m ((c : Thread nD τ).loc main_arg0)
abbrev yA (c : Dev nD) : FVec Ideal S4096x256 .bf16 := m ((c : Thread nD τ).loc main_arg1)
abbrev pjA (c : Dev nD) : FVec Ideal S4096x2816 .f32 := m ((c : Thread nD τ).loc main_arg5)

/-- A block's entry stands in the array at the point's row. -/
theorem emb (t : Fin cfg0.N) (f : S4096x1024.Idx → EReal) (x : Fin 512) (k : Fin 1024) :
    f (((cfg0.win 4).blk t).view.emb (ix2 x k)) = f (ix2 (row t x) k) := by
  blk_point [idx t]

/-- The merged rows after the run. -/
theorem final4 (c : Dev nD) : (dats m 0 c).arrAt 4 cfg0.N
    = (fun i => merged (msA m c) (yA m c) (pk m c) (pjA m c) (i 0) (i 1) : S4096x1024.Idx → EReal) := by
  refine (dats m 0 c).arrAt_eq_of_covers 4 _ (by decide +kernel) fun t _ y => ?_
  blk_simp
  rw [after0_4, point, blk_w]
  idx_vars y
  refine Eq.trans ?_ (emb t (fun i => merged (msA m c) (yA m c) (pk m c) (pjA m c) (i 0) (i 1)) y0 y1).symm
  unfold merged zPool zVal zGate gPool gSsm
  simp only [blk_ms, blk_y, blk_pj]
  rfl

end Kernel

/-! ## The forward lines -/

section Reference

open Cert.MergeRefIdeal Cert.MergeRefIdeal.Read

variable (ms : FVec Ideal S4096x512 .bf16) (y : FVec Ideal S4096x256 .bf16) (wp : FVec Ideal S512x1024 .f32)
  (wv wg : FVec Ideal S256x1024 .f32) (pj : FVec Ideal S4096x2816 .f32) (r : Fin 4096) (x : Fin 1024)

/-- The forward lines' logistic functions. -/
theorem ref_v18 : val_main_v18 (F := Ideal) pj (ix2 r x) = sg (gPool pj r x) := by
  rw [← sg_eq]
  simp only [val_main_v18, val_main_v17, val_main_v16, val_main_v15, val_main_v14, val_main_v13, val_main_v12]
  pointwise [val_main_cst_1, val_main_cst_2, gPool]

theorem ref_v26 : val_main_v26 (F := Ideal) pj (ix2 r x) = sg (gSsm pj r x) := by
  rw [← sg_eq]
  simp only [val_main_v26, val_main_v25, val_main_v24, val_main_v23, val_main_v22, val_main_v21, val_main_v20]
  pointwise [val_main_cst_3, val_main_cst_4, gSsm]

theorem ref_v4 : val_main_v4 (F := Ideal) y wg (ix2 r x) = zGate y (packed wp wv wg) r x := by
  rw [zGate_packed]
  simp only [val_main_v4, val_main_v1]
  pointwise

theorem ref_v10 : val_main_v10 (F := Ideal) y wg (ix2 r x) = sg (zGate y (packed wp wv wg) r x) := by
  rw [← sg_eq, ← ref_v4]
  simp only [val_main_v10, val_main_v9, val_main_v8, val_main_v7, val_main_v6, val_main_v5]
  pointwise [val_main_cst, val_main_cst_0]

/-- The forward lines' merge. -/
theorem ref_v29 : (val_main_v29 (F := Ideal) ms y wp wv wg pj : S4096x1024.Idx → EReal) (ix2 r x)
    = merged ms y (packed wp wv wg) pj r x := by
  have e18 := ref_v18 pj
  have e26 := ref_v26 pj
  have e10 := ref_v10 y wp wv wg
  unfold merged
  rw [zPool_packed, zVal_packed]
  simp only [val_main_v29, val_main_v28, val_main_v27, val_main_v19, val_main_v11, val_main_v3, val_main_v2, val_main_v1, val_main_v0]
  pointwise
  simp only [e18, e26, e10]

end Reference

/-- Kernel and forward lines leave the same array. -/
theorem algebraic : Cert.algebraic_MergeIdeal_MergeRefIdeal := by
  intro m ρ m' ρ' _ hag
  refine ⟨_, Cert.MergeIdeal.Value.run_blocks m ρ, (θ_run _ _ _).mono (fun r h c => ?_) (Cert.MergeRefIdeal.Value.run m' ρ')⟩
  obtain ⟨h1, hk⟩ := h c
  obtain ⟨a0, a1, a2, a3, a4, a5⟩ := hag c
  refine ⟨h1.trans ?_, hk⟩
  rw [final4, pk]
  refine (Cert.MergeRefIdeal.Read.val_main_v29_eq _ _ _ _ _ _).trans ?_
  rw [a0, a1, a2, a3, a4, a5]
  funext i
  idx_vars i
  exact ref_v29 _ _ _ _ _ _ _ _

end Cert.Step.Merge
end
-- ==== Proof.Step.FfnUp.lean ====
module
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.Pre_ffn_up_finite
public import proofs.«01_k».proof.Proof.Step.Swiglu
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The gated activation and the two factors of its gradient that the forward pass saves. -/

namespace Cert.Step.FfnUp

/-- The activation at a gate's and an up product's entry. -/
def actAt (g up : EReal) : EReal := g * sg g * up

section Point

open Cert.FfnUpIdeal Cert.FfnUpIdeal.Gen

variable (u : FVec Ideal S512x1024 .bf16) (wg wu : FVec Ideal S2816x1024 .bf16)

/-- What a point stores into the three blocks. -/
theorem point3 (i : S512x2816.Idx) : (out0_3 (F := Ideal) u wg wu : S512x2816.Idx → EReal) i
    = pgAt (rowMul (n := 512) u wg (i 0) (i 1)) (rowMul (n := 512) u wu (i 0) (i 1)) := by
  unfold_out out0_3
  canon_tiles x h
  all_goals unfold_payloads; idx_vars i; pointwise [pgAt, rowMul, sg, cg]; blk_point

theorem point4 (i : S512x2816.Idx) : (out0_4 (F := Ideal) u wg wu : S512x2816.Idx → EReal) i
    = puAt (rowMul (n := 512) u wg (i 0) (i 1)) := by
  unfold_out out0_4
  canon_tiles x h
  all_goals unfold_payloads; idx_vars i; pointwise [puAt, rowMul, sg]; blk_point

theorem point5 (i : S512x2816.Idx) : (out0_5 (F := Ideal) u wg wu : S512x2816.Idx → EReal) i
    = actAt (rowMul (n := 512) u wg (i 0) (i 1)) (rowMul (n := 512) u wu (i 0) (i 1)) := by
  unfold_out out0_5
  canon_tiles x h
  all_goals unfold_payloads; idx_vars i; pointwise [actAt, rowMul, sg]; blk_point

end Point

section Kernel

open Cert.FfnUpIdeal Cert.FfnUpIdeal.Gen

variable (m : (ℓ : Loc nD τ sig) → Buf (Elt Ideal) ℓ)

/-- The block indices at a point: the row blocks move with the point, the weights stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The arguments' arrays; a weight as the call takes it, transposed. -/
abbrev uA (c : Dev nD) : FVec Ideal S4096x1024 .bf16 := m ((c : Thread nD τ).loc main_arg0)
abbrev wgA (c : Dev nD) : FVec Ideal S1024x2816 .f32 := m ((c : Thread nD τ).loc main_arg1)
abbrev wuA (c : Dev nD) : FVec Ideal S1024x2816 .f32 := m ((c : Thread nD τ).loc main_arg2)

def gateT (c : Dev nD) : S2816x1024.Idx → EReal := fun i => wgA m c (ix2 (i 1) (i 0))
def upT (c : Dev nD) : S2816x1024.Idx → EReal := fun i => wuA m c (ix2 (i 1) (i 0))

theorem V_gate (c : Dev nD) : V m c main_v1 = gateT m c := by
  funext i
  idx_vars i
  unfold V gateT
  after_reads_at

theorem V_up (c : Dev nD) : V m c main_v3 = upT m c := by
  funext i
  idx_vars i
  unfold V upT
  after_reads_at

/-- A point's row in the arrays. -/
abbrev row (t : Fin cfg0.N) (x : Fin 512) : Fin 4096 := ⟨t.val * 512 + x.val, by have := t.isLt; change t.val < 8 at this; omega⟩

theorem blk_u (c : Dev nD) (t : Fin cfg0.N) (x : Fin 512) (k : Fin 1024) : iblk m c 0 t (ix2 x k) = uA m c (ix2 (row t x) k) := by
  blk_point [iblk, V, idx t]

theorem blk_g (c : Dev nD) (t : Fin cfg0.N) : iblk m c 1 t = gateT m c := by
  rw [← V_gate]
  funext i
  blk_point [iblk, idx t]

theorem blk_p (c : Dev nD) (t : Fin cfg0.N) : iblk m c 2 t = upT m c := by
  rw [← V_up]
  funext i
  blk_point [iblk, idx t]

/-- A block's entry stands in the array at the point's row. -/
theorem emb (t : Fin cfg0.N) (f : S4096x2816.Idx → EReal) (x : Fin 512) (k : Fin 2816) :
    f (((cfg0.win 3).blk t).view.emb (ix2 x k)) = f (ix2 (row t x) k)
    ∧ f (((cfg0.win 4).blk t).view.emb (ix2 x k)) = f (ix2 (row t x) k)
    ∧ f (((cfg0.win 5).blk t).view.emb (ix2 x k)) = f (ix2 (row t x) k) := by
  refine ⟨?_, ?_, ?_⟩ <;> blk_point [idx t]

/-- The gate's and the up product at an index. -/
def zg (c : Dev nD) (i : S4096x2816.Idx) : EReal := rowMul (n := 4096) (uA m c) (gateT m c) (i 0) (i 1)
def zu (c : Dev nD) (i : S4096x2816.Idx) : EReal := rowMul (n := 4096) (uA m c) (upT m c) (i 0) (i 1)

/-- A point's products are the arrays' at its rows. -/
theorem rowMul_blk (c : Dev nD) (t : Fin cfg0.N) (w : S2816x1024.Idx → EReal) (x : Fin 512) (k : Fin 2816) :
    rowMul (n := 512) (iblk m c 0 t) w x k = rowMul (n := 4096) (uA m c) w (row t x) k := by
  unfold rowMul
  exact Finset.sum_congr rfl fun j _ => congrArg (· * w (ix2 k j)) (blk_u m c t x j)

/-- The three arrays after the run. -/
theorem final3 (c : Dev nD) : (dats m 0 c).arrAt 3 cfg0.N = (fun i => pgAt (zg m c i) (zu m c i) : S4096x2816.Idx → EReal) := by
  refine (dats m 0 c).arrAt_eq_of_covers 3 _ (by decide +kernel) fun t _ y => ?_
  blk_simp
  rw [after0_3, point3, blk_g, blk_p]
  idx_vars y
  refine Eq.trans ?_ (emb t (fun i => pgAt (zg m c i) (zu m c i)) y0 y1).1.symm
  exact congrArg₂ pgAt (rowMul_blk m c t _ y0 y1) (rowMul_blk m c t _ y0 y1)

theorem final4 (c : Dev nD) : (dats m 0 c).arrAt 4 cfg0.N = (fun i => puAt (zg m c i) : S4096x2816.Idx → EReal) := by
  refine (dats m 0 c).arrAt_eq_of_covers 4 _ (by decide +kernel) fun t _ y => ?_
  blk_simp
  rw [after0_4, point4, blk_g]
  idx_vars y
  refine Eq.trans ?_ (emb t (fun i => puAt (zg m c i)) y0 y1).2.1.symm
  exact congrArg puAt (rowMul_blk m c t _ y0 y1)

theorem final5 (c : Dev nD) : (dats m 0 c).arrAt 5 cfg0.N = (fun i => actAt (zg m c i) (zu m c i) : S4096x2816.Idx → EReal) := by
  refine (dats m 0 c).arrAt_eq_of_covers 5 _ (by decide +kernel) fun t _ y => ?_
  blk_simp
  rw [after0_5, point5, blk_g, blk_p]
  idx_vars y
  refine Eq.trans ?_ (emb t (fun i => actAt (zg m c i) (zu m c i)) y0 y1).2.2.symm
  exact congrArg₂ actAt (rowMul_blk m c t _ y0 y1) (rowMul_blk m c t _ y0 y1)

end Kernel

/-! ## The forward lines and their derivative -/

section Reference

open Cert.FfnUpRefIdeal Cert.FfnUpRefIdeal.Read

variable (u : FVec Ideal S4096x1024 .bf16) (wg wu : FVec Ideal S1024x2816 .f32)

/-- A product of the forward lines. -/
def zR (w : FVec Ideal S1024x2816 .f32) (i : S4096x2816.Idx) : EReal := ∑ k : Fin 1024, u (ix2 (i 0) k) * w (ix2 k (i 1))

theorem ref_v1 (i : S4096x2816.Idx) : val_main_v1 (F := Ideal) u wg i = zR u wg i := by
  idx_vars i
  simp only [val_main_v1, val_main_v0]
  pointwise [zR]

theorem ref_v2 (i : S4096x2816.Idx) : val_main_v2 (F := Ideal) u wu i = zR u wu i := by
  idx_vars i
  simp only [val_main_v2, val_main_v0]
  pointwise [zR]

theorem ref_sg (i : S4096x2816.Idx) : val_main_v3_2 (F := Ideal) u wg i = sg (zR u wg i) := by
  rw [← sg_eq, ← ref_v1]
  idx_vars i
  simp only [val_main_v3_2, val_main_call0_v4, val_main_call0_v3, val_main_call0_v2, val_main_call0_v1, val_main_call0_v0]
  pointwise [val_main_call0_cst, val_main_call0_cst_0]

theorem ref_sg2 (i : S4096x2816.Idx) : val_main_call2_v5 (F := Ideal) u wg i = sg (zR u wg i) := by
  rw [← sg_eq, ← ref_v1]
  idx_vars i
  simp only [val_main_call2_v5, val_main_call2_v4, val_main_call2_v3, val_main_call2_v2, val_main_call2_v1, val_main_call2_v0]
  pointwise [val_main_call2_cst, val_main_call2_cst_0]

/-- The three results of the reference. -/
theorem ref_v13 (i : S4096x2816.Idx) : (val_main_v13 (F := Ideal) u wg wu : S4096x2816.Idx → EReal) i
    = (Ideal.ofBits .f32 0x3F000000#32 * Ideal.ofBits .f32 0x3F800000#32 * zR u wu i) * sg (zR u wg i)
      + (zR u wg i * (Ideal.ofBits .f32 0x3F000000#32 * Ideal.ofBits .f32 0x3F800000#32 * zR u wu i)) * (sg (zR u wg i) * cg (zR u wg i)) := by
  unfold cg
  rw [← ref_sg, ← ref_v1, ← ref_v2]
  rfl

theorem ref_v14 (i : S4096x2816.Idx) : (val_main_v14 (F := Ideal) u wg : S4096x2816.Idx → EReal) i
    = (zR u wg i * sg (zR u wg i)) * (Ideal.ofBits .f32 0x3F000000#32 * Ideal.ofBits .f32 0x3F800000#32) := by
  rw [← ref_sg, ← ref_v1]
  rfl

theorem ref_v17 (i : S4096x2816.Idx) : (val_main_v17 (F := Ideal) u wg wu : S4096x2816.Idx → EReal) i
    = actAt (zR u wg i) (zR u wu i) := by
  unfold actAt
  rw [← ref_sg2, ← ref_v1, ← ref_v2]
  rfl

end Reference

/-! ## The claim -/

section Claim

theorem half_one : Ideal.ofBits .f32 0x3F000000#32 * Ideal.ofBits .f32 0x3F800000#32 = ((1 / 2 : ℝ) : EReal) := by
  rw [ofBits_half, ofBits_one, EReal.coe_one, mul_one]

variable {u : FVec Ideal ⟨2, ![4096, 1024]⟩ .bf16} {wg wu : FVec Ideal ⟨2, ![1024, 2816]⟩ .f32}

/-- Where the rows and the up weights are finite, the up product is a real. -/
theorem real_of_pre (e : Cert.Pre_ffn_up_finite.fn (F := Ideal) u wg wu = fun _ => 1#1) (i : (⟨2, ![4096, 2816]⟩ : Shape).Idx) :
    ∃ p : ℝ, zR u wu i = p := by
  have e0 := congrFun e ix0
  unfold Cert.Pre_ffn_up_finite.fn at e0
  have e1 := andi_split e0
  have hu := real_of_all u _ _ _ _ _ e1.1
  have hwu := real_of_all wu _ _ _ _ _ e1.2
  exact real_sum fun k => real_mul (hu _) (hwu _)

/-- Kernel and forward lines leave the same three results. -/
theorem algebraic : Cert.algebraic_FfnUpIdeal_FfnUpRefIdeal_pre_ffn_up_finite := by
  intro m ρ m' ρ' hpre hag
  refine ⟨_, _, _, Cert.FfnUpIdeal.Value.run_blocks m ρ, (θ_run _ _ _).mono (fun r h c => ?_) (Cert.FfnUpRefIdeal.Value.run m' ρ')⟩
  obtain ⟨h1, h2, h3, hk⟩ := h c
  obtain ⟨a0, a1, a2⟩ := hag c
  have e := real_of_pre (hpre c)
  refine ⟨h1.trans ?_, h2.trans ?_, h3.trans ?_, hk⟩
  · rw [final3]
    refine (Cert.FfnUpRefIdeal.Read.val_main_v13_eq _ _ _).trans ?_
    rw [a0, a1, a2]
    funext i
    refine (ref_v13 _ _ _ i).trans ?_
    obtain ⟨p, hp⟩ := e i
    have k := dgate_eq 1 p (zR (uA m c) (wgA m c) i)
    rw [hp, half_one]
    refine Eq.trans ?_ ((k.symm.trans (one_mul _)).trans (congrArg (pgAt _) hp.symm))
    simp only [mul_one]
  · rw [final4]
    refine (Cert.FfnUpRefIdeal.Read.val_main_v14_eq _ _).trans ?_
    rw [a0, a1]
    funext i
    refine (ref_v14 _ _ i).trans ?_
    rw [half_one, ← ofBits_half]
    exact mul_comm _ _
  · rw [final5]
    refine (Cert.FfnUpRefIdeal.Read.val_main_v17_eq _ _ _).trans ?_
    rw [a0, a1, a2]
    funext i
    exact ref_v17 _ _ _ i

end Claim

end Cert.Step.FfnUp
end
-- ==== Proof.Step.ResidNorm.lean ====
module
public import proofs.«01_k».proof.Proof.Gen.ResidNormIdeal.Value
public import proofs.«01_k».proof.Proof.Gen.ResidNormRefIdeal.Run
public import proofs.«01_k».proof.Proof.Gen.ResidNormRefIdeal.Read
public import proofs.«01_k».proof.Proof.Step.RmsNorm
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! A product, the residual stream after it, and its norm. -/

namespace Cert.Step.ResidNorm

open Cert.Step.RmsNorm (normArr normAt)

section Kernel

open Cert.ResidNormIdeal Cert.ResidNormIdeal.Gen

variable (a : FVec Ideal S4096x1024 .bf16) (w : FVec Ideal S1024x1024 .f32) (x : FVec Ideal S4096x1024 .f32) (g : FVec Ideal S1x1024 .f32)

/-- The residual stream after the product. -/
def hv : FVec Ideal S4096x1024 .f32 := fun i => x i + ∑ k : Fin 1024, a (ix2 (i 0) k) * w (ix2 k (i 1))

/-- Its norm. -/
def uv : FVec Ideal S4096x1024 .f32 := normArr (hv a w x) g

variable (m : (ℓ : Loc nD τ sig) → Buf (Elt Ideal) ℓ)

/-- The arguments' arrays. -/
abbrev aA (c : Dev nD) : FVec Ideal S4096x1024 .bf16 := m ((c : Thread nD τ).loc main_arg0)
abbrev wA (c : Dev nD) : FVec Ideal S1024x1024 .f32 := m ((c : Thread nD τ).loc main_arg1)
abbrev xA (c : Dev nD) : FVec Ideal S4096x1024 .f32 := m ((c : Thread nD τ).loc main_arg2)
abbrev gA (c : Dev nD) : FVec Ideal S1x1024 .f32 := m ((c : Thread nD τ).loc main_arg3)

/-- The weight as the call takes it: the cast changes nothing. -/
theorem V_w (c : Dev nD) : V m c main_v0 = wA m c := by
  funext i
  idx_vars i
  unfold V
  after_reads_at

theorem V_a (c : Dev nD) : V m c main_arg0 = aA m c := rfl
theorem V_x (c : Dev nD) : V m c main_arg2 = xA m c := rfl
theorem V_g (c : Dev nD) : V m c main_arg3 = gA m c := rfl

/-- The block indices at a point: the row blocks move with the point, the weight and the gain stay. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The residual stream after the run. -/
theorem final4 (c : Dev nD) : (dats m 0 c).arrAt 4 cfg0.N = hv (aA m c) (wA m c) (xA m c) := by
  rw [← V_w, ← V_a, ← V_x]
  refine (dats m 0 c).arrAt_eq_of_covers 4 _ (by decide +kernel) fun t _ y => ?_
  blk_simp
  rw [after0_4]
  unfold out0_4
  canon_tiles z h
  all_goals
    unfold_payloads
    pointwise [hv]
    blk_point [iblk, idx t]

/-- Its norm after the run. -/
theorem final5 (c : Dev nD) : (dats m 0 c).arrAt 5 cfg0.N = (uv (aA m c) (wA m c) (xA m c) (gA m c) : S4096x1024.Idx → EReal) := by
  rw [← V_w, ← V_a, ← V_x, ← V_g]
  refine (dats m 0 c).arrAt_eq_of_covers 5 _ (by decide +kernel) fun t _ y => ?_
  blk_simp
  rw [after0_5]
  unfold out0_5
  canon_tiles z h
  all_goals
    unfold_payloads
    pointwise [uv, normArr, normAt, rms, msq, hv]
    blk_point [iblk, idx t]

end Kernel

section Reference

open Cert.ResidNormRefIdeal Cert.ResidNormRefIdeal.Read

variable (a : FVec Ideal S4096x1024 .bf16) (w : FVec Ideal S1024x1024 .f32) (x : FVec Ideal S4096x1024 .f32) (g : FVec Ideal S1x1024 .f32)

/-- The reference's residual stream. -/
theorem ref_h : val_main_v2 (F := Ideal) a w x = hv a w x := by
  funext i
  idx_vars i
  simp only [val_main_v2, val_main_v1, val_main_v0]
  pointwise [hv]

/-- The reference's norm. -/
theorem ref_u : (val_main_v15 (F := Ideal) a w x g : S4096x1024.Idx → EReal) = uv a w x g := by
  unfold uv
  rw [← ref_h]
  funext i
  idx_vars i
  simp only [val_main_v15, val_main_v14, val_main_v13, val_main_v12, val_main_v11, val_main_v10, val_main_v9, val_main_v8, val_main_v7, val_main_v6, val_main_v5, val_main_v4, val_main_v3]
  pointwise [val_main_cst, val_main_cst_0, val_main_cst_1, normArr, normAt, rms, msq]

end Reference

/-- Kernel and forward lines leave the same two arrays. -/
theorem algebraic : Cert.algebraic_ResidNormIdeal_ResidNormRefIdeal := by
  intro m ρ m' ρ' _ hag
  refine ⟨_, _, Cert.ResidNormIdeal.Value.run_blocks m ρ, (θ_run _ _ _).mono (fun r h c => ?_) (Cert.ResidNormRefIdeal.Value.run m' ρ')⟩
  obtain ⟨h1, h2, hk⟩ := h c
  obtain ⟨a0, a1, a2, a3⟩ := hag c
  refine ⟨h1.trans ?_, h2.trans ?_, hk⟩
  · rw [final4]
    refine (Cert.ResidNormRefIdeal.Read.val_main_v2_eq _ _ _).trans ?_
    rw [a0, a1, a2]
    exact ref_h _ _ _
  · rw [final5]
    refine (Cert.ResidNormRefIdeal.Read.val_main_v15_eq _ _ _ _).trans ?_
    rw [a0, a1, a2, a3]
    exact ref_u _ _ _ _

end Cert.Step.ResidNorm
end
-- ==== Proof.Step.FfnDown.lean ====
module
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Step.RmsNorm
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! A gated layer's last product, half of which joins the residual stream, and the stream's norm. -/

namespace Cert.Step.FfnDown

open Cert.Step.RmsNorm (normArr normAt)

section Kernel

open Cert.FfnDownIdeal Cert.FfnDownIdeal.Gen

variable (a : FVec Ideal S4096x2816 .bf16) (w : FVec Ideal S2816x1024 .f32) (x : FVec Ideal S4096x1024 .f32) (g : FVec Ideal S1x1024 .f32)

/-- The residual stream after the product. -/
def hv : FVec Ideal S4096x1024 .f32 := fun i => x i + Ideal.ofBits .f32 0x3F000000#32 * ∑ k : Fin 2816, a (ix2 (i 0) k) * w (ix2 k (i 1))

/-- Its norm. -/
def uv : FVec Ideal S4096x1024 .f32 := normArr (hv a w x) g

variable (m : (ℓ : Loc nD τ sig) → Buf (Elt Ideal) ℓ)

/-- The arguments' arrays. -/
abbrev aA (c : Dev nD) : FVec Ideal S4096x2816 .bf16 := m ((c : Thread nD τ).loc main_arg0)
abbrev wA (c : Dev nD) : FVec Ideal S2816x1024 .f32 := m ((c : Thread nD τ).loc main_arg1)
abbrev xA (c : Dev nD) : FVec Ideal S4096x1024 .f32 := m ((c : Thread nD τ).loc main_arg2)
abbrev gA (c : Dev nD) : FVec Ideal S1x1024 .f32 := m ((c : Thread nD τ).loc main_arg3)

/-- The weight as the call takes it: the cast changes nothing. -/
theorem V_w (c : Dev nD) : V m c main_v0 = wA m c := by
  funext i
  idx_vars i
  unfold V
  after_reads_at

theorem V_a (c : Dev nD) : V m c main_arg0 = aA m c := rfl
theorem V_x (c : Dev nD) : V m c main_arg2 = xA m c := rfl
theorem V_g (c : Dev nD) : V m c main_arg3 = gA m c := rfl

/-- The block indices at a point: the row blocks move with the point, the weight and the gain stay. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The residual stream after the run. -/
theorem final4 (c : Dev nD) : (dats m 0 c).arrAt 4 cfg0.N = hv (aA m c) (wA m c) (xA m c) := by
  rw [← V_w, ← V_a, ← V_x]
  refine (dats m 0 c).arrAt_eq_of_covers 4 _ (by decide +kernel) fun t _ y => ?_
  blk_simp
  rw [after0_4]
  unfold out0_4
  canon_tiles z h
  all_goals
    unfold_payloads
    pointwise [hv]
    blk_point [iblk, idx t]

/-- Its norm after the run. -/
theorem final5 (c : Dev nD) : (dats m 0 c).arrAt 5 cfg0.N = (uv (aA m c) (wA m c) (xA m c) (gA m c) : S4096x1024.Idx → EReal) := by
  rw [← V_w, ← V_a, ← V_x, ← V_g]
  refine (dats m 0 c).arrAt_eq_of_covers 5 _ (by decide +kernel) fun t _ y => ?_
  blk_simp
  rw [after0_5]
  unfold out0_5
  canon_tiles z h
  all_goals
    unfold_payloads
    pointwise [uv, normArr, normAt, rms, msq, hv]
    blk_point [iblk, idx t]

end Kernel

section Reference

open Cert.FfnDownRefIdeal Cert.FfnDownRefIdeal.Read

variable (a : FVec Ideal S4096x2816 .bf16) (w : FVec Ideal S2816x1024 .f32) (x : FVec Ideal S4096x1024 .f32) (g : FVec Ideal S1x1024 .f32)

/-- The reference's residual stream. -/
theorem ref_h : val_main_v4 (F := Ideal) a w x = hv a w x := by
  funext i
  idx_vars i
  simp only [val_main_v4, val_main_v3, val_main_v2, val_main_v1, val_main_v0]
  pointwise [val_main_cst, hv]

/-- The reference's norm. -/
theorem ref_u : (val_main_v17 (F := Ideal) a w x g : S4096x1024.Idx → EReal) = uv a w x g := by
  unfold uv
  rw [← ref_h]
  funext i
  idx_vars i
  simp only [val_main_v17, val_main_v16, val_main_v15, val_main_v14, val_main_v13, val_main_v12, val_main_v11, val_main_v10, val_main_v9, val_main_v8, val_main_v7, val_main_v6, val_main_v5]
  pointwise [val_main_cst_0, val_main_cst_1, val_main_cst_2, normArr, normAt, rms, msq]

end Reference

/-- Kernel and forward lines leave the same two arrays. -/
theorem algebraic : Cert.algebraic_FfnDownIdeal_FfnDownRefIdeal := by
  intro m ρ m' ρ' _ hag
  refine ⟨_, _, Cert.FfnDownIdeal.Value.run_blocks m ρ, (θ_run _ _ _).mono (fun r h c => ?_) (Cert.FfnDownRefIdeal.Value.run m' ρ')⟩
  obtain ⟨h1, h2, hk⟩ := h c
  obtain ⟨a0, a1, a2, a3⟩ := hag c
  refine ⟨h1.trans ?_, h2.trans ?_, hk⟩
  · rw [final4]
    refine (Cert.FfnDownRefIdeal.Read.val_main_v4_eq _ _ _).trans ?_
    rw [a0, a1, a2]
    exact ref_h _ _ _
  · rw [final5]
    refine (Cert.FfnDownRefIdeal.Read.val_main_v17_eq _ _ _ _).trans ?_
    rw [a0, a1, a2, a3]
    exact ref_u _ _ _ _

end Cert.Step.FfnDown
end
-- ==== Proof.Step.SsmPrepOut.lean ====
/-
The zero-order hold and the scan's weights: what the kernel's body writes.
-/
module

public import proofs.«01_k».proof.Proof.Step.PrepValue
public import proofs.«01_k».proof.Proof.Gen.SsmPrepIdeal.Value

@[expose] public section

set_option maxRecDepth 16384

open Idealize.ShloMosaic Idealize.ShloMosaic.TcCoe Idealize.SL.Sem

noncomputable section

namespace Cert.Step.SsmPrep

open Cert.SsmPrepIdeal Cert.SsmPrepIdeal.Gen
open Cert.Step.PrepBwd (row_words column_words eq_word abiE nrE magE cosE sinE denE qrE qiE rowOf)

/-- The mask of a row's own group and the one-hot matrix. -/
def ownGroup : IVec S256x1024 1 :=
  k0_pay20 (k0_pay16 (iota .tc S256x1024 32 [0] iota_S256x1024_d0_w32)) (k0_pay17 (iota .tc S256x1024 32 [1] iota_S256x1024_d1_w32))
    (k0_pay18 (iota .tc S256x1024 32 [1] iota_S256x1024_d1_w32)) k0_pay19
def oneHot : FVec Ideal S64x1024 .bf16 := k0_pay21 (F := Ideal)

theorem ownGroup_apply (r : Fin 256) (k : Fin 1024) : ownGroup (ix2 r k) = if r.val / 16 = k.val / 64 then 1#1 else 0#1 := by
  unfold ownGroup
  pointwise [k0_pay20, k0_pay16, k0_pay17, k0_pay18, k0_pay19]
  refine Eq.trans ?_ (eq_word (a := r.val / 16) (b := k.val / 64) (by omega) (by omega))
  exact congrArg₂ (IntOp.cmpi CmpIPredicate.eq) (row_words r).1 (column_words k).1

theorem oneHot_apply (s : Fin 64) (k : Fin 1024) : oneHot (ix2 s k) = if k.val % 64 = s.val then (1 : EReal) else 0 := by
  unfold oneHot
  pointwise [k0_pay21]
  refine Eq.trans (congrArg (fun w => FloatOps.sitofp (F := Ideal) FTy.f32 (BitVec.setWidth 32 w)) ((congrArg (fun w => IntOp.cmpi CmpIPredicate.eq w (BitVec.ofNat 32 s.val)) (column_words k).2).trans (eq_word (by omega) (by omega)))) ?_
  split <;> simp [FloatOps.sitofp]

/-- A row's states spread over its own group's columns. -/
def spreadAt (x : S256x64.Idx → EReal) (r : Fin 256) (k : Fin 1024) : EReal :=
  if r.val / 16 = k.val / 64 then x (ix2 r ⟨k.val % 64, Nat.mod_lt _ (by decide)⟩) else 0

theorem spread (x : S256x64.Idx → EReal) (r : Fin 256) (k : Fin 1024) :
    Scalar.select (ownGroup (ix2 r k)) (∑ s : Fin 64, x (ix2 r s) * oneHot (ix2 s k)) 0 = spreadAt x r k := by
  rw [ownGroup_apply, Finset.sum_eq_single (⟨k.val % 64, Nat.mod_lt _ (by decide)⟩ : Fin 64)]
  · rw [oneHot_apply, if_pos rfl, mul_one]
    unfold spreadAt
    split <;> rfl
  · intro s _ hs
    rw [oneHot_apply, if_neg fun e => hs (Fin.ext e.symm), mul_zero]
  · exact fun h => absurd (Finset.mem_univ _) h

theorem pay31_apply (x : FVec Ideal S256x64 .f32) (r : Fin 256) (k : Fin 1024) : k0_pay31 (F := Ideal) ownGroup oneHot x (ix2 r k) = spreadAt x r k := by
  pointwise [k0_pay31]
  exact spread x r k

theorem canon0 (f : Vec Ideal S512x64 .f32) : (View.canon [⟨r0_0, f⟩] : Vec Ideal S512x64 .f32) = f := by
  funext x
  canon_tiles x h
  exact congrArg f (funext fun b => by fin_cases b <;> exact Fin.ext (by first | exact h0.symm | exact h1.symm))

/-- A tile's entries, where its index and the array's agree. -/
theorem tile_wide {T : Fin 2 → Fin 256 → Fin 2048 → EReal} {f : Vec Ideal S1x256x1024 .bf16} {d : Fin 2} {p : Fin 1024 → Fin 2048}
    (h : ∀ r k, (f (ix3 0 r k) : EReal) = T d r (p k)) (j : S1x256x1024.Idx) (w : S2x256x2048.Idx) (e0 : (w 0).val = d.val)
    (e1 : (w 1).val = (j 1).val) (e2 : (w 2).val = (p (j 2)).val) : (f j : EReal) = T (w 0) (w 1) (w 2) := by
  rw [show w 0 = d from Fin.ext e0, show w 1 = j 1 from Fin.ext e1, show w 2 = p (j 2) from Fin.ext e2]
  exact (congrArg f (funext fun b => by
    fin_cases b
    · exact Fin.ext (Nat.lt_one_iff.mp (show (j 0).val < 1 from (j 0).isLt))
    · rfl
    · rfl)).trans (h (j 1) (j 2))

theorem tile_tall {T : Fin 2 → Fin 256 → Fin 2048 → EReal} {f : Vec Ideal S1x1024x256 .bf16} {d : Fin 2} {p : Fin 1024 → Fin 2048}
    (h : ∀ r k, (f (ix3 0 k r) : EReal) = T d r (p k)) (j : S1x1024x256.Idx) (w : S2x2048x256.Idx) (e0 : (w 0).val = d.val)
    (e1 : (w 1).val = (p (j 1)).val) (e2 : (w 2).val = (j 2).val) : (f j : EReal) = T (w 0) (w 2) (w 1) := by
  rw [show w 0 = d from Fin.ext e0, show w 2 = j 2 from Fin.ext e2, show w 1 = p (j 1) from Fin.ext e1]
  exact (congrArg f (funext fun b => by
    fin_cases b
    · exact Fin.ext (Nat.lt_one_iff.mp (show (j 0).val < 1 from (j 0).isLt))
    · rfl
    · rfl)).trans (h (j 2) (j 1))

/-- The columns of the real and of the imaginary part. -/
abbrev lo (k : Fin 1024) : Fin 2048 := ⟨k.val, by omega⟩
abbrev hi (k : Fin 1024) : Fin 2048 := ⟨1024 + k.val, by omega⟩

/-- The four tiles of an array, and of its transpose. -/
theorem canon_wide (T : Fin 2 → Fin 256 → Fin 2048 → EReal) (f00 f01 f10 f11 : Vec Ideal S1x256x1024 .bf16)
    (h00 : ∀ r k, (f00 (ix3 0 r k) : EReal) = T 0 r (lo k)) (h01 : ∀ r k, (f01 (ix3 0 r k) : EReal) = T 0 r (hi k))
    (h10 : ∀ r k, (f10 (ix3 0 r k) : EReal) = T 1 r (lo k)) (h11 : ∀ r k, (f11 (ix3 0 r k) : EReal) = T 1 r (hi k)) :
    (View.canon [⟨r0_10, f11⟩, ⟨r0_8, f10⟩, ⟨r0_5, f01⟩, ⟨r0_3, f00⟩] : Vec Ideal S2x256x2048 .bf16) = fun j => T (j 0) (j 1) (j 2) := by
  funext j
  canon_tiles j h
  all_goals rename_i w
  · exact tile_wide h11 j w (by simp; omega) h1 (by simp; omega)
  · exact tile_wide h10 j w (by simp; omega) h1 (by simp; omega)
  · exact tile_wide h01 j w (by simp; omega) h1 (by simp; omega)
  · exact tile_wide h00 j w (by simp; omega) h1 (by simp; omega)

theorem canon_tall (T : Fin 2 → Fin 256 → Fin 2048 → EReal) (f00 f01 f10 f11 : Vec Ideal S1x1024x256 .bf16)
    (h00 : ∀ r k, (f00 (ix3 0 k r) : EReal) = T 0 r (lo k)) (h01 : ∀ r k, (f01 (ix3 0 k r) : EReal) = T 0 r (hi k))
    (h10 : ∀ r k, (f10 (ix3 0 k r) : EReal) = T 1 r (lo k)) (h11 : ∀ r k, (f11 (ix3 0 k r) : EReal) = T 1 r (hi k)) :
    (View.canon [⟨r0_11, f11⟩, ⟨r0_9, f10⟩, ⟨r0_6, f01⟩, ⟨r0_4, f00⟩] : Vec Ideal S2x2048x256 .bf16) = fun j => T (j 0) (j 2) (j 1) := by
  funext j
  canon_tiles j h
  all_goals rename_i w
  · exact tile_tall h11 j w (by simp; omega) (by simp; omega) h2
  · exact tile_tall h10 j w (by simp; omega) (by simp; omega) h2
  · exact tile_tall h01 j w (by simp; omega) (by simp; omega) h2
  · exact tile_tall h00 j w (by simp; omega) (by simp; omega) h2

/-- A dense array of the rows of two parts: each group's rows meet its own columns. -/
def dense (x y : S512x64.Idx → EReal) (d : Fin 2) (r : Fin 256) (k : Fin 2048) : EReal :=
  if r.val / 16 = k.val % 1024 / 64 then
    (if k.val < 1024 then x else y) (ix2 ⟨256 * d.val + r.val, by omega⟩ ⟨k.val % 64, Nat.mod_lt _ (by decide)⟩) else 0

/-- The spread rows of one direction and part are the dense array's. -/
theorem dense_lo (x y : S512x64.Idx → EReal) (z : S256x64.Idx → EReal) (d : Fin 2) (r : Fin 256) (k : Fin 1024)
    (h : ∀ s, z (ix2 r s) = x (ix2 ⟨256 * d.val + r.val, by omega⟩ s)) : spreadAt z r k = dense x y d r (lo k) := by
  unfold spreadAt dense
  rw [if_pos (show (lo k).val < 1024 from k.isLt), show (lo k).val % 1024 / 64 = k.val / 64 by simp [Nat.mod_eq_of_lt k.isLt], h]

theorem dense_hi (x y : S512x64.Idx → EReal) (z : S256x64.Idx → EReal) (d : Fin 2) (r : Fin 256) (k : Fin 1024)
    (h : ∀ s, z (ix2 r s) = y (ix2 ⟨256 * d.val + r.val, by omega⟩ s)) : spreadAt z r k = dense x y d r (hi k) := by
  unfold spreadAt dense
  rw [if_neg (show ¬ (hi k).val < 1024 by simp), show (hi k).val % 1024 / 64 = k.val / 64 by simp [Nat.mod_eq_of_lt k.isLt], h]
  have e : (hi k).val % 64 = k.val % 64 := by simp; omega
  simp only [e]

/-- A tile of the wide arrays and of the tall ones, from the rows spread. -/
theorem wide_apply (v : FVec Ideal S256x1024 .f32) (r : Fin 256) (k : Fin 1024) : (k0_pay29 (F := Ideal) v (ix3 0 r k) : EReal) = v (ix2 r k) := by
  pointwise [k0_pay29]

theorem tall_apply (v : FVec Ideal S256x1024 .f32) (r : Fin 256) (k : Fin 1024) : (k0_pay30 (F := Ideal) v (ix3 0 k r) : EReal) = v (ix2 r k) := by
  pointwise [k0_pay30]

abbrev sp (x : FVec Ideal S256x64 .f32) : FVec Ideal S256x1024 .f32 := k0_pay31 (F := Ideal) ownGroup oneHot x

variable (x0 x1 : Vec Ideal S512x64 .f32) (x2 : Vec Ideal S512x1 .f32) (x3 x4 x5 x6 : Vec Ideal S512x64 .f32)

/-- The hold's input weight, a row a group's channel. -/
abbrev inRe : FVec Ideal S512x64 .f32 := k0_pay54 (F := Ideal) x0 x1 x2 x3 x4 x5 x6
abbrev inIm : FVec Ideal S512x64 .f32 := k0_pay55 (F := Ideal) x0 x1 x2 x3 x4 x5 x6

/-- The rows of one direction. -/
theorem half0 (x : FVec Ideal S512x64 .f32) (r : Fin 256) (s : Fin 64) : (k0_pay22 (F := Ideal) x (ix2 r s) : EReal) = x (ix2 ⟨256 * (0 : Fin 2).val + r.val, by simp; omega⟩ s) := by
  pointwise [k0_pay22]
theorem half1 (x : FVec Ideal S512x64 .f32) (r : Fin 256) (s : Fin 64) : (k0_pay38 (F := Ideal) x (ix2 r s) : EReal) = x (ix2 ⟨256 * (1 : Fin 2).val + r.val, by simp; omega⟩ s) := by
  pointwise [k0_pay38]
abbrev ld0 (x : Vec Ideal S512x64 .f32) : Vec Ideal S256x64 .f32 := View.ld x r0_2
abbrev ld1 (x : Vec Ideal S512x64 .f32) : Vec Ideal S256x64 .f32 := View.ld x r0_7

theorem load0 (x : Vec Ideal S512x64 .f32) (r : Fin 256) (s : Fin 64) : (ld0 x (ix2 r s) : EReal) = x (ix2 ⟨256 * (0 : Fin 2).val + r.val, by simp; omega⟩ s) := by
  exact View.ld_unit_apply_of (Val := Elt Ideal) (e := .f32) x ![0, 0] ![256, 64] inb_S512x64_S256x64_0_0 (ix2 r s) _ fun b => by
    fin_cases b <;> simp
theorem load1 (x : Vec Ideal S512x64 .f32) (r : Fin 256) (s : Fin 64) : (ld1 x (ix2 r s) : EReal) = x (ix2 ⟨256 * (1 : Fin 2).val + r.val, by simp; omega⟩ s) := by
  exact View.ld_unit_apply_of (Val := Elt Ideal) (e := .f32) x ![256, 0] ![256, 64] inb_S512x64_S256x64_256_0 (ix2 r s) _ fun b => by
    fin_cases b <;> simp

/-- The loaded rows, reshaped to their own shape. -/
abbrev rd0 (x : Vec Ideal S512x64 .f32) : Vec Ideal S256x64 .f32 := shapeCast S256x64 (ld0 x) shapeCasts_S256x64_S256x64
abbrev rd1 (x : Vec Ideal S512x64 .f32) : Vec Ideal S256x64 .f32 := shapeCast S256x64 (ld1 x) shapeCasts_S256x64_S256x64

theorem read0 (x : Vec Ideal S512x64 .f32) (r : Fin 256) (s : Fin 64) : (rd0 x (ix2 r s) : EReal) = x (ix2 ⟨256 * (0 : Fin 2).val + r.val, by simp; omega⟩ s) := by
  pointwise []
  refine (load0 x r s).trans (congrArg (fun w => x (ix2 w s)) (Fin.ext (by simp)))
theorem read1 (x : Vec Ideal S512x64 .f32) (r : Fin 256) (s : Fin 64) : (rd1 x (ix2 r s) : EReal) = x (ix2 ⟨256 * (1 : Fin 2).val + r.val, by simp; omega⟩ s) := by
  pointwise []
  exact load1 x r s

/-- The imaginary part of the output weight, negated. -/
def negRows (x : S512x64.Idx → EReal) : S512x64.Idx → EReal := fun i => 0 - x i

theorem neg0 (x : Vec Ideal S512x64 .f32) (r : Fin 256) (s : Fin 64) : (k0_pay23 (F := Ideal) (ld0 x) (ix2 r s) : EReal) = negRows x (ix2 ⟨256 * (0 : Fin 2).val + r.val, by simp; omega⟩ s) := by
  pointwise [k0_pay23, negRows]
  exact congrArg (fun z => (0 : EReal) - z) ((load0 x r s).trans (congrArg (fun w => x (ix2 w s)) (Fin.ext (by simp))))
theorem neg1 (x : Vec Ideal S512x64 .f32) (r : Fin 256) (s : Fin 64) : (k0_pay39 (F := Ideal) (ld1 x) (ix2 r s) : EReal) = negRows x (ix2 ⟨256 * (1 : Fin 2).val + r.val, by simp; omega⟩ s) := by
  pointwise [k0_pay39, negRows]
  exact congrArg (fun z => (0 : EReal) - z) (load1 x r s)

theorem out_in : (out0_9 (F := Ideal) x0 x1 x2 x3 x4 x5 x6 : S2x256x2048.Idx → EReal)
    = fun j => dense (inRe x0 x1 x2 x3 x4 x5 x6) (inIm x0 x1 x2 x3 x4 x5 x6) (j 0) (j 1) (j 2) := by
  unfold out0_9
  refine canon_wide (dense (inRe x0 x1 x2 x3 x4 x5 x6) (inIm x0 x1 x2 x3 x4 x5 x6)) _ _ _ _ (fun r k => ?_) (fun r k => ?_) (fun r k => ?_) (fun r k => ?_)
  · exact (wide_apply (sp (k0_pay22 (inRe x0 x1 x2 x3 x4 x5 x6))) r k).trans ((pay31_apply _ r k).trans (dense_lo _ _ _ 0 r k (half0 _ r)))
  · exact (wide_apply (sp (k0_pay22 (inIm x0 x1 x2 x3 x4 x5 x6))) r k).trans ((pay31_apply _ r k).trans (dense_hi _ _ _ 0 r k (half0 _ r)))
  · exact (wide_apply (sp (k0_pay38 (inRe x0 x1 x2 x3 x4 x5 x6))) r k).trans ((pay31_apply _ r k).trans (dense_lo _ _ _ 1 r k (half1 _ r)))
  · exact (wide_apply (sp (k0_pay38 (inIm x0 x1 x2 x3 x4 x5 x6))) r k).trans ((pay31_apply _ r k).trans (dense_hi _ _ _ 1 r k (half1 _ r)))

theorem out_in_t : (out0_10 (F := Ideal) x0 x1 x2 x3 x4 x5 x6 : S2x2048x256.Idx → EReal)
    = fun j => dense (inRe x0 x1 x2 x3 x4 x5 x6) (inIm x0 x1 x2 x3 x4 x5 x6) (j 0) (j 2) (j 1) := by
  unfold out0_10
  refine canon_tall (dense (inRe x0 x1 x2 x3 x4 x5 x6) (inIm x0 x1 x2 x3 x4 x5 x6)) _ _ _ _ (fun r k => ?_) (fun r k => ?_) (fun r k => ?_) (fun r k => ?_)
  · exact (tall_apply (sp (k0_pay22 (inRe x0 x1 x2 x3 x4 x5 x6))) r k).trans ((pay31_apply _ r k).trans (dense_lo _ _ _ 0 r k (half0 _ r)))
  · exact (tall_apply (sp (k0_pay22 (inIm x0 x1 x2 x3 x4 x5 x6))) r k).trans ((pay31_apply _ r k).trans (dense_hi _ _ _ 0 r k (half0 _ r)))
  · exact (tall_apply (sp (k0_pay38 (inRe x0 x1 x2 x3 x4 x5 x6))) r k).trans ((pay31_apply _ r k).trans (dense_lo _ _ _ 1 r k (half1 _ r)))
  · exact (tall_apply (sp (k0_pay38 (inIm x0 x1 x2 x3 x4 x5 x6))) r k).trans ((pay31_apply _ r k).trans (dense_hi _ _ _ 1 r k (half1 _ r)))

theorem out_out : (out0_11 (F := Ideal) x0 x1 x2 x3 x4 x5 x6 : S2x256x2048.Idx → EReal)
    = fun j => dense x5 (negRows x6) (j 0) (j 1) (j 2) := by
  unfold out0_11
  refine canon_wide (dense x5 (negRows x6)) _ _ _ _ (fun r k => ?_) (fun r k => ?_) (fun r k => ?_) (fun r k => ?_)
  · exact (wide_apply (sp (rd0 x5)) r k).trans ((pay31_apply _ r k).trans (dense_lo _ _ _ 0 r k (read0 x5 r)))
  · exact (wide_apply (sp (k0_pay23 (ld0 x6))) r k).trans ((pay31_apply _ r k).trans (dense_hi _ _ _ 0 r k (neg0 x6 r)))
  · exact (wide_apply (sp (rd1 x5)) r k).trans ((pay31_apply _ r k).trans (dense_lo _ _ _ 1 r k (read1 x5 r)))
  · exact (wide_apply (sp (k0_pay39 (ld1 x6))) r k).trans ((pay31_apply _ r k).trans (dense_hi _ _ _ 1 r k (neg1 x6 r)))

theorem out_out_t : (out0_12 (F := Ideal) x0 x1 x2 x3 x4 x5 x6 : S2x2048x256.Idx → EReal)
    = fun j => dense x5 (negRows x6) (j 0) (j 2) (j 1) := by
  unfold out0_12
  refine canon_tall (dense x5 (negRows x6)) _ _ _ _ (fun r k => ?_) (fun r k => ?_) (fun r k => ?_) (fun r k => ?_)
  · exact (tall_apply (sp (rd0 x5)) r k).trans ((pay31_apply _ r k).trans (dense_lo _ _ _ 0 r k (read0 x5 r)))
  · exact (tall_apply (sp (k0_pay23 (ld0 x6))) r k).trans ((pay31_apply _ r k).trans (dense_hi _ _ _ 0 r k (neg0 x6 r)))
  · exact (tall_apply (sp (rd1 x5)) r k).trans ((pay31_apply _ r k).trans (dense_lo _ _ _ 1 r k (read1 x5 r)))
  · exact (tall_apply (sp (k0_pay39 (ld1 x6))) r k).trans ((pay31_apply _ r k).trans (dense_hi _ _ _ 1 r k (neg1 x6 r)))

end Cert.Step.SsmPrep
end
-- ==== Proof.Step.SsmPrepRef.lean ====
/-
The zero-order hold and the scan's weights: what the reference computes, entry by entry.
-/
module

public import proofs.«01_k».proof.Proof.Step.PrepRef
public import proofs.«01_k».proof.Proof.Gen.SsmPrepRefIdeal.Read

@[expose] public section

set_option maxRecDepth 16384

open Idealize.ShloMosaic Idealize.ShloMosaic.TcCoe Idealize.SL.Sem

noncomputable section

namespace Cert.Step.SsmPrep

open Cert.SsmPrepRefIdeal Cert.SsmPrepRefIdeal.Read
open Cert.Step.PrepBwd (eq_word abiE nrE magE cosE sinE denE qrE qiE uitofp_one uitofp_zero)

variable (a i : FVec Ideal S2x16x64 .f32) (l : FVec Ideal S2x16 .f32) (br bi : FVec Ideal S2x16x64x16 .f32) (cr ci : FVec Ideal S2x16x16x64 .f32)

/-- The hold's quotient times the input weight, both parts, at a direction, group, channel and state. -/
def holdRe (d : Fin 2) (g ch : Fin 16) (s : Fin 64) : EReal :=
  qrE (a (ix3 d g s)) (i (ix3 d g s)) (l (ix2 d g)) * br (ix4 d g s ch) - qiE (a (ix3 d g s)) (i (ix3 d g s)) (l (ix2 d g)) * bi (ix4 d g s ch)
def holdIm (d : Fin 2) (g ch : Fin 16) (s : Fin 64) : EReal :=
  qrE (a (ix3 d g s)) (i (ix3 d g s)) (l (ix2 d g)) * bi (ix4 d g s ch) + qiE (a (ix3 d g s)) (i (ix3 d g s)) (l (ix2 d g)) * br (ix4 d g s ch)

/-- The output weight, the imaginary part negated. -/
def readRe (d : Fin 2) (g ch : Fin 16) (s : Fin 64) : EReal := cr (ix4 d g ch s)
def readIm (d : Fin 2) (g ch : Fin 16) (s : Fin 64) : EReal := - ci (ix4 d g ch s)

/-- A dense array: each group's rows meet its own columns, of both parts. -/
def blocks (x y : Fin 2 → Fin 16 → Fin 16 → Fin 64 → EReal) (d : Fin 2) (r : Fin 256) (k : Fin 2048) : EReal :=
  if r.val / 16 = k.val % 1024 / 64 then
    (if k.val < 1024 then x else y) d ⟨r.val / 16, by omega⟩ ⟨r.val % 16, Nat.mod_lt _ (by decide)⟩ ⟨k.val % 64, Nat.mod_lt _ (by decide)⟩
  else 0

theorem ref_mask (g h : Fin 16) : (val_main_v43 (F := Ideal) : S16x16.Idx → EReal) (ix2 g h) = if g.val = h.val then 1 else 0 := by
  pointwise [val_main_v43, val_main_v42, val_main_v41, val_main_v40, val_main_v39, val_main_v38, val_main_c]
  rw [show IntOp.addi (BitVec.ofNat 32 g.val) 0#32 = BitVec.ofNat 32 g.val from BitVec.add_zero _, eq_word (by omega) (by omega)]
  split
  · exact uitofp_one
  · exact uitofp_zero

theorem ref_mask' : (val_main_v67 (F := Ideal)) = val_main_v43 := rfl

theorem ref_re (d : Fin 2) (g ch : Fin 16) (s : Fin 64) : val_main_v30 (F := Ideal) a i l br bi (ix4 d g s ch) = holdRe a i l br bi d g ch s := by
  simp only [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0]
  pointwise [val_main_cst, holdRe, qrE, qiE, abiE, nrE, magE, cosE, sinE, denE]

theorem ref_im (d : Fin 2) (g ch : Fin 16) (s : Fin 64) : val_main_v37 (F := Ideal) a i l br bi (ix4 d g s ch) = holdIm a i l br bi d g ch s := by
  simp only [val_main_v37, val_main_v36, val_main_v35, val_main_v34, val_main_v33, val_main_v32, val_main_v31, val_main_v23, val_main_v22, val_main_v21,
    val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0]
  pointwise [val_main_cst, holdIm, qrE, qiE, abiE, nrE, magE, cosE, sinE, denE]

/-- One part of a dense array's entry. -/
theorem masked (e : EReal) (r : Fin 256) (q : ℕ) (hq : q < 16) :
    e * (val_main_v43 (F := Ideal) : S16x16.Idx → EReal) (ix2 ⟨r.val / 16, by omega⟩ ⟨q, hq⟩) = if r.val / 16 = q then e else 0 := by
  rw [ref_mask, mul_ite, mul_one, mul_zero]

theorem ref_in (d : Fin 2) (r : Fin 256) (k : Fin 2048) :
    (val_main_v61 (F := Ideal) a i l br bi (ix3 d r k) : EReal) = blocks (holdRe a i l br bi) (holdIm a i l br bi) d r k := by
  unfold blocks
  simp only [val_main_v61, val_main_v60, val_main_v51, val_main_v50, val_main_v49, val_main_v48, val_main_v47, val_main_v46, val_main_v45, val_main_v44]
  by_cases hk : k.val < 1024
  · pointwise []
    rw [dif_pos hk, ref_re, masked]
    simp only [if_pos hk, Nat.mod_eq_of_lt hk]
  · simp only [val_main_v59, val_main_v58, val_main_v57, val_main_v56, val_main_v55, val_main_v54, val_main_v53, val_main_v52]
    pointwise []
    rw [dif_neg hk, ref_im, masked]
    have e1 : k.val % 1024 = k.val - 1024 := by omega
    have e2 : (k.val - 1024) % 64 = k.val % 64 := by omega
    simp only [if_neg hk, e1, e2]

theorem ref_out (d : Fin 2) (r : Fin 256) (k : Fin 2048) :
    (val_main_v84 (F := Ideal) cr ci (ix3 d r k) : EReal) = blocks (readRe cr) (readIm ci) d r k := by
  unfold blocks
  simp only [val_main_v84, val_main_v83, val_main_v75, val_main_v74, val_main_v73, val_main_v72, val_main_v71, val_main_v70, val_main_v69, ref_mask']
  by_cases hk : k.val < 1024
  · pointwise []
    rw [dif_pos hk, masked]
    simp only [if_pos hk, Nat.mod_eq_of_lt hk, readRe]
  · simp only [val_main_v82, val_main_v81, val_main_v80, val_main_v79, val_main_v78, val_main_v77, val_main_v76, val_main_v68, ref_mask']
    pointwise []
    rw [dif_neg hk, masked]
    have e1 : k.val % 1024 = k.val - 1024 := by omega
    have e2 : (k.val - 1024) % 64 = k.val % 64 := by omega
    simp only [if_neg hk, e1, e2, readIm]

/-- The discretised pole, repeated for a group's channels. -/
def poleRe (i' : S512x64.Idx) : EReal :=
  let d : Fin 2 := ⟨(i' 0).val / 16 / 16, by have := (i' 0).isLt; simp at this; omega⟩
  let g : Fin 16 := ⟨(i' 0).val / 16 % 16, Nat.mod_lt _ (by decide)⟩
  magE (a (ix3 d g (i' 1))) (l (ix2 d g)) * cosE (i (ix3 d g (i' 1))) (l (ix2 d g))
def poleIm (i' : S512x64.Idx) : EReal :=
  let d : Fin 2 := ⟨(i' 0).val / 16 / 16, by have := (i' 0).isLt; simp at this; omega⟩
  let g : Fin 16 := ⟨(i' 0).val / 16 % 16, Nat.mod_lt _ (by decide)⟩
  abiE (a (ix3 d g (i' 1))) (i (ix3 d g (i' 1))) (l (ix2 d g))

theorem ref_poleRe : (val_main_v87 (F := Ideal) a i l : S512x64.Idx → EReal) = poleRe a i l := by
  funext j
  idx_vars j
  simp only [val_main_v87, val_main_v86, val_main_v85, val_main_v8, val_main_v7, val_main_v6, val_main_v5, val_main_v4, val_main_v3, val_main_v2, val_main_v1, val_main_v0]
  pointwise [poleRe, magE, cosE]

theorem ref_poleIm : (val_main_v90 (F := Ideal) a i l : S512x64.Idx → EReal) = poleIm a i l := by
  funext j
  idx_vars j
  simp only [val_main_v90, val_main_v89, val_main_v88, val_main_v10, val_main_v9, val_main_v6, val_main_v5, val_main_v4, val_main_v3, val_main_v2, val_main_v1, val_main_v0]
  pointwise [poleIm, abiE, magE, sinE]

end Cert.Step.SsmPrep
end
-- ==== Proof.Step.SsmPrep.lean ====
/-
The zero-order hold and the scan's weights: what the kernel's program leaves in its six results, and that the
reference leaves the same.
-/
module

public import proofs.«01_k».proof.Proof.Step.SsmPrepOut
public import proofs.«01_k».proof.Proof.Step.SsmPrepRef
public import proofs.«01_k».proof.Proof.Gen.SsmPrepIdeal.Value
public import proofs.«01_k».proof.Proof.Gen.SsmPrepRefIdeal.Run
public import proofs.«01_k».proof.Defs
public import Idealize.ShloMosaic.Lib.StableHlo.ReadAt

@[expose] public section

set_option maxRecDepth 16384

open Idealize.ShloMosaic Idealize.ShloMosaic.TcCoe Idealize.SL.Sem

noncomputable section

namespace Cert.Step.SsmPrep

section Kernel

open Cert.SsmPrepIdeal Cert.SsmPrepIdeal.Gen
open Cert.Step.PrepBwd (rowOf abiE nrE magE cosE sinE denE qrE qiE)

variable (m : (ℓ : Loc nD τ sig) → Buf (Elt Ideal) ℓ)

/-- Each window is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0, 0] ∧ win0_10.index t = ![0, 0, 0] ∧ win0_11.index t = ![0, 0, 0] ∧ win0_12.index t = ![0, 0, 0] :=
  (by decide +kernel : ∀ t : Fin grid0.N, _)

theorem blk0 (c : Dev nD) (t : Fin cfg0.N) : iblk m c 0 t = (V m c main_v2 : S512x64.Idx → EReal) := by
  funext z
  idx_vars z
  blk_point [iblk, idx t]

theorem blk1 (c : Dev nD) (t : Fin cfg0.N) : iblk m c 1 t = (V m c main_v5 : S512x64.Idx → EReal) := by
  funext z
  idx_vars z
  blk_point [iblk, idx t]

theorem blk2 (c : Dev nD) (t : Fin cfg0.N) : iblk m c 2 t = (V m c main_v8 : S512x1.Idx → EReal) := by
  funext z
  idx_vars z
  blk_point [iblk, idx t]

theorem blk3 (c : Dev nD) (t : Fin cfg0.N) : iblk m c 3 t = (V m c main_v10 : S512x64.Idx → EReal) := by
  funext z
  idx_vars z
  blk_point [iblk, idx t]

theorem blk4 (c : Dev nD) (t : Fin cfg0.N) : iblk m c 4 t = (V m c main_v12 : S512x64.Idx → EReal) := by
  funext z
  idx_vars z
  blk_point [iblk, idx t]

theorem blk5 (c : Dev nD) (t : Fin cfg0.N) : iblk m c 5 t = (V m c main_v13 : S512x64.Idx → EReal) := by
  funext z
  idx_vars z
  blk_point [iblk, idx t]

theorem blk6 (c : Dev nD) (t : Fin cfg0.N) : iblk m c 6 t = (V m c main_v14 : S512x64.Idx → EReal) := by
  funext z
  idx_vars z
  blk_point [iblk, idx t]

/-- A function of the seven operands, at the arrays the call takes. -/
abbrev atOps {α : Type} (c : Dev nD) (f : Vec Ideal S512x64 .f32 → Vec Ideal S512x64 .f32 → Vec Ideal S512x1 .f32 → Vec Ideal S512x64 .f32
    → Vec Ideal S512x64 .f32 → Vec Ideal S512x64 .f32 → Vec Ideal S512x64 .f32 → α) : α :=
  f (V m c main_v2) (V m c main_v5) (V m c main_v8) (V m c main_v10) (V m c main_v12) (V m c main_v13) (V m c main_v14)

theorem emb7 (t : Fin cfg0.N) (f : S512x64.Idx → EReal) (y : S512x64.Idx) : f (((cfg0.win 7).blk t).view.emb y) = f y := by
  idx_vars y
  blk_point [idx t]

theorem arr7 (c : Dev nD) : (dats m 0 c).arrAt 7 cfg0.N = (atOps m c (out0_7 (F := Ideal)) : S512x64.Idx → EReal) := by
  refine (dats m 0 c).arrAt_eq_of_covers 7 _ (by decide +kernel) fun t _ y => ?_
  blk_simp
  rw [after0_7]
  simp only [blk0, blk1, blk2, blk3, blk4, blk5, blk6]
  exact (emb7 t _ y).symm

theorem emb8 (t : Fin cfg0.N) (f : S512x64.Idx → EReal) (y : S512x64.Idx) : f (((cfg0.win 8).blk t).view.emb y) = f y := by
  idx_vars y
  blk_point [idx t]

theorem arr8 (c : Dev nD) : (dats m 0 c).arrAt 8 cfg0.N = (atOps m c (out0_8 (F := Ideal)) : S512x64.Idx → EReal) := by
  refine (dats m 0 c).arrAt_eq_of_covers 8 _ (by decide +kernel) fun t _ y => ?_
  blk_simp
  rw [after0_8]
  simp only [blk0, blk1, blk2, blk3, blk4, blk5, blk6]
  exact (emb8 t _ y).symm

theorem emb9 (t : Fin cfg0.N) (f : S2x256x2048.Idx → EReal) (y : S2x256x2048.Idx) : f (((cfg0.win 9).blk t).view.emb y) = f y := by
  idx_vars y
  blk_point [idx t]

theorem arr9 (c : Dev nD) : (dats m 0 c).arrAt 9 cfg0.N = (atOps m c (out0_9 (F := Ideal)) : S2x256x2048.Idx → EReal) := by
  refine (dats m 0 c).arrAt_eq_of_covers 9 _ (by decide +kernel) fun t _ y => ?_
  blk_simp
  rw [after0_9]
  simp only [blk0, blk1, blk2, blk3, blk4, blk5, blk6]
  exact (emb9 t _ y).symm

theorem emb10 (t : Fin cfg0.N) (f : S2x2048x256.Idx → EReal) (y : S2x2048x256.Idx) : f (((cfg0.win 10).blk t).view.emb y) = f y := by
  idx_vars y
  blk_point [idx t]

theorem arr10 (c : Dev nD) : (dats m 0 c).arrAt 10 cfg0.N = (atOps m c (out0_10 (F := Ideal)) : S2x2048x256.Idx → EReal) := by
  refine (dats m 0 c).arrAt_eq_of_covers 10 _ (by decide +kernel) fun t _ y => ?_
  blk_simp
  rw [after0_10]
  simp only [blk0, blk1, blk2, blk3, blk4, blk5, blk6]
  exact (emb10 t _ y).symm

theorem emb11 (t : Fin cfg0.N) (f : S2x256x2048.Idx → EReal) (y : S2x256x2048.Idx) : f (((cfg0.win 11).blk t).view.emb y) = f y := by
  idx_vars y
  blk_point [idx t]

theorem arr11 (c : Dev nD) : (dats m 0 c).arrAt 11 cfg0.N = (atOps m c (out0_11 (F := Ideal)) : S2x256x2048.Idx → EReal) := by
  refine (dats m 0 c).arrAt_eq_of_covers 11 _ (by decide +kernel) fun t _ y => ?_
  blk_simp
  rw [after0_11]
  simp only [blk0, blk1, blk2, blk3, blk4, blk5, blk6]
  exact (emb11 t _ y).symm

theorem emb12 (t : Fin cfg0.N) (f : S2x2048x256.Idx → EReal) (y : S2x2048x256.Idx) : f (((cfg0.win 12).blk t).view.emb y) = f y := by
  idx_vars y
  blk_point [idx t]

theorem arr12 (c : Dev nD) : (dats m 0 c).arrAt 12 cfg0.N = (atOps m c (out0_12 (F := Ideal)) : S2x2048x256.Idx → EReal) := by
  refine (dats m 0 c).arrAt_eq_of_covers 12 _ (by decide +kernel) fun t _ y => ?_
  blk_simp
  rw [after0_12]
  simp only [blk0, blk1, blk2, blk3, blk4, blk5, blk6]
  exact (emb12 t _ y).symm

/-- The arguments' arrays. -/
abbrev aA (c : Dev nD) : FVec Ideal S2x16x64 .f32 := m ((c : Thread nD τ).loc main_arg0)
abbrev iA (c : Dev nD) : FVec Ideal S2x16x64 .f32 := m ((c : Thread nD τ).loc main_arg1)
abbrev lA (c : Dev nD) : FVec Ideal S2x16 .f32 := m ((c : Thread nD τ).loc main_arg2)
abbrev brA (c : Dev nD) : FVec Ideal S2x16x64x16 .f32 := m ((c : Thread nD τ).loc main_arg3)
abbrev biA (c : Dev nD) : FVec Ideal S2x16x64x16 .f32 := m ((c : Thread nD τ).loc main_arg4)
abbrev crA (c : Dev nD) : FVec Ideal S2x16x16x64 .f32 := m ((c : Thread nD τ).loc main_arg5)
abbrev ciA (c : Dev nD) : FVec Ideal S2x16x16x64 .f32 := m ((c : Thread nD τ).loc main_arg6)

/-- The operands' rows, each a direction's group's channel. -/
theorem row_dir (d : Fin 2) (g ch : Fin 16) (h : (rowOf d g ch).val / 16 / 16 < 2) : (⟨(rowOf d g ch).val / 16 / 16, h⟩ : Fin 2) = d := Fin.ext (by simp only [rowOf]; omega)
theorem row_dir' (d : Fin 2) (g ch : Fin 16) (h : (rowOf d g ch).val / 256 < 2) : (⟨(rowOf d g ch).val / 256, h⟩ : Fin 2) = d := Fin.ext (by simp only [rowOf]; omega)
theorem row_group (d : Fin 2) (g ch : Fin 16) (h : (rowOf d g ch).val / 16 % 16 < 16) : (⟨(rowOf d g ch).val / 16 % 16, h⟩ : Fin 16) = g := Fin.ext (by simp only [rowOf]; omega)
theorem row_channel (d : Fin 2) (g ch : Fin 16) (h : (rowOf d g ch).val % 16 < 16) : (⟨(rowOf d g ch).val % 16, h⟩ : Fin 16) = ch := Fin.ext (by simp only [rowOf]; omega)

theorem V_a (c : Dev nD) (d : Fin 2) (g ch : Fin 16) (s : Fin 64) : (V m c main_v2 : S512x64.Idx → EReal) (ix2 (rowOf d g ch) s) = aA m c (ix3 d g s) := by
  unfold V
  after_reads_at
  simp only [row_dir, row_dir', row_group, row_channel]

theorem V_i (c : Dev nD) (d : Fin 2) (g ch : Fin 16) (s : Fin 64) : (V m c main_v5 : S512x64.Idx → EReal) (ix2 (rowOf d g ch) s) = iA m c (ix3 d g s) := by
  unfold V
  after_reads_at
  simp only [row_dir, row_dir', row_group, row_channel]

theorem V_br (c : Dev nD) (d : Fin 2) (g ch : Fin 16) (s : Fin 64) : (V m c main_v10 : S512x64.Idx → EReal) (ix2 (rowOf d g ch) s) = brA m c (ix4 d g s ch) := by
  unfold V
  after_reads_at
  simp only [row_dir, row_dir', row_group, row_channel]

theorem V_bi (c : Dev nD) (d : Fin 2) (g ch : Fin 16) (s : Fin 64) : (V m c main_v12 : S512x64.Idx → EReal) (ix2 (rowOf d g ch) s) = biA m c (ix4 d g s ch) := by
  unfold V
  after_reads_at
  simp only [row_dir, row_dir', row_group, row_channel]

theorem V_cr (c : Dev nD) (d : Fin 2) (g ch : Fin 16) (s : Fin 64) : (V m c main_v13 : S512x64.Idx → EReal) (ix2 (rowOf d g ch) s) = crA m c (ix4 d g ch s) := by
  unfold V
  after_reads_at
  simp only [row_dir, row_dir', row_group, row_channel]

theorem V_ci (c : Dev nD) (d : Fin 2) (g ch : Fin 16) (s : Fin 64) : (V m c main_v14 : S512x64.Idx → EReal) (ix2 (rowOf d g ch) s) = ciA m c (ix4 d g ch s) := by
  unfold V
  after_reads_at
  simp only [row_dir, row_dir', row_group, row_channel]

theorem V_l (c : Dev nD) (d : Fin 2) (g ch : Fin 16) : (V m c main_v8 : S512x1.Idx → EReal) (ix2 (rowOf d g ch) 0) = lA m c (ix2 d g) := by
  unfold V
  after_reads_at
  simp only [row_dir, row_dir', row_group, row_channel]

section Point

variable (x0 x1 : Vec Ideal S512x64 .f32) (x2 : Vec Ideal S512x1 .f32) (x3 x4 x5 x6 : Vec Ideal S512x64 .f32) (r : Fin 512) (s : Fin 64)

/-- What the call computes of a row and a state: the pole, and the hold's quotient times the input weight. -/
theorem pole_re : (out0_7 (F := Ideal) x0 x1 x2 x3 x4 x5 x6 : S512x64.Idx → EReal) (ix2 r s) = magE (x0 (ix2 r s)) (x2 (ix2 r 0)) * cosE (x1 (ix2 r s)) (x2 (ix2 r 0)) := by
  unfold out0_7
  rw [canon0]
  unfold_payloads
  pointwise [magE, cosE]

theorem pole_im : (out0_8 (F := Ideal) x0 x1 x2 x3 x4 x5 x6 : S512x64.Idx → EReal) (ix2 r s) = abiE (x0 (ix2 r s)) (x1 (ix2 r s)) (x2 (ix2 r 0)) := by
  unfold out0_8
  rw [canon0]
  unfold_payloads
  pointwise [abiE, magE, sinE]

theorem in_re : (inRe x0 x1 x2 x3 x4 x5 x6 (ix2 r s) : EReal) = qrE (x0 (ix2 r s)) (x1 (ix2 r s)) (x2 (ix2 r 0)) * x3 (ix2 r s) - qiE (x0 (ix2 r s)) (x1 (ix2 r s)) (x2 (ix2 r 0)) * x4 (ix2 r s) := by
  unfold inRe k0_pay54
  unfold_payloads
  pointwise [qrE, qiE, nrE, abiE, magE, cosE, sinE, denE]

theorem in_im : (inIm x0 x1 x2 x3 x4 x5 x6 (ix2 r s) : EReal) = qrE (x0 (ix2 r s)) (x1 (ix2 r s)) (x2 (ix2 r 0)) * x4 (ix2 r s) + qiE (x0 (ix2 r s)) (x1 (ix2 r s)) (x2 (ix2 r 0)) * x3 (ix2 r s) := by
  unfold inIm k0_pay55
  unfold_payloads
  pointwise [qrE, qiE, nrE, abiE, magE, cosE, sinE, denE]

end Point

/-- A row is a direction's group's channel's. -/
theorem row_eq (d : Fin 2) (r : Fin 256) (h : 256 * d.val + r.val < 512) :
    (⟨256 * d.val + r.val, h⟩ : Fin 512) = rowOf d ⟨r.val / 16, by omega⟩ ⟨r.val % 16, Nat.mod_lt _ (by decide)⟩ := Fin.ext (by simp only [rowOf]; omega)

theorem row_eq' (r : Fin 512) : r = rowOf ⟨r.val / 16 / 16, by omega⟩ ⟨r.val / 16 % 16, Nat.mod_lt _ (by decide)⟩ ⟨r.val % 16, Nat.mod_lt _ (by decide)⟩ := Fin.ext (by simp only [rowOf]; omega)

/-- A dense array of rows that are known by direction, group and channel. -/
theorem dense_eq (x y : S512x64.Idx → EReal) (p q : Fin 2 → Fin 16 → Fin 16 → Fin 64 → EReal) (hx : ∀ d g ch s, x (ix2 (rowOf d g ch) s) = p d g ch s)
    (hy : ∀ d g ch s, y (ix2 (rowOf d g ch) s) = q d g ch s) (d : Fin 2) (r : Fin 256) (k : Fin 2048) : dense x y d r k = blocks p q d r k := by
  unfold dense blocks
  rw [row_eq]
  by_cases hk : k.val < 1024
  · simp only [if_pos hk, hx]
  · simp only [if_neg hk, hy]

theorem final7 (c : Dev nD) : (dats m 0 c).arrAt 7 cfg0.N = (poleRe (aA m c) (iA m c) (lA m c) : S512x64.Idx → EReal) := by
  rw [arr7]
  funext j
  idx_vars j
  refine (pole_re _ _ _ _ _ _ _ _ _).trans ?_
  rw [row_eq' j0, V_a, V_i, V_l, ← row_eq' j0]
  rfl

theorem final8 (c : Dev nD) : (dats m 0 c).arrAt 8 cfg0.N = (poleIm (aA m c) (iA m c) (lA m c) : S512x64.Idx → EReal) := by
  rw [arr8]
  funext j
  idx_vars j
  refine (pole_im _ _ _ _ _ _ _ _ _).trans ?_
  rw [row_eq' j0, V_a, V_i, V_l, ← row_eq' j0]
  rfl

/-- The rows of the input weight. -/
theorem inRe_eq (c : Dev nD) (d : Fin 2) (g ch : Fin 16) (s : Fin 64) : (atOps m c inRe : S512x64.Idx → EReal) (ix2 (rowOf d g ch) s) = holdRe (aA m c) (iA m c) (lA m c) (brA m c) (biA m c) d g ch s := by
  refine (in_re _ _ _ _ _ _ _ _ _).trans ?_
  rw [V_a, V_i, V_l, V_br, V_bi]
  rfl

theorem inIm_eq (c : Dev nD) (d : Fin 2) (g ch : Fin 16) (s : Fin 64) : (atOps m c inIm : S512x64.Idx → EReal) (ix2 (rowOf d g ch) s) = holdIm (aA m c) (iA m c) (lA m c) (brA m c) (biA m c) d g ch s := by
  refine (in_im _ _ _ _ _ _ _ _ _).trans ?_
  rw [V_a, V_i, V_l, V_br, V_bi]
  rfl

theorem neg_eq (c : Dev nD) (d : Fin 2) (g ch : Fin 16) (s : Fin 64) : negRows (V m c main_v14 : S512x64.Idx → EReal) (ix2 (rowOf d g ch) s) = readIm (ciA m c) d g ch s := by
  unfold negRows readIm
  rw [V_ci, zero_sub]

/-- The four dense arrays. -/
abbrev inW (c : Dev nD) := blocks (holdRe (aA m c) (iA m c) (lA m c) (brA m c) (biA m c)) (holdIm (aA m c) (iA m c) (lA m c) (brA m c) (biA m c))
abbrev outW (c : Dev nD) := blocks (readRe (crA m c)) (readIm (ciA m c))

theorem final9 (c : Dev nD) : (dats m 0 c).arrAt 9 cfg0.N = (fun j => inW m c (j 0) (j 1) (j 2) : S2x256x2048.Idx → EReal) := by
  rw [arr9]
  funext j
  exact (congrFun (out_in _ _ _ _ _ _ _) j).trans (dense_eq _ _ _ _ (inRe_eq m c) (inIm_eq m c) _ _ _)

theorem final10 (c : Dev nD) : (dats m 0 c).arrAt 10 cfg0.N = (fun j => inW m c (j 0) (j 2) (j 1) : S2x2048x256.Idx → EReal) := by
  rw [arr10]
  funext j
  exact (congrFun (out_in_t _ _ _ _ _ _ _) j).trans (dense_eq _ _ _ _ (inRe_eq m c) (inIm_eq m c) _ _ _)

theorem final11 (c : Dev nD) : (dats m 0 c).arrAt 11 cfg0.N = (fun j => outW m c (j 0) (j 1) (j 2) : S2x256x2048.Idx → EReal) := by
  rw [arr11]
  funext j
  exact (congrFun (out_out _ _ _ _ _ _ _) j).trans (dense_eq _ _ _ _ (V_cr m c) (neg_eq m c) _ _ _)

theorem final12 (c : Dev nD) : (dats m 0 c).arrAt 12 cfg0.N = (fun j => outW m c (j 0) (j 2) (j 1) : S2x2048x256.Idx → EReal) := by
  rw [arr12]
  funext j
  exact (congrFun (out_out_t _ _ _ _ _ _ _) j).trans (dense_eq _ _ _ _ (V_cr m c) (neg_eq m c) _ _ _)

end Kernel

section Reference

open Cert.SsmPrepRefIdeal Cert.SsmPrepRefIdeal.Read

variable (a i : FVec Ideal S2x16x64 .f32) (l : FVec Ideal S2x16 .f32) (br bi : FVec Ideal S2x16x64x16 .f32) (cr ci : FVec Ideal S2x16x16x64 .f32)

theorem ref_in_wide : (val_main_v61 (F := Ideal) a i l br bi : S2x256x2048.Idx → EReal) = fun j => blocks (holdRe a i l br bi) (holdIm a i l br bi) (j 0) (j 1) (j 2) := by
  funext j
  idx_vars j
  exact ref_in a i l br bi j0 j1 j2

theorem ref_in_tall : (val_main_v91 (F := Ideal) a i l br bi : S2x2048x256.Idx → EReal) = fun j => blocks (holdRe a i l br bi) (holdIm a i l br bi) (j 0) (j 2) (j 1) := by
  funext j
  idx_vars j
  simp only [val_main_v91]
  pointwise []
  exact ref_in a i l br bi j0 j2 j1

theorem ref_out_wide : (val_main_v84 (F := Ideal) cr ci : S2x256x2048.Idx → EReal) = fun j => blocks (readRe cr) (readIm ci) (j 0) (j 1) (j 2) := by
  funext j
  idx_vars j
  exact ref_out cr ci j0 j1 j2

theorem ref_out_tall : (val_main_v92 (F := Ideal) cr ci : S2x2048x256.Idx → EReal) = fun j => blocks (readRe cr) (readIm ci) (j 0) (j 2) (j 1) := by
  funext j
  idx_vars j
  simp only [val_main_v92]
  pointwise []
  exact ref_out cr ci j0 j2 j1

end Reference

/-- Kernel and reference leave the same pole, input weight and output weight, the weights also transposed. -/
theorem algebraic : Cert.algebraic_SsmPrepIdeal_SsmPrepRefIdeal := by
  intro m ρ m' ρ' _ hag
  refine ⟨_, _, _, _, _, _, Cert.SsmPrepIdeal.Value.run_blocks m ρ, (θ_run _ _ _).mono (fun r h c => ?_) (Cert.SsmPrepRefIdeal.Value.run m' ρ')⟩
  obtain ⟨h1, h2, h3, h4, h5, h6, hk⟩ := h c
  obtain ⟨a0, a1, a2, a3, a4, a5, a6⟩ := hag c
  refine ⟨h1.trans ?_, h2.trans ?_, h3.trans ?_, h4.trans ?_, h5.trans ?_, h6.trans ?_, hk⟩
  · rw [final7]
    refine (Cert.SsmPrepRefIdeal.Read.val_main_v87_eq _ _ _).trans ?_
    rw [a0, a1, a2]
    exact ref_poleRe _ _ _
  · rw [final8]
    refine (Cert.SsmPrepRefIdeal.Read.val_main_v90_eq _ _ _).trans ?_
    rw [a0, a1, a2]
    exact ref_poleIm _ _ _
  · rw [final9]
    refine (Cert.SsmPrepRefIdeal.Read.val_main_v61_eq _ _).trans ?_
    rw [a0, a1, a2, a3, a4]
    exact ref_in_wide _ _ _ _ _
  · rw [final10]
    refine (Cert.SsmPrepRefIdeal.Read.val_main_v91_eq _ _).trans ?_
    rw [a0, a1, a2, a3, a4]
    exact ref_in_tall _ _ _ _ _
  · rw [final11]
    refine (Cert.SsmPrepRefIdeal.Read.val_main_v84_eq _ _).trans ?_
    rw [a5, a6]
    exact ref_out_wide _ _
  · rw [final12]
    refine (Cert.SsmPrepRefIdeal.Read.val_main_v92_eq _ _).trans ?_
    rw [a5, a6]
    exact ref_out_tall _ _

end Cert.Step.SsmPrep
end
-- ==== Proof.Step.PlainMm.lean ====
module
public import proofs.«01_k».proof.Proof.Gen.PlainMmIdeal.Value
public import proofs.«01_k».proof.Proof.Gen.PlainMmRefIdeal.Run
public import proofs.«01_k».proof.Proof.Gen.PlainMmRefIdeal.Read
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! A plain product. -/

namespace Cert.Step.PlainMm

section Kernel

open Cert.PlainMmIdeal Cert.PlainMmIdeal.Gen

/-- The product. -/
def prod (a : FVec Ideal S4096x1024 .bf16) (w : FVec Ideal S1024x1024 .f32) : S4096x1024.Idx → EReal := fun i => ∑ k : Fin 1024, a (ix2 (i 0) k) * w (ix2 k (i 1))

variable (m : (ℓ : Loc nD τ sig) → Buf (Elt Ideal) ℓ)

/-- The arguments' arrays. -/
abbrev aA (c : Dev nD) : FVec Ideal S4096x1024 .bf16 := m ((c : Thread nD τ).loc main_arg0)
abbrev wA (c : Dev nD) : FVec Ideal S1024x1024 .f32 := m ((c : Thread nD τ).loc main_arg1)

/-- The block indices at a point. -/
theorem idx : ∀ t : Fin cfg0.N, win0_0.index t = ![t.val, 0] ∧ win0_1.index t = ![0, 0] ∧ win0_2.index t = ![t.val, 0] :=
  (by decide +kernel : ∀ t : Fin grid0.N, _)

theorem final2 (c : Dev nD) : (dats m 0 c).arrAt 2 cfg0.N = prod (aA m c) (wA m c) := by
  refine (dats m 0 c).arrAt_eq_of_covers 2 _ (by decide +kernel) fun t _ y => ?_
  blk_simp
  rw [after0_2]
  unfold out0_2
  canon_tiles z h
  all_goals
    unfold_payloads
    pointwise [prod]
    blk_point [iblk, V, idx t]

end Kernel

section Reference

open Cert.PlainMmRefIdeal Cert.PlainMmRefIdeal.Read

variable (a : FVec Ideal S4096x1024 .bf16) (w : FVec Ideal S1024x1024 .f32)

theorem ref_prod : (val_main_v2 (F := Ideal) a w : S4096x1024.Idx → EReal) = prod a w := by
  funext i
  idx_vars i
  simp only [val_main_v2, val_main_v1, val_main_v0]
  pointwise [prod]

end Reference

/-- Kernel and reference leave the same array. -/
theorem algebraic : Cert.algebraic_PlainMmIdeal_PlainMmRefIdeal := by
  intro m ρ m' ρ' _ hag
  refine ⟨_, Cert.PlainMmIdeal.Value.run_blocks m ρ, (θ_run _ _ _).mono (fun r h c => ?_) (Cert.PlainMmRefIdeal.Value.run m' ρ')⟩
  obtain ⟨h0, hk⟩ := h c
  obtain ⟨a0, a1⟩ := hag c
  refine ⟨h0.trans ?_, hk⟩
  · rw [final2]
    refine (Cert.PlainMmRefIdeal.Read.val_main_v2_eq _ _).trans ?_
    rw [a0, a1]
    exact ref_prod _ _

end Cert.Step.PlainMm
end
-- ==== Proof.Step.MixIn.lean ====
module
public import proofs.«01_k».proof.Proof.Gen.MixInIdeal.Value
public import proofs.«01_k».proof.Proof.Gen.MixInRefIdeal.Run
public import proofs.«01_k».proof.Proof.Gen.MixInRefIdeal.Read
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The mixer's input product, and its columns for the scan. -/

namespace Cert.Step.MixIn

section Kernel

open Cert.MixInIdeal Cert.MixInIdeal.Gen

/-- The product. -/
def prod (u : FVec Ideal S4096x1024 .bf16) (w : FVec Ideal S1024x2816 .f32) : S4096x2816.Idx → EReal := fun i => ∑ k : Fin 1024, u (ix2 (i 0) k) * w (ix2 k (i 1))

/-- The columns for the scan. -/
def scanCols (u : FVec Ideal S4096x1024 .bf16) (w : FVec Ideal S1024x2816 .f32) : S4096x256.Idx → EReal := fun i => ∑ k : Fin 1024, u (ix2 (i 0) k) * w (ix2 k ⟨512 + (i 1).val, by have := (i 1).isLt; simp at this; omega⟩)

variable (m : (ℓ : Loc nD τ sig) → Buf (Elt Ideal) ℓ)

/-- The arguments' arrays. -/
abbrev uA (c : Dev nD) : FVec Ideal S4096x1024 .bf16 := m ((c : Thread nD τ).loc main_arg0)
abbrev wA (c : Dev nD) : FVec Ideal S1024x2816 .f32 := m ((c : Thread nD τ).loc main_arg1)

/-- The block indices at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The weight as the call takes it, transposed. -/
def wT (c : Dev nD) : S2816x1024.Idx → EReal := fun i => wA m c (ix2 (i 1) (i 0))

theorem V_w (c : Dev nD) : V m c main_v1 = wT m c := by
  funext i
  idx_vars i
  unfold V wT
  after_reads_at

/-- A point's row in the arrays. -/
abbrev row (t : Fin cfg0.N) (x : Fin 512) : Fin 4096 := ⟨t.val * 512 + x.val, by have := t.isLt; change t.val < 8 at this; omega⟩

theorem blk_u (c : Dev nD) (t : Fin cfg0.N) (x : Fin 512) (k : Fin 1024) : iblk m c 0 t (ix2 x k) = uA m c (ix2 (row t x) k) := by
  blk_point [iblk, V, idx t]

theorem blk_w (c : Dev nD) (t : Fin cfg0.N) : iblk m c 1 t = wT m c := by
  rw [← V_w]
  funext i
  blk_point [iblk, idx t]

theorem emb2 (t : Fin cfg0.N) (f : S4096x2816.Idx → EReal) (x : Fin 512) (k : Fin 2816) : f (((cfg0.win 2).blk t).view.emb (ix2 x k)) = f (ix2 (row t x) k) := by
  blk_point [idx t]

theorem emb3 (t : Fin cfg0.N) (f : S4096x256.Idx → EReal) (x : Fin 512) (k : Fin 256) : f (((cfg0.win 3).blk t).view.emb (ix2 x k)) = f (ix2 (row t x) k) := by
  blk_point [idx t]

/-- A point's product. -/
def blkProd (u : Vec Ideal S512x1024 .bf16) (w : Vec Ideal S2816x1024 .bf16) : Vec Ideal S512x2816 .f32 := fun z => ∑ k : Fin 1024, (u (ix2 (z 0) k) : EReal) * w (ix2 (z 1) k)

/-- The two halves of its columns, as they are stored. -/
theorem halves (u : Vec Ideal S512x1024 .bf16) (w : Vec Ideal S2816x1024 .bf16) :
    (View.canon [⟨Rect.unit ![0, 1408] ![512, 1408] inb_S512x2816_S512x1408_0_1408,
        k0_pay2 (F := Ideal) (View.ld u (Rect.unit ![0, 0] ![512, 1024] inb_S512x1024_S512x1024_0_0)) (View.ld w (Rect.unit ![1408, 0] ![1408, 1024] inb_S2816x1024_S1408x1024_1408_0))⟩,
      ⟨Rect.unit ![0, 0] ![512, 1408] inb_S512x2816_S512x1408_0_0,
        k0_pay1 (F := Ideal) (View.ld u (Rect.unit ![0, 0] ![512, 1024] inb_S512x1024_S512x1024_0_0)) (View.ld w (Rect.unit ![0, 0] ![1408, 1024] inb_S2816x1024_S1408x1024_0_0))⟩] : Vec Ideal S512x2816 .f32)
      = blkProd u w := by
  funext z
  canon_tiles z h
  all_goals
    unfold_payloads
    pointwise [blkProd]
    blk_point

/-- A point's product is the array's at its rows. -/
theorem blkProd_eq (c : Dev nD) (t : Fin cfg0.N) (x : Fin 512) (k : Fin 2816) : (blkProd (iblk m c 0 t) (iblk m c 1 t) (ix2 x k) : EReal) = prod (uA m c) (wA m c) (ix2 (row t x) k) := by
  unfold blkProd
  rw [blk_w]
  exact Finset.sum_congr rfl fun q _ => congrArg (fun z => z * wA m c (ix2 q k)) (blk_u m c t x q)

theorem final2 (c : Dev nD) : (dats m 0 c).arrAt 2 cfg0.N = prod (uA m c) (wA m c) := by
  refine (dats m 0 c).arrAt_eq_of_covers 2 _ (by decide +kernel) fun t _ y => ?_
  blk_simp
  rw [after0_2]
  unfold outsAt0
  frame_open
  simp only [View.read_writes_junk_eq_canon, View.readAt_eq_ld, Memref.IsWhole.read_unread]
  refine (congrFun (halves (iblk m c 0 t) (iblk m c 1 t)) y).trans ?_
  change S512x2816.Idx at y
  idx_vars y
  exact (blkProd_eq m c t y0 y1).trans (emb2 t (prod (uA m c) (wA m c)) y0 y1).symm

theorem final3 (c : Dev nD) : (dats m 0 c).arrAt 3 cfg0.N = scanCols (uA m c) (wA m c) := by
  refine (dats m 0 c).arrAt_eq_of_covers 3 _ (by decide +kernel) fun t _ y => ?_
  blk_simp
  rw [after0_3]
  unfold outsAt0
  frame_open
  simp only [View.read_writes_junk_eq_canon, View.readAt_eq_ld, Memref.IsWhole.read_unread, View.readCov_eq_canon']
  rw [halves (iblk m c 0 t) (iblk m c 1 t)]
  change S512x256.Idx at y
  idx_vars y
  canon_tiles y h
  obtain rfl : y = ix2 y0 y1 := funext fun b => by fin_cases b <;> exact Fin.ext (by first | exact h0.symm | exact h1.symm)
  unfold_payloads
  refine Eq.trans ?_ ((blkProd_eq m c t y0 ⟨512 + y1.val, by omega⟩).trans (emb3 t (scanCols (uA m c) (wA m c)) y0 y1).symm)
  pointwise []

end Kernel

section Reference

open Cert.MixInRefIdeal Cert.MixInRefIdeal.Read

variable (u : FVec Ideal S4096x1024 .bf16) (w : FVec Ideal S1024x2816 .f32)

theorem ref_prod : (val_main_v1 (F := Ideal) u w : S4096x2816.Idx → EReal) = prod u w := by
  funext i
  idx_vars i
  simp only [val_main_v1, val_main_v0]
  pointwise [prod]

theorem ref_scanCols : (val_main_v3 (F := Ideal) u w : S4096x256.Idx → EReal) = scanCols u w := by
  funext i
  idx_vars i
  simp only [val_main_v3, val_main_v2, val_main_v1, val_main_v0]
  pointwise [scanCols]

end Reference

/-- Kernel and reference leave the same arrays. -/
theorem algebraic : Cert.algebraic_MixInIdeal_MixInRefIdeal := by
  intro m ρ m' ρ' _ hag
  refine ⟨_, _, Cert.MixInIdeal.Value.run_blocks m ρ, (θ_run _ _ _).mono (fun r h c => ?_) (Cert.MixInRefIdeal.Value.run m' ρ')⟩
  obtain ⟨h0, h1, hk⟩ := h c
  obtain ⟨a0, a1⟩ := hag c
  refine ⟨h0.trans ?_, h1.trans ?_, hk⟩
  · rw [final2]
    refine (Cert.MixInRefIdeal.Read.val_main_v1_eq _ _).trans ?_
    rw [a0, a1]
    exact ref_prod _ _
  · rw [final3]
    refine (Cert.MixInRefIdeal.Read.val_main_v3_eq _ _).trans ?_
    rw [a0, a1]
    exact ref_scanCols _ _

end Cert.Step.MixIn
end
-- ==== Proof.Step.DwMm.lean ====
module
public import proofs.«01_k».proof.Proof.Gen.DwMmIdeal.Value
public import proofs.«01_k».proof.Proof.Gen.DwMmRefIdeal.Run
public import proofs.«01_k».proof.Proof.Gen.DwMmRefIdeal.Read
public import proofs.«01_k».proof.Defs
public import Idealize.ShloMosaic.Lib.Pipeline.ValueKit
@[expose] public section
set_option maxRecDepth 16384
open Idealize.ShloMosaic Idealize.ShloMosaic.TcCoe Idealize.SL.Sem
noncomputable section

/-! The gradient of a weight: a product over the rows, accumulated over four row blocks. -/

namespace Cert.Step.DwMm

section Kernel

open Cert.DwMmIdeal Cert.DwMmIdeal.Gen

/-- The product over all rows. -/
def grad (u d : FVec Ideal S4096x1024 .bf16) : S1024x1024.Idx → EReal := fun i => ∑ r : Fin 4096, u (ix2 r (i 0)) * d (ix2 r (i 1))

variable (m : (ℓ : Loc nD τ sig) → Buf (Elt Ideal) ℓ)

/-- The block indices at a point. -/
theorem idx : ∀ t : Fin cfg0.N, win0_0.index t = ![t.val, 0] ∧ win0_1.index t = ![t.val, 0] ∧ win0_2.index t = ![0, 0] :=
  (by decide +kernel : ∀ t : Fin grid0.N, _)

/-- A point's blocks. -/
abbrev uB (c : Dev nD) (t : Fin cfg0.N) : FVec Ideal S1024x1024 .bf16 := iblk m c 0 t
abbrev dB (c : Dev nD) (t : Fin cfg0.N) : FVec Ideal S1024x1024 .bf16 := iblk m c 1 t

/-- What a point adds. -/
def term (c : Dev nD) (t : Fin cfg0.N) (i : S1024x1024.Idx) : EReal :=
  ∑ x : Fin 1024, uB m c t (ix2 x (i 0)) * dB m c t (ix2 x (i 1))

/-- The accumulator's step adds a product. -/
theorem pay2_apply (v : FVec Ideal S1024x1024 .f32) (a b : FVec Ideal S1024x1024 .bf16) (i : S1024x1024.Idx) :
    k0_pay2 (F := Ideal) v a b i = v i + ∑ x : Fin 1024, a (ix2 x (i 0)) * b (ix2 x (i 1)) := by
  idx_vars i
  pointwise [k0_pay2]

/-- The accumulator after the last point. -/
theorem acc (c : Dev nD) (i : S1024x1024.Idx) :
    (outsAt0 m c t0_3.val t0_3.isLt).2 i = k0_pay1 (F := Ideal) i + ∑ t : Fin cfg0.N, term m c t i :=
  Pipeline.eq_sum_fin_of_reset_step_apply_last (fun n hn => (outsAt0 m c n hn).2) 4 _ (term m c)
    (fun t h j => by rw [outsAt0_A m c t h (by omega)]; frame_out; rw [pay2_apply]; rfl)
    (fun t h j => by
      by_cases h1 : t.val % 4 = 3
      · rw [outsAt0_C m c t h h1]; frame_out; rw [pay2_apply]; exact congrArg (fun z : EReal => z + term m c t j) (congrFun ((Memref.isWhole_whole cc0_scratch0).read_unread _) j)
      · rw [outsAt0_B m c t h h1]; frame_out; rw [pay2_apply]; exact congrArg (fun z : EReal => z + term m c t j) (congrFun ((Memref.isWhole_whole cc0_scratch0).read_unread _) j)) (by decide +kernel) t0_3 rfl i

/-- At the last point the output is the accumulator. -/
theorem out_last (c : Dev nD) (i : S1024x1024.Idx) :
    ((outsAt0 m c t0_3.val t0_3.isLt).1 i : EReal) = (outsAt0 m c t0_3.val t0_3.isLt).2 i := by
  rw [outsAt0_C m c t0_3 (by decide) (by decide)]
  frame_out
  rfl

/-- The result after the run. -/
theorem result (c : Dev nD) : (dats m 0 c).arrAt 2 cfg0.N
    = grad (m ((c : Thread nD τ).loc main_arg0)) (m ((c : Thread nD τ).loc main_arg1)) := by
  refine (dats m 0 c).arrAt_eq_of_after_last 2 t0_3 (by decide +kernel) _ fun j => ?_
  blk_simp
  rw [after0_2, out_last, acc]
  unfold grad
  rw [show k0_pay1 (F := Ideal) j = 0 from by idx_vars j; pointwise [k0_pay1], zero_add]
  refine Fin.sum_mul_add_congr fun t x hl => ?_
  idx_vars j
  blk_point [iblk, V, idx t]

end Kernel

section Reference

open Cert.DwMmRefIdeal Cert.DwMmRefIdeal.Read

variable (u d : FVec Ideal S4096x1024 .bf16)

theorem ref_grad : (val_main_v6 (F := Ideal) u d : S1024x1024.Idx → EReal) = grad u d := by
  funext i
  idx_vars i
  simp only [val_main_v6, val_main_v5, val_main_v4, val_main_v1, val_main_v0]
  pointwise [grad]
  exact Finset.sum_congr rfl fun x _ => mul_comm _ _

end Reference

/-- Kernel and reference leave the same array. -/
theorem algebraic : Cert.algebraic_DwMmIdeal_DwMmRefIdeal := by
  intro m ρ m' ρ' _ hag
  refine ⟨_, Cert.DwMmIdeal.Value.run_blocks m ρ, (θ_run _ _ _).mono (fun r h c => ?_) (Cert.DwMmRefIdeal.Value.run m' ρ')⟩
  obtain ⟨h0, hk⟩ := h c
  obtain ⟨a0, a1⟩ := hag c
  refine ⟨h0.trans ?_, hk⟩
  rw [result]
  refine (Cert.DwMmRefIdeal.Read.val_main_v6_eq _ _).trans ?_
  rw [a0, a1]
  exact ref_grad _ _

end Cert.Step.DwMm
end
-- ==== Proof.Step.AdamW.lean ====
module
public import proofs.«01_k».proof.Proof.Gen.AdamWIdeal.Value
public import proofs.«01_k».proof.Proof.Gen.AdamWRefIdeal.Run
public import proofs.«01_k».proof.Proof.Gen.AdamWRefIdeal.Read
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! One step of the optimiser. -/

namespace Cert.Step.AdamW

section Kernel

open Cert.AdamWIdeal Cert.AdamWIdeal.Gen

/-- The gradient, handed on. -/
def gOut (g : FVec Ideal S704x1024 .f32) : S704x1024.Idx → EReal := g

/-- The first moment. -/
def mNew (g : FVec Ideal S704x1024 .f32) (mo : FVec Ideal S704x1024 .f32) : S704x1024.Idx → EReal := fun i => Ideal.ofBits .f32 0x3F666666#32 * mo i + Ideal.ofBits .f32 0x3DCCCCCD#32 * g i

/-- The second moment. -/
def vNew (g : FVec Ideal S704x1024 .f32) (v : FVec Ideal S704x1024 .f32) : S704x1024.Idx → EReal := fun i => Ideal.ofBits .f32 0x3F7FBE77#32 * v i + Ideal.ofBits .f32 0x3A83126F#32 * (g i * g i)

/-- The step. -/
def delta (w : FVec Ideal S704x1024 .f32) (g : FVec Ideal S704x1024 .f32) (mo : FVec Ideal S704x1024 .f32) (v : FVec Ideal S704x1024 .f32) : S704x1024.Idx → EReal := fun i => Ideal.ofBits .f32 0xBA83126F#32 * (Ideal.div (Ideal.div (mNew g mo i) (Ideal.ofBits .f32 0x3F26BD02#32)) (Ideal.sqrt (Ideal.div (vNew g v i) (Ideal.ofBits .f32 0x3C231ACC#32)) + Ideal.ofBits .f32 0x322BCC77#32) + Ideal.ofBits .f32 0x3C23D70A#32 * w i)

variable (m : (ℓ : Loc nD τ sig) → Buf (Elt Ideal) ℓ)

/-- The arguments' arrays. -/
abbrev wA (c : Dev nD) : FVec Ideal S704x1024 .f32 := m ((c : Thread nD τ).loc main_arg0)
abbrev gA (c : Dev nD) : FVec Ideal S704x1024 .f32 := m ((c : Thread nD τ).loc main_arg1)
abbrev moA (c : Dev nD) : FVec Ideal S704x1024 .f32 := m ((c : Thread nD τ).loc main_arg2)
abbrev vA (c : Dev nD) : FVec Ideal S704x1024 .f32 := m ((c : Thread nD τ).loc main_arg3)

/-- The block indices at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem final4 (c : Dev nD) : (dats m 0 c).arrAt 4 cfg0.N = gOut (gA m c) := by
  refine (dats m 0 c).arrAt_eq_of_covers 4 _ (by decide +kernel) fun t _ y => ?_
  blk_simp
  rw [after0_4]
  unfold out0_4
  canon_tiles z h
  all_goals
    unfold_payloads
    pointwise [gOut]
    blk_point [iblk, V, idx t]

theorem final5 (c : Dev nD) : (dats m 0 c).arrAt 5 cfg0.N = delta (wA m c) (gA m c) (moA m c) (vA m c) := by
  refine (dats m 0 c).arrAt_eq_of_covers 5 _ (by decide +kernel) fun t _ y => ?_
  blk_simp
  rw [after0_5]
  unfold out0_5
  canon_tiles z h
  all_goals
    unfold_payloads
    pointwise [delta, mNew, vNew]
    blk_point [iblk, V, idx t]

theorem final6 (c : Dev nD) : (dats m 0 c).arrAt 6 cfg0.N = mNew (gA m c) (moA m c) := by
  refine (dats m 0 c).arrAt_eq_of_covers 6 _ (by decide +kernel) fun t _ y => ?_
  blk_simp
  rw [after0_6]
  unfold out0_6
  canon_tiles z h
  all_goals
    unfold_payloads
    pointwise [mNew]
    blk_point [iblk, V, idx t]

theorem final7 (c : Dev nD) : (dats m 0 c).arrAt 7 cfg0.N = vNew (gA m c) (vA m c) := by
  refine (dats m 0 c).arrAt_eq_of_covers 7 _ (by decide +kernel) fun t _ y => ?_
  blk_simp
  rw [after0_7]
  unfold out0_7
  canon_tiles z h
  all_goals
    unfold_payloads
    pointwise [vNew]
    blk_point [iblk, V, idx t]

end Kernel

section Reference

open Cert.AdamWRefIdeal Cert.AdamWRefIdeal.Read

variable (w : FVec Ideal S704x1024 .f32) (g : FVec Ideal S704x1024 .f32) (mo : FVec Ideal S704x1024 .f32) (v : FVec Ideal S704x1024 .f32)

theorem ref_delta : (val_main_v23 (F := Ideal) w g mo v : S704x1024.Idx → EReal) = delta w g mo v := by
  funext i
  idx_vars i
  simp only [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0, val_main_cst_1, val_main_cst_2, val_main_cst_3, val_main_cst_4, val_main_cst_5, val_main_cst_6, val_main_cst_7, delta, mNew, vNew]

theorem ref_mNew : (val_main_v4 (F := Ideal) g mo : S704x1024.Idx → EReal) = mNew g mo := by
  funext i
  idx_vars i
  simp only [val_main_v4, val_main_v3, val_main_v2, val_main_v1, val_main_v0]
  pointwise [val_main_cst, val_main_cst_0, mNew]

theorem ref_vNew : (val_main_v10 (F := Ideal) g v : S704x1024.Idx → EReal) = vNew g v := by
  funext i
  idx_vars i
  simp only [val_main_v10, val_main_v9, val_main_v8, val_main_v7, val_main_v6, val_main_v5]
  pointwise [val_main_cst_1, val_main_cst_2, vNew]

end Reference

/-- Kernel and reference leave the same arrays. -/
theorem algebraic : Cert.algebraic_AdamWIdeal_AdamWRefIdeal := by
  intro m ρ m' ρ' _ hag
  refine ⟨_, _, _, _, Cert.AdamWIdeal.Value.run_blocks m ρ, (θ_run _ _ _).mono (fun r h c => ?_) (Cert.AdamWRefIdeal.Value.run m' ρ')⟩
  obtain ⟨h0, h1, h2, h3, hk⟩ := h c
  obtain ⟨a0, a1, a2, a3⟩ := hag c
  refine ⟨h0.trans ?_, h1.trans ?_, h2.trans ?_, h3.trans ?_, hk⟩
  · rw [final4]
    exact a1
  · rw [final5]
    refine (Cert.AdamWRefIdeal.Read.val_main_v23_eq _ _ _ _).trans ?_
    rw [a0, a1, a2, a3]
    exact ref_delta _ _ _ _
  · rw [final6]
    refine (Cert.AdamWRefIdeal.Read.val_main_v4_eq _ _).trans ?_
    rw [a1, a2]
    exact ref_mNew _ _
  · rw [final7]
    refine (Cert.AdamWRefIdeal.Read.val_main_v10_eq _ _).trans ?_
    rw [a1, a3]
    exact ref_vNew _ _

end Cert.Step.AdamW
end
-- ==== Proof.Step.DevSum.lean ====
module
public import proofs.«01_k».proof.Proof.Gen.DevSumIdeal.Value
public import proofs.«01_k».proof.Proof.Gen.DevSumRefIdeal.Run
public import proofs.«01_k».proof.Proof.Gen.DevSumRefIdeal.Read
public import proofs.«01_k».proof.Defs
public import Idealize.ShloMosaic.Lib.Pipeline.ValueKit
public import Idealize.ShloMosaic.Lib.StableHlo.ReadAt
@[expose] public section
set_option maxRecDepth 16384
open Idealize.ShloMosaic Idealize.ShloMosaic.TcCoe Idealize.SL.Sem
noncomputable section

/-! The sum over the devices. -/

namespace Cert.Step.DevSum

section Kernel

open Cert.DevSumIdeal Cert.DevSumIdeal.Gen

/-- The sum over the devices. -/
def total (p : FVec Ideal S8x1664x128 .f32) : S1664x128.Idx → EReal := fun i => ∑ d : Fin 8, p (ix3 d (i 0) (i 1))

variable (m : (ℓ : Loc nD τ sig) → Buf (Elt Ideal) ℓ)

/-- The arguments' arrays. -/
abbrev pA (c : Dev nD) : FVec Ideal S8x1664x128 .f32 := m ((c : Thread nD τ).loc main_arg0)

/-- The block indices at a point. -/
theorem idx : ∀ t : Fin cfg0.N, win0_0.index t = ![0, 0, 0] ∧ win0_1.index t = ![0, 0] :=
  (by decide +kernel : ∀ t : Fin grid0.N, _)

theorem final1 (c : Dev nD) : (dats m 0 c).arrAt 1 cfg0.N = total (pA m c) := by
  refine (dats m 0 c).arrAt_eq_of_covers 1 _ (by decide +kernel) fun t _ y => ?_
  blk_simp
  rw [after0_1]
  unfold out0_1
  canon_tiles z h
  all_goals
    unfold_payloads
    pointwise [total]
    rw [Fin.sum_univ_eight]
    blk_point [iblk, V, idx t]

end Kernel

section Reference

open Cert.DevSumRefIdeal Cert.DevSumRefIdeal.Read

variable (p : FVec Ideal S8x1664x128 .f32)

theorem ref_total : (val_main_v0 (F := Ideal) p : S1664x128.Idx → EReal) = total p := by
  funext i
  idx_vars i
  simp only [val_main_v0]
  pointwise [val_main_cst, total]

end Reference

/-- Kernel and reference leave the same array. -/
theorem algebraic : Cert.algebraic_DevSumIdeal_DevSumRefIdeal := by
  intro m ρ m' ρ' _ hag
  refine ⟨_, Cert.DevSumIdeal.Value.run_blocks m ρ, (θ_run _ _ _).mono (fun r h c => ?_) (Cert.DevSumRefIdeal.Value.run m' ρ')⟩
  obtain ⟨h0, hk⟩ := h c
  obtain a0 := hag c
  refine ⟨h0.trans ?_, hk⟩
  · rw [final1]
    refine (Cert.DevSumRefIdeal.Read.val_main_v0_eq _).trans ?_
    rw [a0]
    exact ref_total _

end Cert.Step.DevSum
end
-- ==== Proof.lean ====
/-
  The certificate: for each call its frames, its idealization and its equality with the derivative of the forward lines.
-/
module

public import proofs.«01_k».proof.Defs
public import proofs.«01_k».proof.Proof.Gen.NormMem
public import proofs.«01_k».proof.Proof.Gen.NormMem.Skeleton
public import proofs.«01_k».proof.Proof.Gen.NormMem.Launch
public import proofs.«01_k».proof.Proof.Gen.NormMem.Points
public import proofs.«01_k».proof.Proof.Gen.NormMem.Frame
public import proofs.«01_k».proof.Proof.Gen.NormMemIdeal
public import proofs.«01_k».proof.Proof.Gen.NormMemIdeal.Skeleton
public import proofs.«01_k».proof.Proof.Gen.NormMemIdeal.Launch
public import proofs.«01_k».proof.Proof.Gen.NormMemIdeal.Points
public import proofs.«01_k».proof.Proof.Gen.NormMemIdeal.Frame
public import proofs.«01_k».proof.Proof.Gen.NormMemRefIdeal
public import proofs.«01_k».proof.Proof.Gen.Pre_norm_mem_finite
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.Pre_attn_bwd_finite
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxRefIdeal
public import proofs.«01_k».proof.Proof.Gen.Pre_ffn_dx_finite
public import proofs.«01_k».proof.Proof.Gen.FfnDxIdeal.Value
public import proofs.«01_k».proof.Proof.Gen.FfnDxRefIdeal.Run
public import proofs.«01_k».proof.Proof.Gen.FfnDxRefIdeal.Read
public import proofs.«01_k».proof.Proof.Gen.QDx
public import proofs.«01_k».proof.Proof.Gen.QDx.Skeleton
public import proofs.«01_k».proof.Proof.Gen.QDx.Launch
public import proofs.«01_k».proof.Proof.Gen.QDx.Points
public import proofs.«01_k».proof.Proof.Gen.QDx.Frame
public import proofs.«01_k».proof.Proof.Gen.QDxIdeal
public import proofs.«01_k».proof.Proof.Gen.QDxIdeal.Skeleton
public import proofs.«01_k».proof.Proof.Gen.QDxIdeal.Launch
public import proofs.«01_k».proof.Proof.Gen.QDxIdeal.Points
public import proofs.«01_k».proof.Proof.Gen.QDxIdeal.Frame
public import proofs.«01_k».proof.Proof.Gen.QDxRefIdeal
public import proofs.«01_k».proof.Proof.Gen.Pre_q_dx_finite
public import proofs.«01_k».proof.Proof.Gen.QDxIdeal.Value
public import proofs.«01_k».proof.Proof.Gen.QDxRefIdeal.Run
public import proofs.«01_k».proof.Proof.Gen.QDxRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.Pre_in_dx_finite
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.FfnHead
public import proofs.«01_k».proof.Proof.Gen.FfnHead.Skeleton
public import proofs.«01_k».proof.Proof.Gen.FfnHead.Launch
public import proofs.«01_k».proof.Proof.Gen.FfnHead.Points
public import proofs.«01_k».proof.Proof.Gen.FfnHead.Frame
public import proofs.«01_k».proof.Proof.Gen.FfnHeadIdeal
public import proofs.«01_k».proof.Proof.Gen.FfnHeadIdeal.Skeleton
public import proofs.«01_k».proof.Proof.Gen.FfnHeadIdeal.Launch
public import proofs.«01_k».proof.Proof.Gen.FfnHeadIdeal.Points
public import proofs.«01_k».proof.Proof.Gen.FfnHeadIdeal.Frame
public import proofs.«01_k».proof.Proof.Gen.FfnHeadRefIdeal
public import proofs.«01_k».proof.Proof.Gen.Pre_ffn_head_finite
public import proofs.«01_k».proof.Proof.Gen.FfnHeadIdeal.Value
public import proofs.«01_k».proof.Proof.Gen.FfnHeadRefIdeal.Run
public import proofs.«01_k».proof.Proof.Gen.FfnHeadRefIdeal.Read
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.BwdAct
public import proofs.«01_k».proof.Proof.Gen.BwdAct.Skeleton
public import proofs.«01_k».proof.Proof.Gen.BwdAct.Launch
public import proofs.«01_k».proof.Proof.Gen.BwdAct.Points
public import proofs.«01_k».proof.Proof.Gen.BwdAct.Frame
public import proofs.«01_k».proof.Proof.Gen.BwdActIdeal
public import proofs.«01_k».proof.Proof.Gen.BwdActIdeal.Skeleton
public import proofs.«01_k».proof.Proof.Gen.BwdActIdeal.Launch
public import proofs.«01_k».proof.Proof.Gen.BwdActIdeal.Points
public import proofs.«01_k».proof.Proof.Gen.BwdActIdeal.Frame
public import proofs.«01_k».proof.Proof.Gen.BwdActRefIdeal
public import proofs.«01_k».proof.Proof.Gen.Pre_bwd_act_finite
public import proofs.«01_k».proof.Proof.Gen.BwdActRefIdeal.Run
public import proofs.«01_k».proof.Proof.Gen.BwdActRefIdeal.Read
public import proofs.«01_k».proof.Proof.Gen.MixerDx
public import proofs.«01_k».proof.Proof.Gen.MixerDx.Skeleton
public import proofs.«01_k».proof.Proof.Gen.MixerDx.Launch
public import proofs.«01_k».proof.Proof.Gen.MixerDx.Points
public import proofs.«01_k».proof.Proof.Gen.MixerDx.Frame
public import proofs.«01_k».proof.Proof.Gen.MixerDxIdeal
public import proofs.«01_k».proof.Proof.Gen.MixerDxIdeal.Skeleton
public import proofs.«01_k».proof.Proof.Gen.MixerDxIdeal.Launch
public import proofs.«01_k».proof.Proof.Gen.MixerDxIdeal.Points
public import proofs.«01_k».proof.Proof.Gen.MixerDxIdeal.Frame
public import proofs.«01_k».proof.Proof.Gen.MixerDxRefIdeal
public import proofs.«01_k».proof.Proof.Gen.Pre_mixer_dx_finite
public import proofs.«01_k».proof.Proof.Gen.MixerDxIdeal.Value
public import proofs.«01_k».proof.Proof.Gen.MixerDxRefIdeal.Skeleton
public import proofs.«01_k».proof.Proof.Gen.MixerDxRefIdeal.Launch
public import proofs.«01_k».proof.Proof.Gen.MixerDxRefIdeal.Points
public import proofs.«01_k».proof.Proof.Gen.MixerDxRefIdeal.Frame
public import proofs.«01_k».proof.Proof.Gen.MixerDxRefIdeal.Value
public import proofs.«01_k».proof.Proof.Gen.SsmDs
public import proofs.«01_k».proof.Proof.Gen.SsmDs.Skeleton
public import proofs.«01_k».proof.Proof.Gen.SsmDs.Launch
public import proofs.«01_k».proof.Proof.Gen.SsmDs.Points
public import proofs.«01_k».proof.Proof.Gen.SsmDs.Frame
public import proofs.«01_k».proof.Proof.Gen.SsmDsIdeal
public import proofs.«01_k».proof.Proof.Gen.SsmDsIdeal.Skeleton
public import proofs.«01_k».proof.Proof.Gen.SsmDsIdeal.Launch
public import proofs.«01_k».proof.Proof.Gen.SsmDsIdeal.Points
public import proofs.«01_k».proof.Proof.Gen.SsmDsIdeal.Frame
public import proofs.«01_k».proof.Proof.Gen.SsmDsRefIdeal
public import proofs.«01_k».proof.Proof.Gen.SsmDsIdeal.Value
public import proofs.«01_k».proof.Proof.Gen.SsmDsRefIdeal.Run
public import proofs.«01_k».proof.Proof.Gen.SsmDsRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdRefIdeal
public import proofs.«01_k».proof.Proof.Gen.Pre_pool_bwd_finite
public import proofs.«01_k».proof.Proof.Gen.PoolBwdRefIdeal.Run
public import proofs.«01_k».proof.Proof.Gen.PoolBwdRefIdeal.Read
public import proofs.«01_k».proof.Proof.Gen.PrepBwd
public import proofs.«01_k».proof.Proof.Gen.PrepBwd.Skeleton
public import proofs.«01_k».proof.Proof.Gen.PrepBwd.Launch
public import proofs.«01_k».proof.Proof.Gen.PrepBwd.Points
public import proofs.«01_k».proof.Proof.Gen.PrepBwd.Frame
public import proofs.«01_k».proof.Proof.Gen.PrepBwdIdeal
public import proofs.«01_k».proof.Proof.Gen.PrepBwdIdeal.Skeleton
public import proofs.«01_k».proof.Proof.Gen.PrepBwdIdeal.Launch
public import proofs.«01_k».proof.Proof.Gen.PrepBwdIdeal.Points
public import proofs.«01_k».proof.Proof.Gen.PrepBwdIdeal.Frame
public import proofs.«01_k».proof.Proof.Gen.PrepBwdRefIdeal
public import proofs.«01_k».proof.Proof.Gen.Pre_prep_bwd_finite
public import proofs.«01_k».proof.Proof.Gen.PrepBwdRefIdeal.Run
public import proofs.«01_k».proof.Proof.Gen.PrepBwdRefIdeal.Read
public import proofs.«01_k».proof.Proof.Gen.RmsNorm
public import proofs.«01_k».proof.Proof.Gen.RmsNorm.Skeleton
public import proofs.«01_k».proof.Proof.Gen.RmsNorm.Launch
public import proofs.«01_k».proof.Proof.Gen.RmsNorm.Points
public import proofs.«01_k».proof.Proof.Gen.RmsNorm.Frame
public import proofs.«01_k».proof.Proof.Gen.RmsNormIdeal
public import proofs.«01_k».proof.Proof.Gen.RmsNormIdeal.Skeleton
public import proofs.«01_k».proof.Proof.Gen.RmsNormIdeal.Launch
public import proofs.«01_k».proof.Proof.Gen.RmsNormIdeal.Points
public import proofs.«01_k».proof.Proof.Gen.RmsNormIdeal.Frame
public import proofs.«01_k».proof.Proof.Gen.RmsNormRefIdeal
public import proofs.«01_k».proof.Proof.Gen.RmsNormIdeal.Value
public import proofs.«01_k».proof.Proof.Gen.RmsNormRefIdeal.Run
public import proofs.«01_k».proof.Proof.Gen.RmsNormRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineIdeal.Value
public import proofs.«01_k».proof.Proof.Gen.CombineRefIdeal.Run
public import proofs.«01_k».proof.Proof.Gen.CombineRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.Pre_ffn_up_finite
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.ScanBwd
public import proofs.«01_k».proof.Proof.Gen.ScanBwd.Skeleton
public import proofs.«01_k».proof.Proof.Gen.ScanBwd.Launch
public import proofs.«01_k».proof.Proof.Gen.ScanBwd.Points
public import proofs.«01_k».proof.Proof.Gen.ScanBwd.Frame
public import proofs.«01_k».proof.Proof.Gen.ScanBwdIdeal
public import proofs.«01_k».proof.Proof.Gen.ScanBwdIdeal.Skeleton
public import proofs.«01_k».proof.Proof.Gen.ScanBwdIdeal.Launch
public import proofs.«01_k».proof.Proof.Gen.ScanBwdIdeal.Points
public import proofs.«01_k».proof.Proof.Gen.ScanBwdIdeal.Frame
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.ResidNorm
public import proofs.«01_k».proof.Proof.Gen.ResidNorm.Skeleton
public import proofs.«01_k».proof.Proof.Gen.ResidNorm.Launch
public import proofs.«01_k».proof.Proof.Gen.ResidNorm.Points
public import proofs.«01_k».proof.Proof.Gen.ResidNorm.Frame
public import proofs.«01_k».proof.Proof.Gen.ResidNormIdeal
public import proofs.«01_k».proof.Proof.Gen.ResidNormIdeal.Skeleton
public import proofs.«01_k».proof.Proof.Gen.ResidNormIdeal.Launch
public import proofs.«01_k».proof.Proof.Gen.ResidNormIdeal.Points
public import proofs.«01_k».proof.Proof.Gen.ResidNormIdeal.Frame
public import proofs.«01_k».proof.Proof.Gen.ResidNormRefIdeal
public import proofs.«01_k».proof.Proof.Gen.ResidNormIdeal.Value
public import proofs.«01_k».proof.Proof.Gen.ResidNormRefIdeal.Run
public import proofs.«01_k».proof.Proof.Gen.ResidNormRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.SsmPrep
public import proofs.«01_k».proof.Proof.Gen.SsmPrep.Skeleton
public import proofs.«01_k».proof.Proof.Gen.SsmPrep.Launch
public import proofs.«01_k».proof.Proof.Gen.SsmPrep.Points
public import proofs.«01_k».proof.Proof.Gen.SsmPrep.Frame
public import proofs.«01_k».proof.Proof.Gen.SsmPrepIdeal
public import proofs.«01_k».proof.Proof.Gen.SsmPrepIdeal.Skeleton
public import proofs.«01_k».proof.Proof.Gen.SsmPrepIdeal.Launch
public import proofs.«01_k».proof.Proof.Gen.SsmPrepIdeal.Points
public import proofs.«01_k».proof.Proof.Gen.SsmPrepIdeal.Frame
public import proofs.«01_k».proof.Proof.Gen.SsmPrepRefIdeal
public import proofs.«01_k».proof.Proof.Gen.SsmPrepIdeal.Value
public import proofs.«01_k».proof.Proof.Gen.SsmPrepRefIdeal.Run
public import proofs.«01_k».proof.Proof.Gen.SsmPrepRefIdeal.Read
public import proofs.«01_k».proof.Proof.Gen.PlainMm
public import proofs.«01_k».proof.Proof.Gen.PlainMm.Skeleton
public import proofs.«01_k».proof.Proof.Gen.PlainMm.Launch
public import proofs.«01_k».proof.Proof.Gen.PlainMm.Points
public import proofs.«01_k».proof.Proof.Gen.PlainMm.Frame
public import proofs.«01_k».proof.Proof.Gen.PlainMmIdeal
public import proofs.«01_k».proof.Proof.Gen.PlainMmIdeal.Skeleton
public import proofs.«01_k».proof.Proof.Gen.PlainMmIdeal.Launch
public import proofs.«01_k».proof.Proof.Gen.PlainMmIdeal.Points
public import proofs.«01_k».proof.Proof.Gen.PlainMmIdeal.Frame
public import proofs.«01_k».proof.Proof.Gen.PlainMmRefIdeal
public import proofs.«01_k».proof.Proof.Gen.PlainMmIdeal.Value
public import proofs.«01_k».proof.Proof.Gen.PlainMmRefIdeal.Run
public import proofs.«01_k».proof.Proof.Gen.PlainMmRefIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.DwMm
public import proofs.«01_k».proof.Proof.Gen.DwMm.Skeleton
public import proofs.«01_k».proof.Proof.Gen.DwMm.Launch
public import proofs.«01_k».proof.Proof.Gen.DwMm.Points
public import proofs.«01_k».proof.Proof.Gen.DwMm.Frame
public import proofs.«01_k».proof.Proof.Gen.DwMmIdeal
public import proofs.«01_k».proof.Proof.Gen.DwMmIdeal.Skeleton
public import proofs.«01_k».proof.Proof.Gen.DwMmIdeal.Launch
public import proofs.«01_k».proof.Proof.Gen.DwMmIdeal.Points
public import proofs.«01_k».proof.Proof.Gen.DwMmIdeal.Frame
public import proofs.«01_k».proof.Proof.Gen.DwMmRefIdeal
public import proofs.«01_k».proof.Proof.Gen.DwMmIdeal.Value
public import proofs.«01_k».proof.Proof.Gen.DwMmRefIdeal.Run
public import proofs.«01_k».proof.Proof.Gen.DwMmRefIdeal.Read
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWRefIdeal
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Gen.DevSum
public import proofs.«01_k».proof.Proof.Gen.DevSum.Skeleton
public import proofs.«01_k».proof.Proof.Gen.DevSum.Launch
public import proofs.«01_k».proof.Proof.Gen.DevSum.Points
public import proofs.«01_k».proof.Proof.Gen.DevSum.Frame
public import proofs.«01_k».proof.Proof.Gen.DevSumIdeal
public import proofs.«01_k».proof.Proof.Gen.DevSumIdeal.Skeleton
public import proofs.«01_k».proof.Proof.Gen.DevSumIdeal.Launch
public import proofs.«01_k».proof.Proof.Gen.DevSumIdeal.Points
public import proofs.«01_k».proof.Proof.Gen.DevSumIdeal.Frame
public import proofs.«01_k».proof.Proof.Gen.DevSumRefIdeal
public import proofs.«01_k».proof.Proof.Gen.DevSumIdeal.Value
public import proofs.«01_k».proof.Proof.Gen.DevSumRefIdeal.Run
public import proofs.«01_k».proof.Proof.Gen.DevSumRefIdeal.Read
public import proofs.«01_k».proof.Proof.Step.NormMem
public import proofs.«01_k».proof.Proof.Step.AttnBwd
public import proofs.«01_k».proof.Proof.Step.FfnDx
public import proofs.«01_k».proof.Proof.Step.QDx
public import proofs.«01_k».proof.Proof.Step.InDx
public import proofs.«01_k».proof.Proof.Step.FfnHead
public import proofs.«01_k».proof.Proof.Step.MergeBwd
public import proofs.«01_k».proof.Proof.Step.BwdAct
public import proofs.«01_k».proof.Proof.Step.MixerDx
public import proofs.«01_k».proof.Proof.Step.SsmDs
public import proofs.«01_k».proof.Proof.Step.AttnFwd
public import proofs.«01_k».proof.Proof.Step.PoolBwd
public import proofs.«01_k».proof.Proof.Step.PrepBwd
public import proofs.«01_k».proof.Proof.Step.RmsNorm
public import proofs.«01_k».proof.Proof.Step.Combine
public import proofs.«01_k».proof.Proof.Step.Merge
public import proofs.«01_k».proof.Proof.Step.FfnUp
public import proofs.«01_k».proof.Proof.Step.ResidNorm
public import proofs.«01_k».proof.Proof.Step.FfnDown
public import proofs.«01_k».proof.Proof.Step.SsmPrep
public import proofs.«01_k».proof.Proof.Step.PlainMm
public import proofs.«01_k».proof.Proof.Step.MixIn
public import proofs.«01_k».proof.Proof.Step.DwMm
public import proofs.«01_k».proof.Proof.Step.AdamW
public import proofs.«01_k».proof.Proof.Step.DevSum
public import Idealize.ShloMosaic.Adequacy
public import Idealize.ShloMosaic.Init
public import Idealize.ShloMosaic.Lib.Quiescent

@[expose] public section

noncomputable section

namespace Cert.Proof

open Idealize.ShloMosaic Idealize.SL.Sem

/-- The reference `NormMemRef` ends with its arguments unchanged; it has no semaphore. -/
theorem frame_NormMemRefIdeal : Cert.quiescent_NormMemRefIdeal := fun m ρ _ =>
  (θ_run Cert.NormMemRefIdeal.defs _ _).mono (fun r h => ⟨fun c => (h c).2.2.2, sem_eq_zero_of_no_sems (by decide) r.2⟩)
    (Cert.NormMemRefIdeal.Value.run (F := Ideal) m ρ)

/-- The reference `AttnBwdRef` ends with its arguments unchanged; it has no semaphore. -/
theorem frame_AttnBwdRefIdeal : Cert.quiescent_AttnBwdRefIdeal := fun m ρ _ =>
  (θ_run Cert.AttnBwdRefIdeal.defs _ _).mono (fun r h => ⟨fun c => (h c).2.2, sem_eq_zero_of_no_sems (by decide) r.2⟩)
    (Cert.AttnBwdRefIdeal.Value.run (F := Ideal) m ρ)

/-- The reference `FfnDxRef` ends with its arguments unchanged; it has no semaphore. -/
theorem frame_FfnDxRefIdeal : Cert.quiescent_FfnDxRefIdeal := fun m ρ _ =>
  (θ_run Cert.FfnDxRefIdeal.defs _ _).mono (fun r h => ⟨fun c => (h c).2.2.2, sem_eq_zero_of_no_sems (by decide) r.2⟩)
    (Cert.FfnDxRefIdeal.Value.run (F := Ideal) m ρ)

/-- The reference `QDxRef` ends with its arguments unchanged; it has no semaphore. -/
theorem frame_QDxRefIdeal : Cert.quiescent_QDxRefIdeal := fun m ρ _ =>
  (θ_run Cert.QDxRefIdeal.defs _ _).mono (fun r h => ⟨fun c => (h c).2.2.2, sem_eq_zero_of_no_sems (by decide) r.2⟩)
    (Cert.QDxRefIdeal.Value.run (F := Ideal) m ρ)

/-- The reference `InDxRef` ends with its arguments unchanged; it has no semaphore. -/
theorem frame_InDxRefIdeal : Cert.quiescent_InDxRefIdeal := fun m ρ _ =>
  (θ_run Cert.InDxRefIdeal.defs _ _).mono (fun r h => ⟨fun c => (h c).2.2.2, sem_eq_zero_of_no_sems (by decide) r.2⟩)
    (Cert.InDxRefIdeal.Value.run (F := Ideal) m ρ)

/-- The reference `FfnHeadRef` ends with its arguments unchanged; it has no semaphore. -/
theorem frame_FfnHeadRefIdeal : Cert.quiescent_FfnHeadRefIdeal := fun m ρ _ =>
  (θ_run Cert.FfnHeadRefIdeal.defs _ _).mono (fun r h => ⟨fun c => (h c).2.2.2.2, sem_eq_zero_of_no_sems (by decide) r.2⟩)
    (Cert.FfnHeadRefIdeal.Value.run (F := Ideal) m ρ)

/-- The reference `MergeBwdRef` ends with its arguments unchanged; it has no semaphore. -/
theorem frame_MergeBwdRefIdeal : Cert.quiescent_MergeBwdRefIdeal := fun m ρ _ =>
  (θ_run Cert.MergeBwdRefIdeal.defs _ _).mono (fun r h => ⟨fun c => (h c).2.2.2.2.2, sem_eq_zero_of_no_sems (by decide) r.2⟩)
    (Cert.MergeBwdRefIdeal.Value.run (F := Ideal) m ρ)

/-- The reference `BwdActRef` ends with its arguments unchanged; it has no semaphore. -/
theorem frame_BwdActRefIdeal : Cert.quiescent_BwdActRefIdeal := fun m ρ _ =>
  (θ_run Cert.BwdActRefIdeal.defs _ _).mono (fun r h => ⟨fun c => (h c).2.2, sem_eq_zero_of_no_sems (by decide) r.2⟩)
    (Cert.BwdActRefIdeal.Value.run (F := Ideal) m ρ)

/-- The reference `SsmDsRef` ends with its arguments unchanged; it has no semaphore. -/
theorem frame_SsmDsRefIdeal : Cert.quiescent_SsmDsRefIdeal := fun m ρ _ =>
  (θ_run Cert.SsmDsRefIdeal.defs _ _).mono (fun r h => ⟨fun c => (h c).2.2, sem_eq_zero_of_no_sems (by decide) r.2⟩)
    (Cert.SsmDsRefIdeal.Value.run (F := Ideal) m ρ)

/-- The reference `AttnFwdRef` ends with its arguments unchanged; it has no semaphore. -/
theorem frame_AttnFwdRefIdeal : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- The reference `PoolBwdRef` ends with its arguments unchanged; it has no semaphore. -/
theorem frame_PoolBwdRefIdeal : Cert.quiescent_PoolBwdRefIdeal := fun m ρ _ =>
  (θ_run Cert.PoolBwdRefIdeal.defs _ _).mono (fun r h => ⟨fun c => (h c).2.2.2, sem_eq_zero_of_no_sems (by decide) r.2⟩)
    (Cert.PoolBwdRefIdeal.Value.run (F := Ideal) m ρ)

/-- The reference `PrepBwdRef` ends with its arguments unchanged; it has no semaphore. -/
theorem frame_PrepBwdRefIdeal : Cert.quiescent_PrepBwdRefIdeal := fun m ρ _ =>
  (θ_run Cert.PrepBwdRefIdeal.defs _ _).mono (fun r h => ⟨fun c => (h c).2.2.2.2.2.2.2, sem_eq_zero_of_no_sems (by decide) r.2⟩)
    (Cert.PrepBwdRefIdeal.Value.run (F := Ideal) m ρ)

/-- The reference `RmsNormRef` ends with its arguments unchanged; it has no semaphore. -/
theorem frame_RmsNormRefIdeal : Cert.quiescent_RmsNormRefIdeal := fun m ρ _ =>
  (θ_run Cert.RmsNormRefIdeal.defs _ _).mono (fun r h => ⟨fun c => (h c).2, sem_eq_zero_of_no_sems (by decide) r.2⟩)
    (Cert.RmsNormRefIdeal.Value.run (F := Ideal) m ρ)

/-- The reference `CombineRef` ends with its arguments unchanged; it has no semaphore. -/
theorem frame_CombineRefIdeal : Cert.quiescent_CombineRefIdeal := fun m ρ _ =>
  (θ_run Cert.CombineRefIdeal.defs _ _).mono (fun r h => ⟨fun c => (h c).2.2, sem_eq_zero_of_no_sems (by decide) r.2⟩)
    (Cert.CombineRefIdeal.Value.run (F := Ideal) m ρ)

/-- The reference `MergeRef` ends with its arguments unchanged; it has no semaphore. -/
theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference `FfnUpRef` ends with its arguments unchanged; it has no semaphore. -/
theorem frame_FfnUpRefIdeal : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The reference `ResidNormRef` ends with its arguments unchanged; it has no semaphore. -/
theorem frame_ResidNormRefIdeal : Cert.quiescent_ResidNormRefIdeal := fun m ρ _ =>
  (θ_run Cert.ResidNormRefIdeal.defs _ _).mono (fun r h => ⟨fun c => (h c).2.2, sem_eq_zero_of_no_sems (by decide) r.2⟩)
    (Cert.ResidNormRefIdeal.Value.run (F := Ideal) m ρ)

/-- The reference `FfnDownRef` ends with its arguments unchanged; it has no semaphore. -/
theorem frame_FfnDownRefIdeal : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

/-- The reference `SsmPrepRef` ends with its arguments unchanged; it has no semaphore. -/
theorem frame_SsmPrepRefIdeal : Cert.quiescent_SsmPrepRefIdeal := fun m ρ _ =>
  (θ_run Cert.SsmPrepRefIdeal.defs _ _).mono (fun r h => ⟨fun c => (h c).2.2.2.2.2.2, sem_eq_zero_of_no_sems (by decide) r.2⟩)
    (Cert.SsmPrepRefIdeal.Value.run (F := Ideal) m ρ)

/-- The reference `PlainMmRef` ends with its arguments unchanged; it has no semaphore. -/
theorem frame_PlainMmRefIdeal : Cert.quiescent_PlainMmRefIdeal := fun m ρ _ =>
  (θ_run Cert.PlainMmRefIdeal.defs _ _).mono (fun r h => ⟨fun c => (h c).2, sem_eq_zero_of_no_sems (by decide) r.2⟩)
    (Cert.PlainMmRefIdeal.Value.run (F := Ideal) m ρ)

/-- The reference `MixInRef` ends with its arguments unchanged; it has no semaphore. -/
theorem frame_MixInRefIdeal : Cert.quiescent_MixInRefIdeal := fun m ρ _ =>
  (θ_run Cert.MixInRefIdeal.defs _ _).mono (fun r h => ⟨fun c => (h c).2.2, sem_eq_zero_of_no_sems (by decide) r.2⟩)
    (Cert.MixInRefIdeal.Value.run (F := Ideal) m ρ)

/-- The reference `DwMmRef` ends with its arguments unchanged; it has no semaphore. -/
theorem frame_DwMmRefIdeal : Cert.quiescent_DwMmRefIdeal := fun m ρ _ =>
  (θ_run Cert.DwMmRefIdeal.defs _ _).mono (fun r h => ⟨fun c => (h c).2, sem_eq_zero_of_no_sems (by decide) r.2⟩)
    (Cert.DwMmRefIdeal.Value.run (F := Ideal) m ρ)

/-- The reference `AdamWRef` ends with its arguments unchanged; it has no semaphore. -/
theorem frame_AdamWRefIdeal : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

/-- The reference `DevSumRef` ends with its arguments unchanged; it has no semaphore. -/
theorem frame_DevSumRefIdeal : Cert.quiescent_DevSumRefIdeal := fun m ρ _ =>
  (θ_run Cert.DevSumRefIdeal.defs _ _).mono (fun r h => ⟨fun c => (h c).2, sem_eq_zero_of_no_sems (by decide) r.2⟩)
    (Cert.DevSumRefIdeal.Value.run (F := Ideal) m ρ)

/-- Every claim. -/
theorem claim : Cert.Claim := ⟨Cert.NormMem.Gen.facts, Cert.NormMemIdeal.Gen.facts, Cert.NormMemRefIdeal.Gen.facts, Cert.AttnBwd.Gen.facts, Cert.AttnBwdIdeal.Gen.facts, Cert.AttnBwdRefIdeal.Gen.facts, Cert.FfnDx.Gen.facts, Cert.FfnDxIdeal.Gen.facts, Cert.FfnDxRefIdeal.Gen.facts, Cert.QDx.Gen.facts, Cert.QDxIdeal.Gen.facts, Cert.QDxRefIdeal.Gen.facts, Cert.InDx.Gen.facts, Cert.InDxIdeal.Gen.facts, Cert.InDxRefIdeal.Gen.facts, Cert.FfnHead.Gen.facts, Cert.FfnHeadIdeal.Gen.facts, Cert.FfnHeadRefIdeal.Gen.facts, Cert.MergeBwd.Gen.facts, Cert.MergeBwdIdeal.Gen.facts, Cert.MergeBwdRefIdeal.Gen.facts, Cert.BwdAct.Gen.facts, Cert.BwdActIdeal.Gen.facts, Cert.BwdActRefIdeal.Gen.facts, Cert.MixerDx.Gen.facts, Cert.MixerDxIdeal.Gen.facts, Cert.MixerDxRefIdeal.Gen.facts, Cert.SsmDs.Gen.facts, Cert.SsmDsIdeal.Gen.facts, Cert.SsmDsRefIdeal.Gen.facts, Cert.AttnFwd.Gen.facts, Cert.AttnFwdIdeal.Gen.facts, Cert.AttnFwdRefIdeal.Gen.facts, Cert.PoolBwd.Gen.facts, Cert.PoolBwdIdeal.Gen.facts, Cert.PoolBwdRefIdeal.Gen.facts, Cert.PrepBwd.Gen.facts, Cert.PrepBwdIdeal.Gen.facts, Cert.PrepBwdRefIdeal.Gen.facts, Cert.RmsNorm.Gen.facts, Cert.RmsNormIdeal.Gen.facts, Cert.RmsNormRefIdeal.Gen.facts, Cert.Combine.Gen.facts, Cert.CombineIdeal.Gen.facts, Cert.CombineRefIdeal.Gen.facts, Cert.Merge.Gen.facts, Cert.MergeIdeal.Gen.facts, Cert.MergeRefIdeal.Gen.facts, Cert.FfnUp.Gen.facts, Cert.FfnUpIdeal.Gen.facts, Cert.FfnUpRefIdeal.Gen.facts, Cert.ScanBwd.Gen.facts, Cert.ScanBwdIdeal.Gen.facts, Cert.PoolFwd.Gen.facts, Cert.PoolFwdIdeal.Gen.facts, Cert.ResidNorm.Gen.facts, Cert.ResidNormIdeal.Gen.facts, Cert.ResidNormRefIdeal.Gen.facts, Cert.FfnDown.Gen.facts, Cert.FfnDownIdeal.Gen.facts, Cert.FfnDownRefIdeal.Gen.facts, Cert.SsmPrep.Gen.facts, Cert.SsmPrepIdeal.Gen.facts, Cert.SsmPrepRefIdeal.Gen.facts, Cert.PlainMm.Gen.facts, Cert.PlainMmIdeal.Gen.facts, Cert.PlainMmRefIdeal.Gen.facts, Cert.MixIn.Gen.facts, Cert.MixInIdeal.Gen.facts, Cert.MixInRefIdeal.Gen.facts, Cert.DwMm.Gen.facts, Cert.DwMmIdeal.Gen.facts, Cert.DwMmRefIdeal.Gen.facts, Cert.AdamW.Gen.facts, Cert.AdamWIdeal.Gen.facts, Cert.AdamWRefIdeal.Gen.facts, Cert.DevSum.Gen.facts, Cert.DevSumIdeal.Gen.facts, Cert.DevSumRefIdeal.Gen.facts, Cert.Pre_norm_mem_finite.Gen.facts, Cert.Pre_attn_bwd_finite.Gen.facts, Cert.Pre_ffn_dx_finite.Gen.facts, Cert.Pre_q_dx_finite.Gen.facts, Cert.Pre_in_dx_finite.Gen.facts, Cert.Pre_ffn_head_finite.Gen.facts, Cert.Pre_bwd_act_finite.Gen.facts, Cert.Pre_mixer_dx_finite.Gen.facts, Cert.Pre_pool_bwd_finite.Gen.facts, Cert.Pre_prep_bwd_finite.Gen.facts, Cert.Pre_ffn_up_finite.Gen.facts,
  fun m ρ _ => Cert.NormMem.Gen.frame m ρ,
  fun m ρ _ => Cert.NormMemIdeal.Gen.frame m ρ,
  fun m ρ _ => Cert.NormMemIdeal.Gen.frame m ρ,
  frame_NormMemRefIdeal,
  fun m ρ _ => frame_NormMemRefIdeal m ρ trivial,
  fun m ρ _ => Cert.AttnBwd.Gen.frame m ρ,
  fun m ρ _ => Cert.AttnBwdIdeal.Gen.frame m ρ,
  fun m ρ _ => Cert.AttnBwdIdeal.Gen.frame m ρ,
  frame_AttnBwdRefIdeal,
  fun m ρ _ => frame_AttnBwdRefIdeal m ρ trivial,
  fun m ρ _ => Cert.FfnDx.Gen.frame m ρ,
  fun m ρ _ => Cert.FfnDxIdeal.Gen.frame m ρ,
  fun m ρ _ => Cert.FfnDxIdeal.Gen.frame m ρ,
  frame_FfnDxRefIdeal,
  fun m ρ _ => frame_FfnDxRefIdeal m ρ trivial,
  fun m ρ _ => Cert.QDx.Gen.frame m ρ,
  fun m ρ _ => Cert.QDxIdeal.Gen.frame m ρ,
  fun m ρ _ => Cert.QDxIdeal.Gen.frame m ρ,
  frame_QDxRefIdeal,
  fun m ρ _ => frame_QDxRefIdeal m ρ trivial,
  fun m ρ _ => Cert.InDx.Gen.frame m ρ,
  fun m ρ _ => Cert.InDxIdeal.Gen.frame m ρ,
  fun m ρ _ => Cert.InDxIdeal.Gen.frame m ρ,
  frame_InDxRefIdeal,
  fun m ρ _ => frame_InDxRefIdeal m ρ trivial,
  fun m ρ _ => Cert.FfnHead.Gen.frame m ρ,
  fun m ρ _ => Cert.FfnHeadIdeal.Gen.frame m ρ,
  fun m ρ _ => Cert.FfnHeadIdeal.Gen.frame m ρ,
  frame_FfnHeadRefIdeal,
  fun m ρ _ => frame_FfnHeadRefIdeal m ρ trivial,
  fun m ρ _ => Cert.MergeBwd.Gen.frame m ρ,
  fun m ρ _ => Cert.MergeBwdIdeal.Gen.frame m ρ,
  frame_MergeBwdRefIdeal,
  fun m ρ _ => Cert.BwdAct.Gen.frame m ρ,
  fun m ρ _ => Cert.BwdActIdeal.Gen.frame m ρ,
  fun m ρ _ => Cert.BwdActIdeal.Gen.frame m ρ,
  frame_BwdActRefIdeal,
  fun m ρ _ => frame_BwdActRefIdeal m ρ trivial,
  fun m ρ _ => Cert.MixerDx.Gen.frame m ρ,
  fun m ρ _ => Cert.MixerDxIdeal.Gen.frame m ρ,
  fun m ρ _ => Cert.MixerDxIdeal.Gen.frame m ρ,
  fun m ρ _ => Cert.MixerDxRefIdeal.Gen.frame m ρ,
  fun m ρ _ => Cert.MixerDxRefIdeal.Gen.frame m ρ,
  fun m ρ _ => Cert.SsmDs.Gen.frame m ρ,
  fun m ρ _ => Cert.SsmDsIdeal.Gen.frame m ρ,
  frame_SsmDsRefIdeal,
  fun m ρ _ => Cert.AttnFwd.Gen.frame m ρ,
  fun m ρ _ => Cert.AttnFwdIdeal.Gen.frame m ρ,
  frame_AttnFwdRefIdeal,
  Cert.Step.PoolBwd.frame_kernel,
  fun m ρ _ => Cert.Step.PoolBwd.frame m ρ,
  fun m ρ _ => Cert.Step.PoolBwd.frame m ρ,
  frame_PoolBwdRefIdeal,
  fun m ρ _ => frame_PoolBwdRefIdeal m ρ trivial,
  fun m ρ _ => Cert.PrepBwd.Gen.frame m ρ,
  fun m ρ _ => Cert.PrepBwdIdeal.Gen.frame m ρ,
  fun m ρ _ => Cert.PrepBwdIdeal.Gen.frame m ρ,
  frame_PrepBwdRefIdeal,
  fun m ρ _ => frame_PrepBwdRefIdeal m ρ trivial,
  fun m ρ _ => Cert.RmsNorm.Gen.frame m ρ,
  fun m ρ _ => Cert.RmsNormIdeal.Gen.frame m ρ,
  frame_RmsNormRefIdeal,
  fun m ρ _ => Cert.Combine.Gen.frame m ρ,
  fun m ρ _ => Cert.CombineIdeal.Gen.frame m ρ,
  frame_CombineRefIdeal,
  fun m ρ _ => Cert.Merge.Gen.frame m ρ,
  fun m ρ _ => Cert.MergeIdeal.Gen.frame m ρ,
  frame_MergeRefIdeal,
  fun m ρ _ => Cert.FfnUp.Gen.frame m ρ,
  fun m ρ _ => Cert.FfnUpIdeal.Gen.frame m ρ,
  fun m ρ _ => Cert.FfnUpIdeal.Gen.frame m ρ,
  frame_FfnUpRefIdeal,
  fun m ρ _ => frame_FfnUpRefIdeal m ρ trivial,
  fun m ρ _ => Cert.ScanBwd.Gen.frame m ρ,
  fun m ρ _ => Cert.ScanBwdIdeal.Gen.frame m ρ,
  fun m ρ _ => Cert.PoolFwd.Gen.frame m ρ,
  fun m ρ _ => Cert.PoolFwdIdeal.Gen.frame m ρ,
  fun m ρ _ => Cert.ResidNorm.Gen.frame m ρ,
  fun m ρ _ => Cert.ResidNormIdeal.Gen.frame m ρ,
  frame_ResidNormRefIdeal,
  fun m ρ _ => Cert.FfnDown.Gen.frame m ρ,
  fun m ρ _ => Cert.FfnDownIdeal.Gen.frame m ρ,
  frame_FfnDownRefIdeal,
  fun m ρ _ => Cert.SsmPrep.Gen.frame m ρ,
  fun m ρ _ => Cert.SsmPrepIdeal.Gen.frame m ρ,
  frame_SsmPrepRefIdeal,
  fun m ρ _ => Cert.PlainMm.Gen.frame m ρ,
  fun m ρ _ => Cert.PlainMmIdeal.Gen.frame m ρ,
  frame_PlainMmRefIdeal,
  fun m ρ _ => Cert.MixIn.Gen.frame m ρ,
  fun m ρ _ => Cert.MixInIdeal.Gen.frame m ρ,
  frame_MixInRefIdeal,
  fun m ρ _ => Cert.DwMm.Gen.frame m ρ,
  fun m ρ _ => Cert.DwMmIdeal.Gen.frame m ρ,
  frame_DwMmRefIdeal,
  fun m ρ _ => Cert.AdamW.Gen.frame m ρ,
  fun m ρ _ => Cert.AdamWIdeal.Gen.frame m ρ,
  frame_AdamWRefIdeal,
  fun m ρ _ => Cert.DevSum.Gen.frame m ρ,
  fun m ρ _ => Cert.DevSumIdeal.Gen.frame m ρ,
  frame_DevSumRefIdeal,
  trivial,
  Cert.Step.NormMem.algebraic,
  trivial,
  Cert.Step.AttnBwd.algebraic,
  trivial,
  Cert.Step.FfnDx.algebraic,
  trivial,
  Cert.Step.QDx.algebraic,
  trivial,
  Cert.Step.InDx.algebraic,
  trivial,
  Cert.Step.FfnHead.algebraic,
  trivial,
  Cert.Step.MergeBwd.algebraic,
  trivial,
  Cert.Step.BwdAct.algebraic,
  Cert.Step.MixerDx.preserves,
  Cert.Step.MixerDx.algebraic,
  trivial,
  Cert.Step.SsmDs.algebraic,
  trivial,
  Cert.Step.AttnFwd.algebraic,
  trivial,
  Cert.Step.PoolBwd.algebraic,
  trivial,
  Cert.Step.PrepBwd.algebraic,
  trivial,
  Cert.Step.RmsNorm.algebraic,
  trivial,
  Cert.Step.Combine.algebraic,
  trivial,
  Cert.Step.Merge.algebraic,
  trivial,
  Cert.Step.FfnUp.algebraic,
  trivial,
  trivial,
  trivial,
  Cert.Step.ResidNorm.algebraic,
  trivial,
  Cert.Step.FfnDown.algebraic,
  trivial,
  Cert.Step.SsmPrep.algebraic,
  trivial,
  Cert.Step.PlainMm.algebraic,
  trivial,
  Cert.Step.MixIn.algebraic,
  trivial,
  Cert.Step.DwMm.algebraic,
  trivial,
  Cert.Step.AdamW.algebraic,
  trivial,
  Cert.Step.DevSum.algebraic⟩

end Cert.Proof

end
